-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_ln_finite [hPre_ln_finite : Cert.Pre_ln_finite.Facts] (m : (ℓ : Loc Cert.LnIdeal.nD Cert.LnIdeal.τ Cert.LnIdeal.sig) → Buf (Elt Ideal) ℓ) : Prop :=
  ∀ c : Dev Cert.LnIdeal.nD,
    (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).2.2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).2.2.2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).2.2.2.2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).2.2.2.2.2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5)) (m ((c.tc : Thread Cert.LnIdeal.nD Cert.LnIdeal.τ).loc Cert.LnIdeal.main_arg6)) (m ((c.tc : Thread Cert.LnIdeal.nD Cert.LnIdeal.τ).loc Cert.LnIdeal.main_arg7)) (m ((c.tc : Thread Cert.LnIdeal.nD Cert.LnIdeal.τ).loc Cert.LnIdeal.main_arg8))).2.2.2.2.2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_ln_finite [hPre_ln_finite : Cert.Pre_ln_finite.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).2.2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).2.2.2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).2.2.2.2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).2.2.2.2.2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5)) (m ((c.tc : Thread Cert.LnRefIdeal.nD Cert.LnRefIdeal.τ).loc Cert.LnRefIdeal.main_arg6)) (m ((c.tc : Thread Cert.LnRefIdeal.nD Cert.LnRefIdeal.τ).loc Cert.LnRefIdeal.main_arg7)) (m ((c.tc : Thread Cert.LnRefIdeal.nD Cert.LnRefIdeal.τ).loc Cert.LnRefIdeal.main_arg8))).2.2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))).2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))).2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_pin0_finite [hPre_pin0_finite : Cert.Pre_pin0_finite.Facts] (m : (ℓ : Loc Cert.InIdeal.nD Cert.InIdeal.τ Cert.InIdeal.sig) → Buf (Elt Ideal) ℓ) : Prop :=
  ∀ c : Dev Cert.InIdeal.nD,
    (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.2.2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.2.2.2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.2.2.2.2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.2.2.2.2.2.1 = (fun _ => 1#1)
    ∧ (Cert.Pre_pin0_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))).2.2.2.2.2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_pin0_finite [hPre_pin0_finite : Cert.Pre_pin0_finite.Facts] (m : (ℓ : Loc Cert.InRefIdeal.nD Cert.InRefIdeal.τ Cert.InRefIdeal.sig) → Buf (Elt Ideal) ℓ) : Prop :=
  ∀ c : Dev Cert.InRefIdeal.nD,
    (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.2.2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.2.2.2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.2.2.2.2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.2.2.2.2.2.1 = (fun _ => 1#1)
    ∧ (Cert.Pre_pin0_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))).2.2.2.2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attnf_finite [hPre_attnf_finite : Cert.Pre_attnf_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attnf_finite.fn (F := Ideal) (m ((c.tc : Thread Cert.AttnFwdIdeal.nD Cert.AttnFwdIdeal.τ).loc Cert.AttnFwdIdeal.main_arg0))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attnf_finite [hPre_attnf_finite : Cert.Pre_attnf_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attnf_finite.fn (F := Ideal) (m ((c.tc : Thread Cert.AttnFwdRefIdeal.nD Cert.AttnFwdRefIdeal.τ).loc Cert.AttnFwdRefIdeal.main_arg0))) = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_poolf_finite [hPre_poolf_finite : Cert.Pre_poolf_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_poolf_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_poolf_finite [hPre_poolf_finite : Cert.Pre_poolf_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_poolf_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_ModResid (m : (ℓ : Loc Cert.ModResid.nD Cert.ModResid.τ Cert.ModResid.sig) → Buf (Elt Bits) ℓ) : Prop :=
  True

def Pre_ModResidIdeal (m : (ℓ : Loc Cert.ModResidIdeal.nD Cert.ModResidIdeal.τ Cert.ModResidIdeal.sig) → Buf (Elt Ideal) ℓ) : Prop :=
  True

def Pre_ModResidRefIdeal (m : (ℓ : Loc Cert.ModResidRefIdeal.nD Cert.ModResidRefIdeal.τ Cert.ModResidRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_ProjOutBwd (m : (ℓ : Loc Cert.ProjOutBwd.nD Cert.ProjOutBwd.τ Cert.ProjOutBwd.sig) → Buf (Elt Bits) ℓ) : Prop :=
  True

def Pre_ProjOutBwdIdeal (m : (ℓ : Loc Cert.ProjOutBwdIdeal.nD Cert.ProjOutBwdIdeal.τ Cert.ProjOutBwdIdeal.sig) → Buf (Elt Ideal) ℓ) : Prop :=
  True

def Pre_ProjOutBwdRefIdeal (m : (ℓ : Loc Cert.ProjOutBwdRefIdeal.nD Cert.ProjOutBwdRefIdeal.τ Cert.ProjOutBwdRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_SumAdam (m : (ℓ : Loc Cert.SumAdam.nD Cert.SumAdam.τ Cert.SumAdam.sig) → Buf (Elt Bits) ℓ) : Prop :=
  True

def Pre_SumAdamIdeal (m : (ℓ : Loc Cert.SumAdamIdeal.nD Cert.SumAdamIdeal.τ Cert.SumAdamIdeal.sig) → Buf (Elt Ideal) ℓ) : Prop :=
  True

def Pre_SumAdamRefIdeal (m : (ℓ : Loc Cert.SumAdamRefIdeal.nD Cert.SumAdamRefIdeal.τ Cert.SumAdamRefIdeal.sig) → Buf (Elt Ideal) ℓ) : Prop :=
  True

def Pre_AdaAdam (m : (ℓ : Loc Cert.AdaAdam.nD Cert.AdaAdam.τ Cert.AdaAdam.sig) → Buf (Elt Bits) ℓ) : Prop :=
  True

def Pre_AdaAdamIdeal (m : (ℓ : Loc Cert.AdaAdamIdeal.nD Cert.AdaAdamIdeal.τ Cert.AdaAdamIdeal.sig) → Buf (Elt Ideal) ℓ) : Prop :=
  True

def Pre_AdaAdamRefIdeal (m : (ℓ : Loc Cert.AdaAdamRefIdeal.nD Cert.AdaAdamRefIdeal.τ Cert.AdaAdamRefIdeal.sig) → Buf (Elt Ideal) ℓ) : Prop :=
  True

def Pre_AdaForward (m : (ℓ : Loc Cert.AdaForward.nD Cert.AdaForward.τ Cert.AdaForward.sig) → Buf (Elt Bits) ℓ) : Prop :=
  True

def Pre_AdaForwardIdeal (m : (ℓ : Loc Cert.AdaForwardIdeal.nD Cert.AdaForwardIdeal.τ Cert.AdaForwardIdeal.sig) → Buf (Elt Ideal) ℓ) : Prop :=
  True

def Pre_AdaForwardRefIdeal (m : (ℓ : Loc Cert.AdaForwardRefIdeal.nD Cert.AdaForwardRefIdeal.τ Cert.AdaForwardRefIdeal.sig) → Buf (Elt Ideal) ℓ) : Prop :=
  True

def Pre_SibSum (m : (ℓ : Loc Cert.SibSum.nD Cert.SibSum.τ Cert.SibSum.sig) → Buf (Elt Bits) ℓ) : Prop :=
  True

def Pre_SibSumIdeal (m : (ℓ : Loc Cert.SibSumIdeal.nD Cert.SibSumIdeal.τ Cert.SibSumIdeal.sig) → Buf (Elt Ideal) ℓ) : Prop :=
  True

def Pre_SibSumRefIdeal (m : (ℓ : Loc Cert.SibSumRefIdeal.nD Cert.SibSumRefIdeal.τ Cert.SibSumRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5)
      ∧ r.2.mem ((c.tc : Thread Cert.Ln.nD Cert.Ln.τ).loc Cert.Ln.main_arg6) = m ((c.tc : Thread Cert.Ln.nD Cert.Ln.τ).loc Cert.Ln.main_arg6)
      ∧ r.2.mem ((c.tc : Thread Cert.Ln.nD Cert.Ln.τ).loc Cert.Ln.main_arg7) = m ((c.tc : Thread Cert.Ln.nD Cert.Ln.τ).loc Cert.Ln.main_arg7)
      ∧ r.2.mem ((c.tc : Thread Cert.Ln.nD Cert.Ln.τ).loc Cert.Ln.main_arg8) = m ((c.tc : Thread Cert.Ln.nD Cert.Ln.τ).loc Cert.Ln.main_arg8))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
      ∧ r.2.mem ((c.tc : Thread Cert.LnIdeal.nD Cert.LnIdeal.τ).loc Cert.LnIdeal.main_arg7) = m ((c.tc : Thread Cert.LnIdeal.nD Cert.LnIdeal.τ).loc Cert.LnIdeal.main_arg7)
      ∧ r.2.mem ((c.tc : Thread Cert.LnIdeal.nD Cert.LnIdeal.τ).loc Cert.LnIdeal.main_arg8) = m ((c.tc : Thread Cert.LnIdeal.nD Cert.LnIdeal.τ).loc Cert.LnIdeal.main_arg8))
      ∧ r.2.sem = fun _ => 0)

def quiescent_LnIdeal_pre_ln_finite [hLnIdeal : Cert.LnIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg), Pre_LnIdeal_ln_finite m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
      ∧ r.2.mem ((c.tc : Thread Cert.LnIdeal.nD Cert.LnIdeal.τ).loc Cert.LnIdeal.main_arg7) = m ((c.tc : Thread Cert.LnIdeal.nD Cert.LnIdeal.τ).loc Cert.LnIdeal.main_arg7)
      ∧ r.2.mem ((c.tc : Thread Cert.LnIdeal.nD Cert.LnIdeal.τ).loc Cert.LnIdeal.main_arg8) = m ((c.tc : Thread Cert.LnIdeal.nD Cert.LnIdeal.τ).loc Cert.LnIdeal.main_arg8))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5)
      ∧ r.2.mem ((c.tc : Thread Cert.LnRefIdeal.nD Cert.LnRefIdeal.τ).loc Cert.LnRefIdeal.main_arg6) = m ((c.tc : Thread Cert.LnRefIdeal.nD Cert.LnRefIdeal.τ).loc Cert.LnRefIdeal.main_arg6)
      ∧ r.2.mem ((c.tc : Thread Cert.LnRefIdeal.nD Cert.LnRefIdeal.τ).loc Cert.LnRefIdeal.main_arg7) = m ((c.tc : Thread Cert.LnRefIdeal.nD Cert.LnRefIdeal.τ).loc Cert.LnRefIdeal.main_arg7)
      ∧ r.2.mem ((c.tc : Thread Cert.LnRefIdeal.nD Cert.LnRefIdeal.τ).loc Cert.LnRefIdeal.main_arg8) = m ((c.tc : Thread Cert.LnRefIdeal.nD Cert.LnRefIdeal.τ).loc Cert.LnRefIdeal.main_arg8))
      ∧ r.2.sem = fun _ => 0)

def quiescent_LnRefIdeal_pre_ln_finite [hLnRefIdeal : Cert.LnRefIdeal.Facts] [hPre_ln_finite : Cert.Pre_ln_finite.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_ln_finite m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5)
      ∧ r.2.mem ((c.tc : Thread Cert.LnRefIdeal.nD Cert.LnRefIdeal.τ).loc Cert.LnRefIdeal.main_arg6) = m ((c.tc : Thread Cert.LnRefIdeal.nD Cert.LnRefIdeal.τ).loc Cert.LnRefIdeal.main_arg6)
      ∧ r.2.mem ((c.tc : Thread Cert.LnRefIdeal.nD Cert.LnRefIdeal.τ).loc Cert.LnRefIdeal.main_arg7) = m ((c.tc : Thread Cert.LnRefIdeal.nD Cert.LnRefIdeal.τ).loc Cert.LnRefIdeal.main_arg7)
      ∧ r.2.mem ((c.tc : Thread Cert.LnRefIdeal.nD Cert.LnRefIdeal.τ).loc Cert.LnRefIdeal.main_arg8) = m ((c.tc : Thread Cert.LnRefIdeal.nD Cert.LnRefIdeal.τ).loc Cert.LnRefIdeal.main_arg8))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InIdeal_pre_pin0_finite [hInIdeal : Cert.InIdeal.Facts] [hPre_pin0_finite : Cert.Pre_pin0_finite.Facts] : Prop :=
  ∀ (m : (ℓ : Loc Cert.InIdeal.nD Cert.InIdeal.τ Cert.InIdeal.sig) → Buf (Elt Ideal) ℓ) (g : Dev Cert.InIdeal.nD → PrngReg), Pre_InIdeal_pin0_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_InRefIdeal_pre_pin0_finite [hInRefIdeal : Cert.InRefIdeal.Facts] [hPre_pin0_finite : Cert.Pre_pin0_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_pin0_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdIdeal_pre_attnf_finite [hAttnFwdIdeal : Cert.AttnFwdIdeal.Facts] [hPre_attnf_finite : Cert.Pre_attnf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attnf_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_AttnFwdRefIdeal_pre_attnf_finite [hAttnFwdRefIdeal : Cert.AttnFwdRefIdeal.Facts] [hPre_attnf_finite : Cert.Pre_attnf_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attnf_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1))
      ∧ r.2.sem = fun _ => 0)

def quiescent_PoolFwdIdeal_pre_poolf_finite [hPoolFwdIdeal : Cert.PoolFwdIdeal.Facts] [hPre_poolf_finite : Cert.Pre_poolf_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_poolf_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1))
      ∧ r.2.sem = fun _ => 0)

def quiescent_PoolFwdRefIdeal_pre_poolf_finite [hPoolFwdRefIdeal : Cert.PoolFwdRefIdeal.Facts] [hPre_poolf_finite : Cert.Pre_poolf_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_poolf_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModResid [hModResid : Cert.ModResid.Facts] : Prop :=
  ∀ (m : (ℓ : Loc Cert.ModResid.nD Cert.ModResid.τ Cert.ModResid.sig) → Buf (Elt Bits) ℓ) (g : Dev Cert.ModResid.nD → PrngReg), Pre_ModResid m →
    θ_run (Cert.ModResid.defs (F := Bits)) (onTc (τ := Cert.ModResid.τ) (Cert.ModResid.main (F := Bits))) ⟨m, fun _ => 0, g⟩ (fun r => (∀ c : Dev Cert.ModResid.nD,
      r.2.mem ((c.tc : Thread Cert.ModResid.nD Cert.ModResid.τ).loc Cert.ModResid.main_arg0) = m ((c.tc : Thread Cert.ModResid.nD Cert.ModResid.τ).loc Cert.ModResid.main_arg0)
      ∧ r.2.mem ((c.tc : Thread Cert.ModResid.nD Cert.ModResid.τ).loc Cert.ModResid.main_arg1) = m ((c.tc : Thread Cert.ModResid.nD Cert.ModResid.τ).loc Cert.ModResid.main_arg1)
      ∧ r.2.mem ((c.tc : Thread Cert.ModResid.nD Cert.ModResid.τ).loc Cert.ModResid.main_arg2) = m ((c.tc : Thread Cert.ModResid.nD Cert.ModResid.τ).loc Cert.ModResid.main_arg2)
      ∧ r.2.mem ((c.tc : Thread Cert.ModResid.nD Cert.ModResid.τ).loc Cert.ModResid.main_arg3) = m ((c.tc : Thread Cert.ModResid.nD Cert.ModResid.τ).loc Cert.ModResid.main_arg3)
      ∧ r.2.mem ((c.tc : Thread Cert.ModResid.nD Cert.ModResid.τ).loc Cert.ModResid.main_arg4) = m ((c.tc : Thread Cert.ModResid.nD Cert.ModResid.τ).loc Cert.ModResid.main_arg4)
      ∧ r.2.mem ((c.tc : Thread Cert.ModResid.nD Cert.ModResid.τ).loc Cert.ModResid.main_arg5) = m ((c.tc : Thread Cert.ModResid.nD Cert.ModResid.τ).loc Cert.ModResid.main_arg5))
      ∧ r.2.sem = fun _ => 0)

def quiescent_ModResidIdeal [hModResidIdeal : Cert.ModResidIdeal.Facts] : Prop :=
  ∀ (m : (ℓ : Loc Cert.ModResidIdeal.nD Cert.ModResidIdeal.τ Cert.ModResidIdeal.sig) → Buf (Elt Ideal) ℓ) (g : Dev Cert.ModResidIdeal.nD → PrngReg), Pre_ModResidIdeal m →
    θ_run (Cert.ModResidIdeal.defs (F := Ideal)) (onTc (τ := Cert.ModResidIdeal.τ) (Cert.ModResidIdeal.main (F := Ideal))) ⟨m, fun _ => 0, g⟩ (fun r => (∀ c : Dev Cert.ModResidIdeal.nD,
      r.2.mem ((c.tc : Thread Cert.ModResidIdeal.nD Cert.ModResidIdeal.τ).loc Cert.ModResidIdeal.main_arg0) = m ((c.tc : Thread Cert.ModResidIdeal.nD Cert.ModResidIdeal.τ).loc Cert.ModResidIdeal.main_arg0)
      ∧ r.2.mem ((c.tc : Thread Cert.ModResidIdeal.nD Cert.ModResidIdeal.τ).loc Cert.ModResidIdeal.main_arg1) = m ((c.tc : Thread Cert.ModResidIdeal.nD Cert.ModResidIdeal.τ).loc Cert.ModResidIdeal.main_arg1)
      ∧ r.2.mem ((c.tc : Thread Cert.ModResidIdeal.nD Cert.ModResidIdeal.τ).loc Cert.ModResidIdeal.main_arg2) = m ((c.tc : Thread Cert.ModResidIdeal.nD Cert.ModResidIdeal.τ).loc Cert.ModResidIdeal.main_arg2)
      ∧ r.2.mem ((c.tc : Thread Cert.ModResidIdeal.nD Cert.ModResidIdeal.τ).loc Cert.ModResidIdeal.main_arg3) = m ((c.tc : Thread Cert.ModResidIdeal.nD Cert.ModResidIdeal.τ).loc Cert.ModResidIdeal.main_arg3)
      ∧ r.2.mem ((c.tc : Thread Cert.ModResidIdeal.nD Cert.ModResidIdeal.τ).loc Cert.ModResidIdeal.main_arg4) = m ((c.tc : Thread Cert.ModResidIdeal.nD Cert.ModResidIdeal.τ).loc Cert.ModResidIdeal.main_arg4)
      ∧ r.2.mem ((c.tc : Thread Cert.ModResidIdeal.nD Cert.ModResidIdeal.τ).loc Cert.ModResidIdeal.main_arg5) = m ((c.tc : Thread Cert.ModResidIdeal.nD Cert.ModResidIdeal.τ).loc Cert.ModResidIdeal.main_arg5))
      ∧ r.2.sem = fun _ => 0)

def quiescent_ModResidRefIdeal [hModResidRefIdeal : Cert.ModResidRefIdeal.Facts] : Prop :=
  ∀ (m : (ℓ : Loc Cert.ModResidRefIdeal.nD Cert.ModResidRefIdeal.τ Cert.ModResidRefIdeal.sig) → Buf (Elt Ideal) ℓ) (g : Dev Cert.ModResidRefIdeal.nD → PrngReg), Pre_ModResidRefIdeal m →
    θ_run (Cert.ModResidRefIdeal.defs (F := Ideal)) (onTc (τ := Cert.ModResidRefIdeal.τ) (Cert.ModResidRefIdeal.main (F := Ideal))) ⟨m, fun _ => 0, g⟩ (fun r => (∀ c : Dev Cert.ModResidRefIdeal.nD,
      r.2.mem ((c.tc : Thread Cert.ModResidRefIdeal.nD Cert.ModResidRefIdeal.τ).loc Cert.ModResidRefIdeal.main_arg0) = m ((c.tc : Thread Cert.ModResidRefIdeal.nD Cert.ModResidRefIdeal.τ).loc Cert.ModResidRefIdeal.main_arg0)
      ∧ r.2.mem ((c.tc : Thread Cert.ModResidRefIdeal.nD Cert.ModResidRefIdeal.τ).loc Cert.ModResidRefIdeal.main_arg1) = m ((c.tc : Thread Cert.ModResidRefIdeal.nD Cert.ModResidRefIdeal.τ).loc Cert.ModResidRefIdeal.main_arg1)
      ∧ r.2.mem ((c.tc : Thread Cert.ModResidRefIdeal.nD Cert.ModResidRefIdeal.τ).loc Cert.ModResidRefIdeal.main_arg2) = m ((c.tc : Thread Cert.ModResidRefIdeal.nD Cert.ModResidRefIdeal.τ).loc Cert.ModResidRefIdeal.main_arg2)
      ∧ r.2.mem ((c.tc : Thread Cert.ModResidRefIdeal.nD Cert.ModResidRefIdeal.τ).loc Cert.ModResidRefIdeal.main_arg3) = m ((c.tc : Thread Cert.ModResidRefIdeal.nD Cert.ModResidRefIdeal.τ).loc Cert.ModResidRefIdeal.main_arg3)
      ∧ r.2.mem ((c.tc : Thread Cert.ModResidRefIdeal.nD Cert.ModResidRefIdeal.τ).loc Cert.ModResidRefIdeal.main_arg4) = m ((c.tc : Thread Cert.ModResidRefIdeal.nD Cert.ModResidRefIdeal.τ).loc Cert.ModResidRefIdeal.main_arg4)
      ∧ r.2.mem ((c.tc : Thread Cert.ModResidRefIdeal.nD Cert.ModResidRefIdeal.τ).loc Cert.ModResidRefIdeal.main_arg5) = m ((c.tc : Thread Cert.ModResidRefIdeal.nD Cert.ModResidRefIdeal.τ).loc Cert.ModResidRefIdeal.main_arg5))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_ProjOutBwd [hProjOutBwd : Cert.ProjOutBwd.Facts] : Prop :=
  ∀ (m : (ℓ : Loc Cert.ProjOutBwd.nD Cert.ProjOutBwd.τ Cert.ProjOutBwd.sig) → Buf (Elt Bits) ℓ) (g : Dev Cert.ProjOutBwd.nD → PrngReg), Pre_ProjOutBwd m →
    θ_run (Cert.ProjOutBwd.defs (F := Bits)) (onTc (τ := Cert.ProjOutBwd.τ) (Cert.ProjOutBwd.main (F := Bits))) ⟨m, fun _ => 0, g⟩ (fun r => (∀ c : Dev Cert.ProjOutBwd.nD,
      r.2.mem ((c.tc : Thread Cert.ProjOutBwd.nD Cert.ProjOutBwd.τ).loc Cert.ProjOutBwd.main_arg0) = m ((c.tc : Thread Cert.ProjOutBwd.nD Cert.ProjOutBwd.τ).loc Cert.ProjOutBwd.main_arg0)
      ∧ r.2.mem ((c.tc : Thread Cert.ProjOutBwd.nD Cert.ProjOutBwd.τ).loc Cert.ProjOutBwd.main_arg1) = m ((c.tc : Thread Cert.ProjOutBwd.nD Cert.ProjOutBwd.τ).loc Cert.ProjOutBwd.main_arg1))
      ∧ r.2.sem = fun _ => 0)

def quiescent_ProjOutBwdIdeal [hProjOutBwdIdeal : Cert.ProjOutBwdIdeal.Facts] : Prop :=
  ∀ (m : (ℓ : Loc Cert.ProjOutBwdIdeal.nD Cert.ProjOutBwdIdeal.τ Cert.ProjOutBwdIdeal.sig) → Buf (Elt Ideal) ℓ) (g : Dev Cert.ProjOutBwdIdeal.nD → PrngReg), Pre_ProjOutBwdIdeal m →
    θ_run (Cert.ProjOutBwdIdeal.defs (F := Ideal)) (onTc (τ := Cert.ProjOutBwdIdeal.τ) (Cert.ProjOutBwdIdeal.main (F := Ideal))) ⟨m, fun _ => 0, g⟩ (fun r => (∀ c : Dev Cert.ProjOutBwdIdeal.nD,
      r.2.mem ((c.tc : Thread Cert.ProjOutBwdIdeal.nD Cert.ProjOutBwdIdeal.τ).loc Cert.ProjOutBwdIdeal.main_arg0) = m ((c.tc : Thread Cert.ProjOutBwdIdeal.nD Cert.ProjOutBwdIdeal.τ).loc Cert.ProjOutBwdIdeal.main_arg0)
      ∧ r.2.mem ((c.tc : Thread Cert.ProjOutBwdIdeal.nD Cert.ProjOutBwdIdeal.τ).loc Cert.ProjOutBwdIdeal.main_arg1) = m ((c.tc : Thread Cert.ProjOutBwdIdeal.nD Cert.ProjOutBwdIdeal.τ).loc Cert.ProjOutBwdIdeal.main_arg1))
      ∧ r.2.sem = fun _ => 0)

def quiescent_ProjOutBwdRefIdeal [hProjOutBwdRefIdeal : Cert.ProjOutBwdRefIdeal.Facts] : Prop :=
  ∀ (m : (ℓ : Loc Cert.ProjOutBwdRefIdeal.nD Cert.ProjOutBwdRefIdeal.τ Cert.ProjOutBwdRefIdeal.sig) → Buf (Elt Ideal) ℓ) (g : Dev Cert.ProjOutBwdRefIdeal.nD → PrngReg), Pre_ProjOutBwdRefIdeal m →
    θ_run (Cert.ProjOutBwdRefIdeal.defs (F := Ideal)) (onTc (τ := Cert.ProjOutBwdRefIdeal.τ) (Cert.ProjOutBwdRefIdeal.main (F := Ideal))) ⟨m, fun _ => 0, g⟩ (fun r => (∀ c : Dev Cert.ProjOutBwdRefIdeal.nD,
      r.2.mem ((c.tc : Thread Cert.ProjOutBwdRefIdeal.nD Cert.ProjOutBwdRefIdeal.τ).loc Cert.ProjOutBwdRefIdeal.main_arg0) = m ((c.tc : Thread Cert.ProjOutBwdRefIdeal.nD Cert.ProjOutBwdRefIdeal.τ).loc Cert.ProjOutBwdRefIdeal.main_arg0)
      ∧ r.2.mem ((c.tc : Thread Cert.ProjOutBwdRefIdeal.nD Cert.ProjOutBwdRefIdeal.τ).loc Cert.ProjOutBwdRefIdeal.main_arg1) = m ((c.tc : Thread Cert.ProjOutBwdRefIdeal.nD Cert.ProjOutBwdRefIdeal.τ).loc Cert.ProjOutBwdRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_SumAdam [hSumAdam : Cert.SumAdam.Facts] : Prop :=
  ∀ (m : (ℓ : Loc Cert.SumAdam.nD Cert.SumAdam.τ Cert.SumAdam.sig) → Buf (Elt Bits) ℓ) (g : Dev Cert.SumAdam.nD → PrngReg), Pre_SumAdam m →
    θ_run (Cert.SumAdam.defs (F := Bits)) (onTc (τ := Cert.SumAdam.τ) (Cert.SumAdam.main (F := Bits))) ⟨m, fun _ => 0, g⟩ (fun r => (∀ c : Dev Cert.SumAdam.nD,
      r.2.mem ((c.tc : Thread Cert.SumAdam.nD Cert.SumAdam.τ).loc Cert.SumAdam.main_arg0) = m ((c.tc : Thread Cert.SumAdam.nD Cert.SumAdam.τ).loc Cert.SumAdam.main_arg0)
      ∧ r.2.mem ((c.tc : Thread Cert.SumAdam.nD Cert.SumAdam.τ).loc Cert.SumAdam.main_arg1) = m ((c.tc : Thread Cert.SumAdam.nD Cert.SumAdam.τ).loc Cert.SumAdam.main_arg1)
      ∧ r.2.mem ((c.tc : Thread Cert.SumAdam.nD Cert.SumAdam.τ).loc Cert.SumAdam.main_arg2) = m ((c.tc : Thread Cert.SumAdam.nD Cert.SumAdam.τ).loc Cert.SumAdam.main_arg2)
      ∧ r.2.mem ((c.tc : Thread Cert.SumAdam.nD Cert.SumAdam.τ).loc Cert.SumAdam.main_arg3) = m ((c.tc : Thread Cert.SumAdam.nD Cert.SumAdam.τ).loc Cert.SumAdam.main_arg3))
      ∧ r.2.sem = fun _ => 0)

def quiescent_SumAdamIdeal [hSumAdamIdeal : Cert.SumAdamIdeal.Facts] : Prop :=
  ∀ (m : (ℓ : Loc Cert.SumAdamIdeal.nD Cert.SumAdamIdeal.τ Cert.SumAdamIdeal.sig) → Buf (Elt Ideal) ℓ) (g : Dev Cert.SumAdamIdeal.nD → PrngReg), Pre_SumAdamIdeal m →
    θ_run (Cert.SumAdamIdeal.defs (F := Ideal)) (onTc (τ := Cert.SumAdamIdeal.τ) (Cert.SumAdamIdeal.main (F := Ideal))) ⟨m, fun _ => 0, g⟩ (fun r => (∀ c : Dev Cert.SumAdamIdeal.nD,
      r.2.mem ((c.tc : Thread Cert.SumAdamIdeal.nD Cert.SumAdamIdeal.τ).loc Cert.SumAdamIdeal.main_arg0) = m ((c.tc : Thread Cert.SumAdamIdeal.nD Cert.SumAdamIdeal.τ).loc Cert.SumAdamIdeal.main_arg0)
      ∧ r.2.mem ((c.tc : Thread Cert.SumAdamIdeal.nD Cert.SumAdamIdeal.τ).loc Cert.SumAdamIdeal.main_arg1) = m ((c.tc : Thread Cert.SumAdamIdeal.nD Cert.SumAdamIdeal.τ).loc Cert.SumAdamIdeal.main_arg1)
      ∧ r.2.mem ((c.tc : Thread Cert.SumAdamIdeal.nD Cert.SumAdamIdeal.τ).loc Cert.SumAdamIdeal.main_arg2) = m ((c.tc : Thread Cert.SumAdamIdeal.nD Cert.SumAdamIdeal.τ).loc Cert.SumAdamIdeal.main_arg2)
      ∧ r.2.mem ((c.tc : Thread Cert.SumAdamIdeal.nD Cert.SumAdamIdeal.τ).loc Cert.SumAdamIdeal.main_arg3) = m ((c.tc : Thread Cert.SumAdamIdeal.nD Cert.SumAdamIdeal.τ).loc Cert.SumAdamIdeal.main_arg3))
      ∧ r.2.sem = fun _ => 0)

def quiescent_SumAdamRefIdeal [hSumAdamRefIdeal : Cert.SumAdamRefIdeal.Facts] : Prop :=
  ∀ (m : (ℓ : Loc Cert.SumAdamRefIdeal.nD Cert.SumAdamRefIdeal.τ Cert.SumAdamRefIdeal.sig) → Buf (Elt Ideal) ℓ) (g : Dev Cert.SumAdamRefIdeal.nD → PrngReg), Pre_SumAdamRefIdeal m →
    θ_run (Cert.SumAdamRefIdeal.defs (F := Ideal)) (onTc (τ := Cert.SumAdamRefIdeal.τ) (Cert.SumAdamRefIdeal.main (F := Ideal))) ⟨m, fun _ => 0, g⟩ (fun r => (∀ c : Dev Cert.SumAdamRefIdeal.nD,
      r.2.mem ((c.tc : Thread Cert.SumAdamRefIdeal.nD Cert.SumAdamRefIdeal.τ).loc Cert.SumAdamRefIdeal.main_arg0) = m ((c.tc : Thread Cert.SumAdamRefIdeal.nD Cert.SumAdamRefIdeal.τ).loc Cert.SumAdamRefIdeal.main_arg0)
      ∧ r.2.mem ((c.tc : Thread Cert.SumAdamRefIdeal.nD Cert.SumAdamRefIdeal.τ).loc Cert.SumAdamRefIdeal.main_arg1) = m ((c.tc : Thread Cert.SumAdamRefIdeal.nD Cert.SumAdamRefIdeal.τ).loc Cert.SumAdamRefIdeal.main_arg1)
      ∧ r.2.mem ((c.tc : Thread Cert.SumAdamRefIdeal.nD Cert.SumAdamRefIdeal.τ).loc Cert.SumAdamRefIdeal.main_arg2) = m ((c.tc : Thread Cert.SumAdamRefIdeal.nD Cert.SumAdamRefIdeal.τ).loc Cert.SumAdamRefIdeal.main_arg2)
      ∧ r.2.mem ((c.tc : Thread Cert.SumAdamRefIdeal.nD Cert.SumAdamRefIdeal.τ).loc Cert.SumAdamRefIdeal.main_arg3) = m ((c.tc : Thread Cert.SumAdamRefIdeal.nD Cert.SumAdamRefIdeal.τ).loc Cert.SumAdamRefIdeal.main_arg3))
      ∧ r.2.sem = fun _ => 0)

def quiescent_AdaAdam [hAdaAdam : Cert.AdaAdam.Facts] : Prop :=
  ∀ (m : (ℓ : Loc Cert.AdaAdam.nD Cert.AdaAdam.τ Cert.AdaAdam.sig) → Buf (Elt Bits) ℓ) (g : Dev Cert.AdaAdam.nD → PrngReg), Pre_AdaAdam m →
    θ_run (Cert.AdaAdam.defs (F := Bits)) (onTc (τ := Cert.AdaAdam.τ) (Cert.AdaAdam.main (F := Bits))) ⟨m, fun _ => 0, g⟩ (fun r => (∀ c : Dev Cert.AdaAdam.nD,
      r.2.mem ((c.tc : Thread Cert.AdaAdam.nD Cert.AdaAdam.τ).loc Cert.AdaAdam.main_arg0) = m ((c.tc : Thread Cert.AdaAdam.nD Cert.AdaAdam.τ).loc Cert.AdaAdam.main_arg0)
      ∧ r.2.mem ((c.tc : Thread Cert.AdaAdam.nD Cert.AdaAdam.τ).loc Cert.AdaAdam.main_arg1) = m ((c.tc : Thread Cert.AdaAdam.nD Cert.AdaAdam.τ).loc Cert.AdaAdam.main_arg1)
      ∧ r.2.mem ((c.tc : Thread Cert.AdaAdam.nD Cert.AdaAdam.τ).loc Cert.AdaAdam.main_arg2) = m ((c.tc : Thread Cert.AdaAdam.nD Cert.AdaAdam.τ).loc Cert.AdaAdam.main_arg2)
      ∧ r.2.mem ((c.tc : Thread Cert.AdaAdam.nD Cert.AdaAdam.τ).loc Cert.AdaAdam.main_arg3) = m ((c.tc : Thread Cert.AdaAdam.nD Cert.AdaAdam.τ).loc Cert.AdaAdam.main_arg3)
      ∧ r.2.mem ((c.tc : Thread Cert.AdaAdam.nD Cert.AdaAdam.τ).loc Cert.AdaAdam.main_arg4) = m ((c.tc : Thread Cert.AdaAdam.nD Cert.AdaAdam.τ).loc Cert.AdaAdam.main_arg4))
      ∧ r.2.sem = fun _ => 0)

def quiescent_AdaAdamIdeal [hAdaAdamIdeal : Cert.AdaAdamIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg), Pre_AdaAdamIdeal m →
    θ_run (Cert.AdaAdamIdeal.defs (F := Ideal)) (onTc (τ := Cert.AdaAdamIdeal.τ) (Cert.AdaAdamIdeal.main (F := Ideal))) ⟨m, fun _ => 0, g⟩ (fun r => (∀ c : Dev Cert.AdaAdamIdeal.nD,
      r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
      ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
      ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
      ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
      ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4))
      ∧ r.2.sem = fun _ => 0)

def quiescent_AdaAdamRefIdeal [hAdaAdamRefIdeal : Cert.AdaAdamRefIdeal.Facts] : Prop :=
  ∀ (m : (ℓ : Loc Cert.AdaAdamRefIdeal.nD Cert.AdaAdamRefIdeal.τ Cert.AdaAdamRefIdeal.sig) → Buf (Elt Ideal) ℓ) (g : Dev Cert.AdaAdamRefIdeal.nD → PrngReg), Pre_AdaAdamRefIdeal m →
    θ_run (Cert.AdaAdamRefIdeal.defs (F := Ideal)) (onTc (τ := Cert.AdaAdamRefIdeal.τ) (Cert.AdaAdamRefIdeal.main (F := Ideal))) ⟨m, fun _ => 0, g⟩ (fun r => (∀ c : Dev Cert.AdaAdamRefIdeal.nD,
      r.2.mem ((c.tc : Thread Cert.AdaAdamRefIdeal.nD Cert.AdaAdamRefIdeal.τ).loc Cert.AdaAdamRefIdeal.main_arg0) = m ((c.tc : Thread Cert.AdaAdamRefIdeal.nD Cert.AdaAdamRefIdeal.τ).loc Cert.AdaAdamRefIdeal.main_arg0)
      ∧ r.2.mem ((c.tc : Thread Cert.AdaAdamRefIdeal.nD Cert.AdaAdamRefIdeal.τ).loc Cert.AdaAdamRefIdeal.main_arg1) = m ((c.tc : Thread Cert.AdaAdamRefIdeal.nD Cert.AdaAdamRefIdeal.τ).loc Cert.AdaAdamRefIdeal.main_arg1)
      ∧ r.2.mem ((c.tc : Thread Cert.AdaAdamRefIdeal.nD Cert.AdaAdamRefIdeal.τ).loc Cert.AdaAdamRefIdeal.main_arg2) = m ((c.tc : Thread Cert.AdaAdamRefIdeal.nD Cert.AdaAdamRefIdeal.τ).loc Cert.AdaAdamRefIdeal.main_arg2)
      ∧ r.2.mem ((c.tc : Thread Cert.AdaAdamRefIdeal.nD Cert.AdaAdamRefIdeal.τ).loc Cert.AdaAdamRefIdeal.main_arg3) = m ((c.tc : Thread Cert.AdaAdamRefIdeal.nD Cert.AdaAdamRefIdeal.τ).loc Cert.AdaAdamRefIdeal.main_arg3)
      ∧ r.2.mem ((c.tc : Thread Cert.AdaAdamRefIdeal.nD Cert.AdaAdamRefIdeal.τ).loc Cert.AdaAdamRefIdeal.main_arg4) = m ((c.tc : Thread Cert.AdaAdamRefIdeal.nD Cert.AdaAdamRefIdeal.τ).loc Cert.AdaAdamRefIdeal.main_arg4))
      ∧ r.2.sem = fun _ => 0)

def quiescent_AdaForward [hAdaForward : Cert.AdaForward.Facts] : Prop :=
  ∀ (m : (ℓ : Loc Cert.AdaForward.nD Cert.AdaForward.τ Cert.AdaForward.sig) → Buf (Elt Bits) ℓ) (g : Dev Cert.AdaForward.nD → PrngReg), Pre_AdaForward m →
    θ_run (Cert.AdaForward.defs (F := Bits)) (onTc (τ := Cert.AdaForward.τ) (Cert.AdaForward.main (F := Bits))) ⟨m, fun _ => 0, g⟩ (fun r => (∀ c : Dev Cert.AdaForward.nD,
      r.2.mem ((c.tc : Thread Cert.AdaForward.nD Cert.AdaForward.τ).loc Cert.AdaForward.main_arg0) = m ((c.tc : Thread Cert.AdaForward.nD Cert.AdaForward.τ).loc Cert.AdaForward.main_arg0)
      ∧ r.2.mem ((c.tc : Thread Cert.AdaForward.nD Cert.AdaForward.τ).loc Cert.AdaForward.main_arg1) = m ((c.tc : Thread Cert.AdaForward.nD Cert.AdaForward.τ).loc Cert.AdaForward.main_arg1)
      ∧ r.2.mem ((c.tc : Thread Cert.AdaForward.nD Cert.AdaForward.τ).loc Cert.AdaForward.main_arg2) = m ((c.tc : Thread Cert.AdaForward.nD Cert.AdaForward.τ).loc Cert.AdaForward.main_arg2)
      ∧ r.2.mem ((c.tc : Thread Cert.AdaForward.nD Cert.AdaForward.τ).loc Cert.AdaForward.main_arg3) = m ((c.tc : Thread Cert.AdaForward.nD Cert.AdaForward.τ).loc Cert.AdaForward.main_arg3)
      ∧ r.2.mem ((c.tc : Thread Cert.AdaForward.nD Cert.AdaForward.τ).loc Cert.AdaForward.main_arg4) = m ((c.tc : Thread Cert.AdaForward.nD Cert.AdaForward.τ).loc Cert.AdaForward.main_arg4)
      ∧ r.2.mem ((c.tc : Thread Cert.AdaForward.nD Cert.AdaForward.τ).loc Cert.AdaForward.main_arg5) = m ((c.tc : Thread Cert.AdaForward.nD Cert.AdaForward.τ).loc Cert.AdaForward.main_arg5)
      ∧ r.2.mem ((c.tc : Thread Cert.AdaForward.nD Cert.AdaForward.τ).loc Cert.AdaForward.main_arg6) = m ((c.tc : Thread Cert.AdaForward.nD Cert.AdaForward.τ).loc Cert.AdaForward.main_arg6))
      ∧ r.2.sem = fun _ => 0)

def quiescent_AdaForwardIdeal [hAdaForwardIdeal : Cert.AdaForwardIdeal.Facts] : Prop :=
  ∀ (m : (ℓ : Loc Cert.AdaForwardIdeal.nD Cert.AdaForwardIdeal.τ Cert.AdaForwardIdeal.sig) → Buf (Elt Ideal) ℓ) (g : Dev Cert.AdaForwardIdeal.nD → PrngReg), Pre_AdaForwardIdeal m →
    θ_run (Cert.AdaForwardIdeal.defs (F := Ideal)) (onTc (τ := Cert.AdaForwardIdeal.τ) (Cert.AdaForwardIdeal.main (F := Ideal))) ⟨m, fun _ => 0, g⟩ (fun r => (∀ c : Dev Cert.AdaForwardIdeal.nD,
      r.2.mem ((c.tc : Thread Cert.AdaForwardIdeal.nD Cert.AdaForwardIdeal.τ).loc Cert.AdaForwardIdeal.main_arg0) = m ((c.tc : Thread Cert.AdaForwardIdeal.nD Cert.AdaForwardIdeal.τ).loc Cert.AdaForwardIdeal.main_arg0)
      ∧ r.2.mem ((c.tc : Thread Cert.AdaForwardIdeal.nD Cert.AdaForwardIdeal.τ).loc Cert.AdaForwardIdeal.main_arg1) = m ((c.tc : Thread Cert.AdaForwardIdeal.nD Cert.AdaForwardIdeal.τ).loc Cert.AdaForwardIdeal.main_arg1)
      ∧ r.2.mem ((c.tc : Thread Cert.AdaForwardIdeal.nD Cert.AdaForwardIdeal.τ).loc Cert.AdaForwardIdeal.main_arg2) = m ((c.tc : Thread Cert.AdaForwardIdeal.nD Cert.AdaForwardIdeal.τ).loc Cert.AdaForwardIdeal.main_arg2)
      ∧ r.2.mem ((c.tc : Thread Cert.AdaForwardIdeal.nD Cert.AdaForwardIdeal.τ).loc Cert.AdaForwardIdeal.main_arg3) = m ((c.tc : Thread Cert.AdaForwardIdeal.nD Cert.AdaForwardIdeal.τ).loc Cert.AdaForwardIdeal.main_arg3)
      ∧ r.2.mem ((c.tc : Thread Cert.AdaForwardIdeal.nD Cert.AdaForwardIdeal.τ).loc Cert.AdaForwardIdeal.main_arg4) = m ((c.tc : Thread Cert.AdaForwardIdeal.nD Cert.AdaForwardIdeal.τ).loc Cert.AdaForwardIdeal.main_arg4)
      ∧ r.2.mem ((c.tc : Thread Cert.AdaForwardIdeal.nD Cert.AdaForwardIdeal.τ).loc Cert.AdaForwardIdeal.main_arg5) = m ((c.tc : Thread Cert.AdaForwardIdeal.nD Cert.AdaForwardIdeal.τ).loc Cert.AdaForwardIdeal.main_arg5)
      ∧ r.2.mem ((c.tc : Thread Cert.AdaForwardIdeal.nD Cert.AdaForwardIdeal.τ).loc Cert.AdaForwardIdeal.main_arg6) = m ((c.tc : Thread Cert.AdaForwardIdeal.nD Cert.AdaForwardIdeal.τ).loc Cert.AdaForwardIdeal.main_arg6))
      ∧ r.2.sem = fun _ => 0)

def quiescent_AdaForwardRefIdeal [hAdaForwardRefIdeal : Cert.AdaForwardRefIdeal.Facts] : Prop :=
  ∀ (m : (ℓ : Loc Cert.AdaForwardRefIdeal.nD Cert.AdaForwardRefIdeal.τ Cert.AdaForwardRefIdeal.sig) → Buf (Elt Ideal) ℓ) (g : Dev Cert.AdaForwardRefIdeal.nD → PrngReg), Pre_AdaForwardRefIdeal m →
    θ_run (Cert.AdaForwardRefIdeal.defs (F := Ideal)) (onTc (τ := Cert.AdaForwardRefIdeal.τ) (Cert.AdaForwardRefIdeal.main (F := Ideal))) ⟨m, fun _ => 0, g⟩ (fun r => (∀ c : Dev Cert.AdaForwardRefIdeal.nD,
      r.2.mem ((c.tc : Thread Cert.AdaForwardRefIdeal.nD Cert.AdaForwardRefIdeal.τ).loc Cert.AdaForwardRefIdeal.main_arg0) = m ((c.tc : Thread Cert.AdaForwardRefIdeal.nD Cert.AdaForwardRefIdeal.τ).loc Cert.AdaForwardRefIdeal.main_arg0)
      ∧ r.2.mem ((c.tc : Thread Cert.AdaForwardRefIdeal.nD Cert.AdaForwardRefIdeal.τ).loc Cert.AdaForwardRefIdeal.main_arg1) = m ((c.tc : Thread Cert.AdaForwardRefIdeal.nD Cert.AdaForwardRefIdeal.τ).loc Cert.AdaForwardRefIdeal.main_arg1)
      ∧ r.2.mem ((c.tc : Thread Cert.AdaForwardRefIdeal.nD Cert.AdaForwardRefIdeal.τ).loc Cert.AdaForwardRefIdeal.main_arg2) = m ((c.tc : Thread Cert.AdaForwardRefIdeal.nD Cert.AdaForwardRefIdeal.τ).loc Cert.AdaForwardRefIdeal.main_arg2)
      ∧ r.2.mem ((c.tc : Thread Cert.AdaForwardRefIdeal.nD Cert.AdaForwardRefIdeal.τ).loc Cert.AdaForwardRefIdeal.main_arg3) = m ((c.tc : Thread Cert.AdaForwardRefIdeal.nD Cert.AdaForwardRefIdeal.τ).loc Cert.AdaForwardRefIdeal.main_arg3)
      ∧ r.2.mem ((c.tc : Thread Cert.AdaForwardRefIdeal.nD Cert.AdaForwardRefIdeal.τ).loc Cert.AdaForwardRefIdeal.main_arg4) = m ((c.tc : Thread Cert.AdaForwardRefIdeal.nD Cert.AdaForwardRefIdeal.τ).loc Cert.AdaForwardRefIdeal.main_arg4)
      ∧ r.2.mem ((c.tc : Thread Cert.AdaForwardRefIdeal.nD Cert.AdaForwardRefIdeal.τ).loc Cert.AdaForwardRefIdeal.main_arg5) = m ((c.tc : Thread Cert.AdaForwardRefIdeal.nD Cert.AdaForwardRefIdeal.τ).loc Cert.AdaForwardRefIdeal.main_arg5)
      ∧ r.2.mem ((c.tc : Thread Cert.AdaForwardRefIdeal.nD Cert.AdaForwardRefIdeal.τ).loc Cert.AdaForwardRefIdeal.main_arg6) = m ((c.tc : Thread Cert.AdaForwardRefIdeal.nD Cert.AdaForwardRefIdeal.τ).loc Cert.AdaForwardRefIdeal.main_arg6))
      ∧ r.2.sem = fun _ => 0)

def quiescent_SibSum [hSibSum : Cert.SibSum.Facts] : Prop :=
  ∀ (m : (ℓ : Loc Cert.SibSum.nD Cert.SibSum.τ Cert.SibSum.sig) → Buf (Elt Bits) ℓ) (g : Dev Cert.SibSum.nD → PrngReg), Pre_SibSum m →
    θ_run (Cert.SibSum.defs (F := Bits)) (onTc (τ := Cert.SibSum.τ) (Cert.SibSum.main (F := Bits))) ⟨m, fun _ => 0, g⟩ (fun r => (∀ c : Dev Cert.SibSum.nD,
      r.2.mem ((c.tc : Thread Cert.SibSum.nD Cert.SibSum.τ).loc Cert.SibSum.main_arg0) = m ((c.tc : Thread Cert.SibSum.nD Cert.SibSum.τ).loc Cert.SibSum.main_arg0)
      ∧ r.2.mem ((c.tc : Thread Cert.SibSum.nD Cert.SibSum.τ).loc Cert.SibSum.main_arg1) = m ((c.tc : Thread Cert.SibSum.nD Cert.SibSum.τ).loc Cert.SibSum.main_arg1))
      ∧ r.2.sem = fun _ => 0)

def quiescent_SibSumIdeal [hSibSumIdeal : Cert.SibSumIdeal.Facts] : Prop :=
  ∀ (m : (ℓ : Loc Cert.SibSumIdeal.nD Cert.SibSumIdeal.τ Cert.SibSumIdeal.sig) → Buf (Elt Ideal) ℓ) (g : Dev Cert.SibSumIdeal.nD → PrngReg), Pre_SibSumIdeal m →
    θ_run (Cert.SibSumIdeal.defs (F := Ideal)) (onTc (τ := Cert.SibSumIdeal.τ) (Cert.SibSumIdeal.main (F := Ideal))) ⟨m, fun _ => 0, g⟩ (fun r => (∀ c : Dev Cert.SibSumIdeal.nD,
      r.2.mem ((c.tc : Thread Cert.SibSumIdeal.nD Cert.SibSumIdeal.τ).loc Cert.SibSumIdeal.main_arg0) = m ((c.tc : Thread Cert.SibSumIdeal.nD Cert.SibSumIdeal.τ).loc Cert.SibSumIdeal.main_arg0)
      ∧ r.2.mem ((c.tc : Thread Cert.SibSumIdeal.nD Cert.SibSumIdeal.τ).loc Cert.SibSumIdeal.main_arg1) = m ((c.tc : Thread Cert.SibSumIdeal.nD Cert.SibSumIdeal.τ).loc Cert.SibSumIdeal.main_arg1))
      ∧ r.2.sem = fun _ => 0)

def quiescent_SibSumRefIdeal [hSibSumRefIdeal : Cert.SibSumRefIdeal.Facts] : Prop :=
  ∀ (m : (ℓ : Loc Cert.SibSumRefIdeal.nD Cert.SibSumRefIdeal.τ Cert.SibSumRefIdeal.sig) → Buf (Elt Ideal) ℓ) (g : Dev Cert.SibSumRefIdeal.nD → PrngReg), Pre_SibSumRefIdeal m →
    θ_run (Cert.SibSumRefIdeal.defs (F := Ideal)) (onTc (τ := Cert.SibSumRefIdeal.τ) (Cert.SibSumRefIdeal.main (F := Ideal))) ⟨m, fun _ => 0, g⟩ (fun r => (∀ c : Dev Cert.SibSumRefIdeal.nD,
      r.2.mem ((c.tc : Thread Cert.SibSumRefIdeal.nD Cert.SibSumRefIdeal.τ).loc Cert.SibSumRefIdeal.main_arg0) = m ((c.tc : Thread Cert.SibSumRefIdeal.nD Cert.SibSumRefIdeal.τ).loc Cert.SibSumRefIdeal.main_arg0)
      ∧ r.2.mem ((c.tc : Thread Cert.SibSumRefIdeal.nD Cert.SibSumRefIdeal.τ).loc Cert.SibSumRefIdeal.main_arg1) = m ((c.tc : Thread Cert.SibSumRefIdeal.nD Cert.SibSumRefIdeal.τ).loc Cert.SibSumRefIdeal.main_arg1))
      ∧ r.2.sem = fun _ => 0)

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v79) = v0 c
          ∧ r.2.mem ((c.tc : Thread Cert.ConvRefIdeal.nD Cert.ConvRefIdeal.τ).loc Cert.ConvRefIdeal.main_v71) = v1 c
          ∧ r.2.mem ((c.tc : Thread Cert.ConvRefIdeal.nD Cert.ConvRefIdeal.τ).loc Cert.ConvRefIdeal.main_v42) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v33_0)) (v1 : (c : Dev Cert.AttnIdeal.nD) → Buf (Elt Ideal) ((c.tc : Thread Cert.AttnIdeal.nD Cert.AttnIdeal.τ).loc Cert.AttnIdeal.main_v33_1)) (v2 : (c : Dev Cert.AttnIdeal.nD) → Buf (Elt Ideal) ((c.tc : Thread Cert.AttnIdeal.nD Cert.AttnIdeal.τ).loc Cert.AttnIdeal.main_v33_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v33_0) = v0 c
          ∧ r.2.mem ((c.tc : Thread Cert.AttnIdeal.nD Cert.AttnIdeal.τ).loc Cert.AttnIdeal.main_v33_1) = v1 c
          ∧ r.2.mem ((c.tc : Thread Cert.AttnIdeal.nD Cert.AttnIdeal.τ).loc Cert.AttnIdeal.main_v33_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v58) = v0 c
          ∧ r.2.mem ((c.tc : Thread Cert.AttnRefIdeal.nD Cert.AttnRefIdeal.τ).loc Cert.AttnRefIdeal.main_v59) = v1 c
          ∧ r.2.mem ((c.tc : Thread Cert.AttnRefIdeal.nD Cert.AttnRefIdeal.τ).loc Cert.AttnRefIdeal.main_v60) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_v18) = v2 c
          ∧ r.2.mem ((c.tc : Thread Cert.GateRefIdeal.nD Cert.GateRefIdeal.τ).loc Cert.GateRefIdeal.main_v14) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v59) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v37) = v3 c
          ∧ r.2.mem ((c.tc : Thread Cert.LossRefIdeal.nD Cert.LossRefIdeal.τ).loc Cert.LossRefIdeal.main_v58) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Ln_LnIdeal : Prop :=
  True

def algebraic_LnIdeal_LnRefIdeal_pre_ln_finite [hLnIdeal : Cert.LnIdeal.Facts] [hLnRefIdeal : Cert.LnRefIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_ln_finite m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)
      ∧ m' ((c.tc : Thread Cert.LnRefIdeal.nD Cert.LnRefIdeal.τ).loc Cert.LnRefIdeal.main_arg6) = m ((c.tc : Thread Cert.LnIdeal.nD Cert.LnIdeal.τ).loc Cert.LnIdeal.main_arg6)
      ∧ m' ((c.tc : Thread Cert.LnRefIdeal.nD Cert.LnRefIdeal.τ).loc Cert.LnRefIdeal.main_arg7) = m ((c.tc : Thread Cert.LnIdeal.nD Cert.LnIdeal.τ).loc Cert.LnIdeal.main_arg7)
      ∧ m' ((c.tc : Thread Cert.LnRefIdeal.nD Cert.LnRefIdeal.τ).loc Cert.LnRefIdeal.main_arg8) = m ((c.tc : Thread Cert.LnIdeal.nD Cert.LnIdeal.τ).loc Cert.LnIdeal.main_arg8)) →
    ∃ (v0 : (c : Dev Cert.LnIdeal.nD) → Buf (Elt Ideal) ((c.tc : Thread Cert.LnIdeal.nD Cert.LnIdeal.τ).loc Cert.LnIdeal.main_v1_0)) (v1 : (c : Dev Cert.LnIdeal.nD) → Buf (Elt Ideal) ((c.tc : Thread Cert.LnIdeal.nD Cert.LnIdeal.τ).loc Cert.LnIdeal.main_v1_1)) (v2 : (c : Dev Cert.LnIdeal.nD) → Buf (Elt Ideal) ((c.tc : Thread Cert.LnIdeal.nD Cert.LnIdeal.τ).loc Cert.LnIdeal.main_v1_2)) (v3 : (c : Dev Cert.LnIdeal.nD) → Buf (Elt Ideal) ((c.tc : Thread Cert.LnIdeal.nD Cert.LnIdeal.τ).loc Cert.LnIdeal.main_v1_3)) (v4 : (c : Dev Cert.LnIdeal.nD) → Buf (Elt Ideal) ((c.tc : Thread Cert.LnIdeal.nD Cert.LnIdeal.τ).loc Cert.LnIdeal.main_v1_4)) (v5 : (c : Dev Cert.LnIdeal.nD) → Buf (Elt Ideal) ((c.tc : Thread Cert.LnIdeal.nD Cert.LnIdeal.τ).loc Cert.LnIdeal.main_v1_5)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v1_0) = v0 c
          ∧ r.2.mem ((c.tc : Thread Cert.LnIdeal.nD Cert.LnIdeal.τ).loc Cert.LnIdeal.main_v1_1) = v1 c
          ∧ r.2.mem ((c.tc : Thread Cert.LnIdeal.nD Cert.LnIdeal.τ).loc Cert.LnIdeal.main_v1_2) = v2 c
          ∧ r.2.mem ((c.tc : Thread Cert.LnIdeal.nD Cert.LnIdeal.τ).loc Cert.LnIdeal.main_v1_3) = v3 c
          ∧ r.2.mem ((c.tc : Thread Cert.LnIdeal.nD Cert.LnIdeal.τ).loc Cert.LnIdeal.main_v1_4) = v4 c
          ∧ r.2.mem ((c.tc : Thread Cert.LnIdeal.nD Cert.LnIdeal.τ).loc Cert.LnIdeal.main_v1_5) = v5 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
          ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
          ∧ r.2.mem ((c.tc : Thread Cert.LnIdeal.nD Cert.LnIdeal.τ).loc Cert.LnIdeal.main_arg7) = m ((c.tc : Thread Cert.LnIdeal.nD Cert.LnIdeal.τ).loc Cert.LnIdeal.main_arg7)
          ∧ r.2.mem ((c.tc : Thread Cert.LnIdeal.nD Cert.LnIdeal.τ).loc Cert.LnIdeal.main_arg8) = m ((c.tc : Thread Cert.LnIdeal.nD Cert.LnIdeal.τ).loc Cert.LnIdeal.main_arg8))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v58) = v0 c
          ∧ r.2.mem ((c.tc : Thread Cert.LnRefIdeal.nD Cert.LnRefIdeal.τ).loc Cert.LnRefIdeal.main_v33) = v1 c
          ∧ r.2.mem ((c.tc : Thread Cert.LnRefIdeal.nD Cert.LnRefIdeal.τ).loc Cert.LnRefIdeal.main_v36) = v2 c
          ∧ r.2.mem ((c.tc : Thread Cert.LnRefIdeal.nD Cert.LnRefIdeal.τ).loc Cert.LnRefIdeal.main_v41) = v3 c
          ∧ r.2.mem ((c.tc : Thread Cert.LnRefIdeal.nD Cert.LnRefIdeal.τ).loc Cert.LnRefIdeal.main_v65) = v4 c
          ∧ r.2.mem ((c.tc : Thread Cert.LnRefIdeal.nD Cert.LnRefIdeal.τ).loc Cert.LnRefIdeal.main_v64) = v5 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5)
          ∧ r.2.mem ((c.tc : Thread Cert.LnRefIdeal.nD Cert.LnRefIdeal.τ).loc Cert.LnRefIdeal.main_arg6) = m' ((c.tc : Thread Cert.LnRefIdeal.nD Cert.LnRefIdeal.τ).loc Cert.LnRefIdeal.main_arg6)
          ∧ r.2.mem ((c.tc : Thread Cert.LnRefIdeal.nD Cert.LnRefIdeal.τ).loc Cert.LnRefIdeal.main_arg7) = m' ((c.tc : Thread Cert.LnRefIdeal.nD Cert.LnRefIdeal.τ).loc Cert.LnRefIdeal.main_arg7)
          ∧ r.2.mem ((c.tc : Thread Cert.LnRefIdeal.nD Cert.LnRefIdeal.τ).loc Cert.LnRefIdeal.main_arg8) = m' ((c.tc : Thread Cert.LnRefIdeal.nD Cert.LnRefIdeal.τ).loc Cert.LnRefIdeal.main_arg8))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v1_0)) (v1 : (c : Dev Cert.PoolIdeal.nD) → Buf (Elt Ideal) ((c.tc : Thread Cert.PoolIdeal.nD Cert.PoolIdeal.τ).loc Cert.PoolIdeal.main_v1_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1_0) = v0 c
          ∧ r.2.mem ((c.tc : Thread Cert.PoolIdeal.nD Cert.PoolIdeal.τ).loc Cert.PoolIdeal.main_v1_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v136) = v0 c
          ∧ r.2.mem ((c.tc : Thread Cert.PoolRefIdeal.nD Cert.PoolRefIdeal.τ).loc Cert.PoolRefIdeal.main_v79) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_In_InIdeal : Prop :=
  True

def algebraic_InIdeal_InRefIdeal_pre_pin0_finite [hInIdeal : Cert.InIdeal.Facts] [hInRefIdeal : Cert.InRefIdeal.Facts] [hPre_pin0_finite : Cert.Pre_pin0_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_pin0_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)) (v2 : (c : Dev Cert.InIdeal.nD) → Buf (Elt Ideal) ((c.tc : Thread Cert.InIdeal.nD Cert.InIdeal.τ).loc Cert.InIdeal.main_v1_2)) (v3 : (c : Dev Cert.InIdeal.nD) → Buf (Elt Ideal) ((c.tc : Thread Cert.InIdeal.nD Cert.InIdeal.τ).loc Cert.InIdeal.main_v1_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_v1_2) = v2 c
          ∧ r.2.mem ((c.tc : Thread Cert.InIdeal.nD Cert.InIdeal.τ).loc Cert.InIdeal.main_v1_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v63) = v0 c
          ∧ r.2.mem ((c.tc : Thread Cert.InRefIdeal.nD Cert.InRefIdeal.τ).loc Cert.InRefIdeal.main_v38) = v1 c
          ∧ r.2.mem ((c.tc : Thread Cert.InRefIdeal.nD Cert.InRefIdeal.τ).loc Cert.InRefIdeal.main_v41) = v2 c
          ∧ r.2.mem ((c.tc : Thread Cert.InRefIdeal.nD Cert.InRefIdeal.τ).loc Cert.InRefIdeal.main_v46) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10))

def preserves_AttnFwd_AttnFwdIdeal : Prop :=
  True

def algebraic_AttnFwdIdeal_AttnFwdRefIdeal_pre_attnf_finite [hAttnFwdIdeal : Cert.AttnFwdIdeal.Facts] [hAttnFwdRefIdeal : Cert.AttnFwdRefIdeal.Facts] [hPre_attnf_finite : Cert.Pre_attnf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attnf_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v32) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0))

def preserves_PoolFwd_PoolFwdIdeal : Prop :=
  True

def algebraic_PoolFwdIdeal_PoolFwdRefIdeal_pre_poolf_finite [hPoolFwdIdeal : Cert.PoolFwdIdeal.Facts] [hPoolFwdRefIdeal : Cert.PoolFwdRefIdeal.Facts] [hPre_poolf_finite : Cert.Pre_poolf_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_poolf_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)) →
    ∃ (v0 : (c : Dev Cert.PoolFwdIdeal.nD) → Buf (Elt Ideal) ((c.tc : Thread Cert.PoolFwdIdeal.nD Cert.PoolFwdIdeal.τ).loc Cert.PoolFwdIdeal.main_v0_0)) (v1 : (c : Dev Cert.PoolFwdIdeal.nD) → Buf (Elt Ideal) ((c.tc : Thread Cert.PoolFwdIdeal.nD Cert.PoolFwdIdeal.τ).loc Cert.PoolFwdIdeal.main_v0_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0_0) = v0 c
          ∧ r.2.mem ((c.tc : Thread Cert.PoolFwdIdeal.nD Cert.PoolFwdIdeal.τ).loc Cert.PoolFwdIdeal.main_v0_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v66) = v0 c
          ∧ r.2.mem ((c.tc : Thread Cert.PoolFwdRefIdeal.nD Cert.PoolFwdRefIdeal.τ).loc Cert.PoolFwdRefIdeal.main_v133) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v7) = v0 c
          ∧ r.2.mem ((c.tc : Thread Cert.GateFwdRefIdeal.nD Cert.GateFwdRefIdeal.τ).loc Cert.GateFwdRefIdeal.main_v8) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v35) = v0 c
          ∧ r.2.mem ((c.tc : Thread Cert.ConvFwdRefIdeal.nD Cert.ConvFwdRefIdeal.τ).loc Cert.ConvFwdRefIdeal.main_v36) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v0_0)) (v1 : (c : Dev Cert.ModIdeal.nD) → Buf (Elt Ideal) ((c.tc : Thread Cert.ModIdeal.nD Cert.ModIdeal.τ).loc Cert.ModIdeal.main_v0_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0_0) = v0 c
          ∧ r.2.mem ((c.tc : Thread Cert.ModIdeal.nD Cert.ModIdeal.τ).loc Cert.ModIdeal.main_v0_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v18) = v0 c
          ∧ r.2.mem ((c.tc : Thread Cert.ModRefIdeal.nD Cert.ModRefIdeal.τ).loc Cert.ModRefIdeal.main_v19) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_ModResid_ModResidIdeal : Prop :=
  True

def algebraic_ModResidIdeal_ModResidRefIdeal [hModResidIdeal : Cert.ModResidIdeal.Facts] [hModResidRefIdeal : Cert.ModResidRefIdeal.Facts] : Prop :=
  ∀ (m : (ℓ : Loc Cert.ModResidIdeal.nD Cert.ModResidIdeal.τ Cert.ModResidIdeal.sig) → Buf (Elt Ideal) ℓ) (g : Dev Cert.ModResidIdeal.nD → PrngReg)
    (m' : (ℓ : Loc Cert.ModResidRefIdeal.nD Cert.ModResidRefIdeal.τ Cert.ModResidRefIdeal.sig) → Buf (Elt Ideal) ℓ) (g' : Dev Cert.ModResidRefIdeal.nD → PrngReg), Pre_ModResidIdeal m →
    (∀ c : Dev Cert.ModResidIdeal.nD,
      m' ((c.tc : Thread Cert.ModResidRefIdeal.nD Cert.ModResidRefIdeal.τ).loc Cert.ModResidRefIdeal.main_arg0) = m ((c.tc : Thread Cert.ModResidIdeal.nD Cert.ModResidIdeal.τ).loc Cert.ModResidIdeal.main_arg0)
      ∧ m' ((c.tc : Thread Cert.ModResidRefIdeal.nD Cert.ModResidRefIdeal.τ).loc Cert.ModResidRefIdeal.main_arg1) = m ((c.tc : Thread Cert.ModResidIdeal.nD Cert.ModResidIdeal.τ).loc Cert.ModResidIdeal.main_arg1)
      ∧ m' ((c.tc : Thread Cert.ModResidRefIdeal.nD Cert.ModResidRefIdeal.τ).loc Cert.ModResidRefIdeal.main_arg2) = m ((c.tc : Thread Cert.ModResidIdeal.nD Cert.ModResidIdeal.τ).loc Cert.ModResidIdeal.main_arg2)
      ∧ m' ((c.tc : Thread Cert.ModResidRefIdeal.nD Cert.ModResidRefIdeal.τ).loc Cert.ModResidRefIdeal.main_arg3) = m ((c.tc : Thread Cert.ModResidIdeal.nD Cert.ModResidIdeal.τ).loc Cert.ModResidIdeal.main_arg3)
      ∧ m' ((c.tc : Thread Cert.ModResidRefIdeal.nD Cert.ModResidRefIdeal.τ).loc Cert.ModResidRefIdeal.main_arg4) = m ((c.tc : Thread Cert.ModResidIdeal.nD Cert.ModResidIdeal.τ).loc Cert.ModResidIdeal.main_arg4)
      ∧ m' ((c.tc : Thread Cert.ModResidRefIdeal.nD Cert.ModResidRefIdeal.τ).loc Cert.ModResidRefIdeal.main_arg5) = m ((c.tc : Thread Cert.ModResidIdeal.nD Cert.ModResidIdeal.τ).loc Cert.ModResidIdeal.main_arg5)) →
    ∃ (v0 : (c : Dev Cert.ModResidIdeal.nD) → Buf (Elt Ideal) ((c.tc : Thread Cert.ModResidIdeal.nD Cert.ModResidIdeal.τ).loc Cert.ModResidIdeal.main_v0_0)) (v1 : (c : Dev Cert.ModResidIdeal.nD) → Buf (Elt Ideal) ((c.tc : Thread Cert.ModResidIdeal.nD Cert.ModResidIdeal.τ).loc Cert.ModResidIdeal.main_v0_1)) (v2 : (c : Dev Cert.ModResidIdeal.nD) → Buf (Elt Ideal) ((c.tc : Thread Cert.ModResidIdeal.nD Cert.ModResidIdeal.τ).loc Cert.ModResidIdeal.main_v0_2)),
      θ_run (Cert.ModResidIdeal.defs (F := Ideal)) (onTc (τ := Cert.ModResidIdeal.τ) (Cert.ModResidIdeal.main (F := Ideal))) ⟨m, fun _ => 0, g⟩ (fun r => ∀ c : Dev Cert.ModResidIdeal.nD,
          r.2.mem ((c.tc : Thread Cert.ModResidIdeal.nD Cert.ModResidIdeal.τ).loc Cert.ModResidIdeal.main_v0_0) = v0 c
          ∧ r.2.mem ((c.tc : Thread Cert.ModResidIdeal.nD Cert.ModResidIdeal.τ).loc Cert.ModResidIdeal.main_v0_1) = v1 c
          ∧ r.2.mem ((c.tc : Thread Cert.ModResidIdeal.nD Cert.ModResidIdeal.τ).loc Cert.ModResidIdeal.main_v0_2) = v2 c
          ∧ r.2.mem ((c.tc : Thread Cert.ModResidIdeal.nD Cert.ModResidIdeal.τ).loc Cert.ModResidIdeal.main_arg0) = m ((c.tc : Thread Cert.ModResidIdeal.nD Cert.ModResidIdeal.τ).loc Cert.ModResidIdeal.main_arg0)
          ∧ r.2.mem ((c.tc : Thread Cert.ModResidIdeal.nD Cert.ModResidIdeal.τ).loc Cert.ModResidIdeal.main_arg1) = m ((c.tc : Thread Cert.ModResidIdeal.nD Cert.ModResidIdeal.τ).loc Cert.ModResidIdeal.main_arg1)
          ∧ r.2.mem ((c.tc : Thread Cert.ModResidIdeal.nD Cert.ModResidIdeal.τ).loc Cert.ModResidIdeal.main_arg2) = m ((c.tc : Thread Cert.ModResidIdeal.nD Cert.ModResidIdeal.τ).loc Cert.ModResidIdeal.main_arg2)
          ∧ r.2.mem ((c.tc : Thread Cert.ModResidIdeal.nD Cert.ModResidIdeal.τ).loc Cert.ModResidIdeal.main_arg3) = m ((c.tc : Thread Cert.ModResidIdeal.nD Cert.ModResidIdeal.τ).loc Cert.ModResidIdeal.main_arg3)
          ∧ r.2.mem ((c.tc : Thread Cert.ModResidIdeal.nD Cert.ModResidIdeal.τ).loc Cert.ModResidIdeal.main_arg4) = m ((c.tc : Thread Cert.ModResidIdeal.nD Cert.ModResidIdeal.τ).loc Cert.ModResidIdeal.main_arg4)
          ∧ r.2.mem ((c.tc : Thread Cert.ModResidIdeal.nD Cert.ModResidIdeal.τ).loc Cert.ModResidIdeal.main_arg5) = m ((c.tc : Thread Cert.ModResidIdeal.nD Cert.ModResidIdeal.τ).loc Cert.ModResidIdeal.main_arg5))
      ∧ θ_run (Cert.ModResidRefIdeal.defs (F := Ideal)) (onTc (τ := Cert.ModResidRefIdeal.τ) (Cert.ModResidRefIdeal.main (F := Ideal))) ⟨m', fun _ => 0, g'⟩ (fun r => ∀ c : Dev Cert.ModResidRefIdeal.nD,
          r.2.mem ((c.tc : Thread Cert.ModResidRefIdeal.nD Cert.ModResidRefIdeal.τ).loc Cert.ModResidRefIdeal.main_v4) = v0 c
          ∧ r.2.mem ((c.tc : Thread Cert.ModResidRefIdeal.nD Cert.ModResidRefIdeal.τ).loc Cert.ModResidRefIdeal.main_v23) = v1 c
          ∧ r.2.mem ((c.tc : Thread Cert.ModResidRefIdeal.nD Cert.ModResidRefIdeal.τ).loc Cert.ModResidRefIdeal.main_v24) = v2 c
          ∧ r.2.mem ((c.tc : Thread Cert.ModResidRefIdeal.nD Cert.ModResidRefIdeal.τ).loc Cert.ModResidRefIdeal.main_arg0) = m' ((c.tc : Thread Cert.ModResidRefIdeal.nD Cert.ModResidRefIdeal.τ).loc Cert.ModResidRefIdeal.main_arg0)
          ∧ r.2.mem ((c.tc : Thread Cert.ModResidRefIdeal.nD Cert.ModResidRefIdeal.τ).loc Cert.ModResidRefIdeal.main_arg1) = m' ((c.tc : Thread Cert.ModResidRefIdeal.nD Cert.ModResidRefIdeal.τ).loc Cert.ModResidRefIdeal.main_arg1)
          ∧ r.2.mem ((c.tc : Thread Cert.ModResidRefIdeal.nD Cert.ModResidRefIdeal.τ).loc Cert.ModResidRefIdeal.main_arg2) = m' ((c.tc : Thread Cert.ModResidRefIdeal.nD Cert.ModResidRefIdeal.τ).loc Cert.ModResidRefIdeal.main_arg2)
          ∧ r.2.mem ((c.tc : Thread Cert.ModResidRefIdeal.nD Cert.ModResidRefIdeal.τ).loc Cert.ModResidRefIdeal.main_arg3) = m' ((c.tc : Thread Cert.ModResidRefIdeal.nD Cert.ModResidRefIdeal.τ).loc Cert.ModResidRefIdeal.main_arg3)
          ∧ r.2.mem ((c.tc : Thread Cert.ModResidRefIdeal.nD Cert.ModResidRefIdeal.τ).loc Cert.ModResidRefIdeal.main_arg4) = m' ((c.tc : Thread Cert.ModResidRefIdeal.nD Cert.ModResidRefIdeal.τ).loc Cert.ModResidRefIdeal.main_arg4)
          ∧ r.2.mem ((c.tc : Thread Cert.ModResidRefIdeal.nD Cert.ModResidRefIdeal.τ).loc Cert.ModResidRefIdeal.main_arg5) = m' ((c.tc : Thread Cert.ModResidRefIdeal.nD Cert.ModResidRefIdeal.τ).loc Cert.ModResidRefIdeal.main_arg5))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v0) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_ProjOutBwd_ProjOutBwdIdeal : Prop :=
  True

def algebraic_ProjOutBwdIdeal_ProjOutBwdRefIdeal [hProjOutBwdIdeal : Cert.ProjOutBwdIdeal.Facts] [hProjOutBwdRefIdeal : Cert.ProjOutBwdRefIdeal.Facts] : Prop :=
  ∀ (m : (ℓ : Loc Cert.ProjOutBwdIdeal.nD Cert.ProjOutBwdIdeal.τ Cert.ProjOutBwdIdeal.sig) → Buf (Elt Ideal) ℓ) (g : Dev Cert.ProjOutBwdIdeal.nD → PrngReg)
    (m' : (ℓ : Loc Cert.ProjOutBwdRefIdeal.nD Cert.ProjOutBwdRefIdeal.τ Cert.ProjOutBwdRefIdeal.sig) → Buf (Elt Ideal) ℓ) (g' : Dev Cert.ProjOutBwdRefIdeal.nD → PrngReg), Pre_ProjOutBwdIdeal m →
    (∀ c : Dev Cert.ProjOutBwdIdeal.nD,
      m' ((c.tc : Thread Cert.ProjOutBwdRefIdeal.nD Cert.ProjOutBwdRefIdeal.τ).loc Cert.ProjOutBwdRefIdeal.main_arg0) = m ((c.tc : Thread Cert.ProjOutBwdIdeal.nD Cert.ProjOutBwdIdeal.τ).loc Cert.ProjOutBwdIdeal.main_arg0)
      ∧ m' ((c.tc : Thread Cert.ProjOutBwdRefIdeal.nD Cert.ProjOutBwdRefIdeal.τ).loc Cert.ProjOutBwdRefIdeal.main_arg1) = m ((c.tc : Thread Cert.ProjOutBwdIdeal.nD Cert.ProjOutBwdIdeal.τ).loc Cert.ProjOutBwdIdeal.main_arg1)) →
    ∃ (v0 : (c : Dev Cert.ProjOutBwdIdeal.nD) → Buf (Elt Ideal) ((c.tc : Thread Cert.ProjOutBwdIdeal.nD Cert.ProjOutBwdIdeal.τ).loc Cert.ProjOutBwdIdeal.main_v0)),
      θ_run (Cert.ProjOutBwdIdeal.defs (F := Ideal)) (onTc (τ := Cert.ProjOutBwdIdeal.τ) (Cert.ProjOutBwdIdeal.main (F := Ideal))) ⟨m, fun _ => 0, g⟩ (fun r => ∀ c : Dev Cert.ProjOutBwdIdeal.nD,
          r.2.mem ((c.tc : Thread Cert.ProjOutBwdIdeal.nD Cert.ProjOutBwdIdeal.τ).loc Cert.ProjOutBwdIdeal.main_v0) = v0 c
          ∧ r.2.mem ((c.tc : Thread Cert.ProjOutBwdIdeal.nD Cert.ProjOutBwdIdeal.τ).loc Cert.ProjOutBwdIdeal.main_arg0) = m ((c.tc : Thread Cert.ProjOutBwdIdeal.nD Cert.ProjOutBwdIdeal.τ).loc Cert.ProjOutBwdIdeal.main_arg0)
          ∧ r.2.mem ((c.tc : Thread Cert.ProjOutBwdIdeal.nD Cert.ProjOutBwdIdeal.τ).loc Cert.ProjOutBwdIdeal.main_arg1) = m ((c.tc : Thread Cert.ProjOutBwdIdeal.nD Cert.ProjOutBwdIdeal.τ).loc Cert.ProjOutBwdIdeal.main_arg1))
      ∧ θ_run (Cert.ProjOutBwdRefIdeal.defs (F := Ideal)) (onTc (τ := Cert.ProjOutBwdRefIdeal.τ) (Cert.ProjOutBwdRefIdeal.main (F := Ideal))) ⟨m', fun _ => 0, g'⟩ (fun r => ∀ c : Dev Cert.ProjOutBwdRefIdeal.nD,
          r.2.mem ((c.tc : Thread Cert.ProjOutBwdRefIdeal.nD Cert.ProjOutBwdRefIdeal.τ).loc Cert.ProjOutBwdRefIdeal.main_v1) = v0 c
          ∧ r.2.mem ((c.tc : Thread Cert.ProjOutBwdRefIdeal.nD Cert.ProjOutBwdRefIdeal.τ).loc Cert.ProjOutBwdRefIdeal.main_arg0) = m' ((c.tc : Thread Cert.ProjOutBwdRefIdeal.nD Cert.ProjOutBwdRefIdeal.τ).loc Cert.ProjOutBwdRefIdeal.main_arg0)
          ∧ r.2.mem ((c.tc : Thread Cert.ProjOutBwdRefIdeal.nD Cert.ProjOutBwdRefIdeal.τ).loc Cert.ProjOutBwdRefIdeal.main_arg1) = m' ((c.tc : Thread Cert.ProjOutBwdRefIdeal.nD Cert.ProjOutBwdRefIdeal.τ).loc Cert.ProjOutBwdRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v1)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v1) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v2) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v2) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v1) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v1)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v1) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v4) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_SumAdam_SumAdamIdeal : Prop :=
  True

def algebraic_SumAdamIdeal_SumAdamRefIdeal [hSumAdamIdeal : Cert.SumAdamIdeal.Facts] [hSumAdamRefIdeal : Cert.SumAdamRefIdeal.Facts] : Prop :=
  ∀ (m : (ℓ : Loc Cert.SumAdamIdeal.nD Cert.SumAdamIdeal.τ Cert.SumAdamIdeal.sig) → Buf (Elt Ideal) ℓ) (g : Dev Cert.SumAdamIdeal.nD → PrngReg)
    (m' : (ℓ : Loc Cert.SumAdamRefIdeal.nD Cert.SumAdamRefIdeal.τ Cert.SumAdamRefIdeal.sig) → Buf (Elt Ideal) ℓ) (g' : Dev Cert.SumAdamRefIdeal.nD → PrngReg), Pre_SumAdamIdeal m →
    (∀ c : Dev Cert.SumAdamIdeal.nD,
      m' ((c.tc : Thread Cert.SumAdamRefIdeal.nD Cert.SumAdamRefIdeal.τ).loc Cert.SumAdamRefIdeal.main_arg0) = m ((c.tc : Thread Cert.SumAdamIdeal.nD Cert.SumAdamIdeal.τ).loc Cert.SumAdamIdeal.main_arg0)
      ∧ m' ((c.tc : Thread Cert.SumAdamRefIdeal.nD Cert.SumAdamRefIdeal.τ).loc Cert.SumAdamRefIdeal.main_arg1) = m ((c.tc : Thread Cert.SumAdamIdeal.nD Cert.SumAdamIdeal.τ).loc Cert.SumAdamIdeal.main_arg1)
      ∧ m' ((c.tc : Thread Cert.SumAdamRefIdeal.nD Cert.SumAdamRefIdeal.τ).loc Cert.SumAdamRefIdeal.main_arg2) = m ((c.tc : Thread Cert.SumAdamIdeal.nD Cert.SumAdamIdeal.τ).loc Cert.SumAdamIdeal.main_arg2)
      ∧ m' ((c.tc : Thread Cert.SumAdamRefIdeal.nD Cert.SumAdamRefIdeal.τ).loc Cert.SumAdamRefIdeal.main_arg3) = m ((c.tc : Thread Cert.SumAdamIdeal.nD Cert.SumAdamIdeal.τ).loc Cert.SumAdamIdeal.main_arg3)) →
    ∃ (v0 : (c : Dev Cert.SumAdamIdeal.nD) → Buf (Elt Ideal) ((c.tc : Thread Cert.SumAdamIdeal.nD Cert.SumAdamIdeal.τ).loc Cert.SumAdamIdeal.main_v0_0)) (v1 : (c : Dev Cert.SumAdamIdeal.nD) → Buf (Elt Ideal) ((c.tc : Thread Cert.SumAdamIdeal.nD Cert.SumAdamIdeal.τ).loc Cert.SumAdamIdeal.main_v0_1)) (v2 : (c : Dev Cert.SumAdamIdeal.nD) → Buf (Elt Ideal) ((c.tc : Thread Cert.SumAdamIdeal.nD Cert.SumAdamIdeal.τ).loc Cert.SumAdamIdeal.main_v0_2)) (v3 : (c : Dev Cert.SumAdamIdeal.nD) → Buf (Elt Ideal) ((c.tc : Thread Cert.SumAdamIdeal.nD Cert.SumAdamIdeal.τ).loc Cert.SumAdamIdeal.main_v0_3)),
      θ_run (Cert.SumAdamIdeal.defs (F := Ideal)) (onTc (τ := Cert.SumAdamIdeal.τ) (Cert.SumAdamIdeal.main (F := Ideal))) ⟨m, fun _ => 0, g⟩ (fun r => ∀ c : Dev Cert.SumAdamIdeal.nD,
          r.2.mem ((c.tc : Thread Cert.SumAdamIdeal.nD Cert.SumAdamIdeal.τ).loc Cert.SumAdamIdeal.main_v0_0) = v0 c
          ∧ r.2.mem ((c.tc : Thread Cert.SumAdamIdeal.nD Cert.SumAdamIdeal.τ).loc Cert.SumAdamIdeal.main_v0_1) = v1 c
          ∧ r.2.mem ((c.tc : Thread Cert.SumAdamIdeal.nD Cert.SumAdamIdeal.τ).loc Cert.SumAdamIdeal.main_v0_2) = v2 c
          ∧ r.2.mem ((c.tc : Thread Cert.SumAdamIdeal.nD Cert.SumAdamIdeal.τ).loc Cert.SumAdamIdeal.main_v0_3) = v3 c
          ∧ r.2.mem ((c.tc : Thread Cert.SumAdamIdeal.nD Cert.SumAdamIdeal.τ).loc Cert.SumAdamIdeal.main_arg0) = m ((c.tc : Thread Cert.SumAdamIdeal.nD Cert.SumAdamIdeal.τ).loc Cert.SumAdamIdeal.main_arg0)
          ∧ r.2.mem ((c.tc : Thread Cert.SumAdamIdeal.nD Cert.SumAdamIdeal.τ).loc Cert.SumAdamIdeal.main_arg1) = m ((c.tc : Thread Cert.SumAdamIdeal.nD Cert.SumAdamIdeal.τ).loc Cert.SumAdamIdeal.main_arg1)
          ∧ r.2.mem ((c.tc : Thread Cert.SumAdamIdeal.nD Cert.SumAdamIdeal.τ).loc Cert.SumAdamIdeal.main_arg2) = m ((c.tc : Thread Cert.SumAdamIdeal.nD Cert.SumAdamIdeal.τ).loc Cert.SumAdamIdeal.main_arg2)
          ∧ r.2.mem ((c.tc : Thread Cert.SumAdamIdeal.nD Cert.SumAdamIdeal.τ).loc Cert.SumAdamIdeal.main_arg3) = m ((c.tc : Thread Cert.SumAdamIdeal.nD Cert.SumAdamIdeal.τ).loc Cert.SumAdamIdeal.main_arg3))
      ∧ θ_run (Cert.SumAdamRefIdeal.defs (F := Ideal)) (onTc (τ := Cert.SumAdamRefIdeal.τ) (Cert.SumAdamRefIdeal.main (F := Ideal))) ⟨m', fun _ => 0, g'⟩ (fun r => ∀ c : Dev Cert.SumAdamRefIdeal.nD,
          r.2.mem ((c.tc : Thread Cert.SumAdamRefIdeal.nD Cert.SumAdamRefIdeal.τ).loc Cert.SumAdamRefIdeal.main_v1) = v0 c
          ∧ r.2.mem ((c.tc : Thread Cert.SumAdamRefIdeal.nD Cert.SumAdamRefIdeal.τ).loc Cert.SumAdamRefIdeal.main_v25) = v1 c
          ∧ r.2.mem ((c.tc : Thread Cert.SumAdamRefIdeal.nD Cert.SumAdamRefIdeal.τ).loc Cert.SumAdamRefIdeal.main_v6) = v2 c
          ∧ r.2.mem ((c.tc : Thread Cert.SumAdamRefIdeal.nD Cert.SumAdamRefIdeal.τ).loc Cert.SumAdamRefIdeal.main_v12) = v3 c
          ∧ r.2.mem ((c.tc : Thread Cert.SumAdamRefIdeal.nD Cert.SumAdamRefIdeal.τ).loc Cert.SumAdamRefIdeal.main_arg0) = m' ((c.tc : Thread Cert.SumAdamRefIdeal.nD Cert.SumAdamRefIdeal.τ).loc Cert.SumAdamRefIdeal.main_arg0)
          ∧ r.2.mem ((c.tc : Thread Cert.SumAdamRefIdeal.nD Cert.SumAdamRefIdeal.τ).loc Cert.SumAdamRefIdeal.main_arg1) = m' ((c.tc : Thread Cert.SumAdamRefIdeal.nD Cert.SumAdamRefIdeal.τ).loc Cert.SumAdamRefIdeal.main_arg1)
          ∧ r.2.mem ((c.tc : Thread Cert.SumAdamRefIdeal.nD Cert.SumAdamRefIdeal.τ).loc Cert.SumAdamRefIdeal.main_arg2) = m' ((c.tc : Thread Cert.SumAdamRefIdeal.nD Cert.SumAdamRefIdeal.τ).loc Cert.SumAdamRefIdeal.main_arg2)
          ∧ r.2.mem ((c.tc : Thread Cert.SumAdamRefIdeal.nD Cert.SumAdamRefIdeal.τ).loc Cert.SumAdamRefIdeal.main_arg3) = m' ((c.tc : Thread Cert.SumAdamRefIdeal.nD Cert.SumAdamRefIdeal.τ).loc Cert.SumAdamRefIdeal.main_arg3))

def preserves_AdaAdam_AdaAdamIdeal : Prop :=
  True

def algebraic_AdaAdamIdeal_AdaAdamRefIdeal [hAdaAdamIdeal : Cert.AdaAdamIdeal.Facts] [hAdaAdamRefIdeal : Cert.AdaAdamRefIdeal.Facts] : Prop :=
  ∀ (m : (ℓ : Loc Cert.AdaAdamIdeal.nD Cert.AdaAdamIdeal.τ Cert.AdaAdamIdeal.sig) → Buf (Elt Ideal) ℓ) (g : Dev Cert.AdaAdamIdeal.nD → PrngReg)
    (m' : (ℓ : Loc Cert.AdaAdamRefIdeal.nD Cert.AdaAdamRefIdeal.τ Cert.AdaAdamRefIdeal.sig) → Buf (Elt Ideal) ℓ) (g' : Dev Cert.AdaAdamRefIdeal.nD → PrngReg), Pre_AdaAdamIdeal m →
    (∀ c : Dev Cert.AdaAdamIdeal.nD,
      m' ((c.tc : Thread Cert.AdaAdamRefIdeal.nD Cert.AdaAdamRefIdeal.τ).loc Cert.AdaAdamRefIdeal.main_arg0) = m ((c.tc : Thread Cert.AdaAdamIdeal.nD Cert.AdaAdamIdeal.τ).loc Cert.AdaAdamIdeal.main_arg0)
      ∧ m' ((c.tc : Thread Cert.AdaAdamRefIdeal.nD Cert.AdaAdamRefIdeal.τ).loc Cert.AdaAdamRefIdeal.main_arg1) = m ((c.tc : Thread Cert.AdaAdamIdeal.nD Cert.AdaAdamIdeal.τ).loc Cert.AdaAdamIdeal.main_arg1)
      ∧ m' ((c.tc : Thread Cert.AdaAdamRefIdeal.nD Cert.AdaAdamRefIdeal.τ).loc Cert.AdaAdamRefIdeal.main_arg2) = m ((c.tc : Thread Cert.AdaAdamIdeal.nD Cert.AdaAdamIdeal.τ).loc Cert.AdaAdamIdeal.main_arg2)
      ∧ m' ((c.tc : Thread Cert.AdaAdamRefIdeal.nD Cert.AdaAdamRefIdeal.τ).loc Cert.AdaAdamRefIdeal.main_arg3) = m ((c.tc : Thread Cert.AdaAdamIdeal.nD Cert.AdaAdamIdeal.τ).loc Cert.AdaAdamIdeal.main_arg3)
      ∧ m' ((c.tc : Thread Cert.AdaAdamRefIdeal.nD Cert.AdaAdamRefIdeal.τ).loc Cert.AdaAdamRefIdeal.main_arg4) = m ((c.tc : Thread Cert.AdaAdamIdeal.nD Cert.AdaAdamIdeal.τ).loc Cert.AdaAdamIdeal.main_arg4)) →
    ∃ (v0 : (c : Dev Cert.AdaAdamIdeal.nD) → Buf (Elt Ideal) ((c.tc : Thread Cert.AdaAdamIdeal.nD Cert.AdaAdamIdeal.τ).loc Cert.AdaAdamIdeal.main_v1_0)) (v1 : (c : Dev Cert.AdaAdamIdeal.nD) → Buf (Elt Ideal) ((c.tc : Thread Cert.AdaAdamIdeal.nD Cert.AdaAdamIdeal.τ).loc Cert.AdaAdamIdeal.main_v1_1)) (v2 : (c : Dev Cert.AdaAdamIdeal.nD) → Buf (Elt Ideal) ((c.tc : Thread Cert.AdaAdamIdeal.nD Cert.AdaAdamIdeal.τ).loc Cert.AdaAdamIdeal.main_v1_2)) (v3 : (c : Dev Cert.AdaAdamIdeal.nD) → Buf (Elt Ideal) ((c.tc : Thread Cert.AdaAdamIdeal.nD Cert.AdaAdamIdeal.τ).loc Cert.AdaAdamIdeal.main_v1_3)),
      θ_run (Cert.AdaAdamIdeal.defs (F := Ideal)) (onTc (τ := Cert.AdaAdamIdeal.τ) (Cert.AdaAdamIdeal.main (F := Ideal))) ⟨m, fun _ => 0, g⟩ (fun r => ∀ c : Dev Cert.AdaAdamIdeal.nD,
          r.2.mem ((c.tc : Thread Cert.AdaAdamIdeal.nD Cert.AdaAdamIdeal.τ).loc Cert.AdaAdamIdeal.main_v1_0) = v0 c
          ∧ r.2.mem ((c.tc : Thread Cert.AdaAdamIdeal.nD Cert.AdaAdamIdeal.τ).loc Cert.AdaAdamIdeal.main_v1_1) = v1 c
          ∧ r.2.mem ((c.tc : Thread Cert.AdaAdamIdeal.nD Cert.AdaAdamIdeal.τ).loc Cert.AdaAdamIdeal.main_v1_2) = v2 c
          ∧ r.2.mem ((c.tc : Thread Cert.AdaAdamIdeal.nD Cert.AdaAdamIdeal.τ).loc Cert.AdaAdamIdeal.main_v1_3) = v3 c
          ∧ r.2.mem ((c.tc : Thread Cert.AdaAdamIdeal.nD Cert.AdaAdamIdeal.τ).loc Cert.AdaAdamIdeal.main_arg0) = m ((c.tc : Thread Cert.AdaAdamIdeal.nD Cert.AdaAdamIdeal.τ).loc Cert.AdaAdamIdeal.main_arg0)
          ∧ r.2.mem ((c.tc : Thread Cert.AdaAdamIdeal.nD Cert.AdaAdamIdeal.τ).loc Cert.AdaAdamIdeal.main_arg1) = m ((c.tc : Thread Cert.AdaAdamIdeal.nD Cert.AdaAdamIdeal.τ).loc Cert.AdaAdamIdeal.main_arg1)
          ∧ r.2.mem ((c.tc : Thread Cert.AdaAdamIdeal.nD Cert.AdaAdamIdeal.τ).loc Cert.AdaAdamIdeal.main_arg2) = m ((c.tc : Thread Cert.AdaAdamIdeal.nD Cert.AdaAdamIdeal.τ).loc Cert.AdaAdamIdeal.main_arg2)
          ∧ r.2.mem ((c.tc : Thread Cert.AdaAdamIdeal.nD Cert.AdaAdamIdeal.τ).loc Cert.AdaAdamIdeal.main_arg3) = m ((c.tc : Thread Cert.AdaAdamIdeal.nD Cert.AdaAdamIdeal.τ).loc Cert.AdaAdamIdeal.main_arg3)
          ∧ r.2.mem ((c.tc : Thread Cert.AdaAdamIdeal.nD Cert.AdaAdamIdeal.τ).loc Cert.AdaAdamIdeal.main_arg4) = m ((c.tc : Thread Cert.AdaAdamIdeal.nD Cert.AdaAdamIdeal.τ).loc Cert.AdaAdamIdeal.main_arg4))
      ∧ θ_run (Cert.AdaAdamRefIdeal.defs (F := Ideal)) (onTc (τ := Cert.AdaAdamRefIdeal.τ) (Cert.AdaAdamRefIdeal.main (F := Ideal))) ⟨m', fun _ => 0, g'⟩ (fun r => ∀ c : Dev Cert.AdaAdamRefIdeal.nD,
          r.2.mem ((c.tc : Thread Cert.AdaAdamRefIdeal.nD Cert.AdaAdamRefIdeal.τ).loc Cert.AdaAdamRefIdeal.main_v1) = v0 c
          ∧ r.2.mem ((c.tc : Thread Cert.AdaAdamRefIdeal.nD Cert.AdaAdamRefIdeal.τ).loc Cert.AdaAdamRefIdeal.main_v25) = v1 c
          ∧ r.2.mem ((c.tc : Thread Cert.AdaAdamRefIdeal.nD Cert.AdaAdamRefIdeal.τ).loc Cert.AdaAdamRefIdeal.main_v6) = v2 c
          ∧ r.2.mem ((c.tc : Thread Cert.AdaAdamRefIdeal.nD Cert.AdaAdamRefIdeal.τ).loc Cert.AdaAdamRefIdeal.main_v12) = v3 c
          ∧ r.2.mem ((c.tc : Thread Cert.AdaAdamRefIdeal.nD Cert.AdaAdamRefIdeal.τ).loc Cert.AdaAdamRefIdeal.main_arg0) = m' ((c.tc : Thread Cert.AdaAdamRefIdeal.nD Cert.AdaAdamRefIdeal.τ).loc Cert.AdaAdamRefIdeal.main_arg0)
          ∧ r.2.mem ((c.tc : Thread Cert.AdaAdamRefIdeal.nD Cert.AdaAdamRefIdeal.τ).loc Cert.AdaAdamRefIdeal.main_arg1) = m' ((c.tc : Thread Cert.AdaAdamRefIdeal.nD Cert.AdaAdamRefIdeal.τ).loc Cert.AdaAdamRefIdeal.main_arg1)
          ∧ r.2.mem ((c.tc : Thread Cert.AdaAdamRefIdeal.nD Cert.AdaAdamRefIdeal.τ).loc Cert.AdaAdamRefIdeal.main_arg2) = m' ((c.tc : Thread Cert.AdaAdamRefIdeal.nD Cert.AdaAdamRefIdeal.τ).loc Cert.AdaAdamRefIdeal.main_arg2)
          ∧ r.2.mem ((c.tc : Thread Cert.AdaAdamRefIdeal.nD Cert.AdaAdamRefIdeal.τ).loc Cert.AdaAdamRefIdeal.main_arg3) = m' ((c.tc : Thread Cert.AdaAdamRefIdeal.nD Cert.AdaAdamRefIdeal.τ).loc Cert.AdaAdamRefIdeal.main_arg3)
          ∧ r.2.mem ((c.tc : Thread Cert.AdaAdamRefIdeal.nD Cert.AdaAdamRefIdeal.τ).loc Cert.AdaAdamRefIdeal.main_arg4) = m' ((c.tc : Thread Cert.AdaAdamRefIdeal.nD Cert.AdaAdamRefIdeal.τ).loc Cert.AdaAdamRefIdeal.main_arg4))

def preserves_AdaForward_AdaForwardIdeal : Prop :=
  True

def algebraic_AdaForwardIdeal_AdaForwardRefIdeal [hAdaForwardIdeal : Cert.AdaForwardIdeal.Facts] [hAdaForwardRefIdeal : Cert.AdaForwardRefIdeal.Facts] : Prop :=
  ∀ (m : (ℓ : Loc Cert.AdaForwardIdeal.nD Cert.AdaForwardIdeal.τ Cert.AdaForwardIdeal.sig) → Buf (Elt Ideal) ℓ) (g : Dev Cert.AdaForwardIdeal.nD → PrngReg)
    (m' : (ℓ : Loc Cert.AdaForwardRefIdeal.nD Cert.AdaForwardRefIdeal.τ Cert.AdaForwardRefIdeal.sig) → Buf (Elt Ideal) ℓ) (g' : Dev Cert.AdaForwardRefIdeal.nD → PrngReg), Pre_AdaForwardIdeal m →
    (∀ c : Dev Cert.AdaForwardIdeal.nD,
      m' ((c.tc : Thread Cert.AdaForwardRefIdeal.nD Cert.AdaForwardRefIdeal.τ).loc Cert.AdaForwardRefIdeal.main_arg0) = m ((c.tc : Thread Cert.AdaForwardIdeal.nD Cert.AdaForwardIdeal.τ).loc Cert.AdaForwardIdeal.main_arg0)
      ∧ m' ((c.tc : Thread Cert.AdaForwardRefIdeal.nD Cert.AdaForwardRefIdeal.τ).loc Cert.AdaForwardRefIdeal.main_arg1) = m ((c.tc : Thread Cert.AdaForwardIdeal.nD Cert.AdaForwardIdeal.τ).loc Cert.AdaForwardIdeal.main_arg1)
      ∧ m' ((c.tc : Thread Cert.AdaForwardRefIdeal.nD Cert.AdaForwardRefIdeal.τ).loc Cert.AdaForwardRefIdeal.main_arg2) = m ((c.tc : Thread Cert.AdaForwardIdeal.nD Cert.AdaForwardIdeal.τ).loc Cert.AdaForwardIdeal.main_arg2)
      ∧ m' ((c.tc : Thread Cert.AdaForwardRefIdeal.nD Cert.AdaForwardRefIdeal.τ).loc Cert.AdaForwardRefIdeal.main_arg3) = m ((c.tc : Thread Cert.AdaForwardIdeal.nD Cert.AdaForwardIdeal.τ).loc Cert.AdaForwardIdeal.main_arg3)
      ∧ m' ((c.tc : Thread Cert.AdaForwardRefIdeal.nD Cert.AdaForwardRefIdeal.τ).loc Cert.AdaForwardRefIdeal.main_arg4) = m ((c.tc : Thread Cert.AdaForwardIdeal.nD Cert.AdaForwardIdeal.τ).loc Cert.AdaForwardIdeal.main_arg4)
      ∧ m' ((c.tc : Thread Cert.AdaForwardRefIdeal.nD Cert.AdaForwardRefIdeal.τ).loc Cert.AdaForwardRefIdeal.main_arg5) = m ((c.tc : Thread Cert.AdaForwardIdeal.nD Cert.AdaForwardIdeal.τ).loc Cert.AdaForwardIdeal.main_arg5)
      ∧ m' ((c.tc : Thread Cert.AdaForwardRefIdeal.nD Cert.AdaForwardRefIdeal.τ).loc Cert.AdaForwardRefIdeal.main_arg6) = m ((c.tc : Thread Cert.AdaForwardIdeal.nD Cert.AdaForwardIdeal.τ).loc Cert.AdaForwardIdeal.main_arg6)) →
    ∃ (v0 : (c : Dev Cert.AdaForwardIdeal.nD) → Buf (Elt Ideal) ((c.tc : Thread Cert.AdaForwardIdeal.nD Cert.AdaForwardIdeal.τ).loc Cert.AdaForwardIdeal.main_v0_0)) (v1 : (c : Dev Cert.AdaForwardIdeal.nD) → Buf (Elt Ideal) ((c.tc : Thread Cert.AdaForwardIdeal.nD Cert.AdaForwardIdeal.τ).loc Cert.AdaForwardIdeal.main_v0_1)) (v2 : (c : Dev Cert.AdaForwardIdeal.nD) → Buf (Elt Ideal) ((c.tc : Thread Cert.AdaForwardIdeal.nD Cert.AdaForwardIdeal.τ).loc Cert.AdaForwardIdeal.main_v0_2)) (v3 : (c : Dev Cert.AdaForwardIdeal.nD) → Buf (Elt Ideal) ((c.tc : Thread Cert.AdaForwardIdeal.nD Cert.AdaForwardIdeal.τ).loc Cert.AdaForwardIdeal.main_v0_3)) (v4 : (c : Dev Cert.AdaForwardIdeal.nD) → Buf (Elt Ideal) ((c.tc : Thread Cert.AdaForwardIdeal.nD Cert.AdaForwardIdeal.τ).loc Cert.AdaForwardIdeal.main_v0_4)),
      θ_run (Cert.AdaForwardIdeal.defs (F := Ideal)) (onTc (τ := Cert.AdaForwardIdeal.τ) (Cert.AdaForwardIdeal.main (F := Ideal))) ⟨m, fun _ => 0, g⟩ (fun r => ∀ c : Dev Cert.AdaForwardIdeal.nD,
          r.2.mem ((c.tc : Thread Cert.AdaForwardIdeal.nD Cert.AdaForwardIdeal.τ).loc Cert.AdaForwardIdeal.main_v0_0) = v0 c
          ∧ r.2.mem ((c.tc : Thread Cert.AdaForwardIdeal.nD Cert.AdaForwardIdeal.τ).loc Cert.AdaForwardIdeal.main_v0_1) = v1 c
          ∧ r.2.mem ((c.tc : Thread Cert.AdaForwardIdeal.nD Cert.AdaForwardIdeal.τ).loc Cert.AdaForwardIdeal.main_v0_2) = v2 c
          ∧ r.2.mem ((c.tc : Thread Cert.AdaForwardIdeal.nD Cert.AdaForwardIdeal.τ).loc Cert.AdaForwardIdeal.main_v0_3) = v3 c
          ∧ r.2.mem ((c.tc : Thread Cert.AdaForwardIdeal.nD Cert.AdaForwardIdeal.τ).loc Cert.AdaForwardIdeal.main_v0_4) = v4 c
          ∧ r.2.mem ((c.tc : Thread Cert.AdaForwardIdeal.nD Cert.AdaForwardIdeal.τ).loc Cert.AdaForwardIdeal.main_arg0) = m ((c.tc : Thread Cert.AdaForwardIdeal.nD Cert.AdaForwardIdeal.τ).loc Cert.AdaForwardIdeal.main_arg0)
          ∧ r.2.mem ((c.tc : Thread Cert.AdaForwardIdeal.nD Cert.AdaForwardIdeal.τ).loc Cert.AdaForwardIdeal.main_arg1) = m ((c.tc : Thread Cert.AdaForwardIdeal.nD Cert.AdaForwardIdeal.τ).loc Cert.AdaForwardIdeal.main_arg1)
          ∧ r.2.mem ((c.tc : Thread Cert.AdaForwardIdeal.nD Cert.AdaForwardIdeal.τ).loc Cert.AdaForwardIdeal.main_arg2) = m ((c.tc : Thread Cert.AdaForwardIdeal.nD Cert.AdaForwardIdeal.τ).loc Cert.AdaForwardIdeal.main_arg2)
          ∧ r.2.mem ((c.tc : Thread Cert.AdaForwardIdeal.nD Cert.AdaForwardIdeal.τ).loc Cert.AdaForwardIdeal.main_arg3) = m ((c.tc : Thread Cert.AdaForwardIdeal.nD Cert.AdaForwardIdeal.τ).loc Cert.AdaForwardIdeal.main_arg3)
          ∧ r.2.mem ((c.tc : Thread Cert.AdaForwardIdeal.nD Cert.AdaForwardIdeal.τ).loc Cert.AdaForwardIdeal.main_arg4) = m ((c.tc : Thread Cert.AdaForwardIdeal.nD Cert.AdaForwardIdeal.τ).loc Cert.AdaForwardIdeal.main_arg4)
          ∧ r.2.mem ((c.tc : Thread Cert.AdaForwardIdeal.nD Cert.AdaForwardIdeal.τ).loc Cert.AdaForwardIdeal.main_arg5) = m ((c.tc : Thread Cert.AdaForwardIdeal.nD Cert.AdaForwardIdeal.τ).loc Cert.AdaForwardIdeal.main_arg5)
          ∧ r.2.mem ((c.tc : Thread Cert.AdaForwardIdeal.nD Cert.AdaForwardIdeal.τ).loc Cert.AdaForwardIdeal.main_arg6) = m ((c.tc : Thread Cert.AdaForwardIdeal.nD Cert.AdaForwardIdeal.τ).loc Cert.AdaForwardIdeal.main_arg6))
      ∧ θ_run (Cert.AdaForwardRefIdeal.defs (F := Ideal)) (onTc (τ := Cert.AdaForwardRefIdeal.τ) (Cert.AdaForwardRefIdeal.main (F := Ideal))) ⟨m', fun _ => 0, g'⟩ (fun r => ∀ c : Dev Cert.AdaForwardRefIdeal.nD,
          r.2.mem ((c.tc : Thread Cert.AdaForwardRefIdeal.nD Cert.AdaForwardRefIdeal.τ).loc Cert.AdaForwardRefIdeal.main_v16) = v0 c
          ∧ r.2.mem ((c.tc : Thread Cert.AdaForwardRefIdeal.nD Cert.AdaForwardRefIdeal.τ).loc Cert.AdaForwardRefIdeal.main_v9) = v1 c
          ∧ r.2.mem ((c.tc : Thread Cert.AdaForwardRefIdeal.nD Cert.AdaForwardRefIdeal.τ).loc Cert.AdaForwardRefIdeal.main_v18) = v2 c
          ∧ r.2.mem ((c.tc : Thread Cert.AdaForwardRefIdeal.nD Cert.AdaForwardRefIdeal.τ).loc Cert.AdaForwardRefIdeal.main_v19) = v3 c
          ∧ r.2.mem ((c.tc : Thread Cert.AdaForwardRefIdeal.nD Cert.AdaForwardRefIdeal.τ).loc Cert.AdaForwardRefIdeal.main_v20) = v4 c
          ∧ r.2.mem ((c.tc : Thread Cert.AdaForwardRefIdeal.nD Cert.AdaForwardRefIdeal.τ).loc Cert.AdaForwardRefIdeal.main_arg0) = m' ((c.tc : Thread Cert.AdaForwardRefIdeal.nD Cert.AdaForwardRefIdeal.τ).loc Cert.AdaForwardRefIdeal.main_arg0)
          ∧ r.2.mem ((c.tc : Thread Cert.AdaForwardRefIdeal.nD Cert.AdaForwardRefIdeal.τ).loc Cert.AdaForwardRefIdeal.main_arg1) = m' ((c.tc : Thread Cert.AdaForwardRefIdeal.nD Cert.AdaForwardRefIdeal.τ).loc Cert.AdaForwardRefIdeal.main_arg1)
          ∧ r.2.mem ((c.tc : Thread Cert.AdaForwardRefIdeal.nD Cert.AdaForwardRefIdeal.τ).loc Cert.AdaForwardRefIdeal.main_arg2) = m' ((c.tc : Thread Cert.AdaForwardRefIdeal.nD Cert.AdaForwardRefIdeal.τ).loc Cert.AdaForwardRefIdeal.main_arg2)
          ∧ r.2.mem ((c.tc : Thread Cert.AdaForwardRefIdeal.nD Cert.AdaForwardRefIdeal.τ).loc Cert.AdaForwardRefIdeal.main_arg3) = m' ((c.tc : Thread Cert.AdaForwardRefIdeal.nD Cert.AdaForwardRefIdeal.τ).loc Cert.AdaForwardRefIdeal.main_arg3)
          ∧ r.2.mem ((c.tc : Thread Cert.AdaForwardRefIdeal.nD Cert.AdaForwardRefIdeal.τ).loc Cert.AdaForwardRefIdeal.main_arg4) = m' ((c.tc : Thread Cert.AdaForwardRefIdeal.nD Cert.AdaForwardRefIdeal.τ).loc Cert.AdaForwardRefIdeal.main_arg4)
          ∧ r.2.mem ((c.tc : Thread Cert.AdaForwardRefIdeal.nD Cert.AdaForwardRefIdeal.τ).loc Cert.AdaForwardRefIdeal.main_arg5) = m' ((c.tc : Thread Cert.AdaForwardRefIdeal.nD Cert.AdaForwardRefIdeal.τ).loc Cert.AdaForwardRefIdeal.main_arg5)
          ∧ r.2.mem ((c.tc : Thread Cert.AdaForwardRefIdeal.nD Cert.AdaForwardRefIdeal.τ).loc Cert.AdaForwardRefIdeal.main_arg6) = m' ((c.tc : Thread Cert.AdaForwardRefIdeal.nD Cert.AdaForwardRefIdeal.τ).loc Cert.AdaForwardRefIdeal.main_arg6))

def preserves_SibSum_SibSumIdeal : Prop :=
  True

def algebraic_SibSumIdeal_SibSumRefIdeal [hSibSumIdeal : Cert.SibSumIdeal.Facts] [hSibSumRefIdeal : Cert.SibSumRefIdeal.Facts] : Prop :=
  ∀ (m : (ℓ : Loc Cert.SibSumIdeal.nD Cert.SibSumIdeal.τ Cert.SibSumIdeal.sig) → Buf (Elt Ideal) ℓ) (g : Dev Cert.SibSumIdeal.nD → PrngReg)
    (m' : (ℓ : Loc Cert.SibSumRefIdeal.nD Cert.SibSumRefIdeal.τ Cert.SibSumRefIdeal.sig) → Buf (Elt Ideal) ℓ) (g' : Dev Cert.SibSumRefIdeal.nD → PrngReg), Pre_SibSumIdeal m →
    (∀ c : Dev Cert.SibSumIdeal.nD,
      m' ((c.tc : Thread Cert.SibSumRefIdeal.nD Cert.SibSumRefIdeal.τ).loc Cert.SibSumRefIdeal.main_arg0) = m ((c.tc : Thread Cert.SibSumIdeal.nD Cert.SibSumIdeal.τ).loc Cert.SibSumIdeal.main_arg0)
      ∧ m' ((c.tc : Thread Cert.SibSumRefIdeal.nD Cert.SibSumRefIdeal.τ).loc Cert.SibSumRefIdeal.main_arg1) = m ((c.tc : Thread Cert.SibSumIdeal.nD Cert.SibSumIdeal.τ).loc Cert.SibSumIdeal.main_arg1)) →
    ∃ (v0 : (c : Dev Cert.SibSumIdeal.nD) → Buf (Elt Ideal) ((c.tc : Thread Cert.SibSumIdeal.nD Cert.SibSumIdeal.τ).loc Cert.SibSumIdeal.main_v1)),
      θ_run (Cert.SibSumIdeal.defs (F := Ideal)) (onTc (τ := Cert.SibSumIdeal.τ) (Cert.SibSumIdeal.main (F := Ideal))) ⟨m, fun _ => 0, g⟩ (fun r => ∀ c : Dev Cert.SibSumIdeal.nD,
          r.2.mem ((c.tc : Thread Cert.SibSumIdeal.nD Cert.SibSumIdeal.τ).loc Cert.SibSumIdeal.main_v1) = v0 c
          ∧ r.2.mem ((c.tc : Thread Cert.SibSumIdeal.nD Cert.SibSumIdeal.τ).loc Cert.SibSumIdeal.main_arg0) = m ((c.tc : Thread Cert.SibSumIdeal.nD Cert.SibSumIdeal.τ).loc Cert.SibSumIdeal.main_arg0)
          ∧ r.2.mem ((c.tc : Thread Cert.SibSumIdeal.nD Cert.SibSumIdeal.τ).loc Cert.SibSumIdeal.main_arg1) = m ((c.tc : Thread Cert.SibSumIdeal.nD Cert.SibSumIdeal.τ).loc Cert.SibSumIdeal.main_arg1))
      ∧ θ_run (Cert.SibSumRefIdeal.defs (F := Ideal)) (onTc (τ := Cert.SibSumRefIdeal.τ) (Cert.SibSumRefIdeal.main (F := Ideal))) ⟨m', fun _ => 0, g'⟩ (fun r => ∀ c : Dev Cert.SibSumRefIdeal.nD,
          r.2.mem ((c.tc : Thread Cert.SibSumRefIdeal.nD Cert.SibSumRefIdeal.τ).loc Cert.SibSumRefIdeal.main_v4) = v0 c
          ∧ r.2.mem ((c.tc : Thread Cert.SibSumRefIdeal.nD Cert.SibSumRefIdeal.τ).loc Cert.SibSumRefIdeal.main_arg0) = m' ((c.tc : Thread Cert.SibSumRefIdeal.nD Cert.SibSumRefIdeal.τ).loc Cert.SibSumRefIdeal.main_arg0)
          ∧ r.2.mem ((c.tc : Thread Cert.SibSumRefIdeal.nD Cert.SibSumRefIdeal.τ).loc Cert.SibSumRefIdeal.main_arg1) = m' ((c.tc : Thread Cert.SibSumRefIdeal.nD Cert.SibSumRefIdeal.τ).loc Cert.SibSumRefIdeal.main_arg1))

def Claim : Prop :=
  ∃ (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hLoss : Cert.Loss.Facts) (hLossIdeal : Cert.LossIdeal.Facts) (hLossRefIdeal : Cert.LossRefIdeal.Facts) (hLn : Cert.Ln.Facts) (hLnIdeal : Cert.LnIdeal.Facts) (hLnRefIdeal : Cert.LnRefIdeal.Facts) (hPool : Cert.Pool.Facts) (hPoolIdeal : Cert.PoolIdeal.Facts) (hPoolRefIdeal : Cert.PoolRefIdeal.Facts) (hIn : Cert.In.Facts) (hInIdeal : Cert.InIdeal.Facts) (hInRefIdeal : Cert.InRefIdeal.Facts) (hAttnFwd : Cert.AttnFwd.Facts) (hAttnFwdIdeal : Cert.AttnFwdIdeal.Facts) (hAttnFwdRefIdeal : Cert.AttnFwdRefIdeal.Facts) (hPoolFwd : Cert.PoolFwd.Facts) (hPoolFwdIdeal : Cert.PoolFwdIdeal.Facts) (hPoolFwdRefIdeal : Cert.PoolFwdRefIdeal.Facts) (hGateFwd : Cert.GateFwd.Facts) (hGateFwdIdeal : Cert.GateFwdIdeal.Facts) (hGateFwdRefIdeal : Cert.GateFwdRefIdeal.Facts) (hConvFwd : Cert.ConvFwd.Facts) (hConvFwdIdeal : Cert.ConvFwdIdeal.Facts) (hConvFwdRefIdeal : Cert.ConvFwdRefIdeal.Facts) (hMod : Cert.Mod.Facts) (hModIdeal : Cert.ModIdeal.Facts) (hModRefIdeal : Cert.ModRefIdeal.Facts) (hModResid : Cert.ModResid.Facts) (hModResidIdeal : Cert.ModResidIdeal.Facts) (hModResidRefIdeal : Cert.ModResidRefIdeal.Facts) (hProjOut : Cert.ProjOut.Facts) (hProjOutIdeal : Cert.ProjOutIdeal.Facts) (hProjOutRefIdeal : Cert.ProjOutRefIdeal.Facts) (hProjOutBwd : Cert.ProjOutBwd.Facts) (hProjOutBwdIdeal : Cert.ProjOutBwdIdeal.Facts) (hProjOutBwdRefIdeal : Cert.ProjOutBwdRefIdeal.Facts) (hGradOut : Cert.GradOut.Facts) (hGradOutIdeal : Cert.GradOutIdeal.Facts) (hGradOutRefIdeal : Cert.GradOutRefIdeal.Facts) (hProjIn : Cert.ProjIn.Facts) (hProjInIdeal : Cert.ProjInIdeal.Facts) (hProjInRefIdeal : Cert.ProjInRefIdeal.Facts) (hGradIn : Cert.GradIn.Facts) (hGradInIdeal : Cert.GradInIdeal.Facts) (hGradInRefIdeal : Cert.GradInRefIdeal.Facts) (hSumAdam : Cert.SumAdam.Facts) (hSumAdamIdeal : Cert.SumAdamIdeal.Facts) (hSumAdamRefIdeal : Cert.SumAdamRefIdeal.Facts) (hAdaAdam : Cert.AdaAdam.Facts) (hAdaAdamIdeal : Cert.AdaAdamIdeal.Facts) (hAdaAdamRefIdeal : Cert.AdaAdamRefIdeal.Facts) (hAdaForward : Cert.AdaForward.Facts) (hAdaForwardIdeal : Cert.AdaForwardIdeal.Facts) (hAdaForwardRefIdeal : Cert.AdaForwardRefIdeal.Facts) (hSibSum : Cert.SibSum.Facts) (hSibSumIdeal : Cert.SibSumIdeal.Facts) (hSibSumRefIdeal : Cert.SibSumRefIdeal.Facts) (hPre_conv_finite : Cert.Pre_conv_finite.Facts) (hPre_attn_finite : Cert.Pre_attn_finite.Facts) (hPre_gate_finite : Cert.Pre_gate_finite.Facts) (hPre_loss_finite : Cert.Pre_loss_finite.Facts) (hPre_ln_finite : Cert.Pre_ln_finite.Facts) (hPre_pool_finite : Cert.Pre_pool_finite.Facts) (hPre_pin0_finite : Cert.Pre_pin0_finite.Facts) (hPre_attnf_finite : Cert.Pre_attnf_finite.Facts) (hPre_poolf_finite : Cert.Pre_poolf_finite.Facts),
    quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ln (hLn := hLn)
    ∧ quiescent_LnIdeal (hLnIdeal := hLnIdeal)
    ∧ quiescent_LnIdeal_pre_ln_finite (hLnIdeal := hLnIdeal) (hPre_ln_finite := hPre_ln_finite)
    ∧ quiescent_LnRefIdeal (hLnRefIdeal := hLnRefIdeal)
    ∧ quiescent_LnRefIdeal_pre_ln_finite (hLnRefIdeal := hLnRefIdeal) (hPre_ln_finite := hPre_ln_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_In (hIn := hIn)
    ∧ quiescent_InIdeal (hInIdeal := hInIdeal)
    ∧ quiescent_InIdeal_pre_pin0_finite (hInIdeal := hInIdeal) (hPre_pin0_finite := hPre_pin0_finite)
    ∧ quiescent_InRefIdeal (hInRefIdeal := hInRefIdeal)
    ∧ quiescent_InRefIdeal_pre_pin0_finite (hInRefIdeal := hInRefIdeal) (hPre_pin0_finite := hPre_pin0_finite)
    ∧ quiescent_AttnFwd (hAttnFwd := hAttnFwd)
    ∧ quiescent_AttnFwdIdeal (hAttnFwdIdeal := hAttnFwdIdeal)
    ∧ quiescent_AttnFwdIdeal_pre_attnf_finite (hAttnFwdIdeal := hAttnFwdIdeal) (hPre_attnf_finite := hPre_attnf_finite)
    ∧ quiescent_AttnFwdRefIdeal (hAttnFwdRefIdeal := hAttnFwdRefIdeal)
    ∧ quiescent_AttnFwdRefIdeal_pre_attnf_finite (hAttnFwdRefIdeal := hAttnFwdRefIdeal) (hPre_attnf_finite := hPre_attnf_finite)
    ∧ quiescent_PoolFwd (hPoolFwd := hPoolFwd)
    ∧ quiescent_PoolFwdIdeal (hPoolFwdIdeal := hPoolFwdIdeal)
    ∧ quiescent_PoolFwdIdeal_pre_poolf_finite (hPoolFwdIdeal := hPoolFwdIdeal) (hPre_poolf_finite := hPre_poolf_finite)
    ∧ quiescent_PoolFwdRefIdeal (hPoolFwdRefIdeal := hPoolFwdRefIdeal)
    ∧ quiescent_PoolFwdRefIdeal_pre_poolf_finite (hPoolFwdRefIdeal := hPoolFwdRefIdeal) (hPre_poolf_finite := hPre_poolf_finite)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Mod (hMod := hMod)
    ∧ quiescent_ModIdeal (hModIdeal := hModIdeal)
    ∧ quiescent_ModRefIdeal (hModRefIdeal := hModRefIdeal)
    ∧ quiescent_ModResid (hModResid := hModResid)
    ∧ quiescent_ModResidIdeal (hModResidIdeal := hModResidIdeal)
    ∧ quiescent_ModResidRefIdeal (hModResidRefIdeal := hModResidRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_ProjOutBwd (hProjOutBwd := hProjOutBwd)
    ∧ quiescent_ProjOutBwdIdeal (hProjOutBwdIdeal := hProjOutBwdIdeal)
    ∧ quiescent_ProjOutBwdRefIdeal (hProjOutBwdRefIdeal := hProjOutBwdRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_SumAdam (hSumAdam := hSumAdam)
    ∧ quiescent_SumAdamIdeal (hSumAdamIdeal := hSumAdamIdeal)
    ∧ quiescent_SumAdamRefIdeal (hSumAdamRefIdeal := hSumAdamRefIdeal)
    ∧ quiescent_AdaAdam (hAdaAdam := hAdaAdam)
    ∧ quiescent_AdaAdamIdeal (hAdaAdamIdeal := hAdaAdamIdeal)
    ∧ quiescent_AdaAdamRefIdeal (hAdaAdamRefIdeal := hAdaAdamRefIdeal)
    ∧ quiescent_AdaForward (hAdaForward := hAdaForward)
    ∧ quiescent_AdaForwardIdeal (hAdaForwardIdeal := hAdaForwardIdeal)
    ∧ quiescent_AdaForwardRefIdeal (hAdaForwardRefIdeal := hAdaForwardRefIdeal)
    ∧ quiescent_SibSum (hSibSum := hSibSum)
    ∧ quiescent_SibSumIdeal (hSibSumIdeal := hSibSumIdeal)
    ∧ quiescent_SibSumRefIdeal (hSibSumRefIdeal := hSibSumRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Ln_LnIdeal
    ∧ algebraic_LnIdeal_LnRefIdeal_pre_ln_finite (hLnIdeal := hLnIdeal) (hLnRefIdeal := hLnRefIdeal) (hPre_ln_finite := hPre_ln_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_In_InIdeal
    ∧ algebraic_InIdeal_InRefIdeal_pre_pin0_finite (hInIdeal := hInIdeal) (hInRefIdeal := hInRefIdeal) (hPre_pin0_finite := hPre_pin0_finite)
    ∧ preserves_AttnFwd_AttnFwdIdeal
    ∧ algebraic_AttnFwdIdeal_AttnFwdRefIdeal_pre_attnf_finite (hAttnFwdIdeal := hAttnFwdIdeal) (hAttnFwdRefIdeal := hAttnFwdRefIdeal) (hPre_attnf_finite := hPre_attnf_finite)
    ∧ preserves_PoolFwd_PoolFwdIdeal
    ∧ algebraic_PoolFwdIdeal_PoolFwdRefIdeal_pre_poolf_finite (hPoolFwdIdeal := hPoolFwdIdeal) (hPoolFwdRefIdeal := hPoolFwdRefIdeal) (hPre_poolf_finite := hPre_poolf_finite)
    ∧ preserves_GateFwd_GateFwdIdeal
    ∧ algebraic_GateFwdIdeal_GateFwdRefIdeal (hGateFwdIdeal := hGateFwdIdeal) (hGateFwdRefIdeal := hGateFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Mod_ModIdeal
    ∧ algebraic_ModIdeal_ModRefIdeal (hModIdeal := hModIdeal) (hModRefIdeal := hModRefIdeal)
    ∧ preserves_ModResid_ModResidIdeal
    ∧ algebraic_ModResidIdeal_ModResidRefIdeal (hModResidIdeal := hModResidIdeal) (hModResidRefIdeal := hModResidRefIdeal)
    ∧ preserves_ProjOut_ProjOutIdeal
    ∧ algebraic_ProjOutIdeal_ProjOutRefIdeal (hProjOutIdeal := hProjOutIdeal) (hProjOutRefIdeal := hProjOutRefIdeal)
    ∧ preserves_ProjOutBwd_ProjOutBwdIdeal
    ∧ algebraic_ProjOutBwdIdeal_ProjOutBwdRefIdeal (hProjOutBwdIdeal := hProjOutBwdIdeal) (hProjOutBwdRefIdeal := hProjOutBwdRefIdeal)
    ∧ preserves_GradOut_GradOutIdeal
    ∧ algebraic_GradOutIdeal_GradOutRefIdeal (hGradOutIdeal := hGradOutIdeal) (hGradOutRefIdeal := hGradOutRefIdeal)
    ∧ preserves_ProjIn_ProjInIdeal
    ∧ algebraic_ProjInIdeal_ProjInRefIdeal (hProjInIdeal := hProjInIdeal) (hProjInRefIdeal := hProjInRefIdeal)
    ∧ preserves_GradIn_GradInIdeal
    ∧ algebraic_GradInIdeal_GradInRefIdeal (hGradInIdeal := hGradInIdeal) (hGradInRefIdeal := hGradInRefIdeal)
    ∧ preserves_SumAdam_SumAdamIdeal
    ∧ algebraic_SumAdamIdeal_SumAdamRefIdeal (hSumAdamIdeal := hSumAdamIdeal) (hSumAdamRefIdeal := hSumAdamRefIdeal)
    ∧ preserves_AdaAdam_AdaAdamIdeal
    ∧ algebraic_AdaAdamIdeal_AdaAdamRefIdeal (hAdaAdamIdeal := hAdaAdamIdeal) (hAdaAdamRefIdeal := hAdaAdamRefIdeal)
    ∧ preserves_AdaForward_AdaForwardIdeal
    ∧ algebraic_AdaForwardIdeal_AdaForwardRefIdeal (hAdaForwardIdeal := hAdaForwardIdeal) (hAdaForwardRefIdeal := hAdaForwardRefIdeal)
    ∧ preserves_SibSum_SibSumIdeal
    ∧ algebraic_SibSumIdeal_SibSumRefIdeal (hSibSumIdeal := hSibSumIdeal) (hSibSumRefIdeal := hSibSumRefIdeal)
-- ==== Pre_attn_finite.lean ====
abbrev S4096x6144 : Shape := ⟨2, ![4096, 6144]⟩
abbrev S4096x1024 : Shape := ⟨2, ![4096, 1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S4096x1024 : S_.BroadcastsInDim S4096x1024 (![] : Fin 0 → Fin S4096x1024.rank)

variable [Facts]

def fn {F : FTy → Type} [FloatOps F] (main_arg0 : FVec F S4096x6144 .bf16) (main_arg1 : FVec F S4096x1024 .f32) : IVec S4096x6144 1 × IVec S4096x1024 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  (main_v3, main_v6)
-- ==== Pre_attnf_finite.lean ====
abbrev S4096x6144 : Shape := ⟨2, ![4096, 6144]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)

variable [Facts]

def fn {F : FTy → Type} [FloatOps F] (main_arg0 : FVec F S4096x6144 .bf16) : IVec S4096x6144 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  main_v3
-- ==== Pre_conv_finite.lean ====
abbrev S4096x2048 : Shape := ⟨2, ![4096, 2048]⟩
abbrev S4096x8192 : Shape := ⟨2, ![4096, 8192]⟩
abbrev S3x2048 : Shape := ⟨2, ![3, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bitsLt_bf16_f32 : FTy.bits .bf16 < FTy.bits .f32
  bcast_S_S4096x8192 : S_.BroadcastsInDim S4096x8192 (![] : Fin 0 → Fin S4096x8192.rank)
  bcast_S_S3x2048 : S_.BroadcastsInDim S3x2048 (![] : Fin 0 → Fin S3x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x8192 .bf16) (main_arg2 : FVec F S3x2048 .f32) (main_arg3 : FVec F S1x2048 .f32) : IVec S4096x2048 1 × IVec S4096x8192 1 × IVec S3x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x8192 .f32 := (extf .f32 · bitsLt_bf16_f32) main_arg1
  let main_v4 : FVec F S4096x8192 .f32 := Host.absf main_v3
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_v7 : FVec F S3x2048 .f32 := Host.absf main_arg2
  let main_cst_1 : FVec F S_ .f32 := constant S_ .f32 0x7F800000#32
  let main_v8 : FVec F S3x2048 .f32 := broadcastInDim S3x2048 ![] bcast_S_S3x2048 main_cst_1
  let main_v9 : IVec S3x2048 1 := cmpf .olt main_v7 main_v8
  let main_v10 : FVec F S1x2048 .f32 := Host.absf main_arg3
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  (main_v2, main_v6, main_v9, main_v12)
-- ==== Pre_gate_finite.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bitsLt_bf16_f32 : FTy.bits .bf16 < FTy.bits .f32
  bcast_S_S4096x6144 : S_.BroadcastsInDim S4096x6144 (![] : Fin 0 → Fin S4096x6144.rank)
  bcast_S_S1x1024 : S_.BroadcastsInDim S1x1024 (![] : Fin 0 → Fin S1x1024.rank)

variable [Facts]

def fn {F : FTy → Type} [FloatOps F] (main_arg0 : FVec F S4096x2048 .f32) (main_arg1 : FVec F S4096x1024 .f32) (main_arg2 : FVec F S4096x1024 .f32) (main_arg3 : FVec F S4096x6144 .bf16) (main_arg4 : FVec F S1x1024 .f32) : IVec S4096x2048 1 × IVec S4096x1024 1 × IVec S4096x1024 1 × IVec S4096x6144 1 × IVec S1x1024 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x6144 .f32 := (extf .f32 · bitsLt_bf16_f32) main_arg3
  let main_v10 : FVec F S4096x6144 .f32 := Host.absf main_v9
  let main_cst_2 : FVec F S_ .f32 := constant S_ .f32 0x7F800000#32
  let main_v11 : FVec F S4096x6144 .f32 := broadcastInDim S4096x6144 ![] bcast_S_S4096x6144 main_cst_2
  let main_v12 : IVec S4096x6144 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  (main_v2, main_v5, main_v8, main_v12, main_v15)
-- ==== Pre_ln_finite.lean ====
abbrev S4096x1024 : Shape := ⟨2, ![4096, 1024]⟩
abbrev S1x1024 : Shape := ⟨2, ![1, 1024]⟩
abbrev S8x1024x1024 : Shape := ⟨3, ![8, 1024, 1024]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S8x1024x1024 : S_.BroadcastsInDim S8x1024x1024 (![] : Fin 0 → Fin S8x1024x1024.rank)
  bcast_S_S4096x8192 : S_.BroadcastsInDim S4096x8192 (![] : Fin 0 → Fin S4096x8192.rank)

variable [Facts]

def fn_part1 {F : FTy → Type} [FloatOps F] (main_arg7 : FVec F S4096x8192 .bf16) (main_v2 : IVec S4096x1024 1) (main_v5 : IVec S4096x1024 1) (main_v8 : IVec S1x1024 1) (main_v11 : IVec S1x1024 1) (main_v14 : IVec S1x1024 1) (main_v16 : FVec F S8x1024x1024 .f32) (main_v17 : FVec F S8x1024x1024 .f32) : IVec S4096x1024 1 × IVec S4096x1024 1 × IVec S1x1024 1 × IVec S1x1024 1 × IVec S1x1024 1 × IVec S8x1024x1024 1 × IVec S4096x8192 1 :=
  let main_v18 : IVec S8x1024x1024 1 := cmpf .olt main_v16 main_v17
  let main_v19 : FVec F S4096x8192 .f32 := (extf .f32 · bitsLt_bf16_f32) main_arg7
  let main_v20 : FVec F S4096x8192 .f32 := Host.absf main_v19
  let main_cst_5 : FVec F S_ .f32 := constant S_ .f32 0x7F800000#32
  let main_v21 : FVec F S4096x8192 .f32 := broadcastInDim S4096x8192 ![] bcast_S_S4096x8192 main_cst_5
  let main_v22 : IVec S4096x8192 1 := cmpf .olt main_v20 main_v21
  (main_v2, main_v5, main_v8, main_v11, main_v14, main_v18, main_v22)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S8x1024x1024 .bf16) (main_arg7 : FVec F S4096x8192 .bf16) (main_arg8 : FVec F S4096x1024 .f32) : IVec S4096x1024 1 × IVec S4096x1024 1 × IVec S1x1024 1 × IVec S1x1024 1 × IVec S1x1024 1 × IVec S8x1024x1024 1 × IVec S4096x8192 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8x1024x1024 .f32 := (extf .f32 · bitsLt_bf16_f32) main_arg6
  let main_v16 : FVec F S8x1024x1024 .f32 := Host.absf main_v15
  let main_cst_4 : FVec F S_ .f32 := constant S_ .f32 0x7F800000#32
  let main_v17 : FVec F S8x1024x1024 .f32 := broadcastInDim S8x1024x1024 ![] bcast_S_S8x1024x1024 main_cst_4
  fn_part1 (F := F) main_arg7 main_v2 main_v5 main_v8 main_v11 main_v14 main_v16 main_v17
-- ==== Pre_loss_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S4096x1024 .f32) : IVec S4096x1024 1 × IVec S4096x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_pin0_finite.lean ====
abbrev S4096x1024 : Shape := ⟨2, ![4096, 1024]⟩
abbrev S1x1024 : Shape := ⟨2, ![1, 1024]⟩
abbrev S8x768x1024 : Shape := ⟨3, ![8, 768, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S8x768x1024 : S_.BroadcastsInDim S8x768x1024 (![] : Fin 0 → Fin S8x768x1024.rank)
  bcast_S_S4096x2048 : S_.BroadcastsInDim S4096x2048 (![] : Fin 0 → Fin S4096x2048.rank)

variable [Facts]

def fn_part1 {F : FTy → Type} [FloatOps F] (main_arg7 : FVec F S4096x1024 .bf16) (main_arg8 : FVec F S4096x1024 .bf16) (main_arg9 : FVec F S4096x2048 .bf16) (main_v2 : IVec S4096x1024 1) (main_v5 : IVec S1x1024 1) (main_v8 : IVec S1x1024 1) (main_v12 : IVec S8x768x1024 1) (main_v16 : IVec S4096x1024 1) (main_v18 : FVec F S4096x1024 .f32) : IVec S4096x1024 1 × IVec S1x1024 1 × IVec S1x1024 1 × IVec S8x768x1024 1 × IVec S4096x1024 1 × IVec S4096x1024 1 × IVec S4096x1024 1 × IVec S4096x1024 1 × IVec S4096x2048 1 :=
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_v21 : FVec F S4096x1024 .f32 := (extf .f32 · bitsLt_bf16_f32) main_arg7
  let main_v22 : FVec F S4096x1024 .f32 := Host.absf main_v21
  let main_cst_5 : FVec F S_ .f32 := constant S_ .f32 0x7F800000#32
  let main_v23 : FVec F S4096x1024 .f32 := broadcastInDim S4096x1024 ![] bcast_S_S4096x1024 main_cst_5
  let main_v24 : IVec S4096x1024 1 := cmpf .olt main_v22 main_v23
  let main_v25 : FVec F S4096x1024 .f32 := (extf .f32 · bitsLt_bf16_f32) main_arg8
  let main_v26 : FVec F S4096x1024 .f32 := Host.absf main_v25
  let main_cst_6 : FVec F S_ .f32 := constant S_ .f32 0x7F800000#32
  let main_v27 : FVec F S4096x1024 .f32 := broadcastInDim S4096x1024 ![] bcast_S_S4096x1024 main_cst_6
  let main_v28 : IVec S4096x1024 1 := cmpf .olt main_v26 main_v27
  let main_v29 : FVec F S4096x2048 .f32 := (extf .f32 · bitsLt_bf16_f32) main_arg9
  let main_v30 : FVec F S4096x2048 .f32 := Host.absf main_v29
  let main_cst_7 : FVec F S_ .f32 := constant S_ .f32 0x7F800000#32
  let main_v31 : FVec F S4096x2048 .f32 := broadcastInDim S4096x2048 ![] bcast_S_S4096x2048 main_cst_7
  let main_v32 : IVec S4096x2048 1 := cmpf .olt main_v30 main_v31
  (main_v2, main_v5, main_v8, main_v12, main_v16, main_v20, main_v24, main_v28, main_v32)

def fn {F : FTy → Type} [FloatOps F] (main_arg0 : FVec F S4096x1024 .f32) (main_arg1 : FVec F S1x1024 .f32) (main_arg2 : FVec F S1x1024 .f32) (main_arg3 : FVec F S1x1024 .f32) (main_arg4 : FVec F S8x768x1024 .bf16) (main_arg5 : FVec F S4096x1024 .bf16) (main_arg6 : FVec F S4096x1024 .bf16) (main_arg7 : FVec F S4096x1024 .bf16) (main_arg8 : FVec F S4096x1024 .bf16) (main_arg9 : FVec F S4096x2048 .bf16) (main_arg10 : FVec F S4096x1024 .f32) : IVec S4096x1024 1 × IVec S1x1024 1 × IVec S1x1024 1 × IVec S8x768x1024 1 × IVec S4096x1024 1 × IVec S4096x1024 1 × IVec S4096x1024 1 × IVec S4096x1024 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8x768x1024 .f32 := (extf .f32 · bitsLt_bf16_f32) main_arg4
  let main_v10 : FVec F S8x768x1024 .f32 := Host.absf main_v9
  let main_cst_2 : FVec F S_ .f32 := constant S_ .f32 0x7F800000#32
  let main_v11 : FVec F S8x768x1024 .f32 := broadcastInDim S8x768x1024 ![] bcast_S_S8x768x1024 main_cst_2
  let main_v12 : IVec S8x768x1024 1 := cmpf .olt main_v10 main_v11
  let main_v13 : FVec F S4096x1024 .f32 := (extf .f32 · bitsLt_bf16_f32) main_arg5
  let main_v14 : FVec F S4096x1024 .f32 := Host.absf main_v13
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S4096x1024 .f32 := (extf .f32 · bitsLt_bf16_f32) main_arg6
  let main_v18 : FVec F S4096x1024 .f32 := Host.absf main_v17
  fn_part1 (F := F) main_arg7 main_arg8 main_arg9 main_v2 main_v5 main_v8 main_v12 main_v16 main_v18
-- ==== Pre_pool_finite.lean ====
abbrev S4096x1024 : Shape := ⟨2, ![4096, 1024]⟩
abbrev S4096x6144 : Shape := ⟨2, ![4096, 6144]⟩
abbrev S4x256x256 : Shape := ⟨3, ![4, 256, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x6144 : S_.BroadcastsInDim S4096x6144 (![] : Fin 0 → Fin S4096x6144.rank)
  bcast_S_S4x256x256 : S_.BroadcastsInDim S4x256x256 (![] : Fin 0 → Fin S4x256x256.rank)

variable [Facts]

def fn {F : FTy → Type} [FloatOps F] (main_arg0 : FVec F S4096x1024 .bf16) (main_arg1 : FVec F S4096x6144 .bf16) (main_arg2 : FVec F S4x256x256 .bf16) : IVec S4096x1024 1 × IVec S4096x6144 1 × IVec S4x256x256 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x6144 .f32 := (extf .f32 · bitsLt_bf16_f32) main_arg1
  let main_v5 : FVec F S4096x6144 .f32 := Host.absf main_v4
  let main_cst_0 : FVec F S_ .f32 := constant S_ .f32 0x7F800000#32
  let main_v6 : FVec F S4096x6144 .f32 := broadcastInDim S4096x6144 ![] bcast_S_S4096x6144 main_cst_0
  let main_v7 : IVec S4096x6144 1 := cmpf .olt main_v5 main_v6
  let main_v8 : FVec F S4x256x256 .f32 := (extf .f32 · bitsLt_bf16_f32) main_arg2
  let main_v9 : FVec F S4x256x256 .f32 := Host.absf main_v8
  let main_cst_1 : FVec F S_ .f32 := constant S_ .f32 0x7F800000#32
  let main_v10 : FVec F S4x256x256 .f32 := broadcastInDim S4x256x256 ![] bcast_S_S4x256x256 main_cst_1
  let main_v11 : IVec S4x256x256 1 := cmpf .olt main_v9 main_v10
  (main_v3, main_v7, main_v11)
-- ==== Pre_poolf_finite.lean ====
abbrev S4096x6144 : Shape := ⟨2, ![4096, 6144]⟩
abbrev S4x256x256 : Shape := ⟨3, ![4, 256, 256]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)

variable [Facts]

def fn {F : FTy → Type} [FloatOps F] (main_arg0 : FVec F S4096x6144 .bf16) (main_arg1 : FVec F S4x256x256 .bf16) : IVec S4096x6144 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  main_v3
-- ==== Conv.lean ====
abbrev S4096x2048 : Shape := ⟨2, ![4096, 2048]⟩
abbrev S4096x8192 : Shape := ⟨2, ![4096, 8192]⟩
abbrev S3x2048 : Shape := ⟨2, ![3, 2048]⟩
abbrev S1x2048 : Shape := ⟨2, ![1, 2048]⟩
abbrev S256x2048 : Shape := ⟨2, ![256, 2048]⟩
abbrev S16x2048 : Shape := ⟨2, ![16, 2048]⟩
abbrev S256x8192 : Shape := ⟨2, ![256, 8192]⟩
abbrev S272x2048 : Shape := ⟨2, ![272, 2048]⟩
abbrev S2048 : Shape := ⟨1, ![2048]⟩

abbrev nBuf : Space → Nat
  | .hbm => 7
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S3x2048, .f32⟩
  | .hbm, ⟨3, _⟩ => ⟨S1x2048, .f32⟩
  | .hbm, ⟨4, _⟩ => ⟨S4096x8192, .bf16⟩
  | .hbm, ⟨5, _⟩ => ⟨S3x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S16x2048, .f32⟩
  | .local _ .vmem, ⟨15, _⟩ => ⟨S16x2048, .f32⟩
  | .local _ .vmem, ⟨16, _⟩ => ⟨S16x2048, .bf16⟩
  | .local _ .vmem, ⟨17, _⟩ => ⟨S16x2048, .bf16⟩
  | .local _ .vmem, ⟨18, _⟩ => ⟨S16x2048, .bf16⟩
  | .local _ .vmem, ⟨19, _⟩ => ⟨S16x2048, .bf16⟩
  | .local _ .vmem, ⟨20, _⟩ => ⟨S3x2048, .f32⟩
  | .local _ .vmem, ⟨21, _⟩ => ⟨S1x2048, .f32⟩
  | .local _ .vmem, ⟨22, _⟩ => ⟨S256x8192, .bf16⟩
  | .local _ .vmem, ⟨23, _⟩ => ⟨S256x8192, .bf16⟩
  | .local _ .vmem, ⟨24, _⟩ => ⟨S3x2048, .f32⟩
  | .local _ .vmem, ⟨25, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvRefIdeal.lean ====
abbrev S4096x2048 : Shape := ⟨2, ![4096, 2048]⟩
abbrev S4096x8192 : Shape := ⟨2, ![4096, 8192]⟩
abbrev S3x2048 : Shape := ⟨2, ![3, 2048]⟩
abbrev S1x2048 : Shape := ⟨2, ![1, 2048]⟩
abbrev S_ : Shape := ⟨0, ![]⟩
abbrev S2x2048 : Shape := ⟨2, ![2, 2048]⟩
abbrev S4098x2048 : Shape := ⟨2, ![4098, 2048]⟩
abbrev S2048 : Shape := ⟨1, ![2048]⟩

abbrev nBuf : Space → Nat
  | .hbm => 115
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S3x2048, .f32⟩
  | .hbm, ⟨3, _⟩ => ⟨S1x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S2x2048, .f32⟩
  | .hbm, ⟨12, _⟩ => ⟨S4098x2048, .f32⟩
  | .hbm, ⟨13, _⟩ => ⟨S_, .f32⟩
  | .hbm, ⟨14, _⟩ => ⟨S2x2048, .f32⟩
  | .hbm, ⟨15, _⟩ => ⟨S4096x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S_, .f32⟩
  | .hbm, ⟨78, _⟩ => ⟨S4098x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S_, .f32⟩
  | .hbm, ⟨89, _⟩ => ⟨S3x2048, .f32⟩
  | .hbm, ⟨90, _⟩ => ⟨S3x2048, .f32⟩
  | .hbm, ⟨91, _⟩ => ⟨S_, .f32⟩
  | .hbm, ⟨92, _⟩ => ⟨S4098x2048, .f32⟩
  | .hbm, ⟨93, _⟩ => ⟨S4098x2048, .f32⟩
  | .hbm, ⟨94, _⟩ => ⟨S4096x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S4096x2048, .f32⟩
  | .hbm, ⟨99, _⟩ => ⟨S4096x2048, .f32⟩
  | .hbm, ⟨100, _⟩ => ⟨S_, .f32⟩
  | .hbm, ⟨101, _⟩ => ⟨S2048, .f32⟩
  | .hbm, ⟨102, _⟩ => ⟨S1x2048, .f32⟩
  | .hbm, ⟨103, _⟩ => ⟨S_, .f32⟩
  | .hbm, ⟨104, _⟩ => ⟨S3x2048, .f32⟩
  | .hbm, ⟨105, _⟩ => ⟨S3x2048, .f32⟩
  | .hbm, ⟨106, _⟩ => ⟨S_, .f32⟩
  | .hbm, ⟨107, _⟩ => ⟨S4098x2048, .f32⟩
  | .hbm, ⟨108, _⟩ => ⟨S4098x2048, .f32⟩
  | .hbm, ⟨109, _⟩ => ⟨S2x2048, .f32⟩
  | .hbm, ⟨110, _⟩ => ⟨S4096x2048, .f32⟩
  | .hbm, ⟨111, _⟩ => ⟨S4096x2048, .f32⟩
  | .hbm, ⟨112, _⟩ => ⟨S4096x2048, .f32⟩
  | .hbm, ⟨113, _⟩ => ⟨S4096x8192, .f32⟩
  | .hbm, ⟨114, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Attn.lean ====
abbrev S4096x6144 : Shape := ⟨2, ![4096, 6144]⟩
abbrev S4096x1024 : Shape := ⟨2, ![4096, 1024]⟩
abbrev S4096x3072 : Shape := ⟨2, ![4096, 3072]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S256x512 : Shape := ⟨2, ![256, 512]⟩
abbrev S4096x512 : Shape := ⟨2, ![4096, 512]⟩
abbrev S256x256 : Shape := ⟨2, ![256, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 77
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x6144, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S16x4096x64, .f32⟩
  | .hbm, ⟨9, _⟩ => ⟨S4096x16x64, .f32⟩
  | .hbm, ⟨10, _⟩ => ⟨S16x4096x64, .f32⟩
  | .hbm, ⟨11, _⟩ => ⟨S4096x16x64, .f32⟩
  | .hbm, ⟨12, _⟩ => ⟨S16x4096x64, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S_, .f32⟩
  | .hbm, ⟨41, _⟩ => ⟨S16x4096x4096, .i1⟩
  | .hbm, ⟨42, _⟩ => ⟨S16x4096x4096, .f32⟩
  | .hbm, ⟨43, _⟩ => ⟨S16x4096x4096, .f32⟩
  | .hbm, ⟨44, _⟩ => ⟨S_, .f32⟩
  | .hbm, ⟨45, _⟩ => ⟨S_, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S_, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x4096, .f32⟩
  | .hbm, ⟨54, _⟩ => ⟨S16x4096x4096, .i1⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S16x4096x4096, .f32⟩
  | .hbm, ⟨66, _⟩ => ⟨S_, .f32⟩
  | .hbm, ⟨67, _⟩ => ⟨S_, .f32⟩
  | .hbm, ⟨68, _⟩ => ⟨S16x4096x4096, .i1⟩
  | .hbm, ⟨69, _⟩ => ⟨S16x4096x4096, .f32⟩
  | .hbm, ⟨70, _⟩ => ⟨S16x4096x4096, .f32⟩
  | .hbm, ⟨71, _⟩ => ⟨S16x4096x64, .f32⟩
  | .hbm, ⟨72, _⟩ => ⟨S4096x16x64, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .f32⟩
  | .local _ .vmem, ⟨13, _⟩ => ⟨S4096x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_call2_cst : Ref sig .tc := ⟨.hbm, 44, rfl⟩
abbrev main_call2_v0 : Ref sig .tc := ⟨.hbm, 45, rfl⟩
abbrev main_v24 : Ref sig .tc := ⟨.hbm, 46, rfl⟩
abbrev main_v25 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33_0 : Ref sig .tc := ⟨.hbm, 74, rfl⟩
abbrev main_v33_1 : Ref sig .tc := ⟨.hbm, 75, rfl⟩
abbrev main_v33_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v164 : BitVec 32 := Scalar.muli arg1 c256_i32
  v164
def k0_off1 (i : grid0.Coords) : Fin 2 → Nat :=
  let arg1 : BitVec 32 := BitVec.ofNat 32 (i 1).val
  let c256_i32 : BitVec 32 := 256#32
  let v164 : BitVec 32 := Scalar.muli arg1 c256_i32
  let v165 : BitVec 32 := v164
  let v166 : Index := Scalar.indexCast v165
  let c0_40 : Index := 0#32
  ![v166.toNat, 0]
def k0_off2 (i : grid0.Coords) : Fin 2 → Nat :=
  let arg1 : BitVec 32 := BitVec.ofNat 32 (i 1).val
  let c256_i32 : BitVec 32 := 256#32
  let v164 : BitVec 32 := Scalar.muli arg1 c256_i32
  let v165 : BitVec 32 := v164
  let v594 : Index := Scalar.indexCast v165
  let c0_170 : Index := 0#32
  ![v594.toNat, 0]
def k0_off3 (i : grid0.Coords) : Fin 2 → Nat :=
  let arg1 : BitVec 32 := BitVec.ofNat 32 (i 1).val
  let c256_i32 : BitVec 32 := 256#32
  let v164 : BitVec 32 := Scalar.muli arg1 c256_i32
  let v165 : BitVec 32 := v164
  let v610 : Index := Scalar.indexCast v165
  let c128 : Index := 128#32
  ![v610.toNat, 128]
def k0_off4 (i : grid0.Coords) : Fin 2 → Nat :=
  let arg1 : BitVec 32 := BitVec.ofNat 32 (i 1).val
  let c256_i32 : BitVec 32 := 256#32
  let v164 : BitVec 32 := Scalar.muli arg1 c256_i32
  let v165 : BitVec 32 := v164
  let v626 : Index := Scalar.indexCast v165
  let c256 : Index := 256#32
  ![v626.toNat, 256]
def k0_off5 (i : grid0.Coords) : Fin 2 → Nat :=
  let arg1 : BitVec 32 := BitVec.ofNat 32 (i 1).val
  let c256_i32 : BitVec 32 := 256#32
  let v164 : BitVec 32 := Scalar.muli arg1 c256_i32
  let v165 : BitVec 32 := v164
  let v642 : Index := Scalar.indexCast v165
  let c384 : Index := 384#32
  ![v642.toNat, 384]
@[reducible] def k0_t1_loop (i : grid0.Coords) : Scf.Loop 32 :=
  let c1_i32_183 : BitVec 32 := 1#32
  let arg1 : BitVec 32 := BitVec.ofNat 32 (i 1).val
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_185 : BitVec 32 := 1#32
  ⟨c1_i32_183, v663, c1_i32_185⟩
def k0_mult2 (i : grid0.Coords) (k0_t1 : Fin (k0_t1_loop i).trips) : BitVec 32 :=
  let arg1 : BitVec 32 := BitVec.ofNat 32 (i 1).val
  let c1_i32_183 : BitVec 32 := 1#32
  let c1_i32_185 : BitVec 32 := 1#32
  let arg12 : BitVec 32 := Scf.iv c1_i32_183 c1_i32_185 k0_t1
  let v697 : BitVec 32 := Scalar.subi arg1 arg12
  let c256_i32_200 : BitVec 32 := 256#32
  let v698 : BitVec 32 := Scalar.muli v697 c256_i32_200
  v698
def k0_off6 (i : grid0.Coords) (k0_t1 : Fin (k0_t1_loop i).trips) : Fin 2 → Nat :=
  let arg1 : BitVec 32 := BitVec.ofNat 32 (i 1).val
  let c1_i32_183 : BitVec 32 := 1#32
  let c1_i32_185 : BitVec 32 := 1#32
  let arg12 : BitVec 32 := Scf.iv c1_i32_183 c1_i32_185 k0_t1
  let v697 : BitVec 32 := Scalar.subi arg1 arg12
  let c256_i32_200 : BitVec 32 := 256#32
  let v698 : BitVec 32 := Scalar.muli v697 c256_i32_200
  let v699 : BitVec 32 := v698
  let v700 : Index := Scalar.indexCast v699
  let c0_201 : Index := 0#32
  ![v700.toNat, 0]
def k0_off7 (i : grid0.Coords) (k0_t1 : Fin (k0_t1_loop i).trips) : Fin 2 → Nat :=
  let arg1 : BitVec 32 := BitVec.ofNat 32 (i 1).val
  let c1_i32_183 : BitVec 32 := 1#32
  let c1_i32_185 : BitVec 32 := 1#32
  let arg12 : BitVec 32 := Scf.iv c1_i32_183 c1_i32_185 k0_t1
  let v697 : BitVec 32 := Scalar.subi arg1 arg12
  let c256_i32_200 : BitVec 32 := 256#32
  let v698 : BitVec 32 := Scalar.muli v697 c256_i32_200
  let v699 : BitVec 32 := v698
  let v1080 : Index := Scalar.indexCast v699
  let c0_307 : Index := 0#32
  ![v1080.toNat, 0]
def k0_off8 (i : grid0.Coords) (k0_t1 : Fin (k0_t1_loop i).trips) : Fin 2 → Nat :=
  let arg1 : BitVec 32 := BitVec.ofNat 32 (i 1).val
  let c1_i32_183 : BitVec 32 := 1#32
  let c1_i32_185 : BitVec 32 := 1#32
  let arg12 : BitVec 32 := Scf.iv c1_i32_183 c1_i32_185 k0_t1
  let v697 : BitVec 32 := Scalar.subi arg1 arg12
  let c256_i32_200 : BitVec 32 := 256#32
  let v698 : BitVec 32 := Scalar.muli v697 c256_i32_200
  let v699 : BitVec 32 := v698
  let v1096 : Index := Scalar.indexCast v699
  let c128_311 : Index := 128#32
  ![v1096.toNat, 128]
def k0_off9 (i : grid0.Coords) (k0_t1 : Fin (k0_t1_loop i).trips) : Fin 2 → Nat :=
  let arg1 : BitVec 32 := BitVec.ofNat 32 (i 1).val
  let c1_i32_183 : BitVec 32 := 1#32
  let c1_i32_185 : BitVec 32 := 1#32
  let arg12 : BitVec 32 := Scf.iv c1_i32_183 c1_i32_185 k0_t1
  let v697 : BitVec 32 := Scalar.subi arg1 arg12
  let c256_i32_200 : BitVec 32 := 256#32
  let v698 : BitVec 32 := Scalar.muli v697 c256_i32_200
  let v699 : BitVec 32 := v698
  let v1112 : Index := Scalar.indexCast v699
  let c256_315 : Index := 256#32
  ![v1112.toNat, 256]
def k0_off10 (i : grid0.Coords) (k0_t1 : Fin (k0_t1_loop i).trips) : Fin 2 → Nat :=
  let arg1 : BitVec 32 := BitVec.ofNat 32 (i 1).val
  let c1_i32_183 : BitVec 32 := 1#32
  let c1_i32_185 : BitVec 32 := 1#32
  let arg12 : BitVec 32 := Scf.iv c1_i32_183 c1_i32_185 k0_t1
  let v697 : BitVec 32 := Scalar.subi arg1 arg12
  let c256_i32_200 : BitVec 32 := 256#32
  let v698 : BitVec 32 := Scalar.muli v697 c256_i32_200
  let v699 : BitVec 32 := v698
  let v1128 : Index := Scalar.indexCast v699
  let c384_319 : Index := 384#32
  ![v1128.toNat, 384]
@[reducible] def k0_t2_loop (i : grid0.Coords) : Scf.Loop 32 :=
  let c1_i32_183 : BitVec 32 := 1#32
  let arg1 : BitVec 32 := BitVec.ofNat 32 (i 1).val
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let v660 : BitVec 32 := Scalar.addi c1_i32_183 v659
  let c1_i32_186 : BitVec 32 := 1#32
  ⟨v663, v660, c1_i32_186⟩
def k0_mult3 (i : grid0.Coords) (k0_t2 : Fin (k0_t2_loop i).trips) : BitVec 32 :=
  let arg1 : BitVec 32 := BitVec.ofNat 32 (i 1).val
  let c1_i32_183 : BitVec 32 := 1#32
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_186 : BitVec 32 := 1#32
  let arg12 : BitVec 32 := Scf.iv v663 c1_i32_186 k0_t2
  let v697 : BitVec 32 := Scalar.subi arg1 arg12
  let c256_i32_200 : BitVec 32 := 256#32
  let v698 : BitVec 32 := Scalar.muli v697 c256_i32_200
  v698
def k0_off11 (i : grid0.Coords) (k0_t2 : Fin (k0_t2_loop i).trips) : Fin 2 → Nat :=
  let arg1 : BitVec 32 := BitVec.ofNat 32 (i 1).val
  let c1_i32_183 : BitVec 32 := 1#32
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_186 : BitVec 32 := 1#32
  let arg12 : BitVec 32 := Scf.iv v663 c1_i32_186 k0_t2
  let v697 : BitVec 32 := Scalar.subi arg1 arg12
  let c256_i32_200 : BitVec 32 := 256#32
  let v698 : BitVec 32 := Scalar.muli v697 c256_i32_200
  let v699 : BitVec 32 := v698
  let v700 : Index := Scalar.indexCast v699
  let c0_201 : Index := 0#32
  ![v700.toNat, 0]
def k0_off12 (i : grid0.Coords) (k0_t2 : Fin (k0_t2_loop i).trips) : Fin 2 → Nat :=
  let arg1 : BitVec 32 := BitVec.ofNat 32 (i 1).val
  let c1_i32_183 : BitVec 32 := 1#32
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_186 : BitVec 32 := 1#32
  let arg12 : BitVec 32 := Scf.iv v663 c1_i32_186 k0_t2
  let v697 : BitVec 32 := Scalar.subi arg1 arg12
  let c256_i32_200 : BitVec 32 := 256#32
  let v698 : BitVec 32 := Scalar.muli v697 c256_i32_200
  let v699 : BitVec 32 := v698
  let v1080 : Index := Scalar.indexCast v699
  let c0_307 : Index := 0#32
  ![v1080.toNat, 0]
def k0_off13 (i : grid0.Coords) (k0_t2 : Fin (k0_t2_loop i).trips) : Fin 2 → Nat :=
  let arg1 : BitVec 32 := BitVec.ofNat 32 (i 1).val
  let c1_i32_183 : BitVec 32 := 1#32
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_186 : BitVec 32 := 1#32
  let arg12 : BitVec 32 := Scf.iv v663 c1_i32_186 k0_t2
  let v697 : BitVec 32 := Scalar.subi arg1 arg12
  let c256_i32_200 : BitVec 32 := 256#32
  let v698 : BitVec 32 := Scalar.muli v697 c256_i32_200
  let v699 : BitVec 32 := v698
  let v1096 : Index := Scalar.indexCast v699
  let c128_311 : Index := 128#32
  ![v1096.toNat, 128]
def k0_off14 (i : grid0.Coords) (k0_t2 : Fin (k0_t2_loop i).trips) : Fin 2 → Nat :=
  let arg1 : BitVec 32 := BitVec.ofNat 32 (i 1).val
  let c1_i32_183 : BitVec 32 := 1#32
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_186 : BitVec 32 := 1#32
  let arg12 : BitVec 32 := Scf.iv v663 c1_i32_186 k0_t2
  let v697 : BitVec 32 := Scalar.subi arg1 arg12
  let c256_i32_200 : BitVec 32 := 256#32
  let v698 : BitVec 32 := Scalar.muli v697 c256_i32_200
  let v699 : BitVec 32 := v698
  let v1112 : Index := Scalar.indexCast v699
  let c256_315 : Index := 256#32
  ![v1112.toNat, 256]
def k0_off15 (i : grid0.Coords) (k0_t2 : Fin (k0_t2_loop i).trips) : Fin 2 → Nat :=
  let arg1 : BitVec 32 := BitVec.ofNat 32 (i 1).val
  let c1_i32_183 : BitVec 32 := 1#32
  let c1_i32 : BitVec 32 := 1#32
  let v658 : BitVec 32 := Scalar.addi arg1 c1_i32
  let v659 : BitVec 32 := Scalar.subi v658 c1_i32_183
  let c1_i32_184 : BitVec 32 := 1#32
  let v661 : BitVec 32 := Scalar.divsi v659 c1_i32_184
  let v662 : BitVec 32 := Scalar.muli v661 c1_i32_184
  let v663 : BitVec 32 := Scalar.addi c1_i32_183 v662
  let c1_i32_186 : BitVec 32 := 1#32
  let arg12 : BitVec 32 := Scf.iv v663 c1_i32_186 k0_t2
  let v697 : BitVec 32 := Scalar.subi arg1 arg12
  let c256_i32_200 : BitVec 32 := 256#32
  let v698 : BitVec 32 := Scalar.muli v697 c256_i32_200
  let v699 : BitVec 32 := v698
  let v1128 : Index := Scalar.indexCast v699
  let c384_319 : Index := 384#32
  ![v1128.toNat, 384]
def k0_cond2 (i : grid0.Coords) : BitVec 1 :=
  let arg1 : BitVec 32 := BitVec.ofNat 32 (i 1).val
  let c15_i32 : BitVec 32 := 15#32
  let v694 : BitVec 1 := Scalar.cmpi .eq arg1 c15_i32
  let v695 : BitVec 32 := Scalar.extui v694
  let c0_i32_199 : BitVec 32 := 0#32
  let v696 : BitVec 1 := Scalar.cmpi .ne v695 c0_i32_199
  v696

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== AttnRefIdeal.lean ====
abbrev S4096x6144 : Shape := ⟨2, ![4096, 6144]⟩
abbrev S4096x1024 : Shape := ⟨2, ![4096, 1024]⟩
abbrev S4096x3072 : Shape := ⟨2, ![4096, 3072]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 179
  | .vmem => 0
  | .smem => 0
  | _ => 0

abbrev hbmTy0_0 (i : Nat) : BufTy := match i % 128 with
  | 0 => ⟨S4096x6144, .bf16⟩
  | 1 => ⟨S4096x1024, .f32⟩
  | 2 => ⟨S4096x6144, .f32⟩
  | 3 => ⟨S4096x3072, .f32⟩
  | 4 => ⟨S4096x1024, .f32⟩
  | 5 => ⟨S4096x1024, .f32⟩
  | 6 => ⟨S4096x1024, .f32⟩
  | 7 => ⟨S4096x16x64, .f32⟩
  | 8 => ⟨S16x4096x64, .f32⟩
  | 9 => ⟨S4096x16x64, .f32⟩
  | 10 => ⟨S16x4096x64, .f32⟩
  | 11 => ⟨S4096x16x64, .f32⟩
  | 12 => ⟨S16x4096x64, .f32⟩
  | 13 => ⟨S16x4096x4096, .f32⟩
  | 14 => ⟨S_, .f32⟩
  | 15 => ⟨S16x4096x4096, .f32⟩
  | 16 => ⟨S16x4096x4096, .f32⟩
  | 17 => ⟨S4096, .i32⟩
  | 18 => ⟨S1x4096, .i32⟩
  | 19 => ⟨S4096, .i32⟩
  | 20 => ⟨S4096x1, .i32⟩
  | 21 => ⟨S4096x4096, .i32⟩
  | 22 => ⟨S4096x4096, .i32⟩
  | 23 => ⟨S4096x4096, .i1⟩
  | 24 => ⟨S_, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .i1⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S_, .f32⟩
  | 45 => ⟨S16x4096x4096, .f32⟩
  | 46 => ⟨S16x4096x4096, .i1⟩
  | 47 => ⟨S_, .f32⟩
  | 48 => ⟨S16x4096x4096, .f32⟩
  | 49 => ⟨S16x4096x4096, .f32⟩
  | 50 => ⟨S16x4096x4096, .f32⟩
  | 51 => ⟨S16x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x4096x4096, .f32⟩
  | 60 => ⟨S16x4096x4096, .i1⟩
  | 61 => ⟨S_, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S_, .f32⟩
  | 72 => ⟨S_, .f32⟩
  | 73 => ⟨S16x4096x4096, .i1⟩
  | 74 => ⟨S16x4096x4096, .f32⟩
  | 75 => ⟨S16x4096x4096, .f32⟩
  | 76 => ⟨S_, .f32⟩
  | 77 => ⟨S16x4096x4096, .f32⟩
  | 78 => ⟨S_, .f32⟩
  | 79 => ⟨S_, .f32⟩
  | 80 => ⟨S16x4096x4096, .f32⟩
  | 81 => ⟨S16x4096x4096, .f32⟩
  | 82 => ⟨S16x4096x4096, .f32⟩
  | 83 => ⟨S_, .f32⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .i1⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S16x4096x4096, .f32⟩
  | 97 => ⟨S_, .f32⟩
  | 98 => ⟨S16x4096x4096, .f32⟩
  | 99 => ⟨S16x4096x4096, .i1⟩
  | 100 => ⟨S_, .f32⟩
  | 101 => ⟨S16x4096x4096, .f32⟩
  | 102 => ⟨S16x4096x4096, .f32⟩
  | 103 => ⟨S_, .f32⟩
  | 104 => ⟨S16x4096x4096, .f32⟩
  | 105 => ⟨S16x4096x4096, .i1⟩
  | 106 => ⟨S_, .f32⟩
  | 107 => ⟨S16x4096x4096, .f32⟩
  | 108 => ⟨S16x4096x4096, .f32⟩
  | 109 => ⟨S16x4096x4096, .f32⟩
  | 110 => ⟨S16x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S16x4096x4096, .f32⟩
  | 119 => ⟨S16x4096x4096, .i1⟩
  | 120 => ⟨S_, .f32⟩
  | 121 => ⟨S16x4096x4096, .f32⟩
  | 122 => ⟨S16x4096x4096, .f32⟩
  | 123 => ⟨S16x4096x4096, .f32⟩
  | 124 => ⟨S16x4096x4096, .f32⟩
  | 125 => ⟨S16x4096x4096, .f32⟩
  | 126 => ⟨S_, .f32⟩
  | 127 => ⟨S16x4096x4096, .f32⟩
  | _ => ⟨S4096x6144, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S_, .f32⟩
  | 5 => ⟨S_, .f32⟩
  | 6 => ⟨S16x4096x4096, .i1⟩
  | 7 => ⟨S16x4096x4096, .f32⟩
  | 8 => ⟨S16x4096x4096, .f32⟩
  | 9 => ⟨S_, .f32⟩
  | 10 => ⟨S16x4096x4096, .f32⟩
  | 11 => ⟨S16x4096x64, .f32⟩
  | 12 => ⟨S4096x16x64, .f32⟩
  | 13 => ⟨S4096x1024, .f32⟩
  | 14 => ⟨S4096x16x64, .f32⟩
  | 15 => ⟨S16x4096x64, .f32⟩
  | 16 => ⟨S16x64x4096, .f32⟩
  | 17 => ⟨S16x4096x64, .f32⟩
  | 18 => ⟨S16x4096x4096, .f32⟩
  | 19 => ⟨S_, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S_, .f32⟩
  | 28 => ⟨S_, .f32⟩
  | 29 => ⟨S16x4096x4096, .f32⟩
  | 30 => ⟨S16x4096x4096, .f32⟩
  | 31 => ⟨S_, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .f32⟩
  | 40 => ⟨S16x4096x64, .f32⟩
  | 41 => ⟨S16x4096x64, .f32⟩
  | 42 => ⟨S4096x16x64, .f32⟩
  | 43 => ⟨S4096x1024, .f32⟩
  | 44 => ⟨S4096x16x64, .f32⟩
  | 45 => ⟨S4096x1024, .f32⟩
  | 46 => ⟨S4096x16x64, .f32⟩
  | 47 => ⟨S4096x1024, .f32⟩
  | 48 => ⟨S4096x1024, .bf16⟩
  | 49 => ⟨S4096x1024, .bf16⟩
  | 50 => ⟨S4096x1024, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v21_0 : Ref sig .tc := ⟨.hbm, 37, rfl⟩
abbrev main_call0_cst_0 : Ref sig .tc := ⟨.hbm, 38, rfl⟩
abbrev main_call0_v13 : Ref sig .tc := ⟨.hbm, 39, rfl⟩
abbrev main_call0_v14 : Ref sig .tc := ⟨.hbm, 40, rfl⟩
abbrev main_call0_cst_1 : Ref sig .tc := ⟨.hbm, 41, rfl⟩
abbrev main_call0_v15 : Ref sig .tc := ⟨.hbm, 42, rfl⟩
abbrev main_call0_v16 : Ref sig .tc := ⟨.hbm, 43, rfl⟩
abbrev main_call0_cst_2 : Ref sig .tc := ⟨.hbm, 44, rfl⟩
abbrev main_call0_v17 : Ref sig .tc := ⟨.hbm, 45, rfl⟩
abbrev main_call0_v18 : Ref sig .tc := ⟨.hbm, 46, rfl⟩
abbrev main_call0_cst_3 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_v21_1 : Ref sig .tc := ⟨.hbm, 51, rfl⟩
abbrev main_call0_cst_4 : Ref sig .tc := ⟨.hbm, 52, rfl⟩
abbrev main_call0_cst_5 : Ref sig .tc := ⟨.hbm, 53, rfl⟩
abbrev main_call0_v23 : Ref sig .tc := ⟨.hbm, 54, rfl⟩
abbrev main_call0_cst_6 : Ref sig .tc := ⟨.hbm, 55, rfl⟩
abbrev main_call0_cst_7 : Ref sig .tc := ⟨.hbm, 56, rfl⟩
abbrev main_call0_v24 : Ref sig .tc := ⟨.hbm, 57, rfl⟩
abbrev main_call0_cst_8 : Ref sig .tc := ⟨.hbm, 58, rfl⟩
abbrev main_call0_v25 : Ref sig .tc := ⟨.hbm, 59, rfl⟩
abbrev main_call0_v26 : Ref sig .tc := ⟨.hbm, 60, rfl⟩
abbrev main_call0_cst_9 : Ref sig .tc := ⟨.hbm, 61, rfl⟩
abbrev main_call0_v27 : Ref sig .tc := ⟨.hbm, 62, rfl⟩
abbrev main_call0_v28 : Ref sig .tc := ⟨.hbm, 63, rfl⟩
abbrev main_call0_v29 : Ref sig .tc := ⟨.hbm, 64, rfl⟩
abbrev main_call0_v30 : Ref sig .tc := ⟨.hbm, 65, rfl⟩
abbrev main_call0_v31 : Ref sig .tc := ⟨.hbm, 66, rfl⟩
abbrev main_call0_cst_10 : Ref sig .tc := ⟨.hbm, 67, rfl⟩
abbrev main_call0_v32 : Ref sig .tc := ⟨.hbm, 68, rfl⟩
abbrev main_v21_2 : Ref sig .tc := ⟨.hbm, 69, rfl⟩
abbrev main_v22 : Ref sig .tc := ⟨.hbm, 70, rfl⟩
abbrev main_cst_0 : Ref sig .tc := ⟨.hbm, 71, rfl⟩
abbrev main_call1_v0 : Ref sig .tc := ⟨.hbm, 72, rfl⟩
abbrev main_v23_1 : Ref sig .tc := ⟨.hbm, 73, rfl⟩
abbrev main_call1_v2 : Ref sig .tc := ⟨.hbm, 74, rfl⟩
abbrev main_v23_0 : Ref sig .tc := ⟨.hbm, 75, rfl⟩
abbrev main_call1_cst : Ref sig .tc := ⟨.hbm, 76, rfl⟩
abbrev main_v23_2 : Ref sig .tc := ⟨.hbm, 77, rfl⟩
abbrev main_call2_cst : Ref sig .tc := ⟨.hbm, 78, rfl⟩
abbrev main_call2_v0 : Ref sig .tc := ⟨.hbm, 79, rfl⟩
abbrev main_v24 : Ref sig .tc := ⟨.hbm, 80, rfl⟩
abbrev main_v25 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v26_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v26_2 : Ref sig .tc := ⟨.hbm, 128, rfl⟩
abbrev main_v26_0 : Ref sig .tc := ⟨.hbm, 129, rfl⟩
abbrev main_v27 : Ref sig .tc := ⟨.hbm, 130, rfl⟩
abbrev main_v28 : Ref sig .tc := ⟨.hbm, 131, rfl⟩
abbrev main_cst_1 : Ref sig .tc := ⟨.hbm, 132, rfl⟩
abbrev main_call4_v0 : Ref sig .tc := ⟨.hbm, 133, rfl⟩
abbrev main_v29_1 : Ref sig .tc := ⟨.hbm, 134, rfl⟩
abbrev main_call4_v2 : Ref sig .tc := ⟨.hbm, 135, rfl⟩
abbrev main_v29_0 : Ref sig .tc := ⟨.hbm, 136, rfl⟩
abbrev main_call4_cst : Ref sig .tc := ⟨.hbm, 137, rfl⟩
abbrev main_v29_2 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_call5_cst : Ref sig .tc := ⟨.hbm, 147, rfl⟩
abbrev main_call5_v0 : Ref sig .tc := ⟨.hbm, 148, rfl⟩
abbrev main_v38 : Ref sig .tc := ⟨.hbm, 149, rfl⟩
abbrev main_v39 : Ref sig .tc := ⟨.hbm, 150, rfl⟩
abbrev main_call6_v0 : Ref sig .tc := ⟨.hbm, 151, rfl⟩
abbrev main_call6_v1 : Ref sig .tc := ⟨.hbm, 152, rfl⟩
abbrev main_v40 : Ref sig .tc := ⟨.hbm, 153, rfl⟩
abbrev main_v41 : Ref sig .tc := ⟨.hbm, 154, rfl⟩
abbrev main_call7_cst : Ref sig .tc := ⟨.hbm, 155, rfl⟩
abbrev main_call7_v0 : Ref sig .tc := ⟨.hbm, 156, rfl⟩
abbrev main_v42 : Ref sig .tc := ⟨.hbm, 157, rfl⟩
abbrev main_v43 : Ref sig .tc := ⟨.hbm, 158, rfl⟩
abbrev main_call8_cst : Ref sig .tc := ⟨.hbm, 159, rfl⟩
abbrev main_call8_v0 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_cst_2 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩

abbrev nD : Nat := 1
abbrev τ : Topo := Topo.v7x

variable {F : FTy → Type} [FloatOps F]
-- ==== Gate.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S256x2048 : Shape := ⟨2, ![256, 2048]⟩
abbrev S256x1024 : Shape := ⟨2, ![256, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x6144, .bf16⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x2048, .bf16⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | .local _ .vmem, ⟨15, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateRefIdeal.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S_ : Shape := ⟨0, ![]⟩
abbrev S1024 : Shape := ⟨1, ![1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x6144, .bf16⟩
  | .hbm, ⟨4, _⟩ => ⟨S1x1024, .f32⟩
  | .hbm, ⟨5, _⟩ => ⟨S4096x6144, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .bf16⟩
  | .hbm, ⟨83, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Ln.lean ====
abbrev S4096x1024 : Shape := ⟨2, ![4096, 1024]⟩
abbrev S1x1024 : Shape := ⟨2, ![1, 1024]⟩
abbrev S8x1024x1024 : Shape := ⟨3, ![8, 1024, 1024]⟩
abbrev S4096x8192 : Shape := ⟨2, ![4096, 8192]⟩
abbrev S1024x4096 : Shape := ⟨2, ![1024, 4096]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S256x8192 : Shape := ⟨2, ![256, 8192]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 18
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8x1024x1024, .bf16⟩
  | .hbm, ⟨7, _⟩ => ⟨S4096x8192, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4096x1024, .bf16⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1024x256, .bf16⟩
  | .local _ .vmem, ⟨13, _⟩ => ⟨S1024x256, .bf16⟩
  | .local _ .vmem, ⟨14, _⟩ => ⟨S256x8192, .bf16⟩
  | .local _ .vmem, ⟨15, _⟩ => ⟨S256x8192, .bf16⟩
  | .local _ .vmem, ⟨16, _⟩ => ⟨S8x1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem12_1 : DmaSem sig := 32
abbrev cc1_sem13_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== LnRefIdeal.lean ====
abbrev S4096x1024 : Shape := ⟨2, ![4096, 1024]⟩
abbrev S1x1024 : Shape := ⟨2, ![1, 1024]⟩
abbrev S8x1024x1024 : Shape := ⟨3, ![8, 1024, 1024]⟩
abbrev S4096x8192 : Shape := ⟨2, ![4096, 8192]⟩
abbrev S1024x8x1024 : Shape := ⟨3, ![1024, 8, 1024]⟩
abbrev S1024x8192 : Shape := ⟨2, ![1024, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8x1024x1024, .bf16⟩
  | .hbm, ⟨7, _⟩ => ⟨S4096x8192, .bf16⟩
  | .hbm, ⟨8, _⟩ => ⟨S4096x1024, .f32⟩
  | .hbm, ⟨9, _⟩ => ⟨S8x1024x1024, .f32⟩
  | .hbm, ⟨10, _⟩ => ⟨S1024x8x1024, .f32⟩
  | .hbm, ⟨11, _⟩ => ⟨S1024x8192, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x8192, .f32⟩
  | .hbm, ⟨45, _⟩ => ⟨S4096x8192, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Pool.lean ====
abbrev S4096x1024 : Shape := ⟨2, ![4096, 1024]⟩
abbrev S4096x6144 : Shape := ⟨2, ![4096, 6144]⟩
abbrev S4x256x256 : Shape := ⟨3, ![4, 256, 256]⟩
abbrev S256x1024 : Shape := ⟨2, ![256, 1024]⟩
abbrev S16x1024 : Shape := ⟨2, ![16, 1024]⟩
abbrev S256x1 : Shape := ⟨2, ![256, 1]⟩
abbrev S256x256 : Shape := ⟨2, ![256, 256]⟩
abbrev S16x256 : Shape := ⟨2, ![16, 256]⟩
abbrev S272x256 : Shape := ⟨2, ![272, 256]⟩
abbrev S1x256x256 : Shape := ⟨3, ![1, 256, 256]⟩
abbrev S272x1 : Shape := ⟨2, ![272, 1]⟩

abbrev nBuf : Space → Nat
  | .hbm => 7
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x256x256, .bf16⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4x256x256, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S16x1024, .bf16⟩
  | .local _ .vmem, ⟨12, _⟩ => ⟨S16x1024, .bf16⟩
  | .local _ .vmem, ⟨13, _⟩ => ⟨S256x1024, .bf16⟩
  | .local _ .vmem, ⟨14, _⟩ => ⟨S256x1024, .bf16⟩
  | .local _ .vmem, ⟨15, _⟩ => ⟨S4x256x256, .bf16⟩
  | .local _ .vmem, ⟨16, _⟩ => ⟨S256x1024, .bf16⟩
  | .local _ .vmem, ⟨17, _⟩ => ⟨S256x1024, .bf16⟩
  | .local _ .vmem, ⟨18, _⟩ => ⟨S4x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== PoolRefIdeal.lean ====
abbrev S4096x1024 : Shape := ⟨2, ![4096, 1024]⟩
abbrev S4096x6144 : Shape := ⟨2, ![4096, 6144]⟩
abbrev S4x256x256 : Shape := ⟨3, ![4, 256, 256]⟩
abbrev S_ : Shape := ⟨0, ![]⟩
abbrev S4096 : Shape := ⟨1, ![4096]⟩
abbrev S4096x256 : Shape := ⟨2, ![4096, 256]⟩
abbrev S2x256 : Shape := ⟨2, ![2, 256]⟩
abbrev S4098x256 : Shape := ⟨2, ![4098, 256]⟩
abbrev S4096x1 : Shape := ⟨2, ![4096, 1]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S4096x1x256 : Shape := ⟨3, ![4096, 1, 256]⟩
abbrev S4096x4x256 : Shape := ⟨3, ![4096, 4, 256]⟩
abbrev S4x256x4096 : Shape := ⟨3, ![4, 256, 4096]⟩
abbrev S4x4096x256 : Shape := ⟨3, ![4, 4096, 256]⟩

abbrev nBuf : Space → Nat
  | .hbm => 172
  | .vmem => 0
  | .smem => 0
  | _ => 0

abbrev hbmTy0_0 (i : Nat) : BufTy := match i % 128 with
  | 0 => ⟨S4096x1024, .bf16⟩
  | 1 => ⟨S4096x6144, .bf16⟩
  | 2 => ⟨S4x256x256, .bf16⟩
  | 3 => ⟨S4096x6144, .f32⟩
  | 4 => ⟨S4096x1024, .f32⟩
  | 5 => ⟨S4x256x256, .f32⟩
  | 6 => ⟨S_, .f32⟩
  | 7 => ⟨S_, .f32⟩
  | 8 => ⟨S4096x1024, .f32⟩
  | 9 => ⟨S4096, .f32⟩
  | 10 => ⟨S4096x256, .f32⟩
  | 11 => ⟨S_, .f32⟩
  | 12 => ⟨S2x256, .f32⟩
  | 13 => ⟨S4098x256, .f32⟩
  | 14 => ⟨S_, .f32⟩
  | 15 => ⟨S2x256, .f32⟩
  | 16 => ⟨S4096x256, .f32⟩
  | 17 => ⟨S_, .f32⟩
  | 18 => ⟨S4096, .f32⟩
  | 19 => ⟨S4096, .f32⟩
  | 20 => ⟨S_, .f32⟩
  | 21 => ⟨S4096, .f32⟩
  | 22 => ⟨S4096, .f32⟩
  | 23 => ⟨S4096x1, .f32⟩
  | 24 => ⟨S4096x256, .f32⟩
  | 25 => ⟨S4096x256, .f32⟩
  | 26 => ⟨S4096x256, .f32⟩
  | 27 => ⟨S4096x256, .f32⟩
  | 28 => ⟨S4096x256, .f32⟩
  | 29 => ⟨S4096x256, .f32⟩
  | 30 => ⟨S_, .f32⟩
  | 31 => ⟨S4x256, .f32⟩
  | 32 => ⟨S4100x256, .f32⟩
  | 33 => ⟨S_, .f32⟩
  | 34 => ⟨S4x256, .f32⟩
  | 35 => ⟨S4096x256, .f32⟩
  | 36 => ⟨S_, .f32⟩
  | 37 => ⟨S4096, .f32⟩
  | 38 => ⟨S4096, .f32⟩
  | 39 => ⟨S_, .f32⟩
  | 40 => ⟨S4096, .f32⟩
  | 41 => ⟨S4096, .f32⟩
  | 42 => ⟨S4096x1, .f32⟩
  | 43 => ⟨S4096x256, .f32⟩
  | 44 => ⟨S4096x256, .f32⟩
  | 45 => ⟨S4096x256, .f32⟩
  | 46 => ⟨S4096x256, .f32⟩
  | 47 => ⟨S4096x256, .f32⟩
  | 48 => ⟨S4096x256, .f32⟩
  | 49 => ⟨S_, .f32⟩
  | 50 => ⟨S8x256, .f32⟩
  | 51 => ⟨S4104x256, .f32⟩
  | 52 => ⟨S_, .f32⟩
  | 53 => ⟨S8x256, .f32⟩
  | 54 => ⟨S4096x256, .f32⟩
  | 55 => ⟨S_, .f32⟩
  | 56 => ⟨S4096, .f32⟩
  | 57 => ⟨S4096, .f32⟩
  | 58 => ⟨S_, .f32⟩
  | 59 => ⟨S4096, .f32⟩
  | 60 => ⟨S4096, .f32⟩
  | 61 => ⟨S4096x1, .f32⟩
  | 62 => ⟨S4096x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S16x256, .f32⟩
  | 70 => ⟨S4112x256, .f32⟩
  | 71 => ⟨S_, .f32⟩
  | 72 => ⟨S16x256, .f32⟩
  | 73 => ⟨S4096x256, .f32⟩
  | 74 => ⟨S_, .f32⟩
  | 75 => ⟨S4096, .f32⟩
  | 76 => ⟨S4096, .f32⟩
  | 77 => ⟨S_, .f32⟩
  | 78 => ⟨S4096, .f32⟩
  | 79 => ⟨S4096, .f32⟩
  | 80 => ⟨S4096x1, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S4096x1x256, .f32⟩
  | 87 => ⟨S4096x1x256, .f32⟩
  | 88 => ⟨S4096x1x256, .f32⟩
  | 89 => ⟨S4096x1x256, .f32⟩
  | 90 => ⟨S4096x4x256, .f32⟩
  | 91 => ⟨S4x256x4096, .f32⟩
  | 92 => ⟨S4096x4x256, .f32⟩
  | 93 => ⟨S4096x1024, .f32⟩
  | 94 => ⟨S4096x1024, .f32⟩
  | 95 => ⟨S4096x4x256, .f32⟩
  | 96 => ⟨S4x256x4096, .f32⟩
  | 97 => ⟨S4x4096x256, .f32⟩
  | 98 => ⟨S4096x4x256, .f32⟩
  | 99 => ⟨S4x256x256, .f32⟩
  | 100 => ⟨S4x256x256, .f32⟩
  | 101 => ⟨S4096x1x256, .f32⟩
  | 102 => ⟨S4096x256, .f32⟩
  | 103 => ⟨S4096x1x256, .f32⟩
  | 104 => ⟨S4096x256, .f32⟩
  | 105 => ⟨S4096x1x256, .f32⟩
  | 106 => ⟨S4096x256, .f32⟩
  | 107 => ⟨S4096x1x256, .f32⟩
  | 108 => ⟨S4096x256, .f32⟩
  | 109 => ⟨S4096x256, .f32⟩
  | 110 => ⟨S_, .f32⟩
  | 111 => ⟨S4096x1024, .f32⟩
  | 112 => ⟨S4096x256, .f32⟩
  | 113 => ⟨S4096x256, .f32⟩
  | 114 => ⟨S4096x256, .f32⟩
  | 115 => ⟨S_, .f32⟩
  | 116 => ⟨S4112x256, .f32⟩
  | 117 => ⟨S16x256, .f32⟩
  | 118 => ⟨S4096x256, .f32⟩
  | 119 => ⟨S4096x256, .f32⟩
  | 120 => ⟨S_, .f32⟩
  | 121 => ⟨S4096x1024, .f32⟩
  | 122 => ⟨S4096x256, .f32⟩
  | 123 => ⟨S_, .f32⟩
  | 124 => ⟨S4096x1024, .f32⟩
  | 125 => ⟨S4096x1024, .f32⟩
  | 126 => ⟨S4096x256, .f32⟩
  | 127 => ⟨S4096x256, .f32⟩
  | _ => ⟨S4096x1024, .bf16⟩

abbrev hbmTy0_1 (i : Nat) : BufTy := match i % 128 with
  | 0 => ⟨S4096x256, .f32⟩
  | 1 => ⟨S_, .f32⟩
  | 2 => ⟨S4104x256, .f32⟩
  | 3 => ⟨S8x256, .f32⟩
  | 4 => ⟨S4096x256, .f32⟩
  | 5 => ⟨S4096x256, .f32⟩
  | 6 => ⟨S_, .f32⟩
  | 7 => ⟨S4096x1024, .f32⟩
  | 8 => ⟨S4096x1024, .f32⟩
  | 9 => ⟨S4096x256, .f32⟩
  | 10 => ⟨S_, .f32⟩
  | 11 => ⟨S4096x1024, .f32⟩
  | 12 => ⟨S4096x1024, .f32⟩
  | 13 => ⟨S4096x256, .f32⟩
  | 14 => ⟨S4096x256, .f32⟩
  | 15 => ⟨S4096x256, .f32⟩
  | 16 => ⟨S_, .f32⟩
  | 17 => ⟨S4100x256, .f32⟩
  | 18 => ⟨S4x256, .f32⟩
  | 19 => ⟨S4096x256, .f32⟩
  | 20 => ⟨S4096x256, .f32⟩
  | 21 => ⟨S_, .f32⟩
  | 22 => ⟨S4096x1024, .f32⟩
  | 23 => ⟨S4096x1024, .f32⟩
  | 24 => ⟨S4096x256, .f32⟩
  | 25 => ⟨S_, .f32⟩
  | 26 => ⟨S4096x1024, .f32⟩
  | 27 => ⟨S4096x1024, .f32⟩
  | 28 => ⟨S4096x256, .f32⟩
  | 29 => ⟨S4096x256, .f32⟩
  | 30 => ⟨S4096x256, .f32⟩
  | 31 => ⟨S_, .f32⟩
  | 32 => ⟨S4098x256, .f32⟩
  | 33 => ⟨S2x256, .f32⟩
  | 34 => ⟨S4096x256, .f32⟩
  | 35 => ⟨S4096x256, .f32⟩
  | 36 => ⟨S_, .f32⟩
  | 37 => ⟨S4096x1024, .f32⟩
  | 38 => ⟨S4096x1024, .f32⟩
  | 39 => ⟨S_, .f32⟩
  | 40 => ⟨S_, .f32⟩
  | 41 => ⟨S4096x1024, .f32⟩
  | 42 => ⟨S4096x1024, .f32⟩
  | 43 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_15 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_16 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_17 : Ref sig .tc := ⟨.hbm, 120, rfl⟩
abbrev main_v97 : Ref sig .tc := ⟨.hbm, 121, rfl⟩
abbrev main_v98 : Ref sig .tc := ⟨.hbm, 122, rfl⟩
abbrev main_cst_18 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_19 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_20 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_21 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_22 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_23 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_24 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_25 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_26 : Ref sig .tc := ⟨.hbm, 164, rfl⟩
abbrev main_v132 : Ref sig .tc := ⟨.hbm, 165, rfl⟩
abbrev main_v133 : Ref sig .tc := ⟨.hbm, 166, rfl⟩
abbrev main_call1_call0_cst : Ref sig .tc := ⟨.hbm, 167, rfl⟩
abbrev main_call1_call0_v0 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩

abbrev nD : Nat := 1
abbrev τ : Topo := Topo.v7x

variable {F : FTy → Type} [FloatOps F]
-- ==== In.lean ====
abbrev S4096x1024 : Shape := ⟨2, ![4096, 1024]⟩
abbrev S1x1024 : Shape := ⟨2, ![1, 1024]⟩
abbrev S8x768x1024 : Shape := ⟨3, ![8, 768, 1024]⟩
abbrev S4096x2048 : Shape := ⟨2, ![4096, 2048]⟩
abbrev S6144x1024 : Shape := ⟨2, ![6144, 1024]⟩
abbrev S256x1024 : Shape := ⟨2, ![256, 1024]⟩
abbrev S256x2048 : Shape := ⟨2, ![256, 2048]⟩
abbrev S1024x1024 : Shape := ⟨2, ![1024, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8x768x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x2048, .bf16⟩
  | .hbm, ⟨10, _⟩ => ⟨S4096x1024, .f32⟩
  | .hbm, ⟨11, _⟩ => ⟨S6144x1024, .bf16⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S6144x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6144x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InRefIdeal.lean ====
abbrev S4096x1024 : Shape := ⟨2, ![4096, 1024]⟩
abbrev S1x1024 : Shape := ⟨2, ![1, 1024]⟩
abbrev S8x768x1024 : Shape := ⟨3, ![8, 768, 1024]⟩
abbrev S4096x2048 : Shape := ⟨2, ![4096, 2048]⟩
abbrev S6144x1024 : Shape := ⟨2, ![6144, 1024]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8x768x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x2048, .bf16⟩
  | .hbm, ⟨10, _⟩ => ⟨S4096x1024, .f32⟩
  | .hbm, ⟨11, _⟩ => ⟨S8x768x1024, .f32⟩
  | .hbm, ⟨12, _⟩ => ⟨S6144x1024, .f32⟩
  | .hbm, ⟨13, _⟩ => ⟨S1024x6144, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2048, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x6144, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S4096x6144, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== AttnFwd.lean ====
abbrev S4096x6144 : Shape := ⟨2, ![4096, 6144]⟩
abbrev S4096x1024 : Shape := ⟨2, ![4096, 1024]⟩
abbrev S256x1024 : Shape := ⟨2, ![256, 1024]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256 : Shape := ⟨1, ![256]⟩

abbrev nBuf : Space → Nat
  | .hbm => 2
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c256_i32 : BitVec 32 := 256#32
  let v95 : BitVec 32 := Scalar.muli arg1 c256_i32
  v95
def k0_off1 (i : grid0.Coords) : Fin 2 → Nat :=
  let arg1 : BitVec 32 := BitVec.ofNat 32 (i 1).val
  let c256_i32 : BitVec 32 := 256#32
  let v95 : BitVec 32 := Scalar.muli arg1 c256_i32
  let v96 : BitVec 32 := v95
  let v97 : Index := Scalar.indexCast v96
  let c0_19 : Index := 0#32
  ![v97.toNat, 0]
@[reducible] def k0_t1_loop (i : grid0.Coords) : Scf.Loop 32 :=
  let c1_i32_181 : BitVec 32 := 1#32
  let arg1 : BitVec 32 := BitVec.ofNat 32 (i 1).val
  let c1_i32 : BitVec 32 := 1#32
  let v597 : BitVec 32 := Scalar.addi arg1 c1_i32
  let v598 : BitVec 32 := Scalar.subi v597 c1_i32_181
  let c1_i32_182 : BitVec 32 := 1#32
  let v600 : BitVec 32 := Scalar.divsi v598 c1_i32_182
  let v601 : BitVec 32 := Scalar.muli v600 c1_i32_182
  let v602 : BitVec 32 := Scalar.addi c1_i32_181 v601
  let c1_i32_183 : BitVec 32 := 1#32
  ⟨c1_i32_181, v602, c1_i32_183⟩
def k0_mult2 (i : grid0.Coords) (k0_t1 : Fin (k0_t1_loop i).trips) : BitVec 32 :=
  let arg1 : BitVec 32 := BitVec.ofNat 32 (i 1).val
  let c1_i32_181 : BitVec 32 := 1#32
  let c1_i32_183 : BitVec 32 := 1#32
  let arg6 : BitVec 32 := Scf.iv c1_i32_181 c1_i32_183 k0_t1
  let v637 : BitVec 32 := Scalar.subi arg1 arg6
  let c256_i32_194 : BitVec 32 := 256#32
  let v638 : BitVec 32 := Scalar.muli v637 c256_i32_194
  v638
def k0_off2 (i : grid0.Coords) (k0_t1 : Fin (k0_t1_loop i).trips) : Fin 2 → Nat :=
  let arg1 : BitVec 32 := BitVec.ofNat 32 (i 1).val
  let c1_i32_181 : BitVec 32 := 1#32
  let c1_i32_183 : BitVec 32 := 1#32
  let arg6 : BitVec 32 := Scf.iv c1_i32_181 c1_i32_183 k0_t1
  let v637 : BitVec 32 := Scalar.subi arg1 arg6
  let c256_i32_194 : BitVec 32 := 256#32
  let v638 : BitVec 32 := Scalar.muli v637 c256_i32_194
  let v639 : BitVec 32 := v638
  let v640 : Index := Scalar.indexCast v639
  let c0_195 : Index := 0#32
  ![v640.toNat, 0]
@[reducible] def k0_t2_loop (i : grid0.Coords) : Scf.Loop 32 :=
  let c1_i32_181 : BitVec 32 := 1#32
  let arg1 : BitVec 32 := BitVec.ofNat 32 (i 1).val
  let c1_i32 : BitVec 32 := 1#32
  let v597 : BitVec 32 := Scalar.addi arg1 c1_i32
  let v598 : BitVec 32 := Scalar.subi v597 c1_i32_181
  let c1_i32_182 : BitVec 32 := 1#32
  let v600 : BitVec 32 := Scalar.divsi v598 c1_i32_182
  let v601 : BitVec 32 := Scalar.muli v600 c1_i32_182
  let v602 : BitVec 32 := Scalar.addi c1_i32_181 v601
  let v599 : BitVec 32 := Scalar.addi c1_i32_181 v598
  let c1_i32_184 : BitVec 32 := 1#32
  ⟨v602, v599, c1_i32_184⟩
def k0_mult3 (i : grid0.Coords) (k0_t2 : Fin (k0_t2_loop i).trips) : BitVec 32 :=
  let arg1 : BitVec 32 := BitVec.ofNat 32 (i 1).val
  let c1_i32_181 : BitVec 32 := 1#32
  let c1_i32 : BitVec 32 := 1#32
  let v597 : BitVec 32 := Scalar.addi arg1 c1_i32
  let v598 : BitVec 32 := Scalar.subi v597 c1_i32_181
  let c1_i32_182 : BitVec 32 := 1#32
  let v600 : BitVec 32 := Scalar.divsi v598 c1_i32_182
  let v601 : BitVec 32 := Scalar.muli v600 c1_i32_182
  let v602 : BitVec 32 := Scalar.addi c1_i32_181 v601
  let c1_i32_184 : BitVec 32 := 1#32
  let arg6 : BitVec 32 := Scf.iv v602 c1_i32_184 k0_t2
  let v637 : BitVec 32 := Scalar.subi arg1 arg6
  let c256_i32_194 : BitVec 32 := 256#32
  let v638 : BitVec 32 := Scalar.muli v637 c256_i32_194
  v638
def k0_off3 (i : grid0.Coords) (k0_t2 : Fin (k0_t2_loop i).trips) : Fin 2 → Nat :=
  let arg1 : BitVec 32 := BitVec.ofNat 32 (i 1).val
  let c1_i32_181 : BitVec 32 := 1#32
  let c1_i32 : BitVec 32 := 1#32
  let v597 : BitVec 32 := Scalar.addi arg1 c1_i32
  let v598 : BitVec 32 := Scalar.subi v597 c1_i32_181
  let c1_i32_182 : BitVec 32 := 1#32
  let v600 : BitVec 32 := Scalar.divsi v598 c1_i32_182
  let v601 : BitVec 32 := Scalar.muli v600 c1_i32_182
  let v602 : BitVec 32 := Scalar.addi c1_i32_181 v601
  let c1_i32_184 : BitVec 32 := 1#32
  let arg6 : BitVec 32 := Scf.iv v602 c1_i32_184 k0_t2
  let v637 : BitVec 32 := Scalar.subi arg1 arg6
  let c256_i32_194 : BitVec 32 := 256#32
  let v638 : BitVec 32 := Scalar.muli v637 c256_i32_194
  let v639 : BitVec 32 := v638
  let v640 : Index := Scalar.indexCast v639
  let c0_195 : Index := 0#32
  ![v640.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S4096x6144 : Shape := ⟨2, ![4096, 6144]⟩
abbrev S4096x3072 : Shape := ⟨2, ![4096, 3072]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S16x4096x64, .f32⟩
  | .hbm, ⟨8, _⟩ => ⟨S4096x16x64, .f32⟩
  | .hbm, ⟨9, _⟩ => ⟨S16x4096x64, .f32⟩
  | .hbm, ⟨10, _⟩ => ⟨S4096x16x64, .f32⟩
  | .hbm, ⟨11, _⟩ => ⟨S16x4096x64, .f32⟩
  | .hbm, ⟨12, _⟩ => ⟨S16x4096x4096, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S_, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x4096, .i1⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S_, .f32⟩
  | .hbm, ⟨67, _⟩ => ⟨S16x4096x4096, .i1⟩
  | .hbm, ⟨68, _⟩ => ⟨S16x4096x4096, .f32⟩
  | .hbm, ⟨69, _⟩ => ⟨S16x4096x4096, .f32⟩
  | .hbm, ⟨70, _⟩ => ⟨S16x4096x64, .f32⟩
  | .hbm, ⟨71, _⟩ => ⟨S4096x16x64, .f32⟩
  | .hbm, ⟨72, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v23 : Ref sig .tc := ⟨.hbm, 42, rfl⟩
abbrev main_call2_cst : Ref sig .tc := ⟨.hbm, 43, rfl⟩
abbrev main_call2_v0 : Ref sig .tc := ⟨.hbm, 44, rfl⟩
abbrev main_v24 : Ref sig .tc := ⟨.hbm, 45, rfl⟩
abbrev main_v25 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]
-- ==== PoolFwd.lean ====
abbrev S4096x6144 : Shape := ⟨2, ![4096, 6144]⟩
abbrev S4x256x256 : Shape := ⟨3, ![4, 256, 256]⟩
abbrev S4096x1024 : Shape := ⟨2, ![4096, 1024]⟩
abbrev S256x1024 : Shape := ⟨2, ![256, 1024]⟩
abbrev S16x1024 : Shape := ⟨2, ![16, 1024]⟩
abbrev S256x1 : Shape := ⟨2, ![256, 1]⟩
abbrev S256x256 : Shape := ⟨2, ![256, 256]⟩
abbrev S16x256 : Shape := ⟨2, ![16, 256]⟩
abbrev S272x256 : Shape := ⟨2, ![272, 256]⟩
abbrev S1x256x256 : Shape := ⟨3, ![1, 256, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S4x256x256, .bf16⟩
  | .hbm, ⟨2, _⟩ => ⟨S4096x1024, .bf16⟩
  | .hbm, ⟨3, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S4096x6144 : Shape := ⟨2, ![4096, 6144]⟩
abbrev S4x256x256 : Shape := ⟨3, ![4, 256, 256]⟩
abbrev S4096x1024 : Shape := ⟨2, ![4096, 1024]⟩
abbrev S_ : Shape := ⟨0, ![]⟩
abbrev S4096 : Shape := ⟨1, ![4096]⟩
abbrev S4096x256 : Shape := ⟨2, ![4096, 256]⟩
abbrev S2x256 : Shape := ⟨2, ![2, 256]⟩
abbrev S4098x256 : Shape := ⟨2, ![4098, 256]⟩
abbrev S4096x1 : Shape := ⟨2, ![4096, 1]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S4096x1x256 : Shape := ⟨3, ![4096, 1, 256]⟩
abbrev S4096x4x256 : Shape := ⟨3, ![4096, 4, 256]⟩
abbrev S4x256x4096 : Shape := ⟨3, ![4, 256, 4096]⟩

abbrev nBuf : Space → Nat
  | .hbm => 164
  | .vmem => 0
  | .smem => 0
  | _ => 0

abbrev hbmTy0_0 (i : Nat) : BufTy := match i % 128 with
  | 0 => ⟨S4096x6144, .bf16⟩
  | 1 => ⟨S4x256x256, .bf16⟩
  | 2 => ⟨S4096x6144, .f32⟩
  | 3 => ⟨S4096x1024, .f32⟩
  | 4 => ⟨S_, .f32⟩
  | 5 => ⟨S_, .f32⟩
  | 6 => ⟨S4096x1024, .f32⟩
  | 7 => ⟨S4096, .f32⟩
  | 8 => ⟨S4096x256, .f32⟩
  | 9 => ⟨S_, .f32⟩
  | 10 => ⟨S2x256, .f32⟩
  | 11 => ⟨S4098x256, .f32⟩
  | 12 => ⟨S4096x256, .f32⟩
  | 13 => ⟨S_, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S_, .f32⟩
  | 27 => ⟨S4x256, .f32⟩
  | 28 => ⟨S4100x256, .f32⟩
  | 29 => ⟨S4096x256, .f32⟩
  | 30 => ⟨S_, .f32⟩
  | 31 => ⟨S4096, .f32⟩
  | 32 => ⟨S4096, .f32⟩
  | 33 => ⟨S_, .f32⟩
  | 34 => ⟨S4096, .f32⟩
  | 35 => ⟨S4096, .f32⟩
  | 36 => ⟨S4096x1, .f32⟩
  | 37 => ⟨S4096x256, .f32⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S_, .f32⟩
  | 44 => ⟨S8x256, .f32⟩
  | 45 => ⟨S4104x256, .f32⟩
  | 46 => ⟨S4096x256, .f32⟩
  | 47 => ⟨S_, .f32⟩
  | 48 => ⟨S4096, .f32⟩
  | 49 => ⟨S4096, .f32⟩
  | 50 => ⟨S_, .f32⟩
  | 51 => ⟨S4096, .f32⟩
  | 52 => ⟨S4096, .f32⟩
  | 53 => ⟨S4096x1, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S4096x256, .f32⟩
  | 60 => ⟨S_, .f32⟩
  | 61 => ⟨S16x256, .f32⟩
  | 62 => ⟨S4112x256, .f32⟩
  | 63 => ⟨S4096x256, .f32⟩
  | 64 => ⟨S_, .f32⟩
  | 65 => ⟨S4096, .f32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x256, .f32⟩
  | 72 => ⟨S4096x256, .f32⟩
  | 73 => ⟨S4096x256, .f32⟩
  | 74 => ⟨S4096x256, .f32⟩
  | 75 => ⟨S4096x256, .f32⟩
  | 76 => ⟨S4096x1x256, .f32⟩
  | 77 => ⟨S4096x1x256, .f32⟩
  | 78 => ⟨S4096x1x256, .f32⟩
  | 79 => ⟨S4096x1x256, .f32⟩
  | 80 => ⟨S4096x4x256, .f32⟩
  | 81 => ⟨S4096x1024, .f32⟩
  | 82 => ⟨S4096x1024, .bf16⟩
  | 83 => ⟨S4x256x256, .f32⟩
  | 84 => ⟨S_, .f32⟩
  | 85 => ⟨S_, .f32⟩
  | 86 => ⟨S4096x1024, .f32⟩
  | 87 => ⟨S4096, .f32⟩
  | 88 => ⟨S4096x256, .f32⟩
  | 89 => ⟨S_, .f32⟩
  | 90 => ⟨S2x256, .f32⟩
  | 91 => ⟨S4098x256, .f32⟩
  | 92 => ⟨S4096x256, .f32⟩
  | 93 => ⟨S_, .f32⟩
  | 94 => ⟨S4096, .f32⟩
  | 95 => ⟨S4096, .f32⟩
  | 96 => ⟨S_, .f32⟩
  | 97 => ⟨S4096, .f32⟩
  | 98 => ⟨S4096, .f32⟩
  | 99 => ⟨S4096x1, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S_, .f32⟩
  | 107 => ⟨S4x256, .f32⟩
  | 108 => ⟨S4100x256, .f32⟩
  | 109 => ⟨S4096x256, .f32⟩
  | 110 => ⟨S_, .f32⟩
  | 111 => ⟨S4096, .f32⟩
  | 112 => ⟨S4096, .f32⟩
  | 113 => ⟨S_, .f32⟩
  | 114 => ⟨S4096, .f32⟩
  | 115 => ⟨S4096, .f32⟩
  | 116 => ⟨S4096x1, .f32⟩
  | 117 => ⟨S4096x256, .f32⟩
  | 118 => ⟨S4096x256, .f32⟩
  | 119 => ⟨S4096x256, .f32⟩
  | 120 => ⟨S4096x256, .f32⟩
  | 121 => ⟨S4096x256, .f32⟩
  | 122 => ⟨S4096x256, .f32⟩
  | 123 => ⟨S_, .f32⟩
  | 124 => ⟨S8x256, .f32⟩
  | 125 => ⟨S4104x256, .f32⟩
  | 126 => ⟨S4096x256, .f32⟩
  | 127 => ⟨S_, .f32⟩
  | _ => ⟨S4096x6144, .bf16⟩

abbrev hbmTy0_1 (i : Nat) : BufTy := match i % 128 with
  | 0 => ⟨S4096, .f32⟩
  | 1 => ⟨S4096, .f32⟩
  | 2 => ⟨S_, .f32⟩
  | 3 => ⟨S4096, .f32⟩
  | 4 => ⟨S4096, .f32⟩
  | 5 => ⟨S4096x1, .f32⟩
  | 6 => ⟨S4096x256, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S_, .f32⟩
  | 13 => ⟨S16x256, .f32⟩
  | 14 => ⟨S4112x256, .f32⟩
  | 15 => ⟨S4096x256, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S4096x1, .f32⟩
  | 23 => ⟨S4096x256, .f32⟩
  | 24 => ⟨S4096x256, .f32⟩
  | 25 => ⟨S4096x256, .f32⟩
  | 26 => ⟨S4096x256, .f32⟩
  | 27 => ⟨S4096x256, .f32⟩
  | 28 => ⟨S4096x1x256, .f32⟩
  | 29 => ⟨S4096x1x256, .f32⟩
  | 30 => ⟨S4096x1x256, .f32⟩
  | 31 => ⟨S4096x1x256, .f32⟩
  | 32 => ⟨S4096x4x256, .f32⟩
  | 33 => ⟨S4x256x4096, .f32⟩
  | 34 => ⟨S4096x4x256, .f32⟩
  | 35 => ⟨S4096x1024, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call1_call0_cst : Ref sig .tc := ⟨.hbm, 84, rfl⟩
abbrev main_call1_call0_v0 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_15 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_18 : Ref sig .tc := ⟨.hbm, 127, rfl⟩
abbrev main_v102 : Ref sig .tc := ⟨.hbm, 128, rfl⟩
abbrev main_v103 : Ref sig .tc := ⟨.hbm, 129, rfl⟩
abbrev main_cst_19 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_20 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_21 : Ref sig .tc := ⟨.hbm, 144, rfl⟩
abbrev main_v116 : Ref sig .tc := ⟨.hbm, 145, rfl⟩
abbrev main_v117 : Ref sig .tc := ⟨.hbm, 146, rfl⟩
abbrev main_cst_22 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩

abbrev nD : Nat := 1
abbrev τ : Topo := Topo.v7x

variable {F : FTy → Type} [FloatOps F]
-- ==== GateFwd.lean ====
abbrev S4096x1024 : Shape := ⟨2, ![4096, 1024]⟩
abbrev S4096x6144 : Shape := ⟨2, ![4096, 6144]⟩
abbrev S1x1024 : Shape := ⟨2, ![1, 1024]⟩
abbrev S4096x2048 : Shape := ⟨2, ![4096, 2048]⟩
abbrev S2048x4096 : Shape := ⟨2, ![2048, 4096]⟩
abbrev S256x1024 : Shape := ⟨2, ![256, 1024]⟩
abbrev S256x2048 : Shape := ⟨2, ![256, 2048]⟩
abbrev S2048x256 : Shape := ⟨2, ![2048, 256]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .bf16⟩
  | .hbm, ⟨3, _⟩ => ⟨S1x1024, .f32⟩
  | .hbm, ⟨4, _⟩ => ⟨S4096x2048, .bf16⟩
  | .hbm, ⟨5, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S1x1024, .f32⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S4096x1024 : Shape := ⟨2, ![4096, 1024]⟩
abbrev S4096x6144 : Shape := ⟨2, ![4096, 6144]⟩
abbrev S1x1024 : Shape := ⟨2, ![1, 1024]⟩
abbrev S4096x2048 : Shape := ⟨2, ![4096, 2048]⟩
abbrev S_ : Shape := ⟨0, ![]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .bf16⟩
  | .hbm, ⟨3, _⟩ => ⟨S1x1024, .f32⟩
  | .hbm, ⟨4, _⟩ => ⟨S4096x6144, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S2048x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== ConvFwd.lean ====
abbrev S4096x8192 : Shape := ⟨2, ![4096, 8192]⟩
abbrev S3x2048 : Shape := ⟨2, ![3, 2048]⟩
abbrev S1x2048 : Shape := ⟨2, ![1, 2048]⟩
abbrev S4096x2048 : Shape := ⟨2, ![4096, 2048]⟩
abbrev S2048x4096 : Shape := ⟨2, ![2048, 4096]⟩
abbrev S256x2048 : Shape := ⟨2, ![256, 2048]⟩
abbrev S16x2048 : Shape := ⟨2, ![16, 2048]⟩
abbrev S2048x256 : Shape := ⟨2, ![2048, 256]⟩
abbrev S272x2048 : Shape := ⟨2, ![272, 2048]⟩

abbrev nBuf : Space → Nat
  | .hbm => 5
  | .vmem => 18
  | .smem => 0
  | _ => 0

abbrev bufTy : (tb : Table) → Fin (tcTables nBuf tb) → BufTy
  | .hbm, ⟨0, _⟩ => ⟨S4096x8192, .bf16⟩
  | .hbm, ⟨1, _⟩ => ⟨S3x2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S3x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S2048x256, .bf16⟩
  | .local _ .vmem, ⟨17, _⟩ => ⟨S2048x256, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFwdRefIdeal.lean ====
abbrev S4096x8192 : Shape := ⟨2, ![4096, 8192]⟩
abbrev S3x2048 : Shape := ⟨2, ![3, 2048]⟩
abbrev S1x2048 : Shape := ⟨2, ![1, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S2048 : Shape := ⟨1, ![2048]⟩
abbrev S2048x4096 : Shape := ⟨2, ![2048, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S3x2048, .f32⟩
  | .hbm, ⟨2, _⟩ => ⟨S1x2048, .f32⟩
  | .hbm, ⟨3, _⟩ => ⟨S4096x8192, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S2x2048, .f32⟩
  | .hbm, ⟨11, _⟩ => ⟨S4098x2048, .f32⟩
  | .hbm, ⟨12, _⟩ => ⟨S4096x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S2048x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Mod.lean ====
abbrev S4096x1024 : Shape := ⟨2, ![4096, 1024]⟩
abbrev S1x1024 : Shape := ⟨2, ![1, 1024]⟩
abbrev S1024x4096 : Shape := ⟨2, ![1024, 4096]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1024x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1024x256, .bf16⟩
  | .local _ .vmem, ⟨8, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== ModResid.lean ====
abbrev S4096x1024 : Shape := ⟨2, ![4096, 1024]⟩
abbrev S1x1024 : Shape := ⟨2, ![1, 1024]⟩
abbrev S1024x4096 : Shape := ⟨2, ![1024, 4096]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1024x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1024x256, .bf16⟩
  | .local _ .vmem, ⟨13, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ModResidRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== ProjOut.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjOutBwd.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjOutBwdRefIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1024x2048, .bf16⟩
  | .hbm, ⟨3, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradOut.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩
abbrev S512x4096 : Shape := ⟨2, ![512, 4096]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x4096, .bf16⟩
  | .hbm, ⟨3, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradOutRefIdeal.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x4096, .bf16⟩
  | .hbm, ⟨3, _⟩ => ⟨S2048x1024, .f32⟩
  | .hbm, ⟨4, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjIn.lean ====
abbrev S4096x1024 : Shape := ⟨2, ![4096, 1024]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S4096x8192 : Shape := ⟨2, ![4096, 8192]⟩
abbrev S256x1024 : Shape := ⟨2, ![256, 1024]⟩
abbrev S256x8192 : Shape := ⟨2, ![256, 8192]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S1024x8x1024, .bf16⟩
  | .hbm, ⟨3, _⟩ => ⟨S8x1024x1024, .bf16⟩
  | .hbm, ⟨4, _⟩ => ⟨S4096x8192, .bf16⟩
  | .local _ .vmem, ⟨0, _⟩ => ⟨S256x1024, .bf16⟩
  | .local _ .vmem, ⟨1, _⟩ => ⟨S256x1024, .bf16⟩
  | .local _ .vmem, ⟨2, _⟩ => ⟨S8x1024x1024, .bf16⟩
  | .local _ .vmem, ⟨3, _⟩ => ⟨S256x8192, .bf16⟩
  | .local _ .vmem, ⟨4, _⟩ => ⟨S256x8192, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjInRefIdeal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .f32⟩
  | .hbm, ⟨3, _⟩ => ⟨S4096x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradIn.lean ====
abbrev S4096x1024 : Shape := ⟨2, ![4096, 1024]⟩
abbrev S4096x8192 : Shape := ⟨2, ![4096, 8192]⟩
abbrev S1024x4096 : Shape := ⟨2, ![1024, 4096]⟩
abbrev S8x1024x1024 : Shape := ⟨3, ![8, 1024, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S1024x4096, .bf16⟩
  | .hbm, ⟨3, _⟩ => ⟨S8x1024x1024, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradInRefIdeal.lean ====
abbrev S4096x1024 : Shape := ⟨2, ![4096, 1024]⟩
abbrev S4096x8192 : Shape := ⟨2, ![4096, 8192]⟩
abbrev S1024x4096 : Shape := ⟨2, ![1024, 4096]⟩
abbrev S1024x8192 : Shape := ⟨2, ![1024, 8192]⟩
abbrev S1024x8x1024 : Shape := ⟨3, ![1024, 8, 1024]⟩
abbrev S8x1024x1024 : Shape := ⟨3, ![8, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S1024x4096, .bf16⟩
  | .hbm, ⟨3, _⟩ => ⟨S1024x8192, .f32⟩
  | .hbm, ⟨4, _⟩ => ⟨S1024x8192, .bf16⟩
  | .hbm, ⟨5, _⟩ => ⟨S1024x8x1024, .bf16⟩
  | .hbm, ⟨6, _⟩ => ⟨S8x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumAdam.lean ====
abbrev S8x1024x1024 : Shape := ⟨3, ![8, 1024, 1024]⟩
abbrev S1024x1024 : Shape := ⟨2, ![1024, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SumAdamRefIdeal.lean ====
abbrev S8x1024x1024 : Shape := ⟨3, ![8, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdaAdam.lean ====
abbrev S8x1024 : Shape := ⟨2, ![8, 1024]⟩
abbrev S2x8x384 : Shape := ⟨3, ![2, 8, 384]⟩
abbrev S2x1024x384 : Shape := ⟨3, ![2, 1024, 384]⟩
abbrev S1024x8 : Shape := ⟨2, ![1024, 8]⟩
abbrev S1x8x384 : Shape := ⟨3, ![1, 8, 384]⟩
abbrev S1x1024x384 : Shape := ⟨3, ![1, 1024, 384]⟩
abbrev S8x384 : Shape := ⟨2, ![8, 384]⟩
abbrev S1024x1 : Shape := ⟨2, ![1024, 1]⟩
abbrev S1x384 : Shape := ⟨2, ![1, 384]⟩
abbrev S1024x384 : Shape := ⟨2, ![1024, 384]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S1024x8, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .local _ .vmem, ⟨0, _⟩ => ⟨S1024x8, .f32⟩
  | .local _ .vmem, ⟨1, _⟩ => ⟨S1x8x384, .f32⟩
  | .local _ .vmem, ⟨2, _⟩ => ⟨S1x8x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | .local _ .vmem, ⟨8, _⟩ => ⟨S1x1024x384, .f32⟩
  | .local _ .vmem, ⟨9, _⟩ => ⟨S1x1024x384, .f32⟩
  | .local _ .vmem, ⟨10, _⟩ => ⟨S1x1024x384, .f32⟩
  | .local _ .vmem, ⟨11, _⟩ => ⟨S1x1024x384, .f32⟩
  | .local _ .vmem, ⟨12, _⟩ => ⟨S1x1024x384, .f32⟩
  | .local _ .vmem, ⟨13, _⟩ => ⟨S1x1024x384, .f32⟩
  | .local _ .vmem, ⟨14, _⟩ => ⟨S1x1024x384, .f32⟩
  | .local _ .vmem, ⟨15, _⟩ => ⟨S1x1024x384, .f32⟩
  | .local _ .vmem, ⟨16, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaAdamRefIdeal.lean ====
abbrev S8x1024 : Shape := ⟨2, ![8, 1024]⟩
abbrev S2x8x384 : Shape := ⟨3, ![2, 8, 384]⟩
abbrev S2x1024x384 : Shape := ⟨3, ![2, 1024, 384]⟩
abbrev S2x384x1024 : Shape := ⟨3, ![2, 384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S2x384x1024, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S_, .f32⟩
  | .hbm, ⟨11, _⟩ => ⟨S2x1024x384, .f32⟩
  | .hbm, ⟨12, _⟩ => ⟨S2x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S2x1024x384, .f32⟩
  | .hbm, ⟨18, _⟩ => ⟨S_, .f32⟩
  | .hbm, ⟨19, _⟩ => ⟨S2x1024x384, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S2x1024x384, .f32⟩
  | .hbm, ⟨33, _⟩ => ⟨S_, .f32⟩
  | .hbm, ⟨34, _⟩ => ⟨S2x1024x384, .f32⟩
  | .hbm, ⟨35, _⟩ => ⟨S2x1024x384, .f32⟩
  | .hbm, ⟨36, _⟩ => ⟨S2x1024x384, .f32⟩
  | .hbm, ⟨37, _⟩ => ⟨S_, .f32⟩
  | .hbm, ⟨38, _⟩ => ⟨S2x1024x384, .f32⟩
  | .hbm, ⟨39, _⟩ => ⟨S2x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdaForward.lean ====
abbrev S1x1024 : Shape := ⟨2, ![1, 1024]⟩
abbrev S3x256 : Shape := ⟨2, ![3, 256]⟩
abbrev S1x256 : Shape := ⟨2, ![1, 256]⟩
abbrev S2x1024x384 : Shape := ⟨3, ![2, 1024, 384]⟩
abbrev S2x3072 : Shape := ⟨2, ![2, 3072]⟩
abbrev S7x8x1024 : Shape := ⟨3, ![7, 8, 1024]⟩
abbrev S7x8x384 : Shape := ⟨3, ![7, 8, 384]⟩
abbrev S8x1024 : Shape := ⟨2, ![8, 1024]⟩
abbrev S3x2048 : Shape := ⟨2, ![3, 2048]⟩
abbrev S1x2048 : Shape := ⟨2, ![1, 2048]⟩
abbrev S8x8x384 : Shape := ⟨3, ![8, 8, 384]⟩
abbrev S8x8x1024 : Shape := ⟨3, ![8, 8, 1024]⟩
abbrev S1x8x1024 : Shape := ⟨3, ![1, 8, 1024]⟩
abbrev S1x1x1024 : Shape := ⟨3, ![1, 1, 1024]⟩
abbrev S1x3x256 : Shape := ⟨3, ![1, 3, 256]⟩
abbrev S1x1x256 : Shape := ⟨3, ![1, 1, 256]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S1x1x384 : Shape := ⟨3, ![1, 1, 384]⟩
abbrev S1x8x384 : Shape := ⟨3, ![1, 8, 384]⟩
abbrev S1x2x384 : Shape := ⟨3, ![1, 2, 384]⟩
abbrev S2x384 : Shape := ⟨2, ![2, 384]⟩

abbrev nBuf : Space → Nat
  | .hbm => 12
  | .vmem => 15
  | .smem => 0
  | _ => 0

abbrev bufTy : (tb : Table) → Fin (tcTables nBuf tb) → BufTy
  | .hbm, ⟨0, _⟩ => ⟨S1x1024, .f32⟩
  | .hbm, ⟨1, _⟩ => ⟨S3x256, .f32⟩
  | .hbm, ⟨2, _⟩ => ⟨S1x256, .f32⟩
  | .hbm, ⟨3, _⟩ => ⟨S2x1024x384, .f32⟩
  | .hbm, ⟨4, _⟩ => ⟨S2x3072, .f32⟩
  | .hbm, ⟨5, _⟩ => ⟨S7x8x1024, .f32⟩
  | .hbm, ⟨6, _⟩ => ⟨S7x8x384, .f32⟩
  | .hbm, ⟨7, _⟩ => ⟨S2x3072, .f32⟩
  | .hbm, ⟨8, _⟩ => ⟨S8x1024, .f32⟩
  | .hbm, ⟨9, _⟩ => ⟨S3x2048, .f32⟩
  | .hbm, ⟨10, _⟩ => ⟨S1x2048, .f32⟩
  | .hbm, ⟨11, _⟩ => ⟨S8x8x384, .f32⟩
  | .local _ .vmem, ⟨0, _⟩ => ⟨S1x1024, .f32⟩
  | .local _ .vmem, ⟨1, _⟩ => ⟨S3x256, .f32⟩
  | .local _ .vmem, ⟨2, _⟩ => ⟨S1x256, .f32⟩
  | .local _ .vmem, ⟨3, _⟩ => ⟨S2x1024x384, .f32⟩
  | .local _ .vmem, ⟨4, _⟩ => ⟨S2x3072, .f32⟩
  | .local _ .vmem, ⟨5, _⟩ => ⟨S7x8x1024, .f32⟩
  | .local _ .vmem, ⟨6, _⟩ => ⟨S7x8x384, .f32⟩
  | .local _ .vmem, ⟨7, _⟩ => ⟨S2x3072, .f32⟩
  | .local _ .vmem, ⟨8, _⟩ => ⟨S8x1024, .f32⟩
  | .local _ .vmem, ⟨9, _⟩ => ⟨S3x2048, .f32⟩
  | .local _ .vmem, ⟨10, _⟩ => ⟨S1x2048, .f32⟩
  | .local _ .vmem, ⟨11, _⟩ => ⟨S8x8x384, .f32⟩
  | .local _ .vmem, ⟨12, _⟩ => ⟨S8x1024, .f32⟩
  | .local _ .vmem, ⟨13, _⟩ => ⟨S8x8x1024, .f32⟩
  | .local _ .vmem, ⟨14, _⟩ => ⟨S8x8x384, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== AdaForwardRefIdeal.lean ====
abbrev S1x1024 : Shape := ⟨2, ![1, 1024]⟩
abbrev S3x256 : Shape := ⟨2, ![3, 256]⟩
abbrev S1x256 : Shape := ⟨2, ![1, 256]⟩
abbrev S2x1024x384 : Shape := ⟨3, ![2, 1024, 384]⟩
abbrev S2x3072 : Shape := ⟨2, ![2, 3072]⟩
abbrev S7x8x1024 : Shape := ⟨3, ![7, 8, 1024]⟩
abbrev S7x8x384 : Shape := ⟨3, ![7, 8, 384]⟩
abbrev S7x1x1024 : Shape := ⟨3, ![7, 1, 1024]⟩
abbrev S7x1024 : Shape := ⟨2, ![7, 1024]⟩
abbrev S8x1024 : Shape := ⟨2, ![8, 1024]⟩
abbrev S1x3x256 : Shape := ⟨3, ![1, 3, 256]⟩
abbrev S7x3x256 : Shape := ⟨3, ![7, 3, 256]⟩
abbrev S8x3x256 : Shape := ⟨3, ![8, 3, 256]⟩
abbrev S7x1x256 : Shape := ⟨3, ![7, 1, 256]⟩
abbrev S7x256 : Shape := ⟨2, ![7, 256]⟩
abbrev S8x256 : Shape := ⟨2, ![8, 256]⟩
abbrev S_ : Shape := ⟨0, ![]⟩
abbrev S8x2x384 : Shape := ⟨3, ![8, 2, 384]⟩
abbrev S1x2x384 : Shape := ⟨3, ![1, 2, 384]⟩
abbrev S7x2x384 : Shape := ⟨3, ![7, 2, 384]⟩
abbrev S2x8x384 : Shape := ⟨3, ![2, 8, 384]⟩
abbrev S3x8x256 : Shape := ⟨3, ![3, 8, 256]⟩
abbrev S3x2048 : Shape := ⟨2, ![3, 2048]⟩
abbrev S1x2048 : Shape := ⟨2, ![1, 2048]⟩
abbrev S8x8x384 : Shape := ⟨3, ![8, 8, 384]⟩

abbrev nBuf : Space → Nat
  | .hbm => 38
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S3x256, .f32⟩
  | .hbm, ⟨2, _⟩ => ⟨S1x256, .f32⟩
  | .hbm, ⟨3, _⟩ => ⟨S2x1024x384, .f32⟩
  | .hbm, ⟨4, _⟩ => ⟨S2x3072, .f32⟩
  | .hbm, ⟨5, _⟩ => ⟨S7x8x1024, .f32⟩
  | .hbm, ⟨6, _⟩ => ⟨S7x8x384, .f32⟩
  | .hbm, ⟨7, _⟩ => ⟨S7x1x1024, .f32⟩
  | .hbm, ⟨8, _⟩ => ⟨S7x1024, .f32⟩
  | .hbm, ⟨9, _⟩ => ⟨S8x1024, .f32⟩
  | .hbm, ⟨10, _⟩ => ⟨S1x3x256, .f32⟩
  | .hbm, ⟨11, _⟩ => ⟨S7x3x256, .f32⟩
  | .hbm, ⟨12, _⟩ => ⟨S8x3x256, .f32⟩
  | .hbm, ⟨13, _⟩ => ⟨S7x1x256, .f32⟩
  | .hbm, ⟨14, _⟩ => ⟨S7x256, .f32⟩
  | .hbm, ⟨15, _⟩ => ⟨S8x256, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x2x384, .f32⟩
  | .hbm, ⟨26, _⟩ => ⟨S1x2x384, .f32⟩
  | .hbm, ⟨27, _⟩ => ⟨S7x2x384, .f32⟩
  | .hbm, ⟨28, _⟩ => ⟨S8x2x384, .f32⟩
  | .hbm, ⟨29, _⟩ => ⟨S2x8x384, .f32⟩
  | .hbm, ⟨30, _⟩ => ⟨S2x3072, .f32⟩
  | .hbm, ⟨31, _⟩ => ⟨S2x3072, .f32⟩
  | .hbm, ⟨32, _⟩ => ⟨S3x8x256, .f32⟩
  | .hbm, ⟨33, _⟩ => ⟨S3x2048, .f32⟩
  | .hbm, ⟨34, _⟩ => ⟨S1x2048, .f32⟩
  | .hbm, ⟨35, _⟩ => ⟨S_, .i32⟩
  | .hbm, ⟨36, _⟩ => ⟨S_, .f32⟩
  | .hbm, ⟨37, _⟩ => ⟨S8x8x384, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call1_v0 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== SibSum.lean ====
abbrev S8x1024x768 : Shape := ⟨3, ![8, 1024, 768]⟩
abbrev S4x1024x768 : Shape := ⟨3, ![4, 1024, 768]⟩
abbrev S_ : Shape := ⟨0, ![]⟩
abbrev S1 : Shape := ⟨1, ![1]⟩
abbrev S1x256x768 : Shape := ⟨3, ![1, 256, 768]⟩
abbrev S256x768 : Shape := ⟨2, ![256, 768]⟩

abbrev nBuf : Space → Nat
  | .hbm => 4
  | .vmem => 6
  | .smem => 1
  | _ => 0

abbrev bufTy : (tb : Table) → Fin (tcTables nBuf tb) → BufTy
  | .hbm, ⟨0, _⟩ => ⟨S8x1024x768, .bf16⟩
  | .hbm, ⟨1, _⟩ => ⟨S4x1024x768, .bf16⟩
  | .hbm, ⟨2, _⟩ => ⟨S_, .i32⟩
  | .hbm, ⟨3, _⟩ => ⟨S4x1024x768, .bf16⟩
  | .local _ .vmem, ⟨0, _⟩ => ⟨S1x256x768, .bf16⟩
  | .local _ .vmem, ⟨1, _⟩ => ⟨S1x256x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .smem, ⟨0, _⟩ => ⟨S1, .i32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibSumRefIdeal.lean ====
abbrev S8x1024x768 : Shape := ⟨3, ![8, 1024, 768]⟩
abbrev S4x1024x768 : Shape := ⟨3, ![4, 1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S4x1024x768, .bf16⟩
  | .hbm, ⟨2, _⟩ => ⟨S4x1024x768, .bf16⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .bf16⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.ConvSpec.lean ====
/- The gated short convolution's gradient, entry by entry over the extended reals: what both programs are shown to
   compute. `P` holds the four column groups (output gate `gb`, input gate `gc`, input `u`, SiLU gate). -/
module

public import Idealize.ShloMosaic.Lib.Pointwise

@[expose] public section

noncomputable section

namespace ConvSpec

open Idealize.ShloMosaic

/-- The array of the four column groups, the cotangent, the taps and the bias. -/
abbrev AP := (⟨2, ![4096, 8192]⟩ : Shape).Idx → EReal
abbrev AD := (⟨2, ![4096, 2048]⟩ : Shape).Idx → EReal
abbrev AW := (⟨2, ![3, 2048]⟩ : Shape).Idx → EReal
abbrev AB := (⟨2, ![1, 2048]⟩ : Shape).Idx → EReal

/-- Lane `l` of column group `g`. -/
def col (g : Fin 4) (l : Fin 2048) : Fin 8192 := ⟨2048 * g.val + l.val, by omega⟩

/-- The convolution's input: the gated values. -/
def uc (P : AP) (r : Fin 4096) (l : Fin 2048) : EReal := P (ix2 r (col 1 l)) * P (ix2 r (col 2 l))

/-- The gated values at row `n - 16`, zero outside the array. -/
def ush (P : AP) (n : ℕ) (l : Fin 2048) : EReal :=
  if h : 16 ≤ n ∧ n < 4112 then uc P ⟨n - 16, by omega⟩ l else 0

def sgm (P : AP) (r : Fin 4096) (l : Fin 2048) : EReal := Ideal.logistic (P (ix2 r (col 3 l)))

/-- SiLU of the gate. -/
def sg (P : AP) (r : Fin 4096) (l : Fin 2048) : EReal := P (ix2 r (col 3 l)) * sgm P r l

def conv (P : AP) (W : AW) (B : AB) (r : Fin 4096) (l : Fin 2048) : EReal :=
  B (ix2 0 l) + W (ix2 0 l) * ush P (r.val + 14) l + W (ix2 1 l) * ush P (r.val + 15) l + W (ix2 2 l) * uc P r l

/-- The convolution's cotangent. -/
def dconv (D : AD) (P : AP) (r : Fin 4096) (l : Fin 2048) : EReal :=
  D (ix2 r l) * P (ix2 r (col 0 l)) * sg P r l

/-- The convolution's cotangent at row `n`, zero past the last row. -/
def dsh (D : AD) (P : AP) (n : ℕ) (l : Fin 2048) : EReal :=
  if h : n < 4096 then dconv D P ⟨n, h⟩ l else 0

/-- The cotangent of the gated values. -/
def duc (D : AD) (P : AP) (W : AW) (r : Fin 4096) (l : Fin 2048) : EReal :=
  W (ix2 2 l) * dconv D P r l + W (ix2 1 l) * dsh D P (r.val + 1) l + W (ix2 0 l) * dsh D P (r.val + 2) l

/-- The gradient of column group `g`. -/
def dp (D : AD) (P : AP) (W : AW) (B : AB) (r : Fin 4096) (l : Fin 2048) : Fin 4 → EReal
  | 0 => D (ix2 r l) * conv P W B r l * sg P r l
  | 1 => duc D P W r l * P (ix2 r (col 2 l))
  | 2 => duc D P W r l * P (ix2 r (col 1 l))
  | 3 => D (ix2 r l) * P (ix2 r (col 0 l)) * conv P W B r l * (sgm P r l + sg P r l * (1 - sgm P r l))

/-- The gradient of the four column groups as one array. -/
def dproj (D : AD) (P : AP) (W : AW) (B : AB) : AP := fun i =>
  dp D P W B (i 0) ⟨(i 1).val % 2048, Nat.mod_lt _ (by decide)⟩
    ⟨(i 1).val / 2048, by have : (i 1).val < 8192 := (i 1).isLt; omega⟩

/-- The gradient of the taps and of the bias. -/
def dcw (D : AD) (P : AP) : AW := fun i => ∑ r : Fin 4096, dconv D P r (i 1) * ush P (r.val + 14 + (i 0).val) (i 1)
def dcb (D : AD) (P : AP) : AB := fun i => ∑ r : Fin 4096, dconv D P r (i 1)

theorem ush_self (P : AP) (r : Fin 4096) (l : Fin 2048) : ush P (r.val + 16) l = uc P r l := by
  unfold ush
  rw [dif_pos ⟨by omega, by omega⟩]
  rfl

end ConvSpec

end
-- ==== Proof.ConvKernel.lean ====
/- The kernel's three results, read entry by entry: the blocks of the fifteen windows, the payloads of one grid point,
   the accumulated gradients over the sixteen points. -/
module

public import proofs.«01_k».proof.Proof.Gen.ConvIdeal.Value
public import proofs.«01_k».proof.Proof.ConvSpec
public import Idealize.ShloMosaic.Lib.Pipeline.ValueKit
public import Idealize.ShloMosaic.Lib.Pipeline.ReadBack

@[expose] public section

set_option maxRecDepth 16384

noncomputable section

namespace Cert.ConvIdeal.Hand

open Cert.ConvIdeal Cert.ConvIdeal.Gen Idealize.ShloMosaic Idealize.ShloMosaic.TcCoe Idealize.SL.Sem
open Idealize.ShloMosaic.Pipeline (Dat)
open ConvSpec (AD AP AW AB col uc ush sgm sg conv dconv dsh duc dp dproj dcw dcb ush_self)

/-- Where each window's block sits at point `t`. -/
abbrev Idx (t : Fin grid0.N) : Prop :=
  (win0_0.index t = ![t.val, 0] ∧ win0_1.index t = ![t.val, 0] ∧ win0_2.index t = ![t.val, 1]
    ∧ win0_3.index t = ![t.val, 2] ∧ win0_4.index t = ![t.val, 3])
  ∧ (win0_5.index t = ![16 * t.val - 1, 1] ∧ win0_6.index t = ![16 * t.val - 1, 2])
  ∧ (win0_7.index t = ![min (16 * t.val + 16) 255, 0] ∧ win0_8.index t = ![min (16 * t.val + 16) 255, 0]
    ∧ win0_9.index t = ![min (16 * t.val + 16) 255, 3])
  ∧ (win0_10.index t = ![0, 0] ∧ win0_11.index t = ![0, 0])
  ∧ (win0_12.index t = ![t.val, 0] ∧ win0_13.index t = ![0, 0] ∧ win0_14.index t = ![0, 0])
  ∧ Scalar.cmpi .eq (BitVec.ofNat 32 (grid0.coords t 0).val) 0#32 = BitVec.ofBool (decide (t.val = 0))
  ∧ Scalar.cmpi .eq (BitVec.ofNat 32 (grid0.coords t 0).val) 15#32 = BitVec.ofBool (decide (t.val = 15))

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The four arguments on device `c`. -/
abbrev aD : AD := m ((c.tc : Thread nD τ).loc main_arg0)
abbrev aP : AP := m ((c.tc : Thread nD τ).loc main_arg1)
abbrev aW : AW := m ((c.tc : Thread nD τ).loc main_arg2)
abbrev aB : AB := m ((c.tc : Thread nD τ).loc main_arg3)

/-- Row `r` of the tile of point `t`. -/
def row (r : Fin 256) : Fin 4096 := ⟨t.val * 256 + r.val, by have := point_lt t; omega⟩

theorem b0 (r : Fin 256) (l : Fin 2048) : iblk m c 0 t (ix2 r l) = aD m c (ix2 (row t r) l) := by
  blk_ext [iblk, V, idx t, row]
theorem b1 (r : Fin 256) (l : Fin 2048) : iblk m c 1 t (ix2 r l) = aP m c (ix2 (row t r) (col 0 l)) := by
  blk_ext [iblk, V, idx t, row, col]
theorem b2 (r : Fin 256) (l : Fin 2048) : iblk m c 2 t (ix2 r l) = aP m c (ix2 (row t r) (col 1 l)) := by
  blk_ext [iblk, V, idx t, row, col]
theorem b3 (r : Fin 256) (l : Fin 2048) : iblk m c 3 t (ix2 r l) = aP m c (ix2 (row t r) (col 2 l)) := by
  blk_ext [iblk, V, idx t, row, col]
theorem b4 (r : Fin 256) (l : Fin 2048) : iblk m c 4 t (ix2 r l) = aP m c (ix2 (row t r) (col 3 l)) := by
  blk_ext [iblk, V, idx t, row, col]

/-- Row `r` of the sixteen before the tile; of the sixteen after it. -/
def rowP (r : Fin 16) : Fin 4096 := ⟨(16 * t.val - 1) * 16 + r.val, by have := point_lt t; omega⟩
def rowN (r : Fin 16) : Fin 4096 := ⟨(min (16 * t.val + 16) 255) * 16 + r.val, by have := point_lt t; omega⟩

theorem b5 (r : Fin 16) (l : Fin 2048) : iblk m c 5 t (ix2 r l) = aP m c (ix2 (rowP t r) (col 1 l)) := by
  blk_ext [iblk, V, idx t, rowP, col]
theorem b6 (r : Fin 16) (l : Fin 2048) : iblk m c 6 t (ix2 r l) = aP m c (ix2 (rowP t r) (col 2 l)) := by
  blk_ext [iblk, V, idx t, rowP, col]
theorem b7 (r : Fin 16) (l : Fin 2048) : iblk m c 7 t (ix2 r l) = aD m c (ix2 (rowN t r) l) := by
  blk_ext [iblk, V, idx t, rowN]
theorem b8 (r : Fin 16) (l : Fin 2048) : iblk m c 8 t (ix2 r l) = aP m c (ix2 (rowN t r) (col 0 l)) := by
  blk_ext [iblk, V, idx t, rowN, col]
theorem b9 (r : Fin 16) (l : Fin 2048) : iblk m c 9 t (ix2 r l) = aP m c (ix2 (rowN t r) (col 3 l)) := by
  blk_ext [iblk, V, idx t, rowN, col]
theorem b10 (r : Fin 3) (l : Fin 2048) : iblk m c 10 t (ix2 r l) = aW m c (ix2 r l) := by
  blk_ext [iblk, V, idx t]
theorem b11 (r : Fin 1) (l : Fin 2048) : iblk m c 11 t (ix2 r l) = aB m c (ix2 r l) := by
  blk_ext [iblk, V, idx t]

/-- The gated values of the tile. -/
theorem p9 (r : Fin 256) (l : Fin 2048) : k0_pay9 (iblk m c 2 t) (iblk m c 3 t) (ix2 r l) = uc (aP m c) (row t r) l := by
  pointwise [k0_pay9, k0_pay5, k0_pay6]
  rw [b2, b3]
  rfl

/-- The gated values of the sixteen rows before and of the tile. -/
theorem p10 (q : Fin 272) (l : Fin 2048) :
    k0_pay10 (grid0.coords t) (iblk m c 2 t) (iblk m c 3 t) (iblk m c 5 t) (iblk m c 6 t) (ix2 q l)
      = ush (aP m c) (t.val * 256 + q.val) l := by
  have ht := point_lt t
  pointwise [k0_pay10]
  rw [(idx t).2.2.2.2.2.1]
  unfold ush
  by_cases hq : q.val < 16
  · rw [dif_pos hq]
    by_cases h0 : t.val = 0
    · rw [decide_eq_true h0, dif_neg (by omega)]
      rfl
    · rw [decide_eq_false h0, dif_pos ⟨by omega, by omega⟩]
      refine (congrArg₂ (fun a b : EReal => a * b) (b5 m c t ⟨q.val, hq⟩ l) (b6 m c t ⟨q.val, hq⟩ l)).trans ?_
      rw [show rowP t ⟨q.val, hq⟩ = ⟨t.val * 256 + q.val - 16, by omega⟩ from
        Fin.ext (by show (16 * t.val - 1) * 16 + q.val = t.val * 256 + q.val - 16; omega)]
      rfl
  · rw [dif_neg hq, dif_pos ⟨by omega, by omega⟩, p9]
    congr 1
    exact Fin.ext (by show t.val * 256 + (q.val - 16) = t.val * 256 + q.val - 16; omega)

theorem p11 (r : Fin 256) (l : Fin 2048) :
    k0_pay11 (grid0.coords t) (iblk m c 2 t) (iblk m c 3 t) (iblk m c 5 t) (iblk m c 6 t) (ix2 r l)
      = ush (aP m c) ((row t r).val + 15) l := by
  pointwise [k0_pay11]
  rw [p10]
  congr 1
  show t.val * 256 + (16 + r.val + 272 - 1) % 272 = t.val * 256 + r.val + 15
  omega

theorem p12 (r : Fin 256) (l : Fin 2048) :
    k0_pay12 (grid0.coords t) (iblk m c 2 t) (iblk m c 3 t) (iblk m c 5 t) (iblk m c 6 t) (ix2 r l)
      = ush (aP m c) ((row t r).val + 14) l := by
  pointwise [k0_pay12]
  rw [p10]
  congr 1
  show t.val * 256 + (16 + r.val + 272 - 2) % 272 = t.val * 256 + r.val + 14
  omega

/-- The convolution of the tile. -/
theorem p18 (r : Fin 256) (l : Fin 2048) :
    k0_pay18 (k0_pay9 (iblk m c 2 t) (iblk m c 3 t))
        (k0_pay11 (grid0.coords t) (iblk m c 2 t) (iblk m c 3 t) (iblk m c 5 t) (iblk m c 6 t))
        (k0_pay14 (iblk m c 10 t)) (k0_pay15 (iblk m c 10 t))
        (k0_pay16 (grid0.coords t) (iblk m c 2 t) (iblk m c 3 t) (iblk m c 5 t) (iblk m c 6 t) (iblk m c 10 t))
        (k0_pay17 (iblk m c 11 t)) (ix2 r l)
      = conv (aP m c) (aW m c) (aB m c) (row t r) l := by
  pointwise [k0_pay18, k0_pay14, k0_pay15, k0_pay16, k0_pay17, k0_pay13]
  simp only [p9, p11, p12, b10, b11]
  rfl

/-- The sigmoid, SiLU and the convolution's cotangent on the tile. -/
theorem p19 (r : Fin 256) (l : Fin 2048) : k0_pay19 (k0_pay8 (iblk m c 4 t)) (ix2 r l) = sgm (aP m c) (row t r) l := by
  pointwise [k0_pay19, k0_pay8]
  rw [b4, zero_sub]
  rfl

theorem p20 (r : Fin 256) (l : Fin 2048) : k0_pay20 (k0_pay8 (iblk m c 4 t)) (ix2 r l) = sg (aP m c) (row t r) l := by
  pointwise [k0_pay20]
  rw [p19]
  pointwise [k0_pay8]
  rw [b4]
  rfl

theorem p21 (r : Fin 256) (l : Fin 2048) :
    k0_pay21 (k0_pay7 (iblk m c 1 t)) (k0_pay8 (iblk m c 4 t)) (iblk m c 0 t) (ix2 r l)
      = dconv (aD m c) (aP m c) (row t r) l := by
  pointwise [k0_pay21, k0_pay7]
  rw [p20, b0, b1]
  rfl

/-- The convolution's cotangent on the tile and the sixteen rows after it. -/
theorem p22 (q : Fin 272) (l : Fin 2048) :
    k0_pay22 (BitVec.ofNat 32 (grid0.coords t 0).val) (k0_pay7 (iblk m c 1 t)) (k0_pay8 (iblk m c 4 t)) (iblk m c 0 t)
        (iblk m c 9 t) (iblk m c 7 t) (iblk m c 8 t) (ix2 q l)
      = dsh (aD m c) (aP m c) (t.val * 256 + q.val) l := by
  have ht := point_lt t
  pointwise [k0_pay22]
  rw [(idx t).2.2.2.2.2.2]
  unfold dsh
  by_cases hq : q.val < 256
  · rw [dif_pos hq, dif_pos (by omega), p21]
    rfl
  · rw [dif_neg hq]
    by_cases h0 : t.val = 15
    · rw [decide_eq_true h0, dif_neg (by omega)]
      rfl
    · rw [decide_eq_false h0, dif_pos (by omega)]
      refine (congrArg₂ (fun a b : EReal => a * b)
        (congrArg₂ (fun a b : EReal => a * b) (b7 m c t ⟨q.val - 256, by omega⟩ l) (b8 m c t ⟨q.val - 256, by omega⟩ l))
        (congrArg (fun x : EReal => x * Ideal.div 1 (1 + Ideal.exp (0 - x))) (b9 m c t ⟨q.val - 256, by omega⟩ l))).trans ?_
      rw [zero_sub, show rowN t ⟨q.val - 256, by omega⟩ = ⟨t.val * 256 + q.val, by omega⟩ from
        Fin.ext (by show (min (16 * t.val + 16) 255) * 16 + (q.val - 256) = t.val * 256 + q.val; omega)]
      rfl

/-- The cotangent of the gated values on the tile. -/
theorem p26 (r : Fin 256) (l : Fin 2048) :
    k0_pay26 (k0_pay13 (iblk m c 10 t))
      (k0_pay23 (BitVec.ofNat 32 (grid0.coords t 0).val) (k0_pay7 (iblk m c 1 t)) (k0_pay8 (iblk m c 4 t))
        (iblk m c 0 t) (iblk m c 9 t) (iblk m c 7 t) (iblk m c 8 t))
      (k0_pay24 (k0_pay7 (iblk m c 1 t)) (k0_pay8 (iblk m c 4 t)) (iblk m c 0 t) (k0_pay15 (iblk m c 10 t)))
      (k0_pay25 (BitVec.ofNat 32 (grid0.coords t 0).val) (k0_pay7 (iblk m c 1 t)) (k0_pay8 (iblk m c 4 t))
        (iblk m c 0 t) (k0_pay14 (iblk m c 10 t)) (iblk m c 9 t) (iblk m c 7 t) (iblk m c 8 t)) (ix2 r l)
      = duc (aD m c) (aP m c) (aW m c) (row t r) l := by
  pointwise [k0_pay26, k0_pay23, k0_pay24, k0_pay25, k0_pay13, k0_pay14, k0_pay15]
  simp only [p21, p22, b10]
  unfold duc
  rw [show t.val * 256 + (r.val + 272 - 271) % 272 = (row t r).val + 1 by show _ = t.val * 256 + r.val + 1; omega,
    show t.val * 256 + (r.val + 272 - 270) % 272 = (row t r).val + 2 by show _ = t.val * 256 + r.val + 2; omega]

/-- The four stores of the gradient's block, whichever the case. -/
theorem store12 (r : Fin 256) (q : Fin 8192) :
    View.canon (Val := Elt Ideal) (s := S256x8192) (e := .bf16)
      [⟨Rect.unit ![0, 6144] ![256, 2048] inb_S256x8192_S256x2048_0_6144,
          k0_pay30 (k0_pay7 (iblk m c 1 t)) (iblk m c 0 t)
      (k0_pay18 (k0_pay9 (iblk m c 2 t) (iblk m c 3 t))
        (k0_pay11 (grid0.coords t) (iblk m c 2 t) (iblk m c 3 t) (iblk m c 5 t) (iblk m c 6 t))
        (k0_pay14 (iblk m c 10 t)) (k0_pay15 (iblk m c 10 t))
        (k0_pay16 (grid0.coords t) (iblk m c 2 t) (iblk m c 3 t) (iblk m c 5 t) (iblk m c 6 t) (iblk m c 10 t))
        (k0_pay17 (iblk m c 11 t)))
      (k0_pay19 (k0_pay8 (iblk m c 4 t))) (k0_pay20 (k0_pay8 (iblk m c 4 t)))⟩,
       ⟨Rect.unit ![0, 4096] ![256, 2048] inb_S256x8192_S256x2048_0_4096,
    k0_pay29 (k0_pay5 (iblk m c 2 t)) (k0_pay13 (iblk m c 10 t))
      (k0_pay23 (BitVec.ofNat 32 ↑(grid0.coords t 0)) (k0_pay7 (iblk m c 1 t)) (k0_pay8 (iblk m c 4 t)) (iblk m c 0 t)
        (iblk m c 9 t) (iblk m c 7 t) (iblk m c 8 t))
      (k0_pay24 (k0_pay7 (iblk m c 1 t)) (k0_pay8 (iblk m c 4 t)) (iblk m c 0 t) (k0_pay15 (iblk m c 10 t)))
      (k0_pay25 (BitVec.ofNat 32 ↑(grid0.coords t 0)) (k0_pay7 (iblk m c 1 t)) (k0_pay8 (iblk m c 4 t)) (iblk m c 0 t)
        (k0_pay14 (iblk m c 10 t)) (iblk m c 9 t) (iblk m c 7 t) (iblk m c 8 t))⟩,
       ⟨Rect.unit ![0, 2048] ![256, 2048] inb_S256x8192_S256x2048_0_2048,
    k0_pay28 (k0_pay6 (iblk m c 3 t)) (k0_pay13 (iblk m c 10 t))
      (k0_pay23 (BitVec.ofNat 32 ↑(grid0.coords t 0)) (k0_pay7 (iblk m c 1 t)) (k0_pay8 (iblk m c 4 t)) (iblk m c 0 t)
        (iblk m c 9 t) (iblk m c 7 t) (iblk m c 8 t))
      (k0_pay24 (k0_pay7 (iblk m c 1 t)) (k0_pay8 (iblk m c 4 t)) (iblk m c 0 t) (k0_pay15 (iblk m c 10 t)))
      (k0_pay25 (BitVec.ofNat 32 ↑(grid0.coords t 0)) (k0_pay7 (iblk m c 1 t)) (k0_pay8 (iblk m c 4 t)) (iblk m c 0 t)
        (k0_pay14 (iblk m c 10 t)) (iblk m c 9 t) (iblk m c 7 t) (iblk m c 8 t))⟩,
        ⟨Rect.unit ![0, 0] ![256, 2048] inb_S256x8192_S256x2048_0_0,
    k0_pay27 (iblk m c 0 t)
      (k0_pay18 (k0_pay9 (iblk m c 2 t) (iblk m c 3 t))
        (k0_pay11 (grid0.coords t) (iblk m c 2 t) (iblk m c 3 t) (iblk m c 5 t) (iblk m c 6 t))
        (k0_pay14 (iblk m c 10 t)) (k0_pay15 (iblk m c 10 t))
        (k0_pay16 (grid0.coords t) (iblk m c 2 t) (iblk m c 3 t) (iblk m c 5 t) (iblk m c 6 t) (iblk m c 10 t))
        (k0_pay17 (iblk m c 11 t)))
      (k0_pay20 (k0_pay8 (iblk m c 4 t)))⟩] (ix2 r q)
      = dproj (aD m c) (aP m c) (aW m c) (aB m c) (ix2 (row t r) q) := by
  have key : ∀ (g : Fin 4) (r' : Fin 256) (l : Fin 2048), r.val = r'.val → q.val = 2048 * g.val + l.val →
      dp (aD m c) (aP m c) (aW m c) (aB m c) (row t r') l g
        = dproj (aD m c) (aP m c) (aW m c) (aB m c) (ix2 (row t r) q) := fun g r' l hr h => by
    have e1 : (⟨q.val % 2048, Nat.mod_lt _ (by decide)⟩ : Fin 2048) = l := Fin.ext (by show q.val % 2048 = l.val; omega)
    have e2 : (⟨q.val / 2048, by omega⟩ : Fin 4) = g := Fin.ext (by show q.val / 2048 = g.val; omega)
    show _ = dp (aD m c) (aP m c) (aW m c) (aB m c) (row t r) ⟨q.val % 2048, _⟩ ⟨q.val / 2048, _⟩
    rw [e1, e2, Fin.ext hr]
  canon_tiles x h
  all_goals idx_vars x
  · rw [← key 3 x0 x1 h0 h1]
    pointwise [k0_pay30, k0_pay7]
    simp only [p18, p19, p20, b0, b1]
    rfl
  · rw [← key 2 x0 x1 h0 h1]
    pointwise [k0_pay29, k0_pay5]
    simp only [p26, b2]
    rfl
  · rw [← key 1 x0 x1 h0 h1]
    pointwise [k0_pay28, k0_pay6]
    simp only [p26, b3]
    rfl
  · rw [← key 0 x0 x1 h0 (by rw [h1]; exact (Nat.zero_add _).symm)]
    pointwise [k0_pay27]
    simp only [p18, p20, b0]
    rfl

/-- What point `t` leaves in the gradient's block. -/
theorem after12 (r : Fin 256) (q : Fin 8192) :
    (outsAt0 m c t.val t.isLt).1 (ix2 r q) = dproj (aD m c) (aP m c) (aW m c) (aB m c) (ix2 (row t r) q) := by
  by_cases h0 : t.val % 16 = 0
  · rw [outsAt0_A m c t h0]
    frame_out
    exact store12 m c t r q
  · rw [outsAt0_B m c t h0]
    frame_out
    exact store12 m c t r q

/-- The gradient of the four column groups after the run. -/
theorem array12 : (dats m 0 c).arrAt 12 cfg0.N = dproj (aD m c) (aP m c) (aW m c) (aB m c) := by
  refine (dats m 0 c).arrAt_eq_of_covers 12 _ (by decide +kernel) fun t hf y => ?_
  blk_simp
  rw [after0_12]
  idx_vars y
  rw [after12]
  congr 1
  blk_ext [idx t, row]

/-- A sum over the tiles of sums over their rows. -/
theorem sum_tiles (f : Fin 4096 → EReal) : ∑ t : Fin cfg0.N, ∑ r : Fin 256, f (row t r) = ∑ r : Fin 4096, f r := by
  have h := @Fin.sum_points_lanes_congr EReal inferInstance cfg0.N 256 1 4096 16
    (fun t r => f (row t r)) (fun _ r => f r) (fun t k ha hl => by
      have := point_lt t
      exact congrArg f (Fin.ext (by show t.val * 256 + k.val = t.val % 16 * 256 + k.val; omega)))
    (by decide) (by decide)
  exact h.trans (Fin.sum_univ_one _)

/-- The bias gradient's part of one tile. -/
def partB (t : Fin cfg0.N) (j : S1x2048.Idx) : EReal := ∑ r : Fin 256, dconv (aD m c) (aP m c) (row t r) (j 1)

theorem step14 (x : Vec Ideal S1x2048 .f32) (j : S1x2048.Idx) :
    k0_pay2 (k0_pay21 (k0_pay7 (iblk m c 1 t)) (k0_pay8 (iblk m c 4 t)) (iblk m c 0 t)) x j = x j + partB m c t j := by
  idx_vars j
  pointwise [k0_pay2]
  simp only [p21]
  rfl

theorem array14 : (dats m 0 c).arrAt 14 cfg0.N = dcb (aD m c) (aP m c) := by
  refine (dats m 0 c).arrAt_eq_of_after_last 14 t0_15 (by decide +kernel) _ fun j => ?_
  blk_simp
  rw [after0_14, Pipeline.eq_sum_fin_of_reset_step_apply_last (fun n h => (outsAt0 m c n h).2.2) 16 (fun _ => 0) (partB m c)
    (fun t h j => by
      rw [outsAt0_A m c t h]
      frame_out
      rw [step14]
      pointwise [k0_pay4])
    (fun t h j => by
      rw [outsAt0_B m c t h]
      frame_out
      rw [step14])
    (le_of_eq N_0) t0_15 rfl j, zero_add]
  exact (sum_tiles fun r => dconv (aD m c) (aP m c) r (j 1))

/-- The tap gradient's part of one tile. -/
def partW (t : Fin cfg0.N) (j : S3x2048.Idx) : EReal :=
  ∑ r : Fin 256, dconv (aD m c) (aP m c) (row t r) (j 1) * ush (aP m c) ((row t r).val + 14 + (j 0).val) (j 1)

theorem tap0 (x : Vec Ideal S3x2048 .f32) (k : S1x2048.Idx) :
    k0_pay31 (k0_pay12 (grid0.coords t) (iblk m c 2 t) (iblk m c 3 t) (iblk m c 5 t) (iblk m c 6 t))
      (k0_pay21 (k0_pay7 (iblk m c 1 t)) (k0_pay8 (iblk m c 4 t)) (iblk m c 0 t))
      (View.ld x (Rect.unit ![0, 0] ![1, 2048] inb_S3x2048_S1x2048_0_0)) k = x (ix2 0 (k 1)) + partW m c t (ix2 0 (k 1)) := by
  idx_vars k
  pointwise [k0_pay31]
  simp only [p21, p12]
  rfl

theorem tap1 (x : Vec Ideal S3x2048 .f32) (k : S1x2048.Idx) :
    k0_pay32 (k0_pay11 (grid0.coords t) (iblk m c 2 t) (iblk m c 3 t) (iblk m c 5 t) (iblk m c 6 t))
      (k0_pay21 (k0_pay7 (iblk m c 1 t)) (k0_pay8 (iblk m c 4 t)) (iblk m c 0 t))
      (View.ld x (Rect.unit ![1, 0] ![1, 2048] inb_S3x2048_S1x2048_1_0)) k = x (ix2 1 (k 1)) + partW m c t (ix2 1 (k 1)) := by
  idx_vars k
  pointwise [k0_pay32]
  simp only [p21, p11]
  rfl

theorem tap2 (x : Vec Ideal S3x2048 .f32) (k : S1x2048.Idx) :
    k0_pay1 (k0_pay9 (iblk m c 2 t) (iblk m c 3 t))
      (k0_pay21 (k0_pay7 (iblk m c 1 t)) (k0_pay8 (iblk m c 4 t)) (iblk m c 0 t))
      (View.ld x (Rect.unit ![2, 0] ![1, 2048] inb_S3x2048_S1x2048_2_0)) k = x (ix2 2 (k 1)) + partW m c t (ix2 2 (k 1)) := by
  idx_vars k
  pointwise [k0_pay1]
  simp only [p21, p9]
  refine congrArg (x (ix2 2 k1) + ·) (Finset.sum_congr rfl fun r _ => ?_)
  exact congrArg (dconv (aD m c) (aP m c) (row t r) k1 * ·) (ush_self (aP m c) (row t r) k1).symm

/-- The three stores of the taps' sums over what they held. -/
theorem store13 (x : Vec Ideal S3x2048 .f32) (L : List (View.Piece (Elt Ideal) S3x2048 .f32)) (j : S3x2048.Idx) :
    View.canon (Val := Elt Ideal) (s := S3x2048) (e := .f32)
      ([⟨Rect.unit ![2, 0] ![1, 2048] inb_S3x2048_S1x2048_2_0,
          k0_pay1 (k0_pay9 (iblk m c 2 t) (iblk m c 3 t))
            (k0_pay21 (k0_pay7 (iblk m c 1 t)) (k0_pay8 (iblk m c 4 t)) (iblk m c 0 t))
            (View.ld x (Rect.unit ![2, 0] ![1, 2048] inb_S3x2048_S1x2048_2_0))⟩,
        ⟨Rect.unit ![1, 0] ![1, 2048] inb_S3x2048_S1x2048_1_0,
          k0_pay32 (k0_pay11 (grid0.coords t) (iblk m c 2 t) (iblk m c 3 t) (iblk m c 5 t) (iblk m c 6 t))
            (k0_pay21 (k0_pay7 (iblk m c 1 t)) (k0_pay8 (iblk m c 4 t)) (iblk m c 0 t))
            (View.ld x (Rect.unit ![1, 0] ![1, 2048] inb_S3x2048_S1x2048_1_0))⟩,
        ⟨Rect.unit ![0, 0] ![1, 2048] inb_S3x2048_S1x2048_0_0,
          k0_pay31 (k0_pay12 (grid0.coords t) (iblk m c 2 t) (iblk m c 3 t) (iblk m c 5 t) (iblk m c 6 t))
            (k0_pay21 (k0_pay7 (iblk m c 1 t)) (k0_pay8 (iblk m c 4 t)) (iblk m c 0 t))
            (View.ld x (Rect.unit ![0, 0] ![1, 2048] inb_S3x2048_S1x2048_0_0))⟩] ++ L) j
      = x j + partW m c t j := by
  have at_row : ∀ (a : ℕ) (ha : a < 3) (h : ∀ b, (![a, 0] : Fin 2 → ℕ) b + S1x2048.size b ≤ S3x2048.size b) (k : S1x2048.Idx),
      (Rect.unit (s := S3x2048) ![a, 0] ![1, 2048] h).emb k = ix2 ⟨a, ha⟩ (k 1) := fun a ha h k => by
    idx_vars k
    exact funext fun b => Fin.ext (match b with
      | ⟨0, _⟩ => by show a + 1 * k0.val = a; omega
      | ⟨1, _⟩ => by show 0 + 1 * k1.val = k1.val; omega)
  refine View.canon_append_of_piecesOf (fun j => x j + partW m c t j) L [_, _, _]
    ⟨fun k => ?_, fun k => ?_, fun k => ?_, trivial⟩ j (View.cover_of_tiledL _ ![1, 2048] rfl j)
  · exact (tap2 m c t x k).trans (congrArg (fun j => x j + partW m c t j) (at_row 2 (by decide) inb_S3x2048_S1x2048_2_0 k).symm)
  · exact (tap1 m c t x k).trans (congrArg (fun j => x j + partW m c t j) (at_row 1 (by decide) inb_S3x2048_S1x2048_1_0 k).symm)
  · exact (tap0 m c t x k).trans (congrArg (fun j => x j + partW m c t j) (at_row 0 (by decide) inb_S3x2048_S1x2048_0_0 k).symm)

theorem array13 : (dats m 0 c).arrAt 13 cfg0.N = dcw (aD m c) (aP m c) := by
  refine (dats m 0 c).arrAt_eq_of_after_last 13 t0_15 (by decide +kernel) _ fun j => ?_
  blk_simp
  rw [after0_13, Pipeline.eq_sum_fin_of_reset_step_apply_last (fun n h => (outsAt0 m c n h).2.1) 16 (fun _ => 0) (partW m c)
    (fun t h j => by
      rw [outsAt0_A m c t h]
      frame_out
      simp (disch := decide) only [↓ View.readCov_skip, ↓ View.readCov_cons_toLoadRect, ↓ View.readCov_fill]
      refine (store13 m c t _ [_] j).trans ?_
      pointwise [k0_pay3])
    (fun t h j => by
      rw [outsAt0_B m c t h]
      frame_out
      exact store13 m c t _ [] j)
    (le_of_eq N_0) t0_15 rfl j, zero_add]
  exact (sum_tiles fun r => dconv (aD m c) (aP m c) r (j 1) * ush (aP m c) (r.val + 14 + (j 0).val) (j 1))

end Cert.ConvIdeal.Hand

end
-- ==== Proof.Real.lean ====
/- Entries that are real numbers: closed under the arithmetic the gradients use. -/
module

public import Idealize.ShloMosaic.Lib.Pointwise

@[expose] public section

noncomputable section

namespace Real1

open Idealize.ShloMosaic

/-- The extended real is a real number. -/
def IsR (x : EReal) : Prop := ∃ r : ℝ, x = (r : EReal)

theorem isR_coe (r : ℝ) : IsR (r : EReal) := ⟨r, rfl⟩
theorem isR_zero : IsR 0 := ⟨0, EReal.coe_zero.symm⟩
theorem isR_one : IsR 1 := ⟨1, EReal.coe_one.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.neg {x : EReal} (hx : IsR x) : IsR (-x) := by
  obtain ⟨a, rfl⟩ := hx
  exact ⟨-a, (EReal.coe_neg a).symm⟩

theorem IsR.sub {x y : EReal} (hx : IsR x) (hy : IsR y) : IsR (x - y) := by
  rw [sub_eq_add_neg]
  exact hx.add hy.neg

theorem IsR.logistic {x : EReal} (hx : IsR x) : IsR (Ideal.logistic x) := by
  obtain ⟨a, rfl⟩ := hx
  exact ⟨_, Ideal.logistic_coe a⟩

theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- Below the top in absolute value means a real number: the reading of a finiteness precondition's entry. -/
theorem isR_of_abs_lt {x : EReal} (h : max x (-x) < ⊤) : IsR x := by
  have h1 : x ≠ ⊤ := fun e => by rw [e] at h; simp at h
  have h2 : x ≠ ⊥ := fun e => by rw [e] at h; simp at h
  exact ⟨x.toReal, (EReal.coe_toReal h1 h2).symm⟩

/-- The same from the bit that a printed precondition leaves for the entry. -/
theorem isR_of_bit {φ : FTy} {x : Ideal φ}
    (h : BitVec.ofBool (decide (FloatOps.absf x < Ideal.ofBits FTy.f32 2139095040#32)) = 1#1) : IsR x := by
  have inf : Ideal.ofBits FTy.f32 2139095040#32 = ⊤ := by simp [Ideal.ofBits, Ideal.ieee]
  have h' : max (x : EReal) (-x) < ⊤ := by
    by_contra hp
    rw [inf, Ideal.absf_def, decide_eq_false hp] at h
    exact absurd h (by decide)
  exact isR_of_abs_lt h'

/-- A product distributes over a sum of real numbers. -/
theorem IsR.mul_add {x y z : EReal} (hx : IsR x) (hy : IsR y) (hz : IsR z) : x * (y + z) = x * y + x * z := by
  obtain ⟨a, rfl⟩ := hx
  obtain ⟨b, rfl⟩ := hy
  obtain ⟨c, rfl⟩ := hz
  simp only [← EReal.coe_add, ← EReal.coe_mul, _root_.mul_add]

end Real1

end
-- ==== Proof.ConvRef.lean ====
/- The reference's three results, read entry by entry. -/
module

public import proofs.«01_k».proof.Proof.Gen.ConvRefIdeal.Read
public import proofs.«01_k».proof.Proof.ConvSpec
public import proofs.«01_k».proof.Proof.Real

@[expose] public section

set_option maxRecDepth 16384

noncomputable section

namespace Cert.ConvRefIdeal.Hand

open Cert.ConvRefIdeal Cert.ConvRefIdeal.Read Idealize.ShloMosaic
open ConvSpec (AD AP AW AB col uc ush sgm sg conv dconv dsh duc dp dproj dcw dcb)
open Real1 (IsR)

variable (D : AD) (P : AP) (W : AW) (B : AB)

/-- The padded input of the convolution. -/
theorem up_apply (n : Fin 4098) (l : Fin 2048) : val_main_v7 (F := Ideal) P (ix2 n l) = ush P (n.val + 14) l := by
  pointwise [val_main_v0, val_main_v2, val_main_v3, val_main_v5, val_main_cst, val_main_v6, val_main_v7]
  unfold ush uc col
  by_cases h : n.val < 2
  · rw [dif_pos h, dif_neg (by omega)]
  · rw [dif_neg h, dif_pos ⟨by omega, by omega⟩]
    rfl

/-- The convolution. -/
theorem conv_apply (r : Fin 4096) (l : Fin 2048) : val_main_v32 (F := Ideal) P W B (ix2 r l) = conv P W B r l := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_call0_v0, val_main_call0_v1, val_main_call0_cst, val_main_call0_v2, val_main_call0_v3,
    val_main_call0_cst_0, val_main_call0_v4, val_main_v34_2, val_main_call0_cst_1, val_main_call0_v6,
    val_main_call0_v7, val_main_v34_1, val_main_v34_0, val_main_v35, val_main_v36, val_main_v37,
    val_main_call1_v0, val_main_call1_v1, val_main_call1_v2, val_main_v38, val_main_v39, val_main_v40,
    val_main_cst_2, val_main_v41, val_main_v42, val_main_v43, val_main_cst_3, val_main_v44, val_main_v45,
    val_main_v46, val_main_v47, val_main_cst_4, val_main_v48, val_main_v49, val_main_cst_5, val_main_v50,
    val_main_cst_6, val_main_v51, val_main_v52, val_main_cst_7, val_main_v53, val_main_v54, val_main_v55,
    val_main_v56, val_main_cst_8, val_main_v57, val_main_v58, val_main_cst_9, val_main_v59, val_main_v60,
    val_main_cst_10, val_main_v61, val_main_v62, val_main_v63, val_main_cst_11, val_main_v64, val_main_v65,
    val_main_v66, val_main_v67, val_main_cst_12, val_main_v68, val_main_v69, val_main_cst_13, val_main_v70,
    val_main_v71, val_main_cst_14, val_main_v72, val_main_v73, val_main_v74, val_main_v75, val_main_v76,
    val_main_v77, val_main_v78, val_main_v79]
  simp only [up_apply]
  unfold conv
  rw [show 1 + r.val + 14 = r.val + 15 by omega, show 2 + r.val + 14 = r.val + 16 by omega,
    ← ConvSpec.ush_self P r l, mul_comm (W (ix2 0 l)), mul_comm (W (ix2 1 l)), mul_comm (W (ix2 2 l)), add_assoc,
    add_assoc, add_assoc]

/-- The convolution's cotangent. -/
theorem dconv_apply (r : Fin 4096) (l : Fin 2048) : val_main_v39 (F := Ideal) D P (ix2 r l) = dconv D P r l := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_call0_v0, val_main_call0_v1, val_main_call0_cst, val_main_call0_v2, val_main_call0_v3,
    val_main_call0_cst_0, val_main_call0_v4, val_main_v34_2, val_main_call0_cst_1, val_main_call0_v6,
    val_main_call0_v7, val_main_v34_1, val_main_v34_0, val_main_v35, val_main_v36, val_main_v37,
    val_main_call1_v0, val_main_call1_v1, val_main_call1_v2, val_main_v38, val_main_v39, val_main_v40,
    val_main_cst_2, val_main_v41, val_main_v42, val_main_v43, val_main_cst_3, val_main_v44, val_main_v45,
    val_main_v46, val_main_v47, val_main_cst_4, val_main_v48, val_main_v49, val_main_cst_5, val_main_v50,
    val_main_cst_6, val_main_v51, val_main_v52, val_main_cst_7, val_main_v53, val_main_v54, val_main_v55,
    val_main_v56, val_main_cst_8, val_main_v57, val_main_v58, val_main_cst_9, val_main_v59, val_main_v60,
    val_main_cst_10, val_main_v61, val_main_v62, val_main_v63, val_main_cst_11, val_main_v64, val_main_v65,
    val_main_v66, val_main_v67, val_main_cst_12, val_main_v68, val_main_v69, val_main_cst_13, val_main_v70,
    val_main_v71, val_main_cst_14, val_main_v72, val_main_v73, val_main_v74, val_main_v75, val_main_v76,
    val_main_v77, val_main_v78, val_main_v79]
  have e : (⟨l.val, by omega⟩ : Fin 8192) = col 0 l := Fin.ext (Nat.zero_add l.val).symm
  rw [e]
  show P (ix2 r (col 0 l)) * (D (ix2 r l) * sg P r l) = D (ix2 r l) * P (ix2 r (col 0 l)) * sg P r l
  rw [← mul_assoc, mul_comm (P _)]

theorem out0_0 (r : Fin 4096) (l : Fin 2048) : val_main_v40 (F := Ideal) D P W B (ix2 r l) = dp D P W B r l 0 := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v33, val_main_call0_v0,
    val_main_call0_v1, val_main_call0_cst, val_main_call0_v2, val_main_call0_v3, val_main_call0_cst_0,
    val_main_call0_v4, val_main_v34_2, val_main_call0_cst_1, val_main_call0_v6, val_main_call0_v7,
    val_main_v34_1, val_main_v34_0, val_main_v35, val_main_v36, val_main_v37, val_main_call1_v0,
    val_main_call1_v1, val_main_call1_v2, val_main_v38, val_main_v40, val_main_cst_2, val_main_v41,
    val_main_v42, val_main_v43, val_main_cst_3, val_main_v44, val_main_v45, val_main_v46, val_main_v47,
    val_main_cst_4, val_main_v48, val_main_v49, val_main_cst_5, val_main_v50, val_main_cst_6, val_main_v51,
    val_main_v52, val_main_cst_7, val_main_v53, val_main_v54, val_main_v55, val_main_v56, val_main_cst_8,
    val_main_v57, val_main_v58, val_main_cst_9, val_main_v59, val_main_v60, val_main_cst_10, val_main_v61,
    val_main_v62, val_main_v63, val_main_cst_11, val_main_v64, val_main_v65, val_main_v66, val_main_v67,
    val_main_cst_12, val_main_v68, val_main_v69, val_main_cst_13, val_main_v70, val_main_v71, val_main_cst_14,
    val_main_v72, val_main_v73, val_main_v74, val_main_v75, val_main_v76, val_main_v77, val_main_v78,
    val_main_v79]
  rw [conv_apply]
  exact mul_right_comm _ _ _

/-- The cotangent of the gated values. -/
theorem du_apply (r : Fin 4096) (l : Fin 2048) : val_main_v75 (F := Ideal) D P W (ix2 r l) = duc D P W r l := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v33, val_main_call0_v0,
    val_main_call0_v1, val_main_call0_cst, val_main_call0_v2, val_main_call0_v3, val_main_call0_cst_0,
    val_main_call0_v4, val_main_v34_2, val_main_call0_cst_1, val_main_call0_v6, val_main_call0_v7,
    val_main_v34_1, val_main_v34_0, val_main_v35, val_main_v36, val_main_v37, val_main_call1_v0,
    val_main_call1_v1, val_main_call1_v2, val_main_v38, val_main_v40, val_main_cst_2, val_main_v41,
    val_main_v42, val_main_v43, val_main_cst_3, val_main_v44, val_main_v45, val_main_v46, val_main_v47,
    val_main_cst_4, val_main_v48, val_main_v49, val_main_cst_5, val_main_v50, val_main_cst_6, val_main_v51,
    val_main_v52, val_main_cst_7, val_main_v53, val_main_v54, val_main_v55, val_main_v56, val_main_cst_8,
    val_main_v57, val_main_v58, val_main_cst_9, val_main_v59, val_main_v60, val_main_cst_10, val_main_v61,
    val_main_v62, val_main_v63, val_main_cst_11, val_main_v64, val_main_v65, val_main_v66, val_main_v67,
    val_main_cst_12, val_main_v68, val_main_v69, val_main_cst_13, val_main_v70, val_main_v71, val_main_cst_14,
    val_main_v72, val_main_v73, val_main_v74, val_main_v75, val_main_v76, val_main_v77, val_main_v78,
    val_main_v79]
  simp only [dconv_apply]
  unfold duc dsh
  rw [mul_comm (W (ix2 2 l))]
  refine congrArg₂ (· + ·) (congrArg₂ (· + ·) rfl ?_) ?_
  · by_cases h : r.val + 1 < 4096
    · rw [dif_pos ⟨by omega, by omega⟩, dif_pos h, mul_comm (W (ix2 1 l))]
      congr 3
      omega
    · rw [dif_neg (by omega), dif_neg h, mul_zero]
  · by_cases h : r.val + 2 < 4096
    · rw [dif_pos (by omega), dif_pos h, mul_comm (W (ix2 0 l))]
      congr 3
      omega
    · rw [dif_neg (by omega), dif_neg h, mul_zero]

theorem out0_1 (r : Fin 4096) (l : Fin 2048) : val_main_v77 (F := Ideal) D P W (ix2 r l) = dp D P W B r l 1 := by
  pointwise [val_main_v77, val_main_v3, val_main_v0]
  rw [du_apply]
  rfl

theorem out0_2 (r : Fin 4096) (l : Fin 2048) : val_main_v76 (F := Ideal) D P W (ix2 r l) = dp D P W B r l 2 := by
  pointwise [val_main_v76, val_main_v2, val_main_v0]
  rw [du_apply, mul_comm]
  rfl

/-- All arguments real: so is the convolution. -/
theorem conv_isR (hP : ∀ i, IsR (P i)) (hW : ∀ i, IsR (W i)) (hB : ∀ i, IsR (B i)) (r : Fin 4096) (l : Fin 2048) :
    IsR (conv P W B r l) := by
  have hu : ∀ n, IsR (ush P n l) := fun n => by
    unfold ush
    split
    · exact (hP _).mul (hP _)
    · exact Real1.isR_zero
  exact (((hB _).add ((hW _).mul (hu _))).add ((hW _).mul (hu _))).add ((hW _).mul ((hP _).mul (hP _)))

theorem out0_3 (hD : ∀ i, IsR (D i)) (hP : ∀ i, IsR (P i)) (hW : ∀ i, IsR (W i)) (hB : ∀ i, IsR (B i))
    (r : Fin 4096) (l : Fin 2048) : val_main_v38 (F := Ideal) D P W B (ix2 r l) = dp D P W B r l 3 := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v33, val_main_call0_v0,
    val_main_call0_v1, val_main_call0_cst, val_main_call0_v2, val_main_call0_v3, val_main_call0_cst_0,
    val_main_call0_v4, val_main_v34_2, val_main_call0_cst_1, val_main_call0_v6, val_main_call0_v7,
    val_main_v34_1, val_main_v34_0, val_main_v35, val_main_v36, val_main_v37, val_main_call1_v0,
    val_main_call1_v1, val_main_call1_v2, val_main_v38, val_main_v40, val_main_cst_2, val_main_v41,
    val_main_v42, val_main_v43, val_main_cst_3, val_main_v44, val_main_v45, val_main_v46, val_main_v47,
    val_main_cst_4, val_main_v48, val_main_v49, val_main_cst_5, val_main_v50, val_main_cst_6, val_main_v51,
    val_main_v52, val_main_cst_7, val_main_v53, val_main_v54, val_main_v55, val_main_v56, val_main_cst_8,
    val_main_v57, val_main_v58, val_main_cst_9, val_main_v59, val_main_v60, val_main_cst_10, val_main_v61,
    val_main_v62, val_main_v63, val_main_cst_11, val_main_v64, val_main_v65, val_main_v66, val_main_v67,
    val_main_cst_12, val_main_v68, val_main_v69, val_main_cst_13, val_main_v70, val_main_v71, val_main_cst_14,
    val_main_v72, val_main_v73, val_main_v74, val_main_v75, val_main_v76, val_main_v77, val_main_v78,
    val_main_v79]
  rw [conv_apply]
  have e : (⟨l.val, by omega⟩ : Fin 8192) = col 0 l := Fin.ext (Nat.zero_add l.val).symm
  rw [e]
  have hc := conv_isR P W B hP hW hB r l
  have hs : IsR (sgm P r l) := (hP _).logistic
  have ha : IsR (D (ix2 r l) * P (ix2 r (col 0 l)) * conv P W B r l) := ((hD _).mul (hP _)).mul hc
  have hb : IsR (sg P r l * (1 - sgm P r l)) := ((hP _).mul hs).mul (Real1.isR_one.sub hs)
  show P (ix2 r (col 0 l)) * conv P W B r l * D (ix2 r l) * sgm P r l
      + P (ix2 r (col 3 l)) * (P (ix2 r (col 0 l)) * conv P W B r l * D (ix2 r l)) * (sgm P r l * (1 - sgm P r l))
    = D (ix2 r l) * P (ix2 r (col 0 l)) * conv P W B r l * (sgm P r l + sg P r l * (1 - sgm P r l))
  rw [ha.mul_add hs hb]
  unfold sg
  ac_rfl

/-- The gradient of the column groups. -/
theorem out0_apply (hD : ∀ i, IsR (D i)) (hP : ∀ i, IsR (P i)) (hW : ∀ i, IsR (W i)) (hB : ∀ i, IsR (B i))
    (r : Fin 4096) (q : Fin 8192) : val_main_v79 (F := Ideal) D P W B (ix2 r q) = dproj D P W B (ix2 r q) := by
  pointwise [val_main_v78, val_main_v79]
  have key : ∀ (g : Fin 4) (l : Fin 2048), q.val = 2048 * g.val + l.val →
      dproj D P W B (ix2 r q) = dp D P W B r l g := fun g l h => by
    have e1 : (⟨q.val % 2048, Nat.mod_lt _ (by decide)⟩ : Fin 2048) = l := Fin.ext (by show q.val % 2048 = l.val; omega)
    have e2 : (⟨q.val / 2048, by omega⟩ : Fin 4) = g := Fin.ext (by show q.val / 2048 = g.val; omega)
    show dp D P W B r ⟨q.val % 2048, _⟩ ⟨q.val / 2048, _⟩ = _
    rw [e1, e2]
  by_cases h0 : q.val < 2048
  · rw [dif_pos h0, out0_0, key 0 ⟨q.val, h0⟩ (by show q.val = 2048 * 0 + q.val; omega)]
  rw [dif_neg h0]
  by_cases h1 : q.val - 2048 < 2048
  · rw [dif_pos h1, out0_1 D P W B, key 1 ⟨q.val - 2048, h1⟩ (by show q.val = 2048 * 1 + (q.val - 2048); omega)]
  rw [dif_neg h1]
  by_cases h2 : q.val - 2048 - 2048 < 2048
  · rw [dif_pos h2, out0_2 D P W B,
      key 2 ⟨q.val - 2048 - 2048, h2⟩ (by show q.val = 2048 * 2 + (q.val - 2048 - 2048); omega)]
  rw [dif_neg h2, out0_3 D P W B hD hP hW hB,
    key 3 ⟨q.val - 2048 - 2048 - 2048, by omega⟩ (by show q.val = 2048 * 3 + (q.val - 2048 - 2048 - 2048); omega)]

/-- The gradient of the taps. -/
theorem out1_apply (j : Fin 3) (l : Fin 2048) : val_main_v71 (F := Ideal) D P (ix2 j l) = dcw D P (ix2 j l) := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v33, val_main_call0_v0,
    val_main_call0_v1, val_main_call0_cst, val_main_call0_v2, val_main_call0_v3, val_main_call0_cst_0,
    val_main_call0_v4, val_main_v34_2, val_main_call0_cst_1, val_main_call0_v6, val_main_call0_v7,
    val_main_v34_1, val_main_v34_0, val_main_v35, val_main_v36, val_main_v37, val_main_call1_v0,
    val_main_call1_v1, val_main_call1_v2, val_main_v38, val_main_v40, val_main_cst_2, val_main_v41,
    val_main_v42, val_main_v43, val_main_cst_3, val_main_v44, val_main_v45, val_main_v46, val_main_v47,
    val_main_cst_4, val_main_v48, val_main_v49, val_main_cst_5, val_main_v50, val_main_cst_6, val_main_v51,
    val_main_v52, val_main_cst_7, val_main_v53, val_main_v54, val_main_v55, val_main_v56, val_main_cst_8,
    val_main_v57, val_main_v58, val_main_cst_9, val_main_v59, val_main_v60, val_main_cst_10, val_main_v61,
    val_main_v62, val_main_v63, val_main_cst_11, val_main_v64, val_main_v65, val_main_v66, val_main_v67,
    val_main_cst_12, val_main_v68, val_main_v69, val_main_cst_13, val_main_v70, val_main_v71, val_main_cst_14,
    val_main_v72, val_main_v73, val_main_v74, val_main_v75, val_main_v76, val_main_v77, val_main_v78,
    val_main_v79]
  simp only [dconv_apply, up_apply, Finset.univ_unique, Finset.sum_const, Finset.card_singleton, one_smul]
  have fin : ∀ k : ℕ, j.val = k → ∑ x : Fin 4096, ush P (k + x.val + 14) l * dconv D P x l = dcw D P (ix2 j l) :=
    fun k hk => Finset.sum_congr rfl fun x _ => by
      show _ = dconv D P x l * ush P (x.val + 14 + j.val) l
      rw [mul_comm, show k + x.val + 14 = x.val + 14 + j.val by omega]
  by_cases h2 : j.val = 2
  · rw [dif_pos (by omega), dif_neg (by omega), dif_neg (by omega), add_zero, add_zero, fin 2 h2]
  by_cases h1 : j.val = 1
  · rw [dif_neg (by omega), dif_pos (by omega), dif_neg (by omega), add_zero, zero_add, fin 1 h1]
  have h0 : j.val = 0 := by omega
  rw [dif_neg (by omega), dif_neg (by omega), dif_pos (by omega), zero_add, zero_add]
  simpa only [Nat.zero_add] using fin 0 h0

/-- The gradient of the bias. -/
theorem out2_apply (j : Fin 1) (l : Fin 2048) : val_main_v42 (F := Ideal) D P (ix2 j l) = dcb D P (ix2 j l) := by
  pointwise [
    val_main_v0, val_main_v1, val_main_v2, val_main_v3, val_main_v4, val_main_v5, val_main_cst, val_main_v6,
    val_main_cst_0, val_main_v8, val_main_v9, val_main_v10, val_main_v11, val_main_v12, val_main_v13,
    val_main_v14, val_main_cst_1, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v33, val_main_call0_v0,
    val_main_call0_v1, val_main_call0_cst, val_main_call0_v2, val_main_call0_v3, val_main_call0_cst_0,
    val_main_call0_v4, val_main_v34_2, val_main_call0_cst_1, val_main_call0_v6, val_main_call0_v7,
    val_main_v34_1, val_main_v34_0, val_main_v35, val_main_v36, val_main_v37, val_main_call1_v0,
    val_main_call1_v1, val_main_call1_v2, val_main_v38, val_main_v40, val_main_cst_2, val_main_v41,
    val_main_v42, val_main_v43, val_main_cst_3, val_main_v44, val_main_v45, val_main_v46, val_main_v47,
    val_main_cst_4, val_main_v48, val_main_v49, val_main_cst_5, val_main_v50, val_main_cst_6, val_main_v51,
    val_main_v52, val_main_cst_7, val_main_v53, val_main_v54, val_main_v55, val_main_v56, val_main_cst_8,
    val_main_v57, val_main_v58, val_main_cst_9, val_main_v59, val_main_v60, val_main_cst_10, val_main_v61,
    val_main_v62, val_main_v63, val_main_cst_11, val_main_v64, val_main_v65, val_main_v66, val_main_v67,
    val_main_cst_12, val_main_v68, val_main_v69, val_main_cst_13, val_main_v70, val_main_v71, val_main_cst_14,
    val_main_v72, val_main_v73, val_main_v74, val_main_v75, val_main_v76, val_main_v77, val_main_v78,
    val_main_v79]
  simp only [dconv_apply]
  rfl

end Cert.ConvRefIdeal.Hand

end
-- ==== Proof.ConvClaim.lean ====
/- The value claim of the gated convolution's backward call: both programs leave the arrays of `ConvSpec`. -/
module

public import proofs.«01_k».proof.Defs
public import proofs.«01_k».proof.Proof.Gen.Pre_conv_finite
public import proofs.«01_k».proof.Proof.Gen.ConvRefIdeal.Run
public import proofs.«01_k».proof.Proof.ConvKernel
public import proofs.«01_k».proof.Proof.ConvRef

@[expose] public section

set_option maxRecDepth 16384

noncomputable section

namespace Cert.ConvClaim

open Idealize.ShloMosaic Idealize.ShloMosaic.TcCoe Idealize.SL.Sem Real1
open ConvSpec (dproj dcw dcb)
open Cert.ConvIdeal.Hand (aD aP aW aB)

variable (m : (ℓ : Loc Cert.ConvIdeal.nD Cert.ConvIdeal.τ Cert.ConvIdeal.sig) → Buf (Elt Ideal) ℓ)

/-- The precondition, entry by entry. -/
theorem real_args (h : Cert.Pre_ConvIdeal_conv_finite m) (c : Dev Cert.ConvIdeal.nD) :
    (∀ i, IsR (aD m c i)) ∧ (∀ i, IsR (aP m c i)) ∧ (∀ i, IsR (aW m c i)) ∧ (∀ i, IsR (aB m c i)) := by
  obtain ⟨h0, h1, h2, h3⟩ := h c
  refine ⟨fun i => ?_, fun i => ?_, fun i => ?_, fun i => ?_⟩
  · have h := congrFun h0 i
    pointwise [Cert.Pre_conv_finite.fn] at h
    exact isR_of_bit h
  · have h := congrFun h1 i
    pointwise [Cert.Pre_conv_finite.fn] at h
    exact isR_of_bit h
  · have h := congrFun h2 i
    pointwise [Cert.Pre_conv_finite.fn] at h
    exact isR_of_bit h
  · have h := congrFun h3 i
    pointwise [Cert.Pre_conv_finite.fn] at h
    exact isR_of_bit h

theorem algebraic : Cert.algebraic_ConvIdeal_ConvRefIdeal_pre_conv_finite := fun m g m' g' hpre hargs => by
  refine ⟨fun c => dproj (aD m c) (aP m c) (aW m c) (aB m c), fun c => dcw (aD m c) (aP m c), fun c => dcb (aD m c) (aP m c), ?_, ?_⟩
  · exact (θ_run Cert.ConvIdeal.defs _ _).mono (fun r h c =>
      ⟨(h c).1.trans (Cert.ConvIdeal.Hand.array12 m c), (h c).2.1.trans (Cert.ConvIdeal.Hand.array13 m c),
        (h c).2.2.1.trans (Cert.ConvIdeal.Hand.array14 m c), (h c).2.2.2⟩) (Cert.ConvIdeal.Value.run_blocks m g)
  · refine (θ_run Cert.ConvRefIdeal.defs _ _).mono (fun r h c => ?_) (Cert.ConvRefIdeal.Value.run m' g')
    obtain ⟨r0, r1, r2, kept⟩ := h c
    obtain ⟨a0, a1, a2, a3⟩ := hargs c
    obtain ⟨f0, f1, f2, f3⟩ := real_args m hpre c
    refine ⟨r0.trans ?_, r1.trans ?_, r2.trans ?_, kept⟩
    · rw [Cert.ConvRefIdeal.Read.val_main_v79_eq, a0, a1, a2, a3]
      refine funext fun j => ?_
      idx_vars j
      exact Cert.ConvRefIdeal.Hand.out0_apply _ _ _ _ f0 f1 f2 f3 _ _
    · rw [Cert.ConvRefIdeal.Read.val_main_v71_eq, a0, a1]
      refine funext fun j => ?_
      idx_vars j
      exact Cert.ConvRefIdeal.Hand.out1_apply _ _ _ _
    · refine (Cert.ConvRefIdeal.Read.val_main_v42_eq _ _).trans ?_
      rw [a0, a1]
      refine funext fun j => ?_
      idx_vars j
      exact Cert.ConvRefIdeal.Hand.out2_apply _ _ _ _

end Cert.ConvClaim

end
-- ==== Proof.AttnLoop.lean ====
module

public import proofs.«01_k».proof.Defs
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import Idealize.ShloMosaic.Lib.LoopRemainder

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! Where a trip of the loop over the earlier key tiles reads and writes: the rows of tile `i - 1 - k`. -/

theorem off6_eq (i : grid0.Coords) (k : Fin (k0_t1_loop i).trips) :
    k0_off6 i k = ![256 * ((i 1).val - (k.val + 1)), 0] := by
  revert i k; decide +kernel
theorem off7_eq (i : grid0.Coords) (k : Fin (k0_t1_loop i).trips) :
    k0_off7 i k = ![256 * ((i 1).val - (k.val + 1)), 0] := by
  revert i k; decide +kernel
theorem off8_eq (i : grid0.Coords) (k : Fin (k0_t1_loop i).trips) :
    k0_off8 i k = ![256 * ((i 1).val - (k.val + 1)), 128] := by
  revert i k; decide +kernel
theorem off9_eq (i : grid0.Coords) (k : Fin (k0_t1_loop i).trips) :
    k0_off9 i k = ![256 * ((i 1).val - (k.val + 1)), 256] := by
  revert i k; decide +kernel
theorem off10_eq (i : grid0.Coords) (k : Fin (k0_t1_loop i).trips) :
    k0_off10 i k = ![256 * ((i 1).val - (k.val + 1)), 384] := by
  revert i k; decide +kernel

instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩

/-- What the loop carries: for each of the eight heads the sum of the log factors so far, the sum of the
    gradients so far, and the rows of the query's gradient so far. -/
abbrev Carry (F : FTy → Type) : Type :=
  FVec F S256x1 .f32 × FVec F S256x1 .f32 × FVec F S256x1 .f32 × FVec F S256x1 .f32 ×
  FVec F S256x1 .f32 × FVec F S256x1 .f32 × FVec F S256x1 .f32 × FVec F S256x1 .f32 ×
  FVec F S256x1 .f32 × FVec F S256x1 .f32 × FVec F S256x1 .f32 × FVec F S256x1 .f32 ×
  FVec F S256x1 .f32 × FVec F S256x1 .f32 × FVec F S256x1 .f32 × FVec F S256x1 .f32 ×
  FVec F S256x128 .f32 × FVec F S256x128 .f32 × FVec F S256x128 .f32 × FVec F S256x128 .f32 ×
  FVec F S256x128 .f32 × FVec F S256x128 .f32 × FVec F S256x128 .f32 × FVec F S256x128 .f32

/-- Everything the loop's region reads that a trip does not change: the core, the grid point, the buffers, and the
    values computed before the loop. -/
structure Around (F : FTy → Type) [FloatOps F] where
  (c : Dev nD)
  (i : grid0.Coords)
  (arg2 : Memref sig .tc .vmem S256x512 .bf16)
  (harg2 : arg2.IsWhole)
  (arg3 : Memref sig .tc .vmem S4096x512 .bf16)
  (harg3 : arg3.IsWhole)
  (arg4 : Memref sig .tc .vmem S4096x512 .bf16)
  (harg4 : arg4.IsWhole)
  (arg5 : Memref sig .tc .vmem S256x512 .f32)
  (harg5 : arg5.IsWhole)
  (arg6 : Memref sig .tc .vmem S256x512 .f32)
  (harg6 : arg6.IsWhole)
  (arg7 : Memref sig .tc .vmem S256x512 .bf16)
  (harg7 : arg7.IsWhole)
  (arg8 : Memref sig .tc .vmem S4096x512 .bf16)
  (harg8 : arg8.IsWhole)
  (arg9 : Memref sig .tc .vmem S4096x512 .bf16)
  (harg9 : arg9.IsWhole)
  (arg10 : Memref sig .tc .vmem S4096x512 .f32)
  (harg10 : arg10.IsWhole)
  (arg11 : Memref sig .tc .vmem S4096x512 .f32)
  (harg11 : arg11.IsWhole)
  (arg1 : BitVec 32)
  (v7 : IVec S1x128 1)
  (v11 v15 : FVec F S256x256 .bf16)
  (v30 v35 v40 v45 v50 v55 v60 v65 v70 v75 v80 v85 v90 v95 v100 v105 : FVec F S256x128 .bf16)
  (v112 v119 v126 v133 v140 v147 v154 v161 : FVec F S256x1 .f32)
  (v165 : BitVec 32)
  (v193 v217 v232 v256 v271 v305 v320 : FVec F S256x1 .f32)
  (v333 : FVec F S256x128 .f32)
  (v358 v373 : FVec F S256x1 .f32)
  (v386 : FVec F S256x128 .f32)
  (v411 v426 : FVec F S256x1 .f32)
  (v439 : FVec F S256x128 .f32)
  (v464 v479 : FVec F S256x1 .f32)
  (v492 : FVec F S256x128 .f32)
  (v517 v532 : FVec F S256x1 .f32)
  (v545 : FVec F S256x128 .f32)
  (v561 : FVec F S256x1 .f32)
  (v564 v574 v578 v588 v589 v592 v593 : FVec F S256x128 .f32)

/-- The loop's region at what is around it. -/
def Around.body (A : Around F) := k0_t1_body (F := F) A.i A.arg2 A.harg2 A.arg3 A.harg3 A.arg4 A.harg4 A.arg5 A.harg5 A.arg6 A.harg6 A.arg7 A.harg7 A.arg8 A.harg8
    A.arg9 A.harg9 A.arg10 A.harg10 A.arg11 A.harg11 A.arg1 A.v7 A.v11 A.v15 A.v30 A.v35 A.v40 A.v45 A.v50 A.v55
    A.v60 A.v65 A.v70 A.v75 A.v80 A.v85 A.v90 A.v95 A.v100 A.v105 A.v112 A.v119 A.v126 A.v133 A.v140 A.v147 A.v154
    A.v161 A.v165 A.v193 A.v217 A.v232 A.v256 A.v271 A.v305 A.v320 A.v333 A.v358 A.v373 A.v386 A.v411 A.v426
    A.v439 A.v464 A.v479 A.v492 A.v517 A.v532 A.v545 A.v561 A.v564 A.v574 A.v578 A.v588 A.v589 A.v592 A.v593

/-- What a trip holds: the key and value blocks it reads, and the two running gradients it adds to. -/
abbrev Around.Holds (A : Around F) (X3 : BufTy.Contents (Elt F) A.arg3.view.ty) (X4 : BufTy.Contents (Elt F) A.arg4.view.ty)
    (f : BufTy.Contents (Elt F) A.arg10.view.ty) (g : BufTy.Contents (Elt F) A.arg11.view.ty) : sProp 𝕄 :=
  iprop((A.arg3.view.loc (A.c : Thread nD τ) ↦[A.arg3.view.set]{fullShare} X3)
    ∗ (A.arg4.view.loc (A.c : Thread nD τ) ↦[A.arg4.view.set]{fullShare} X4)
    ∗ (A.arg10.view.loc (A.c : Thread nD τ) ↦[A.arg10.view.set]{fullShare} f)
    ∗ (A.arg11.view.loc (A.c : Thread nD τ) ↦[A.arg11.view.set]{fullShare} g))

/-- One trip: what it carries on and what it writes, as functions of what it finds. -/
@[irreducible] def trip (A : Around F) (X3 : BufTy.Contents (Elt F) A.arg3.view.ty) (X4 : BufTy.Contents (Elt F) A.arg4.view.ty)
    (k : Fin (k0_t1_loop A.i).trips) :
    Σ' (R : Carry F → BufTy.Contents (Elt F) A.arg10.view.ty → BufTy.Contents (Elt F) A.arg11.view.ty → Carry F)
      (L : Carry F → BufTy.Contents (Elt F) A.arg10.view.ty → BufTy.Contents (Elt F) A.arg11.view.ty →
        List (View.Piece (Elt F) S4096x512 .f32)),
      { M : Carry F → BufTy.Contents (Elt F) A.arg10.view.ty → BufTy.Contents (Elt F) A.arg11.view.ty →
          List (View.Piece (Elt F) S4096x512 .f32) //
        ∀ (E : Set ℕ) (acc : Carry F) (f : BufTy.Contents (Elt F) A.arg10.view.ty) (g : BufTy.Contents (Elt F) A.arg11.view.ty),
          A.Holds X3 X4 f g ⊢ wp Idealize.ShloMosaic.frame (wpE (defs₀ (F := F)) Variants.none (A.c : Thread nD τ) none) E (A.body k acc)
            (fun y => iprop(⌜y = R acc f g⌝ ∗ A.Holds X3 X4 (A.arg10.view.writes (Elt F) f (L acc f g))
              (A.arg11.view.writes (Elt F) g (M acc f g)))) } := by
  refine ⟨?_, ?_, ?_, fun E acc f g => ?run⟩
  case run =>
    unfold Around.body k0_t1_body
    iintro ⟨H3, H4, H10, H11⟩
    sl_exec
    sl_step
    sl_close

/-- What the loop carries on and leaves in the two running gradients after its first `k` trips: the carried value and
    what was written, last first, over what the loop found. -/
def Around.state (A : Around F) (X3 : BufTy.Contents (Elt F) A.arg3.view.ty) (X4 : BufTy.Contents (Elt F) A.arg4.view.ty)
    (G : BufTy.Contents (Elt F) A.arg10.view.ty) (H : BufTy.Contents (Elt F) A.arg11.view.ty) (init : Carry F) :
    ℕ → Carry F × List (View.Piece (Elt F) S4096x512 .f32) × List (View.Piece (Elt F) S4096x512 .f32)
  | 0 => (init, [], [])
  | k + 1 =>
    if h : k < (k0_t1_loop A.i).trips then
      let p := A.state X3 X4 G H init k
      let f := A.arg10.view.writes (Elt F) G p.2.1
      let g := A.arg11.view.writes (Elt F) H p.2.2
      let t := trip A X3 X4 ⟨k, h⟩
      (t.1 p.1 f g, t.2.1 p.1 f g ++ p.2.1, t.2.2.1 p.1 f g ++ p.2.2)
    else A.state X3 X4 G H init k

theorem Around.state_succ (A : Around F) (X3 : BufTy.Contents (Elt F) A.arg3.view.ty) (X4 : BufTy.Contents (Elt F) A.arg4.view.ty)
    (G : BufTy.Contents (Elt F) A.arg10.view.ty) (H : BufTy.Contents (Elt F) A.arg11.view.ty) (init : Carry F)
    (k : Fin (k0_t1_loop A.i).trips) :
    A.state X3 X4 G H init (k.val + 1)
      = ((trip A X3 X4 k).1 (A.state X3 X4 G H init k.val).1
            (A.arg10.view.writes (Elt F) G (A.state X3 X4 G H init k.val).2.1)
            (A.arg11.view.writes (Elt F) H (A.state X3 X4 G H init k.val).2.2),
          (trip A X3 X4 k).2.1 (A.state X3 X4 G H init k.val).1
            (A.arg10.view.writes (Elt F) G (A.state X3 X4 G H init k.val).2.1)
            (A.arg11.view.writes (Elt F) H (A.state X3 X4 G H init k.val).2.2) ++ (A.state X3 X4 G H init k.val).2.1,
          (trip A X3 X4 k).2.2.1 (A.state X3 X4 G H init k.val).1
            (A.arg10.view.writes (Elt F) G (A.state X3 X4 G H init k.val).2.1)
            (A.arg11.view.writes (Elt F) H (A.state X3 X4 G H init k.val).2.2) ++ (A.state X3 X4 G H init k.val).2.2) := by
  rw [Around.state.eq_2]; exact dif_pos k.isLt

/-- What holds before trip `k`. -/
abbrev Around.inv (A : Around F) (X3 : BufTy.Contents (Elt F) A.arg3.view.ty) (X4 : BufTy.Contents (Elt F) A.arg4.view.ty)
    (G : BufTy.Contents (Elt F) A.arg10.view.ty) (H : BufTy.Contents (Elt F) A.arg11.view.ty) (init : Carry F)
    (k : ℕ) (acc : Carry F) : sProp 𝕄 :=
  iprop((A.arg3.view.loc (A.c : Thread nD τ) ↦[A.arg3.view.set]{fullShare} X3)
    ∗ (A.arg4.view.loc (A.c : Thread nD τ) ↦[A.arg4.view.set]{fullShare} X4)
    ∗ (∃ f, (A.arg10.view.loc (A.c : Thread nD τ) ↦[A.arg10.view.set]{fullShare} f)
        ∗ ⌜f = A.arg10.view.writes (Elt F) G (A.state X3 X4 G H init k).2.1⌝)
    ∗ (∃ g, (A.arg11.view.loc (A.c : Thread nD τ) ↦[A.arg11.view.set]{fullShare} g)
        ∗ ⌜g = A.arg11.view.writes (Elt F) H (A.state X3 X4 G H init k).2.2⌝)
    ∗ ⌜acc = (A.state X3 X4 G H init k).1⌝)

theorem Around.inv_step (A : Around F) (X3 : BufTy.Contents (Elt F) A.arg3.view.ty) (X4 : BufTy.Contents (Elt F) A.arg4.view.ty)
    (G : BufTy.Contents (Elt F) A.arg10.view.ty) (H : BufTy.Contents (Elt F) A.arg11.view.ty) (init : Carry F)
    (k : Fin (k0_t1_loop A.i).trips) (acc : Carry F) :
    A.inv X3 X4 G H init k.val acc
      ⊢ wp Idealize.ShloMosaic.frame (wpE (defs₀ (F := F)) Variants.none (A.c : Thread nD τ) none) Set.univ (A.body k acc)
          (fun y => A.inv X3 X4 G H init (k.val + 1) y) := by
  iintro ⟨H3, H4, ⟨%f, H10, %hf⟩, ⟨%g, H11, %hg⟩, %ha⟩
  subst ha
  iapply (wp_wand_r Idealize.ShloMosaic.frame (wpE (defs₀ (F := F)) Variants.none (A.c : Thread nD τ) none) Set.univ)
  isplitl [H3 H4 H10 H11]
  · iapply ((trip A X3 X4 k).2.2.2 Set.univ (A.state X3 X4 G H init k.val).1 f g)
    isplitl [H3]; · iexact H3
    isplitl [H4]; · iexact H4
    isplitl [H10]; · iexact H10
    iexact H11
  · iintro %y ⟨%hy, H3, H4, H10, H11⟩
    isplitl [H3]; · iexact H3
    isplitl [H4]; · iexact H4
    simp only [Around.state_succ]
    isplitl [H10]
    · iexists _; isplitl [H10]; · iexact H10
      ipureintro; rw [hf, hg, ← View.writes_append]
    isplitl [H11]
    · iexists _; isplitl [H11]; · iexact H11
      ipureintro; rw [hf, hg, ← View.writes_append]
    ipureintro; rw [hy, hf, hg]

set_option warn.classDefReducibility false in
/-- The loop by what holds before each trip. -/
@[sl_loop] def loopInv_t1
    (c : Dev nD)
    (i : grid0.Coords)
    (arg2 : Memref sig .tc .vmem S256x512 .bf16)
    (harg2 : arg2.IsWhole)
    (arg3 : Memref sig .tc .vmem S4096x512 .bf16)
    (harg3 : arg3.IsWhole)
    (arg4 : Memref sig .tc .vmem S4096x512 .bf16)
    (harg4 : arg4.IsWhole)
    (arg5 : Memref sig .tc .vmem S256x512 .f32)
    (harg5 : arg5.IsWhole)
    (arg6 : Memref sig .tc .vmem S256x512 .f32)
    (harg6 : arg6.IsWhole)
    (arg7 : Memref sig .tc .vmem S256x512 .bf16)
    (harg7 : arg7.IsWhole)
    (arg8 : Memref sig .tc .vmem S4096x512 .bf16)
    (harg8 : arg8.IsWhole)
    (arg9 : Memref sig .tc .vmem S4096x512 .bf16)
    (harg9 : arg9.IsWhole)
    (arg10 : Memref sig .tc .vmem S4096x512 .f32)
    (harg10 : arg10.IsWhole)
    (arg11 : Memref sig .tc .vmem S4096x512 .f32)
    (harg11 : arg11.IsWhole)
    (arg1 : BitVec 32)
    (v7 : IVec S1x128 1)
    (v11 v15 : FVec F S256x256 .bf16)
    (v30 v35 v40 v45 v50 v55 v60 v65 v70 v75 v80 v85 v90 v95 v100 v105 : FVec F S256x128 .bf16)
    (v112 v119 v126 v133 v140 v147 v154 v161 : FVec F S256x1 .f32)
    (v165 : BitVec 32)
    (v193 v217 v232 v256 v271 v305 v320 : FVec F S256x1 .f32)
    (v333 : FVec F S256x128 .f32)
    (v358 v373 : FVec F S256x1 .f32)
    (v386 : FVec F S256x128 .f32)
    (v411 v426 : FVec F S256x1 .f32)
    (v439 : FVec F S256x128 .f32)
    (v464 v479 : FVec F S256x1 .f32)
    (v492 : FVec F S256x128 .f32)
    (v517 v532 : FVec F S256x1 .f32)
    (v545 : FVec F S256x128 .f32)
    (v561 : FVec F S256x1 .f32)
    (v564 v574 v578 v588 v589 v592 v593 : FVec F S256x128 .f32)
    (X3 : BufTy.Contents (Elt F) arg3.view.ty) (X4 : BufTy.Contents (Elt F) arg4.view.ty)
    (G : BufTy.Contents (Elt F) arg10.view.ty) (H : BufTy.Contents (Elt F) arg11.view.ty) (init : Carry F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11
      harg11 arg1 v7 v11 v15 v30 v35 v40 v45 v50 v55 v60 v65 v70 v75 v80 v85 v90 v95 v100 v105 v112 v119 v126 v133
      v140 v147 v154 v161 v165 v193 v217 v232 v256 v271 v305 v320 v333 v358 v373 v386 v411 v426 v439 v464 v479 v492
      v517 v532 v545 v561 v564 v574 v578 v588 v589 v592 v593 init :=
  let A : Around F := ⟨c, i, arg2, harg2, arg3, harg3, arg4, harg4, arg5, harg5, arg6, harg6, arg7, harg7, arg8, harg8, arg9, harg9,
    arg10, harg10, arg11, harg11, arg1, v7, v11, v15, v30, v35, v40, v45, v50, v55, v60, v65, v70, v75, v80, v85,
    v90, v95, v100, v105, v112, v119, v126, v133, v140, v147, v154, v161, v165, v193, v217, v232, v256, v271,
    v305, v320, v333, v358, v373, v386, v411, v426, v439, v464, v479, v492, v517, v532, v545, v561, v564, v574,
    v578, v588, v589, v592, v593⟩
  { inv := fun k acc =>
      iprop((arg3.view.loc (c : Thread nD τ) ↦[arg3.view.set]{fullShare} X3)
        ∗ (arg4.view.loc (c : Thread nD τ) ↦[arg4.view.set]{fullShare} X4)
        ∗ (∃ f, (arg10.view.loc (c : Thread nD τ) ↦[arg10.view.set]{fullShare} f)
            ∗ ⌜f = arg10.view.writes (Elt F) G (A.state X3 X4 G H init k).2.1⌝)
        ∗ (∃ g, (arg11.view.loc (c : Thread nD τ) ↦[arg11.view.set]{fullShare} g)
            ∗ ⌜g = arg11.view.writes (Elt F) H (A.state X3 X4 G H init k).2.2⌝)
        ∗ ⌜acc = (A.state X3 X4 G H init k).1⌝)
    step := fun k acc => A.inv_step X3 X4 G H init k acc }

end Cert.AttnIdeal.Hand

end
-- ==== Proof.AttnPoint.lean ====
module

public import proofs.«01_k».proof.Proof.AttnLoop
public import Idealize.ShloMosaic.Lib.VecWindow

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! Where the point's own key tile lies, and the columns of the four pairs of heads. -/

theorem off1_eq (i : grid0.Coords) : k0_off1 i = ![256 * (i 1).val, 0] := by revert i; decide +kernel
theorem off2_eq (i : grid0.Coords) : k0_off2 i = ![256 * (i 1).val, 0] := by revert i; decide +kernel
theorem off3_eq (i : grid0.Coords) : k0_off3 i = ![256 * (i 1).val, 128] := by revert i; decide +kernel
theorem off4_eq (i : grid0.Coords) : k0_off4 i = ![256 * (i 1).val, 256] := by revert i; decide +kernel
theorem off5_eq (i : grid0.Coords) : k0_off5 i = ![256 * (i 1).val, 384] := by revert i; decide +kernel

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) : ClosedOff (k0_off5 i) := ⟨_, off5_eq i⟩

/-- Whether a point is the first of its group of heads. -/
abbrev cond1 (i : grid0.Coords) : Prop :=
  Scalar.cmpi .ne (Scalar.extui (Scalar.cmpi .eq (BitVec.ofNat 32 (i 1).val) 0#32)) 0#32 = 1#1

/-- The scratch as the first point of a group of heads finds it once it has filled it. -/
def zeros : Vec F S4096x512 .f32 := k0_pay263

theorem pay264_eq : k0_pay264 (F := F) = zeros := rfl

/-- What a point adds its own tiles to: nothing yet at the first point of a group of heads. -/
@[irreducible] def reset (i : grid0.Coords) (x : Vec F S4096x512 .f32) : Vec F S4096x512 .f32 := if cond1 i then zeros else x

section
variable (c : Dev nD) (i : grid0.Coords)
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .f32) (harg5 : arg5.IsWhole)
  (arg6 : Memref sig .tc .vmem S256x512 .f32) (harg6 : arg6.IsWhole)
  (arg7 : Memref sig .tc .vmem S256x512 .bf16) (harg7 : arg7.IsWhole)
  (arg8 : Memref sig .tc .vmem S4096x512 .bf16) (harg8 : arg8.IsWhole)
  (arg9 : Memref sig .tc .vmem S4096x512 .bf16) (harg9 : arg9.IsWhole)
  (arg10 : Memref sig .tc .vmem S4096x512 .f32) (harg10 : arg10.IsWhole)
  (arg11 : Memref sig .tc .vmem S4096x512 .f32) (harg11 : arg11.IsWhole)

/-- The whole block stored over anything is the block. -/
theorem writes_full {m : Memref sig .tc .vmem S4096x512 .f32} (h : m.IsWhole) (f : BufTy.Contents (Elt F) m.view.ty)
    (inb : ∀ a, (![0, 0] : Fin 2 → Nat) a + S4096x512.size a ≤ S4096x512.size a) (X : Vec F S4096x512 .f32) :
    m.view.writes (Elt F) f [⟨Rect.unit (s := S4096x512) ![0, 0] S4096x512.size inb, X⟩] = h.unread X := by
  exact h.eq_unread (View.read_writes_full m.view f inb X [])

theorem load_full {n : ℕ} {e : EltTy} {m : Memref sig .tc .vmem ⟨2, ![n, 512]⟩ e} (h : m.IsWhole)
    (inb : ∀ a, (![0, 0] : Fin 2 → Nat) a + (⟨2, ![n, 512]⟩ : Shape).size a ≤ (⟨2, ![n, 512]⟩ : Shape).size a) (X : (⟨2, ![n, 512]⟩ : Shape).Idx → Elt F e) :
    m.view.readAt (Elt F) (Rect.unit (s := ⟨2, ![n, 512]⟩) ![0, 0] (⟨2, ![n, 512]⟩ : Shape).size inb).toLoadRect (h.unread X) = X :=
  (View.readAt_full m.view _ inb).trans (h.read_unread X)

/-- A whole block stored under a condition. -/
theorem tail_eq {n : ℕ} {e : EltTy} {m : Memref sig .tc .vmem ⟨2, ![n, 512]⟩ e} (h : m.IsWhole) (P : Prop) [Decidable P]
    (f : BufTy.Contents (Elt F) m.view.ty)
    (inb : ∀ a, (![0, 0] : Fin 2 → Nat) a + (⟨2, ![n, 512]⟩ : Shape).size a ≤ (⟨2, ![n, 512]⟩ : Shape).size a)
    (X : (⟨2, ![n, 512]⟩ : Shape).Idx → Elt F e) :
    (if _hc : P then m.view.writes (Elt F) f [⟨Rect.unit (s := ⟨2, ![n, 512]⟩) ![0, 0] (⟨2, ![n, 512]⟩ : Shape).size inb, X⟩] else f)
      = if P then h.unread X else f := by
  by_cases hp : P
  · rw [dif_pos hp, if_pos hp]; exact h.eq_unread (View.read_writes_full m.view f inb X [])
  · rw [dif_neg hp, if_neg hp]

theorem part19_spec (q : Vec F S256x512 .bf16) (o d : Vec F S256x512 .f32) (x10 x11 : Vec F S4096x512 .f32) (E : Set ℕ) :
    (iprop((arg2.view.loc (c : Thread nD τ) ↦[arg2.view.set]{fullShare} harg2.unread q)
      ∗ (arg5.view.loc (c : Thread nD τ) ↦[arg5.view.set]{fullShare} harg5.unread o)
      ∗ (arg6.view.loc (c : Thread nD τ) ↦[arg6.view.set]{fullShare} harg6.unread d)
      ∗ (arg10.view.loc (c : Thread nD τ) ↦[arg10.view.set]{fullShare} harg10.unread x10)
      ∗ (arg11.view.loc (c : Thread nD τ) ↦[arg11.view.set]{fullShare} harg11.unread x11)) : sProp 𝕄)
    ⊢ wp Idealize.ShloMosaic.frame (wpE (defs₀ (F := F)) Variants.none (c : Thread nD τ) none) E
        (k0_part19 (F := F) i arg2 harg2 arg3 harg3 arg4 harg4 arg5 harg5 arg6 harg6 arg7 harg7 arg8 harg8 arg9 harg9 arg10 harg10 arg11 harg11)
        (fun y => iprop(⌜y = ⟨BitVec.ofNat 32 (i 1).val, k0_pay265, k0_pay266 (F := F), k0_pay267 (F := F), k0_pay268, k0_pay269 q, k0_pay270 d,
              k0_pay271 d o, k0_pay272 q, k0_pay273 q, k0_pay274 q, k0_pay275 q, k0_pay276 (F := F)⟩⌝
          ∗ (arg2.view.loc (c : Thread nD τ) ↦[arg2.view.set]{fullShare} harg2.unread q)
          ∗ (arg5.view.loc (c : Thread nD τ) ↦[arg5.view.set]{fullShare} harg5.unread o)
          ∗ (arg6.view.loc (c : Thread nD τ) ↦[arg6.view.set]{fullShare} harg6.unread d)
          ∗ (arg10.view.loc (c : Thread nD τ) ↦[arg10.view.set]{fullShare} harg10.unread (reset i x10))
          ∗ (arg11.view.loc (c : Thread nD τ) ↦[arg11.view.set]{fullShare} harg11.unread (reset i x11)))) := by
  simp only [k0_part19_eq_skeleton]; unfold k0_part19_skel
  iintro ⟨H2, H5, H6, H10, H11⟩
  by_cases hc : cond1 i
  · sl_exec (disch := sl_exact hc)
    sl_step
    simp only [reset, if_pos hc]
    isplitr; · ipureintro; rw [load_full harg2, load_full harg5, load_full harg6]
    isplitl [H2]; · iexact H2
    isplitl [H5]; · iexact H5
    isplitl [H6]; · iexact H6
    isplitl [H10]
    · rw [writes_full harg10, show k0_pay263 (F := F) = zeros from rfl]; iexact H10
    · rw [writes_full harg11, pay264_eq]; iexact H11
  · sl_exec (disch := sl_exact hc)
    sl_step
    simp only [reset, if_neg hc]
    isplitr; · ipureintro; rw [load_full harg2, load_full harg5, load_full harg6]
    isplitl [H2]; · iexact H2
    isplitl [H5]; · iexact H5
    isplitl [H6]; · iexact H6
    isplitl [H10]; · iexact H10
    iexact H11

/-- A point of the launch run once: what it writes to its block of the first output, and what it leaves in the two
    running gradients, as functions of what it finds. -/
@[irreducible] def point (q : Vec F S256x512 .bf16) (k v : Vec F S4096x512 .bf16) (o d : Vec F S256x512 .f32)
    (y10 y11 : Vec F S4096x512 .f32) :
    Σ' (L7 : List (View.Piece (Elt F) S256x512 .bf16)) (L10 : List (View.Piece (Elt F) S4096x512 .f32)),
      { L11 : List (View.Piece (Elt F) S4096x512 .f32) //
        ∀ (x10 x11 : Vec F S4096x512 .f32) (_ : reset i x10 = y10) (_ : reset i x11 = y11) (f7 : BufTy.Contents (Elt F) arg7.view.ty) (f8 : BufTy.Contents (Elt F) arg8.view.ty) (f9 : BufTy.Contents (Elt F) arg9.view.ty),
          (iprop((arg2.view.loc (c : Thread nD τ) ↦[arg2.view.set]{fullShare} harg2.unread q)
            ∗ (arg3.view.loc (c : Thread nD τ) ↦[arg3.view.set]{fullShare} harg3.unread k)
            ∗ (arg4.view.loc (c : Thread nD τ) ↦[arg4.view.set]{fullShare} harg4.unread v)
            ∗ (arg5.view.loc (c : Thread nD τ) ↦[arg5.view.set]{fullShare} harg5.unread o)
            ∗ (arg6.view.loc (c : Thread nD τ) ↦[arg6.view.set]{fullShare} harg6.unread d)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} harg10.unread x10)
            ∗ (arg11.view.loc (c : Thread nD τ) ↦[arg11.view.set]{fullShare} harg11.unread x11)) : sProp 𝕄)
          ⊢ wp Idealize.ShloMosaic.frame (wpE (defs₀ (F := F)) Variants.none (c : Thread nD τ) none) Set.univ
            (cc0_attn_bwd (F := F) i arg2 harg2 arg3 harg3 arg4 harg4 arg5 harg5 arg6 harg6 arg7 harg7 arg8 harg8 arg9 harg9 arg10 harg10 arg11 harg11)
            (fun _ => iprop((arg2.view.loc (c : Thread nD τ) ↦[arg2.view.set]{fullShare} harg2.unread q)
              ∗ (arg3.view.loc (c : Thread nD τ) ↦[arg3.view.set]{fullShare} harg3.unread k)
              ∗ (arg4.view.loc (c : Thread nD τ) ↦[arg4.view.set]{fullShare} harg4.unread v)
              ∗ (arg5.view.loc (c : Thread nD τ) ↦[arg5.view.set]{fullShare} harg5.unread o)
              ∗ (arg6.view.loc (c : Thread nD τ) ↦[arg6.view.set]{fullShare} harg6.unread d)
              ∗ (arg7.view.loc (c : Thread nD τ) ↦[arg7.view.set]{fullShare} arg7.view.writes (Elt F) f7 L7)
              ∗ (arg10.view.loc (c : Thread nD τ) ↦[arg10.view.set]{fullShare} (arg10.view.writes (Elt F) (harg10.unread y10) L10))
              ∗ (arg11.view.loc (c : Thread nD τ) ↦[arg11.view.set]{fullShare} (arg11.view.writes (Elt F) (harg11.unread y11) L11))
              ∗ (arg8.view.loc (c : Thread nD τ) ↦[arg8.view.set]{fullShare}
                  (if k0_cond2 i = 1#1 then harg8.unread (k0_pay3 (arg10.view.read (Elt F) (arg10.view.writes (Elt F) (harg10.unread y10) L10))) else f8))
              ∗ (arg9.view.loc (c : Thread nD τ) ↦[arg9.view.set]{fullShare}
                  (if k0_cond2 i = 1#1 then harg9.unread (k0_pay4 (arg11.view.read (Elt F) (arg11.view.writes (Elt F) (harg11.unread y11) L11))) else f9)))) } := by
  refine ⟨?_, ?_, ?_, fun x10 x11 h10 h11 f7 f8 f9 => ?run⟩
  case run =>
    simp only [cc0_attn_bwd_eq_skeleton]; unfold cc0_attn_bwd_skel
    iintro ⟨H2, H3, H4, H5, H6, H7, H8, H9, H10, H11⟩
    rw [wp_bind]
    iapply (wp_wand_r Idealize.ShloMosaic.frame (wpE (defs₀ (F := F)) Variants.none (c : Thread nD τ) none) Set.univ)
    isplitl [H2 H5 H6 H10 H11]
    · iapply (part19_spec (q := q) (o := o) (d := d) (x10 := x10) (x11 := x11))
      isplitl [H2]; · iexact H2
      isplitl [H5]; · iexact H5
      isplitl [H6]; · iexact H6
      isplitl [H10]; · iexact H10
      iexact H11
    · iintro %y ⟨%hy, H2, H5, H6, H10, H11⟩
      subst hy
      rw [h10, h11]
      sl_exec
      sl_step
      isplitl [H2]; · iexact H2
      isplitl [H3]; · iexact H3
      isplitl [H4]; · iexact H4
      isplitl [H5]; · iexact H5
      isplitl [H6]; · iexact H6
      isplitl [H7]; · iexact H7
      isplitl [H10]; · iexact H10
      isplitl [H11]; · iexact H11
      isplitl [H8]
      · rw [tail_eq harg8]; unfold point.sl.v697; rw [View.readAt_full]; iexact H8
      · rw [tail_eq harg9]; unfold point.sl.v700; rw [View.readAt_full]; iexact H9

end

end Cert.AttnIdeal.Hand

end
-- ==== Proof.AttnLaunch.lean ====
module

public import proofs.«01_k».proof.Proof.AttnPoint
public import Idealize.ShloMosaic.Lib.Claim

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two running gradients' buffers. -/
abbrev S0 : Memref sig .tc .vmem S4096x512 .f32 := Memref.whole cc0_scratch0
abbrev S1 : Memref sig .tc .vmem S4096x512 .f32 := Memref.whole cc0_scratch1
theorem hS0 : S0.IsWhole := Memref.isWhole_whole _
theorem hS1 : S1.IsWhole := Memref.isWhole_whole _

/-- The run of point `t` at the blocks it reads, its running gradients found at `y`. -/
abbrev pt (c : Dev nD) (t : Fin cfg0.N) (y : Vec F S4096x512 .f32 × Vec F S4096x512 .f32) :=
  point (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    S0 hS0 S1 hS1
    (iblk m c 0 t) (iblk m c 1 t) (iblk m c 2 t) (iblk m c 3 t) (iblk m c 4 t) y.1 y.2

/-- What point `t` finds in the running gradients once it has emptied them or not. -/
abbrev found (t : Fin cfg0.N) (x : Vec F S4096x512 .f32 × Vec F S4096x512 .f32) : Vec F S4096x512 .f32 × Vec F S4096x512 .f32 :=
  (reset (grid0.coords t) x.1, reset (grid0.coords t) x.2)

/-- What point `t` leaves in the running gradients. -/
def stepAt (c : Dev nD) (t : Fin cfg0.N) (y : Vec F S4096x512 .f32 × Vec F S4096x512 .f32) :
    Vec F S4096x512 .f32 × Vec F S4096x512 .f32 :=
  (S0.view.read (Elt F) (S0.view.writes (Elt F) (hS0.unread y.1) (pt m c t y).2.1),
   S1.view.read (Elt F) (S1.view.writes (Elt F) (hS1.unread y.2) (pt m c t y).2.2.1))

/-- The running gradients before point `n`. -/
def held (c : Dev nD) : ℕ → Vec F S4096x512 .f32 × Vec F S4096x512 .f32
  | 0 => (zeros, zeros)
  | n + 1 => if h : n < cfg0.N then stepAt m c ⟨n, h⟩ (found ⟨n, h⟩ (held c n)) else held c n

theorem held_succ (c : Dev nD) (t : Fin cfg0.N) : held m c (t.val + 1) = stepAt m c t (found t (held m c t.val)) := by
  rw [held.eq_2]; exact dif_pos t.isLt

theorem cond1_iff : ∀ t : Fin cfg0.N, cond1 (grid0.coords t) ↔ t.val % 16 = 0 := by decide +kernel
theorem cond2_iff : ∀ t : Fin cfg0.N, k0_cond2 (grid0.coords t) = 1#1 ↔ t.val % 16 = 15 := by decide +kernel

theorem reset_of_first {i : grid0.Coords} (h : cond1 i) (x : Vec F S4096x512 .f32) : reset i x = zeros := by
  unfold reset; exact if_pos h
theorem reset_of_later {i : grid0.Coords} (h : ¬ cond1 i) (x : Vec F S4096x512 .f32) : reset i x = x := by
  unfold reset; exact if_neg h

/-- What holds of the running gradients and the generator's register before point `n`. -/
def carried (c : Dev nD) (n : ℕ) : sProp 𝕄 :=
  iprop((∃ x : Vec F S4096x512 .f32 × Vec F S4096x512 .f32, ⌜n ≠ 0 → x = held m c n⌝
      ∗ (S0.view.loc (c : Thread nD τ) ↦[S0.view.set]{fullShare} hS0.unread x.1)
      ∗ (S1.view.loc (c : Thread nD τ) ↦[S1.view.set]{fullShare} hS1.unread x.2))
    ∗ ∃ r, prngReg c r)

/-- What point `t` leaves in its block of the first output. -/
def rowsAt (c : Dev nD) (t : Fin cfg0.N) : Vec F S256x512 .bf16 :=
  (win0_5.stage (cfg0.slots t 5)).view.read (Elt F)
    ((win0_5.stage (cfg0.slots t 5)).view.writes (Elt F) (View.junk _) (pt m c t (found t (held m c t.val))).1)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsAt m c t
    | ⟨6, _⟩ => k0_pay3 (held m c (t.val + 1)).1
    | ⟨7, _⟩ => k0_pay4 (held m c (t.val + 1)).2
  Φ n := carried m c n.val
  q w := Pipeline.shareOf spec0 w
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t := by
  dsimp only [dats]; exact ⟨rfl, rfl, rfl, rfl, rfl⟩
theorem after5 (c : Dev nD) (t : Fin cfg0.N) : (dats m 0 c).after 5 t = rowsAt m c t := by dsimp only [dats]
theorem after6 (c : Dev nD) (t : Fin cfg0.N) : (dats m 0 c).after 6 t = k0_pay3 (held m c (t.val + 1)).1 := by dsimp only [dats]
theorem after7 (c : Dev nD) (t : Fin cfg0.N) : (dats m 0 c).after 7 t = k0_pay4 (held m c (t.val + 1)).2 := by dsimp only [dats]

theorem before0 (c : Dev nD) (t : Fin cfg0.N) (d) : (dats m 0 c).before 0 t d = iblk m c 0 t :=
  before0_0_of m (dats m 0 c) (A_eq m c 0) (fun t => (after_in m c t).1) t d
theorem before1 (c : Dev nD) (t : Fin cfg0.N) (d) : (dats m 0 c).before 1 t d = iblk m c 1 t :=
  before0_1_of m (dats m 0 c) (A_eq m c 1) (fun t => (after_in m c t).2.1) t d
theorem before2 (c : Dev nD) (t : Fin cfg0.N) (d) : (dats m 0 c).before 2 t d = iblk m c 2 t :=
  before0_2_of m (dats m 0 c) (A_eq m c 2) (fun t => (after_in m c t).2.2.1) t d
theorem before3 (c : Dev nD) (t : Fin cfg0.N) (d) : (dats m 0 c).before 3 t d = iblk m c 3 t :=
  before0_3_of m (dats m 0 c) (A_eq m c 3) (fun t => (after_in m c t).2.2.2.1) t d
theorem before4 (c : Dev nD) (t : Fin cfg0.N) (d) : (dats m 0 c).before 4 t d = iblk m c 4 t :=
  before0_4_of m (dats m 0 c) (A_eq m c 4) (fun t => (after_in m c t).2.2.2.2) t d

/-- The first output's four column pieces are its whole block. -/
theorem cover (c : Dev nD) (t : Fin cfg0.N) (y : Vec F S4096x512 .f32 × Vec F S4096x512 .f32) (j : S256x512.Idx) :
    ∃ p ∈ (pt m c t y).1, j ∈ p.1.set := by
  unfold pt point; dsimp only; sl_unfold_words
  exact View.cover_of_tiledL _ ![256, 128] (by sl_kernel_rfl) j

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What a window written back only at the last point of a group of heads is left at. -/
abbrev left (c : Dev nD) (t : Fin cfg0.N) (w : Fin cfg0.W) : sProp 𝕄 :=
  match cfg0.idle w (cfg0.grid.coords t) with
  | true => match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left m c t 6 ∗ left m c t 7)

theorem idle_iff : ∀ t : Fin cfg0.N, (cfg0.idle 6 (cfg0.grid.coords t) = false ↔ t.val % 16 = 15)
    ∧ (cfg0.idle 7 (cfg0.grid.coords t) = false ↔ t.val % 16 = 15) := by decide +kernel

theorem left_last (c : Dev nD) (t : Fin cfg0.N) (h : t.val % 16 = 15) :
    left m c t 6 = owns (c : Thread nD τ) (st0_6 t) fullShare (k0_pay3 (held m c (t.val + 1)).1)
    ∧ left m c t 7 = owns (c : Thread nD τ) (st0_7 t) fullShare (k0_pay4 (held m c (t.val + 1)).2) := by
  unfold left
  rw [(idle_iff t).1.mpr h]; dsimp only
  exact ⟨by rw [after6], by rw [after7]⟩

theorem left_kept (c : Dev nD) (t : Fin cfg0.N) (h : ¬ t.val % 16 = 15) :
    left m c t 6 = iprop(∃ d, owns (c : Thread nD τ) (st0_6 t) fullShare ((dats m 0 c).before 6 t d))
    ∧ left m c t 7 = iprop(∃ d, owns (c : Thread nD τ) (st0_7 t) fullShare ((dats m 0 c).before 7 t d)) := by
  unfold left
  rw [Bool.eq_true_of_not_eq_false fun e => h ((idle_iff t).1.mp e),
    Bool.eq_false_iff.mpr fun e => h ((flush0_6 t).mp e), Bool.eq_false_iff.mpr fun e => h ((flush0_7 t).mp e)]
  exact ⟨rfl, rfl⟩

/-- What the point finds does not depend on what the buffers held before the first point. -/
theorem found_eq (c : Dev nD) (t : Fin cfg0.N) (x : Vec F S4096x512 .f32 × Vec F S4096x512 .f32) (hx : t.val ≠ 0 → x = held m c t.val) :
    found t x = found t (held m c t.val) := by
  by_cases h : t.val = 0
  · have h1 : cond1 (grid0.coords t) := (cond1_iff t).mpr (by rw [h])
    unfold found; rw [reset_of_first h1, reset_of_first h1, reset_of_first h1, reset_of_first h1]
  · rw [hx h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [(after_in m c t).1, (after_in m c t).2.1, (after_in m c t).2.2.1, (after_in m c t).2.2.2.1, (after_in m c t).2.2.2.2, after5]
  rw [show (dats m 0 c).owesAt () t.succ = (dats m 0 c).owesAt () t.castSucc from rfl]
  rw [show (dats m 0 c).Φ t.succ = carried m c (t.val + 1) from by dsimp only [dats]; rfl,
    show (dats m 0 c).Φ t.castSucc = carried m c t.val from by dsimp only [dats]; rfl]
  unfold carried
  iintro ⟨⟨⟨%x, %hx, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hf := found_eq m c t x hx
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  obtain rfl := (hstage0_3 ((cfg0.slots t 3).cast nbuf0_3)).eq_unread hf3
  obtain rfl := (hstage0_4 ((cfg0.slots t 4).cast nbuf0_4)).eq_unread hf4
  iapply (wp_wand_r Idealize.ShloMosaic.frame (wpE (defs₀ (F := F)) Variants.none (c : Thread nD τ) none) Set.univ)
  isplitl [H0 H1 H2 H3 H4 H5 H6 H7 HS0 HS1]
  · iapply ((pt m c t (found t (held m c t.val))).2.2.2 x.1 x.2 (congrArg Prod.fst hf) (congrArg Prod.snd hf) f5 f6 f7)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  · iintro %y ⟨H0, H1, H2, H3, H4, H5, HS0, HS1, H6, H7⟩
    isplitl [HS0 HS1 Hr]
    · isplitr [Hr]
      swap; · iexact Hr
      iexists (held m c (t.val + 1))
      isplitr; · ipureintro; exact fun _ => rfl
      rw [held_succ]; unfold stepAt; dsimp only
      isplitl [HS0]
      · rw [hS0.unread_read]; iexact HS0
      · rw [hS1.unread_read]; iexact HS1
    isplitl [Ho]; · iexact Ho
    isplitl [H0]; · iexists _; isplitr; swap; · iexact H0
                    ipureintro; exact Memref.IsWhole.read_unread _ _
    isplitl [H1]; · iexists _; isplitr; swap; · iexact H1
                    ipureintro; exact Memref.IsWhole.read_unread _ _
    isplitl [H2]; · iexists _; isplitr; swap; · iexact H2
                    ipureintro; exact Memref.IsWhole.read_unread _ _
    isplitl [H3]; · iexists _; isplitr; swap; · iexact H3
                    ipureintro; exact Memref.IsWhole.read_unread _ _
    isplitl [H4]; · iexists _; isplitr; swap; · iexact H4
                    ipureintro; exact Memref.IsWhole.read_unread _ _
    isplitl [H5]; · iexists _; isplitr; swap; · iexact H5
                    ipureintro; exact View.read_writes_of_cover _ _ _ _ _ (cover m c t _)
    by_cases hl : t.val % 16 = 15
    · rw [(left_last m c t hl).1, (left_last m c t hl).2, held_succ]
      simp only [if_pos ((cond2_iff t).mpr hl)]
      unfold owns
      isplitl [H6]; · iexists _; isplitr; swap; · iexact H6
                      ipureintro; exact Memref.IsWhole.read_unread _ _
      iexists _; isplitr; swap; · iexact H7
      ipureintro; exact Memref.IsWhole.read_unread _ _
    · rw [(left_kept m c t hl).1, (left_kept m c t hl).2]
      simp only [if_neg fun e => hl ((cond2_iff t).mp e)]
      unfold owns
      isplitl [H6]
      · iexists d6; iexists f6; isplitr; swap; · iexact H6
        ipureintro; exact hf6
      · iexists d7; iexists f7; isplitr; swap; · iexact H7
        ipureintro; exact hf7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem scratch_eq (c : Dev nD) (f : Buf (Elt F) ((c : Thread nD τ).loc cc0_scratch0)) (g : Buf (Elt F) ((c : Thread nD τ).loc cc0_scratch1)) :
    (((((c : Thread nD τ).loc cc0_scratch0) ↦{fullShare} f) : sProp 𝕄)
      = (S0.view.loc (c : Thread nD τ) ↦[S0.view.set]{fullShare} f))
    ∧ (((((c : Thread nD τ).loc cc0_scratch1) ↦{fullShare} g) : sProp 𝕄)
      = (S1.view.loc (c : Thread nD τ) ↦[S1.view.set]{fullShare} g)) := by
  constructor
  · rw [show S0.view.set = Finset.univ from View.set_whole _]
  · rw [show S1.view.set = Finset.univ from View.set_whole _]

theorem carried_in (c : Dev nD) : Pipeline.ΦA spec0 c ⊢ (dats (F := F) m 0 c).Φ 0 := by
  rw [show (dats (F := F) m 0 c).Φ 0 = carried m c 0 from by dsimp only [dats]; rfl]
  unfold Pipeline.ΦA carried
  rw [scopedRest0_eq]
  iintro ⟨⟨⟨%f, H0⟩, ⟨%g, H1⟩⟩, Hr⟩
  isplitr [Hr]
  swap; · iexact Hr
  iexists (S0.view.read (Elt F) f, S1.view.read (Elt F) g)
  isplitr; · ipureintro; exact fun h => absurd rfl h
  isplitl [H0]
  · rw [hS0.unread_read, ← (scratch_eq c f g).1]; iexact H0
  · rw [hS1.unread_read, ← (scratch_eq c f g).2]; iexact H1

theorem carried_out (c : Dev nD) : (dats (F := F) m 0 c).Φ (Fin.last cfg0.N) ⊢ Pipeline.ΦA spec0 c := by
  rw [show (dats (F := F) m 0 c).Φ (Fin.last cfg0.N) = carried m c cfg0.N from by dsimp only [dats]; rfl]
  unfold Pipeline.ΦA carried
  rw [scopedRest0_eq]
  iintro ⟨⟨%x, %hx, H0, H1⟩, Hr⟩
  isplitr [Hr]
  swap; · iexact Hr
  isplitl [H0]
  · iexists _; rw [(scratch_eq c _ (hS1.unread x.2)).1]; iexact H0
  · iexists _; rw [(scratch_eq c (hS0.unread x.1) _).2]; iexact H1

set_option backward.isDefEq.respectTransparency.types false in
/-- The launch: every array of the pipeline ends at what the proof data say, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := carried_in m) (hout := carried_out m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnIdeal.Hand

end
-- ==== Proof.AttnFrames.lean ====
/- The frames of the attention's three programs: one run serves the kernel at words and at reals. -/
module
public import proofs.«01_k».proof.Defs
public import proofs.«01_k».proof.Proof.AttnLaunch
public import proofs.«01_k».proof.Proof.Gen.Attn
public import proofs.«01_k».proof.Proof.Gen.AttnRefIdeal.Run
public import Idealize.ShloMosaic.Adequacy
public import Idealize.ShloMosaic.Init
@[expose] public section

noncomputable section
namespace Cert.AttnFrames
open Idealize.ShloMosaic Idealize.SL.Sem Cert.Attn Idealize.ShloMosaic.TcCoe Idealize.ShloMosaic.Tactic
theorem ideal : Cert.quiescent_AttnIdeal := fun m ρ _ => Cert.AttnIdeal.Hand.frame (F := Ideal) m ρ
theorem ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The frame of the printed kernel, spoken of the idealized program's text. -/
def Same : Prop := ∀ (m : (ℓ : Loc Cert.AttnIdeal.nD Cert.AttnIdeal.τ Cert.AttnIdeal.sig) → Buf (Elt Bits) ℓ) (g : Dev Cert.AttnIdeal.nD → PrngReg), True →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

theorem same : Same := fun m ρ _ => Cert.AttnIdeal.Hand.frame (F := Bits) m ρ

/-- The two printed programs have the same text, so the statement is the kernel's own frame. -/
theorem same_eq : Same = Cert.quiescent_Attn := by sl_kernel_rfl

theorem bits : Cert.quiescent_Attn := same_eq ▸ same
end Cert.AttnFrames
end
-- ==== Proof.AttnHead.lean ====
/- One head of one tile of the attention's backward call, and the call's trips and points as eight of them. -/
module

public import proofs.«01_k».proof.Proof.AttnLaunch

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

variable {F : FTy → Type} [FloatOps F]

abbrev Sq (F : FTy → Type) [FloatOps F] : Type := FVec F S256x256 .f32
abbrev Ln (F : FTy → Type) [FloatOps F] : Type := FVec F S256x128 .bf16
abbrev Cl (F : FTy → Type) [FloatOps F] : Type := FVec F S256x1 .f32

/-! The values of one head: `q` its masked queries, `k v w` its keys, values and masked cotangents, `μ` the mask of the tile. -/

def hz (q k : Ln F) : Sq F :=
  matmul dot_S256x128_S256x128_S256x256_1_1_0_0_n_n none q k (constant S256x256 .f32 0x00000000#32)
def zeroSq : Sq F := broadcast S256x256 (Scalar.ofBits .f32 0x00000000#32)
def hnsp (q k : Ln F) : Sq F :=
  subf zeroSq (addf (maximumf (hz q k) zeroSq)
    (log (addf (broadcast S256x256 (Scalar.ofBits .f32 0x3F800000#32)) (exp (subf zeroSq (absf (hz q k)))))))
def hsig (q k : Ln F) : Sq F := exp (addf (hz q k) (hnsp q k))
def rowSum (x : Sq F) : Cl F :=
  shapeCast S256x1 (multiReduction .add [1] S256 x 0x00000000#32 reduces_S256x256_S256 (.inl rfl) rfl) shapeCasts_S256_S256x1
def small (x : Sq F) : FVec F S256x256 .bf16 := truncf .bf16 x bitsLt_bf16_f32
def tri (x : Sq F) (T : FVec F S256x256 .bf16) : Sq F :=
  matmul dot_S256x256_S256x256_S256x256_1_0_0_1_n_n none (small x) T (constant S256x256 .f32 0x00000000#32)
def across (x : Cl F) : Sq F := broadcastTo S256x256 x broadcasts_S256x1_S256x256

section
variable (μ : Sq F → Sq F) (T P : FVec F S256x256 .bf16) (q w k v : Ln F) (ds c1 c2 : Cl F)
def hlf : Sq F := μ (hnsp q k)
def hc1 : Cl F := addf c1 (rowSum (hlf μ q k))
def ha : FVec F S256x256 .bf16 := small (μ (exp (addf (addf (hz q k) (tri (hlf μ q k) T)) (across c1))))
def hg : Sq F := mulf (extf .f32 (ha μ T q k c1) bitsLt_bf16_f32) (hz w v)
def hc2 : Cl F := addf c2 (rowSum (hg μ T q w k v c1))
def hearly : Cl F := subf (subf ds c2) (rowSum (hg μ T q w k v c1))
def hdz : FVec F S256x256 .bf16 :=
  small (μ (subf (hg μ T q w k v c1) (mulf (hsig q k) (addf (across (hearly μ T q w k v ds c1 c2)) (tri (hg μ T q w k v c1) P)))))
def hdq (dq : FVec F S256x128 .f32) : FVec F S256x128 .f32 :=
  addf dq (matmul dot_S256x256_S256x128_S256x128_1_0_0_1_n_n none (hdz μ T P q w k v ds c1 c2) k (constant S256x128 .f32 0x00000000#32))
def hdk : FVec F S256x128 .f32 :=
  matmul dot_S256x256_S256x128_S256x128_0_0_1_1_n_n none (hdz μ T P q w k v ds c1 c2) q (constant S256x128 .f32 0x00000000#32)
def hdv : FVec F S256x128 .f32 :=
  matmul dot_S256x256_S256x128_S256x128_0_0_1_1_n_n none (ha μ T q k c1) w (constant S256x128 .f32 0x00000000#32)
end

/-- The four pairs of heads of a block's columns. -/
def pair {φ : FTy} (X : FVec F S256x512 φ) : Fin 4 → FVec F S256x128 φ :=
  ![extractStridedSlice S256x128 ![0, 0] X slices_S256x512_o0_0_S256x128,
    extractStridedSlice S256x128 ![0, 128] X slices_S256x512_o0_128_S256x128,
    extractStridedSlice S256x128 ![0, 256] X slices_S256x512_o0_256_S256x128,
    extractStridedSlice S256x128 ![0, 384] X slices_S256x512_o0_384_S256x128]

/-- The pair a head is of. -/
def half (t : Fin 8) : Fin 4 := ⟨t.val / 2, by omega⟩

/-- What a carried value holds of each head. -/
def Carry.c1 (x : Carry F) : Fin 8 → Cl F :=
  ![x.1, x.2.1, x.2.2.1, x.2.2.2.1, x.2.2.2.2.1, x.2.2.2.2.2.1, x.2.2.2.2.2.2.1, x.2.2.2.2.2.2.2.1]
def Carry.c2 (x : Carry F) : Fin 8 → Cl F :=
  let x := x.2.2.2.2.2.2.2.2
  ![x.1, x.2.1, x.2.2.1, x.2.2.2.1, x.2.2.2.2.1, x.2.2.2.2.2.1, x.2.2.2.2.2.2.1, x.2.2.2.2.2.2.2.1]
def Carry.dq (x : Carry F) : Fin 8 → FVec F S256x128 .f32 :=
  let x := x.2.2.2.2.2.2.2.2.2.2.2.2.2.2.2.2
  ![x.1, x.2.1, x.2.2.1, x.2.2.2.1, x.2.2.2.2.1, x.2.2.2.2.2.1, x.2.2.2.2.2.2.1, x.2.2.2.2.2.2.2]

def Around.q (A : Around F) : Fin 8 → Ln F := ![A.v30, A.v35, A.v40, A.v45, A.v50, A.v55, A.v60, A.v65]
def Around.w (A : Around F) : Fin 8 → Ln F := ![A.v70, A.v75, A.v80, A.v85, A.v90, A.v95, A.v100, A.v105]
def Around.ds (A : Around F) : Fin 8 → Cl F := ![A.v112, A.v119, A.v126, A.v133, A.v140, A.v147, A.v154, A.v161]

/-- Two heads' part added to what is there. -/
def addIn (x a b : FVec F S256x128 .f32) : FVec F S256x128 .f32 := shapeCast S256x128 (addf x (addf a b)) shapeCasts_S256x128_S256x128

/-- Eight heads' parts added to the four pairs' columns of a tile's rows, last first. -/
def addPieces (V : View sig .tc .vmem S4096x512 .f32) (o0 o1 o2 o3 : Fin 2 → Nat)
    (h0 : ∀ a, o0 a + S256x128.size a ≤ S4096x512.size a) (h1 : ∀ a, o1 a + S256x128.size a ≤ S4096x512.size a)
    (h2 : ∀ a, o2 a + S256x128.size a ≤ S4096x512.size a) (h3 : ∀ a, o3 a + S256x128.size a ≤ S4096x512.size a)
    (f : BufTy.Contents (Elt F) V.ty) (x : Fin 8 → FVec F S256x128 .f32) : List (View.Piece (Elt F) S4096x512 .f32) :=
  [⟨Rect.unit (s := S4096x512) o3 S256x128.size h3, addIn (V.readAt (Elt F) (Rect.unit (s := S4096x512) o3 S256x128.size h3).toLoadRect f) (x 6) (x 7)⟩,
   ⟨Rect.unit (s := S4096x512) o2 S256x128.size h2, addIn (V.readAt (Elt F) (Rect.unit (s := S4096x512) o2 S256x128.size h2).toLoadRect f) (x 4) (x 5)⟩,
   ⟨Rect.unit (s := S4096x512) o1 S256x128.size h1, addIn (V.readAt (Elt F) (Rect.unit (s := S4096x512) o1 S256x128.size h1).toLoadRect f) (x 2) (x 3)⟩,
   ⟨Rect.unit (s := S4096x512) o0 S256x128.size h0, addIn (V.readAt (Elt F) (Rect.unit (s := S4096x512) o0 S256x128.size h0).toLoadRect f) (x 0) (x 1)⟩]

section
variable (A : Around F) (X3 : BufTy.Contents (Elt F) A.arg3.view.ty) (X4 : BufTy.Contents (Elt F) A.arg4.view.ty)
  (k : Fin (k0_t1_loop A.i).trips) (acc : Carry F) (f : BufTy.Contents (Elt F) A.arg10.view.ty) (g : BufTy.Contents (Elt F) A.arg11.view.ty)

/-- The rows of the keys and of the values a trip reads. -/
def kRows : FVec F S256x512 .bf16 := A.arg3.view.readAt (Elt F) (Rect.unit (s := S4096x512) (k0_off6 A.i k) S256x512.size (k0_off6_inb A.i k)).toLoadRect X3
def vRows : FVec F S256x512 .bf16 := A.arg4.view.readAt (Elt F) (Rect.unit (s := S4096x512) (k0_off6 A.i k) S256x512.size (k0_off6_inb A.i k)).toLoadRect X4

theorem trip_c1 (t : Fin 8) : ((trip A X3 X4 k).1 acc f g).c1 t = hc1 id (A.q t) (pair (kRows A X3 k) (half t)) (acc.c1 t) := by
  unfold trip; fin_cases t <;> rfl

theorem trip_c2 (t : Fin 8) : ((trip A X3 X4 k).1 acc f g).c2 t
    = hc2 id A.v11 (A.q t) (A.w t) (pair (kRows A X3 k) (half t)) (pair (vRows A X4 k) (half t)) (acc.c1 t) (acc.c2 t) := by
  unfold trip; fin_cases t <;> rfl

theorem trip_dq (t : Fin 8) : ((trip A X3 X4 k).1 acc f g).dq t
    = hdq id A.v11 A.v15 (A.q t) (A.w t) (pair (kRows A X3 k) (half t)) (pair (vRows A X4 k) (half t)) (A.ds t) (acc.c1 t) (acc.c2 t) (acc.dq t) := by
  unfold trip; fin_cases t <;> rfl

/-- What a trip adds to the keys' and to the values' gradients for one head. -/
def tripDk (t : Fin 8) : FVec F S256x128 .f32 :=
  hdk id A.v11 A.v15 (A.q t) (A.w t) (pair (kRows A X3 k) (half t)) (pair (vRows A X4 k) (half t)) (A.ds t) (acc.c1 t) (acc.c2 t)
def tripDv (t : Fin 8) : FVec F S256x128 .f32 :=
  hdv id A.v11 (A.q t) (A.w t) (pair (kRows A X3 k) (half t)) (acc.c1 t)

theorem trip_dk : (trip A X3 X4 k).2.1 acc f g = addPieces A.arg10.view (k0_off7 A.i k) (k0_off8 A.i k) (k0_off9 A.i k) (k0_off10 A.i k)
    (k0_off7_inb A.i k) (k0_off8_inb A.i k) (k0_off9_inb A.i k) (k0_off10_inb A.i k) f (tripDk A X3 X4 k acc) := by
  unfold trip; rfl
theorem trip_dv : (trip A X3 X4 k).2.2.1 acc f g = addPieces A.arg11.view (k0_off7 A.i k) (k0_off8 A.i k) (k0_off9 A.i k) (k0_off10 A.i k)
    (k0_off7_inb A.i k) (k0_off8_inb A.i k) (k0_off9_inb A.i k) (k0_off10_inb A.i k) g (tripDv A X3 k acc) := by
  unfold trip; rfl

end

/-! The same of a point's own tile. -/

def firstHalf : IVec S256x128 1 := broadcastTo S256x128 (shapeCast S1x128 k0_pay265 shapeCasts_S1x128_S1x128) broadcasts_S1x128_S256x128

/-- The columns of each head of a block, the others of its pair emptied. -/
def oneHead {φ : FTy} (X : Fin 4 → FVec F S256x128 φ) (z : F φ) : Fin 8 → FVec F S256x128 φ :=
  ![select firstHalf (X 0) (broadcast S256x128 z), select firstHalf (broadcast S256x128 z) (X 0),
    select firstHalf (X 1) (broadcast S256x128 z), select firstHalf (broadcast S256x128 z) (X 1),
    select firstHalf (X 2) (broadcast S256x128 z), select firstHalf (broadcast S256x128 z) (X 2),
    select firstHalf (X 3) (broadcast S256x128 z), select firstHalf (broadcast S256x128 z) (X 3)]

/-- The mask of a point's own tile. -/
def below (x : Sq F) : Sq F := select k0_pay268 x zeroSq

def laneSum (x : FVec F S256x128 .f32) : Cl F :=
  shapeCast S256x1 (multiReduction .add [1] S256 x 0x00000000#32 reduces_S256x128_S256 (.inl rfl) rfl) shapeCasts_S256_S256x1

def pq (q : Vec F S256x512 .bf16) : Fin 8 → Ln F := oneHead (pair (k0_pay269 q)) (Scalar.ofBits .bf16 0x0000#16)
def pw (d : Vec F S256x512 .f32) : Fin 8 → Ln F := oneHead (pair (k0_pay270 d)) (Scalar.ofBits .bf16 0x0000#16)
def pds (o d : Vec F S256x512 .f32) (t : Fin 8) : Cl F := laneSum (oneHead (pair (k0_pay271 d o)) (Scalar.ofBits .f32 0x00000000#32) t)

section
variable (c : Dev nD) (i : grid0.Coords)
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .f32) (harg5 : arg5.IsWhole)
  (arg6 : Memref sig .tc .vmem S256x512 .f32) (harg6 : arg6.IsWhole)
  (arg7 : Memref sig .tc .vmem S256x512 .bf16) (harg7 : arg7.IsWhole)
  (arg8 : Memref sig .tc .vmem S4096x512 .bf16) (harg8 : arg8.IsWhole)
  (arg9 : Memref sig .tc .vmem S4096x512 .bf16) (harg9 : arg9.IsWhole)
  (arg10 : Memref sig .tc .vmem S4096x512 .f32) (harg10 : arg10.IsWhole)
  (arg11 : Memref sig .tc .vmem S4096x512 .f32) (harg11 : arg11.IsWhole)
  (q : Vec F S256x512 .bf16) (k v : Vec F S4096x512 .bf16) (o d : Vec F S256x512 .f32)
  (y10 y11 : Vec F S4096x512 .f32)

/-- The rows of a point's own tile. -/
def ownRows {a : Memref sig .tc .vmem S4096x512 .bf16} (h : a.IsWhole) (x : Vec F S4096x512 .bf16) : FVec F S256x512 .bf16 :=
  a.view.readAt (Elt F) (Rect.unit (s := S4096x512) (k0_off1 i) S256x512.size (k0_off1_inb i)).toLoadRect (h.unread x)

def zeroCl : Cl F := broadcast S256x1 (Scalar.ofBits .f32 0x00000000#32)
def zeroDq : FVec F S256x128 .f32 := broadcast S256x128 (Scalar.ofBits .f32 0x00000000#32)

def dC1 (t : Fin 8) : Cl F := hc1 below (pq q t) (pair (ownRows i harg3 k) (half t)) zeroCl
def dC2 (t : Fin 8) : Cl F :=
  hc2 below k0_pay266 (pq q t) (pw d t) (pair (ownRows i harg3 k) (half t)) (pair (ownRows i harg4 v) (half t)) zeroCl zeroCl
def dDq (t : Fin 8) : FVec F S256x128 .f32 :=
  hdq below k0_pay266 k0_pay267 (pq q t) (pw d t) (pair (ownRows i harg3 k) (half t)) (pair (ownRows i harg4 v) (half t))
    (pds o d t) zeroCl zeroCl zeroDq
def dDk (t : Fin 8) : FVec F S256x128 .f32 :=
  hdk below k0_pay266 k0_pay267 (pq q t) (pw d t) (pair (ownRows i harg3 k) (half t)) (pair (ownRows i harg4 v) (half t))
    (pds o d t) zeroCl zeroCl
def dDv (t : Fin 8) : FVec F S256x128 .f32 :=
  hdv below k0_pay266 (pq q t) (pw d t) (pair (ownRows i harg3 k) (half t)) zeroCl

/-- What is around the loop of a point. -/
def pa : Around F :=
  { c := c, i := i, arg2 := arg2, harg2 := harg2, arg3 := arg3, harg3 := harg3, arg4 := arg4, harg4 := harg4,
    arg5 := arg5, harg5 := harg5, arg6 := arg6, harg6 := harg6, arg7 := arg7, harg7 := harg7, arg8 := arg8, harg8 := harg8,
    arg9 := arg9, harg9 := harg9, arg10 := arg10, harg10 := harg10, arg11 := arg11, harg11 := harg11,
    arg1 := BitVec.ofNat 32 (i 1).val, v7 := k0_pay265, v11 := k0_pay266, v15 := k0_pay267,
    v30 := pq q 0, v35 := pq q 1, v40 := pq q 2, v45 := pq q 3, v50 := pq q 4, v55 := pq q 5, v60 := pq q 6, v65 := pq q 7,
    v70 := pw d 0, v75 := pw d 1, v80 := pw d 2, v85 := pw d 3, v90 := pw d 4, v95 := pw d 5, v100 := pw d 6, v105 := pw d 7,
    v112 := pds o d 0, v119 := pds o d 1, v126 := pds o d 2, v133 := pds o d 3,
    v140 := pds o d 4, v147 := pds o d 5, v154 := pds o d 6, v161 := pds o d 7,
    v165 := Scalar.muli (BitVec.ofNat 32 (i 1).val) 256#32,
    v193 := dC1 i arg3 harg3 q k 0, v217 := dC1 i arg3 harg3 q k 1, v256 := dC1 i arg3 harg3 q k 2, v305 := dC1 i arg3 harg3 q k 3,
    v358 := dC1 i arg3 harg3 q k 4, v411 := dC1 i arg3 harg3 q k 5, v464 := dC1 i arg3 harg3 q k 6, v517 := dC1 i arg3 harg3 q k 7,
    v232 := dC2 i arg3 harg3 arg4 harg4 q k v d 0, v271 := dC2 i arg3 harg3 arg4 harg4 q k v d 1,
    v320 := dC2 i arg3 harg3 arg4 harg4 q k v d 2, v373 := dC2 i arg3 harg3 arg4 harg4 q k v d 3,
    v426 := dC2 i arg3 harg3 arg4 harg4 q k v d 4, v479 := dC2 i arg3 harg3 arg4 harg4 q k v d 5,
    v532 := dC2 i arg3 harg3 arg4 harg4 q k v d 6, v561 := dC2 i arg3 harg3 arg4 harg4 q k v d 7,
    v333 := dDq i arg3 harg3 arg4 harg4 q k v o d 0, v386 := dDq i arg3 harg3 arg4 harg4 q k v o d 1,
    v439 := dDq i arg3 harg3 arg4 harg4 q k v o d 2, v492 := dDq i arg3 harg3 arg4 harg4 q k v o d 3,
    v545 := dDq i arg3 harg3 arg4 harg4 q k v o d 4, v574 := dDq i arg3 harg3 arg4 harg4 q k v o d 5,
    v588 := dDq i arg3 harg3 arg4 harg4 q k v o d 6, v592 := dDq i arg3 harg3 arg4 harg4 q k v o d 7,
    v564 := dDv i arg3 harg3 q k d 6, v578 := dDv i arg3 harg3 q k d 7,
    v589 := dDk i arg3 harg3 arg4 harg4 q k v o d 6, v593 := dDk i arg3 harg3 arg4 harg4 q k v o d 7 }

/-- What the loop begins with. -/
def start : Carry F :=
  (dC1 i arg3 harg3 q k 0, dC1 i arg3 harg3 q k 1, dC1 i arg3 harg3 q k 2, dC1 i arg3 harg3 q k 3,
    dC1 i arg3 harg3 q k 4, dC1 i arg3 harg3 q k 5, dC1 i arg3 harg3 q k 6, dC1 i arg3 harg3 q k 7,
    dC2 i arg3 harg3 arg4 harg4 q k v d 0, dC2 i arg3 harg3 arg4 harg4 q k v d 1,
    dC2 i arg3 harg3 arg4 harg4 q k v d 2, dC2 i arg3 harg3 arg4 harg4 q k v d 3,
    dC2 i arg3 harg3 arg4 harg4 q k v d 4, dC2 i arg3 harg3 arg4 harg4 q k v d 5,
    dC2 i arg3 harg3 arg4 harg4 q k v d 6, dC2 i arg3 harg3 arg4 harg4 q k v d 7,
    dDq i arg3 harg3 arg4 harg4 q k v o d 0, dDq i arg3 harg3 arg4 harg4 q k v o d 1,
    dDq i arg3 harg3 arg4 harg4 q k v o d 2, dDq i arg3 harg3 arg4 harg4 q k v o d 3,
    dDq i arg3 harg3 arg4 harg4 q k v o d 4, dDq i arg3 harg3 arg4 harg4 q k v o d 5,
    dDq i arg3 harg3 arg4 harg4 q k v o d 6, dDq i arg3 harg3 arg4 harg4 q k v o d 7)

/-- What a point's own tile writes to the two running gradients. -/
def ownDk : List (View.Piece (Elt F) S4096x512 .f32) := addPieces arg10.view (k0_off2 i) (k0_off3 i) (k0_off4 i) (k0_off5 i)
  (k0_off2_inb i) (k0_off3_inb i) (k0_off4_inb i) (k0_off5_inb i) (harg10.unread y10) (dDk i arg3 harg3 arg4 harg4 q k v o d)
def ownDv : List (View.Piece (Elt F) S4096x512 .f32) := addPieces arg11.view (k0_off2 i) (k0_off3 i) (k0_off4 i) (k0_off5 i)
  (k0_off2_inb i) (k0_off3_inb i) (k0_off4_inb i) (k0_off5_inb i) (harg11.unread y11) (dDv i arg3 harg3 q k d)

/-- The loop of a point run to its end. -/
def looped : Carry F × List (View.Piece (Elt F) S4096x512 .f32) × List (View.Piece (Elt F) S4096x512 .f32) :=
  (pa c i arg2 harg2 arg3 harg3 arg4 harg4 arg5 harg5 arg6 harg6 arg7 harg7 arg8 harg8 arg9 harg9 arg10 harg10 arg11 harg11 q k v o d).state
    (harg3.unread k) (harg4.unread v)
    (arg10.view.writes (Elt F) (harg10.unread y10) (ownDk i arg3 harg3 arg4 harg4 arg10 harg10 q k v o d y10))
    (arg11.view.writes (Elt F) (harg11.unread y11) (ownDv i arg3 harg3 arg11 harg11 q k d y11))
    (start i arg3 harg3 arg4 harg4 q k v o d) (k0_t1_loop i).trips

theorem point_dk : (point c i arg2 harg2 arg3 harg3 arg4 harg4 arg5 harg5 arg6 harg6 arg7 harg7 arg8 harg8 arg9 harg9 arg10 harg10 arg11 harg11
      q k v o d y10 y11).2.1
    = (looped c i arg2 harg2 arg3 harg3 arg4 harg4 arg5 harg5 arg6 harg6 arg7 harg7 arg8 harg8 arg9 harg9 arg10 harg10 arg11 harg11
        q k v o d y10 y11).2.1 ++ ownDk i arg3 harg3 arg4 harg4 arg10 harg10 q k v o d y10 := by
  unfold point; sl_kernel_rfl

theorem point_dv : (point c i arg2 harg2 arg3 harg3 arg4 harg4 arg5 harg5 arg6 harg6 arg7 harg7 arg8 harg8 arg9 harg9 arg10 harg10 arg11 harg11
      q k v o d y10 y11).2.2.1
    = (looped c i arg2 harg2 arg3 harg3 arg4 harg4 arg5 harg5 arg6 harg6 arg7 harg7 arg8 harg8 arg9 harg9 arg10 harg10 arg11 harg11
        q k v o d y10 y11).2.2 ++ ownDv i arg3 harg3 arg11 harg11 q k d y11 := by
  unfold point; sl_kernel_rfl

/-- A point's rows of the queries' gradient: of each pair the head its lane is of, times the scale. -/
def dqPair (a b : FVec F S256x128 .f32) : FVec F S256x128 .bf16 :=
  truncf .bf16 (mulf (select firstHalf a b) (broadcast S256x128 (Scalar.ofBits .f32 0x3E000000#32))) bitsLt_bf16_f32

theorem point_dq : (point c i arg2 harg2 arg3 harg3 arg4 harg4 arg5 harg5 arg6 harg6 arg7 harg7 arg8 harg8 arg9 harg9 arg10 harg10 arg11 harg11
      q k v o d y10 y11).1
    = (let x := (looped c i arg2 harg2 arg3 harg3 arg4 harg4 arg5 harg5 arg6 harg6 arg7 harg7 arg8 harg8 arg9 harg9 arg10 harg10 arg11 harg11
        q k v o d y10 y11).1.dq
      [⟨Rect.unit (s := S256x512) ![0, 384] S256x128.size (by decide), dqPair (x 6) (x 7)⟩,
       ⟨Rect.unit (s := S256x512) ![0, 256] S256x128.size (by decide), dqPair (x 4) (x 5)⟩,
       ⟨Rect.unit (s := S256x512) ![0, 128] S256x128.size (by decide), dqPair (x 2) (x 3)⟩,
       ⟨Rect.unit (s := S256x512) ![0, 0] S256x128.size (by decide), dqPair (x 0) (x 1)⟩]) := by
  unfold point; sl_kernel_rfl

end

end Cert.AttnIdeal.Hand

end
-- ==== Proof.AttnSpec.lean ====
/- The attention's backward call over the real numbers: what each array's entry is, and the two ways to spell it. -/
module

public import Idealize.ShloMosaic.Lib.Pointwise

@[expose] public section

noncomputable section

namespace AttnSpec

/-- Lane `d` of head `h` among the 1024 columns. -/
def col (h : Fin 16) (d : Fin 64) : Fin 1024 := ⟨h.val * 64 + d.val, by omega⟩
/-- The head of a column. -/
def headOf (n : Fin 1024) : Fin 16 := ⟨n.val / 64, by omega⟩

/-- The softplus as both texts write it. -/
def sp (x : ℝ) : ℝ := max x 0 + Real.log (1 + Real.exp (-|x|))

theorem exp_sp (x : ℝ) : Real.exp (sp x) = 1 + Real.exp x := by
  have pos : 0 < 1 + Real.exp (-|x|) := by positivity
  unfold sp
  rw [Real.exp_add, Real.exp_log pos]
  rcases le_total 0 x with h | h
  · rw [max_eq_left h, abs_of_nonneg h, mul_add, mul_one, ← Real.exp_add, add_neg_cancel, Real.exp_zero, add_comm]
  · rw [max_eq_right h, abs_of_nonpos h, neg_neg, Real.exp_zero, one_mul]

theorem sp_neg (x : ℝ) : sp (-x) = sp x - x := by
  unfold sp
  rw [abs_neg]
  rcases le_total 0 x with h | h
  · rw [max_eq_left h, max_eq_right (by linarith : -x ≤ 0)]; ring
  · rw [max_eq_right h, max_eq_left (by linarith : 0 ≤ -x)]; ring

/-- The two sigmoids add up to one. -/
theorem sig_add (x : ℝ) : Real.exp (-x - sp (-x)) + Real.exp (x - sp x) = 1 := by
  have e : -x - sp (-x) = - sp x := by rw [sp_neg]; ring
  rw [e, sub_eq_add_neg, Real.exp_add, Real.exp_neg, exp_sp]
  have pos : (1 + Real.exp x) ≠ 0 := by positivity
  field_simp

variable (Q K V W : Fin 4096 → Fin 1024 → ℝ)

def z (h : Fin 16) (r c : Fin 4096) : ℝ := (∑ d, Q r (col h d) * K c (col h d)) * (1 / 8)
/-- The log factor of a key before the query; none from the query on. -/
def lf (h : Fin 16) (r c : Fin 4096) : ℝ := if c < r then -sp (z Q K h r c) else 0
/-- The sum of the log factors from a key on. -/
def from' (h : Fin 16) (r c : Fin 4096) : ℝ := ∑ c', if c ≤ c' then lf Q K h r c' else 0
def ex (h : Fin 16) (r c : Fin 4096) : ℝ := Real.exp (-sp (-z Q K h r c) + (from' Q K h r c - lf Q K h r c))
def att (h : Fin 16) (r c : Fin 4096) : ℝ := if c < r then ex Q K h r c else 0
def da (h : Fin 16) (r c : Fin 4096) : ℝ := ∑ d, W r (col h d) * V c (col h d)
def g (h : Fin 16) (r c : Fin 4096) : ℝ := (if c < r then da V W h r c else 0) * ex Q K h r c
/-- The sum of the gradients up to a key. -/
def upTo (h : Fin 16) (r c : Fin 4096) : ℝ := ∑ c', if c' ≤ c then g Q K V W h r c' else 0
def dz (h : Fin 16) (r c : Fin 4096) : ℝ :=
  -(-g Q K V W h r c * Real.exp (-z Q K h r c - sp (-z Q K h r c)))
    + (-(if c < r then -g Q K V W h r c + upTo Q K V W h r c else 0)) * Real.exp (z Q K h r c - sp (z Q K h r c))

def out (r : Fin 4096) (n : Fin 1024) : ℝ := ∑ c, att Q K (headOf n) r c * V c n
def dq (r : Fin 4096) (n : Fin 1024) : ℝ := ∑ c, dz Q K V W (headOf n) r c * (1 / 8) * K c n
def dk (c : Fin 4096) (n : Fin 1024) : ℝ := ∑ r, dz Q K V W (headOf n) r c * (1 / 8) * Q r n
def dv (c : Fin 4096) (n : Fin 1024) : ℝ := ∑ r, W r n * att Q K (headOf n) r c

/-- Nothing comes from a key that the query does not see. -/
theorem g_of_le {h : Fin 16} {r c : Fin 4096} (hc : ¬ c < r) : g Q K V W h r c = 0 := by
  unfold g; rw [if_neg hc, zero_mul]
theorem att_of_le {h : Fin 16} {r c : Fin 4096} (hc : ¬ c < r) : att Q K h r c = 0 := if_neg hc
theorem g_eq (h : Fin 16) (r c : Fin 4096) : g Q K V W h r c = att Q K h r c * da V W h r c := by
  unfold g att; split
  · exact mul_comm _ _
  · rw [zero_mul, zero_mul]

/-- The attention weight by the sum of the log factors from the key on, its own included. -/
theorem att_eq {h : Fin 16} {r c : Fin 4096} (hc : c < r) : att Q K h r c = Real.exp (z Q K h r c + from' Q K h r c) := by
  unfold att ex
  rw [if_pos hc, sp_neg]
  unfold lf
  rw [if_pos hc]
  congr 1; ring

/-- The score's gradient, with one sigmoid. -/
theorem dz_eq (h : Fin 16) (r c : Fin 4096) : dz Q K V W h r c
    = if c < r then g Q K V W h r c - Real.exp (z Q K h r c - sp (z Q K h r c)) * upTo Q K V W h r c else 0 := by
  unfold dz
  split
  · have e := sig_add (z Q K h r c)
    have e' : Real.exp (-z Q K h r c - sp (-z Q K h r c)) = 1 - Real.exp (z Q K h r c - sp (z Q K h r c)) := by linarith
    rw [e']; ring
  · next hc => rw [g_of_le Q K V W hc]; ring

/-- The product of the output's cotangent and the output over a head's lanes is the sum of that head's gradients. -/
theorem sum_out (h : Fin 16) (r : Fin 4096) :
    ∑ d, W r (col h d) * out Q K V r (col h d) = ∑ c, g Q K V W h r c := by
  have hd : ∀ d, headOf (col h d) = h := fun d => Fin.ext (by show (h.val * 64 + d.val) / 64 = h.val; omega)
  unfold out
  simp only [hd, g_eq, da, Finset.mul_sum]
  rw [Finset.sum_comm]
  refine Finset.sum_congr rfl fun c _ => Finset.sum_congr rfl fun d _ => ?_
  ring

end AttnSpec

end
-- ==== Proof.AttnReal.lean ====
/- Real numbers inside the extended reals: sums, the softplus, and sums over a window. -/
module

public import proofs.«01_k».proof.Proof.AttnSpec
public import proofs.«01_k».proof.Proof.Real

@[expose] public section

noncomputable section

namespace AttnReal

open Idealize.ShloMosaic AttnSpec

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem sum_coe {ι : Type} [Fintype ι] {F : ι → EReal} {f : ι → ℝ} (h : ∀ i, F i = (f i : EReal)) :
    ∑ i, F i = ((∑ i, f i : ℝ) : EReal) := by
  rw [coe_sum]; exact Finset.sum_congr rfl fun i _ => h i

theorem ite_coe (p : Prop) [Decidable p] (a b : ℝ) : (if p then (a : EReal) else b) = ((if p then a else b : ℝ) : EReal) := by
  split <;> rfl

theorem max_coe (a : ℝ) : max (a : EReal) 0 = ((max a 0 : ℝ) : EReal) := by
  rw [← EReal.coe_zero]; exact (EReal.coe_strictMono.monotone.map_max).symm

theorem abs_coe (a : ℝ) : max (a : EReal) (-a) = ((|a| : ℝ) : EReal) := by
  rw [← EReal.coe_neg]; exact (EReal.coe_strictMono.monotone.map_max).symm

theorem log1p_coe (a : ℝ) (h : 0 < 1 + a) : Ideal.log (1 + (a : EReal)) = ((Real.log (1 + a) : ℝ) : EReal) := by
  rw [← EReal.coe_one, ← EReal.coe_add, Ideal.log_coe, if_neg (not_le.2 h)]

/-- The softplus of a real number, in the order of operations both texts have. -/
theorem soft_coe {φ : FTy} (a : ℝ) :
    max (a : EReal) 0 + Ideal.log (1 + Ideal.exp (-(FloatOps.absf (F := Ideal) (φ := φ) (a : EReal) : EReal))) = ((sp a : ℝ) : EReal) := by
  rw [Ideal.absf_def]
  unfold sp
  rw [show (max (a : EReal) (-(a : EReal)) : EReal) = _ from abs_coe a, max_coe, ← EReal.coe_neg, Ideal.exp_coe,
    log1p_coe _ (by positivity), ← EReal.coe_add]

theorem coe_ne_inf (a : ℝ) : (a : EReal) ≠ Ideal.ofBits FTy.f32 2139095040#32 := by
  rw [show Ideal.ofBits FTy.f32 2139095040#32 = ⊤ by simp [Ideal.ofBits, Ideal.ieee]]
  exact EReal.coe_ne_top a

/-- A sum over a window of `N` positions starting `lo` before a place, over the places the window meets. -/
theorem sum_window {N : ℕ} (lo : ℕ) (c : Fin N) (f : Fin N → EReal) :
    ∑ w : Fin N, (if h : lo ≤ c.val + w.val ∧ c.val + w.val - lo < N then f ⟨c.val + w.val - lo, h.2⟩ else 0)
      = ∑ c' : Fin N, if c.val ≤ c'.val + lo ∧ c'.val + lo - c.val < N then f c' else 0 := by
  have e : ∀ w : Fin N, (if h : lo ≤ c.val + w.val ∧ c.val + w.val - lo < N then f ⟨c.val + w.val - lo, h.2⟩ else 0)
      = ∑ c' : Fin N, if c'.val + lo = c.val + w.val then f c' else 0 := fun w => by
    split
    · next h =>
      rw [Finset.sum_eq_single ⟨c.val + w.val - lo, h.2⟩]
      · rw [if_pos (by show c.val + w.val - lo + lo = _; omega)]
      · intro b _ hb
        rw [if_neg fun hh => hb (Fin.ext (by show b.val = c.val + w.val - lo; omega))]
      · exact fun hh => absurd (Finset.mem_univ _) hh
    · next h =>
      symm
      refine Finset.sum_eq_zero fun b _ => if_neg fun hh => h ⟨by omega, by omega⟩
  rw [Finset.sum_congr rfl fun w _ => e w, Finset.sum_comm]
  refine Finset.sum_congr rfl fun c' _ => ?_
  split
  · next h =>
    rw [Finset.sum_eq_single ⟨c'.val + lo - c.val, h.2⟩]
    · rw [if_pos (by show c'.val + lo = c.val + (c'.val + lo - c.val); omega)]
    · intro b _ hb
      rw [if_neg fun hh => hb (Fin.ext (by show b.val = c'.val + lo - c.val; omega))]
    · exact fun hh => absurd (Finset.mem_univ _) hh
  · next h => exact Finset.sum_eq_zero fun b _ => if_neg fun hh => h ⟨by omega, by omega⟩

/-- A left fold of additions from zero is the sum. -/
theorem foldl_add {α : Type} (l : List α) (t : α → EReal) (v : EReal) : l.foldl (fun r n => r + t n) v = v + (l.map t).sum := by
  induction l generalizing v with
  | nil => simp
  | cons a l ih => rw [List.foldl_cons, ih, List.map_cons, List.sum_cons, add_assoc]

/-- The positions of a window one wide on two axes are those of its last axis. -/
def lane : (⟨3, ![1, 1, 4096]⟩ : Shape).Idx ≃ Fin 4096 where
  toFun i := i 2
  invFun w := ValueIdx.ix3 (0 : Fin 1) (0 : Fin 1) w
  left_inv i := funext fun a => by
    match a with
    | ⟨0, _⟩ => exact Fin.ext (by have := (i 0).isLt; change (i 0).val < 1 at this; show 0 = (i 0).val; omega)
    | ⟨1, _⟩ => exact Fin.ext (by have := (i 1).isLt; change (i 1).val < 1 at this; show 0 = (i 1).val; omega)
    | ⟨2, _⟩ => rfl
  right_inv w := rfl

/-- A running sum along the last of three axes, the window starting `lo` before the place. -/
theorem window_apply (lo hi : ℕ)
    (hw : (⟨3, ![16, 4096, 4096]⟩ : Shape).ReduceWindows ![1, 1, 4096] ![1, 1, 1] ![0, 0, lo] ![0, 0, hi] ⟨3, ![16, 4096, 4096]⟩)
    (x : (⟨3, ![16, 4096, 4096]⟩ : Shape).Idx → EReal) (h : Fin 16) (r c : Fin 4096) :
    Ideal.hostReduceWindowAdd ![1, 1, 4096] ![1, 1, 1] ![0, 0, lo] ![0, 0, hi] hw x 0 (ix3 h r c)
      = ∑ c' : Fin 4096, if c.val ≤ c'.val + lo ∧ c'.val + lo - c.val < 4096 then x (ix3 h r c') else 0 := by
  unfold Ideal.hostReduceWindowAdd Host.reduceWindow
  rw [foldl_add, zero_add, ← List.ofFn_eq_map, List.sum_ofFn]
  refine (Fintype.sum_equiv ((Shape.rowMajor ⟨3, ![1, 1, 4096]⟩).symm.trans lane) _ _ fun n => ?_).trans
    (sum_window lo c fun c' => x (ix3 h r c'))
  set i := (Shape.rowMajor ⟨3, ![1, 1, 4096]⟩).symm n with hi'
  show _ = dite (lo ≤ c.val + (i 2).val ∧ c.val + (i 2).val - lo < 4096)
    (fun h' => x (ix3 h r ⟨c.val + (i 2).val - lo, h'.2⟩)) _
  have h0 : (i 0).val = 0 := by have := (i 0).isLt; change (i 0).val < 1 at this; omega
  have h1 : (i 1).val = 0 := by have := (i 1).isLt; change (i 1).val < 1 at this; omega
  dsimp only
  split
  · next hin =>
    have h2 := hin 2
    change lo ≤ c.val * 1 + (i 2).val ∧ c.val * 1 + (i 2).val - lo < 4096 at h2
    refine (congrArg x (funext fun a => Fin.ext ?_)).trans
      (dif_pos (c := lo ≤ c.val + (i 2).val ∧ c.val + (i 2).val - lo < 4096)
        (t := fun h' => x (ix3 h r ⟨c.val + (i 2).val - lo, h'.2⟩)) (e := fun _ => 0) ⟨by omega, by omega⟩).symm
    match a with
    | ⟨0, _⟩ => show h.val * 1 + (i 0).val - 0 = h.val; omega
    | ⟨1, _⟩ => show r.val * 1 + (i 1).val - 0 = r.val; omega
    | ⟨2, _⟩ => show c.val * 1 + (i 2).val - lo = c.val + (i 2).val - lo; omega
  · next hin =>
    refine (dif_neg (c := lo ≤ c.val + (i 2).val ∧ c.val + (i 2).val - lo < 4096)
      (t := fun h' => x (ix3 h r ⟨c.val + (i 2).val - lo, h'.2⟩)) (e := fun _ => 0) fun hh => hin fun a => by
      match a with
      | ⟨0, _⟩ => show 0 ≤ h.val * 1 + (i 0).val ∧ h.val * 1 + (i 0).val - 0 < 16; have := h.isLt; omega
      | ⟨1, _⟩ => show 0 ≤ r.val * 1 + (i 1).val ∧ r.val * 1 + (i 1).val - 0 < 4096; have := r.isLt; omega
      | ⟨2, _⟩ => show lo ≤ c.val * 1 + (i 2).val ∧ c.val * 1 + (i 2).val - lo < 4096; omega).symm

/-- From a place on: the window of a running sum taken backwards. -/
theorem after_iff (c c' : Fin 4096) : (c.val ≤ c'.val + 0 ∧ c'.val + 0 - c.val < 4096) ↔ c ≤ c' := by
  rw [Fin.le_def]; omega
/-- Up to a place: the window of a running sum. -/
theorem upto_iff (c c' : Fin 4096) : (c.val ≤ c'.val + 4095 ∧ c'.val + 4095 - c.val < 4096) ↔ c' ≤ c := by
  rw [Fin.le_def]; omega

/-- The scale, as the two formats write it. -/
theorem eighth : Ideal.ofBits FTy.f32 1040187392#32 = ((1 / 8 : ℝ) : EReal) := by
  simp only [Ideal.ofBits, Ideal.ieee]; simp [← EReal.coe_mul]; norm_num
theorem eighth' : Ideal.ofBits FTy.bf16 15872#16 = ((1 / 8 : ℝ) : EReal) := by
  simp only [Ideal.ofBits, Ideal.ieee]; simp [← EReal.coe_mul]; norm_num

/-- A selection by the order of two places. -/
theorem select_lt {α : Type} (c r : Fin 4096) (a b : α) : Scalar.select (if c < r then 1#1 else 0#1) a b = if c < r then a else b := by
  by_cases h : c < r
  · rw [if_pos h, if_pos h]; rfl
  · rw [if_neg h, if_neg h]; rfl

theorem col_headOf (n : Fin 1024) : col (headOf n) ⟨n.val % 64, by omega⟩ = n :=
  Fin.ext (by show n.val / 64 * 64 + n.val % 64 = n.val; omega)

/-! The argument arrays as real numbers: the columns of the projection that hold queries, keys and values. -/

abbrev AP : Type := (⟨2, ![4096, 6144]⟩ : Shape).Idx → EReal
abbrev AD : Type := (⟨2, ![4096, 1024]⟩ : Shape).Idx → EReal

variable (x0 : AP) (x1 : AD)

def Qr (r : Fin 4096) (n : Fin 1024) : ℝ := (x0 (ix2 r ⟨1024 + n.val, by omega⟩)).toReal
def Kr (r : Fin 4096) (n : Fin 1024) : ℝ := (x0 (ix2 r ⟨2048 + n.val, by omega⟩)).toReal
def Vr (r : Fin 4096) (n : Fin 1024) : ℝ := (x0 (ix2 r ⟨3072 + n.val, by omega⟩)).toReal
def Wr (r : Fin 4096) (n : Fin 1024) : ℝ := (x1 (ix2 r n)).toReal

theorem coe_toReal {x : EReal} (h : Real1.IsR x) : x = (x.toReal : EReal) := by
  obtain ⟨r, rfl⟩ := h; rfl

variable {x0 x1}

theorem q_coe (f : ∀ i, Real1.IsR (x0 i)) (r : Fin 4096) (n : Fin 1024) {k : Fin 6144} (hk : k.val = 1024 + n.val) :
    x0 (ix2 r k) = (Qr x0 r n : EReal) := by
  rw [show k = ⟨1024 + n.val, by omega⟩ from Fin.ext hk]; exact coe_toReal (f _)
theorem k_coe (f : ∀ i, Real1.IsR (x0 i)) (r : Fin 4096) (n : Fin 1024) {k : Fin 6144} (hk : k.val = 2048 + n.val) :
    x0 (ix2 r k) = (Kr x0 r n : EReal) := by
  rw [show k = ⟨2048 + n.val, by omega⟩ from Fin.ext hk]; exact coe_toReal (f _)
theorem v_coe (f : ∀ i, Real1.IsR (x0 i)) (r : Fin 4096) (n : Fin 1024) {k : Fin 6144} (hk : k.val = 3072 + n.val) :
    x0 (ix2 r k) = (Vr x0 r n : EReal) := by
  rw [show k = ⟨3072 + n.val, by omega⟩ from Fin.ext hk]; exact coe_toReal (f _)
theorem w_coe (f : ∀ i, Real1.IsR (x1 i)) (r : Fin 4096) (n : Fin 1024) {k : Fin 1024} (hk : k.val = n.val) :
    x1 (ix2 r k) = (Wr x1 r n : EReal) := by
  rw [show k = n from Fin.ext hk]; exact coe_toReal (f _)

end AttnReal

end
-- ==== Proof.AttnTile.lean ====
/- One head of one tile over the real numbers. -/
module

public import proofs.«01_k».proof.Proof.AttnHead
public import proofs.«01_k».proof.Proof.AttnReal

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open AttnSpec AttnReal

/-- Row `r` of tile `i`. -/
def rowOf (i : Fin 16) (r : Fin 256) : Fin 4096 := ⟨256 * i.val + r.val, by omega⟩

theorem sum_tiles (F : Fin 4096 → ℝ) : ∑ C, F C = ∑ a, ∑ c, F (rowOf a c) := by
  rw [← Fintype.sum_prod_type']
  refine (Fintype.sum_equiv (finProdFinEquiv (m := 16) (n := 256)) _ _ fun x => ?_).symm
  exact congrArg F (Fin.ext (by show 256 * x.1.val + x.2.val = x.2.val + 256 * x.1.val; omega))

theorem sum_tile (kb : Fin 16) (F : Fin 4096 → ℝ) :
    ∑ c, F (rowOf kb c) = ∑ C : Fin 4096, if 256 * kb.val ≤ C.val ∧ C.val < 256 * (kb.val + 1) then F C else 0 := by
  rw [sum_tiles, Finset.sum_eq_single kb]
  · refine Finset.sum_congr rfl fun c _ => (if_pos ?_).symm
    show 256 * kb.val ≤ 256 * kb.val + c.val ∧ 256 * kb.val + c.val < _
    omega
  · intro a _ ha
    refine Finset.sum_eq_zero fun c _ => if_neg ?_
    show ¬ (256 * kb.val ≤ 256 * a.val + c.val ∧ 256 * a.val + c.val < _)
    have : a.val ≠ kb.val := fun h => ha (Fin.ext h)
    omega
  · exact fun h => absurd (Finset.mem_univ _) h

/-- The sum from a place on. -/
def tail (n : ℕ) (f : Fin 4096 → ℝ) : ℝ := ∑ C : Fin 4096, if n ≤ C.val then f C else 0

theorem tail_zero (f : Fin 4096 → ℝ) : tail 0 f = ∑ C, f C := by
  unfold tail; exact Finset.sum_congr rfl fun C _ => if_pos (Nat.zero_le _)

theorem tail_tile (kb : Fin 16) (f : Fin 4096 → ℝ) : tail (256 * kb.val) f = tail (256 * (kb.val + 1)) f + ∑ c, f (rowOf kb c) := by
  unfold tail
  rw [sum_tile, ← Finset.sum_add_distrib]
  refine Finset.sum_congr rfl fun C _ => ?_
  split_ifs <;> first | omega | simp

theorem tail_from (kb : Fin 16) (c : Fin 256) (f : Fin 4096 → ℝ) :
    (∑ C', if rowOf kb c ≤ C' then f C' else 0) = (∑ c', if c ≤ c' then f (rowOf kb c') else 0) + tail (256 * (kb.val + 1)) f := by
  have e : ∀ c' : Fin 256, (if c ≤ c' then f (rowOf kb c') else 0) = (fun C : Fin 4096 => if rowOf kb c ≤ C then f C else 0) (rowOf kb c') := fun c' => by
    show _ = if 256 * kb.val + c.val ≤ 256 * kb.val + c'.val then _ else _
    simp only [Fin.le_def, Nat.add_le_add_iff_left]
  rw [Finset.sum_congr rfl fun c' _ => e c', sum_tile kb (fun C => if rowOf kb c ≤ C then f C else 0)]
  unfold tail
  rw [← Finset.sum_add_distrib]
  refine Finset.sum_congr rfl fun C _ => ?_
  have hc := c.isLt
  have h : rowOf kb c ≤ C ↔ 256 * kb.val + c.val ≤ C.val := Iff.rfl
  simp only [h]
  split_ifs <;> first | omega | simp

theorem tail_upTo (kb : Fin 16) (c : Fin 256) (f : Fin 4096 → ℝ) :
    (∑ C', if C' ≤ rowOf kb c then f C' else 0)
      = ((∑ C', f C') - tail (256 * (kb.val + 1)) f - ∑ c', f (rowOf kb c')) + ∑ c', if c' ≤ c then f (rowOf kb c') else 0 := by
  have e : ∀ c' : Fin 256, (if c' ≤ c then f (rowOf kb c') else 0) = (fun C : Fin 4096 => if C ≤ rowOf kb c then f C else 0) (rowOf kb c') := fun c' => by
    show _ = if 256 * kb.val + c'.val ≤ 256 * kb.val + c.val then _ else _
    simp only [Fin.le_def, Nat.add_le_add_iff_left]
  rw [Finset.sum_congr rfl fun c' _ => e c', sum_tile kb (fun C => if C ≤ rowOf kb c then f C else 0), sum_tile kb f]
  unfold tail
  rw [← Finset.sum_sub_distrib, ← Finset.sum_sub_distrib, ← Finset.sum_add_distrib]
  refine Finset.sum_congr rfl fun C _ => ?_
  have hc := c.isLt
  have h : C ≤ rowOf kb c ↔ C.val ≤ 256 * kb.val + c.val := Iff.rfl
  simp only [h]
  split_ifs <;> first | omega | simp

/-- A sum over a pair's lanes of one head. -/
theorem sum_half (s : Fin 2) (f : Fin 128 → ℝ) :
    (∑ d : Fin 128, if d.val / 64 = s.val then f d else 0) = ∑ e : Fin 64, f ⟨64 * s.val + e.val, by omega⟩ := by
  rw [show (∑ d : Fin 128, if d.val / 64 = s.val then f d else 0) = _ from Fin.sum_univ_add (a := 64) (b := 64) _]
  match s with
  | ⟨0, _⟩ =>
    refine (congrArg₂ (· + ·) (Finset.sum_congr rfl fun e _ => if_pos ?_) (Finset.sum_eq_zero fun e _ => if_neg ?_)).trans ?_
    · show e.val / 64 = 0; omega
    · show ¬ (64 + e.val) / 64 = 0; omega
    · rw [add_zero]; exact Finset.sum_congr rfl fun e _ => congrArg f (Fin.ext (by show e.val = 64 * 0 + e.val; omega))
  | ⟨1, _⟩ =>
    refine (congrArg₂ (· + ·) (Finset.sum_eq_zero fun e _ => if_neg ?_) (Finset.sum_congr rfl fun e _ => if_pos ?_)).trans ?_
    · show ¬ e.val / 64 = 1; omega
    · show (64 + e.val) / 64 = 1; omega
    · rw [zero_add]; exact Finset.sum_congr rfl fun e _ => congrArg f (Fin.ext (by show 64 + e.val = 64 * 1 + e.val; omega))

/-! The operations at a place. -/

theorem hz_apply (q k : Ln Ideal) (r c : Fin 256) : hz q k (ix2 r c) = ∑ d : Fin 128, q (ix2 r d) * k (ix2 c d) := by
  pointwise [hz]
theorem rowSum_apply (x : Sq Ideal) (r : Fin 256) : rowSum x (ix2 r 0) = ∑ c : Fin 256, x (ix2 r c) := by
  pointwise [rowSum]
theorem laneSum_apply (x : FVec Ideal S256x128 .f32) (r : Fin 256) : laneSum x (ix2 r 0) = ∑ c : Fin 128, x (ix2 r c) := by
  pointwise [laneSum]
theorem tri_apply (x : Sq Ideal) (T : FVec Ideal S256x256 .bf16) (r c : Fin 256) :
    tri x T (ix2 r c) = ∑ c' : Fin 256, x (ix2 r c') * T (ix2 c' c) := by
  pointwise [tri, small]
theorem across_apply (x : Cl Ideal) (r c : Fin 256) : across x (ix2 r c) = x (ix2 r 0) := by
  pointwise [across]
theorem small_apply (x : Sq Ideal) (i) : small x i = x i := by
  pointwise [small]
theorem zeroSq_apply (i) : zeroSq (F := Ideal) i = 0 := by
  pointwise [zeroSq]

/-- The softplus's negative of a real score. -/
theorem hnsp_apply {q k : Ln Ideal} {r c : Fin 256} {x : ℝ} (h : hz q k (ix2 r c) = (x : EReal)) : hnsp q k (ix2 r c) = ((-sp x : ℝ) : EReal) := by
  pointwise [hnsp]
  simp only [zeroSq_apply, h, zero_sub]
  rw [EReal.coe_neg, ← soft_coe (φ := .f32)]
theorem hsig_apply {q k : Ln Ideal} {r c : Fin 256} {x : ℝ} (h : hz q k (ix2 r c) = (x : EReal)) :
    hsig q k (ix2 r c) = ((Real.exp (x - sp x) : ℝ) : EReal) := by
  pointwise [hsig]
  rw [h, hnsp_apply h, ← EReal.coe_add, Ideal.exp_coe, sub_eq_add_neg]

section
variable (Q K V W : Fin 4096 → Fin 1024 → ℝ) (i kb : Fin 16) (h : Fin 16) (s : Fin 2) (cl : Fin 128 → Fin 1024)
  (μ : Sq Ideal → Sq Ideal) (T P : FVec Ideal S256x256 .bf16) (q w k v : Ln Ideal) (ds c1 c2 : Cl Ideal)

/-- What one head of one tile finds: its masked queries and cotangents, its keys and values, and the sums of the tiles behind it. -/
structure Finds : Prop where
  col_eq : ∀ e : Fin 64, cl ⟨64 * s.val + e.val, by omega⟩ = col h e
  mask : ∀ x r c, μ x (ix2 r c) = if rowOf kb c < rowOf i r then x (ix2 r c) else 0
  hT : ∀ a b : Fin 256, T (ix2 a b) = (((if b ≤ a then 1 else 0 : ℝ)) : EReal)
  hP : ∀ a b : Fin 256, P (ix2 a b) = (((if a ≤ b then 1 else 0 : ℝ)) : EReal)
  hq : ∀ r d, q (ix2 r d) = (((if d.val / 64 = s.val then Q (rowOf i r) (cl d) * (1 / 8) else 0 : ℝ)) : EReal)
  hw : ∀ r d, w (ix2 r d) = (((if d.val / 64 = s.val then W (rowOf i r) (cl d) else 0 : ℝ)) : EReal)
  hk : ∀ c d, k (ix2 c d) = (K (rowOf kb c) (cl d) : EReal)
  hv : ∀ c d, v (ix2 c d) = (V (rowOf kb c) (cl d) : EReal)
  hds : ∀ r : Fin 256, ds (ix2 r 0) = ((∑ C, g Q K V W h (rowOf i r) C : ℝ) : EReal)
  hc1 : ∀ r : Fin 256, c1 (ix2 r 0) = ((tail (256 * (kb.val + 1)) (lf Q K h (rowOf i r)) : ℝ) : EReal)
  hc2 : ∀ r : Fin 256, c2 (ix2 r 0) = ((tail (256 * (kb.val + 1)) (g Q K V W h (rowOf i r)) : ℝ) : EReal)

variable {Q K V W i kb h s cl μ T P q w k v ds c1 c2} (H : Finds Q K V W i kb h s cl μ T P q w k v ds c1 c2)
include H

theorem z_eq (r c : Fin 256) : hz q k (ix2 r c) = ((z Q K h (rowOf i r) (rowOf kb c) : ℝ) : EReal) := by
  rw [hz_apply]
  refine (sum_coe (f := fun d : Fin 128 => if d.val / 64 = s.val then Q (rowOf i r) (cl d) * (1 / 8) * K (rowOf kb c) (cl d) else 0) fun d => ?_).trans ?_
  · rw [H.hq, H.hk, ← EReal.coe_mul, ite_mul, zero_mul]
  · rw [sum_half s fun d => Q (rowOf i r) (cl d) * (1 / 8) * K (rowOf kb c) (cl d)]
    unfold z
    rw [Finset.sum_mul]
    congr 1
    refine Finset.sum_congr rfl fun e _ => ?_
    rw [H.col_eq]; ring

theorem da_eq (r c : Fin 256) : hz w v (ix2 r c) = ((da V W h (rowOf i r) (rowOf kb c) : ℝ) : EReal) := by
  rw [hz_apply]
  refine (sum_coe (f := fun d : Fin 128 => if d.val / 64 = s.val then W (rowOf i r) (cl d) * V (rowOf kb c) (cl d) else 0) fun d => ?_).trans ?_
  · rw [H.hw, H.hv, ← EReal.coe_mul, ite_mul, zero_mul]
  · rw [sum_half s fun d => W (rowOf i r) (cl d) * V (rowOf kb c) (cl d)]
    unfold da
    congr 1
    exact Finset.sum_congr rfl fun e _ => by rw [H.col_eq]

theorem lf_eq (r c : Fin 256) : hlf μ q k (ix2 r c) = ((lf Q K h (rowOf i r) (rowOf kb c) : ℝ) : EReal) := by
  unfold hlf lf
  rw [H.mask, hnsp_apply (z_eq H r c), ← EReal.coe_zero, ite_coe]

theorem c1_eq (r : Fin 256) : hc1 μ q k c1 (ix2 r 0) = ((tail (256 * kb.val) (lf Q K h (rowOf i r)) : ℝ) : EReal) := by
  pointwise [hc1]
  rw [H.hc1, rowSum_apply, sum_coe fun c => lf_eq H r c, ← EReal.coe_add, ← tail_tile]

theorem a_eq (r c : Fin 256) : ha μ T q k c1 (ix2 r c) = ((att Q K h (rowOf i r) (rowOf kb c) : ℝ) : EReal) := by
  unfold ha
  rw [small_apply, H.mask]
  by_cases hc : rowOf kb c < rowOf i r
  · rw [if_pos hc, att_eq Q K hc]
    pointwise []
    rw [z_eq H, tri_apply, across_apply, H.hc1]
    rw [sum_coe (f := fun c' => if c ≤ c' then lf Q K h (rowOf i r) (rowOf kb c') else 0) fun c' => by
      rw [lf_eq H, H.hT, ← EReal.coe_mul, mul_ite, mul_one, mul_zero]]
    rw [← EReal.coe_add, ← EReal.coe_add, Ideal.exp_coe]
    unfold from'
    rw [tail_from, add_assoc]
  · rw [if_neg hc, att_of_le Q K hc, EReal.coe_zero]

theorem g_eq' (r c : Fin 256) : hg μ T q w k v c1 (ix2 r c) = ((g Q K V W h (rowOf i r) (rowOf kb c) : ℝ) : EReal) := by
  pointwise [hg]
  rw [a_eq H, da_eq H, ← EReal.coe_mul, ← g_eq]

theorem c2_eq (r : Fin 256) : hc2 μ T q w k v c1 c2 (ix2 r 0) = ((tail (256 * kb.val) (g Q K V W h (rowOf i r)) : ℝ) : EReal) := by
  pointwise [hc2]
  rw [H.hc2, rowSum_apply, sum_coe fun c => g_eq' H r c, ← EReal.coe_add, ← tail_tile]

theorem early_eq (r : Fin 256) : hearly μ T q w k v ds c1 c2 (ix2 r 0) = ((((∑ C, g Q K V W h (rowOf i r) C)
    - tail (256 * (kb.val + 1)) (g Q K V W h (rowOf i r)) - ∑ c, g Q K V W h (rowOf i r) (rowOf kb c) : ℝ)) : EReal) := by
  pointwise [hearly]
  rw [H.hc2, H.hds, rowSum_apply, sum_coe fun c => g_eq' H r c, ← EReal.coe_sub, ← EReal.coe_sub]

theorem dz_eq' (r c : Fin 256) : hdz μ T P q w k v ds c1 c2 (ix2 r c) = ((dz Q K V W h (rowOf i r) (rowOf kb c) : ℝ) : EReal) := by
  unfold hdz
  rw [small_apply, H.mask, dz_eq]
  by_cases hc : rowOf kb c < rowOf i r
  · rw [if_pos hc, if_pos hc]
    pointwise []
    rw [g_eq' H, hsig_apply (z_eq H r c), across_apply, early_eq H, tri_apply]
    rw [sum_coe (f := fun c' => if c' ≤ c then g Q K V W h (rowOf i r) (rowOf kb c') else 0) fun c' => by
      rw [g_eq' H, H.hP, ← EReal.coe_mul, mul_ite, mul_one, mul_zero]]
    rw [← EReal.coe_add, ← EReal.coe_mul, ← EReal.coe_sub]
    unfold upTo
    rw [tail_upTo]
  · rw [if_neg hc, if_neg hc, EReal.coe_zero]

/-- The rows of the queries' gradient that the tile adds. -/
theorem dq_eq {dq : FVec Ideal S256x128 .f32} {r : Fin 256} {d : Fin 128}
    (hdq0 : dq (ix2 r d) = ((tail (256 * (kb.val + 1)) (fun C => dz Q K V W h (rowOf i r) C * K C (cl d)) : ℝ) : EReal)) :
    hdq μ T P q w k v ds c1 c2 dq (ix2 r d) = ((tail (256 * kb.val) (fun C => dz Q K V W h (rowOf i r) C * K C (cl d)) : ℝ) : EReal) := by
  pointwise [hdq]
  rw [hdq0, sum_coe (f := fun c => dz Q K V W h (rowOf i r) (rowOf kb c) * K (rowOf kb c) (cl d)) fun c => by
    rw [dz_eq' H, H.hk, ← EReal.coe_mul], ← EReal.coe_add, tail_tile]

/-- The rows of the keys' gradient that the tile adds. -/
theorem dk_eq (c : Fin 256) (d : Fin 128) : hdk μ T P q w k v ds c1 c2 (ix2 c d)
    = (((if d.val / 64 = s.val then ∑ r, dz Q K V W h (rowOf i r) (rowOf kb c) * (1 / 8) * Q (rowOf i r) (cl d) else 0 : ℝ)) : EReal) := by
  pointwise [hdk]
  rw [sum_coe (f := fun r => if d.val / 64 = s.val then dz Q K V W h (rowOf i r) (rowOf kb c) * (1 / 8) * Q (rowOf i r) (cl d) else 0) fun r => by
    rw [dz_eq' H, H.hq, ← EReal.coe_mul, mul_ite, mul_zero]; congr 2; ring]
  congr 1; split
  · rfl
  · exact Finset.sum_const_zero

/-- The rows of the values' gradient that the tile adds. -/
theorem dv_eq (c : Fin 256) (d : Fin 128) : hdv μ T q w k c1 (ix2 c d)
    = (((if d.val / 64 = s.val then ∑ r, W (rowOf i r) (cl d) * att Q K h (rowOf i r) (rowOf kb c) else 0 : ℝ)) : EReal) := by
  pointwise [hdv]
  rw [sum_coe (f := fun r => if d.val / 64 = s.val then W (rowOf i r) (cl d) * att Q K h (rowOf i r) (rowOf kb c) else 0) fun r => by
    rw [a_eq H, H.hw, ← EReal.coe_mul, mul_ite, mul_zero]; congr 2; ring]
  congr 1; split
  · rfl
  · exact Finset.sum_const_zero

end

end Cert.AttnIdeal.Hand

end
-- ==== Proof.AttnStep.lean ====
/- What a point of the attention's backward call adds to its running gradients, at the real values of its blocks. -/
module

public import proofs.«01_k».proof.Proof.AttnTile
public import Idealize.ShloMosaic.Lib.WritesUnit
public import Idealize.ShloMosaic.Lib.WholeRead
public import Idealize.ShloMosaic.Lib.VecWindow

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open AttnSpec AttnReal

/-- Lane `d` of pair `p` of a block's columns, and a block's column among all. -/
def lane (p : Fin 4) (d : Fin 128) : Fin 512 := ⟨128 * p.val + d.val, by omega⟩
def wide (j : Fin 2) (x : Fin 512) : Fin 1024 := ⟨512 * j.val + x.val, by omega⟩
/-- A block's head among all. -/
def headAt (j : Fin 2) (t : Fin 8) : Fin 16 := ⟨8 * j.val + t.val, by omega⟩
def odd (t : Fin 8) : Fin 2 := ⟨t.val % 2, by omega⟩

theorem wide_col (j : Fin 2) (t : Fin 8) (e : Fin 64) : wide j (lane (half t) ⟨64 * (odd t).val + e.val, by have := (odd t).isLt; omega⟩) = col (headAt j t) e :=
  Fin.ext (by show 512 * j.val + (128 * (t.val / 2) + (64 * (t.val % 2) + e.val)) = (8 * j.val + t.val) * 64 + e.val; omega)

theorem headOf_wide (j : Fin 2) (p : Fin 4) (d : Fin 128) (s : Fin 2) (h : d.val / 64 = s.val) :
    headOf (wide j (lane p d)) = headAt j ⟨2 * p.val + s.val, by omega⟩ :=
  Fin.ext (by show (512 * j.val + (128 * p.val + d.val)) / 64 = 8 * j.val + (2 * p.val + s.val); omega)

theorem lane_cases (x : Fin 512) : ∃ p d, x = lane p d :=
  ⟨⟨x.val / 128, by omega⟩, ⟨x.val % 128, by omega⟩, Fin.ext (by show x.val = 128 * (x.val / 128) + x.val % 128; omega)⟩

theorem row_cases (r : Fin 4096) : ∃ i c, r = rowOf i c :=
  ⟨⟨r.val / 256, by omega⟩, ⟨r.val % 256, by omega⟩, Fin.ext (by show r.val = 256 * (r.val / 256) + r.val % 256; omega)⟩

theorem tail_none {m : ℕ} {f : Fin 4096 → ℝ} (h : ∀ C : Fin 4096, m ≤ C.val → f C = 0) : tail m f = 0 := by
  unfold tail
  exact Finset.sum_eq_zero fun C _ => by split <;> first | exact h C ‹_› | rfl

/-! Entries of the pieces. -/

theorem pair_apply {φ : FTy} (X : FVec Ideal S256x512 φ) (p : Fin 4) (r : Fin 256) (d : Fin 128) : pair X p (ix2 r d) = X (ix2 r (lane p d)) := by
  have e : ∀ n : Fin 512, n.val = (lane p d).val → X (ix2 r n) = X (ix2 r (lane p d)) := fun n h => by rw [Fin.ext h]
  fin_cases p <;> (pointwise [pair]; refine e _ ?_; show _ = 128 * _ + d.val; simp <;> omega)

theorem ofNat_slt (a b : ℕ) (ha : a < 4096) (hb : b < 4096) : IntOp.cmpi .slt (BitVec.ofNat 32 a) (BitVec.ofNat 32 b) = if a < b then 1#1 else 0#1 := by
  have h1 : ∀ n : ℕ, n < 4096 → (BitVec.ofNat 32 n).toInt = n := fun n hn => by
    rw [BitVec.toInt_eq_toNat_of_lt (by rw [BitVec.toNat_ofNat]; omega), BitVec.toNat_ofNat]; omega
  show BitVec.ofBool (BitVec.slt _ _) = _
  rw [BitVec.slt_eq_decide, h1 a ha, h1 b hb]
  by_cases h : a < b
  · rw [if_pos h, decide_eq_true (by exact_mod_cast h)]; rfl
  · rw [if_neg h, decide_eq_false (by exact_mod_cast h)]; rfl
theorem ofNat_sle (a b : ℕ) (ha : a < 4096) (hb : b < 4096) : IntOp.cmpi .sle (BitVec.ofNat 32 a) (BitVec.ofNat 32 b) = if a ≤ b then 1#1 else 0#1 := by
  have h1 : ∀ n : ℕ, n < 4096 → (BitVec.ofNat 32 n).toInt = n := fun n hn => by
    rw [BitVec.toInt_eq_toNat_of_lt (by rw [BitVec.toNat_ofNat]; omega), BitVec.toNat_ofNat]; omega
  show BitVec.ofBool (BitVec.sle _ _) = _
  rw [BitVec.sle_eq_decide, h1 a ha, h1 b hb]
  by_cases h : a ≤ b
  · rw [if_pos h, decide_eq_true (by exact_mod_cast h)]; rfl
  · rw [if_neg h, decide_eq_false (by exact_mod_cast h)]; rfl

theorem firstHalf_apply (r : Fin 256) (d : Fin 128) : firstHalf (ix2 r d) = if d.val < 64 then 1#1 else 0#1 := by
  pointwise [firstHalf, k0_pay265]
  exact ofNat_slt d.val 64 (by omega) (by omega)

/-- A comparison as a number. -/
theorem word_real (p : Prop) [Decidable p] :
    FloatOps.sitofp (F := Ideal) FTy.f32 (BitVec.setWidth 32 (if p then 1#1 else 0#1)) = (((if p then 1 else 0 : ℝ)) : EReal) := by
  show ((BitVec.toInt _ : ℝ) : EReal) = _
  by_cases h : p
  · rw [if_pos h, if_pos h]; norm_num
  · rw [if_neg h, if_neg h]; norm_num

theorem from_apply (a b : Fin 256) : k0_pay266 (F := Ideal) (ix2 a b) = (((if b ≤ a then 1 else 0 : ℝ)) : EReal) := by
  pointwise [k0_pay266]
  rw [show IntOp.cmpi .sge (BitVec.ofNat 32 a.val) (BitVec.ofNat 32 b.val) = _ from ofNat_sle b.val a.val (by omega) (by omega)]
  exact word_real _
theorem upto_apply (a b : Fin 256) : k0_pay267 (F := Ideal) (ix2 a b) = (((if a ≤ b then 1 else 0 : ℝ)) : EReal) := by
  pointwise [k0_pay267]
  rw [ofNat_sle a.val b.val (by omega) (by omega)]
  exact word_real _
theorem below_apply (x : Sq Ideal) (r c : Fin 256) : below x (ix2 r c) = if c < r then x (ix2 r c) else 0 := by
  pointwise [below, k0_pay268]
  rw [zeroSq_apply, ofNat_slt c.val r.val (by omega) (by omega)]
  by_cases h : c < r
  · rw [if_pos h, if_pos (Fin.lt_def.mp h)]; rfl
  · rw [if_neg h, if_neg fun e => h (Fin.lt_def.mpr e)]; rfl

theorem oneHead_apply {φ : FTy} (X : Fin 4 → FVec Ideal S256x128 φ) (z : Ideal φ) (t : Fin 8) (r : Fin 256) (d : Fin 128) :
    oneHead X z t (ix2 r d) = if d.val / 64 = (odd t).val then X (half t) (ix2 r d) else z := by
  have h0 : d.val / 64 = 0 ↔ d.val < 64 := by omega
  have h1 : d.val / 64 = 1 ↔ ¬ d.val < 64 := by omega
  by_cases h : d.val < 64
  · fin_cases t <;> (pointwise [oneHead]; rw [firstHalf_apply, if_pos h]; simp [odd, half, h0, h1, h]; rfl)
  · fin_cases t <;> (pointwise [oneHead]; rw [firstHalf_apply, if_neg h]; simp [odd, half, h0, h1, h, not_lt.mp h]; rfl)

section
variable {V : View sig .tc .vmem S4096x512 .f32} {o0 o1 o2 o3 : Fin 2 → Nat} {kb : Fin 16}
    {h0 : ∀ a, o0 a + S256x128.size a ≤ S4096x512.size a} {h1 : ∀ a, o1 a + S256x128.size a ≤ S4096x512.size a}
    {h2 : ∀ a, o2 a + S256x128.size a ≤ S4096x512.size a} {h3 : ∀ a, o3 a + S256x128.size a ≤ S4096x512.size a}
    (e0 : o0 = ![256 * kb.val, 0]) (e1 : o1 = ![256 * kb.val, 128]) (e2 : o2 = ![256 * kb.val, 256]) (e3 : o3 = ![256 * kb.val, 384])
    (f : BufTy.Contents (Elt Ideal) V.ty) (x : Fin 8 → FVec Ideal S256x128 .f32)
include e0 e1 e2 e3

/-- A row outside the tile keeps what it held. -/
theorem read_add_off (C : Fin 4096) (n : Fin 512) (h : C.val < 256 * kb.val ∨ 256 * (kb.val + 1) ≤ C.val) :
    V.read (Elt Ideal) (V.writes (Elt Ideal) f (addPieces V o0 o1 o2 o3 h0 h1 h2 h3 f x)) (ix2 C n) = V.read (Elt Ideal) f (ix2 C n) := by
  have h' : C.val < 256 * kb.val ∨ 256 * kb.val + 256 ≤ C.val := by omega
  unfold addPieces
  rw [View.read_writes_cons_unit_of_not_mem V f h3 _ _ _ e3 (0 : Fin 2) h',
    View.read_writes_cons_unit_of_not_mem V f h2 _ _ _ e2 (0 : Fin 2) h',
    View.read_writes_cons_unit_of_not_mem V f h1 _ _ _ e1 (0 : Fin 2) h',
    View.read_writes_cons_unit_of_not_mem V f h0 _ _ _ e0 (0 : Fin 2) h']
  rfl

end

theorem addIn_apply (x a b : FVec Ideal S256x128 .f32) (c : Fin 256) (d : Fin 128) : addIn x a b (ix2 c d) = x (ix2 c d) + (a (ix2 c d) + b (ix2 c d)) := by
  pointwise [addIn]

theorem readAt_tile {w : ℕ} {e : EltTy} {V : View sig .tc .vmem S4096x512 e} {o : Fin 2 → ℕ} {kb : Fin 16} {b : ℕ}
    {h : ∀ a, o a + (![256, w] : Fin 2 → ℕ) a ≤ S4096x512.size a} (eo : o = ![256 * kb.val, b])
    (f : BufTy.Contents (Elt Ideal) V.ty) (c : Fin 256) (d : Fin w) (n : Fin 512) (hn : n.val = b + d.val) :
    V.readAt (Elt Ideal) (Rect.unit (s := S4096x512) o ![256, w] h).toLoadRect f (ix2 c d) = V.read (Elt Ideal) f (ix2 (rowOf kb c) n) := by
  subst eo
  refine congrArg (V.read (Elt Ideal) f) (funext (Fin.forall_fin_two.mpr ⟨Fin.ext ?_, Fin.ext ?_⟩))
  · show 256 * kb.val + 1 * c.val = 256 * kb.val + c.val; omega
  · show b + 1 * d.val = n.val; omega

section
variable {V : View sig .tc .vmem S4096x512 .f32} {o0 o1 o2 o3 : Fin 2 → Nat} {kb : Fin 16}
    {h0 : ∀ a, o0 a + S256x128.size a ≤ S4096x512.size a} {h1 : ∀ a, o1 a + S256x128.size a ≤ S4096x512.size a}
    {h2 : ∀ a, o2 a + S256x128.size a ≤ S4096x512.size a} {h3 : ∀ a, o3 a + S256x128.size a ≤ S4096x512.size a}
    (e0 : o0 = ![256 * kb.val, 0]) (e1 : o1 = ![256 * kb.val, 128]) (e2 : o2 = ![256 * kb.val, 256]) (e3 : o3 = ![256 * kb.val, 384])
    (f : BufTy.Contents (Elt Ideal) V.ty) (x : Fin 8 → FVec Ideal S256x128 .f32)
include e0 e1 e2 e3

theorem tile_mem (kb : Fin 16) (c : Fin 256) (b : ℕ) (d : Fin 128) (n : Fin 512) (hn : n.val = b + d.val) :
    ∀ a : Fin 2, ((ix2 (rowOf kb c) n) a).val = (![256 * kb.val, b] : Fin 2 → ℕ) a + ((ix2 c d) a).val :=
  Fin.forall_fin_two.mpr ⟨rfl, hn⟩

/-- A row of the tile gains its two heads' parts. -/
theorem read_add_on (c : Fin 256) (p : Fin 4) (d : Fin 128) :
    V.read (Elt Ideal) (V.writes (Elt Ideal) f (addPieces V o0 o1 o2 o3 h0 h1 h2 h3 f x)) (ix2 (rowOf kb c) (lane p d))
      = V.read (Elt Ideal) f (ix2 (rowOf kb c) (lane p d))
        + (x ⟨2 * p.val, by omega⟩ (ix2 c d) + x ⟨2 * p.val + 1, by omega⟩ (ix2 c d)) := by
  have hd := d.isLt
  unfold addPieces
  match p with
  | ⟨3, _⟩ =>
    rw [View.read_writes_cons_unit_of_mem V f h3 _ _ _ (ix2 c d) e3 (tile_mem e0 e1 e2 e3 kb c 384 d _ rfl), addIn_apply]
    exact congrArg (· + _) (readAt_tile e3 f c d _ rfl)
  | ⟨2, _⟩ =>
    rw [View.read_writes_cons_unit_of_not_mem V f h3 _ _ _ e3 (1 : Fin 2) (.inl (show 128 * 2 + d.val < 384 by omega)),
      View.read_writes_cons_unit_of_mem V f h2 _ _ _ (ix2 c d) e2 (tile_mem e0 e1 e2 e3 kb c 256 d _ rfl), addIn_apply]
    exact congrArg (· + _) (readAt_tile e2 f c d _ rfl)
  | ⟨1, _⟩ =>
    rw [View.read_writes_cons_unit_of_not_mem V f h3 _ _ _ e3 (1 : Fin 2) (.inl (show 128 * 1 + d.val < 384 by omega)),
      View.read_writes_cons_unit_of_not_mem V f h2 _ _ _ e2 (1 : Fin 2) (.inl (show 128 * 1 + d.val < 256 by omega)),
      View.read_writes_cons_unit_of_mem V f h1 _ _ _ (ix2 c d) e1 (tile_mem e0 e1 e2 e3 kb c 128 d _ rfl), addIn_apply]
    exact congrArg (· + _) (readAt_tile e1 f c d _ rfl)
  | ⟨0, _⟩ =>
    rw [View.read_writes_cons_unit_of_not_mem V f h3 _ _ _ e3 (1 : Fin 2) (.inl (show 128 * 0 + d.val < 384 by omega)),
      View.read_writes_cons_unit_of_not_mem V f h2 _ _ _ e2 (1 : Fin 2) (.inl (show 128 * 0 + d.val < 256 by omega)),
      View.read_writes_cons_unit_of_not_mem V f h1 _ _ _ e1 (1 : Fin 2) (.inl (show 128 * 0 + d.val < 128 by omega)),
      View.read_writes_cons_unit_of_mem V f h0 _ _ _ (ix2 c d) e0 (tile_mem e0 e1 e2 e3 kb c 0 d _ (by show 128 * 0 + d.val = 0 + d.val; omega)), addIn_apply]
    exact congrArg (· + _) (readAt_tile e0 f c d _ (by show 128 * 0 + d.val = 0 + d.val; omega))

/-- A list of writes of one tile read at real numbers: the tile's rows gain their parts. -/
theorem add_tile {Y S : Fin 4096 → Fin 512 → ℝ}
    (hx : ∀ p c d, x ⟨2 * p.val, by omega⟩ (ix2 c d) + x ⟨2 * p.val + 1, by omega⟩ (ix2 c d) = (S (rowOf kb c) (lane p d) : EReal))
    (hf : ∀ C n, V.read (Elt Ideal) f (ix2 C n) = ((Y C n + if 256 * (kb.val + 1) ≤ C.val then S C n else 0 : ℝ) : EReal))
    (C : Fin 4096) (n : Fin 512) :
    V.read (Elt Ideal) (V.writes (Elt Ideal) f (addPieces V o0 o1 o2 o3 h0 h1 h2 h3 f x)) (ix2 C n)
      = ((Y C n + if 256 * kb.val ≤ C.val then S C n else 0 : ℝ) : EReal) := by
  obtain ⟨k', c, rfl⟩ := row_cases C
  have hc := c.isLt
  have hv : (rowOf k' c).val = 256 * k'.val + c.val := rfl
  by_cases hk : k' = kb
  · subst hk
    obtain ⟨p, d, rfl⟩ := lane_cases n
    rw [read_add_on e0 e1 e2 e3 f x c p d, hx, hf, if_neg (by omega), if_pos (by omega), add_zero, ← EReal.coe_add]
  · have hk' : k'.val ≠ kb.val := fun e => hk (Fin.ext e)
    rw [read_add_off e0 e1 e2 e3 f x _ n (by omega), hf]
    by_cases hl : 256 * (kb.val + 1) ≤ (rowOf k' c).val
    · rw [if_pos hl, if_pos (by omega)]
    · rw [if_neg hl, if_neg (by omega)]

end

/-- Of a pair's two heads a lane has the one it is of. -/
theorem two_heads {j : Fin 2} {B : Fin 16 → Fin 1024 → ℝ} {x : Fin 8 → FVec Ideal S256x128 .f32} {c : Fin 256} {d : Fin 128}
    (hx : ∀ t, x t (ix2 c d) = ((if d.val / 64 = (odd t).val then B (headAt j t) (wide j (lane (half t) d)) else 0 : ℝ) : EReal)) (p : Fin 4) :
    x ⟨2 * p.val, by omega⟩ (ix2 c d) + x ⟨2 * p.val + 1, by omega⟩ (ix2 c d)
      = (B (headOf (wide j (lane p d))) (wide j (lane p d)) : EReal) := by
  have hd := d.isLt
  rw [hx, hx, ← EReal.coe_add]
  have o0 : (odd ⟨2 * p.val, by omega⟩).val = 0 := by show 2 * p.val % 2 = 0; omega
  have o1 : (odd ⟨2 * p.val + 1, by omega⟩).val = 1 := by show (2 * p.val + 1) % 2 = 1; omega
  have p0 : half ⟨2 * p.val, by omega⟩ = p := Fin.ext (by show 2 * p.val / 2 = p.val; omega)
  have p1 : half ⟨2 * p.val + 1, by omega⟩ = p := Fin.ext (by show (2 * p.val + 1) / 2 = p.val; omega)
  rw [o0, o1, p0, p1]
  by_cases h : d.val / 64 = 0
  · rw [if_pos h, if_neg (by omega), add_zero, headOf_wide j p d 0 h]; rfl
  · rw [if_neg h, if_pos (by omega), zero_add, headOf_wide j p d 1 (by show _ = 1; omega)]; rfl

/-! The loop. -/

theorem trips_eq (i : grid0.Coords) : (k0_t1_loop i).trips = (i 1).val := by revert i; decide +kernel

section
variable (Q K V W : Fin 4096 → Fin 1024 → ℝ) (i : Fin 16) (j : Fin 2)

/-- What a row tile adds to an entry of the keys' and of the values' gradients. -/
def dkPart (C : Fin 4096) (n : Fin 1024) : ℝ := ∑ r, dz Q K V W (headOf n) (rowOf i r) C * (1 / 8) * Q (rowOf i r) n
def dvPart (C : Fin 4096) (n : Fin 1024) : ℝ := ∑ r, W (rowOf i r) n * att Q K (headOf n) (rowOf i r) C

/-- What a point's loop has around it, at real numbers. -/
structure Sees (A : Around Ideal) (X3 : BufTy.Contents (Elt Ideal) A.arg3.view.ty) (X4 : BufTy.Contents (Elt Ideal) A.arg4.view.ty) : Prop where
  hi : (A.i 1).val = i.val
  hT : ∀ a b : Fin 256, A.v11 (ix2 a b) = (((if b ≤ a then 1 else 0 : ℝ)) : EReal)
  hP : ∀ a b : Fin 256, A.v15 (ix2 a b) = (((if a ≤ b then 1 else 0 : ℝ)) : EReal)
  hq : ∀ t r d, A.q t (ix2 r d) = (((if d.val / 64 = (odd t).val then Q (rowOf i r) (wide j (lane (half t) d)) * (1 / 8) else 0 : ℝ)) : EReal)
  hw : ∀ t r d, A.w t (ix2 r d) = (((if d.val / 64 = (odd t).val then W (rowOf i r) (wide j (lane (half t) d)) else 0 : ℝ)) : EReal)
  hds : ∀ t (r : Fin 256), A.ds t (ix2 r 0) = ((∑ C, g Q K V W (headAt j t) (rowOf i r) C : ℝ) : EReal)
  h3 : ∀ C n, A.arg3.view.read (Elt Ideal) X3 (ix2 C n) = (K C (wide j n) : EReal)
  h4 : ∀ C n, A.arg4.view.read (Elt Ideal) X4 (ix2 C n) = (V C (wide j n) : EReal)

/-- The carried sums once the tiles from row `m` on have been added. -/
structure Sums (m : ℕ) (x : Carry Ideal) : Prop where
  c1 : ∀ t (r : Fin 256), x.c1 t (ix2 r 0) = ((tail m (lf Q K (headAt j t) (rowOf i r)) : ℝ) : EReal)
  c2 : ∀ t (r : Fin 256), x.c2 t (ix2 r 0) = ((tail m (g Q K V W (headAt j t) (rowOf i r)) : ℝ) : EReal)
  dq : ∀ t (r : Fin 256) d, x.dq t (ix2 r d)
    = ((tail m (fun C => dz Q K V W (headAt j t) (rowOf i r) C * K C (wide j (lane (half t) d))) : ℝ) : EReal)

/-- The two running gradients once the tiles from row `m` on have been added. -/
structure Grown (m : ℕ) (Y Z : Fin 4096 → Fin 512 → ℝ) (f g : Vec Ideal S4096x512 .f32) : Prop where
  dk : ∀ C n, f (ix2 C n) = ((Y C n + if m ≤ C.val then dkPart Q K V W i C (wide j n) else 0 : ℝ) : EReal)
  dv : ∀ C n, g (ix2 C n) = ((Z C n + if m ≤ C.val then dvPart Q K W i C (wide j n) else 0 : ℝ) : EReal)

variable {Q K V W i j} {A : Around Ideal} {X3 : BufTy.Contents (Elt Ideal) A.arg3.view.ty} {X4 : BufTy.Contents (Elt Ideal) A.arg4.view.ty}
  (H : Sees Q K V W i j A X3 X4) {Y Z : Fin 4096 → Fin 512 → ℝ}
include H

theorem finds {k : Fin (k0_t1_loop A.i).trips} {kb : Fin 16} (hkb : kb.val + (k.val + 1) = i.val) {acc : Carry Ideal}
    (S : Sums Q K V W i j (256 * (kb.val + 1)) acc) (t : Fin 8) :
    Finds Q K V W i kb (headAt j t) (odd t) (fun d => wide j (lane (half t) d)) id A.v11 A.v15 (A.q t) (A.w t)
      (pair (kRows A X3 k) (half t)) (pair (vRows A X4 k) (half t)) (A.ds t) (acc.c1 t) (acc.c2 t) where
  col_eq := wide_col j t
  mask x r c := by
    rw [if_pos]
    · rfl
    · have := c.isLt
      show 256 * kb.val + c.val < 256 * i.val + r.val
      omega
  hT := H.hT
  hP := H.hP
  hq := H.hq t
  hw := H.hw t
  hk c d := by
    rw [pair_apply]
    exact (readAt_tile ((off6_eq A.i k).trans (by rw [H.hi, ← hkb]; simp)) X3 c _ _ (Nat.zero_add _).symm).trans (H.h3 _ _)
  hv c d := by
    rw [pair_apply]
    exact (readAt_tile ((off6_eq A.i k).trans (by rw [H.hi, ← hkb]; simp)) X4 c _ _ (Nat.zero_add _).symm).trans (H.h4 _ _)
  hds := H.hds t
  hc1 := S.c1 t
  hc2 := S.c2 t

variable {G : BufTy.Contents (Elt Ideal) A.arg10.view.ty} {H' : BufTy.Contents (Elt Ideal) A.arg11.view.ty} {init : Carry Ideal}

theorem sums_trip {k : Fin (k0_t1_loop A.i).trips} {kb : Fin 16} (hkb : kb.val + (k.val + 1) = i.val) {acc : Carry Ideal}
    (f : BufTy.Contents (Elt Ideal) A.arg10.view.ty) (g : BufTy.Contents (Elt Ideal) A.arg11.view.ty)
    (S : Sums Q K V W i j (256 * (kb.val + 1)) acc) : Sums Q K V W i j (256 * kb.val) ((trip A X3 X4 k).1 acc f g) where
  c1 t r := by rw [trip_c1]; exact c1_eq (finds H hkb S t) r
  c2 t r := by rw [trip_c2]; exact c2_eq (finds H hkb S t) r
  dq t r d := by rw [trip_dq]; exact dq_eq (finds H hkb S t) (S.dq t r d)

theorem grown_trip {k : Fin (k0_t1_loop A.i).trips} {kb : Fin 16} (hkb : kb.val + (k.val + 1) = i.val) {acc : Carry Ideal}
    {f : BufTy.Contents (Elt Ideal) A.arg10.view.ty} {g : BufTy.Contents (Elt Ideal) A.arg11.view.ty}
    (S : Sums Q K V W i j (256 * (kb.val + 1)) acc)
    (T : Grown Q K V W i j (256 * (kb.val + 1)) Y Z (A.arg10.view.read (Elt Ideal) f) (A.arg11.view.read (Elt Ideal) g)) :
    Grown Q K V W i j (256 * kb.val) Y Z
      (A.arg10.view.read (Elt Ideal) (A.arg10.view.writes (Elt Ideal) f ((trip A X3 X4 k).2.1 acc f g)))
      (A.arg11.view.read (Elt Ideal) (A.arg11.view.writes (Elt Ideal) g ((trip A X3 X4 k).2.2.1 acc f g))) := by
  have e : (A.i 1).val - (k.val + 1) = kb.val := by rw [H.hi, ← hkb]; simp
  have e7 := (off7_eq A.i k).trans (by rw [e])
  have e8 := (off8_eq A.i k).trans (by rw [e])
  have e9 := (off9_eq A.i k).trans (by rw [e])
  have e10 := (off10_eq A.i k).trans (by rw [e])
  refine ⟨?_, ?_⟩
  · rw [trip_dk]
    refine add_tile e7 e8 e9 e10 f _ (S := fun C n => dkPart Q K V W i C (wide j n)) (fun p c d => ?_) T.dk
    exact two_heads (B := fun h n => ∑ r, dz Q K V W h (rowOf i r) (rowOf kb c) * (1 / 8) * Q (rowOf i r) n)
      (fun t => dk_eq (finds H hkb S t) c d) p
  · rw [trip_dv]
    refine add_tile e7 e8 e9 e10 g _ (S := fun C n => dvPart Q K W i C (wide j n)) (fun p c d => ?_) T.dv
    exact two_heads (B := fun h n => ∑ r, W (rowOf i r) n * att Q K h (rowOf i r) (rowOf kb c))
      (fun t => dv_eq (finds H hkb S t) c d) p

theorem loop_after (S : Sums Q K V W i j (256 * i.val) init)
    (T : Grown Q K V W i j (256 * i.val) Y Z (A.arg10.view.read (Elt Ideal) G) (A.arg11.view.read (Elt Ideal) H')) :
    ∀ n, n ≤ i.val → Sums Q K V W i j (256 * (i.val - n)) (A.state X3 X4 G H' init n).1
      ∧ Grown Q K V W i j (256 * (i.val - n)) Y Z
          (A.arg10.view.read (Elt Ideal) (A.arg10.view.writes (Elt Ideal) G (A.state X3 X4 G H' init n).2.1))
          (A.arg11.view.read (Elt Ideal) (A.arg11.view.writes (Elt Ideal) H' (A.state X3 X4 G H' init n).2.2))
  | 0, _ => ⟨S, T⟩
  | n + 1, hn => by
    obtain ⟨S', T'⟩ := loop_after S T n (by omega)
    have hk : n < (k0_t1_loop A.i).trips := by rw [trips_eq, H.hi]; omega
    have e1 : i.val - n = i.val - (n + 1) + 1 := by omega
    have hb := i.isLt
    rw [e1] at S' T'
    rw [A.state_succ X3 X4 G H' init ⟨n, hk⟩]
    refine ⟨sums_trip H (kb := ⟨i.val - (n + 1), by omega⟩) (by show i.val - (n + 1) + (n + 1) = _; omega) _ _ S', ?_⟩
    rw [View.writes_append, View.writes_append]
    exact grown_trip H (kb := ⟨i.val - (n + 1), by omega⟩) (by show i.val - (n + 1) + (n + 1) = _; omega) S' T'

end

/-! A point. -/

section
variable (Q K V W : Fin 4096 → Fin 1024 → ℝ) (i : Fin 16) (j : Fin 2)

/-- The blocks a point reads, at real numbers. -/
structure Blocks (q : Vec Ideal S256x512 .bf16) (k v : Vec Ideal S4096x512 .bf16) (o d : Vec Ideal S256x512 .f32) : Prop where
  hq : ∀ r n, q (ix2 r n) = (Q (rowOf i r) (wide j n) : EReal)
  hk : ∀ C n, k (ix2 C n) = (K C (wide j n) : EReal)
  hv : ∀ C n, v (ix2 C n) = (V C (wide j n) : EReal)
  ho : ∀ r n, o (ix2 r n) = (out Q K V (rowOf i r) (wide j n) : EReal)
  hd : ∀ r n, d (ix2 r n) = (W (rowOf i r) (wide j n) : EReal)

variable {Q K V W i j} {q : Vec Ideal S256x512 .bf16} {k v : Vec Ideal S4096x512 .bf16} {o d : Vec Ideal S256x512 .f32}
  (B : Blocks Q K V W i j q k v o d)
include B

theorem pq_apply (t : Fin 8) (r : Fin 256) (x : Fin 128) :
    pq q t (ix2 r x) = (((if x.val / 64 = (odd t).val then Q (rowOf i r) (wide j (lane (half t) x)) * (1 / 8) else 0 : ℝ)) : EReal) := by
  unfold pq
  rw [oneHead_apply, pair_apply]
  pointwise [k0_pay269]
  rw [B.hq, eighth', ← EReal.coe_mul, ← ite_coe, EReal.coe_zero]

theorem pw_apply (t : Fin 8) (r : Fin 256) (x : Fin 128) :
    pw d t (ix2 r x) = (((if x.val / 64 = (odd t).val then W (rowOf i r) (wide j (lane (half t) x)) else 0 : ℝ)) : EReal) := by
  unfold pw
  rw [oneHead_apply, pair_apply]
  pointwise [k0_pay270]
  rw [B.hd, ← ite_coe, EReal.coe_zero]

theorem pds_apply (t : Fin 8) (r : Fin 256) : pds o d t (ix2 r 0) = ((∑ C, g Q K V W (headAt j t) (rowOf i r) C : ℝ) : EReal) := by
  unfold pds
  rw [laneSum_apply, ← sum_out, sum_coe (f := fun x : Fin 128 => if x.val / 64 = (odd t).val then
    W (rowOf i r) (wide j (lane (half t) x)) * out Q K V (rowOf i r) (wide j (lane (half t) x)) else 0) fun x => by
      rw [oneHead_apply, pair_apply]
      pointwise [k0_pay271, k0_pay270]
      rw [B.hd, B.ho, ← EReal.coe_mul, ← ite_coe, EReal.coe_zero],
    sum_half (odd t) fun x => W (rowOf i r) (wide j (lane (half t) x)) * out Q K V (rowOf i r) (wide j (lane (half t) x))]
  congr 1
  exact Finset.sum_congr rfl fun e _ => by rw [wide_col]

variable {gi : grid0.Coords} (hgi : (gi 1).val = i.val)
include hgi

theorem ownRows_apply {a : Memref sig .tc .vmem S4096x512 .bf16} (h : a.IsWhole) (x : Vec Ideal S4096x512 .bf16) (c : Fin 256) (n : Fin 512) :
    ownRows gi h x (ix2 c n) = x (ix2 (rowOf i c) n) := by
  unfold ownRows
  exact (readAt_tile ((off1_eq gi).trans (by rw [hgi])) _ c _ _ (Nat.zero_add _).symm).trans (congrFun (h.read_unread x) _)

theorem zeroCl_apply (r : Fin 256) : zeroCl (F := Ideal) (ix2 r 0) = 0 := by
  pointwise [zeroCl]
theorem zeroDq_apply (r : Fin 256) (d : Fin 128) : zeroDq (F := Ideal) (ix2 r d) = 0 := by
  pointwise [zeroDq]

theorem own_finds {arg3 arg4 : Memref sig .tc .vmem S4096x512 .bf16} (harg3 : arg3.IsWhole) (harg4 : arg4.IsWhole) (t : Fin 8) :
    Finds Q K V W i i (headAt j t) (odd t) (fun d => wide j (lane (half t) d)) below k0_pay266 k0_pay267 (pq q t) (pw d t)
      (pair (ownRows gi harg3 k) (half t)) (pair (ownRows gi harg4 v) (half t)) (pds o d t) zeroCl zeroCl where
  col_eq := wide_col j t
  mask x r c := by
    rw [below_apply]
    by_cases h : c < r
    · have h' : rowOf i c < rowOf i r := by show 256 * i.val + c.val < 256 * i.val + r.val; have := Fin.lt_def.mp h; omega
      rw [if_pos h, if_pos h']
    · have h' : ¬ rowOf i c < rowOf i r := by
        show ¬ 256 * i.val + c.val < 256 * i.val + r.val; have := fun e => h (Fin.lt_def.mpr e); omega
      rw [if_neg h, if_neg h']
  hT := from_apply
  hP := upto_apply
  hq := pq_apply B t
  hw := pw_apply B t
  hk c x := by rw [pair_apply, ownRows_apply B hgi, B.hk]
  hv c x := by rw [pair_apply, ownRows_apply B hgi, B.hv]
  hds := pds_apply B t
  hc1 r := by
    rw [zeroCl_apply B hgi, tail_none, EReal.coe_zero]
    intro C hC
    exact if_neg fun h => by have := Fin.lt_def.mp h; have e : (rowOf i r).val = 256 * i.val + r.val := rfl; omega
  hc2 r := by
    rw [zeroCl_apply B hgi, tail_none, EReal.coe_zero]
    intro C hC
    exact g_of_le Q K V W fun h => by have := Fin.lt_def.mp h; have e : (rowOf i r).val = 256 * i.val + r.val := rfl; omega

omit hgi B in
theorem row_lt {C : Fin 4096} {r : Fin 256} (h : 256 * (i.val + 1) ≤ C.val) : ¬ C < rowOf i r := fun e => by
  have := Fin.lt_def.mp e; have e' : (rowOf i r).val = 256 * i.val + r.val := rfl; omega

omit hgi B in
/-- Keys after the tile gain nothing. -/
theorem dkPart_none {C : Fin 4096} (h : 256 * (i.val + 1) ≤ C.val) (n : Fin 1024) : dkPart Q K V W i C n = 0 :=
  Finset.sum_eq_zero fun r _ => by rw [dz_eq, if_neg (row_lt h), zero_mul, zero_mul]
omit hgi B in
theorem dvPart_none {C : Fin 4096} (h : 256 * (i.val + 1) ≤ C.val) (n : Fin 1024) : dvPart Q K W i C n = 0 :=
  Finset.sum_eq_zero fun r _ => by rw [att_of_le Q K (row_lt h), mul_zero]

variable (c : Dev nD)
  {arg2 : Memref sig .tc .vmem S256x512 .bf16} (harg2 : arg2.IsWhole)
  {arg3 : Memref sig .tc .vmem S4096x512 .bf16} (harg3 : arg3.IsWhole)
  {arg4 : Memref sig .tc .vmem S4096x512 .bf16} (harg4 : arg4.IsWhole)
  {arg5 : Memref sig .tc .vmem S256x512 .f32} (harg5 : arg5.IsWhole)
  {arg6 : Memref sig .tc .vmem S256x512 .f32} (harg6 : arg6.IsWhole)
  {arg7 : Memref sig .tc .vmem S256x512 .bf16} (harg7 : arg7.IsWhole)
  {arg8 : Memref sig .tc .vmem S4096x512 .bf16} (harg8 : arg8.IsWhole)
  {arg9 : Memref sig .tc .vmem S4096x512 .bf16} (harg9 : arg9.IsWhole)
  {arg10 : Memref sig .tc .vmem S4096x512 .f32} (harg10 : arg10.IsWhole)
  {arg11 : Memref sig .tc .vmem S4096x512 .f32} (harg11 : arg11.IsWhole)
  {y10 y11 : Vec Ideal S4096x512 .f32} {Y Z : Fin 4096 → Fin 512 → ℝ}

omit B hgi in
theorem pa_heads :
    (pa c gi arg2 harg2 arg3 harg3 arg4 harg4 arg5 harg5 arg6 harg6 arg7 harg7 arg8 harg8 arg9 harg9 arg10 harg10 arg11 harg11 q k v o d).q = pq q
    ∧ (pa c gi arg2 harg2 arg3 harg3 arg4 harg4 arg5 harg5 arg6 harg6 arg7 harg7 arg8 harg8 arg9 harg9 arg10 harg10 arg11 harg11 q k v o d).w = pw d
    ∧ (pa c gi arg2 harg2 arg3 harg3 arg4 harg4 arg5 harg5 arg6 harg6 arg7 harg7 arg8 harg8 arg9 harg9 arg10 harg10 arg11 harg11 q k v o d).ds = pds o d :=
  ⟨funext fun t => by fin_cases t <;> sl_kernel_rfl, funext fun t => by fin_cases t <;> sl_kernel_rfl, funext fun t => by fin_cases t <;> sl_kernel_rfl⟩

theorem pa_sees : Sees Q K V W i j
    (pa c gi arg2 harg2 arg3 harg3 arg4 harg4 arg5 harg5 arg6 harg6 arg7 harg7 arg8 harg8 arg9 harg9 arg10 harg10 arg11 harg11 q k v o d)
    (harg3.unread k) (harg4.unread v) := by
  have e := pa_heads (q := q) (k := k) (v := v) (o := o) (d := d) (gi := gi) c harg2 harg3 harg4 harg5 harg6 harg7 harg8 harg9 harg10 harg11
  refine ⟨hgi, from_apply, upto_apply, ?_, ?_, ?_, fun C n => ?_, fun C n => ?_⟩
  · rw [e.1]; exact pq_apply B
  · rw [e.2.1]; exact pw_apply B
  · rw [e.2.2]; exact pds_apply B
  · exact (congrFun (harg3.read_unread k) _).trans (B.hk C n)
  · exact (congrFun (harg4.read_unread v) _).trans (B.hv C n)

theorem start_sums : Sums Q K V W i j (256 * i.val) (start gi arg3 harg3 arg4 harg4 q k v o d) where
  c1 t r := (congrFun (g := dC1 gi arg3 harg3 q k t) (by fin_cases t <;> rfl) _).trans
    (c1_eq (own_finds B hgi harg3 harg4 t) r)
  c2 t r := (congrFun (g := dC2 gi arg3 harg3 arg4 harg4 q k v d t) (by fin_cases t <;> rfl) _).trans
    (c2_eq (own_finds B hgi harg3 harg4 t) r)
  dq t r x := (congrFun (g := dDq gi arg3 harg3 arg4 harg4 q k v o d t) (by fin_cases t <;> rfl) _).trans
    (dq_eq (own_finds B hgi harg3 harg4 t) (by
      rw [zeroDq_apply B hgi, tail_none, EReal.coe_zero]
      intro C hC; rw [dz_eq, if_neg (row_lt hC), zero_mul]))

theorem own_grown (hY : ∀ C n, y10 (ix2 C n) = (Y C n : EReal)) (hZ : ∀ C n, y11 (ix2 C n) = (Z C n : EReal)) :
    Grown Q K V W i j (256 * i.val) Y Z
      (arg10.view.read (Elt Ideal) (arg10.view.writes (Elt Ideal) (harg10.unread y10) (ownDk gi arg3 harg3 arg4 harg4 arg10 harg10 q k v o d y10)))
      (arg11.view.read (Elt Ideal) (arg11.view.writes (Elt Ideal) (harg11.unread y11) (ownDv gi arg3 harg3 arg11 harg11 q k d y11))) := by
  have e2 := (off2_eq gi).trans (by rw [hgi])
  have e3 := (off3_eq gi).trans (by rw [hgi])
  have e4 := (off4_eq gi).trans (by rw [hgi])
  have e5 := (off5_eq gi).trans (by rw [hgi])
  refine ⟨?_, ?_⟩
  · unfold ownDk
    refine add_tile e2 e3 e4 e5 _ _ (S := fun C n => dkPart Q K V W i C (wide j n)) (fun p c d => ?_) fun C n => ?_
    · exact two_heads (B := fun h n => ∑ r, dz Q K V W h (rowOf i r) (rowOf i c) * (1 / 8) * Q (rowOf i r) n)
        (fun t => dk_eq (own_finds B hgi harg3 harg4 t) c d) p
    · rw [harg10.read_unread, hY]
      split
      · rw [dkPart_none ‹_›, add_zero]
      · rw [add_zero]
  · unfold ownDv
    refine add_tile e2 e3 e4 e5 _ _ (S := fun C n => dvPart Q K W i C (wide j n)) (fun p c d => ?_) fun C n => ?_
    · exact two_heads (B := fun h n => ∑ r, W (rowOf i r) n * att Q K h (rowOf i r) (rowOf i c))
        (fun t => dv_eq (own_finds B hgi harg3 harg4 t) c d) p
    · rw [harg11.read_unread, hZ]
      split
      · rw [dvPart_none ‹_›, add_zero]
      · rw [add_zero]

theorem looped_after (hY : ∀ C n, y10 (ix2 C n) = (Y C n : EReal)) (hZ : ∀ C n, y11 (ix2 C n) = (Z C n : EReal)) :
    let x := looped c gi arg2 harg2 arg3 harg3 arg4 harg4 arg5 harg5 arg6 harg6 arg7 harg7 arg8 harg8 arg9 harg9 arg10 harg10 arg11 harg11
      q k v o d y10 y11
    Sums Q K V W i j 0 x.1
    ∧ Grown Q K V W i j 0 Y Z
        (arg10.view.read (Elt Ideal) (arg10.view.writes (Elt Ideal) (harg10.unread y10) (x.2.1 ++ ownDk gi arg3 harg3 arg4 harg4 arg10 harg10 q k v o d y10)))
        (arg11.view.read (Elt Ideal) (arg11.view.writes (Elt Ideal) (harg11.unread y11) (x.2.2 ++ ownDv gi arg3 harg3 arg11 harg11 q k d y11))) := by
  have h := loop_after (pa_sees B hgi c harg2 harg3 harg4 harg5 harg6 harg7 harg8 harg9 harg10 harg11)
    (start_sums B hgi harg3 harg4) (own_grown B hgi harg3 harg4 harg10 harg11 hY hZ) i.val le_rfl
  rw [Nat.sub_self, Nat.mul_zero] at h
  dsimp only
  rw [View.writes_append, View.writes_append]
  unfold looped
  rw [trips_eq, hgi]
  exact h

theorem point_after (hY : ∀ C n, y10 (ix2 C n) = (Y C n : EReal)) (hZ : ∀ C n, y11 (ix2 C n) = (Z C n : EReal)) :
    (∀ C n, arg10.view.read (Elt Ideal) (arg10.view.writes (Elt Ideal) (harg10.unread y10) (point c gi arg2 harg2 arg3 harg3 arg4 harg4 arg5 harg5 arg6 harg6 arg7 harg7 arg8 harg8 arg9 harg9 arg10 harg10 arg11 harg11
        q k v o d y10 y11).2.1) (ix2 C n)
      = ((Y C n + dkPart Q K V W i C (wide j n) : ℝ) : EReal))
    ∧ (∀ C n, arg11.view.read (Elt Ideal) (arg11.view.writes (Elt Ideal) (harg11.unread y11) (point c gi arg2 harg2 arg3 harg3 arg4 harg4 arg5 harg5 arg6 harg6 arg7 harg7 arg8 harg8 arg9 harg9 arg10 harg10 arg11 harg11
        q k v o d y10 y11).2.2.1) (ix2 C n)
      = ((Z C n + dvPart Q K W i C (wide j n) : ℝ) : EReal)) := by
  have h := (looped_after B hgi c harg2 harg3 harg4 harg5 harg6 harg7 harg8 harg9 harg10 harg11 hY hZ).2
  have ek := point_dk c gi arg2 harg2 arg3 harg3 arg4 harg4 arg5 harg5 arg6 harg6 arg7 harg7 arg8 harg8 arg9 harg9 arg10 harg10 arg11 harg11
    q k v o d y10 y11
  have ev := point_dv c gi arg2 harg2 arg3 harg3 arg4 harg4 arg5 harg5 arg6 harg6 arg7 harg7 arg8 harg8 arg9 harg9 arg10 harg10 arg11 harg11
    q k v o d y10 y11
  exact ⟨fun C n => (congrFun (congrArg (fun L => arg10.view.read (Elt Ideal) (arg10.view.writes (Elt Ideal) (harg10.unread y10) L)) ek)
      (ix2 C n)).trans ((h.dk C n).trans (by rw [if_pos (Nat.zero_le _)])),
    fun C n => (congrFun (congrArg (fun L => arg11.view.read (Elt Ideal) (arg11.view.writes (Elt Ideal) (harg11.unread y11) L)) ev)
      (ix2 C n)).trans ((h.dv C n).trans (by rw [if_pos (Nat.zero_le _)]))⟩

omit B hgi in
theorem dqPair_apply (a b : FVec Ideal S256x128 .f32) (r : Fin 256) (x : Fin 128) :
    dqPair a b (ix2 r x) = (if x.val < 64 then a (ix2 r x) else b (ix2 r x)) * ((1 / 8 : ℝ) : EReal) := by
  pointwise [dqPair]
  rw [firstHalf_apply, eighth]
  congr 1
  split <;> rfl

omit B hgi in
theorem read_rows (f : BufTy.Contents (Elt Ideal) arg7.view.ty) (x : Fin 8 → FVec Ideal S256x128 .f32) (r : Fin 256) (p : Fin 4) (l : Fin 128) :
    arg7.view.read (Elt Ideal) (arg7.view.writes (Elt Ideal) f
      [⟨Rect.unit (s := S256x512) ![0, 384] S256x128.size (by decide), dqPair (x 6) (x 7)⟩,
       ⟨Rect.unit (s := S256x512) ![0, 256] S256x128.size (by decide), dqPair (x 4) (x 5)⟩,
       ⟨Rect.unit (s := S256x512) ![0, 128] S256x128.size (by decide), dqPair (x 2) (x 3)⟩,
       ⟨Rect.unit (s := S256x512) ![0, 0] S256x128.size (by decide), dqPair (x 0) (x 1)⟩]) (ix2 r (lane p l))
      = dqPair (x ⟨2 * p.val, by omega⟩) (x ⟨2 * p.val + 1, by omega⟩) (ix2 r l) := by
  have hl := l.isLt
  have mem : ∀ (b : ℕ) (n : Fin 512), n.val = b + l.val →
      ∀ a : Fin 2, ((ix2 r n) a).val = (![0, b] : Fin 2 → ℕ) a + ((ix2 r l) a).val := fun b n hn =>
    Fin.forall_fin_two.mpr ⟨(Nat.zero_add _).symm, hn⟩
  match p with
  | ⟨3, _⟩ => exact View.read_writes_cons_unit_of_mem arg7.view f _ _ _ _ (ix2 r l) rfl (mem 384 _ rfl)
  | ⟨2, _⟩ =>
    rw [View.read_writes_cons_unit_of_not_mem arg7.view f _ _ _ _ rfl (1 : Fin 2) (.inl (show 128 * 2 + l.val < 384 by omega))]
    exact View.read_writes_cons_unit_of_mem arg7.view f _ _ _ _ (ix2 r l) rfl (mem 256 _ rfl)
  | ⟨1, _⟩ =>
    rw [View.read_writes_cons_unit_of_not_mem arg7.view f _ _ _ _ rfl (1 : Fin 2) (.inl (show 128 * 1 + l.val < 384 by omega)),
      View.read_writes_cons_unit_of_not_mem arg7.view f _ _ _ _ rfl (1 : Fin 2) (.inl (show 128 * 1 + l.val < 256 by omega))]
    exact View.read_writes_cons_unit_of_mem arg7.view f _ _ _ _ (ix2 r l) rfl (mem 128 _ rfl)
  | ⟨0, _⟩ =>
    rw [View.read_writes_cons_unit_of_not_mem arg7.view f _ _ _ _ rfl (1 : Fin 2) (.inl (show 128 * 0 + l.val < 384 by omega)),
      View.read_writes_cons_unit_of_not_mem arg7.view f _ _ _ _ rfl (1 : Fin 2) (.inl (show 128 * 0 + l.val < 256 by omega)),
      View.read_writes_cons_unit_of_not_mem arg7.view f _ _ _ _ rfl (1 : Fin 2) (.inl (show 128 * 0 + l.val < 128 by omega))]
    exact View.read_writes_cons_unit_of_mem arg7.view f _ _ _ _ (ix2 r l) rfl (mem 0 _ (by show 128 * 0 + l.val = 0 + l.val; omega))

theorem point_rows (hY : ∀ C n, y10 (ix2 C n) = (Y C n : EReal)) (hZ : ∀ C n, y11 (ix2 C n) = (Z C n : EReal))
    (f : BufTy.Contents (Elt Ideal) arg7.view.ty) (r : Fin 256) (n : Fin 512) :
    arg7.view.read (Elt Ideal) (arg7.view.writes (Elt Ideal) f (point c gi arg2 harg2 arg3 harg3 arg4 harg4 arg5 harg5 arg6 harg6 arg7 harg7 arg8 harg8 arg9 harg9 arg10 harg10 arg11 harg11
        q k v o d y10 y11).1) (ix2 r n)
      = ((dq Q K V W (rowOf i r) (wide j n) : ℝ) : EReal) := by
  have h := (looped_after B hgi c harg2 harg3 harg4 harg5 harg6 harg7 harg8 harg9 harg10 harg11 hY hZ).1
  obtain ⟨p, l, rfl⟩ := lane_cases n
  have e := point_dq c gi arg2 harg2 arg3 harg3 arg4 harg4 arg5 harg5 arg6 harg6 arg7 harg7 arg8 harg8 arg9 harg9 arg10 harg10 arg11 harg11
    q k v o d y10 y11
  have e2 := read_rows (i := i) (gi := gi) f (looped c gi arg2 harg2 arg3 harg3 arg4 harg4 arg5 harg5 arg6 harg6 arg7 harg7 arg8 harg8 arg9 harg9 arg10 harg10 arg11 harg11
    q k v o d y10 y11).1.dq r p l
  rw [dqPair_apply, h.dq, h.dq, tail_zero, tail_zero, ite_coe, ← EReal.coe_mul] at e2
  refine (congrFun (congrArg (fun L => arg7.view.read (Elt Ideal) (arg7.view.writes (Elt Ideal) f L)) e)
    (ix2 r (lane p l))).trans (e2.trans ?_)
  have p0 : half ⟨2 * p.val, by omega⟩ = p := Fin.ext (by show 2 * p.val / 2 = p.val; omega)
  have p1 : half ⟨2 * p.val + 1, by omega⟩ = p := Fin.ext (by show (2 * p.val + 1) / 2 = p.val; omega)
  rw [p0, p1]
  congr 1
  unfold dq
  by_cases hl : l.val < 64
  · rw [if_pos hl, headOf_wide j p l 0 (by show l.val / 64 = 0; omega), Finset.sum_mul]
    exact Finset.sum_congr rfl fun C _ => mul_right_comm _ _ _
  · rw [if_neg hl, headOf_wide j p l 1 (by show l.val / 64 = 1; omega), Finset.sum_mul]
    exact Finset.sum_congr rfl fun C _ => mul_right_comm _ _ _

end
end Cert.AttnIdeal.Hand

end
-- ==== Proof.AttnRef.lean ====
/- The attention's reference, stage by stage: every entry is the real number of `AttnSpec`. -/
module

public import proofs.«01_k».proof.Proof.AttnReal
public import proofs.«01_k».proof.Proof.Gen.AttnRefIdeal.Read

@[expose] public section

set_option maxRecDepth 16384

noncomputable section

namespace Cert.AttnRefIdeal.Hand

open Cert.AttnRefIdeal Cert.AttnRefIdeal.Read Idealize.ShloMosaic
open AttnSpec AttnReal Real1

variable {x0 : AP} {x1 : AD} (f0 : ∀ i, IsR (x0 i)) (f1 : ∀ i, IsR (x1 i))

include f0

theorem q_apply (h : Fin 16) (r : Fin 4096) (d : Fin 64) : val_main_v6 (F := Ideal) x0 (ix3 h r d) = (Qr x0 r (col h d) : EReal) := by
  pointwise [val_main_v6, val_main_v5, val_main_v2, val_main_v1, val_main_v0]
  exact q_coe f0 r (col h d) rfl
theorem k_apply (h : Fin 16) (r : Fin 4096) (d : Fin 64) : val_main_v8 (F := Ideal) x0 (ix3 h r d) = (Kr x0 r (col h d) : EReal) := by
  pointwise [val_main_v8, val_main_v7, val_main_v3, val_main_v1, val_main_v0]
  exact k_coe f0 r (col h d) (by show 1024 + (1024 + (h.val * 64 + d.val)) = 2048 + (h.val * 64 + d.val); omega)
theorem v_apply (h : Fin 16) (r : Fin 4096) (d : Fin 64) : val_main_v10 (F := Ideal) x0 (ix3 h r d) = (Vr x0 r (col h d) : EReal) := by
  pointwise [val_main_v10, val_main_v9, val_main_v4, val_main_v1, val_main_v0]
  exact v_coe f0 r (col h d) (by show 1024 + (2048 + (h.val * 64 + d.val)) = 3072 + (h.val * 64 + d.val); omega)
omit f0 in
include f1 in
theorem w_apply (h : Fin 16) (r : Fin 4096) (d : Fin 64) : val_main_v34 (F := Ideal) x1 (ix3 h r d) = (Wr x1 r (col h d) : EReal) := by
  pointwise [val_main_v34, val_main_v33]
  exact w_coe f1 r (col h d) rfl

omit f0 in
/-- The zero that a call's record holds. -/
theorem zero_word : id (constant (F := Ideal) S_ .f32 0x00000000#32) ix0 = ((0 : ℝ) : EReal) := by
  show Ideal.ofBits FTy.f32 0 = _
  rw [EReal.coe_zero]; simp [Ideal.ofBits, Ideal.ieee]

/-- The scores. -/
theorem z_apply (h : Fin 16) (r c : Fin 4096) : val_main_v13 (F := Ideal) x0 (ix3 h r c) = (z (Qr x0) (Kr x0) h r c : EReal) := by
  pointwise [val_main_v13, val_main_v12, val_main_cst, val_main_v11]
  simp only [q_apply f0, k_apply f0, ← EReal.coe_mul]
  rw [← coe_sum, eighth, ← EReal.coe_mul]
  rfl

omit f0 in
theorem below_apply (r c : Fin 4096) : val_main_v20 (F := Ideal) (ix2 r c) = if c < r then 1#1 else 0#1 := by
  pointwise [val_main_v20, val_main_v19, val_main_v18, val_main_v17, val_main_v16, val_main_v15, val_main_v14]
  have h1 : (BitVec.ofNat 32 c.val).toInt = c.val := by
    rw [BitVec.toInt_eq_toNat_of_lt (by rw [BitVec.toNat_ofNat]; omega), BitVec.toNat_ofNat]; omega
  have h2 : (BitVec.ofNat 32 r.val).toInt = r.val := by
    rw [BitVec.toInt_eq_toNat_of_lt (by rw [BitVec.toNat_ofNat]; omega), BitVec.toNat_ofNat]; omega
  show BitVec.ofBool (BitVec.slt _ _) = _
  rw [BitVec.slt_eq_decide, h1, h2]
  by_cases h : c < r
  · rw [if_pos h, decide_eq_true (by have := Fin.lt_def.1 h; omega)]; rfl
  · rw [if_neg h, decide_eq_false (by have := mt Fin.lt_def.2 h; omega)]; rfl

theorem sp_apply (h : Fin 16) (r c : Fin 4096) : val_main_v21_0 (F := Ideal) x0 (ix3 h r c) = (sp (z (Qr x0) (Kr x0) h r c) : EReal) := by
  pointwise [val_main_v21_0, val_main_call0_v4, val_main_call0_v6, val_main_call0_v11, val_main_call0_v3, val_main_call0_v5,
    val_main_call0_v10, val_main_call0_v9, val_main_call0_v8, val_main_call0_v7, val_main_call0_v2, val_main_call0_v1,
    val_main_call0_v0, val_main_call0_cst]
  rw [if_neg fun hh => hh rfl, z_apply f0]
  exact soft_coe (φ := .f32) _
theorem sp'_apply (h : Fin 16) (r c : Fin 4096) : val_main_call3_v1_0 (F := Ideal) x0 (ix3 h r c) = (sp (-z (Qr x0) (Kr x0) h r c) : EReal) := by
  pointwise [val_main_call3_v1_0, val_main_call3_call0_v4, val_main_call3_call0_v6, val_main_call3_call0_v11, val_main_call3_call0_v3,
    val_main_call3_call0_v5, val_main_call3_call0_v10, val_main_call3_call0_v9, val_main_call3_call0_v8, val_main_call3_call0_v7,
    val_main_call3_call0_v2, val_main_call3_call0_v1, val_main_call3_call0_v0, val_main_call3_call0_cst, val_main_call3_v0]
  rw [if_neg fun hh => hh rfl, z_apply f0, ← EReal.coe_neg]
  exact soft_coe (φ := .f32) _
theorem sig_apply (h : Fin 16) (r c : Fin 4096) : val_main_v21_1 (F := Ideal) x0 (ix3 h r c)
    = (Real.exp (z (Qr x0) (Kr x0) h r c - sp (z (Qr x0) (Kr x0) h r c)) : EReal) := by
  pointwise [val_main_v21_1, val_main_call0_v21, val_main_call0_v20, val_main_call0_v19, val_main_call0_v18, val_main_call0_v17,
    val_main_call0_v16, val_main_call0_v15, val_main_call0_v14, val_main_call0_v13, val_main_call0_cst_0, val_main_call0_cst_1,
    val_main_call0_cst_2, val_main_call0_cst_3]
  rw [z_apply f0, sp_apply f0, if_neg (coe_ne_inf _), if_neg (coe_ne_inf _), ← EReal.coe_sub, Ideal.exp_coe]
theorem sig'_apply (h : Fin 16) (r c : Fin 4096) : val_main_v26_1 (F := Ideal) x0 (ix3 h r c)
    = (Real.exp (-z (Qr x0) (Kr x0) h r c - sp (-z (Qr x0) (Kr x0) h r c)) : EReal) := by
  pointwise [val_main_v26_1, val_main_call3_call0_v21, val_main_call3_call0_v20, val_main_call3_call0_v19, val_main_call3_call0_v18,
    val_main_call3_call0_v17, val_main_call3_call0_v16, val_main_call3_call0_v15, val_main_call3_call0_v14, val_main_call3_call0_v13,
    val_main_call3_call0_cst_0, val_main_call3_call0_cst_1, val_main_call3_call0_cst_2, val_main_call3_call0_cst_3, val_main_call3_v0]
  rw [z_apply f0, sp'_apply f0, ← EReal.coe_neg, if_neg (coe_ne_inf _), if_neg (coe_ne_inf _), ← EReal.coe_sub, Ideal.exp_coe]

theorem lf_apply (h : Fin 16) (r c : Fin 4096) : val_main_v23_0 (F := Ideal) x0 (ix3 h r c) = (lf (Qr x0) (Kr x0) h r c : EReal) := by
  pointwise [val_main_v23_0, val_main_v23_1, val_main_v22, val_main_call1_v2, val_main_call1_v0, val_main_cst_0]
  rw [below_apply, select_lt, sp_apply f0, ← EReal.coe_neg]
  exact (congrArg (fun t : EReal => if c < r then ((-sp (z (Qr x0) (Kr x0) h r c) : ℝ) : EReal) else t) zero_word).trans (ite_coe _ _ _)

theorem from_apply (h : Fin 16) (r c : Fin 4096) : val_main_v24 (F := Ideal) x0 (ix3 h r c) = (from' (Qr x0) (Kr x0) h r c : EReal) := by
  unfold val_main_v24 Host.reduceWindowAdd
  rw [Ideal.hostReduceWindowAdd_def]
  have e : ∀ i, val_main_call2_v0 (F := Ideal) i = 0 := fun i => by
    pointwise [val_main_call2_v0, val_main_call2_cst]
  rw [e]
  refine (window_apply 0 4095 _ _ h r c).trans (sum_coe fun c' => ?_)
  rw [if_congr (after_iff c c') rfl rfl, lf_apply f0, ← EReal.coe_zero, ite_coe]

theorem ex_apply (h : Fin 16) (r c : Fin 4096) : val_main_v28 (F := Ideal) x0 (ix3 h r c) = (ex (Qr x0) (Kr x0) h r c : EReal) := by
  pointwise [val_main_v28, val_main_v27, val_main_v26_0, val_main_v25]
  rw [sp'_apply f0, from_apply f0, lf_apply f0, ← EReal.coe_sub, ← EReal.coe_neg, ← EReal.coe_add, Ideal.exp_coe]
  rfl

theorem att_apply (h : Fin 16) (r c : Fin 4096) : val_main_v29_0 (F := Ideal) x0 (ix3 h r c) = (att (Qr x0) (Kr x0) h r c : EReal) := by
  pointwise [val_main_v29_0, val_main_v29_1, val_main_call4_v2, val_main_call4_v0, val_main_cst_1]
  rw [below_apply, select_lt, ex_apply f0]
  exact (congrArg (fun t : EReal => if c < r then ((ex (Qr x0) (Kr x0) h r c : ℝ) : EReal) else t) zero_word).trans (ite_coe _ _ _)

/-- The attention's output. -/
theorem out_apply (r : Fin 4096) (n : Fin 1024) : val_main_v32 (F := Ideal) x0 (ix2 r n) = (out (Qr x0) (Kr x0) (Vr x0) r n : EReal) := by
  pointwise [val_main_v32, val_main_v31, val_main_v30]
  refine sum_coe fun c => ?_
  rw [att_apply f0, v_apply f0, ← EReal.coe_mul]
  exact congrArg (fun m => ((att (Qr x0) (Kr x0) (headOf n) r c * Vr x0 c m : ℝ) : EReal)) (col_headOf n)

include f1

theorem g_apply (h : Fin 16) (r c : Fin 4096) : val_main_v39 (F := Ideal) x0 x1 (ix3 h r c) = (g (Qr x0) (Kr x0) (Vr x0) (Wr x1) h r c : EReal) := by
  pointwise [val_main_v39, val_main_v38, val_main_v37, val_main_v29_1, val_main_call5_v0, val_main_call5_cst]
  simp only [w_apply f1, v_apply f0, ← EReal.coe_mul]
  rw [below_apply, select_lt, ← coe_sum, ex_apply f0, ← EReal.coe_zero, ← EReal.coe_mul, ite_coe]
  unfold g; split <;> simp [da]

theorem upTo_apply (h : Fin 16) (r c : Fin 4096) : val_main_v42 (F := Ideal) x0 x1 (ix3 h r c) = (upTo (Qr x0) (Kr x0) (Vr x0) (Wr x1) h r c : EReal) := by
  unfold val_main_v42 Host.reduceWindowAdd
  rw [Ideal.hostReduceWindowAdd_def]
  have e : ∀ i, val_main_call7_v0 (F := Ideal) i = 0 := fun i => by
    pointwise [val_main_call7_v0, val_main_call7_cst]
  rw [e]
  refine (window_apply 4095 0 _ _ h r c).trans (sum_coe fun c' => ?_)
  rw [if_congr (upto_iff c c') rfl rfl, g_apply f0 f1, ← EReal.coe_zero, ite_coe]

theorem dz_apply (h : Fin 16) (r c : Fin 4096) : val_main_v47 (F := Ideal) x0 x1 (ix3 h r c) = (dz (Qr x0) (Kr x0) (Vr x0) (Wr x1) h r c : EReal) := by
  pointwise [val_main_v47, val_main_v46, val_main_v45, val_main_v44, val_main_v43, val_main_v41, val_main_v40, val_main_call6_v1, val_main_call6_v0,
    val_main_v23_1, val_main_call8_v0, val_main_call8_cst]
  rw [below_apply, select_lt, g_apply f0 f1, upTo_apply f0 f1, sig_apply f0, sig'_apply f0, ← EReal.coe_zero, ← EReal.coe_neg,
    ← EReal.coe_mul, ← EReal.coe_neg, ← EReal.coe_add, ite_coe, ← EReal.coe_neg, ← EReal.coe_mul, ← EReal.coe_add]
  rfl

theorem dq_apply (r : Fin 4096) (n : Fin 1024) : val_main_v58 (F := Ideal) x0 x1 (ix2 r n) = (dq (Qr x0) (Kr x0) (Vr x0) (Wr x1) r n : EReal) := by
  pointwise [val_main_v58, val_main_v57, val_main_v56, val_main_v51, val_main_v49, val_main_v48, val_main_cst_2]
  refine sum_coe fun c => ?_
  rw [dz_apply f0 f1, k_apply f0, eighth, ← EReal.coe_mul, ← EReal.coe_mul]
  exact congrArg (fun m => ((dz (Qr x0) (Kr x0) (Vr x0) (Wr x1) (headOf n) r c * (1 / 8) * Kr x0 c m : ℝ) : EReal)) (col_headOf n)
theorem dk_apply (r : Fin 4096) (n : Fin 1024) : val_main_v59 (F := Ideal) x0 x1 (ix2 r n) = (dk (Qr x0) (Kr x0) (Vr x0) (Wr x1) r n : EReal) := by
  pointwise [val_main_v59, val_main_v55, val_main_v54, val_main_v50, val_main_v49, val_main_v48, val_main_cst_2]
  refine sum_coe fun c => ?_
  rw [dz_apply f0 f1, q_apply f0, eighth, ← EReal.coe_mul, ← EReal.coe_mul]
  exact congrArg (fun m => ((dz (Qr x0) (Kr x0) (Vr x0) (Wr x1) (headOf n) c r * (1 / 8) * Qr x0 c m : ℝ) : EReal)) (col_headOf n)
theorem dv_apply (r : Fin 4096) (n : Fin 1024) : val_main_v60 (F := Ideal) x0 x1 (ix2 r n) = (dv (Qr x0) (Kr x0) (Wr x1) r n : EReal) := by
  pointwise [val_main_v60, val_main_v53, val_main_v52, val_main_v36, val_main_v35]
  refine sum_coe fun c => ?_
  rw [att_apply f0, w_apply f1, ← EReal.coe_mul]
  exact congrArg (fun m => ((Wr x1 c m * att (Qr x0) (Kr x0) (headOf n) c r : ℝ) : EReal)) (col_headOf n)

end Cert.AttnRefIdeal.Hand

end
-- ==== Proof.AttnSaved.lean ====
/- The forward output the attention's backward call reads is the reference's own. -/
module

public import proofs.«01_k».proof.Proof.AttnLaunch
public import proofs.«01_k».proof.Proof.AttnRef

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

variable (m : (ℓ : Loc nD τ sig) → Buf (Elt Ideal) ℓ)

theorem saved_eq (c : Dev nD) :
    V m c main_v32 = Cert.AttnRefIdeal.Read.val_main_v32 (F := Ideal) (m ((c : Thread nD τ).loc main_arg0)) := by
  entry_read
  sl_kernel_rfl

end Cert.AttnIdeal.Hand

end
-- ==== Proof.AttnRun.lean ====
/- The attention's backward call over its grid: each output array entry by entry. -/
module

public import proofs.«01_k».proof.Proof.AttnStep
public import proofs.«01_k».proof.Proof.AttnSaved
public import Idealize.ShloMosaic.Lib.Pipeline.ValueKit
public import Idealize.ShloMosaic.Lib.Pipeline.ReadBack

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic Idealize.ShloMosaic.Pipeline
open AttnSpec AttnReal

variable (m : (ℓ : Loc nD τ sig) → Buf (Elt Ideal) ℓ) (c : Dev nD)

abbrev aP : Vec Ideal S4096x6144 .bf16 := m ((c : Thread nD τ).loc main_arg0)
abbrev aD : Vec Ideal S4096x1024 .f32 := m ((c : Thread nD τ).loc main_arg1)

def tileOf (t : Fin cfg0.N) : Fin 16 := ⟨t.val % 16, by omega⟩
def groupOf (t : Fin cfg0.N) : Fin 2 := ⟨t.val / 16, by have := t.isLt; have h : cfg0.N = 32 := rfl; omega⟩

theorem coord_eq : ∀ t : Fin cfg0.N, ((grid0.coords t) 1).val = t.val % 16 := by decide +kernel
theorem idx0 : ∀ t : Fin cfg0.N, win0_0.index t = ![t.val % 16, 2 + t.val / 16] := (by decide +kernel : ∀ t : Fin grid0.N, _)
theorem idx1 : ∀ t : Fin cfg0.N, win0_1.index t = ![0, 4 + t.val / 16] := (by decide +kernel : ∀ t : Fin grid0.N, _)
theorem idx2 : ∀ t : Fin cfg0.N, win0_2.index t = ![0, 6 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![0, t.val / 16] := (by decide +kernel : ∀ t : Fin grid0.N, _)
theorem idx7 : ∀ t : Fin cfg0.N, win0_7.index t = ![0, t.val / 16] := (by decide +kernel : ∀ t : Fin grid0.N, _)

variable {m c} (f0 : ∀ i, Real1.IsR (aP m c i)) (f1 : ∀ i, Real1.IsR (aD m c i))

include f0 f1

theorem blocks (t : Fin cfg0.N) : Blocks (Qr (aP m c)) (Kr (aP m c)) (Vr (aP m c)) (Wr (aD m c)) (tileOf t) (groupOf t)
    (iblk m c 0 t) (iblk m c 1 t) (iblk m c 2 t) (iblk m c 3 t) (iblk m c 4 t) where
  hq r n := by
    refine Eq.trans ?_ (q_coe f0 (rowOf (tileOf t) r) (wide (groupOf t) n) (k := ⟨1024 + (wide (groupOf t) n).val, by omega⟩) rfl)
    show ((cfg0.win 0).blk t).view.read (Elt Ideal) (V m c main_arg0) (ix2 r n) = _
    rw [V_main_arg0]
    refine congrArg (aP m c) ?_
    blk_ext [idx0 t, wide, rowOf, tileOf, groupOf]
  hk C n := by
    refine Eq.trans ?_ (k_coe f0 C (wide (groupOf t) n) (k := ⟨2048 + (wide (groupOf t) n).val, by omega⟩) rfl)
    show ((cfg0.win 1).blk t).view.read (Elt Ideal) (V m c main_arg0) (ix2 C n) = _
    rw [V_main_arg0]
    refine congrArg (aP m c) ?_
    blk_ext [idx1 t, wide, rowOf, tileOf, groupOf]
  hv C n := by
    refine Eq.trans ?_ (v_coe f0 C (wide (groupOf t) n) (k := ⟨3072 + (wide (groupOf t) n).val, by omega⟩) rfl)
    show ((cfg0.win 2).blk t).view.read (Elt Ideal) (V m c main_arg0) (ix2 C n) = _
    rw [V_main_arg0]
    refine congrArg (aP m c) ?_
    blk_ext [idx2 t, wide, rowOf, tileOf, groupOf]
  ho r n := by
    refine Eq.trans ?_ (Cert.AttnRefIdeal.Hand.out_apply f0 (rowOf (tileOf t) r) (wide (groupOf t) n))
    show ((cfg0.win 3).blk t).view.read (Elt Ideal) (V m c main_v32) (ix2 r n) = _
    rw [saved_eq]
    refine congrArg (Cert.AttnRefIdeal.Read.val_main_v32 (F := Ideal) (aP m c)) ?_
    blk_ext [idx3 t, wide, rowOf, tileOf, groupOf]
  hd r n := by
    refine Eq.trans ?_ (w_coe f1 (rowOf (tileOf t) r) (wide (groupOf t) n) (k := wide (groupOf t) n) rfl)
    show ((cfg0.win 4).blk t).view.read (Elt Ideal) (V m c main_arg1) (ix2 r n) = _
    rw [V_main_arg1]
    refine congrArg (aD m c) ?_
    blk_ext [idx4 t, wide, rowOf, tileOf, groupOf]

omit f0 f1 in
theorem zeros_apply (j : S4096x512.Idx) : zeros (F := Ideal) j = 0 := by
  pointwise [zeros, k0_pay263]

/-- The sum over the row tiles before the `n`-th. -/
def sumTo (n : ℕ) (p : Fin 16 → ℝ) : ℝ := ∑ i, if i.val < n then p i else 0

omit f0 f1 in
theorem sumTo_zero (p : Fin 16 → ℝ) : sumTo 0 p = 0 := Finset.sum_eq_zero fun i _ => if_neg (Nat.not_lt_zero _)
omit f0 f1 in
theorem sumTo_succ (i : Fin 16) (p : Fin 16 → ℝ) : sumTo (i.val + 1) p = sumTo i.val p + p i := by
  unfold sumTo
  have e : p i = ∑ i' : Fin 16, if i' = i then p i' else 0 := by rw [Finset.sum_ite_eq' Finset.univ i, if_pos (Finset.mem_univ _)]
  rw [e, ← Finset.sum_add_distrib]
  refine Finset.sum_congr rfl fun i' _ => ?_
  simp only [Fin.ext_iff]
  split_ifs <;> first | omega | simp

theorem step_apply (t : Fin cfg0.N) (y : Vec Ideal S4096x512 .f32 × Vec Ideal S4096x512 .f32) {Y Z : Fin 4096 → Fin 512 → ℝ}
    (hY : ∀ C n, y.1 (ix2 C n) = (Y C n : EReal)) (hZ : ∀ C n, y.2 (ix2 C n) = (Z C n : EReal)) :
    (∀ C n, (stepAt m c t y).1 (ix2 C n)
      = ((Y C n + dkPart (Qr (aP m c)) (Kr (aP m c)) (Vr (aP m c)) (Wr (aD m c)) (tileOf t) C (wide (groupOf t) n) : ℝ) : EReal))
    ∧ (∀ C n, (stepAt m c t y).2 (ix2 C n)
      = ((Z C n + dvPart (Qr (aP m c)) (Kr (aP m c)) (Wr (aD m c)) (tileOf t) C (wide (groupOf t) n) : ℝ) : EReal)) := by
  unfold stepAt pt
  exact point_after (blocks f0 f1 t) (coord_eq t) c (hstage0_0 ((cfg0.slots t 0).cast nbuf0_0))
    (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4))
    (hstage0_5 ((cfg0.slots t 5).cast nbuf0_5)) (hstage0_6 ((cfg0.slots t 6).cast nbuf0_6))
    (hstage0_7 ((cfg0.slots t 7).cast nbuf0_7)) hS0 hS1 hY hZ

theorem rows_apply (t : Fin cfg0.N) {Y Z : Fin 4096 → Fin 512 → ℝ}
    (hY : ∀ C n, (found t (held m c t.val)).1 (ix2 C n) = (Y C n : EReal))
    (hZ : ∀ C n, (found t (held m c t.val)).2 (ix2 C n) = (Z C n : EReal)) (r : Fin 256) (n : Fin 512) :
    rowsAt m c t (ix2 r n)
      = ((dq (Qr (aP m c)) (Kr (aP m c)) (Vr (aP m c)) (Wr (aD m c)) (rowOf (tileOf t) r) (wide (groupOf t) n) : ℝ) : EReal) := by
  unfold rowsAt pt
  exact point_rows (blocks f0 f1 t) (coord_eq t) c (hstage0_0 ((cfg0.slots t 0).cast nbuf0_0))
    (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4))
    (hstage0_5 ((cfg0.slots t 5).cast nbuf0_5)) (hstage0_6 ((cfg0.slots t 6).cast nbuf0_6))
    (hstage0_7 ((cfg0.slots t 7).cast nbuf0_7)) hS0 hS1 hY hZ _ r n

theorem held_of_found (n : ℕ) (h : n < cfg0.N)
    (p : (∀ C x, (found ⟨n, h⟩ (held m c n)).1 (ix2 C x) = ((sumTo (n % 16) fun i =>
        dkPart (Qr (aP m c)) (Kr (aP m c)) (Vr (aP m c)) (Wr (aD m c)) i C (wide (groupOf ⟨n, h⟩) x) : ℝ) : EReal))
      ∧ (∀ C x, (found ⟨n, h⟩ (held m c n)).2 (ix2 C x) = ((sumTo (n % 16) fun i =>
        dvPart (Qr (aP m c)) (Kr (aP m c)) (Wr (aD m c)) i C (wide (groupOf ⟨n, h⟩) x) : ℝ) : EReal))) :
    (∀ C x, (held m c (n + 1)).1 (ix2 C x) = ((sumTo (n % 16 + 1) fun i =>
      dkPart (Qr (aP m c)) (Kr (aP m c)) (Vr (aP m c)) (Wr (aD m c)) i C (wide (groupOf ⟨n, h⟩) x) : ℝ) : EReal))
    ∧ (∀ C x, (held m c (n + 1)).2 (ix2 C x) = ((sumTo (n % 16 + 1) fun i =>
      dvPart (Qr (aP m c)) (Kr (aP m c)) (Wr (aD m c)) i C (wide (groupOf ⟨n, h⟩) x) : ℝ) : EReal)) := by
  rw [held_succ m c ⟨n, h⟩]
  have s := step_apply f0 f1 ⟨n, h⟩ (found ⟨n, h⟩ (held m c n)) p.1 p.2
  exact ⟨fun C x => (s.1 C x).trans (congrArg _ (sumTo_succ (tileOf ⟨n, h⟩) _).symm),
    fun C x => (s.2 C x).trans (congrArg _ (sumTo_succ (tileOf ⟨n, h⟩) _).symm)⟩

theorem found_apply : ∀ (n : ℕ) (h : n < cfg0.N),
    (∀ C x, (found ⟨n, h⟩ (held m c n)).1 (ix2 C x) = ((sumTo (n % 16) fun i =>
      dkPart (Qr (aP m c)) (Kr (aP m c)) (Vr (aP m c)) (Wr (aD m c)) i C (wide (groupOf ⟨n, h⟩) x) : ℝ) : EReal))
    ∧ (∀ C x, (found ⟨n, h⟩ (held m c n)).2 (ix2 C x) = ((sumTo (n % 16) fun i =>
      dvPart (Qr (aP m c)) (Kr (aP m c)) (Wr (aD m c)) i C (wide (groupOf ⟨n, h⟩) x) : ℝ) : EReal)) := by
  intro n
  induction n with
  | zero =>
    intro h
    have hc : cond1 (grid0.coords ⟨0, h⟩) := (cond1_iff ⟨0, h⟩).mpr rfl
    unfold found; rw [reset_of_first hc, reset_of_first hc]
    exact ⟨fun C x => (zeros_apply (ix2 C x)).trans (EReal.coe_zero.symm.trans (congrArg _ (sumTo_zero _).symm)),
      fun C x => (zeros_apply (ix2 C x)).trans (EReal.coe_zero.symm.trans (congrArg _ (sumTo_zero _).symm))⟩
  | succ n ih =>
    intro h
    by_cases h0 : (n + 1) % 16 = 0
    · have hc : cond1 (grid0.coords ⟨n + 1, h⟩) := (cond1_iff ⟨n + 1, h⟩).mpr h0
      unfold found; rw [reset_of_first hc, reset_of_first hc, h0]
      exact ⟨fun C x => (zeros_apply (ix2 C x)).trans (EReal.coe_zero.symm.trans (congrArg _ (sumTo_zero _).symm)),
        fun C x => (zeros_apply (ix2 C x)).trans (EReal.coe_zero.symm.trans (congrArg _ (sumTo_zero _).symm))⟩
    · have hc : ¬ cond1 (grid0.coords ⟨n + 1, h⟩) := fun e => h0 ((cond1_iff ⟨n + 1, h⟩).mp e)
      have hn : n < cfg0.N := Nat.lt_of_succ_lt h
      have i := held_of_found f0 f1 n hn (ih hn)
      have eg : groupOf ⟨n, hn⟩ = groupOf ⟨n + 1, h⟩ := Fin.ext (by show n / 16 = (n + 1) / 16; omega)
      have et : n % 16 + 1 = (n + 1) % 16 := by omega
      rw [eg, et] at i
      unfold found; rw [reset_of_later hc, reset_of_later hc]
      exact i

omit f0 f1 in
theorem sumTo_all (f : Fin 4096 → ℝ) : sumTo 16 (fun i => ∑ r, f (rowOf i r)) = ∑ R, f R := by
  unfold sumTo
  exact (Finset.sum_congr rfl fun i _ => if_pos i.isLt).trans (sum_tiles f).symm

theorem array5 : (dats m 0 c).arrAt 5 cfg0.N = fun i =>
    ((dq (Qr (aP m c)) (Kr (aP m c)) (Vr (aP m c)) (Wr (aD m c)) (i 0) (i 1) : ℝ) : EReal) := by
  refine (dats m 0 c).arrAt_eq_of_covers 5 _ (by decide +kernel) fun t hf y => ?_
  blk_simp
  rw [after5]
  idx_vars y
  rw [rows_apply f0 f1 t (found_apply f0 f1 t.val t.isLt).1 (found_apply f0 f1 t.val t.isLt).2]
  have e0 : (((View.whole main_v33_0).slice (win0_5.rect t)).emb (ix2 y0 y1)) = ix2 (rowOf (tileOf t) y0) (wide (groupOf t) y1) := by
    blk_ext [idx5 t, wide, rowOf, tileOf, groupOf]
  rw [e0]
  rfl

theorem array6 : (dats m 0 c).arrAt 6 cfg0.N = fun i =>
    ((dk (Qr (aP m c)) (Kr (aP m c)) (Vr (aP m c)) (Wr (aD m c)) (i 0) (i 1) : ℝ) : EReal) := by
  refine (dats m 0 c).arrAt_eq_of_covers 6 _ (by decide +kernel) fun t hf y => ?_
  have hl : t.val % 16 = 15 := (flush0_6 t).mp hf
  blk_simp
  rw [after6]
  idx_vars y
  have e0 : (((View.whole main_v33_1).slice (win0_6.rect t)).emb (ix2 y0 y1)) = ix2 y0 (wide (groupOf t) y1) := by
    blk_ext [idx6 t, wide, groupOf]
  have h := (held_of_found f0 f1 t.val t.isLt (found_apply f0 f1 t.val t.isLt)).1 y0 y1
  rw [hl] at h
  rw [e0]
  pointwise [k0_pay3]
  refine h.trans (congrArg _ ?_)
  unfold dkPart dk
  exact sumTo_all fun r => dz (Qr (aP m c)) (Kr (aP m c)) (Vr (aP m c)) (Wr (aD m c)) (headOf (wide (groupOf t) y1)) r y0 * (1 / 8)
    * Qr (aP m c) r (wide (groupOf t) y1)

theorem array7 : (dats m 0 c).arrAt 7 cfg0.N = fun i =>
    ((dv (Qr (aP m c)) (Kr (aP m c)) (Wr (aD m c)) (i 0) (i 1) : ℝ) : EReal) := by
  refine (dats m 0 c).arrAt_eq_of_covers 7 _ (by decide +kernel) fun t hf y => ?_
  have hl : t.val % 16 = 15 := (flush0_7 t).mp hf
  blk_simp
  rw [after7]
  idx_vars y
  have e0 : (((View.whole main_v33_2).slice (win0_7.rect t)).emb (ix2 y0 y1)) = ix2 y0 (wide (groupOf t) y1) := by
    blk_ext [idx7 t, wide, groupOf]
  have h := (held_of_found f0 f1 t.val t.isLt (found_apply f0 f1 t.val t.isLt)).2 y0 y1
  rw [hl] at h
  rw [e0]
  pointwise [k0_pay4]
  refine h.trans (congrArg _ ?_)
  unfold dvPart dv
  exact sumTo_all fun r => Wr (aD m c) r (wide (groupOf t) y1)
    * att (Qr (aP m c)) (Kr (aP m c)) (headOf (wide (groupOf t) y1)) r y0

end Cert.AttnIdeal.Hand

end
-- ==== Proof.AttnClaim.lean ====
/- The value claim of the attention's backward call: both programs leave the arrays of `AttnSpec`. -/
module

public import proofs.«01_k».proof.Defs
public import proofs.«01_k».proof.Proof.Gen.Pre_attn_finite
public import proofs.«01_k».proof.Proof.Gen.AttnRefIdeal.Run
public import proofs.«01_k».proof.Proof.AttnRun
public import proofs.«01_k».proof.Proof.AttnRef

@[expose] public section

set_option maxRecDepth 16384

noncomputable section

namespace Cert.AttnClaim

open Idealize.ShloMosaic Idealize.ShloMosaic.TcCoe Idealize.SL.Sem Real1
open AttnSpec (dq dk dv)
open Cert.AttnIdeal.Hand (aP aD)

variable (m : (ℓ : Loc Cert.AttnIdeal.nD Cert.AttnIdeal.τ Cert.AttnIdeal.sig) → Buf (Elt Ideal) ℓ)

/-- The precondition, entry by entry. -/
theorem real_args (h : Cert.Pre_AttnIdeal_attn_finite m) (c : Dev Cert.AttnIdeal.nD) :
    (∀ i, IsR (aP m c i)) ∧ (∀ i, IsR (aD m c i)) := by
  obtain ⟨h0, h1⟩ := h c
  refine ⟨fun i => ?_, fun i => ?_⟩
  · have h := congrFun h0 i
    pointwise [Cert.Pre_attn_finite.fn] at h
    exact isR_of_bit h
  · have h := congrFun h1 i
    pointwise [Cert.Pre_attn_finite.fn] at h
    exact isR_of_bit h

theorem algebraic : Cert.algebraic_AttnIdeal_AttnRefIdeal_pre_attn_finite := fun m g m' g' hpre hargs => by
  refine ⟨fun c => (Cert.AttnIdeal.Hand.dats m 0 c).arrAt 5 Cert.AttnIdeal.cfg0.N,
    fun c => (Cert.AttnIdeal.Hand.dats m 0 c).arrAt 6 Cert.AttnIdeal.cfg0.N,
    fun c => (Cert.AttnIdeal.Hand.dats m 0 c).arrAt 7 Cert.AttnIdeal.cfg0.N, ?_, ?_⟩
  · exact (θ_run Cert.AttnIdeal.defs _ _).mono (fun r h c =>
      ⟨(h.1.1 c).1 5, (h.1.1 c).1 6, (h.1.1 c).1 7, h.2.1 c⟩)
      (θ_run_and (Cert.AttnIdeal.Hand.run_main m g) (Cert.AttnIdeal.Hand.frame m g))
  · refine (θ_run Cert.AttnRefIdeal.defs _ _).mono (fun r h c => ?_) (Cert.AttnRefIdeal.Value.run m' g')
    obtain ⟨r0, r1, r2, kept⟩ := h c
    obtain ⟨a0, a1⟩ := hargs c
    obtain ⟨f0, f1⟩ := real_args m hpre c
    refine ⟨r0.trans ?_, r1.trans ?_, r2.trans ?_, kept⟩
    · rw [Cert.AttnRefIdeal.Read.val_main_v58_eq, a0, a1]
      refine Eq.trans ?_ (Cert.AttnIdeal.Hand.array5 f0 f1).symm
      refine funext fun j => ?_
      idx_vars j
      exact Cert.AttnRefIdeal.Hand.dq_apply f0 f1 _ _
    · rw [Cert.AttnRefIdeal.Read.val_main_v59_eq, a0, a1]
      refine Eq.trans ?_ (Cert.AttnIdeal.Hand.array6 f0 f1).symm
      refine funext fun j => ?_
      idx_vars j
      exact Cert.AttnRefIdeal.Hand.dk_apply f0 f1 _ _
    · rw [Cert.AttnRefIdeal.Read.val_main_v60_eq, a0, a1]
      refine Eq.trans ?_ (Cert.AttnIdeal.Hand.array7 f0 f1).symm
      refine funext fun j => ?_
      idx_vars j
      exact Cert.AttnRefIdeal.Hand.dv_apply f0 f1 _ _

end Cert.AttnClaim

end
-- ==== Proof.GateSpec.lean ====
/- The gradient of the SiLU gate and the pool scale, entry by entry over the extended reals: what both programs are shown
   to compute. `P` is the projection, whose last 2048 columns are the gate. -/
module

public import proofs.«01_k».proof.Proof.Real

@[expose] public section

noncomputable section

namespace GateSpec

open Idealize.ShloMosaic Real1

/-- The cotangent, the two halves of the mixer's output, the projection and the pool scale. -/
abbrev AD := (⟨2, ![4096, 2048]⟩ : Shape).Idx → EReal
abbrev AY := (⟨2, ![4096, 1024]⟩ : Shape).Idx → EReal
abbrev AP := (⟨2, ![4096, 6144]⟩ : Shape).Idx → EReal
abbrev AS := (⟨2, ![1, 1024]⟩ : Shape).Idx → EReal

/-- Lane `l` of the gate's columns; lane `l` of half `h` of the 2048 lanes. -/
def gcol (l : Fin 2048) : Fin 6144 := ⟨4096 + l.val, by omega⟩
def lo (n : Fin 1024) : Fin 2048 := ⟨n.val, by omega⟩
def hi (n : Fin 1024) : Fin 2048 := ⟨1024 + n.val, by omega⟩

def gt (P : AP) (r : Fin 4096) (l : Fin 2048) : EReal := P (ix2 r (gcol l))
def sgm (P : AP) (r : Fin 4096) (l : Fin 2048) : EReal := Ideal.logistic (gt P r l)

/-- The gated values' cotangent. -/
def dcat (D : AD) (P : AP) (r : Fin 4096) (l : Fin 2048) : EReal := D (ix2 r l) * (gt P r l * sgm P r l)

/-- The derivative of SiLU. -/
def dsl (P : AP) (r : Fin 4096) (l : Fin 2048) : EReal := sgm P r l * (1 + gt P r l * (1 - sgm P r l))

/-- The two halves of the mixer's output side by side, the first one scaled. -/
def cat (Y O : AY) (S : AS) (r : Fin 4096) (l : Fin 2048) : EReal :=
  if h : l.val < 1024 then Y (ix2 r ⟨l.val, h⟩) * S (ix2 0 ⟨l.val, h⟩) else O (ix2 r ⟨l.val - 1024, by omega⟩)

def dyp (D : AD) (P : AP) (S : AS) : AY := fun i => dcat D P (i 0) (lo (i 1)) * S (ix2 0 (i 1))
def dO (D : AD) (P : AP) : AY := fun i => dcat D P (i 0) (hi (i 1))
def dgt (D : AD) (Y O : AY) (P : AP) (S : AS) : AD := fun i => D i * cat Y O S (i 0) (i 1) * dsl P (i 0) (i 1)
def dps (D : AD) (Y : AY) (P : AP) : AS := fun i => ∑ r : Fin 4096, dcat D P r (lo (i 1)) * Y (ix2 r (i 1))

/-- The derivative of SiLU, as the reference has it. -/
theorem dsl_expand {a x s : EReal} (ha : IsR a) (hx : IsR x) (hs : IsR s) :
    a * s + x * a * (s * (1 - s)) = a * (s * (1 + x * (1 - s))) := by
  obtain ⟨a, rfl⟩ := ha
  obtain ⟨x, rfl⟩ := hx
  obtain ⟨s, rfl⟩ := hs
  simp only [← EReal.coe_one, ← EReal.coe_sub, ← EReal.coe_add, ← EReal.coe_mul]
  congr 1
  ring

end GateSpec

end
-- ==== Proof.GateKernel.lean ====
/- The four results of the gate's backward call, read entry by entry. -/
module

public import proofs.«01_k».proof.Proof.Gen.GateIdeal.Value
public import proofs.«01_k».proof.Proof.GateSpec
public import Idealize.ShloMosaic.Lib.Pipeline.ValueKit
public import Idealize.ShloMosaic.Lib.Pipeline.ReadBack

@[expose] public section

set_option maxRecDepth 16384

noncomputable section

namespace Cert.GateIdeal.Hand

open Cert.GateIdeal Cert.GateIdeal.Gen Idealize.ShloMosaic Idealize.ShloMosaic.TcCoe Idealize.SL.Sem
open Idealize.ShloMosaic.Pipeline (Dat)
open GateSpec

/-- Where each window's block sits at point `t`. -/
abbrev Idx (t : Fin grid0.N) : Prop :=
  (win0_0.index t = ![t.val, 0] ∧ win0_1.index t = ![t.val, 0] ∧ win0_2.index t = ![t.val, 0]
    ∧ win0_3.index t = ![t.val, 2] ∧ win0_4.index t = ![0, 0])
  ∧ (win0_5.index t = ![t.val, 0] ∧ win0_6.index t = ![t.val, 0] ∧ win0_7.index t = ![t.val, 0] ∧ win0_8.index t = ![0, 0])

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The five arguments on device `c`. -/
abbrev aD : AD := m ((c.tc : Thread nD τ).loc main_arg0)
abbrev aY : AY := m ((c.tc : Thread nD τ).loc main_arg1)
abbrev aO : AY := m ((c.tc : Thread nD τ).loc main_arg2)
abbrev aP : AP := m ((c.tc : Thread nD τ).loc main_arg3)
abbrev aS : AS := m ((c.tc : Thread nD τ).loc main_arg4)

/-- Row `r` of the tile of point `t`. -/
def row (r : Fin 256) : Fin 4096 := ⟨t.val * 256 + r.val, by have := point_lt t; omega⟩

theorem b0 (r : Fin 256) (l : Fin 2048) : iblk m c 0 t (ix2 r l) = aD m c (ix2 (row t r) l) := by
  blk_ext [iblk, V, idx t, row]
theorem b1 (r : Fin 256) (l : Fin 1024) : iblk m c 1 t (ix2 r l) = aY m c (ix2 (row t r) l) := by
  blk_ext [iblk, V, idx t, row]
theorem b2 (r : Fin 256) (l : Fin 1024) : iblk m c 2 t (ix2 r l) = aO m c (ix2 (row t r) l) := by
  blk_ext [iblk, V, idx t, row]
theorem b3 (r : Fin 256) (l : Fin 2048) : iblk m c 3 t (ix2 r l) = gt (aP m c) (row t r) l := by
  unfold gt
  blk_ext [iblk, V, idx t, row, gcol]
theorem b4 (r : Fin 1) (l : Fin 1024) : iblk m c 4 t (ix2 r l) = aS m c (ix2 0 l) := by
  blk_ext [iblk, V, idx t]

theorem p7 (r : Fin 256) (l : Fin 2048) : k0_pay7 (iblk m c 3 t) (iblk m c 0 t) (ix2 r l) = dcat (aD m c) (aP m c) (row t r) l := by
  pointwise [k0_pay7, k0_pay5]
  rw [b0, b3, zero_sub]
  rfl

theorem p6 (r : Fin 256) (l : Fin 2048) : k0_pay6 (iblk m c 3 t) (ix2 r l) = dsl (aP m c) (row t r) l := by
  pointwise [k0_pay6, k0_pay5]
  rw [b3, zero_sub]
  rfl

theorem p8 (r : Fin 256) (n : Fin 1024) :
    k0_pay8 (iblk m c 3 t) (iblk m c 0 t) (iblk m c 4 t) (ix2 r n) = dyp (aD m c) (aP m c) (aS m c) (ix2 (row t r) n) := by
  pointwise [k0_pay8]
  rw [p7, b4]
  rfl

theorem p9 (r : Fin 256) (n : Fin 1024) :
    k0_pay9 (iblk m c 3 t) (iblk m c 0 t) (ix2 r n) = dO (aD m c) (aP m c) (ix2 (row t r) n) := by
  pointwise [k0_pay9]
  rw [p7]
  rfl

theorem array5 : (dats m 0 c).arrAt 5 cfg0.N = dyp (aD m c) (aP m c) (aS m c) := by
  refine (dats m 0 c).arrAt_eq_of_covers 5 _ (by decide +kernel) fun t hf y => ?_
  blk_simp
  rw [after0_5]
  idx_vars y
  have e : (outsAt0 m c t.val t.isLt).1 (ix2 y0 y1) = dyp (aD m c) (aP m c) (aS m c) (ix2 (row t y0) y1) := by
    by_cases h0 : t.val % 16 = 0
    · rw [outsAt0_A m c t h0]
      frame_out
      exact p8 m c t y0 y1
    · rw [outsAt0_B m c t h0]
      frame_out
      exact p8 m c t y0 y1
  rw [e]
  congr 1
  blk_ext [idx t, row]

theorem array6 : (dats m 0 c).arrAt 6 cfg0.N = dO (aD m c) (aP m c) := by
  refine (dats m 0 c).arrAt_eq_of_covers 6 _ (by decide +kernel) fun t hf y => ?_
  blk_simp
  rw [after0_6]
  idx_vars y
  have e : (outsAt0 m c t.val t.isLt).2.1 (ix2 y0 y1) = dO (aD m c) (aP m c) (ix2 (row t y0) y1) := by
    by_cases h0 : t.val % 16 = 0
    · rw [outsAt0_A m c t h0]
      frame_out
      exact p9 m c t y0 y1
    · rw [outsAt0_B m c t h0]
      frame_out
      exact p9 m c t y0 y1
  rw [e]
  congr 1
  blk_ext [idx t, row]

/-- The two stores of the gate gradient's block, whichever the case. -/
theorem store7 (r : Fin 256) (q : Fin 2048) :
    View.canon (Val := Elt Ideal) (s := S256x2048) (e := .bf16)
      [⟨Rect.unit ![0, 1024] ![256, 1024] inb_S256x2048_S256x1024_0_1024,
          k0_pay3 (iblk m c 0 t) (k0_pay6 (iblk m c 3 t)) (iblk m c 2 t)⟩,
       ⟨Rect.unit ![0, 0] ![256, 1024] inb_S256x2048_S256x1024_0_0,
          k0_pay2 (iblk m c 0 t) (k0_pay6 (iblk m c 3 t)) (iblk m c 1 t) (iblk m c 4 t)⟩] (ix2 r q)
      = dgt (aD m c) (aY m c) (aO m c) (aP m c) (aS m c) (ix2 (row t r) q) := by
  canon_tiles x h
  all_goals idx_vars x
  · have e : q = hi x1 := Fin.ext h1
    rw [e, Fin.ext h0]
    pointwise [k0_pay3]
    rw [p6, b0, b2]
    unfold dgt cat
    rw [dif_neg (by show ¬ 1024 + x1.val < 1024; omega)]
    have e2 : (⟨(hi x1).val - 1024, by have := x1.isLt; show 1024 + x1.val - 1024 < 1024; omega⟩ : Fin 1024) = x1 :=
      Fin.ext (Nat.add_sub_cancel_left ..)
    show _ = _ * aO m c (ix2 (row t x0) (⟨(hi x1).val - 1024, _⟩ : Fin 1024)) * _
    rw [e2]
    rfl
  · have e : q = lo x1 := Fin.ext h1
    rw [e, Fin.ext h0]
    pointwise [k0_pay2]
    rw [p6, b0, b1, b4]
    unfold dgt cat
    rw [dif_pos (by exact x1.isLt)]
    rfl

theorem array7 : (dats m 0 c).arrAt 7 cfg0.N = dgt (aD m c) (aY m c) (aO m c) (aP m c) (aS m c) := by
  refine (dats m 0 c).arrAt_eq_of_covers 7 _ (by decide +kernel) fun t hf y => ?_
  blk_simp
  rw [after0_7]
  idx_vars y
  have e : (outsAt0 m c t.val t.isLt).2.2.1 (ix2 y0 y1) = dgt (aD m c) (aY m c) (aO m c) (aP m c) (aS m c) (ix2 (row t y0) y1) := by
    by_cases h0 : t.val % 16 = 0
    · rw [outsAt0_A m c t h0]
      frame_out
      exact store7 m c t y0 y1
    · rw [outsAt0_B m c t h0]
      frame_out
      exact store7 m c t y0 y1
  rw [e]
  congr 1
  blk_ext [idx t, row]

/-- A sum over the tiles of sums over their rows. -/
theorem sum_tiles (f : Fin 4096 → EReal) : ∑ t : Fin cfg0.N, ∑ r : Fin 256, f (row t r) = ∑ r : Fin 4096, f r := by
  have h := @Fin.sum_points_lanes_congr EReal inferInstance cfg0.N 256 1 4096 16
    (fun t r => f (row t r)) (fun _ r => f r) (fun t k ha hl => by
      have := point_lt t
      exact congrArg f (Fin.ext (by show t.val * 256 + k.val = t.val % 16 * 256 + k.val; omega)))
    (by decide) (by decide)
  exact h.trans (Fin.sum_univ_one _)

/-- The scale gradient's part of one tile. -/
def part (t : Fin cfg0.N) (j : S1x1024.Idx) : EReal :=
  ∑ r : Fin 256, dcat (aD m c) (aP m c) (row t r) (lo (j 1)) * aY m c (ix2 (row t r) (j 1))

theorem step8 (x : Vec Ideal S1x1024 .f32) (j : S1x1024.Idx) :
    k0_pay1 (k0_pay7 (iblk m c 3 t) (iblk m c 0 t)) (iblk m c 1 t) x j = x j + part m c t j := by
  idx_vars j
  pointwise [k0_pay1]
  simp only [p7, b1]
  rfl

theorem array8 : (dats m 0 c).arrAt 8 cfg0.N = dps (aD m c) (aY m c) (aP m c) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) (part m c)
    (fun t h j => by
      rw [outsAt0_A m c t h]
      frame_out
      rw [step8]
      pointwise [k0_pay4])
    (fun t h j => by
      rw [outsAt0_B m c t h]
      frame_out
      rw [step8])
    (le_of_eq N_0) t0_15 rfl j, zero_add]
  exact (sum_tiles fun r => dcat (aD m c) (aP m c) r (lo (j 1)) * aY m c (ix2 r (j 1)))

end Cert.GateIdeal.Hand

end
-- ==== Proof.GateClaim.lean ====
/- The value claim of the gate's backward call: both programs leave the arrays of `GateSpec`. -/
module

public import proofs.«01_k».proof.Defs
public import proofs.«01_k».proof.Proof.Gen.Pre_gate_finite
public import proofs.«01_k».proof.Proof.Gen.GateRefIdeal.Run
public import proofs.«01_k».proof.Proof.Gen.GateRefIdeal.Read
public import proofs.«01_k».proof.Proof.GateKernel

@[expose] public section

set_option maxRecDepth 16384

noncomputable section

namespace Cert.GateRefIdeal.Hand

open Cert.GateRefIdeal Cert.GateRefIdeal.Read Idealize.ShloMosaic Real1
open GateSpec

variable (D : AD) (Y O : AY) (P : AP) (S : AS)

theorem gate_apply (r : Fin 4096) (l : Fin 2048) : val_main_v1 (F := Ideal) P (ix2 r l) = gt P r l := by
  pointwise [val_main_v0, val_main_v1]
  rfl

/-- The logistic function, as the reference computes it. -/
theorem sgm_apply (r : Fin 4096) (l : Fin 2048) : val_main_v5_2 (F := Ideal) P (ix2 r l) = sgm P r l := by
  pointwise [val_main_call0_v0, val_main_call0_v1, val_main_call0_cst, val_main_call0_v2, val_main_call0_v3,
    val_main_call0_cst_0, val_main_call0_v4, val_main_v5_2]
  rw [gate_apply]
  rfl

theorem cat_apply (r : Fin 4096) (l : Fin 2048) : val_main_v4 (F := Ideal) Y O S (ix2 r l) = cat Y O S r l := by
  pointwise [val_main_v2, val_main_v3, val_main_v4]
  rfl

/-- The cotangent of the gated values. -/
theorem dcat_apply (r : Fin 4096) (l : Fin 2048) : val_main_v8 (F := Ideal) D P (ix2 r l) = dcat D P r l := by
  pointwise [val_main_v5_0, val_main_v8]
  rw [gate_apply, sgm_apply]
  rfl

theorem out0_apply (r : Fin 4096) (n : Fin 1024) : val_main_v17 (F := Ideal) D P S (ix2 r n) = dyp D P S (ix2 r n) := by
  pointwise [val_main_v10, val_main_v15, val_main_v16, val_main_v17]
  rw [dcat_apply]
  rfl

theorem out1_apply (r : Fin 4096) (n : Fin 1024) : val_main_v11 (F := Ideal) D P (ix2 r n) = dO D P (ix2 r n) := by
  pointwise [val_main_v11]
  rw [dcat_apply]
  rfl

theorem out2_apply (hD : ∀ i, IsR (D i)) (hY : ∀ i, IsR (Y i)) (hO : ∀ i, IsR (O i)) (hP : ∀ i, IsR (P i))
    (hS : ∀ i, IsR (S i)) (r : Fin 4096) (l : Fin 2048) :
    val_main_v18 (F := Ideal) D Y O P S (ix2 r l) = dgt D Y O P S (ix2 r l) := by
  have hc : IsR (cat Y O S r l) := by
    unfold cat
    split
    · exact (hY _).mul (hS _)
    · exact hO _
  pointwise [val_main_v7, val_main_call0_cst_1, val_main_call0_v6, val_main_call0_v7, val_main_v5_1, val_main_call1_v0,
    val_main_call1_v1, val_main_call1_v2, val_main_v9, val_main_v18]
  rw [gate_apply, sgm_apply, cat_apply,
    dsl_expand (x := gt P r l) (s := sgm P r l) (hc.mul (hD _)) (hP _) (IsR.logistic (hP _))]
  unfold dgt dsl
  rw [mul_comm (cat Y O S r l)]
  rfl

theorem out3_apply (u : Fin 1) (n : Fin 1024) : val_main_v14 (F := Ideal) D Y P (ix2 u n) = dps D Y P (ix2 u n) := by
  pointwise [val_main_v10, val_main_v12, val_main_cst, val_main_v13, val_main_v14]
  simp only [dcat_apply]
  unfold dps
  exact Finset.sum_congr rfl fun r _ => mul_comm _ _

end Cert.GateRefIdeal.Hand

namespace Cert.GateClaim

open Idealize.ShloMosaic Idealize.ShloMosaic.TcCoe Idealize.SL.Sem Real1
open GateSpec
open Cert.GateIdeal.Hand (aD aY aO aP aS)

variable (m : (ℓ : Loc Cert.GateIdeal.nD Cert.GateIdeal.τ Cert.GateIdeal.sig) → Buf (Elt Ideal) ℓ)

/-- The precondition, entry by entry. -/
theorem real_args (h : Cert.Pre_GateIdeal_gate_finite m) (c : Dev Cert.GateIdeal.nD) :
    (∀ i, IsR (aD m c i)) ∧ (∀ i, IsR (aY m c i)) ∧ (∀ i, IsR (aO m c i)) ∧ (∀ i, IsR (aP m c i)) ∧ (∀ i, IsR (aS m c i)) := by
  obtain ⟨h0, h1, h2, h3, h4⟩ := h c
  refine ⟨fun i => ?_, fun i => ?_, fun i => ?_, fun i => ?_, fun i => ?_⟩
  · have h := congrFun h0 i
    pointwise [Cert.Pre_gate_finite.fn] at h
    exact isR_of_bit h
  · have h := congrFun h1 i
    pointwise [Cert.Pre_gate_finite.fn] at h
    exact isR_of_bit h
  · have h := congrFun h2 i
    pointwise [Cert.Pre_gate_finite.fn] at h
    exact isR_of_bit h
  · have h := congrFun h3 i
    pointwise [Cert.Pre_gate_finite.fn] at h
    exact isR_of_bit h
  · have h := congrFun h4 i
    pointwise [Cert.Pre_gate_finite.fn] at h
    exact isR_of_bit h

theorem algebraic : Cert.algebraic_GateIdeal_GateRefIdeal_pre_gate_finite := fun m g m' g' hpre hargs => by
  refine ⟨fun c => dyp (aD m c) (aP m c) (aS m c), fun c => dO (aD m c) (aP m c),
    fun c => dgt (aD m c) (aY m c) (aO m c) (aP m c) (aS m c), fun c => dps (aD m c) (aY m c) (aP m c), ?_, ?_⟩
  · exact (θ_run Cert.GateIdeal.defs _ _).mono (fun r h c =>
      ⟨(h c).1.trans (Cert.GateIdeal.Hand.array5 m c), (h c).2.1.trans (Cert.GateIdeal.Hand.array6 m c),
        (h c).2.2.1.trans (Cert.GateIdeal.Hand.array7 m c), (h c).2.2.2.1.trans (Cert.GateIdeal.Hand.array8 m c),
        (h c).2.2.2.2⟩) (Cert.GateIdeal.Value.run_blocks m g)
  · refine (θ_run Cert.GateRefIdeal.defs _ _).mono (fun r h c => ?_) (Cert.GateRefIdeal.Value.run m' g')
    obtain ⟨r0, r1, r2, r3, kept⟩ := h c
    obtain ⟨a0, a1, a2, a3, a4⟩ := hargs c
    obtain ⟨f0, f1, f2, f3, f4⟩ := real_args m hpre c
    refine ⟨r0.trans ?_, r1.trans ?_, r2.trans ?_, r3.trans ?_, kept⟩
    · refine (Cert.GateRefIdeal.Read.val_main_v17_eq _ _ _).trans ?_
      rw [a0, a3, a4]
      refine funext fun j => ?_
      idx_vars j
      exact Cert.GateRefIdeal.Hand.out0_apply _ _ _ _ _
    · refine (Cert.GateRefIdeal.Read.val_main_v11_eq _ _).trans ?_
      rw [a0, a3]
      refine funext fun j => ?_
      idx_vars j
      exact Cert.GateRefIdeal.Hand.out1_apply _ _ _ _
    · refine (Cert.GateRefIdeal.Read.val_main_v18_eq _ _ _ _ _).trans ?_
      rw [a0, a1, a2, a3, a4]
      refine funext fun j => ?_
      idx_vars j
      exact Cert.GateRefIdeal.Hand.out2_apply _ _ _ _ _ f0 f1 f2 f3 f4 _ _
    · refine (Cert.GateRefIdeal.Read.val_main_v14_eq _ _ _).trans ?_
      rw [a0, a1, a3]
      refine funext fun j => ?_
      idx_vars j
      exact Cert.GateRefIdeal.Hand.out3_apply _ _ _ _ _

end Cert.GateClaim

end
-- ==== Proof.NormReal.lean ====
/- The row norm over the reals: what its rows are, and the two ways its gradient is written. -/
module

public import proofs.«01_k».proof.Proof.Real
public import proofs.«01_k».proof.Proof.AttnReal

@[expose] public section

noncomputable section

namespace Norm

open Idealize.ShloMosaic Real1

/-- The width of a row, the small number under the root, a half and its opposite, two, and the reciprocal of the width, as
    their words. -/
abbrev wid : EReal := Ideal.ofBits FTy.f32 0x44800000#32
abbrev eps : EReal := Ideal.ofBits FTy.f32 0x358637BD#32
abbrev hlf : EReal := Ideal.ofBits FTy.f32 0x3F000000#32
abbrev nhlf : EReal := Ideal.ofBits FTy.f32 0xBF000000#32
abbrev two : EReal := Ideal.ofBits FTy.f32 0x40000000#32
abbrev rwid : EReal := Ideal.ofBits FTy.f32 0x3A800000#32

theorem wid_eq : wid = ((1024 : ℝ) : EReal) := by simp only [wid, Ideal.ofBits, Ideal.ieee]; simp [← EReal.coe_mul]; norm_num
theorem hlf_eq : hlf = ((1 / 2 : ℝ) : EReal) := by simp only [hlf, Ideal.ofBits, Ideal.ieee]; simp [← EReal.coe_mul]; norm_num
theorem nhlf_eq : nhlf = ((-(1 / 2) : ℝ) : EReal) := by simp only [nhlf, Ideal.ofBits, Ideal.ieee]; simp [← EReal.coe_mul]; norm_num
theorem two_eq : two = ((2 : ℝ) : EReal) := by simp only [two, Ideal.ofBits, Ideal.ieee]; simp [← EReal.coe_mul]; norm_num
theorem rwid_eq : rwid = ((1 / 1024 : ℝ) : EReal) := by simp only [rwid, Ideal.ofBits, Ideal.ieee]; simp [← EReal.coe_mul]; norm_num
theorem eps_pos : ∃ e : ℝ, 0 < e ∧ eps = (e : EReal) := by
  refine ⟨8796093 * 2 ^ (-43 : ℤ), by positivity, ?_⟩
  simp only [eps, Ideal.ofBits, Ideal.ieee]
  simp [← EReal.coe_mul]

theorem div_wid (x : EReal) : Ideal.div x wid = x * ((1 / 1024 : ℝ) : EReal) := by
  rw [wid_eq, Ideal.div_coe (by norm_num)]

/-- The mean of the squares and the small number; its reciprocal root; the row's mean. -/
def arg (X : Fin 1024 → EReal) : EReal := Ideal.div (∑ l, X l * X l) wid + eps
def rs (X : Fin 1024 → EReal) : EReal := Ideal.rsqrt (arg X)
def mean (X : Fin 1024 → EReal) : EReal := Ideal.div (∑ l, X l) wid

/-- The norm's gradient as the kernel writes it; and the factor of the row in the reference's. -/
def bwd (X E : Fin 1024 → EReal) (l : Fin 1024) : EReal :=
  rs X * (E l - X l * rs X * Ideal.div (∑ k, E k * (X k * rs X)) wid)
def fac (X E : Fin 1024 → EReal) : EReal := Ideal.div ((∑ k, X k * E k) * (nhlf * Ideal.div (rs X) (arg X))) wid

theorem row_coe {X : Fin 1024 → EReal} (h : ∀ l, IsR (X l)) : ∃ x : Fin 1024 → ℝ, ∀ l, X l = (x l : EReal) :=
  ⟨fun l => (h l).choose, fun l => (h l).choose_spec⟩

/-- Of a row of reals the root's argument is a positive real. -/
theorem arg_pos {X : Fin 1024 → EReal} (h : ∀ l, IsR (X l)) : ∃ a : ℝ, 0 < a ∧ arg X = (a : EReal) := by
  obtain ⟨x, hx⟩ := row_coe h
  obtain ⟨e, he, eq⟩ := eps_pos
  have nn : 0 ≤ ∑ l, x l * x l := Finset.sum_nonneg fun l _ => mul_self_nonneg _
  refine ⟨(∑ l, x l * x l) * (1 / 1024) + e, by positivity, ?_⟩
  unfold arg
  rw [div_wid, eq, AttnReal.sum_coe (f := fun l => x l * x l) (fun l => by rw [hx, EReal.coe_mul]), ← EReal.coe_mul, ← EReal.coe_add]

theorem rs_coe {X : Fin 1024 → EReal} (h : ∀ l, IsR (X l)) :
    ∃ a r : ℝ, a ≠ 0 ∧ arg X = (a : EReal) ∧ rs X = (r : EReal) ∧ r * r = 1 / a := by
  obtain ⟨a, pos, eq⟩ := arg_pos h
  refine ⟨a, (Real.sqrt a)⁻¹, pos.ne', eq, ?_, ?_⟩
  · unfold rs
    rw [eq, Ideal.rsqrt_coe, if_neg (not_lt.mpr pos.le), if_neg pos.ne']
  · rw [← mul_inv, Real.mul_self_sqrt pos.le, one_div]

theorem isR_rs {X : Fin 1024 → EReal} (h : ∀ l, IsR (X l)) : IsR (rs X) := by
  obtain ⟨a, r, _, _, hr, _⟩ := rs_coe h
  exact ⟨r, hr⟩

theorem isR_div {x : EReal} (h : IsR x) : IsR (Ideal.div x wid) := by
  rw [div_wid]
  exact h.mul (isR_coe _)

theorem isR_bwd {X E : Fin 1024 → EReal} (hX : ∀ l, IsR (X l)) (hE : ∀ l, IsR (E l)) (l : Fin 1024) : IsR (bwd X E l) :=
  (isR_rs hX).mul ((hE l).sub (((hX l).mul (isR_rs hX)).mul
    (isR_div (isR_sum _ _ fun k _ => (hE k).mul ((hX k).mul (isR_rs hX))))))

/-- The two ways the norm's gradient is written agree on rows of reals. -/
theorem bwd_eq {X E : Fin 1024 → EReal} (hX : ∀ l, IsR (X l)) (hE : ∀ l, IsR (E l)) (l : Fin 1024) :
    E l * rs X + X l * fac X E + fac X E * X l = bwd X E l := by
  obtain ⟨x, hx⟩ := row_coe hX
  obtain ⟨e, he⟩ := row_coe hE
  obtain ⟨a, r, ha, ea, er, sq⟩ := rs_coe hX
  unfold bwd fac
  rw [ea, er, nhlf_eq, Ideal.div_coe ha, div_wid, div_wid,
    AttnReal.sum_coe (f := fun k => x k * e k) (fun k => by rw [hx, he, EReal.coe_mul]),
    AttnReal.sum_coe (f := fun k => e k * (x k * r)) (fun k => by rw [hx, he, EReal.coe_mul, EReal.coe_mul]), hx, he]
  simp only [← EReal.coe_mul, ← EReal.coe_add, ← EReal.coe_sub]
  congr 1
  rw [show ∑ k, e k * (x k * r) = (∑ k, x k * e k) * r by rw [Finset.sum_mul]; exact Finset.sum_congr rfl fun k _ => by ring]
  have h : r * (e l - x l * r * ((∑ k, x k * e k) * r * (1 / 1024)))
      = r * e l - x l * (∑ k, x k * e k) * (1 / 1024) * r * (r * r) := by ring
  rw [h, sq]
  ring

end Norm

end
-- ==== Proof.LossSpec.lean ====
/- The loss and its gradients, entry by entry over the extended reals: what both programs are shown to compute. -/
module

public import proofs.«01_k».proof.Proof.NormReal

@[expose] public section

noncomputable section

namespace LossSpec

open Idealize.ShloMosaic Real1 Norm

/-- The residual stream, the block's output, a vector of the width, and the target. -/
abbrev AX := (⟨2, ![4096, 1024]⟩ : Shape).Idx → EReal
abbrev AV := (⟨2, ![1, 1024]⟩ : Shape).Idx → EReal
abbrev AL := (⟨2, ![1, 128]⟩ : Shape).Idx → EReal

variable (X Y : AX) (G F : AV) (T : AX)

/-- A row of the last residual stream; the normed row; the error; its share of the mean; the norm's cotangent. -/
def x2 (r : Fin 4096) (l : Fin 1024) : EReal := X (ix2 r l) + (1 + G (ix2 0 l)) * Y (ix2 r l)
def xn (r : Fin 4096) (l : Fin 1024) : EReal := x2 X Y G r l * rs (x2 X Y G r)
def err (r : Fin 4096) (l : Fin 1024) : EReal := xn X Y G r l * F (ix2 0 l) - T (ix2 r l)
def dout (r : Fin 4096) (l : Fin 1024) : EReal := err X Y G F T r l * rwid
def dxn (r : Fin 4096) (l : Fin 1024) : EReal := dout X Y G F T r l * F (ix2 0 l)
def d2 (r : Fin 4096) (l : Fin 1024) : EReal := bwd (x2 X Y G r) (dxn X Y G F T r) l
/-- The mean square error of a row. -/
def sq (r : Fin 4096) : EReal := Ideal.div (∑ l, err X Y G F T r l * err X Y G F T r l) wid

def dx : AX := fun i => d2 X Y G F T (i 0) (i 1)
def dyo : AX := fun i => d2 X Y G F T (i 0) (i 1) * (1 + G (ix2 0 (i 1)))
def loss : AL := fun _ => ∑ r, hlf * sq X Y G F T r
def dgf : AV := fun i => ∑ r, dout X Y G F T r (i 1) * xn X Y G r (i 1)
def dgate : AV := fun i => ∑ r, d2 X Y G F T r (i 1) * Y (ix2 r (i 1))

end LossSpec

end
-- ==== Proof.LossKernel.lean ====
/- The five results of the loss call, read entry by entry. -/
module

public import proofs.«01_k».proof.Proof.Gen.LossIdeal.Value
public import proofs.«01_k».proof.Proof.LossSpec
public import Idealize.ShloMosaic.Lib.Pipeline.ValueKit
public import Idealize.ShloMosaic.Lib.Pipeline.ReadBack

@[expose] public section

set_option maxRecDepth 16384

noncomputable section

namespace Cert.LossIdeal.Hand

open Cert.LossIdeal Cert.LossIdeal.Gen Idealize.ShloMosaic Idealize.ShloMosaic.TcCoe Idealize.SL.Sem
open Idealize.ShloMosaic.Pipeline (Dat)
open LossSpec Norm

/-- Where each window's block sits at point `t`. -/
abbrev Idx (t : Fin grid0.N) : Prop :=
  (win0_0.index t = ![t.val, 0] ∧ win0_1.index t = ![t.val, 0] ∧ win0_2.index t = ![0, 0]
    ∧ win0_3.index t = ![0, 0] ∧ win0_4.index t = ![t.val, 0])
  ∧ (win0_5.index t = ![t.val, 0] ∧ win0_6.index t = ![t.val, 0] ∧ win0_7.index t = ![0, 0] ∧ win0_8.index t = ![0, 0]
    ∧ win0_9.index t = ![0, 0])

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The five arguments on device `c`. -/
abbrev aX : AX := m ((c.tc : Thread nD τ).loc main_arg0)
abbrev aY : AX := m ((c.tc : Thread nD τ).loc main_arg1)
abbrev aG : AV := m ((c.tc : Thread nD τ).loc main_arg2)
abbrev aF : AV := m ((c.tc : Thread nD τ).loc main_arg3)
abbrev aT : AX := m ((c.tc : Thread nD τ).loc main_arg4)

/-- Row `r` of the tile of point `t`. -/
def row (r : Fin 256) : Fin 4096 := ⟨t.val * 256 + r.val, by have := point_lt t; omega⟩

theorem b0 (r : Fin 256) (l : Fin 1024) : iblk m c 0 t (ix2 r l) = aX m c (ix2 (row t r) l) := by
  blk_ext [iblk, V, idx t, row]
theorem b1 (r : Fin 256) (l : Fin 1024) : iblk m c 1 t (ix2 r l) = aY m c (ix2 (row t r) l) := by
  blk_ext [iblk, V, idx t, row]
theorem b2 (r : Fin 1) (l : Fin 1024) : iblk m c 2 t (ix2 r l) = aG m c (ix2 0 l) := by
  blk_ext [iblk, V, idx t]
theorem b3 (r : Fin 1) (l : Fin 1024) : iblk m c 3 t (ix2 r l) = aF m c (ix2 0 l) := by
  blk_ext [iblk, V, idx t]
theorem b4 (r : Fin 256) (l : Fin 1024) : iblk m c 4 t (ix2 r l) = aT m c (ix2 (row t r) l) := by
  blk_ext [iblk, V, idx t, row]

/-- The row of the last residual stream in the tile. -/
theorem p5 (r : Fin 256) (l : Fin 1024) :
    k0_pay5 (iblk m c 1 t) (iblk m c 2 t) (iblk m c 0 t) (ix2 r l) = x2 (aX m c) (aY m c) (aG m c) (row t r) l := by
  pointwise [k0_pay5, k0_pay4]
  rw [b0, b1, b2]
  rfl

theorem p6 (r : Fin 256) (u : Fin 1) :
    k0_pay6 (iblk m c 1 t) (iblk m c 2 t) (iblk m c 0 t) (ix2 r u) = rs (x2 (aX m c) (aY m c) (aG m c) (row t r)) := by
  pointwise [k0_pay6]
  simp only [p5]
  rfl

theorem p7 (r : Fin 256) (l : Fin 1024) :
    k0_pay7 (iblk m c 1 t) (iblk m c 2 t) (iblk m c 0 t) (ix2 r l) = xn (aX m c) (aY m c) (aG m c) (row t r) l := by
  pointwise [k0_pay7]
  rw [p5, p6]
  rfl

theorem p8 (r : Fin 256) (l : Fin 1024) :
    k0_pay8 (iblk m c 1 t) (iblk m c 2 t) (iblk m c 0 t) (iblk m c 3 t) (iblk m c 4 t) (ix2 r l)
      = err (aX m c) (aY m c) (aG m c) (aF m c) (aT m c) (row t r) l := by
  pointwise [k0_pay8]
  rw [p7, b3, b4]
  rfl

theorem p10 :
    k0_pay10 (iblk m c 1 t) (iblk m c 2 t) (iblk m c 0 t) (iblk m c 3 t) (iblk m c 4 t)
      = ∑ r : Fin 256, sq (aX m c) (aY m c) (aG m c) (aF m c) (aT m c) (row t r) := by
  unfold k0_pay10
  pointwise
  simp only [p8, Fin.sum_univ_one]
  rfl

theorem p12 (r : Fin 256) (l : Fin 1024) :
    k0_pay12 (k0_pay8 (iblk m c 1 t) (iblk m c 2 t) (iblk m c 0 t) (iblk m c 3 t) (iblk m c 4 t)) (ix2 r l)
      = dout (aX m c) (aY m c) (aG m c) (aF m c) (aT m c) (row t r) l := by
  pointwise [k0_pay12]
  rw [p8]
  rfl

theorem p14 (r : Fin 256) (l : Fin 1024) :
    k0_pay14 (k0_pay6 (iblk m c 1 t) (iblk m c 2 t) (iblk m c 0 t)) (k0_pay7 (iblk m c 1 t) (iblk m c 2 t) (iblk m c 0 t))
        (iblk m c 3 t) (k0_pay8 (iblk m c 1 t) (iblk m c 2 t) (iblk m c 0 t) (iblk m c 3 t) (iblk m c 4 t)) (ix2 r l)
      = d2 (aX m c) (aY m c) (aG m c) (aF m c) (aT m c) (row t r) l := by
  pointwise [k0_pay14]
  simp only [p12, p6, p7, b3]
  rfl

theorem p15 (r : Fin 256) (l : Fin 1024) :
    k0_pay15 (k0_pay4 (iblk m c 2 t)) (k0_pay6 (iblk m c 1 t) (iblk m c 2 t) (iblk m c 0 t))
        (k0_pay7 (iblk m c 1 t) (iblk m c 2 t) (iblk m c 0 t))
        (iblk m c 3 t) (k0_pay8 (iblk m c 1 t) (iblk m c 2 t) (iblk m c 0 t) (iblk m c 3 t) (iblk m c 4 t)) (ix2 r l)
      = dyo (aX m c) (aY m c) (aG m c) (aF m c) (aT m c) (ix2 (row t r) l) := by
  pointwise [k0_pay15, k0_pay4]
  rw [p14, b2]
  rfl

theorem array5 : (dats m 0 c).arrAt 5 cfg0.N = dx (aX m c) (aY m c) (aG m c) (aF m c) (aT m c) := by
  refine (dats m 0 c).arrAt_eq_of_covers 5 _ (by decide +kernel) fun t hf y => ?_
  blk_simp
  rw [after0_5]
  idx_vars y
  have e : (outsAt0 m c t.val t.isLt).1 (ix2 y0 y1) = dx (aX m c) (aY m c) (aG m c) (aF m c) (aT m c) (ix2 (row t y0) y1) := by
    by_cases h0 : t.val % 16 = 0
    · rw [outsAt0_A m c t h0]
      frame_out
      exact p14 m c t y0 y1
    · rw [outsAt0_B m c t h0]
      frame_out
      exact p14 m c t y0 y1
  rw [e]
  congr 1
  blk_ext [idx t, row]

theorem array6 : (dats m 0 c).arrAt 6 cfg0.N = dyo (aX m c) (aY m c) (aG m c) (aF m c) (aT m c) := by
  refine (dats m 0 c).arrAt_eq_of_covers 6 _ (by decide +kernel) fun t hf y => ?_
  blk_simp
  rw [after0_6]
  idx_vars y
  have e : (outsAt0 m c t.val t.isLt).2.1 (ix2 y0 y1) = dyo (aX m c) (aY m c) (aG m c) (aF m c) (aT m c) (ix2 (row t y0) y1) := by
    by_cases h0 : t.val % 16 = 0
    · rw [outsAt0_A m c t h0]
      frame_out
      exact p15 m c t y0 y1
    · rw [outsAt0_B m c t h0]
      frame_out
      exact p15 m c t y0 y1
  rw [e]
  congr 1
  blk_ext [idx t, row]

/-- A sum over the tiles of sums over their rows. -/
theorem sum_tiles (f : Fin 4096 → EReal) : ∑ t : Fin cfg0.N, ∑ r : Fin 256, f (row t r) = ∑ r : Fin 4096, f r := by
  have h := @Fin.sum_points_lanes_congr EReal inferInstance cfg0.N 256 1 4096 16
    (fun t r => f (row t r)) (fun _ r => f r) (fun t k ha hl => by
      have := point_lt t
      exact congrArg f (Fin.ext (by show t.val * 256 + k.val = t.val % 16 * 256 + k.val; omega)))
    (by decide) (by decide)
  exact h.trans (Fin.sum_univ_one _)

/-- What one tile adds to the loss, to the scale's gradient and to the gate's. -/
def part7 (t : Fin cfg0.N) (_ : S1x128.Idx) : EReal :=
  hlf * ∑ r : Fin 256, sq (aX m c) (aY m c) (aG m c) (aF m c) (aT m c) (row t r)
def part8 (t : Fin cfg0.N) (j : S1x1024.Idx) : EReal :=
  ∑ r : Fin 256, dout (aX m c) (aY m c) (aG m c) (aF m c) (aT m c) (row t r) (j 1) * xn (aX m c) (aY m c) (aG m c) (row t r) (j 1)
def part9 (t : Fin cfg0.N) (j : S1x1024.Idx) : EReal :=
  ∑ r : Fin 256, d2 (aX m c) (aY m c) (aG m c) (aF m c) (aT m c) (row t r) (j 1) * aY m c (ix2 (row t r) (j 1))

theorem step7 (x : Vec Ideal S1x128 .f32) (j : S1x128.Idx) :
    k0_pay11 (k0_pay9 x) (k0_pay10 (iblk m c 1 t) (iblk m c 2 t) (iblk m c 0 t) (iblk m c 3 t) (iblk m c 4 t)) j
      = x j + part7 m c t j := by
  rw [p10]
  idx_vars j
  pointwise [k0_pay11, k0_pay9]
  rfl

theorem step8 (x : Vec Ideal S1x1024 .f32) (j : S1x1024.Idx) :
    k0_pay13 (k0_pay7 (iblk m c 1 t) (iblk m c 2 t) (iblk m c 0 t))
        (k0_pay8 (iblk m c 1 t) (iblk m c 2 t) (iblk m c 0 t) (iblk m c 3 t) (iblk m c 4 t)) x j = x j + part8 m c t j := by
  idx_vars j
  pointwise [k0_pay13]
  simp only [p12, p7]
  rfl

theorem step9 (x : Vec Ideal S1x1024 .f32) (j : S1x1024.Idx) :
    k0_pay16 (iblk m c 1 t) (k0_pay6 (iblk m c 1 t) (iblk m c 2 t) (iblk m c 0 t))
        (k0_pay7 (iblk m c 1 t) (iblk m c 2 t) (iblk m c 0 t)) (iblk m c 3 t)
        (k0_pay8 (iblk m c 1 t) (iblk m c 2 t) (iblk m c 0 t) (iblk m c 3 t) (iblk m c 4 t)) x j = x j + part9 m c t j := by
  idx_vars j
  pointwise [k0_pay16]
  simp only [p14, b1]
  rfl

theorem array7 : (dats m 0 c).arrAt 7 cfg0.N = fun j => ∑ t : Fin cfg0.N, part7 m c t j := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) (part7 m c)
    (fun t h j => by
      rw [outsAt0_A m c t h]
      frame_out
      rw [step7]
      pointwise [k0_pay1])
    (fun t h j => by
      rw [outsAt0_B m c t h]
      frame_out
      rw [step7])
    (le_of_eq N_0) t0_15 rfl j, zero_add]

theorem array8 : (dats m 0 c).arrAt 8 cfg0.N = dgf (aX m c) (aY m c) (aG m c) (aF m c) (aT m c) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0) (part8 m c)
    (fun t h j => by
      rw [outsAt0_A m c t h]
      frame_out
      rw [step8]
      pointwise [k0_pay2])
    (fun t h j => by
      rw [outsAt0_B m c t h]
      frame_out
      rw [step8])
    (le_of_eq N_0) t0_15 rfl j, zero_add]
  exact (sum_tiles fun r => dout (aX m c) (aY m c) (aG m c) (aF m c) (aT m c) r (j 1) * xn (aX m c) (aY m c) (aG m c) r (j 1))

theorem array9 : (dats m 0 c).arrAt 9 cfg0.N = dgate (aX m c) (aY m c) (aG m c) (aF m c) (aT m c) := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0) (part9 m c)
    (fun t h j => by
      rw [outsAt0_A m c t h]
      frame_out
      rw [step9]
      pointwise [k0_pay3])
    (fun t h j => by
      rw [outsAt0_B m c t h]
      frame_out
      rw [step9])
    (le_of_eq N_0) t0_15 rfl j, zero_add]
  exact (sum_tiles fun r => d2 (aX m c) (aY m c) (aG m c) (aF m c) (aT m c) r (j 1) * aY m c (ix2 r (j 1)))

end Cert.LossIdeal.Hand

end
-- ==== Proof.LossClaim.lean ====
/- The value claim of the loss call: both programs leave the arrays of `LossSpec`. -/
module

public import proofs.«01_k».proof.Defs
public import proofs.«01_k».proof.Proof.Gen.Pre_loss_finite
public import proofs.«01_k».proof.Proof.Gen.LossRefIdeal.Run
public import proofs.«01_k».proof.Proof.Gen.LossRefIdeal.Read
public import proofs.«01_k».proof.Proof.LossKernel

@[expose] public section

set_option maxRecDepth 16384

noncomputable section

namespace LossSpec

open Idealize.ShloMosaic Real1 Norm

variable {X Y : AX} {G F : AV} {T : AX}

theorem isR_x2 (hX : ∀ i, IsR (X i)) (hY : ∀ i, IsR (Y i)) (hG : ∀ i, IsR (G i)) (r : Fin 4096) (l : Fin 1024) : IsR (x2 X Y G r l) :=
  (hX _).add ((isR_one.add (hG _)).mul (hY _))

theorem isR_xn (hX : ∀ i, IsR (X i)) (hY : ∀ i, IsR (Y i)) (hG : ∀ i, IsR (G i)) (r : Fin 4096) (l : Fin 1024) : IsR (xn X Y G r l) :=
  (isR_x2 hX hY hG r l).mul (isR_rs (isR_x2 hX hY hG r))

theorem isR_err (hX : ∀ i, IsR (X i)) (hY : ∀ i, IsR (Y i)) (hG : ∀ i, IsR (G i)) (hF : ∀ i, IsR (F i)) (hT : ∀ i, IsR (T i))
    (r : Fin 4096) (l : Fin 1024) : IsR (err X Y G F T r l) :=
  ((isR_xn hX hY hG r l).mul (hF _)).sub (hT _)

theorem isR_dxn (hX : ∀ i, IsR (X i)) (hY : ∀ i, IsR (Y i)) (hG : ∀ i, IsR (G i)) (hF : ∀ i, IsR (F i)) (hT : ∀ i, IsR (T i))
    (r : Fin 4096) (l : Fin 1024) : IsR (dxn X Y G F T r l) :=
  ((isR_err hX hY hG hF hT r l).mul (by rw [rwid_eq]; exact isR_coe _)).mul (hF _)

theorem isR_sq (hX : ∀ i, IsR (X i)) (hY : ∀ i, IsR (Y i)) (hG : ∀ i, IsR (G i)) (hF : ∀ i, IsR (F i)) (hT : ∀ i, IsR (T i))
    (r : Fin 4096) : IsR (LossSpec.sq X Y G F T r) :=
  isR_div (isR_sum _ _ fun l _ => (isR_err hX hY hG hF hT r l).mul (isR_err hX hY hG hF hT r l))

/-- The reference's share of the error. -/
theorem share {x : EReal} (h : IsR x) : Ideal.div hlf wid * (two * x) = x * rwid := by
  obtain ⟨x, rfl⟩ := h
  rw [div_wid, hlf_eq, two_eq, rwid_eq]
  simp only [← EReal.coe_mul]
  congr 1
  ring

/-- Half a sum of reals. -/
theorem half_sum {ι : Type} [Fintype ι] {f : ι → EReal} (h : ∀ i, IsR (f i)) : hlf * ∑ i, f i = ∑ i, hlf * f i := by
  choose g hg using h
  rw [AttnReal.sum_coe hg, hlf_eq, ← EReal.coe_mul, AttnReal.sum_coe (f := fun i => 1 / 2 * g i) (fun i => by rw [hg, EReal.coe_mul]),
    Finset.mul_sum]

end LossSpec

namespace Cert.LossRefIdeal.Hand

open Cert.LossRefIdeal Cert.LossRefIdeal.Read Idealize.ShloMosaic Real1
open LossSpec Norm

variable (X Y : AX) (G F : AV) (T : AX)

theorem x2_apply (r : Fin 4096) (l : Fin 1024) : val_main_v4 (F := Ideal) X Y G (ix2 r l) = x2 X Y G r l := by
  pointwise [val_main_cst, val_main_v0, val_main_v1, val_main_v2, val_main_v3, val_main_v4]
  rfl

theorem arg_apply (r : Fin 4096) (u : Fin 1) : val_main_v11 (F := Ideal) X Y G (ix2 r u) = arg (x2 X Y G r) := by
  pointwise [val_main_v5, val_main_cst_0, val_main_v6, val_main_v7, val_main_cst_1, val_main_v8, val_main_v9, val_main_cst_2,
    val_main_v10, val_main_v11]
  simp only [x2_apply]
  rfl

theorem rs_apply (r : Fin 4096) (u : Fin 1) : val_main_v12 (F := Ideal) X Y G (ix2 r u) = rs (x2 X Y G r) := by
  pointwise [val_main_v12]
  rw [arg_apply]
  rfl

theorem xn_apply (r : Fin 4096) (l : Fin 1024) : val_main_v17 (F := Ideal) X Y G (ix2 r l) = xn X Y G r l := by
  pointwise [val_main_v16, val_main_v17]
  rw [x2_apply, rs_apply]
  rfl

theorem err_apply (r : Fin 4096) (l : Fin 1024) : val_main_v20 (F := Ideal) X Y G F T (ix2 r l) = err X Y G F T r l := by
  pointwise [val_main_v18, val_main_v19, val_main_v20]
  rw [xn_apply]
  rfl

variable (hX : ∀ i, IsR (X i)) (hY : ∀ i, IsR (Y i)) (hG : ∀ i, IsR (G i)) (hF : ∀ i, IsR (F i)) (hT : ∀ i, IsR (T i))
include hX hY hG hF hT

theorem dout_apply (r : Fin 4096) (l : Fin 1024) : val_main_v34 (F := Ideal) X Y G F T (ix2 r l) = dout X Y G F T r l := by
  pointwise [val_main_cst_4, val_main_v22, val_main_v23, val_main_cst_9, val_main_cst_10, val_main_v29, val_main_v30,
    val_main_cst_11, val_main_v31, val_main_v32, val_main_v33, val_main_v34]
  rw [err_apply]
  exact share (isR_err hX hY hG hF hT r l)

theorem dxn_apply (r : Fin 4096) (l : Fin 1024) : val_main_v39 (F := Ideal) X Y G F T (ix2 r l) = dxn X Y G F T r l := by
  pointwise [val_main_v38, val_main_v39]
  rw [dout_apply X Y G F T hX hY hG hF hT]
  rfl

theorem fac_apply (r : Fin 4096) : val_main_v48 (F := Ideal) X Y G F T (ix1 r) = fac (x2 X Y G r) (dxn X Y G F T r) := by
  pointwise [val_main_v13, val_main_cst_3, val_main_v14, val_main_v15, val_main_v40, val_main_cst_13, val_main_v41, val_main_v42,
    val_main_v45, val_main_cst_14, val_main_v46, val_main_v47, val_main_cst_15, val_main_v48]
  simp only [x2_apply, dxn_apply X Y G F T hX hY hG hF hT, rs_apply, arg_apply, Fin.sum_univ_one]
  rfl

theorem d2_apply (r : Fin 4096) (l : Fin 1024) : val_main_v53 (F := Ideal) X Y G F T (ix2 r l) = d2 X Y G F T r l := by
  pointwise [val_main_v43, val_main_v44, val_main_v49, val_main_v50, val_main_v51, val_main_v52, val_main_v53]
  rw [x2_apply, dxn_apply X Y G F T hX hY hG hF hT, rs_apply, fac_apply X Y G F T hX hY hG hF hT]
  exact bwd_eq (isR_x2 hX hY hG r) (isR_dxn hX hY hG hF hT r) l

theorem out1_apply (r : Fin 4096) (l : Fin 1024) : val_main_v59 (F := Ideal) X Y G F T (ix2 r l) = dyo X Y G F T (ix2 r l) := by
  pointwise [val_main_cst, val_main_v0, val_main_v1, val_main_v54, val_main_v55, val_main_v59]
  rw [d2_apply X Y G F T hX hY hG hF hT, mul_comm]
  rfl

theorem out2_apply (u : Fin 1) (l : Fin 128) : val_main_v60 (F := Ideal) X Y G F T (ix2 u l) = loss X Y G F T (ix2 u l) := by
  pointwise [val_main_v21, val_main_cst_5, val_main_v24, val_main_cst_6, val_main_v25, val_main_v26, val_main_cst_7, val_main_v27,
    val_main_cst_8, val_main_v28, val_main_v60]
  simp only [err_apply]
  exact half_sum (isR_sq hX hY hG hF hT)

theorem out3_apply (u : Fin 1) (l : Fin 1024) : val_main_v37 (F := Ideal) X Y G F T (ix2 u l) = dgf X Y G F T (ix2 u l) := by
  pointwise [val_main_v35, val_main_cst_12, val_main_v36, val_main_v37]
  simp only [xn_apply, dout_apply X Y G F T hX hY hG hF hT]
  exact Finset.sum_congr rfl fun r _ => mul_comm _ _

theorem out4_apply (u : Fin 1) (l : Fin 1024) : val_main_v58 (F := Ideal) X Y G F T (ix2 u l) = dgate X Y G F T (ix2 u l) := by
  pointwise [val_main_v56, val_main_cst_16, val_main_v57, val_main_v58]
  simp only [d2_apply X Y G F T hX hY hG hF hT]
  rfl

end Cert.LossRefIdeal.Hand

namespace Cert.LossClaim

open Idealize.ShloMosaic Idealize.ShloMosaic.TcCoe Idealize.SL.Sem Real1
open LossSpec Norm
open Cert.LossIdeal.Hand (aX aY aG aF aT)

variable (m : (ℓ : Loc Cert.LossIdeal.nD Cert.LossIdeal.τ Cert.LossIdeal.sig) → Buf (Elt Ideal) ℓ)

/-- The precondition, entry by entry. -/
theorem real_args (h : Cert.Pre_LossIdeal_loss_finite m) (c : Dev Cert.LossIdeal.nD) :
    (∀ i, IsR (aX m c i)) ∧ (∀ i, IsR (aY m c i)) ∧ (∀ i, IsR (aG m c i)) ∧ (∀ i, IsR (aF m c i)) ∧ (∀ i, IsR (aT m c i)) := by
  obtain ⟨h0, h1, h2, h3, h4⟩ := h c
  refine ⟨fun i => ?_, fun i => ?_, fun i => ?_, fun i => ?_, fun i => ?_⟩
  · have h := congrFun h0 i
    pointwise [Cert.Pre_loss_finite.fn] at h
    exact isR_of_bit h
  · have h := congrFun h1 i
    pointwise [Cert.Pre_loss_finite.fn] at h
    exact isR_of_bit h
  · have h := congrFun h2 i
    pointwise [Cert.Pre_loss_finite.fn] at h
    exact isR_of_bit h
  · have h := congrFun h3 i
    pointwise [Cert.Pre_loss_finite.fn] at h
    exact isR_of_bit h
  · have h := congrFun h4 i
    pointwise [Cert.Pre_loss_finite.fn] at h
    exact isR_of_bit h

/-- The kernel halves each tile's part of the loss. -/
theorem tiles_loss (h : Cert.Pre_LossIdeal_loss_finite m) (c : Dev Cert.LossIdeal.nD) :
    (fun j => ∑ t, Cert.LossIdeal.Hand.part7 m c t j) = loss (aX m c) (aY m c) (aG m c) (aF m c) (aT m c) := by
  obtain ⟨f0, f1, f2, f3, f4⟩ := real_args m h c
  refine funext fun j => ?_
  refine Eq.trans (Finset.sum_congr rfl fun t _ => ?_)
    (Cert.LossIdeal.Hand.sum_tiles fun r => hlf * LossSpec.sq (aX m c) (aY m c) (aG m c) (aF m c) (aT m c) r)
  exact half_sum fun r => isR_sq f0 f1 f2 f3 f4 _

theorem algebraic : Cert.algebraic_LossIdeal_LossRefIdeal_pre_loss_finite := fun m g m' g' hpre hargs => by
  refine ⟨fun c => dx (aX m c) (aY m c) (aG m c) (aF m c) (aT m c), fun c => dyo (aX m c) (aY m c) (aG m c) (aF m c) (aT m c),
    fun c => loss (aX m c) (aY m c) (aG m c) (aF m c) (aT m c), fun c => dgf (aX m c) (aY m c) (aG m c) (aF m c) (aT m c),
    fun c => dgate (aX m c) (aY m c) (aG m c) (aF m c) (aT m c), ?_, ?_⟩
  · exact (θ_run Cert.LossIdeal.defs _ _).mono (fun r h c =>
      ⟨(h c).1.trans (Cert.LossIdeal.Hand.array5 m c), (h c).2.1.trans (Cert.LossIdeal.Hand.array6 m c),
        (h c).2.2.1.trans ((Cert.LossIdeal.Hand.array7 m c).trans (tiles_loss m hpre c)),
        (h c).2.2.2.1.trans (Cert.LossIdeal.Hand.array8 m c), (h c).2.2.2.2.1.trans (Cert.LossIdeal.Hand.array9 m c),
        (h c).2.2.2.2.2⟩) (Cert.LossIdeal.Value.run_blocks m g)
  · refine (θ_run Cert.LossRefIdeal.defs _ _).mono (fun r h c => ?_) (Cert.LossRefIdeal.Value.run m' g')
    obtain ⟨r0, r1, r2, r3, r4, kept⟩ := h c
    obtain ⟨a0, a1, a2, a3, a4⟩ := hargs c
    obtain ⟨f0, f1, f2, f3, f4⟩ := real_args m hpre c
    refine ⟨r0.trans ?_, r1.trans ?_, r2.trans ?_, r3.trans ?_, r4.trans ?_, kept⟩
    · rw [Cert.LossRefIdeal.Read.val_main_v53_eq, a0, a1, a2, a3, a4]
      refine funext fun j => ?_
      idx_vars j
      exact Cert.LossRefIdeal.Hand.d2_apply _ _ _ _ _ f0 f1 f2 f3 f4 _ _
    · rw [Cert.LossRefIdeal.Read.val_main_v59_eq, a0, a1, a2, a3, a4]
      refine funext fun j => ?_
      idx_vars j
      exact Cert.LossRefIdeal.Hand.out1_apply _ _ _ _ _ f0 f1 f2 f3 f4 _ _
    · refine (Cert.LossRefIdeal.Read.val_main_v60_eq _ _ _ _ _).trans ?_
      rw [a0, a1, a2, a3, a4]
      refine funext fun j => ?_
      idx_vars j
      exact Cert.LossRefIdeal.Hand.out2_apply _ _ _ _ _ f0 f1 f2 f3 f4 _ _
    · refine (Cert.LossRefIdeal.Read.val_main_v37_eq _ _ _ _ _).trans ?_
      rw [a0, a1, a2, a3, a4]
      refine funext fun j => ?_
      idx_vars j
      exact Cert.LossRefIdeal.Hand.out3_apply _ _ _ _ _ f0 f1 f2 f3 f4 _ _
    · rw [Cert.LossRefIdeal.Read.val_main_v58_eq, a0, a1, a2, a3, a4]
      refine funext fun j => ?_
      idx_vars j
      exact Cert.LossRefIdeal.Hand.out4_apply _ _ _ _ _ f0 f1 f2 f3 f4 _ _

end Cert.LossClaim

end
-- ==== Proof.LnSpec.lean ====
/- The gradient of the second layer's norm and of the residual step before it, entry by entry over the extended reals: what
   both programs are shown to compute. -/
module

public import proofs.«01_k».proof.Proof.NormReal

@[expose] public section

noncomputable section

namespace LnSpec

open Idealize.ShloMosaic Real1 Norm

/-- The residual stream, a vector of the width, the eight parts of the layer's weight, and the projection's cotangent. -/
abbrev AX := (⟨2, ![4096, 1024]⟩ : Shape).Idx → EReal
abbrev AV := (⟨2, ![1, 1024]⟩ : Shape).Idx → EReal
abbrev AW := (⟨3, ![8, 1024, 1024]⟩ : Shape).Idx → EReal
abbrev AP := (⟨2, ![4096, 8192]⟩ : Shape).Idx → EReal

/-- Column `k` of part `d` of the projection. -/
def part (d : Fin 8) (k : Fin 1024) : Fin 8192 := ⟨d.val * 1024 + k.val, by omega⟩

variable (X Y : AX) (A G S : AV) (W : AW) (P : AP) (D : AX)

/-- A row of the residual stream after the step, and the row normed. -/
def x1 (r : Fin 4096) (l : Fin 1024) : EReal := X (ix2 r l) + (1 + A (ix2 0 l)) * Y (ix2 r l)
def xn (r : Fin 4096) (l : Fin 1024) : EReal := x1 X Y A r l * rs (x1 X Y A r)
/-- One part's share of the cotangent of the modulated row, and all eight. -/
def dhp (r : Fin 4096) (l : Fin 1024) (d : Fin 8) : EReal := ∑ k, P (ix2 r (part d k)) * W (ix3 d l k)
def dh (r : Fin 4096) (l : Fin 1024) : EReal := ∑ d, dhp W P r l d
def dn (r : Fin 4096) (l : Fin 1024) : EReal := dh W P r l * (1 + S (ix2 0 l))
def dxn (r : Fin 4096) (l : Fin 1024) : EReal := dn S W P r l * G (ix2 0 l)
def d1 (r : Fin 4096) (l : Fin 1024) : EReal := D (ix2 r l) + bwd (x1 X Y A r) (dxn G S W P r) l

/-- The residual stream after the step. -/
def sav : AX := fun i => x1 X Y A (i 0) (i 1)

def dx : AX := fun i => d1 X Y A G S W P D (i 0) (i 1)
def dsh : AV := fun i => ∑ r, dh W P r (i 1)
def dsc : AV := fun i => ∑ r, dh W P r (i 1) * (xn X Y A r (i 1) * G (ix2 0 (i 1)))
def dg : AV := fun i => ∑ r, dn S W P r (i 1) * xn X Y A r (i 1)
def dyo : AX := fun i => d1 X Y A G S W P D (i 0) (i 1) * (1 + A (ix2 0 (i 1)))
def dgate : AV := fun i => ∑ r, d1 X Y A G S W P D r (i 1) * Y (ix2 r (i 1))

end LnSpec

end
-- ==== Proof.LnKernel.lean ====
/- The six results of the norm's gradient call, read entry by entry. -/
module

public import proofs.«01_k».proof.Proof.Gen.LnIdeal.Frame
public import proofs.«01_k».proof.Proof.LnSpec
public import Idealize.ShloMosaic.Lib.Pipeline.ValueKit
public import Idealize.ShloMosaic.Lib.Pipeline.ReadBack

@[expose] public section

set_option maxRecDepth 16384

noncomputable section

namespace Cert.LnIdeal.Hand

open Cert.LnIdeal Cert.LnIdeal.Gen Idealize.ShloMosaic Idealize.ShloMosaic.TcCoe Idealize.SL.Sem
open Idealize.ShloMosaic.Pipeline (Dat)
open LnSpec Norm

/-- Where each window's block sits at point `t` of the forward call, and of the backward call. -/
abbrev Idx0 (t : Fin grid0.N) : Prop :=
  win0_0.index t = ![t.val, 0] ∧ win0_1.index t = ![t.val, 0] ∧ win0_2.index t = ![0, 0] ∧ win0_6.index t = ![t.val, 0]
abbrev Idx1 (t : Fin grid1.N) : Prop :=
  (win1_0.index t = ![t.val, 0] ∧ win1_1.index t = ![0, 0, 0] ∧ win1_2.index t = ![t.val, 0]
    ∧ win1_3.index t = ![t.val, 0] ∧ win1_4.index t = ![0, 0] ∧ win1_5.index t = ![0, 0] ∧ win1_6.index t = ![t.val, 0]
    ∧ win1_7.index t = ![0, 0])
  ∧ (win1_8.index t = ![t.val, 0] ∧ win1_9.index t = ![0, 0] ∧ win1_10.index t = ![0, 0] ∧ win1_11.index t = ![0, 0]
    ∧ win1_12.index t = ![t.val, 0] ∧ win1_13.index t = ![0, 0])

theorem idx0 (t : Fin cfg0.N) : Idx0 t := (by decide +kernel : ∀ t : Fin grid0.N, Idx0 t) t
theorem idx1 (t : Fin cfg1.N) : Idx1 t := (by decide +kernel : ∀ t : Fin grid1.N, Idx1 t) t

theorem point_lt0 (t : Fin cfg0.N) : t.val < 16 := lt_of_lt_of_eq t.isLt Gen.N_0
theorem point_lt1 (t : Fin cfg1.N) : t.val < 16 := lt_of_lt_of_eq t.isLt Gen.N_1

variable (m : (ℓ : Loc nD τ sig) → Buf (Elt Ideal) ℓ) (ρ : Dev nD → PrngReg) (c : Dev nD)

/-- The nine arguments on device `c` (the shift is in none of the gradients). -/
abbrev aX : AX := m ((c.tc : Thread nD τ).loc main_arg0)
abbrev aY : AX := m ((c.tc : Thread nD τ).loc main_arg1)
abbrev aA : AV := m ((c.tc : Thread nD τ).loc main_arg2)
abbrev aG : AV := m ((c.tc : Thread nD τ).loc main_arg3)
abbrev aS : AV := m ((c.tc : Thread nD τ).loc main_arg4)
abbrev aH : AV := m ((c.tc : Thread nD τ).loc main_arg5)
abbrev aW : AW := m ((c.tc : Thread nD τ).loc main_arg6)
abbrev aP : AP := m ((c.tc : Thread nD τ).loc main_arg7)
abbrev aD : AX := m ((c.tc : Thread nD τ).loc main_arg8)

/-- Row `r` of the tile of point `t` of either call. -/
def row {n : ℕ} (t : Fin n) (h : t.val < 16) (r : Fin 256) : Fin 4096 := ⟨t.val * 256 + r.val, by omega⟩

section Forward
variable (t : Fin cfg0.N)

theorem f0 (r : Fin 256) (l : Fin 1024) : iblk0 (V0 m ρ) c 0 t (ix2 r l) = aX m c (ix2 (row t (point_lt0 t) r) l) := by
  blk_ext [iblk0, V0, W0, s₀, idx0 t, row]
theorem f1 (r : Fin 256) (l : Fin 1024) : iblk0 (V0 m ρ) c 1 t (ix2 r l) = aY m c (ix2 (row t (point_lt0 t) r) l) := by
  blk_ext [iblk0, V0, W0, s₀, idx0 t, row]
theorem f2 (r : Fin 1) (l : Fin 1024) : iblk0 (V0 m ρ) c 2 t (ix2 r l) = aA m c (ix2 0 l) := by
  blk_ext [iblk0, V0, W0, s₀, idx0 t]

theorem tile (r : Fin 256) (l : Fin 1024) :
    out0_6 (iblk0 (V0 m ρ) c 0 t) (iblk0 (V0 m ρ) c 1 t) (iblk0 (V0 m ρ) c 2 t) (iblk0 (V0 m ρ) c 3 t)
      (iblk0 (V0 m ρ) c 4 t) (iblk0 (V0 m ρ) c 5 t) (ix2 r l)
      = sav (aX m c) (aY m c) (aA m c) (ix2 (row t (point_lt0 t) r) l) := by
  unfold out0_6
  frame_out
  pointwise [k0_pay1]
  rw [f0, f1, f2]
  rfl

/-- What the forward call leaves in the residual stream's array. -/
theorem saved : (dat0 (V0 m ρ) c).arrAt 6 cfg0.N = sav (aX m c) (aY m c) (aA m c) := by
  refine (dat0 (V0 m ρ) c).arrAt_eq_of_covers 6 _ (by decide +kernel) fun t hf y => ?_
  blk_simp
  rw [after0_6]
  idx_vars y
  refine (tile m ρ c t y0 y1).trans ?_
  congr 1
  blk_ext [idx0 t, row]

end Forward

section Backward
variable (t : Fin cfg1.N)

/-- An argument's array as the backward call finds it. -/
theorem kept (a : Ref sig .tc) (h : a ∈ argRefs) : V1 m ρ c a = m ((c.tc : Thread nD τ).loc a) := W1_args m ρ c a h

theorem kept_v0 : V1 m ρ c main_v0_0 = sav (aX m c) (aY m c) (aA m c) := (W1_arr m ρ c 6).trans (saved m ρ c)

theorem b0 (r : Fin 256) (k : Fin 8192) : iblk1 (V1 m ρ) c 0 t (ix2 r k) = aP m c (ix2 (row t (point_lt1 t) r) k) := by
  refine Eq.trans ?_ (congrFun (kept m ρ c main_arg7 (by decide)) _)
  blk_ext [iblk1, idx1 t, row]
theorem b1 (d : Fin 8) (l k : Fin 1024) : iblk1 (V1 m ρ) c 1 t (ix3 d l k) = aW m c (ix3 d l k) := by
  refine Eq.trans ?_ (congrFun (kept m ρ c main_arg6 (by decide)) _)
  blk_ext [iblk1, idx1 t]
theorem b2 (r : Fin 256) (l : Fin 1024) :
    iblk1 (V1 m ρ) c 2 t (ix2 r l) = x1 (aX m c) (aY m c) (aA m c) (row t (point_lt1 t) r) l := by
  refine Eq.trans ?_ (congrFun (kept_v0 m ρ c) (ix2 (row t (point_lt1 t) r) l))
  blk_ext [iblk1, idx1 t, row]
theorem b3 (r : Fin 256) (l : Fin 1024) : iblk1 (V1 m ρ) c 3 t (ix2 r l) = aD m c (ix2 (row t (point_lt1 t) r) l) := by
  refine Eq.trans ?_ (congrFun (kept m ρ c main_arg8 (by decide)) _)
  blk_ext [iblk1, idx1 t, row]
theorem b4 (r : Fin 1) (l : Fin 1024) : iblk1 (V1 m ρ) c 4 t (ix2 r l) = aG m c (ix2 0 l) := by
  refine Eq.trans ?_ (congrFun (kept m ρ c main_arg3 (by decide)) _)
  blk_ext [iblk1, idx1 t]
theorem b5 (r : Fin 1) (l : Fin 1024) : iblk1 (V1 m ρ) c 5 t (ix2 r l) = aS m c (ix2 0 l) := by
  refine Eq.trans ?_ (congrFun (kept m ρ c main_arg4 (by decide)) _)
  blk_ext [iblk1, idx1 t]
theorem b6 (r : Fin 256) (l : Fin 1024) : iblk1 (V1 m ρ) c 6 t (ix2 r l) = aY m c (ix2 (row t (point_lt1 t) r) l) := by
  refine Eq.trans ?_ (congrFun (kept m ρ c main_arg1 (by decide)) _)
  blk_ext [iblk1, idx1 t, row]
theorem b7 (r : Fin 1) (l : Fin 1024) : iblk1 (V1 m ρ) c 7 t (ix2 r l) = aA m c (ix2 0 l) := by
  refine Eq.trans ?_ (congrFun (kept m ρ c main_arg2 (by decide)) _)
  blk_ext [iblk1, idx1 t]

/-- A part of the projection's cotangent, and of the weight. -/
theorem ldP (d : Fin 8) (o : ℕ) (ho : o = d.val * 1024) (h) (r : Fin 256) (k : Fin 1024) :
    View.ld (iblk1 (V1 m ρ) c 0 t) (Rect.unit ![0, o] ![256, 1024] h) (ix2 r k) = aP m c (ix2 (row t (point_lt1 t) r) (part d k)) := by
  refine Eq.trans ?_ (b0 m ρ c t r (part d k))
  unfold View.ld
  congr 1
  refine funext fun a => Fin.ext ?_
  match a with
  | ⟨0, _⟩ => show 0 + 1 * r.val = r.val; omega
  | ⟨1, _⟩ => show o + 1 * k.val = d.val * 1024 + k.val; omega

theorem ldW (d : Fin 8) (o : ℕ) (ho : o = d.val) (h) (u : Fin 1) (l k : Fin 1024) :
    View.ld (iblk1 (V1 m ρ) c 1 t) (Rect.unit ![o, 0, 0] ![1, 1024, 1024] h) (ix3 u l k) = aW m c (ix3 d l k) := by
  refine Eq.trans ?_ (b1 m ρ c t d l k)
  unfold View.ld
  congr 1
  refine funext fun a => Fin.ext ?_
  match a with
  | ⟨0, _⟩ => show o + 1 * u.val = d.val; omega
  | ⟨1, _⟩ => show 0 + 1 * l.val = l.val; omega
  | ⟨2, _⟩ => show 0 + 1 * k.val = k.val; omega

/-- The cotangent of the modulated rows in the tile: its first four parts, its fifth, and all of them. -/
abbrev qa := k1_pay7 (F := Ideal) (View.ld (iblk1 (V1 m ρ) c 0 t) (Rect.unit ![0, 0] ![256, 1024] inb_S256x8192_S256x1024_0_0))
    (View.ld (iblk1 (V1 m ρ) c 1 t) (Rect.unit ![0, 0, 0] ![1, 1024, 1024] inb_S8x1024x1024_S1x1024x1024_0_0_0))
    (View.ld (iblk1 (V1 m ρ) c 0 t) (Rect.unit ![0, 1024] ![256, 1024] inb_S256x8192_S256x1024_0_1024))
    (View.ld (iblk1 (V1 m ρ) c 1 t) (Rect.unit ![1, 0, 0] ![1, 1024, 1024] inb_S8x1024x1024_S1x1024x1024_1_0_0))
    (View.ld (iblk1 (V1 m ρ) c 0 t) (Rect.unit ![0, 2048] ![256, 1024] inb_S256x8192_S256x1024_0_2048))
    (View.ld (iblk1 (V1 m ρ) c 1 t) (Rect.unit ![2, 0, 0] ![1, 1024, 1024] inb_S8x1024x1024_S1x1024x1024_2_0_0))
    (View.ld (iblk1 (V1 m ρ) c 0 t) (Rect.unit ![0, 3072] ![256, 1024] inb_S256x8192_S256x1024_0_3072))
    (View.ld (iblk1 (V1 m ρ) c 1 t) (Rect.unit ![3, 0, 0] ![1, 1024, 1024] inb_S8x1024x1024_S1x1024x1024_3_0_0))
abbrev qb := k1_pay8 (F := Ideal) (View.ld (iblk1 (V1 m ρ) c 0 t) (Rect.unit ![0, 4096] ![256, 1024] inb_S256x8192_S256x1024_0_4096))
    (View.ld (iblk1 (V1 m ρ) c 1 t) (Rect.unit ![4, 0, 0] ![1, 1024, 1024] inb_S8x1024x1024_S1x1024x1024_4_0_0))
abbrev q := k1_pay9 (F := Ideal) (qa m ρ c t) (qb m ρ c t) (View.ld (iblk1 (V1 m ρ) c 0 t) (Rect.unit ![0, 5120] ![256, 1024] inb_S256x8192_S256x1024_0_5120))
    (View.ld (iblk1 (V1 m ρ) c 1 t) (Rect.unit ![5, 0, 0] ![1, 1024, 1024] inb_S8x1024x1024_S1x1024x1024_5_0_0))
    (View.ld (iblk1 (V1 m ρ) c 0 t) (Rect.unit ![0, 6144] ![256, 1024] inb_S256x8192_S256x1024_0_6144))
    (View.ld (iblk1 (V1 m ρ) c 1 t) (Rect.unit ![6, 0, 0] ![1, 1024, 1024] inb_S8x1024x1024_S1x1024x1024_6_0_0))
    (View.ld (iblk1 (V1 m ρ) c 0 t) (Rect.unit ![0, 7168] ![256, 1024] inb_S256x8192_S256x1024_0_7168))
    (View.ld (iblk1 (V1 m ρ) c 1 t) (Rect.unit ![7, 0, 0] ![1, 1024, 1024] inb_S8x1024x1024_S1x1024x1024_7_0_0))

/-- A row of a block of the cotangent against a row of a part of the weight. -/
def dot (p : Vec Ideal S256x1024 .bf16) (w : Vec Ideal S1x1024x1024 .bf16) (r : Fin 256) (l : Fin 1024) : EReal :=
  ∑ k : Fin 1024, p (ix2 r k) * w (ix3 0 l k)

theorem pay7 (p0 p1 p2 p3 : Vec Ideal S256x1024 .bf16) (w0 w1 w2 w3 : Vec Ideal S1x1024x1024 .bf16) (r : Fin 256) (l : Fin 1024) :
    k1_pay7 p0 w0 p1 w1 p2 w2 p3 w3 (ix2 r l) = dot p0 w0 r l + dot p1 w1 r l + dot p2 w2 r l + dot p3 w3 r l := by
  pointwise [k1_pay7]
  rfl
theorem pay8 (p : Vec Ideal S256x1024 .bf16) (w : Vec Ideal S1x1024x1024 .bf16) (r : Fin 256) (l : Fin 1024) :
    k1_pay8 p w (ix2 r l) = dot p w r l := by
  pointwise [k1_pay8]
  rfl
theorem pay9 (a b : Vec Ideal S256x1024 .f32) (p0 p1 p2 : Vec Ideal S256x1024 .bf16) (w0 w1 w2 : Vec Ideal S1x1024x1024 .bf16)
    (r : Fin 256) (l : Fin 1024) :
    k1_pay9 a b p0 w0 p1 w1 p2 w2 (ix2 r l) = a (ix2 r l) + b (ix2 r l) + dot p0 w0 r l + dot p1 w1 r l + dot p2 w2 r l := by
  pointwise [k1_pay9]
  rfl

theorem dot_part (d : Fin 8) (o o' : ℕ) (ho : o = d.val * 1024) (ho' : o' = d.val) (h h') (r : Fin 256) (l : Fin 1024) :
    dot (View.ld (iblk1 (V1 m ρ) c 0 t) (Rect.unit ![0, o] ![256, 1024] h))
        (View.ld (iblk1 (V1 m ρ) c 1 t) (Rect.unit ![o', 0, 0] ![1, 1024, 1024] h')) r l
      = dhp (aW m c) (aP m c) (row t (point_lt1 t) r) l d := by
  unfold dot
  simp only [ldP m ρ c t d o ho, ldW m ρ c t d o' ho']
  rfl

theorem qa_apply (r : Fin 256) (l : Fin 1024) : qa m ρ c t (ix2 r l)
    = dhp (aW m c) (aP m c) (row t (point_lt1 t) r) l 0 + dhp (aW m c) (aP m c) (row t (point_lt1 t) r) l 1
      + dhp (aW m c) (aP m c) (row t (point_lt1 t) r) l 2 + dhp (aW m c) (aP m c) (row t (point_lt1 t) r) l 3 := by
  unfold qa
  rw [pay7]
  rw [dot_part m ρ c t 0 0 0 rfl rfl, dot_part m ρ c t 1 1024 1 rfl rfl, dot_part m ρ c t 2 2048 2 rfl rfl,
    dot_part m ρ c t 3 3072 3 rfl rfl]

theorem qb_apply (r : Fin 256) (l : Fin 1024) : qb m ρ c t (ix2 r l) = dhp (aW m c) (aP m c) (row t (point_lt1 t) r) l 4 := by
  unfold qb
  rw [pay8]
  exact dot_part m ρ c t 4 4096 4 rfl rfl _ _ r l

theorem q_apply (r : Fin 256) (l : Fin 1024) : q m ρ c t (ix2 r l) = dh (aW m c) (aP m c) (row t (point_lt1 t) r) l := by
  unfold q
  rw [pay9]
  rw [qa_apply, qb_apply, dot_part m ρ c t 5 5120 5 rfl rfl, dot_part m ρ c t 6 6144 6 rfl rfl, dot_part m ρ c t 7 7168 7 rfl rfl]
  exact (Fin.sum_univ_eight _).symm

theorem p11 (r : Fin 256) (u : Fin 1) :
    k1_pay11 (iblk1 (V1 m ρ) c 2 t) (ix2 r u) = rs (x1 (aX m c) (aY m c) (aA m c) (row t (point_lt1 t) r)) := by
  pointwise [k1_pay11, k1_pay10]
  simp only [b2]
  rfl

theorem p12 (r : Fin 256) (l : Fin 1024) :
    k1_pay12 (iblk1 (V1 m ρ) c 2 t) (ix2 r l) = xn (aX m c) (aY m c) (aA m c) (row t (point_lt1 t) r) l := by
  pointwise [k1_pay12, k1_pay10]
  rw [b2, p11]
  rfl

theorem p17 (r : Fin 256) (l : Fin 1024) :
    k1_pay17 (q m ρ c t) (iblk1 (V1 m ρ) c 5 t) (ix2 r l) = dn (aS m c) (aW m c) (aP m c) (row t (point_lt1 t) r) l := by
  pointwise [k1_pay17]
  rw [q_apply, b5]
  rfl

/-- The residual stream's gradient in the tile. -/
abbrev z := k1_pay19 (F := Ideal) (q m ρ c t) (iblk1 (V1 m ρ) c 4 t) (k1_pay11 (iblk1 (V1 m ρ) c 2 t)) (k1_pay12 (iblk1 (V1 m ρ) c 2 t))
  (iblk1 (V1 m ρ) c 5 t) (iblk1 (V1 m ρ) c 3 t)

theorem z_apply (r : Fin 256) (l : Fin 1024) : z m ρ c t (ix2 r l)
    = d1 (aX m c) (aY m c) (aA m c) (aG m c) (aS m c) (aW m c) (aP m c) (aD m c) (row t (point_lt1 t) r) l := by
  unfold z
  pointwise [k1_pay19]
  simp only [p17, b4, p12, p11, b3]
  rfl

theorem p1 (r : Fin 256) (l : Fin 1024) : k1_pay1 (z m ρ c t) (iblk1 (V1 m ρ) c 7 t) (ix2 r l)
    = dyo (aX m c) (aY m c) (aA m c) (aG m c) (aS m c) (aW m c) (aP m c) (aD m c) (ix2 (row t (point_lt1 t) r) l) := by
  pointwise [k1_pay1]
  rw [z_apply, b7]
  rfl

/-- What one tile adds to the shift's, the scale's, the norm scale's and the gate's gradient. -/
def part9 (t : Fin cfg1.N) (j : S1x1024.Idx) : EReal := ∑ r : Fin 256, dh (aW m c) (aP m c) (row t (point_lt1 t) r) (j 1)
def part10 (t : Fin cfg1.N) (j : S1x1024.Idx) : EReal := ∑ r : Fin 256, dh (aW m c) (aP m c) (row t (point_lt1 t) r) (j 1)
  * (xn (aX m c) (aY m c) (aA m c) (row t (point_lt1 t) r) (j 1) * aG m c (ix2 0 (j 1)))
def part11 (t : Fin cfg1.N) (j : S1x1024.Idx) : EReal := ∑ r : Fin 256,
  dn (aS m c) (aW m c) (aP m c) (row t (point_lt1 t) r) (j 1) * xn (aX m c) (aY m c) (aA m c) (row t (point_lt1 t) r) (j 1)
def part13 (t : Fin cfg1.N) (j : S1x1024.Idx) : EReal := ∑ r : Fin 256,
  d1 (aX m c) (aY m c) (aA m c) (aG m c) (aS m c) (aW m c) (aP m c) (aD m c) (row t (point_lt1 t) r) (j 1)
    * aY m c (ix2 (row t (point_lt1 t) r) (j 1))

theorem step9 (x : Vec Ideal S1x1024 .f32) (j : S1x1024.Idx) :
    k1_pay15 (k1_pay13 x) (k1_pay14 (qa m ρ c t) (qb m ρ c t) (View.ld (iblk1 (V1 m ρ) c 0 t) (Rect.unit ![0, 5120] ![256, 1024] inb_S256x8192_S256x1024_0_5120))
      (View.ld (iblk1 (V1 m ρ) c 1 t) (Rect.unit ![5, 0, 0] ![1, 1024, 1024] inb_S8x1024x1024_S1x1024x1024_5_0_0))
      (View.ld (iblk1 (V1 m ρ) c 0 t) (Rect.unit ![0, 6144] ![256, 1024] inb_S256x8192_S256x1024_0_6144))
      (View.ld (iblk1 (V1 m ρ) c 1 t) (Rect.unit ![6, 0, 0] ![1, 1024, 1024] inb_S8x1024x1024_S1x1024x1024_6_0_0))
      (View.ld (iblk1 (V1 m ρ) c 0 t) (Rect.unit ![0, 7168] ![256, 1024] inb_S256x8192_S256x1024_0_7168))
      (View.ld (iblk1 (V1 m ρ) c 1 t) (Rect.unit ![7, 0, 0] ![1, 1024, 1024] inb_S8x1024x1024_S1x1024x1024_7_0_0))) j = x j + part9 m c t j := by
  idx_vars j
  pointwise [k1_pay15, k1_pay13, k1_pay14]
  simp only [q_apply]
  rfl

theorem step10 (x : Vec Ideal S1x1024 .f32) (j : S1x1024.Idx) :
    k1_pay16 (q m ρ c t) (iblk1 (V1 m ρ) c 4 t) (k1_pay12 (iblk1 (V1 m ρ) c 2 t)) x j = x j + part10 m c t j := by
  idx_vars j
  pointwise [k1_pay16]
  simp only [q_apply, p12, b4]
  rfl

theorem step11 (x : Vec Ideal S1x1024 .f32) (j : S1x1024.Idx) :
    k1_pay18 (q m ρ c t) (k1_pay12 (iblk1 (V1 m ρ) c 2 t)) (iblk1 (V1 m ρ) c 5 t) x j = x j + part11 m c t j := by
  idx_vars j
  pointwise [k1_pay18]
  simp only [p17, p12]
  rfl

theorem step13 (x : Vec Ideal S1x1024 .f32) (j : S1x1024.Idx) :
    k1_pay2 (z m ρ c t) x (iblk1 (V1 m ρ) c 6 t) j = x j + part13 m c t j := by
  idx_vars j
  pointwise [k1_pay2]
  simp only [z_apply, b6]
  rfl

theorem tile8 (r : Fin 256) (l : Fin 1024) : (outsAt1 (V1 m ρ) c t.val t.isLt).1 (ix2 r l)
    = dx (aX m c) (aY m c) (aA m c) (aG m c) (aS m c) (aW m c) (aP m c) (aD m c) (ix2 (row t (point_lt1 t) r) l) := by
  by_cases h0 : t.val % 16 = 0
  · rw [outsAt1_A (V1 m ρ) c t h0]
    frame_out
    exact z_apply m ρ c t r l
  · rw [outsAt1_B (V1 m ρ) c t h0]
    frame_out
    exact z_apply m ρ c t r l

theorem tile12 (r : Fin 256) (l : Fin 1024) : (outsAt1 (V1 m ρ) c t.val t.isLt).2.2.2.2.1 (ix2 r l)
    = dyo (aX m c) (aY m c) (aA m c) (aG m c) (aS m c) (aW m c) (aP m c) (aD m c) (ix2 (row t (point_lt1 t) r) l) := by
  by_cases h0 : t.val % 16 = 0
  · rw [outsAt1_A (V1 m ρ) c t h0]
    frame_out
    exact p1 m ρ c t r l
  · rw [outsAt1_B (V1 m ρ) c t h0]
    frame_out
    exact p1 m ρ c t r l

end Backward

theorem array8 : (dat1 (V1 m ρ) c).arrAt 8 cfg1.N = dx (aX m c) (aY m c) (aA m c) (aG m c) (aS m c) (aW m c) (aP m c) (aD m c) := by
  refine (dat1 (V1 m ρ) c).arrAt_eq_of_covers 8 _ (by decide +kernel) fun t hf y => ?_
  blk_simp
  rw [after1_8]
  idx_vars y
  refine (tile8 m ρ c t y0 y1).trans ?_
  congr 1
  blk_ext [idx1 t, row]

theorem array12 : (dat1 (V1 m ρ) c).arrAt 12 cfg1.N = dyo (aX m c) (aY m c) (aA m c) (aG m c) (aS m c) (aW m c) (aP m c) (aD m c) := by
  refine (dat1 (V1 m ρ) c).arrAt_eq_of_covers 12 _ (by decide +kernel) fun t hf y => ?_
  blk_simp
  rw [after1_12]
  idx_vars y
  refine (tile12 m ρ c t y0 y1).trans ?_
  congr 1
  blk_ext [idx1 t, row]

/-- A sum over the tiles of sums over their rows. -/
theorem sum_tiles (f : Fin 4096 → EReal) : ∑ t : Fin cfg1.N, ∑ r : Fin 256, f (row t (point_lt1 t) r) = ∑ r : Fin 4096, f r := by
  have h := @Fin.sum_points_lanes_congr EReal inferInstance cfg1.N 256 1 4096 16
    (fun t r => f (row t (point_lt1 t) r)) (fun _ r => f r) (fun t k ha hl => by
      have := point_lt1 t
      exact congrArg f (Fin.ext (by show t.val * 256 + k.val = t.val % 16 * 256 + k.val; omega)))
    (by decide) (by decide)
  exact h.trans (Fin.sum_univ_one _)

theorem array9 : (dat1 (V1 m ρ) c).arrAt 9 cfg1.N = dsh (aW m c) (aP m c) := by
  refine (dat1 (V1 m ρ) c).arrAt_eq_of_after_last 9 t1_15 (by decide +kernel) _ fun j => ?_
  blk_simp
  rw [after1_9, Pipeline.eq_sum_fin_of_reset_step_apply_last (fun n h => (outsAt1 (V1 m ρ) c n h).2.1) 16 (fun _ => 0) (part9 m c)
    (fun t h j => by
      rw [outsAt1_A (V1 m ρ) c t h]
      frame_out
      refine (step9 m ρ c t _ j).trans ?_
      pointwise [k1_pay3])
    (fun t h j => by
      rw [outsAt1_B (V1 m ρ) c t h]
      frame_out
      exact step9 m ρ c t _ j)
    (le_of_eq N_1) t1_15 rfl j, zero_add]
  exact sum_tiles fun r => dh (aW m c) (aP m c) r (j 1)

theorem array10 : (dat1 (V1 m ρ) c).arrAt 10 cfg1.N = dsc (aX m c) (aY m c) (aA m c) (aG m c) (aW m c) (aP m c) := by
  refine (dat1 (V1 m ρ) c).arrAt_eq_of_after_last 10 t1_15 (by decide +kernel) _ fun j => ?_
  blk_simp
  rw [after1_10, Pipeline.eq_sum_fin_of_reset_step_apply_last (fun n h => (outsAt1 (V1 m ρ) c n h).2.2.1) 16 (fun _ => 0) (part10 m c)
    (fun t h j => by
      rw [outsAt1_A (V1 m ρ) c t h]
      frame_out
      refine (step10 m ρ c t _ j).trans ?_
      pointwise [k1_pay4])
    (fun t h j => by
      rw [outsAt1_B (V1 m ρ) c t h]
      frame_out
      exact step10 m ρ c t _ j)
    (le_of_eq N_1) t1_15 rfl j, zero_add]
  exact sum_tiles fun r => dh (aW m c) (aP m c) r (j 1) * (xn (aX m c) (aY m c) (aA m c) r (j 1) * aG m c (ix2 0 (j 1)))

theorem array11 : (dat1 (V1 m ρ) c).arrAt 11 cfg1.N = dg (aX m c) (aY m c) (aA m c) (aS m c) (aW m c) (aP m c) := by
  refine (dat1 (V1 m ρ) c).arrAt_eq_of_after_last 11 t1_15 (by decide +kernel) _ fun j => ?_
  blk_simp
  rw [after1_11, Pipeline.eq_sum_fin_of_reset_step_apply_last (fun n h => (outsAt1 (V1 m ρ) c n h).2.2.2.1) 16 (fun _ => 0) (part11 m c)
    (fun t h j => by
      rw [outsAt1_A (V1 m ρ) c t h]
      frame_out
      refine (step11 m ρ c t _ j).trans ?_
      pointwise [k1_pay5])
    (fun t h j => by
      rw [outsAt1_B (V1 m ρ) c t h]
      frame_out
      exact step11 m ρ c t _ j)
    (le_of_eq N_1) t1_15 rfl j, zero_add]
  exact sum_tiles fun r => dn (aS m c) (aW m c) (aP m c) r (j 1) * xn (aX m c) (aY m c) (aA m c) r (j 1)

theorem array13 : (dat1 (V1 m ρ) c).arrAt 13 cfg1.N = dgate (aX m c) (aY m c) (aA m c) (aG m c) (aS m c) (aW m c) (aP m c) (aD m c) := by
  refine (dat1 (V1 m ρ) c).arrAt_eq_of_after_last 13 t1_15 (by decide +kernel) _ fun j => ?_
  blk_simp
  rw [after1_13, Pipeline.eq_sum_fin_of_reset_step_apply_last (fun n h => (outsAt1 (V1 m ρ) c n h).2.2.2.2.2) 16 (fun _ => 0) (part13 m c)
    (fun t h j => by
      rw [outsAt1_A (V1 m ρ) c t h]
      frame_out
      refine (step13 m ρ c t _ j).trans ?_
      pointwise [k1_pay6])
    (fun t h j => by
      rw [outsAt1_B (V1 m ρ) c t h]
      frame_out
      exact step13 m ρ c t _ j)
    (le_of_eq N_1) t1_15 rfl j, zero_add]
  exact sum_tiles fun r => d1 (aX m c) (aY m c) (aA m c) (aG m c) (aS m c) (aW m c) (aP m c) (aD m c) r (j 1) * aY m c (ix2 r (j 1))

section Launch
open Idealize.ShloMosaic.Tactic Idealize.SL Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

set_option backward.isDefEq.respectTransparency.types false in
/-- The launch of the two calls: what the results' arrays hold at the end. -/
theorem run : θ_run defs (onTc (τ := τ) (main (F := Ideal))) ⟨m, fun _ => 0, ρ⟩ (fun r => ∀ c : Dev nD,
      r.2.mem ((c.tc : Thread nD τ).loc main_v1_0) = dx (aX m c) (aY m c) (aA m c) (aG m c) (aS m c) (aW m c) (aP m c) (aD m c)
      ∧ r.2.mem ((c.tc : Thread nD τ).loc main_v1_1) = dsh (aW m c) (aP m c)
      ∧ r.2.mem ((c.tc : Thread nD τ).loc main_v1_2) = dsc (aX m c) (aY m c) (aA m c) (aG m c) (aW m c) (aP m c)
      ∧ r.2.mem ((c.tc : Thread nD τ).loc main_v1_3) = dg (aX m c) (aY m c) (aA m c) (aS m c) (aW m c) (aP m c)
      ∧ r.2.mem ((c.tc : Thread nD τ).loc main_v1_4) = dyo (aX m c) (aY m c) (aA m c) (aG m c) (aS m c) (aW m c) (aP m c) (aD m c)
      ∧ r.2.mem ((c.tc : Thread nD τ).loc main_v1_5) = dgate (aX m c) (aY m c) (aA m c) (aG m c) (aS m c) (aW m c) (aP m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨((h c _ (mem_uc main_v1_0 (by decide))).trans (W2_arr m ρ c 8)).trans (array8 m ρ c),
       ((h c _ (mem_uc main_v1_1 (by decide))).trans (W2_arr m ρ c 9)).trans (array9 m ρ c),
       ((h c _ (mem_uc main_v1_2 (by decide))).trans (W2_arr m ρ c 10)).trans (array10 m ρ c),
       ((h c _ (mem_uc main_v1_3 (by decide))).trans (W2_arr m ρ c 11)).trans (array11 m ρ c),
       ((h c _ (mem_uc main_v1_4 (by decide))).trans (W2_arr m ρ c 12)).trans (array12 m ρ c),
       ((h c _ (mem_uc main_v1_5 (by decide))).trans (W2_arr m ρ c 13)).trans (array13 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c)⟩)

end Launch

end Cert.LnIdeal.Hand

end
-- ==== Proof.LnClaim.lean ====
/- The value claim of the norm's gradient call: both programs leave the arrays of `LnSpec`. -/
module

public import proofs.«01_k».proof.Defs
public import proofs.«01_k».proof.Proof.Gen.Pre_ln_finite
public import proofs.«01_k».proof.Proof.Gen.LnRefIdeal.Run
public import proofs.«01_k».proof.Proof.Gen.LnRefIdeal.Read
public import proofs.«01_k».proof.Proof.LnKernel

@[expose] public section

set_option maxRecDepth 16384

noncomputable section

namespace LnSpec

open Idealize.ShloMosaic Real1 Norm

variable {X Y : AX} {A G S : AV} {W : AW} {P : AP} {D : AX}

theorem isR_x1 (hX : ∀ i, IsR (X i)) (hY : ∀ i, IsR (Y i)) (hA : ∀ i, IsR (A i)) (r : Fin 4096) (l : Fin 1024) : IsR (x1 X Y A r l) :=
  (hX _).add ((isR_one.add (hA _)).mul (hY _))

theorem isR_dxn (hG : ∀ i, IsR (G i)) (hS : ∀ i, IsR (S i)) (hW : ∀ i, IsR (W i)) (hP : ∀ i, IsR (P i)) (r : Fin 4096) (l : Fin 1024) :
    IsR (dxn G S W P r l) :=
  ((isR_sum _ _ fun _ _ => isR_sum _ _ fun _ _ => (hP _).mul (hW _)).mul (isR_one.add (hS _))).mul (hG _)

/-- A sum over the columns of the projection, part by part. -/
theorem sum_parts (f : Fin 8192 → EReal) : ∑ j : Fin 8192, f j = ∑ d : Fin 8, ∑ k : Fin 1024, f (part d k) := by
  have h := @Fin.sum_points_lanes_congr EReal inferInstance 8 1024 1 8192 8
    (fun d k => f (part d k)) (fun _ r => f r) (fun d k ha hl => by
      exact congrArg f (Fin.ext (by show d.val * 1024 + k.val = d.val % 8 * 1024 + k.val; omega)))
    (by decide) (by decide)
  exact (h.trans (Fin.sum_univ_one _)).symm

end LnSpec

namespace Cert.LnRefIdeal.Hand

open Cert.LnRefIdeal Cert.LnRefIdeal.Read Idealize.ShloMosaic Real1
open LnSpec Norm

variable (X Y : AX) (A G S : AV) (W : AW) (P : AP) (D : AX)

theorem x1_apply (r : Fin 4096) (l : Fin 1024) : val_main_v7 (F := Ideal) X Y A (ix2 r l) = x1 X Y A r l := by
  pointwise [val_main_cst, val_main_v3, val_main_v4, val_main_v5, val_main_v6, val_main_v7]
  rfl

theorem arg_apply (r : Fin 4096) (u : Fin 1) : val_main_v14 (F := Ideal) X Y A (ix2 r u) = arg (x1 X Y A r) := by
  pointwise [val_main_v8, val_main_cst_0, val_main_v9, val_main_v10, val_main_cst_1, val_main_v11, val_main_v12, val_main_cst_2,
    val_main_v13, val_main_v14]
  simp only [x1_apply]
  rfl

theorem rs_apply (r : Fin 4096) (u : Fin 1) : val_main_v15 (F := Ideal) X Y A (ix2 r u) = rs (x1 X Y A r) := by
  pointwise [val_main_v15]
  rw [arg_apply]
  rfl

theorem xn_apply (r : Fin 4096) (l : Fin 1024) : val_main_v20 (F := Ideal) X Y A (ix2 r l) = xn X Y A r l := by
  pointwise [val_main_v19, val_main_v20]
  rw [x1_apply, rs_apply]
  rfl

theorem dh_apply (r : Fin 4096) (l : Fin 1024) : val_main_v31 (F := Ideal) W P (ix2 r l) = dh W P r l := by
  pointwise [val_main_v0, val_main_v1, val_main_v2, val_main_v30, val_main_v31]
  rw [sum_parts]
  refine Finset.sum_congr rfl fun d _ => Finset.sum_congr rfl fun k _ => ?_
  congr 2
  funext a
  have hk := k.isLt
  match a with
  | ⟨0, _⟩ => exact Fin.ext (by show (d.val * 1024 + k.val) / 1024 = d.val; omega)
  | ⟨1, _⟩ => rfl
  | ⟨2, _⟩ => exact Fin.ext (by show (d.val * 1024 + k.val) % 1024 = k.val; omega)

theorem dn_apply (r : Fin 4096) (l : Fin 1024) : val_main_v38 (F := Ideal) S W P (ix2 r l) = dn S W P r l := by
  pointwise [val_main_cst_4, val_main_v23, val_main_v24, val_main_v37, val_main_v38]
  rw [dh_apply]
  rfl

theorem dxn_apply (r : Fin 4096) (l : Fin 1024) : val_main_v43 (F := Ideal) G S W P (ix2 r l) = dxn G S W P r l := by
  pointwise [val_main_v42, val_main_v43]
  rw [dn_apply]
  rfl

theorem fac_apply (r : Fin 4096) : val_main_v53 (F := Ideal) X Y A G S W P (ix1 r) = fac (x1 X Y A r) (dxn G S W P r) := by
  pointwise [val_main_v16, val_main_cst_3, val_main_v17, val_main_v18, val_main_v44, val_main_cst_8, val_main_v45, val_main_v46,
    val_main_v50, val_main_cst_9, val_main_v51, val_main_v52, val_main_cst_10, val_main_v53]
  simp only [x1_apply, dxn_apply, rs_apply, arg_apply, Fin.sum_univ_one]
  rfl

theorem out1_apply (u : Fin 1) (l : Fin 1024) : val_main_v33 (F := Ideal) W P (ix2 u l) = dsh W P (ix2 u l) := by
  pointwise [val_main_cst_5, val_main_v32, val_main_v33]
  simp only [dh_apply]
  rfl

theorem out2_apply (u : Fin 1) (l : Fin 1024) : val_main_v36 (F := Ideal) X Y A G W P (ix2 u l) = dsc X Y A G W P (ix2 u l) := by
  pointwise [val_main_v21, val_main_v22, val_main_v34, val_main_cst_6, val_main_v35, val_main_v36]
  simp only [dh_apply, xn_apply]
  exact Finset.sum_congr rfl fun r _ => mul_comm _ _

theorem out3_apply (u : Fin 1) (l : Fin 1024) : val_main_v41 (F := Ideal) X Y A S W P (ix2 u l) = dg X Y A S W P (ix2 u l) := by
  pointwise [val_main_v39, val_main_cst_7, val_main_v40, val_main_v41]
  simp only [dn_apply, xn_apply]
  exact Finset.sum_congr rfl fun r _ => mul_comm _ _

variable (hX : ∀ i, IsR (X i)) (hY : ∀ i, IsR (Y i)) (hA : ∀ i, IsR (A i)) (hG : ∀ i, IsR (G i)) (hS : ∀ i, IsR (S i))
  (hW : ∀ i, IsR (W i)) (hP : ∀ i, IsR (P i))
include hX hY hA hG hS hW hP

theorem d1_apply (r : Fin 4096) (l : Fin 1024) : val_main_v58 (F := Ideal) X Y A G S W P D (ix2 r l) = d1 X Y A G S W P D r l := by
  pointwise [val_main_v47, val_main_v48, val_main_v49, val_main_v54, val_main_v55, val_main_v56, val_main_v57, val_main_v58]
  rw [x1_apply, dxn_apply, rs_apply, fac_apply, add_assoc, add_assoc, ← add_assoc (_ * _)]
  exact congrArg _ (bwd_eq (isR_x1 hX hY hA r) (isR_dxn hG hS hW hP r) l)

theorem out4_apply (r : Fin 4096) (l : Fin 1024) : val_main_v65 (F := Ideal) X Y A G S W P D (ix2 r l) = dyo X Y A G S W P D (ix2 r l) := by
  pointwise [val_main_cst, val_main_v3, val_main_v4, val_main_v59, val_main_v60, val_main_v61, val_main_v65]
  rw [d1_apply X Y A G S W P D hX hY hA hG hS hW hP, mul_comm]
  rfl

theorem out5_apply (u : Fin 1) (l : Fin 1024) : val_main_v64 (F := Ideal) X Y A G S W P D (ix2 u l) = dgate X Y A G S W P D (ix2 u l) := by
  pointwise [val_main_v59, val_main_v62, val_main_cst_11, val_main_v63, val_main_v64]
  simp only [d1_apply X Y A G S W P D hX hY hA hG hS hW hP]
  rfl

end Cert.LnRefIdeal.Hand

namespace Cert.LnClaim

open Idealize.ShloMosaic Idealize.ShloMosaic.TcCoe Idealize.SL.Sem Real1
open LnSpec Norm
open Cert.LnIdeal.Hand (aX aY aA aG aS aW aP aD)

variable (m : (ℓ : Loc Cert.LnIdeal.nD Cert.LnIdeal.τ Cert.LnIdeal.sig) → Buf (Elt Ideal) ℓ)

/-- The precondition, entry by entry. -/
theorem real_args (h : Cert.Pre_LnIdeal_ln_finite m) (c : Dev Cert.LnIdeal.nD) :
    (∀ i, IsR (aX m c i)) ∧ (∀ i, IsR (aY m c i)) ∧ (∀ i, IsR (aA m c i)) ∧ (∀ i, IsR (aG m c i)) ∧ (∀ i, IsR (aS m c i))
      ∧ (∀ i, IsR (aW m c i)) ∧ (∀ i, IsR (aP m c i)) := by
  obtain ⟨h0, h1, h2, h3, h4, h5, h6⟩ := h c
  refine ⟨fun i => ?_, fun i => ?_, fun i => ?_, fun i => ?_, fun i => ?_, fun i => ?_, fun i => ?_⟩
  · have h := congrFun h0 i
    pointwise [Cert.Pre_ln_finite.fn] at h
    exact isR_of_bit h
  · have h := congrFun h1 i
    pointwise [Cert.Pre_ln_finite.fn] at h
    exact isR_of_bit h
  · have h := congrFun h2 i
    pointwise [Cert.Pre_ln_finite.fn] at h
    exact isR_of_bit h
  · have h := congrFun h3 i
    pointwise [Cert.Pre_ln_finite.fn] at h
    exact isR_of_bit h
  · have h := congrFun h4 i
    pointwise [Cert.Pre_ln_finite.fn] at h
    exact isR_of_bit h
  · have h := congrFun h5 i
    pointwise [Cert.Pre_ln_finite.fn] at h
    exact isR_of_bit h
  · have h := congrFun h6 i
    pointwise [Cert.Pre_ln_finite.fn] at h
    exact isR_of_bit h

theorem algebraic : Cert.algebraic_LnIdeal_LnRefIdeal_pre_ln_finite := fun m g m' g' hpre hargs => by
  refine ⟨fun c => dx (aX m c) (aY m c) (aA m c) (aG m c) (aS m c) (aW m c) (aP m c) (aD m c),
    fun c => dsh (aW m c) (aP m c),
    fun c => dsc (aX m c) (aY m c) (aA m c) (aG m c) (aW m c) (aP m c),
    fun c => dg (aX m c) (aY m c) (aA m c) (aS m c) (aW m c) (aP m c),
    fun c => dyo (aX m c) (aY m c) (aA m c) (aG m c) (aS m c) (aW m c) (aP m c) (aD m c),
    fun c => dgate (aX m c) (aY m c) (aA m c) (aG m c) (aS m c) (aW m c) (aP m c) (aD m c), Cert.LnIdeal.Hand.run m g, ?_⟩
  refine (θ_run Cert.LnRefIdeal.defs _ _).mono (fun r h c => ?_) (Cert.LnRefIdeal.Value.run m' g')
  obtain ⟨r0, r1, r2, r3, r4, r5, kept⟩ := h c
  obtain ⟨a0, a1, a2, a3, a4, a5, a6, a7, a8⟩ := hargs c
  obtain ⟨f0, f1, f2, f3, f4, f5, f6⟩ := real_args m hpre c
  refine ⟨r0.trans ?_, r1.trans ?_, r2.trans ?_, r3.trans ?_, r4.trans ?_, r5.trans ?_, kept⟩
  · rw [Cert.LnRefIdeal.Read.val_main_v58_eq, a0, a1, a2, a3, a4, a6, a7, a8]
    refine funext fun j => ?_
    idx_vars j
    exact Cert.LnRefIdeal.Hand.d1_apply _ _ _ _ _ _ _ _ f0 f1 f2 f3 f4 f5 f6 _ _
  · refine (Cert.LnRefIdeal.Read.val_main_v33_eq _ _).trans ?_
    rw [a6, a7]
    refine funext fun j => ?_
    idx_vars j
    exact Cert.LnRefIdeal.Hand.out1_apply _ _ _ _
  · refine (Cert.LnRefIdeal.Read.val_main_v36_eq _ _ _ _ _ _).trans ?_
    rw [a0, a1, a2, a3, a6, a7]
    refine funext fun j => ?_
    idx_vars j
    exact Cert.LnRefIdeal.Hand.out2_apply _ _ _ _ _ _ _ _
  · refine (Cert.LnRefIdeal.Read.val_main_v41_eq _ _ _ _ _ _).trans ?_
    rw [a0, a1, a2, a4, a6, a7]
    refine funext fun j => ?_
    idx_vars j
    exact Cert.LnRefIdeal.Hand.out3_apply _ _ _ _ _ _ _ _
  · rw [Cert.LnRefIdeal.Read.val_main_v65_eq, a0, a1, a2, a3, a4, a6, a7, a8]
    refine funext fun j => ?_
    idx_vars j
    exact Cert.LnRefIdeal.Hand.out4_apply _ _ _ _ _ _ _ _ f0 f1 f2 f3 f4 f5 f6 _ _
  · rw [Cert.LnRefIdeal.Read.val_main_v64_eq, a0, a1, a2, a3, a4, a6, a7, a8]
    refine funext fun j => ?_
    idx_vars j
    exact Cert.LnRefIdeal.Hand.out5_apply _ _ _ _ _ _ _ _ f0 f1 f2 f3 f4 f5 f6 _ _

end Cert.LnClaim

end
-- ==== Proof.PoolSpec.lean ====
/- The gradient of the pooling at four widths, entry by entry over the extended reals: what both programs are shown to
   compute. The first 1024 columns of the projection are pooled, 256 columns to a width; the width of group `g` is `wid g`. -/
module

public import proofs.«01_k».proof.Proof.Real

@[expose] public section

noncomputable section

namespace PoolSpec

open Idealize.ShloMosaic Real1

/-- The cotangent, the projection, the groups' weights. -/
abbrev AD := (⟨2, ![4096, 1024]⟩ : Shape).Idx → EReal
abbrev AP := (⟨2, ![4096, 6144]⟩ : Shape).Idx → EReal
abbrev AW := (⟨3, ![4, 256, 256]⟩ : Shape).Idx → EReal

/-- Column `k` of group `g`; the group and the place in it of a column. -/
def col (g : Fin 4) (k : Fin 256) : Fin 1024 := ⟨g.val * 256 + k.val, by omega⟩
def grp (l : Fin 1024) : Fin 4 := ⟨l.val / 256, by omega⟩
def lan (l : Fin 1024) : Fin 256 := ⟨l.val % 256, by omega⟩
def wid : Fin 4 → ℕ := ![2, 4, 8, 16]

/-- How many rows the window of width `w` that ends at row `n` has. -/
def cnt (w n : ℕ) : EReal := ((min (n + 1) w : ℕ) : ℝ)

/-- The pooled columns; the same with sixteen rows of zeros before them. -/
def u (P : AP) (r : Fin 4096) (l : Fin 1024) : EReal := P (ix2 r ⟨l.val, by omega⟩)
def uu (P : AP) (n : ℕ) (l : Fin 1024) : EReal := if h : 16 ≤ n ∧ n < 4112 then u P ⟨n - 16, by omega⟩ l else 0

/-- The sum of the `w` entries up to place `n`, and from place `n` on. -/
def back (f : ℕ → EReal) (w n : ℕ) : EReal := ∑ k ∈ Finset.range w, f (n - k)
def fwd (f : ℕ → EReal) (w n : ℕ) : EReal := ∑ k ∈ Finset.range w, f (n + k)

/-- The pooled value: the window's mean less the entry itself. -/
def p (P : AP) (r : Fin 4096) (g : Fin 4) (k : Fin 256) : EReal :=
  Ideal.div (back (fun n => uu P n (col g k)) (wid g) (r.val + 16)) (cnt (wid g) r.val) - u P r (col g k)

/-- The cotangent followed by rows of zeros. -/
def dd (D : AD) (n : ℕ) (l : Fin 1024) : EReal := if h : n < 4096 then D (ix2 ⟨n, h⟩ l) else 0

/-- The pooled values' cotangent, and its quotient by the window's row count. -/
def dp (D : AD) (W : AW) (n : ℕ) (g : Fin 4) (k : Fin 256) : EReal := ∑ d : Fin 256, dd D n (col g d) * W (ix3 g k d)
def q (D : AD) (W : AW) (n : ℕ) (g : Fin 4) (k : Fin 256) : EReal := Ideal.div (dp D W n g k) (cnt (wid g) n)

def dug (D : AD) (W : AW) (r : Fin 4096) (g : Fin 4) (k : Fin 256) : EReal :=
  fwd (fun n => q D W n g k) (wid g) r.val - dp D W r.val g k

def sav (P : AP) : AD := fun i => p P (i 0) (grp (i 1)) (lan (i 1))
def du (D : AD) (W : AW) : AD := fun i => dug D W (i 0) (grp (i 1)) (lan (i 1))
def dw (D : AD) (P : AP) : AW := fun i => ∑ r : Fin 4096, p P r (i 0) (i 1) * D (ix2 r (col (i 0) (i 2)))

end PoolSpec

end
-- ==== Proof.PoolRef.lean ====
/- The pooling gradient's reference, entry by entry: running sums and their differences against sums over windows. -/
module

public import proofs.«01_k».proof.Proof.Gen.PoolRefIdeal.Read
public import proofs.«01_k».proof.Proof.PoolSpec
public import proofs.«01_k».proof.Proof.AttnReal

@[expose] public section

set_option maxRecDepth 16384

noncomputable section

namespace PoolSpec

open Idealize.ShloMosaic Real1

theorem coe_sum {ι : Type} (s : Finset ι) (g : ι → ℝ) : ((∑ i ∈ s, g i : ℝ) : EReal) = ∑ i ∈ s, (g i : EReal) := by
  classical
  induction s using Finset.induction_on with
  | empty => rfl
  | insert a s h ih => rw [Finset.sum_insert h, Finset.sum_insert h, EReal.coe_add, ih]

/-- Entries by place, zero outside. -/
def ext (f : Fin 4096 → EReal) (n : ℕ) : EReal := if h : n < 4096 then f ⟨n, h⟩ else 0

theorem ext_val (f : Fin 4096 → EReal) (r : Fin 4096) : ext f r.val = f r := dif_pos r.isLt
theorem ext_out (f : Fin 4096 → EReal) {n : ℕ} (h : 4096 ≤ n) : ext f n = 0 := dif_neg (by omega)

theorem isR_ext {f : Fin 4096 → EReal} (h : ∀ r, IsR (f r)) (n : ℕ) : IsR (ext f n) := by
  unfold ext
  split
  · exact h _
  · exact isR_zero

theorem sum_upto (f : Fin 4096 → EReal) (r : Fin 4096) :
    (∑ n : Fin 4096, if n ≤ r then f n else 0) = ∑ n ∈ Finset.range (r.val + 1), ext f n := by
  have e : ∀ n : Fin 4096, (if n ≤ r then f n else 0) = (fun n : ℕ => if n ≤ r.val then ext f n else 0) n.val := fun n => by
    show _ = if n.val ≤ r.val then ext f n.val else 0
    rw [ext_val]
    rfl
  rw [Finset.sum_congr rfl fun n _ => e n]
  refine (Finset.sum_range (fun n : ℕ => if n ≤ r.val then ext f n else 0)).symm.trans ?_
  rw [← Finset.sum_filter]
  refine Finset.sum_congr (Finset.ext fun n => ?_) fun _ _ => rfl
  rw [Finset.mem_filter, Finset.mem_range, Finset.mem_range]
  have := r.isLt
  omega

theorem sum_from (f : Fin 4096 → EReal) (r : Fin 4096) :
    (∑ n : Fin 4096, if r ≤ n then f n else 0) = ∑ n ∈ Finset.Ico r.val 4096, ext f n := by
  have e : ∀ n : Fin 4096, (if r ≤ n then f n else 0) = (fun n : ℕ => if r.val ≤ n then ext f n else 0) n.val := fun n => by
    show _ = if r.val ≤ n.val then ext f n.val else 0
    rw [ext_val]
    rfl
  rw [Finset.sum_congr rfl fun n _ => e n]
  refine (Finset.sum_range (fun n : ℕ => if r.val ≤ n then ext f n else 0)).symm.trans ?_
  rw [← Finset.sum_filter]
  refine Finset.sum_congr (Finset.ext fun n => ?_) fun _ _ => rfl
  rw [Finset.mem_filter, Finset.mem_range, Finset.mem_Ico]
  omega

/-- A running sum less the one `w` places before it: the sum over the window. -/
theorem run_sub (f : ℕ → EReal) (hf : ∀ n, IsR (f n)) (r w : ℕ) :
    ∑ n ∈ Finset.range (r + 1), f n - ∑ n ∈ Finset.range (r + 1 - w), f n
      = ∑ k ∈ Finset.range w, if k ≤ r then f (r - k) else 0 := by
  choose g hg using hf
  have hr : ∀ w, ∑ n ∈ Finset.range (r + 1), g n - ∑ n ∈ Finset.range (r + 1 - w), g n
      = ∑ k ∈ Finset.range w, if k ≤ r then g (r - k) else 0 := fun w => by
    induction w with
    | zero => simp
    | succ w ih =>
      rw [Finset.sum_range_succ (fun k => if k ≤ r then g (r - k) else 0), ← ih]
      by_cases h : w ≤ r
      · have e := Finset.sum_range_succ g (r - w)
        rw [if_pos h, show r + 1 - w = r - w + 1 by omega, e, show r + 1 - (w + 1) = r - w by omega]
        ring
      · rw [if_neg h, show r + 1 - w = 0 by omega, show r + 1 - (w + 1) = 0 by omega]
        ring
  have e := congrArg (fun x : ℝ => (x : EReal)) (hr w)
  simp only [EReal.coe_sub, coe_sum] at e
  simp only [hg]
  refine e.trans (Finset.sum_congr rfl fun k _ => ?_)
  split <;> rfl

/-- The differences over `w` places summed from a place on: the sum over the window. -/
theorem sum_diff (f : ℕ → EReal) (hf : ∀ n, IsR (f n)) (h0 : ∀ n, 4096 ≤ n → f n = 0) (r : ℕ) (hr : r ≤ 4096) (w : ℕ) :
    ∑ n ∈ Finset.Ico r 4096, (f n + -f (n + w)) = ∑ k ∈ Finset.range w, f (r + k) := by
  choose g hg using hf
  have g0 : ∀ n, 4096 ≤ n → g n = 0 := fun n hn => by
    have := h0 n hn
    rw [hg] at this
    exact EReal.coe_eq_zero.mp this
  have hs : ∀ w, ∑ n ∈ Finset.Ico r 4096, (g n + -g (n + w)) = ∑ k ∈ Finset.range w, g (r + k) := fun w => by
    induction w with
    | zero => simp
    | succ w ih =>
      rw [Finset.sum_range_succ, ← ih]
      have tel : ∑ n ∈ Finset.Ico r 4096, (g (n + w) - g (n + (w + 1))) = g (r + w) := by
        rw [Finset.sum_Ico_eq_sum_range]
        have := Finset.sum_range_sub' (fun i => g (r + i + w)) (4096 - r)
        simp only [← add_assoc] at this ⊢
        simp only [add_right_comm _ w 1]
        rw [this, add_zero, g0 (r + (4096 - r) + w) (by omega), sub_zero]
      rw [← tel, ← Finset.sum_add_distrib]
      exact Finset.sum_congr rfl fun n _ => by ring
  have e := congrArg (fun x : ℝ => (x : EReal)) (hs w)
  simp only [coe_sum, EReal.coe_add, EReal.coe_neg] at e
  simp only [hg]
  exact e

theorem wid_le (g : Fin 4) : wid g ≤ 16 := by revert g; decide
theorem wid_pos (g : Fin 4) : 0 < wid g := by revert g; decide

theorem isR_div_cnt {x : EReal} (h : IsR x) {w n : ℕ} (hw : 0 < w) : IsR (Ideal.div x (cnt w n)) := by
  unfold cnt
  have h0 : ((min (n + 1) w : ℕ) : ℝ) ≠ 0 := Nat.cast_ne_zero.mpr (by omega)
  rw [Ideal.div_coe h0]
  exact h.mul (isR_coe _)

theorem zero_div_cnt {w n : ℕ} (hw : 0 < w) : Ideal.div 0 (cnt w n) = 0 := by
  unfold cnt
  have h0 : ((min (n + 1) w : ℕ) : ℝ) ≠ 0 := Nat.cast_ne_zero.mpr (by omega)
  rw [Ideal.div_coe h0, zero_mul]

/-- The window of a pooled value: what the running sums' difference is. -/
theorem back_eq (P : AP) (w : ℕ) (hw : w ≤ 16) (r : Fin 4096) (l : Fin 1024) (hP : ∀ i, IsR (P i)) :
    ∑ n ∈ Finset.range (r.val + 1), ext (fun n => u P n l) n - ∑ n ∈ Finset.range (r.val + 1 - w), ext (fun n => u P n l) n
      = back (fun n => uu P n l) w (r.val + 16) := by
  rw [run_sub (ext fun n => u P n l) (isR_ext fun r => hP _)]
  unfold back
  refine Finset.sum_congr rfl fun k hk => ?_
  have hk := Finset.mem_range.mp hk
  have := r.isLt
  dsimp only [uu]
  by_cases h : k ≤ r.val
  · rw [if_pos h, dif_pos ⟨by omega, by omega⟩]
    unfold ext
    rw [dif_pos (show r.val - k < 4096 by omega)]
    exact congrArg (fun z => u P z l) (Fin.ext (by show r.val - k = r.val + 16 - k - 16; omega))
  · rw [if_neg h, dif_neg (by omega)]

variable {D : AD} {W : AW}

theorem isR_dd (hD : ∀ i, IsR (D i)) (n : ℕ) (l : Fin 1024) : IsR (dd D n l) := by
  unfold dd
  split
  · exact hD _
  · exact isR_zero

theorem isR_q (hD : ∀ i, IsR (D i)) (hW : ∀ i, IsR (W i)) (n : ℕ) (g : Fin 4) (k : Fin 256) : IsR (q D W n g k) :=
  isR_div_cnt (isR_sum _ _ fun _ _ => (isR_dd hD _ _).mul (hW _)) (wid_pos g)

theorem q_out {n : ℕ} (h : 4096 ≤ n) (g : Fin 4) (k : Fin 256) : q D W n g k = 0 := by
  unfold q dp
  rw [Finset.sum_eq_zero fun d _ => by
    unfold dd
    rw [dif_neg (by omega), zero_mul], zero_div_cnt (wid_pos g)]

/-- The backward running sum of the quotients' differences: the sum over the window. -/
theorem fwd_eq (hD : ∀ i, IsR (D i)) (hW : ∀ i, IsR (W i)) (r : Fin 4096) (g : Fin 4) (k : Fin 256) :
    (∑ n : Fin 4096, if r ≤ n then q D W n.val g k + -q D W (n.val + wid g) g k else 0)
      = fwd (fun n => q D W n g k) (wid g) r.val := by
  have e := sum_from (fun n => q D W n.val g k + -q D W (n.val + wid g) g k) r
  refine e.trans ?_
  have e2 := sum_diff (fun n => q D W n g k) (fun n => isR_q hD hW n g k) (fun n h => q_out h g k) r.val r.isLt.le (wid g)
  refine (Finset.sum_congr rfl fun n hn => ?_).trans e2
  have hn := Finset.mem_Ico.mp hn
  unfold ext
  rw [dif_pos hn.2]

end PoolSpec

namespace PoolSum

open Idealize.ShloMosaic

/-- The positions of a window one wide on its second axis are those of its first. -/
def lane : (⟨2, ![4096, 1]⟩ : Shape).Idx ≃ Fin 4096 where
  toFun i := i 0
  invFun w := ix2 w (0 : Fin 1)
  left_inv i := funext fun a => by
    match a with
    | ⟨0, _⟩ => rfl
    | ⟨1, _⟩ => exact Fin.ext (by have := (i 1).isLt; change (i 1).val < 1 at this; show 0 = (i 1).val; omega)
  right_inv w := rfl

/-- A running sum along the rows, the window starting `lo` before the place. -/
theorem window_apply (lo hi : ℕ)
    (hw : (⟨2, ![4096, 1024]⟩ : Shape).ReduceWindows ![4096, 1] ![1, 1] ![lo, 0] ![hi, 0] ⟨2, ![4096, 1024]⟩)
    (x : (⟨2, ![4096, 1024]⟩ : Shape).Idx → EReal) (r : Fin 4096) (l : Fin 1024) :
    Ideal.hostReduceWindowAdd ![4096, 1] ![1, 1] ![lo, 0] ![hi, 0] hw x 0 (ix2 r l)
      = ∑ r' : Fin 4096, if r.val ≤ r'.val + lo ∧ r'.val + lo - r.val < 4096 then x (ix2 r' l) else 0 := by
  unfold Ideal.hostReduceWindowAdd Host.reduceWindow
  rw [AttnReal.foldl_add, zero_add, ← List.ofFn_eq_map, List.sum_ofFn]
  refine (Fintype.sum_equiv ((Shape.rowMajor ⟨2, ![4096, 1]⟩).symm.trans lane) _ _ fun n => ?_).trans
    (AttnReal.sum_window lo r fun r' => x (ix2 r' l))
  set i := (Shape.rowMajor ⟨2, ![4096, 1]⟩).symm n with hi'
  show _ = dite (lo ≤ r.val + (i 0).val ∧ r.val + (i 0).val - lo < 4096)
    (fun h' => x (ix2 ⟨r.val + (i 0).val - lo, h'.2⟩ l)) _
  have h1 : (i 1).val = 0 := by have := (i 1).isLt; change (i 1).val < 1 at this; omega
  dsimp only
  split
  · next hin =>
    have h0 := hin 0
    change lo ≤ r.val * 1 + (i 0).val ∧ r.val * 1 + (i 0).val - lo < 4096 at h0
    refine (congrArg x (funext fun a => Fin.ext ?_)).trans
      (dif_pos (c := lo ≤ r.val + (i 0).val ∧ r.val + (i 0).val - lo < 4096)
        (t := fun h' => x (ix2 ⟨r.val + (i 0).val - lo, h'.2⟩ l)) (e := fun _ => 0) ⟨by omega, by omega⟩).symm
    match a with
    | ⟨0, _⟩ => show r.val * 1 + (i 0).val - lo = r.val + (i 0).val - lo; omega
    | ⟨1, _⟩ => show l.val * 1 + (i 1).val - 0 = l.val; omega
  · next hin =>
    refine (dif_neg (c := lo ≤ r.val + (i 0).val ∧ r.val + (i 0).val - lo < 4096)
      (t := fun h' => x (ix2 ⟨r.val + (i 0).val - lo, h'.2⟩ l)) (e := fun _ => 0) fun hh => hin fun a => by
      match a with
      | ⟨0, _⟩ => show lo ≤ r.val * 1 + (i 0).val ∧ r.val * 1 + (i 0).val - lo < 4096; omega
      | ⟨1, _⟩ => show 0 ≤ l.val * 1 + (i 1).val ∧ l.val * 1 + (i 1).val - 0 < 1024; have := l.isLt; omega).symm

end PoolSum

namespace Cert.PoolRefIdeal.Hand

open Cert.PoolRefIdeal Cert.PoolRefIdeal.Read Idealize.ShloMosaic Real1
open PoolSpec

variable (D : AD) (P : AP) (W : AW)

theorem two_eq : Ideal.ofBits FTy.f32 0x40000000#32 = ((2 : ℕ) : ℝ) := by
  simp only [Ideal.ofBits, Ideal.ieee]; simp [← EReal.coe_mul]; norm_num
theorem four_eq : Ideal.ofBits FTy.f32 0x40800000#32 = ((4 : ℕ) : ℝ) := by
  simp only [Ideal.ofBits, Ideal.ieee]; simp [← EReal.coe_mul]; norm_num
theorem eight_eq : Ideal.ofBits FTy.f32 0x41000000#32 = ((8 : ℕ) : ℝ) := by
  simp only [Ideal.ofBits, Ideal.ieee]; simp [← EReal.coe_mul]; norm_num
theorem sixteen_eq : Ideal.ofBits FTy.f32 0x41800000#32 = ((16 : ℕ) : ℝ) := by
  simp only [Ideal.ofBits, Ideal.ieee]; simp [← EReal.coe_mul]; norm_num

theorem u_apply (r : Fin 4096) (l : Fin 1024) : val_main_v1 (F := Ideal) P (ix2 r l) = u P r l := by
  pointwise [val_main_v0, val_main_v1]
  rfl

theorem cum_apply (r : Fin 4096) (l : Fin 1024) :
    val_main_v3 (F := Ideal) P (ix2 r l) = ∑ n ∈ Finset.range (r.val + 1), ext (fun n => u P n l) n := by
  unfold val_main_v3 Host.reduceWindowAdd
  rw [Ideal.hostReduceWindowAdd_def]
  have e : ∀ i, val_main_call0_call0_v0 (F := Ideal) i = 0 := fun i => by
    pointwise [val_main_call0_call0_v0, val_main_call0_call0_cst]
  rw [e, ← sum_upto]
  refine (PoolSum.window_apply 4095 0 _ _ r l).trans (Finset.sum_congr rfl fun r' _ => ?_)
  rw [if_congr (AttnReal.upto_iff r r') rfl rfl, u_apply]

/-- The running sum `w` places before, zero where there is none. -/
theorem prev_apply (w : ℕ) (r : Fin 4096) (l : Fin 1024) (hb : ∀ h : ¬ r.val < w, r.val - w < 4096) :
    (if h : r.val < w then 0 else val_main_v3 (F := Ideal) P (ix2 ⟨r.val - w, hb h⟩ l))
      = ∑ n ∈ Finset.range (r.val + 1 - w), ext (fun n => u P n l) n := by
  split
  · next h => rw [show r.val + 1 - w = 0 by omega, Finset.sum_range_zero]
  · next h => rw [cum_apply, show r.val + 1 - w = r.val - w + 1 by omega]

theorem cnt_eq (w : ℕ) (r : Fin 4096) :
    min (FloatOps.sitofp (F := Ideal) FTy.f32 (BitVec.ofNat 32 r.val) + 1) (((w : ℕ) : ℝ) : EReal) = cnt w r.val := by
  have h : (BitVec.ofNat 32 r.val).toInt = r.val := by
    have := r.isLt
    rw [BitVec.toInt_eq_toNat_cond, BitVec.toNat_ofNat, Nat.mod_eq_of_lt (by omega), if_pos (by omega)]
  show min ((((BitVec.ofNat 32 r.val).toInt : ℝ) : EReal) + 1) _ = _
  rw [h]
  unfold cnt
  rw [show (1 : EReal) = ((1 : ℝ) : EReal) from rfl, ← EReal.coe_add]
  rcases le_total (r.val + 1) w with h' | h'
  · rw [min_eq_left h', min_eq_left (by exact_mod_cast h')]
    norm_cast
  · rw [min_eq_right h', min_eq_right (by exact_mod_cast h')]

theorem cnt2 (r : Fin 4096) (z : Fin 1) : val_main_v14 (F := Ideal) (ix2 r z) = cnt 2 r.val := by
  pointwise [val_main_v4, val_main_cst_1, val_main_v10, val_main_v11, val_main_cst_2, val_main_v12, val_main_v13, val_main_v14]
  rw [two_eq]
  exact cnt_eq 2 r
theorem cnt4 (r : Fin 4096) (z : Fin 1) : val_main_v29 (F := Ideal) (ix2 r z) = cnt 4 r.val := by
  pointwise [val_main_v4, val_main_cst_5, val_main_v25, val_main_v26, val_main_cst_6, val_main_v27, val_main_v28, val_main_v29]
  rw [four_eq]
  exact cnt_eq 4 r
theorem cnt8 (r : Fin 4096) (z : Fin 1) : val_main_v44 (F := Ideal) (ix2 r z) = cnt 8 r.val := by
  pointwise [val_main_v4, val_main_cst_9, val_main_v40, val_main_v41, val_main_cst_10, val_main_v42, val_main_v43, val_main_v44]
  rw [eight_eq]
  exact cnt_eq 8 r
theorem cnt16 (r : Fin 4096) (z : Fin 1) : val_main_v59 (F := Ideal) (ix2 r z) = cnt 16 r.val := by
  pointwise [val_main_v4, val_main_cst_13, val_main_v55, val_main_v56, val_main_cst_14, val_main_v57, val_main_v58, val_main_v59]
  rw [sixteen_eq]
  exact cnt_eq 16 r

/-- The windows' cotangents of a group. -/
theorem dp_apply (r : Fin 4096) (g : Fin 4) (k : Fin 256) : val_main_v77 (F := Ideal) D W (ix3 r g k) = dp D W r.val g k := by
  pointwise [val_main_v2, val_main_v73, val_main_v74, val_main_v75, val_main_v76, val_main_v77]
  unfold dp
  refine Finset.sum_congr rfl fun d _ => ?_
  unfold dd
  rw [dif_pos r.isLt]
  rfl

/-- A group's quotients less those `w` places on. -/
theorem diff_eq (w : ℕ) (g : Fin 4) (hw : w = wid g) (n : Fin 4096) (k : Fin 256) :
    (Ideal.div (dp D W n.val g k) (cnt w n.val) + if h : w + n.val < 4096 then -Ideal.div (dp D W (w + n.val) g k) (cnt w (w + n.val)) else 0)
      = q D W n.val g k + -q D W (n.val + wid g) g k := by
  subst hw
  split
  · next h => rw [add_comm (wid g) n.val]; rfl
  · next h => rw [q_out (n := n.val + wid g) (by omega), neg_zero]; rfl

theorem s0 (n : Fin 4096) (k : Fin 256) : val_main_v131 (F := Ideal) D W (ix2 n k) = q D W n.val 0 k + -q D W (n.val + wid 0) 0 k := by
  pointwise [val_main_v80, val_main_v81, val_main_v125, val_main_v126, val_main_v127, val_main_cst_25, val_main_v128, val_main_v130, val_main_v131]
  simp only [dp_apply, cnt2]
  exact diff_eq D W 2 0 rfl n k
theorem s1 (n : Fin 4096) (k : Fin 256) : val_main_v119 (F := Ideal) D W (ix2 n k) = q D W n.val 1 k + -q D W (n.val + wid 1) 1 k := by
  pointwise [val_main_v82, val_main_v83, val_main_v113, val_main_v114, val_main_v115, val_main_cst_22, val_main_v116, val_main_v118, val_main_v119]
  simp only [dp_apply, cnt4]
  exact diff_eq D W 4 1 rfl n k
theorem s2 (n : Fin 4096) (k : Fin 256) : val_main_v107 (F := Ideal) D W (ix2 n k) = q D W n.val 2 k + -q D W (n.val + wid 2) 2 k := by
  pointwise [val_main_v84, val_main_v85, val_main_v101, val_main_v102, val_main_v103, val_main_cst_19, val_main_v104, val_main_v106, val_main_v107]
  simp only [dp_apply, cnt8]
  exact diff_eq D W 8 2 rfl n k
theorem s3 (n : Fin 4096) (k : Fin 256) : val_main_v96 (F := Ideal) D W (ix2 n k) = q D W n.val 3 k + -q D W (n.val + wid 3) 3 k := by
  pointwise [val_main_v86, val_main_v87, val_main_v90, val_main_v91, val_main_v92, val_main_cst_16, val_main_v93, val_main_v95, val_main_v96]
  simp only [dp_apply, cnt16]
  exact diff_eq D W 16 3 rfl n k

/-- Four arrays side by side, each padded with zeros, read at a column. -/
theorem side (f : Fin 4 → Fin 256 → EReal) (l : Fin 1024) :
    ((((if h : 768 ≤ l.val ∧ l.val - 768 < 256 then f 3 ⟨l.val - 768, h.2⟩ else 0)
          + if h : 512 ≤ l.val ∧ l.val - 512 < 256 then f 2 ⟨l.val - 512, h.2⟩ else 0)
        + if h : 256 ≤ l.val ∧ l.val - 256 < 256 then f 1 ⟨l.val - 256, h.2⟩ else 0)
      + if h : l.val < 256 then f 0 ⟨l.val, h⟩ else 0) = f (grp l) (lan l) := by
  have e : ∀ (g : Fin 4) (k : Fin 256), l.val = g.val * 256 + k.val → f g k = f (grp l) (lan l) := fun g k h => by
    have h1 : grp l = g := Fin.ext (by show l.val / 256 = g.val; omega)
    have h2 : lan l = k := Fin.ext (by show l.val % 256 = k.val; omega)
    rw [h1, h2]
  have hl := l.isLt
  by_cases h0 : l.val < 256
  · rw [dif_neg (by omega), dif_neg (by omega), dif_neg (by omega), dif_pos h0, add_zero, add_zero, zero_add]
    exact e 0 _ (by show l.val = 0 * 256 + l.val; omega)
  by_cases h1 : l.val < 512
  · rw [dif_neg (by omega), dif_neg (by omega), dif_pos ⟨by omega, by omega⟩, dif_neg h0, zero_add, zero_add, add_zero]
    exact e 1 _ (by show l.val = 1 * 256 + (l.val - 256); omega)
  by_cases h2 : l.val < 768
  · rw [dif_neg (by omega), dif_pos ⟨by omega, by omega⟩, dif_neg (by omega), dif_neg h0, zero_add, add_zero, add_zero]
    exact e 2 _ (by show l.val = 2 * 256 + (l.val - 512); omega)
  · rw [dif_pos ⟨by omega, by omega⟩, dif_neg (by omega), dif_neg (by omega), dif_neg h0, add_zero, add_zero, add_zero]
    exact e 3 _ (by show l.val = 3 * 256 + (l.val - 768); omega)

/-- The four groups' differences side by side. -/
theorem s_apply (n : Fin 4096) (l : Fin 1024) :
    val_main_v133 (F := Ideal) D W (ix2 n l) = q D W n.val (grp l) (lan l) + -q D W (n.val + wid (grp l)) (grp l) (lan l) := by
  pointwise [val_main_cst_17, val_main_v97, val_main_cst_20, val_main_v108, val_main_v109, val_main_cst_23, val_main_v120, val_main_v121, val_main_cst_26, val_main_v132, val_main_v133]
  simp only [s0, s1, s2, s3]
  exact side (fun g k => q D W n.val g k + -q D W (n.val + wid g) g k) l

theorem m_apply (n : Fin 4096) (l : Fin 1024) :
    val_main_v124 (F := Ideal) D W (ix2 n l) = -dp D W n.val (grp l) (lan l) := by
  pointwise [val_main_v80, val_main_v81, val_main_v82, val_main_v83, val_main_v84, val_main_v85, val_main_v86, val_main_v87, val_main_v88, val_main_cst_15, val_main_v89, val_main_v98, val_main_cst_18, val_main_v99, val_main_v100, val_main_v110, val_main_cst_21, val_main_v111, val_main_v112, val_main_v122, val_main_cst_24, val_main_v123, val_main_v124]
  simp only [dp_apply]
  exact side (fun g k => -dp D W n.val g k) l

variable {D W P} in
theorem du_apply (hD : ∀ i, IsR (D i)) (hW : ∀ i, IsR (W i)) (r : Fin 4096) (l : Fin 1024) : val_main_v136 (F := Ideal) D W (ix2 r l) = du D W (ix2 r l) := by
  have e : val_main_v134 (F := Ideal) D W (ix2 r l) = fwd (fun n => q D W n (grp l) (lan l)) (wid (grp l)) r.val := by
    unfold val_main_v134 Host.reduceWindowAdd
    rw [Ideal.hostReduceWindowAdd_def]
    have e : ∀ i, val_main_call1_call0_v0 (F := Ideal) i = 0 := fun i => by
      pointwise [val_main_call1_call0_v0, val_main_call1_call0_cst]
    rw [e, ← fwd_eq hD hW]
    refine (PoolSum.window_apply 0 4095 _ _ r l).trans (Finset.sum_congr rfl fun r' _ => ?_)
    rw [if_congr (AttnReal.after_iff r r') rfl rfl, s_apply]
  pointwise [val_main_v135, val_main_v136]
  rw [m_apply, e, add_comm]
  rfl

section
variable (hP : ∀ i, IsR (P i))
include hP

theorem p_eq (w : ℕ) (g : Fin 4) (hw : w = wid g) (r : Fin 4096) (k : Fin 256) (l : Fin 1024) (hl : l = col g k)
    (hb : ∀ h : ¬ r.val < w, r.val - w < 4096) :
    Ideal.div (val_main_v3 (F := Ideal) P (ix2 r l) - if h : r.val < w then 0 else val_main_v3 (F := Ideal) P (ix2 ⟨r.val - w, hb h⟩ l)) (cnt w r.val)
      - val_main_v1 (F := Ideal) P (ix2 r l) = p P r g k := by
  subst hw hl
  rw [prev_apply, cum_apply, u_apply, back_eq P (wid g) (wid_le g) r _ hP]
  rfl

theorem p0 (r : Fin 4096) (k : Fin 256) : val_main_v19 (F := Ideal) P (ix2 r k) = p P r 0 k := by
  pointwise [val_main_v5, val_main_cst, val_main_v6, val_main_v7, val_main_v9, val_main_v15, val_main_v16, val_main_v17, val_main_v18, val_main_v19]
  rw [cnt2]
  exact p_eq P hP 2 0 rfl r k _ (Fin.ext (Nat.zero_add k.val).symm) _
theorem p1 (r : Fin 4096) (k : Fin 256) : val_main_v34 (F := Ideal) P (ix2 r k) = p P r 1 k := by
  pointwise [val_main_v20, val_main_cst_3, val_main_v21, val_main_v22, val_main_v24, val_main_v30, val_main_v31, val_main_v32, val_main_v33, val_main_v34]
  rw [cnt4]
  exact p_eq P hP 4 1 rfl r k _ rfl _
theorem p2 (r : Fin 4096) (k : Fin 256) : val_main_v49 (F := Ideal) P (ix2 r k) = p P r 2 k := by
  pointwise [val_main_v35, val_main_cst_7, val_main_v36, val_main_v37, val_main_v39, val_main_v45, val_main_v46, val_main_v47, val_main_v48, val_main_v49]
  rw [cnt8]
  exact p_eq P hP 8 2 rfl r k _ rfl _
theorem p3 (r : Fin 4096) (k : Fin 256) : val_main_v64 (F := Ideal) P (ix2 r k) = p P r 3 k := by
  pointwise [val_main_v50, val_main_cst_11, val_main_v51, val_main_v52, val_main_v54, val_main_v60, val_main_v61, val_main_v62, val_main_v63, val_main_v64]
  rw [cnt16]
  exact p_eq P hP 16 3 rfl r k _ rfl _

theorem p_apply (r : Fin 4096) (g : Fin 4) (k : Fin 256) : val_main_v69 (F := Ideal) P (ix3 r g k) = p P r g k := by
  pointwise [val_main_v65, val_main_v66, val_main_v67, val_main_v68, val_main_v69]
  simp only [p0 P hP, p1 P hP, p2 P hP, p3 P hP]
  fin_cases g <;> rfl

theorem dw_apply (g : Fin 4) (k d : Fin 256) : val_main_v79 (F := Ideal) D P (ix3 g k d) = dw D P (ix3 g k d) := by
  pointwise [val_main_v73, val_main_v74, val_main_v75, val_main_v78, val_main_v79]
  simp only [p_apply P hP]
  exact Finset.sum_congr rfl fun r _ => mul_comm _ _
end

end Cert.PoolRefIdeal.Hand

end
-- ==== Proof.PoolTile.lean ====
/- The pooling calls' arithmetic on one tile: rows rotated and added make windows of twice the width. -/
module
public import proofs.«01_k».proof.Proof.Gen.PoolIdeal.Frame
public import proofs.«01_k».proof.Proof.PoolSpec
public import Idealize.ShloMosaic.Lib.WordArith
public import Idealize.ShloMosaic.Lib.Pipeline.ValueKit
public import Idealize.ShloMosaic.Lib.Pipeline.ReadBack
@[expose] public section
set_option maxRecDepth 16384
noncomputable section

namespace PoolSpec

open Idealize.ShloMosaic

/-- A window twice as wide is two windows. -/
theorem back_double (f : ℕ → EReal) (w n : ℕ) : back f w n + back f w (n - w) = back f (w + w) n := by
  unfold back
  rw [Finset.sum_range_add]
  congr 1
  exact Finset.sum_congr rfl fun k _ => by rw [Nat.sub_sub]

theorem fwd_double (f : ℕ → EReal) (w n : ℕ) : fwd f w n + fwd f w (n + w) = fwd f (w + w) n := by
  unfold fwd
  rw [Finset.sum_range_add]
  congr 1
  exact Finset.sum_congr rfl fun k _ => by rw [Nat.add_assoc]

/-- The row count, as the kernel's words compute it. -/
theorem cnt_word (t r w : ℕ) (ht : t < 16) (hr : r < 272) (hw : w < 17) {φ : FTy} :
    FloatOps.sitofp (F := Ideal) φ (IntOp.minsi (IntOp.addi (IntOp.addi (Scalar.muli (BitVec.ofNat 32 t) 256#32) (BitVec.ofNat 32 r)) 1#32)
      (BitVec.ofNat 32 w)) = cnt w (t * 256 + r) := by
  have e : (IntOp.addi (IntOp.addi (Scalar.muli (BitVec.ofNat 32 t) 256#32) (BitVec.ofNat 32 r)) 1#32).toNat = t * 256 + r + 1 := by
    simp only [IntOp.addi, Scalar.muli, IntOp.muli, BitVec.toNat_add, BitVec.toNat_mul, BitVec.toNat_ofNat]
    omega
  have e' : (BitVec.ofNat 32 w).toNat = w := by rw [BitVec.toNat_ofNat]; omega
  have h := WordArith.toNat_minsi_of_lt (IntOp.addi (IntOp.addi (Scalar.muli (BitVec.ofNat 32 t) 256#32) (BitVec.ofNat 32 r)) 1#32)
    (BitVec.ofNat 32 w) (by omega) (by omega)
  rw [e, e'] at h
  have h' := BitVec.toInt_eq_toNat_cond (IntOp.minsi (IntOp.addi (IntOp.addi (Scalar.muli (BitVec.ofNat 32 t) 256#32)
    (BitVec.ofNat 32 r)) 1#32) (BitVec.ofNat 32 w))
  rw [h, if_pos (by omega)] at h'
  show (((_ : ℤ) : ℝ) : EReal) = _
  rw [h']
  unfold cnt
  norm_cast

end PoolSpec

namespace Cert.PoolIdeal.Hand

open Cert.PoolIdeal Cert.PoolIdeal.Gen Idealize.ShloMosaic Idealize.ShloMosaic.TcCoe Idealize.SL.Sem
open Idealize.ShloMosaic.Pipeline (Dat)
open PoolSpec

/-- A block of 272 rows plus itself rotated by `b` rows. -/
def stp (b : BitVec 32) (x : FVec Ideal S272x256 .f32) : FVec Ideal S272x256 .f32 := addf x (dynamicRotate 0 b none x rotates_S272x256_d0)

theorem stp_back (b : BitVec 32) (w : ℕ) (hb : b.toNat = w) (hw : w < 9) (x : FVec Ideal S272x256 .f32) (f : ℕ → EReal) (k : Fin 256) (lo : ℕ)
    (h : ∀ n : ℕ, lo ≤ n → ∀ hn : n < 272, x (ix2 ⟨n, hn⟩ k) = back f w n) (n : ℕ) (hl : lo + w ≤ n) (hn : n < 272) :
    stp b x (ix2 ⟨n, hn⟩ k) = back f (w + w) n := by
  unfold stp
  pointwise
  rw [← back_double, h n (by omega) hn, ← h (n - w) (by omega) (by omega)]
  refine congrArg (_ + ·) (congrArg (fun z => x (ix2 z k)) (Fin.ext ?_))
  show (n + 272 - b.toNat % 272) % 272 = n - w
  rw [hb]
  omega

theorem stp_fwd (b : BitVec 32) (w : ℕ) (hb : b.toNat = 272 - w) (hw : w < 9) (hw0 : 0 < w) (x : FVec Ideal S272x256 .f32) (f : ℕ → EReal) (k : Fin 256) (hi : ℕ)
    (h : ∀ n : ℕ, n < hi → ∀ hn : n < 272, x (ix2 ⟨n, hn⟩ k) = fwd f w n) (n : ℕ) (hl : n + w < hi) (hh : hi ≤ 272) (hn : n < 272) :
    stp b x (ix2 ⟨n, hn⟩ k) = fwd f (w + w) n := by
  unfold stp
  pointwise
  rw [← fwd_double, h n (by omega) hn, ← h (n + w) (by omega) (by omega)]
  refine congrArg (_ + ·) (congrArg (fun z => x (ix2 z k)) (Fin.ext ?_))
  show (n + 272 - b.toNat % 272) % 272 = n + w
  rw [hb]
  omega

/-- The rows a window reads: the halo (zeros where there is none), then the tile. -/
def cat (z : BitVec 1) (h : FVec Ideal S16x256 .f32) (v : FVec Ideal S256x256 .f32) : FVec Ideal S272x256 .f32 :=
  concatenate S272x256 0 [⟨S16x256, Scalar.select z (broadcast S16x256 (Scalar.ofBits .f32 0x00000000#32)) h⟩, ⟨S256x256, v⟩]
    concatenates_S16x256_S256x256_S272x256_d0

/-- From row 15 of the window's sums on, the mean less the entry. -/
def fin (w : BitVec 32) (i : IVec S256x1 32) (v : FVec Ideal S256x256 .f32) (x : FVec Ideal S272x256 .f32) : FVec Ideal S256x256 .bf16 :=
  truncf .bf16 (subf (divf (extractStridedSlice S256x256 ![16, 0] x slices_S272x256_o16_0_S256x256)
    (broadcastTo S256x256 (sitofp .f32 (minsi (addi i (broadcast S256x1 1#32)) (broadcast S256x1 w))) broadcasts_S256x1_S256x256)) v) bitsLt_bf16_f32

section
variable (i : grid0.Coords) (v : Vec Ideal S256x256 .bf16) (h : Vec Ideal S16x256 .bf16)

abbrev first (i : grid0.Coords) : BitVec 1 := Scalar.cmpi .eq (BitVec.ofNat 32 (i 0).val) 0#32

theorem pay4_eq : k0_pay4 i v h = fin 2#32 (k0_pay3 i) (extf .f32 v bitsLt_bf16_f32)
    (stp 1#32 (cat (first i) (extf .f32 h bitsLt_bf16_f32) (extf .f32 v bitsLt_bf16_f32))) := rfl
theorem pay8_eq : k0_pay8 (k0_pay3 i) (k0_pay6 v) (first i) (k0_pay7 h) = fin 4#32 (k0_pay3 i) (extf .f32 v bitsLt_bf16_f32)
    (stp 2#32 (stp 1#32 (cat (first i) (extf .f32 h bitsLt_bf16_f32) (extf .f32 v bitsLt_bf16_f32)))) := rfl
theorem pay12_eq : k0_pay12 (k0_pay3 i) (k0_pay10 v) (k0_pay11 (BitVec.ofNat 32 (i 0).val) v h) = fin 8#32 (k0_pay3 i) (extf .f32 v bitsLt_bf16_f32)
    (stp 4#32 (stp 2#32 (stp 1#32 (cat (first i) (extf .f32 h bitsLt_bf16_f32) (extf .f32 v bitsLt_bf16_f32))))) := rfl
theorem pay1_eq : k0_pay1 (k0_pay14 v) (k0_pay15 (BitVec.ofNat 32 (i 0).val) v h) (k0_pay16 (k0_pay3 i)) = fin 16#32 (k0_pay3 i) (extf .f32 v bitsLt_bf16_f32)
    (stp 8#32 (stp 4#32 (stp 2#32 (stp 1#32 (cat (first i) (extf .f32 h bitsLt_bf16_f32) (extf .f32 v bitsLt_bf16_f32)))))) := rfl

/-- Where the two blocks hold the rows of the padded column `f` from place `o` on. -/
def Rows (o : ℕ) (f : ℕ → EReal) (k : Fin 256) : Prop :=
  (∀ r : Fin 16, (if (i 0).val = 0 then 0 else h (ix2 r k)) = f (o + r.val)) ∧ ∀ r : Fin 256, v (ix2 r k) = f (o + 16 + r.val)

variable {i v h}

theorem cat_apply {o : ℕ} {f : ℕ → EReal} {k : Fin 256} (hr : Rows i v h o f k) (n : ℕ) (hn : n < 272) :
    cat (first i) (extf .f32 h bitsLt_bf16_f32) (extf .f32 v bitsLt_bf16_f32) (ix2 ⟨n, hn⟩ k) = back (fun n => f (o + n)) 1 n := by
  have e : back (fun n => f (o + n)) 1 n = f (o + n) := by simp [back]
  rw [e]
  unfold cat
  pointwise
  have hf : first i = if (i 0).val = 0 then 1#1 else 0#1 :=
    (by decide +kernel : ∀ a : Fin 16, Scalar.cmpi .eq (BitVec.ofNat 32 a.val) 0#32 = if a.val = 0 then 1#1 else 0#1) (i 0)
  split
  · next hlt =>
    rw [← hr.1 ⟨n, hlt⟩, hf]
    by_cases h0 : (i 0).val = 0
    · rw [if_pos h0, if_pos h0]; rfl
    · rw [if_neg h0, if_neg h0]; rfl
  · next hge =>
    rw [hr.2]
    exact congrArg f (by show o + 16 + (n - 16) = o + n; omega)

theorem back_at (f : ℕ → EReal) (o w n : ℕ) (h : w ≤ n + 1) : back (fun n => f (o + n)) w n = back f w (o + n) := by
  unfold back
  refine Finset.sum_congr rfl fun k hk => congrArg f ?_
  have := Finset.mem_range.1 hk
  omega

theorem fin_apply (w : ℕ) (hw : w < 17) (x : FVec Ideal S272x256 .f32) (r k : Fin 256) :
    fin (BitVec.ofNat 32 w) (k0_pay3 i) (extf .f32 v bitsLt_bf16_f32) x (ix2 r k)
      = Ideal.div (x (ix2 ⟨16 + r.val, by omega⟩ k)) (cnt w ((i 0).val * 256 + r.val)) - v (ix2 r k) := by
  unfold fin
  pointwise [k0_pay3]
  rw [cnt_word _ _ _ (i 0).isLt (by omega) hw]

/-- The four widths. -/
theorem pool2 {o : ℕ} {f : ℕ → EReal} {k : Fin 256} (hr : Rows i v h o f k) (r : Fin 256) : k0_pay4 i v h (ix2 r k)
    = Ideal.div (back f 2 (o + (16 + r.val))) (cnt 2 ((i 0).val * 256 + r.val)) - v (ix2 r k) := by
  rw [pay4_eq]
  refine (fin_apply 2 (by decide) _ r k).trans ?_
  rw [stp_back 1#32 1 rfl (by decide) _ _ k 0 (fun n _ hn => cat_apply hr n hn) _ (by omega), back_at _ _ _ _ (by omega)]

theorem pool4 {o : ℕ} {f : ℕ → EReal} {k : Fin 256} (hr : Rows i v h o f k) (r : Fin 256) :
    k0_pay8 (k0_pay3 i) (k0_pay6 v) (first i) (k0_pay7 h) (ix2 r k)
    = Ideal.div (back f 4 (o + (16 + r.val))) (cnt 4 ((i 0).val * 256 + r.val)) - v (ix2 r k) := by
  rw [pay8_eq]
  refine (fin_apply 4 (by decide) _ r k).trans ?_
  rw [stp_back 2#32 2 rfl (by decide) _ _ k 1 (stp_back 1#32 1 rfl (by decide) _ _ k 0 (fun n _ hn => cat_apply hr n hn)) _ (by omega),
    back_at _ _ _ _ (by omega)]

theorem pool8 {o : ℕ} {f : ℕ → EReal} {k : Fin 256} (hr : Rows i v h o f k) (r : Fin 256) :
    k0_pay12 (k0_pay3 i) (k0_pay10 v) (k0_pay11 (BitVec.ofNat 32 (i 0).val) v h) (ix2 r k)
    = Ideal.div (back f 8 (o + (16 + r.val))) (cnt 8 ((i 0).val * 256 + r.val)) - v (ix2 r k) := by
  rw [pay12_eq]
  refine (fin_apply 8 (by decide) _ r k).trans ?_
  rw [stp_back 4#32 4 rfl (by decide) _ _ k 3 (stp_back 2#32 2 rfl (by decide) _ _ k 1
      (stp_back 1#32 1 rfl (by decide) _ _ k 0 (fun n _ hn => cat_apply hr n hn))) _ (by omega), back_at _ _ _ _ (by omega)]

theorem pool16 {o : ℕ} {f : ℕ → EReal} {k : Fin 256} (hr : Rows i v h o f k) (r : Fin 256) :
    k0_pay1 (k0_pay14 v) (k0_pay15 (BitVec.ofNat 32 (i 0).val) v h) (k0_pay16 (k0_pay3 i)) (ix2 r k)
    = Ideal.div (back f 16 (o + (16 + r.val))) (cnt 16 ((i 0).val * 256 + r.val)) - v (ix2 r k) := by
  rw [pay1_eq]
  refine (fin_apply 16 (by decide) _ r k).trans ?_
  rw [stp_back 8#32 8 rfl (by decide) _ _ k 7 (stp_back 4#32 4 rfl (by decide) _ _ k 3 (stp_back 2#32 2 rfl (by decide) _ _ k 1
      (stp_back 1#32 1 rfl (by decide) _ _ k 0 (fun n _ hn => cat_apply hr n hn)))) _ (by omega), back_at _ _ _ _ (by omega)]

end

section
variable (i : grid1.Coords) (v : Vec Ideal S256x256 .bf16) (h : Vec Ideal S16x256 .bf16) (w : Vec Ideal S1x256x256 .bf16)

abbrev last (i : grid1.Coords) : BitVec 1 := Scalar.cmpi .eq (BitVec.ofNat 32 (i 0).val) 15#32

/-- The tile, then the halo after it (zeros where there is none). -/
def cat1 (z : BitVec 1) (v : Vec Ideal S256x256 .bf16) (h : Vec Ideal S16x256 .bf16) : FVec Ideal S272x256 .bf16 :=
  concatenate S272x256 0 [⟨S256x256, v⟩, ⟨S16x256, Scalar.select z (broadcast S16x256 (Scalar.ofBits .bf16 0x0000#16)) h⟩]
    concatenates_S256x256_S16x256_S272x256_d0

/-- The product with the group's weight, its quotient by the row counts, and the sums' first rows less the product's. -/
def prod (x : FVec Ideal S272x256 .bf16) (w : Vec Ideal S1x256x256 .bf16) : FVec Ideal S272x256 .f32 :=
  matmul dot_S272x256_S256x256_S272x256_1_1_0_0_n_n none x (shapeCast S256x256 w shapeCasts_S1x256x256_S256x256 : FVec Ideal S256x256 .bf16)
    (constant S272x256 .f32 0x00000000#32)
def quo (b : BitVec 32) (i : IVec S272x1 32) (x : FVec Ideal S272x256 .f32) : FVec Ideal S272x256 .f32 :=
  divf x (broadcastTo S272x256 (sitofp .f32 (minsi (addi i (broadcast S272x1 1#32)) (broadcast S272x1 b))) broadcasts_S272x1_S272x256)
def fin1 (x y : FVec Ideal S272x256 .f32) : FVec Ideal S256x256 .bf16 :=
  truncf .bf16 (subf (extractStridedSlice S256x256 ![0, 0] y slices_S272x256_o0_0_S256x256)
    (extractStridedSlice S256x256 ![0, 0] x slices_S272x256_o0_0_S256x256)) bitsLt_bf16_f32

theorem bay4_eq : k1_pay4 i v h w = fin1 (prod (cat1 (last i) v h) w) (stp 271#32 (quo 2#32 (k1_pay3 i) (prod (cat1 (last i) v h) w))) := rfl
theorem bay8_eq : k1_pay8 (BitVec.ofNat 32 (i 0).val) (k1_pay3 i) v h w = fin1 (prod (cat1 (last i) v h) w)
    (stp 270#32 (stp 271#32 (quo 4#32 (k1_pay3 i) (prod (cat1 (last i) v h) w)))) := rfl
theorem bay11_eq : k1_pay11 (BitVec.ofNat 32 (i 0).val) (k1_pay3 i) v h w = fin1 (prod (cat1 (last i) v h) w)
    (stp 268#32 (stp 270#32 (stp 271#32 (quo 8#32 (k1_pay3 i) (prod (cat1 (last i) v h) w))))) := rfl
theorem bay13_eq : k1_pay13 (BitVec.ofNat 32 (i 0).val) (k1_pay3 i) v h w = fin1 (prod (cat1 (last i) v h) w)
    (stp 264#32 (stp 268#32 (stp 270#32 (stp 271#32 (quo 16#32 (k1_pay3 i) (prod (cat1 (last i) v h) w)))))) := rfl

/-- Where the blocks hold the rows of the cotangent `f` from place `o` on. -/
def Rows1 (o : ℕ) (f : ℕ → Fin 256 → EReal) : Prop :=
  (∀ (r d : Fin 256), v (ix2 r d) = f (o + r.val) d) ∧ ∀ (r : Fin 16) (d : Fin 256), (if (i 0).val = 15 then 0 else h (ix2 r d)) = f (o + 256 + r.val) d

variable {i v h w}

theorem cat1_apply {o : ℕ} {f : ℕ → Fin 256 → EReal} (hr : Rows1 i v h o f) (n : ℕ) (hn : n < 272) (d : Fin 256) :
    cat1 (last i) v h (ix2 ⟨n, hn⟩ d) = f (o + n) d := by
  unfold cat1
  pointwise
  have hf : last i = if (i 0).val = 15 then 1#1 else 0#1 :=
    (by decide +kernel : ∀ a : Fin 16, Scalar.cmpi .eq (BitVec.ofNat 32 a.val) 15#32 = if a.val = 15 then 1#1 else 0#1) (i 0)
  split
  · next hlt => exact hr.1 ⟨n, hlt⟩ d
  · next hge =>
    have e := hr.2 ⟨n - 256, by omega⟩ d
    rw [show o + n = o + 256 + (n - 256) by omega, ← e, hf]
    by_cases h0 : (i 0).val = 15
    · rw [if_pos h0, if_pos h0]; rfl
    · rw [if_neg h0, if_neg h0]; rfl

theorem prod_apply {o : ℕ} {f : ℕ → Fin 256 → EReal} (hr : Rows1 i v h o f) (n : ℕ) (hn : n < 272) (k : Fin 256) :
    prod (cat1 (last i) v h) w (ix2 ⟨n, hn⟩ k) = ∑ d : Fin 256, f (o + n) d * w (ix3 0 k d) := by
  unfold prod
  pointwise
  exact Finset.sum_congr rfl fun d _ => by rw [cat1_apply hr]

theorem quo_apply (b : ℕ) (hb : b < 17) (x : FVec Ideal S272x256 .f32) (n : ℕ) (hn : n < 272) (k : Fin 256) :
    quo (BitVec.ofNat 32 b) (k1_pay3 i) x (ix2 ⟨n, hn⟩ k) = Ideal.div (x (ix2 ⟨n, hn⟩ k)) (cnt b ((i 0).val * 256 + n)) := by
  unfold quo
  pointwise [k1_pay3]
  rw [cnt_word _ _ _ (i 0).isLt hn hb]

theorem fin1_apply (x y : FVec Ideal S272x256 .f32) (r k : Fin 256) :
    fin1 x y (ix2 r k) = y (ix2 ⟨r.val, by omega⟩ k) - x (ix2 ⟨r.val, by omega⟩ k) := by
  unfold fin1
  pointwise

/-- The cotangent's product with the weight and its quotient, by rows. -/
def pr (f : ℕ → Fin 256 → EReal) (w : Vec Ideal S1x256x256 .bf16) (k : Fin 256) (n : ℕ) : EReal := ∑ d : Fin 256, f n d * w (ix3 0 k d)
def qu (f : ℕ → Fin 256 → EReal) (w : Vec Ideal S1x256x256 .bf16) (b : ℕ) (k : Fin 256) (n : ℕ) : EReal := Ideal.div (pr f w k n) (cnt b n)

theorem quo_fwd {f : ℕ → Fin 256 → EReal} (hr : Rows1 i v h ((i 0).val * 256) f) (b : ℕ) (hb : b < 17) (k : Fin 256) (n : ℕ) (hn : n < 272) :
    quo (BitVec.ofNat 32 b) (k1_pay3 i) (prod (cat1 (last i) v h) w) (ix2 ⟨n, hn⟩ k) = fwd (fun n => qu f w b k ((i 0).val * 256 + n)) 1 n := by
  rw [quo_apply b hb, prod_apply hr]
  simp [fwd, qu, pr]

theorem fwd_at (f : ℕ → EReal) (o w n : ℕ) : fwd (fun n => f (o + n)) w n = fwd f w (o + n) := by
  unfold fwd
  exact Finset.sum_congr rfl fun k _ => congrArg f (by omega)

section
variable {f : ℕ → Fin 256 → EReal} (hr : Rows1 i v h ((i 0).val * 256) f) (r k : Fin 256)
include hr

theorem spread2 : k1_pay4 i v h w (ix2 r k)
    = fwd (qu f w 2 k) 2 ((i 0).val * 256 + r.val) - pr f w k ((i 0).val * 256 + r.val) := by
  rw [bay4_eq, fin1_apply, prod_apply hr, stp_fwd 271#32 1 rfl (by decide) (by decide) _ _ k 272 (fun n _ hn => quo_fwd hr 2 (by decide) k n hn) _ (by omega) (by omega),
    fwd_at]
  rfl

theorem spread4 : k1_pay8 (BitVec.ofNat 32 (i 0).val) (k1_pay3 i) v h w (ix2 r k)
    = fwd (qu f w 4 k) 4 ((i 0).val * 256 + r.val) - pr f w k ((i 0).val * 256 + r.val) := by
  rw [bay8_eq, fin1_apply, prod_apply hr, stp_fwd 270#32 2 rfl (by decide) (by decide) _ _ k 271
      (fun n hl => stp_fwd 271#32 1 rfl (by decide) (by decide) _ _ k 272 (fun n _ hn => quo_fwd hr 4 (by decide) k n hn) n (by omega) (by omega)) _ (by omega) (by omega),
    fwd_at]
  rfl

theorem spread8 : k1_pay11 (BitVec.ofNat 32 (i 0).val) (k1_pay3 i) v h w (ix2 r k)
    = fwd (qu f w 8 k) 8 ((i 0).val * 256 + r.val) - pr f w k ((i 0).val * 256 + r.val) := by
  rw [bay11_eq, fin1_apply, prod_apply hr, stp_fwd 268#32 4 rfl (by decide) (by decide) _ _ k 269
      (fun n hl => stp_fwd 270#32 2 rfl (by decide) (by decide) _ _ k 271
        (fun n hl => stp_fwd 271#32 1 rfl (by decide) (by decide) _ _ k 272 (fun n _ hn => quo_fwd hr 8 (by decide) k n hn) n (by omega) (by omega))
        n (by omega) (by omega)) _ (by omega) (by omega),
    fwd_at]
  rfl

theorem spread16 : k1_pay13 (BitVec.ofNat 32 (i 0).val) (k1_pay3 i) v h w (ix2 r k)
    = fwd (qu f w 16 k) 16 ((i 0).val * 256 + r.val) - pr f w k ((i 0).val * 256 + r.val) := by
  rw [bay13_eq, fin1_apply, prod_apply hr, stp_fwd 264#32 8 rfl (by decide) (by decide) _ _ k 265
      (fun n hl => stp_fwd 268#32 4 rfl (by decide) (by decide) _ _ k 269
        (fun n hl => stp_fwd 270#32 2 rfl (by decide) (by decide) _ _ k 271
          (fun n hl => stp_fwd 271#32 1 rfl (by decide) (by decide) _ _ k 272 (fun n _ hn => quo_fwd hr 16 (by decide) k n hn) n (by omega) (by omega))
          n (by omega) (by omega)) n (by omega) (by omega)) _ (by omega) (by omega),
    fwd_at]
  rfl

end

end

/-- What one group's product adds to the weight's gradient. -/
def dot (p v : Vec Ideal S256x256 .bf16) (k d : Fin 256) : EReal := ∑ r : Fin 256, p (ix2 r k) * v (ix2 r d)

theorem acc7 (v p : Vec Ideal S256x256 .bf16) (x : Vec Ideal S1x256x256 .f32) (u : Fin 1) (k d : Fin 256) :
    k1_pay7 v (k1_pay5 x) (k1_pay6 p) (ix3 u k d) = x (ix3 0 k d) + dot p v k d := by
  pointwise [k1_pay7, k1_pay5, k1_pay6]
  rfl
theorem acc10 (v p : Vec Ideal S256x256 .bf16) (x : Vec Ideal S1x256x256 .f32) (u : Fin 1) (k d : Fin 256) :
    k1_pay10 v (k1_pay9 x) p (ix3 u k d) = x (ix3 0 k d) + dot p v k d := by
  pointwise [k1_pay10, k1_pay9]
  rfl
theorem acc12 (v p : Vec Ideal S256x256 .bf16) (x : Vec Ideal S1x256x256 .f32) (u : Fin 1) (k d : Fin 256) :
    k1_pay12 v x p (ix3 u k d) = x (ix3 0 k d) + dot p v k d := by
  pointwise [k1_pay12]
  rfl
theorem acc1 (v p : Vec Ideal S256x256 .bf16) (x : Vec Ideal S1x256x256 .f32) (u : Fin 1) (k d : Fin 256) :
    k1_pay1 v x p (ix3 u k d) = x (ix3 0 k d) + dot p v k d := by
  pointwise [k1_pay1]
  rfl

end Cert.PoolIdeal.Hand
end
-- ==== Proof.PoolKernel.lean ====
/- The launch of the pooling gradient: what every tile stores, and the two results the call leaves. -/
module

public import proofs.«01_k».proof.Proof.PoolTile

@[expose] public section

set_option maxRecDepth 16384

noncomputable section

namespace Cert.PoolIdeal.Hand

open Cert.PoolIdeal Cert.PoolIdeal.Gen Idealize.ShloMosaic Idealize.ShloMosaic.TcCoe Idealize.SL.Sem
open Idealize.ShloMosaic.Pipeline (Dat)
open PoolSpec

/-- Where each window's block sits at point `t` of the forward call, and of the backward call. -/
abbrev Idx0 (t : Fin grid0.N) : Prop :=
  win0_0.index t = ![t.val, 0] ∧ win0_1.index t = ![t.val * 16 - 1, 0] ∧ win0_3.index t = ![t.val, 0] ∧ (grid0.coords t 0).val = t.val
abbrev Idx1 (t : Fin grid1.N) : Prop :=
  win1_0.index t = ![t.val, 0] ∧ win1_1.index t = ![min ((t.val + 1) * 16) 255, 0] ∧ win1_2.index t = ![t.val, 0]
    ∧ win1_3.index t = ![0, 0, 0] ∧ win1_4.index t = ![t.val, 0] ∧ win1_5.index t = ![0, 0, 0] ∧ (grid1.coords t 0).val = t.val

theorem idx0 (t : Fin cfg0.N) : Idx0 t := (by decide +kernel : ∀ t : Fin grid0.N, Idx0 t) t
theorem idx1 (t : Fin cfg1.N) : Idx1 t := (by decide +kernel : ∀ t : Fin grid1.N, Idx1 t) t

theorem point_lt0 (t : Fin cfg0.N) : t.val < 16 := lt_of_lt_of_eq t.isLt Gen.N_0
theorem point_lt1 (t : Fin cfg1.N) : t.val < 16 := lt_of_lt_of_eq t.isLt Gen.N_1

variable (m : (ℓ : Loc nD τ sig) → Buf (Elt Ideal) ℓ) (ρ : Dev nD → PrngReg) (c : Dev nD)

/-- The three arguments on device `c`. -/
abbrev aD : AD := m ((c.tc : Thread nD τ).loc main_arg0)
abbrev aP : AP := m ((c.tc : Thread nD τ).loc main_arg1)
abbrev aW : AW := m ((c.tc : Thread nD τ).loc main_arg2)

/-- Row `r` of the tile of point `t` of either call. -/
def row {n : ℕ} (t : Fin n) (h : t.val < 16) (r : Fin 256) : Fin 4096 := ⟨t.val * 256 + r.val, by omega⟩

section Forward
variable (t : Fin cfg0.N)

theorem f0 (r : Fin 256) (l : Fin 1024) : iblk0 (V0 m ρ) c 0 t (ix2 r l) = u (aP m c) (row t (point_lt0 t) r) l := by
  blk_ext [iblk0, V0, W0, s₀, idx0 t, row, u]
theorem f1 (h0 : t.val ≠ 0) (r : Fin 16) (l : Fin 1024) :
    iblk0 (V0 m ρ) c 1 t (ix2 r l) = u (aP m c) ⟨t.val * 256 - 16 + r.val, by have := point_lt0 t; omega⟩ l := by
  blk_ext [iblk0, V0, W0, s₀, idx0 t, u]

theorem ldU (g : Fin 4) (o : ℕ) (ho : o = g.val * 256) (h) (r k : Fin 256) :
    View.ld (iblk0 (V0 m ρ) c 0 t) (Rect.unit ![0, o] ![256, 256] h) (ix2 r k) = u (aP m c) (row t (point_lt0 t) r) (col g k) := by
  refine Eq.trans ?_ (f0 m ρ c t r (col g k))
  unfold View.ld
  congr 1
  refine funext fun a => Fin.ext ?_
  match a with
  | ⟨0, _⟩ => show 0 + 1 * r.val = r.val; omega
  | ⟨1, _⟩ => show o + 1 * k.val = g.val * 256 + k.val; omega

theorem ldH (g : Fin 4) (o : ℕ) (ho : o = g.val * 256) (h) (h0 : t.val ≠ 0) (r : Fin 16) (k : Fin 256) :
    View.ld (iblk0 (V0 m ρ) c 1 t) (Rect.unit ![0, o] ![16, 256] h) (ix2 r k)
      = u (aP m c) ⟨t.val * 256 - 16 + r.val, by have := point_lt0 t; omega⟩ (col g k) := by
  refine Eq.trans ?_ (f1 m ρ c t h0 r (col g k))
  unfold View.ld
  congr 1
  refine funext fun a => Fin.ext ?_
  match a with
  | ⟨0, _⟩ => show 0 + 1 * r.val = r.val; omega
  | ⟨1, _⟩ => show o + 1 * k.val = g.val * 256 + k.val; omega

/-- The loaded blocks hold the padded columns of group `g`. -/
theorem rows (g : Fin 4) (o : ℕ) (ho : o = g.val * 256) (h h') (k : Fin 256) :
    Rows (grid0.coords t) (View.ld (iblk0 (V0 m ρ) c 0 t) (Rect.unit ![0, o] ![256, 256] h))
      (View.ld (iblk0 (V0 m ρ) c 1 t) (Rect.unit ![0, o] ![16, 256] h')) (t.val * 256) (fun n => uu (aP m c) n (col g k)) k := by
  have ht := point_lt0 t
  refine ⟨fun r => ?_, fun r => ?_⟩
  · rw [(idx0 t).2.2.2]
    dsimp only [uu]
    by_cases h0 : t.val = 0
    · rw [if_pos h0, dif_neg (by omega)]
    · rw [if_neg h0, dif_pos (by omega), ldH m ρ c t g o ho h' h0]
      congr 1
      exact Fin.ext (by show t.val * 256 - 16 + r.val = t.val * 256 + r.val - 16; omega)
  · rw [ldU m ρ c t g o ho]
    dsimp only [uu]
    rw [dif_pos (by omega)]
    congr 1
    exact Fin.ext (by show t.val * 256 + r.val = t.val * 256 + 16 + r.val - 16; omega)

theorem tile3 (r : Fin 256) (l : Fin 1024) :
    out0_3 (grid0.coords t) (iblk0 (V0 m ρ) c 0 t) (iblk0 (V0 m ρ) c 1 t) (iblk0 (V0 m ρ) c 2 t) (ix2 r l)
      = sav (aP m c) (ix2 (row t (point_lt0 t) r) l) := by
  have key : ∀ (g : Fin 4) (r' k : Fin 256), r.val = r'.val → l.val = g.val * 256 + k.val →
      p (aP m c) (row t (point_lt0 t) r') g k = sav (aP m c) (ix2 (row t (point_lt0 t) r) l) := fun g r' k hr h => by
    have e1 : grp l = g := Fin.ext (by show l.val / 256 = g.val; omega)
    have e2 : lan l = k := Fin.ext (by show l.val % 256 = k.val; omega)
    show _ = p (aP m c) (row t (point_lt0 t) r) (grp l) (lan l)
    rw [e1, e2, show r = r' from Fin.ext (by omega)]
  have val : ∀ (g : Fin 4) (r' k : Fin 256) (a : EReal), a = u (aP m c) (row t (point_lt0 t) r') (col g k) →
      Ideal.div (back (fun n => uu (aP m c) n (col g k)) (wid g) (t.val * 256 + (16 + r'.val)))
        (cnt (wid g) ((grid0.coords t 0).val * 256 + r'.val)) - a = p (aP m c) (row t (point_lt0 t) r') g k := fun g r' k a ha => by
    rw [ha, (idx0 t).2.2.2]
    unfold p
    rw [show (row t (point_lt0 t) r').val + 16 = t.val * 256 + (16 + r'.val) by show t.val * 256 + r'.val + 16 = _; omega]
    rfl
  unfold_out out0_3
  canon_tiles x h
  all_goals idx_vars x
  · rw [← key 3 x0 x1 h0 h1]
    exact (pool16 (rows m ρ c t 3 768 rfl _ _ x1) x0).trans (val 3 x0 x1 _ (ldU m ρ c t 3 768 rfl _ x0 x1))
  · rw [← key 2 x0 x1 h0 h1]
    exact (pool8 (rows m ρ c t 2 512 rfl _ _ x1) x0).trans (val 2 x0 x1 _ (ldU m ρ c t 2 512 rfl _ x0 x1))
  · rw [← key 1 x0 x1 h0 h1]
    exact (pool4 (rows m ρ c t 1 256 rfl _ _ x1) x0).trans (val 1 x0 x1 _ (ldU m ρ c t 1 256 rfl _ x0 x1))
  · rw [← key 0 x0 x1 h0 (by rw [h1]; show _ = 0 * 256 + x1.val; omega)]
    exact (pool2 (rows m ρ c t 0 0 rfl _ _ x1) x0).trans (val 0 x0 x1 _ (ldU m ρ c t 0 0 rfl _ x0 x1))

/-- What the forward call leaves in the pooled values' array. -/
theorem saved : (dat0 (V0 m ρ) c).arrAt 3 cfg0.N = sav (aP m c) := by
  refine (dat0 (V0 m ρ) c).arrAt_eq_of_covers 3 _ (by decide +kernel) fun t hf y => ?_
  blk_simp
  rw [after0_3]
  idx_vars y
  refine (tile3 m ρ c t y0 y1).trans ?_
  congr 1
  blk_ext [idx0 t, row]

end Forward

section Backward
variable (t : Fin cfg1.N)

/-- An argument's array as the backward call finds it. -/
theorem kept (a : Ref sig .tc) (h : a ∈ argRefs) : V1 m ρ c a = m ((c.tc : Thread nD τ).loc a) := W1_args m ρ c a h

theorem kept_v0 : V1 m ρ c main_v0_0 = sav (aP m c) := (W1_arr m ρ c 3).trans (saved m ρ c)

theorem b0 (r : Fin 256) (l : Fin 1024) : iblk1 (V1 m ρ) c 0 t (ix2 r l) = aD m c (ix2 (row t (point_lt1 t) r) l) := by
  refine Eq.trans ?_ (congrFun (kept m ρ c main_arg0 (by decide)) _)
  blk_ext [iblk1, idx1 t, row]
theorem b1 (h : t.val ≠ 15) (r : Fin 16) (l : Fin 1024) :
    iblk1 (V1 m ρ) c 1 t (ix2 r l) = aD m c (ix2 ⟨t.val * 256 + 256 + r.val, by have := point_lt1 t; omega⟩ l) := by
  have := point_lt1 t
  refine Eq.trans ?_ (congrFun (kept m ρ c main_arg0 (by decide)) _)
  blk_ext [iblk1, idx1 t]
theorem b2 (r : Fin 256) (g : Fin 4) (k : Fin 256) : iblk1 (V1 m ρ) c 2 t (ix2 r (col g k)) = p (aP m c) (row t (point_lt1 t) r) g k := by
  refine Eq.trans ?_ ((congrFun (kept_v0 m ρ c) (ix2 (row t (point_lt1 t) r) (col g k))).trans ?_)
  · blk_ext [iblk1, idx1 t, row]
  · show p (aP m c) (row t (point_lt1 t) r) (grp (col g k)) (lan (col g k)) = _
    rw [show grp (col g k) = g from Fin.ext (by show (g.val * 256 + k.val) / 256 = g.val; omega),
      show lan (col g k) = k from Fin.ext (by show (g.val * 256 + k.val) % 256 = k.val; omega)]
theorem b3 (g : Fin 4) (k d : Fin 256) : iblk1 (V1 m ρ) c 3 t (ix3 g k d) = aW m c (ix3 g k d) := by
  refine Eq.trans ?_ (congrFun (kept m ρ c main_arg2 (by decide)) _)
  blk_ext [iblk1, idx1 t]

theorem ldD (g : Fin 4) (o : ℕ) (ho : o = g.val * 256) (h) (r d : Fin 256) :
    View.ld (iblk1 (V1 m ρ) c 0 t) (Rect.unit ![0, o] ![256, 256] h) (ix2 r d) = aD m c (ix2 (row t (point_lt1 t) r) (col g d)) := by
  refine Eq.trans ?_ (b0 m ρ c t r (col g d))
  unfold View.ld
  congr 1
  refine funext fun a => Fin.ext ?_
  match a with
  | ⟨0, _⟩ => show 0 + 1 * r.val = r.val; omega
  | ⟨1, _⟩ => show o + 1 * d.val = g.val * 256 + d.val; omega

theorem ldN (g : Fin 4) (o : ℕ) (ho : o = g.val * 256) (h) (h0 : t.val ≠ 15) (r : Fin 16) (d : Fin 256) :
    View.ld (iblk1 (V1 m ρ) c 1 t) (Rect.unit ![0, o] ![16, 256] h) (ix2 r d)
      = aD m c (ix2 ⟨t.val * 256 + 256 + r.val, by have := point_lt1 t; omega⟩ (col g d)) := by
  refine Eq.trans ?_ (b1 m ρ c t h0 r (col g d))
  unfold View.ld
  congr 1
  refine funext fun a => Fin.ext ?_
  match a with
  | ⟨0, _⟩ => show 0 + 1 * r.val = r.val; omega
  | ⟨1, _⟩ => show o + 1 * d.val = g.val * 256 + d.val; omega

theorem ldS (g : Fin 4) (o : ℕ) (ho : o = g.val * 256) (h) (r k : Fin 256) :
    View.ld (iblk1 (V1 m ρ) c 2 t) (Rect.unit ![0, o] ![256, 256] h) (ix2 r k) = p (aP m c) (row t (point_lt1 t) r) g k := by
  refine Eq.trans ?_ (b2 m ρ c t r g k)
  unfold View.ld
  congr 1
  refine funext fun a => Fin.ext ?_
  match a with
  | ⟨0, _⟩ => show 0 + 1 * r.val = r.val; omega
  | ⟨1, _⟩ => show o + 1 * k.val = g.val * 256 + k.val; omega

theorem ldW (g : Fin 4) (o : ℕ) (ho : o = g.val) (h) (u : Fin 1) (k d : Fin 256) :
    View.ld (iblk1 (V1 m ρ) c 3 t) (Rect.unit ![o, 0, 0] ![1, 256, 256] h) (ix3 u k d) = aW m c (ix3 g k d) := by
  refine Eq.trans ?_ (b3 m ρ c t g k d)
  unfold View.ld
  congr 1
  refine funext fun a => Fin.ext ?_
  match a with
  | ⟨0, _⟩ => show o + 1 * u.val = g.val; omega
  | ⟨1, _⟩ => show 0 + 1 * k.val = k.val; omega
  | ⟨2, _⟩ => show 0 + 1 * d.val = d.val; omega

/-- The loaded blocks hold the cotangent's rows of group `g`. -/
theorem rows1 (g : Fin 4) (o : ℕ) (ho : o = g.val * 256) (h h') :
    Rows1 (grid1.coords t) (View.ld (iblk1 (V1 m ρ) c 0 t) (Rect.unit ![0, o] ![256, 256] h))
      (View.ld (iblk1 (V1 m ρ) c 1 t) (Rect.unit ![0, o] ![16, 256] h')) ((grid1.coords t 0).val * 256)
      (fun n d => dd (aD m c) n (col g d)) := by
  have ht := point_lt1 t
  rw [show (grid1.coords t 0).val * 256 = t.val * 256 by rw [(idx1 t).2.2.2.2.2.2]]
  refine ⟨fun r d => ?_, fun r d => ?_⟩
  · rw [ldD m ρ c t g o ho]
    dsimp only [dd]
    rw [dif_pos (by omega)]
    rfl
  · rw [(idx1 t).2.2.2.2.2.2]
    dsimp only [dd]
    by_cases h0 : t.val = 15
    · rw [if_pos h0, dif_neg (by omega)]
    · rw [if_neg h0, dif_pos (by omega), ldN m ρ c t g o ho h' h0]

theorem pr_eq (g : Fin 4) (o : ℕ) (ho : o = g.val) (h) (k : Fin 256) (n : ℕ) :
    pr (fun n d => dd (aD m c) n (col g d)) (View.ld (iblk1 (V1 m ρ) c 3 t) (Rect.unit ![o, 0, 0] ![1, 256, 256] h)) k n
      = dp (aD m c) (aW m c) n g k := by
  unfold pr dp
  exact Finset.sum_congr rfl fun d _ => by rw [ldW m ρ c t g o ho]

theorem qu_eq (g : Fin 4) (o : ℕ) (ho : o = g.val) (h) (k : Fin 256) (w : ℕ) (hw : w = wid g) :
    qu (fun n d => dd (aD m c) n (col g d)) (View.ld (iblk1 (V1 m ρ) c 3 t) (Rect.unit ![o, 0, 0] ![1, 256, 256] h)) w k
      = fun n => q (aD m c) (aW m c) n g k := by
  funext n
  unfold qu q
  rw [pr_eq m ρ c t g o ho, hw]

/-- The four stores of the projection's gradient. -/
def tilePieces : List (View.Piece (Elt Ideal) S256x1024 .bf16) :=
      [⟨Rect.unit ![0, 768] ![256, 256] inb_S256x1024_S256x256_0_768,
          k1_pay13 (BitVec.ofNat 32 (grid1.coords t 0).val) (k1_pay3 (grid1.coords t))
            (View.ld (iblk1 (V1 m ρ) c 0 t) (Rect.unit ![0, 768] ![256, 256] inb_S256x1024_S256x256_0_768))
            (View.ld (iblk1 (V1 m ρ) c 1 t) (Rect.unit ![0, 768] ![16, 256] inb_S16x1024_S16x256_0_768))
            (View.ld (iblk1 (V1 m ρ) c 3 t) (Rect.unit ![3, 0, 0] ![1, 256, 256] inb_S4x256x256_S1x256x256_3_0_0))⟩,
        ⟨Rect.unit ![0, 512] ![256, 256] inb_S256x1024_S256x256_0_512,
          k1_pay11 (BitVec.ofNat 32 (grid1.coords t 0).val) (k1_pay3 (grid1.coords t))
            (View.ld (iblk1 (V1 m ρ) c 0 t) (Rect.unit ![0, 512] ![256, 256] inb_S256x1024_S256x256_0_512))
            (View.ld (iblk1 (V1 m ρ) c 1 t) (Rect.unit ![0, 512] ![16, 256] inb_S16x1024_S16x256_0_512))
            (View.ld (iblk1 (V1 m ρ) c 3 t) (Rect.unit ![2, 0, 0] ![1, 256, 256] inb_S4x256x256_S1x256x256_2_0_0))⟩,
        ⟨Rect.unit ![0, 256] ![256, 256] inb_S256x1024_S256x256_0_256,
          k1_pay8 (BitVec.ofNat 32 (grid1.coords t 0).val) (k1_pay3 (grid1.coords t))
            (View.ld (iblk1 (V1 m ρ) c 0 t) (Rect.unit ![0, 256] ![256, 256] inb_S256x1024_S256x256_0_256))
            (View.ld (iblk1 (V1 m ρ) c 1 t) (Rect.unit ![0, 256] ![16, 256] inb_S16x1024_S16x256_0_256))
            (View.ld (iblk1 (V1 m ρ) c 3 t) (Rect.unit ![1, 0, 0] ![1, 256, 256] inb_S4x256x256_S1x256x256_1_0_0))⟩,
        ⟨Rect.unit ![0, 0] ![256, 256] inb_S256x1024_S256x256_0_0,
          k1_pay4 (grid1.coords t)
            (View.ld (iblk1 (V1 m ρ) c 0 t) (Rect.unit ![0, 0] ![256, 256] inb_S256x1024_S256x256_0_0))
            (View.ld (iblk1 (V1 m ρ) c 1 t) (Rect.unit ![0, 0] ![16, 256] inb_S16x1024_S16x256_0_0))
            (View.ld (iblk1 (V1 m ρ) c 3 t) (Rect.unit ![0, 0, 0] ![1, 256, 256] inb_S4x256x256_S1x256x256_0_0_0))⟩]

theorem tile4 (r : Fin 256) (l : Fin 1024) : (outsAt1 (V1 m ρ) c t.val t.isLt).1 (ix2 r l)
    = du (aD m c) (aW m c) (ix2 (row t (point_lt1 t) r) l) := by
  have key : ∀ (g : Fin 4) (r' k : Fin 256), r.val = r'.val → l.val = g.val * 256 + k.val →
      dug (aD m c) (aW m c) (row t (point_lt1 t) r') g k = du (aD m c) (aW m c) (ix2 (row t (point_lt1 t) r) l) := fun g r' k hr h => by
    have e1 : grp l = g := Fin.ext (by show l.val / 256 = g.val; omega)
    have e2 : lan l = k := Fin.ext (by show l.val % 256 = k.val; omega)
    show _ = dug (aD m c) (aW m c) (row t (point_lt1 t) r) (grp l) (lan l)
    rw [e1, e2, show r = r' from Fin.ext (by omega)]
  have val : ∀ (g : Fin 4) (r' k : Fin 256) (o : ℕ) (ho : o = g.val) (h) (w : ℕ) (hw : w = wid g),
      fwd (qu (fun n d => dd (aD m c) n (col g d)) (View.ld (iblk1 (V1 m ρ) c 3 t) (Rect.unit ![o, 0, 0] ![1, 256, 256] h)) w k) w
          ((grid1.coords t 0).val * 256 + r'.val)
        - pr (fun n d => dd (aD m c) n (col g d)) (View.ld (iblk1 (V1 m ρ) c 3 t) (Rect.unit ![o, 0, 0] ![1, 256, 256] h)) k
          ((grid1.coords t 0).val * 256 + r'.val)
        = dug (aD m c) (aW m c) (row t (point_lt1 t) r') g k := fun g r' k o ho h w hw => by
    rw [qu_eq m ρ c t g o ho h k w hw, pr_eq m ρ c t g o ho, (idx1 t).2.2.2.2.2.2, hw]
    rfl
  have all : ∀ L : List (View.Piece (Elt Ideal) S256x1024 .bf16), L = tilePieces m ρ c t → View.canon L (ix2 r l)
      = du (aD m c) (aW m c) (ix2 (row t (point_lt1 t) r) l) := fun L hL => by
    subst hL
    unfold tilePieces
    canon_tiles x h
    all_goals idx_vars x
    · rw [← key 3 x0 x1 h0 h1]
      exact (spread16 (rows1 m ρ c t 3 768 rfl _ _) x0 x1).trans (val 3 x0 x1 3 rfl _ 16 rfl)
    · rw [← key 2 x0 x1 h0 h1]
      exact (spread8 (rows1 m ρ c t 2 512 rfl _ _) x0 x1).trans (val 2 x0 x1 2 rfl _ 8 rfl)
    · rw [← key 1 x0 x1 h0 h1]
      exact (spread4 (rows1 m ρ c t 1 256 rfl _ _) x0 x1).trans (val 1 x0 x1 1 rfl _ 4 rfl)
    · rw [← key 0 x0 x1 h0 (by rw [h1]; show _ = 0 * 256 + x1.val; omega)]
      exact (spread2 (rows1 m ρ c t 0 0 rfl _ _) x0 x1).trans (val 0 x0 x1 0 rfl _ 2 rfl)
  by_cases h0 : t.val % 16 = 0
  · rw [outsAt1_A (V1 m ρ) c t h0]
    frame_out
    exact all _ rfl
  · rw [outsAt1_B (V1 m ρ) c t h0]
    frame_out
    exact all _ rfl

/-- What one tile adds to the weights' gradient. -/
def part (t : Fin cfg1.N) (j : S4x256x256.Idx) : EReal := ∑ r : Fin 256,
  p (aP m c) (row t (point_lt1 t) r) (j 0) (j 1) * aD m c (ix2 (row t (point_lt1 t) r) (col (j 0) (j 2)))

theorem dot_part (g : Fin 4) (o : ℕ) (ho : o = g.val * 256) (h h') (k d : Fin 256) :
    dot (View.ld (iblk1 (V1 m ρ) c 2 t) (Rect.unit ![0, o] ![256, 256] h))
        (View.ld (iblk1 (V1 m ρ) c 0 t) (Rect.unit ![0, o] ![256, 256] h')) k d = part m c t (ix3 g k d) := by
  unfold dot
  simp only [ldD m ρ c t g o ho, ldS m ρ c t g o ho]
  rfl

/-- The four stores of the weights' sums over what they held. -/
theorem store5 (x : Vec Ideal S4x256x256 .f32) (L : List (View.Piece (Elt Ideal) S4x256x256 .f32)) (j : S4x256x256.Idx) :
    View.canon (Val := Elt Ideal) (s := S4x256x256) (e := .f32)
      ([⟨Rect.unit ![3, 0, 0] ![1, 256, 256] inb_S4x256x256_S1x256x256_3_0_0,
          k1_pay1 (View.ld (iblk1 (V1 m ρ) c 0 t) (Rect.unit ![0, 768] ![256, 256] inb_S256x1024_S256x256_0_768))
            (View.ld x (Rect.unit ![3, 0, 0] ![1, 256, 256] inb_S4x256x256_S1x256x256_3_0_0))
            (View.ld (iblk1 (V1 m ρ) c 2 t) (Rect.unit ![0, 768] ![256, 256] inb_S256x1024_S256x256_0_768))⟩,
        ⟨Rect.unit ![2, 0, 0] ![1, 256, 256] inb_S4x256x256_S1x256x256_2_0_0,
          k1_pay12 (View.ld (iblk1 (V1 m ρ) c 0 t) (Rect.unit ![0, 512] ![256, 256] inb_S256x1024_S256x256_0_512))
            (View.ld x (Rect.unit ![2, 0, 0] ![1, 256, 256] inb_S4x256x256_S1x256x256_2_0_0))
            (View.ld (iblk1 (V1 m ρ) c 2 t) (Rect.unit ![0, 512] ![256, 256] inb_S256x1024_S256x256_0_512))⟩,
        ⟨Rect.unit ![1, 0, 0] ![1, 256, 256] inb_S4x256x256_S1x256x256_1_0_0,
          k1_pay10 (View.ld (iblk1 (V1 m ρ) c 0 t) (Rect.unit ![0, 256] ![256, 256] inb_S256x1024_S256x256_0_256))
            (k1_pay9 (View.ld x (Rect.unit ![1, 0, 0] ![1, 256, 256] inb_S4x256x256_S1x256x256_1_0_0)))
            (View.ld (iblk1 (V1 m ρ) c 2 t) (Rect.unit ![0, 256] ![256, 256] inb_S256x1024_S256x256_0_256))⟩,
        ⟨Rect.unit ![0, 0, 0] ![1, 256, 256] inb_S4x256x256_S1x256x256_0_0_0,
          k1_pay7 (View.ld (iblk1 (V1 m ρ) c 0 t) (Rect.unit ![0, 0] ![256, 256] inb_S256x1024_S256x256_0_0))
            (k1_pay5 (View.ld x (Rect.unit ![0, 0, 0] ![1, 256, 256] inb_S4x256x256_S1x256x256_0_0_0)))
            (k1_pay6 (View.ld (iblk1 (V1 m ρ) c 2 t) (Rect.unit ![0, 0] ![256, 256] inb_S256x1024_S256x256_0_0)))⟩] ++ L) j
      = x j + part m c t j := by
  have at_group : ∀ (a : Fin 4) (o : ℕ) (ho : o = a.val) (h : ∀ b, (![o, 0, 0] : Fin 3 → ℕ) b + S1x256x256.size b ≤ S4x256x256.size b) (u : Fin 1) (k d : Fin 256),
      (Rect.unit (s := S4x256x256) ![o, 0, 0] ![1, 256, 256] h).emb (ix3 u k d) = ix3 a k d := fun a o ho h u k d =>
    funext fun b => Fin.ext (match b with
      | ⟨0, _⟩ => by show o + 1 * u.val = a.val; omega
      | ⟨1, _⟩ => by show 0 + 1 * k.val = k.val; omega
      | ⟨2, _⟩ => by show 0 + 1 * d.val = d.val; omega)
  have held : ∀ (a : Fin 4) (o : ℕ) (ho : o = a.val) (h : ∀ b, (![o, 0, 0] : Fin 3 → ℕ) b + S1x256x256.size b ≤ S4x256x256.size b) (k d : Fin 256),
      View.ld x (Rect.unit ![o, 0, 0] ![1, 256, 256] h) (ix3 0 k d) = x (ix3 a k d) := fun a o ho h k d =>
    congrArg x (at_group a o ho h 0 k d)
  have close : ∀ (a : Fin 4) (o : ℕ) (ho : o = a.val) (h : ∀ b, (![o, 0, 0] : Fin 3 → ℕ) b + S1x256x256.size b ≤ S4x256x256.size b)
      (o' : ℕ) (ho' : o' = a.val * 256) (h2 h0) (u : Fin 1) (k d : Fin 256),
      View.ld x (Rect.unit ![o, 0, 0] ![1, 256, 256] h) (ix3 0 k d)
          + dot (View.ld (iblk1 (V1 m ρ) c 2 t) (Rect.unit ![0, o'] ![256, 256] h2))
            (View.ld (iblk1 (V1 m ρ) c 0 t) (Rect.unit ![0, o'] ![256, 256] h0)) k d
        = (fun j => x j + part m c t j) ((Rect.unit (s := S4x256x256) ![o, 0, 0] ![1, 256, 256] h).emb (ix3 u k d)) :=
      fun a o ho h o' ho' h2 h0 u k d => by
    rw [at_group a o ho h u k d, held a o ho h, dot_part m ρ c t a o' ho']
  refine View.canon_append_of_piecesOf (fun j => x j + part m c t j) L [_, _, _, _]
    ⟨fun k => ?_, fun k => ?_, fun k => ?_, fun k => ?_, trivial⟩ j (View.cover_of_tiledL _ ![1, 256, 256] rfl j)
  all_goals idx_vars k
  · exact (acc1 _ _ _ k0 k1 k2).trans (close 3 3 rfl _ 768 rfl _ _ k0 k1 k2)
  · exact (acc12 _ _ _ k0 k1 k2).trans (close 2 2 rfl _ 512 rfl _ _ k0 k1 k2)
  · exact (acc10 _ _ _ k0 k1 k2).trans (close 1 1 rfl _ 256 rfl _ _ k0 k1 k2)
  · exact (acc7 _ _ _ k0 k1 k2).trans (close 0 0 rfl _ 0 rfl _ _ k0 k1 k2)

end Backward

theorem array4 : (dat1 (V1 m ρ) c).arrAt 4 cfg1.N = du (aD m c) (aW m c) := by
  refine (dat1 (V1 m ρ) c).arrAt_eq_of_covers 4 _ (by decide +kernel) fun t hf y => ?_
  blk_simp
  rw [after1_4]
  idx_vars y
  refine (tile4 m ρ c t y0 y1).trans ?_
  congr 1
  blk_ext [idx1 t, row]

/-- A sum over the tiles of sums over their rows. -/
theorem sum_tiles (f : Fin 4096 → EReal) : ∑ t : Fin cfg1.N, ∑ r : Fin 256, f (row t (point_lt1 t) r) = ∑ r : Fin 4096, f r := by
  have h := @Fin.sum_points_lanes_congr EReal inferInstance cfg1.N 256 1 4096 16
    (fun t r => f (row t (point_lt1 t) r)) (fun _ r => f r) (fun t k ha hl => by
      have := point_lt1 t
      exact congrArg f (Fin.ext (by show t.val * 256 + k.val = t.val % 16 * 256 + k.val; omega)))
    (by decide) (by decide)
  exact h.trans (Fin.sum_univ_one _)

theorem array5 : (dat1 (V1 m ρ) c).arrAt 5 cfg1.N = dw (aD m c) (aP m c) := by
  refine (dat1 (V1 m ρ) c).arrAt_eq_of_after_last 5 t1_15 (by decide +kernel) _ fun j => ?_
  blk_simp
  rw [after1_5, Pipeline.eq_sum_fin_of_reset_step_apply_last (fun n h => (outsAt1 (V1 m ρ) c n h).2) 16 (fun _ => 0) (part m c)
    (fun t h j => by
      rw [outsAt1_A (V1 m ρ) c t h]
      frame_out
      simp (disch := decide) only [↓ View.readCov_skip, ↓ View.readCov_cons_toLoadRect, ↓ View.readCov_fill]
      refine (store5 m ρ c t _ [_] j).trans ?_
      pointwise [k1_pay2])
    (fun t h j => by
      rw [outsAt1_B (V1 m ρ) c t h]
      frame_out
      exact store5 m ρ c t _ [] j)
    (le_of_eq N_1) t1_15 rfl j, zero_add]
  exact sum_tiles fun r => p (aP m c) r (j 0) (j 1) * aD m c (ix2 r (col (j 0) (j 2)))

section Launch
open Idealize.ShloMosaic.Tactic Idealize.SL Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

set_option backward.isDefEq.respectTransparency.types false in
/-- The launch of the two calls: what the results' arrays hold at the end. -/
theorem run : θ_run defs (onTc (τ := τ) (main (F := Ideal))) ⟨m, fun _ => 0, ρ⟩ (fun r => ∀ c : Dev nD,
      r.2.mem ((c.tc : Thread nD τ).loc main_v1_0) = du (aD m c) (aW m c)
      ∧ r.2.mem ((c.tc : Thread nD τ).loc main_v1_1) = dw (aD m c) (aP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨((h c _ (mem_uc main_v1_0 (by decide))).trans (W2_arr m ρ c 4)).trans (array4 m ρ c),
       ((h c _ (mem_uc main_v1_1 (by decide))).trans (W2_arr m ρ c 5)).trans (array5 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Launch

end Cert.PoolIdeal.Hand

end
-- ==== Proof.PoolClaim.lean ====
/- The value claim of the pooling gradient: both programs leave the arrays of `PoolSpec`. -/
module

public import proofs.«01_k».proof.Defs
public import proofs.«01_k».proof.Proof.Gen.Pre_pool_finite
public import proofs.«01_k».proof.Proof.Gen.PoolRefIdeal.Run
public import proofs.«01_k».proof.Proof.PoolRef
public import proofs.«01_k».proof.Proof.PoolKernel

@[expose] public section

set_option maxRecDepth 16384

noncomputable section

namespace Cert.PoolClaim

open Idealize.ShloMosaic Idealize.ShloMosaic.TcCoe Idealize.SL.Sem Real1
open PoolSpec
open Cert.PoolIdeal.Hand (aD aP aW)

variable (m : (ℓ : Loc Cert.PoolIdeal.nD Cert.PoolIdeal.τ Cert.PoolIdeal.sig) → Buf (Elt Ideal) ℓ)

/-- The precondition, entry by entry. -/
theorem real_args (h : Cert.Pre_PoolIdeal_pool_finite m) (c : Dev Cert.PoolIdeal.nD) :
    (∀ i, IsR (aD m c i)) ∧ (∀ i, IsR (aP m c i)) ∧ (∀ i, IsR (aW m c i)) := by
  obtain ⟨h0, h1, h2⟩ := h c
  refine ⟨fun i => ?_, fun i => ?_, fun i => ?_⟩
  · have h := congrFun h0 i
    pointwise [Cert.Pre_pool_finite.fn] at h
    exact isR_of_bit h
  · have h := congrFun h1 i
    pointwise [Cert.Pre_pool_finite.fn] at h
    exact isR_of_bit h
  · have h := congrFun h2 i
    pointwise [Cert.Pre_pool_finite.fn] at h
    exact isR_of_bit h

theorem algebraic : Cert.algebraic_PoolIdeal_PoolRefIdeal_pre_pool_finite := fun m g m' g' hpre hargs => by
  refine ⟨fun c => du (aD m c) (aW m c), fun c => dw (aD m c) (aP m c), Cert.PoolIdeal.Hand.run m g, ?_⟩
  refine (θ_run Cert.PoolRefIdeal.defs _ _).mono (fun r h c => ?_) (Cert.PoolRefIdeal.Value.run m' g')
  obtain ⟨r0, r1, kept⟩ := h c
  obtain ⟨a0, a1, a2⟩ := hargs c
  obtain ⟨f0, f1, f2⟩ := real_args m hpre c
  refine ⟨r0.trans ?_, r1.trans ?_, kept⟩
  · refine (Cert.PoolRefIdeal.Read.val_main_v136_eq _ _).trans ?_
    rw [a0, a2]
    refine funext fun j => ?_
    idx_vars j
    exact Cert.PoolRefIdeal.Hand.du_apply f0 f2 _ _
  · refine (Cert.PoolRefIdeal.Read.val_main_v79_eq _ _).trans ?_
    rw [a0, a1]
    refine funext fun j => ?_
    idx_vars j
    exact Cert.PoolRefIdeal.Hand.dw_apply _ _ f1 _ _ _

end Cert.PoolClaim

end
-- ==== Proof.InSpec.lean ====
/- The gradient of the first layer's input projection and of the norm before it, entry by entry over the extended reals: what
   both programs are shown to compute. -/
module

public import proofs.«01_k».proof.Proof.NormReal

@[expose] public section

noncomputable section

namespace InSpec

open Idealize.ShloMosaic Real1 Norm

/-- The residual stream, a vector of the width, the projection's weight in eight shards, and the two widths of cotangent. -/
abbrev AX := (⟨2, ![4096, 1024]⟩ : Shape).Idx → EReal
abbrev AV := (⟨2, ![1, 1024]⟩ : Shape).Idx → EReal
abbrev AW := (⟨3, ![8, 768, 1024]⟩ : Shape).Idx → EReal
abbrev A2 := (⟨2, ![4096, 2048]⟩ : Shape).Idx → EReal

/-- Row `n` of the weight, over the shards one after another. -/
def wrow (W : AW) (n : ℕ) (h : n < 6144) (l : Fin 1024) : EReal := W (ix3 ⟨n / 768, by omega⟩ ⟨n % 768, by omega⟩ l)

variable (X : AX) (G S : AV) (W : AW) (U Q K V : AX) (Z : A2) (D : AX)

def xn (r : Fin 4096) (l : Fin 1024) : EReal := X (ix2 r l) * rs fun l => X (ix2 r l)
/-- One narrow part's share of the cotangent of the modulated row, the wide part's, and all five. -/
def dp (C : AX) (o : ℕ) (h : o + 1024 ≤ 6144) (r : Fin 4096) (l : Fin 1024) : EReal :=
  ∑ k : Fin 1024, C (ix2 r k) * wrow W (o + k.val) (by omega) l
def dp2 (C : A2) (o : ℕ) (h : o + 2048 ≤ 6144) (r : Fin 4096) (l : Fin 1024) : EReal :=
  ∑ k : Fin 2048, C (ix2 r k) * wrow W (o + k.val) (by omega) l
def dh (r : Fin 4096) (l : Fin 1024) : EReal :=
  dp W U 0 (by decide) r l + dp W Q 1024 (by decide) r l + dp W K 2048 (by decide) r l + dp W V 3072 (by decide) r l
    + dp2 W Z 4096 (by decide) r l
def dn (r : Fin 4096) (l : Fin 1024) : EReal := dh W U Q K V Z r l * (1 + S (ix2 0 l))
def dxn (r : Fin 4096) (l : Fin 1024) : EReal := dn S W U Q K V Z r l * G (ix2 0 l)

def dx : AX := fun i => D i + bwd (fun l => X (ix2 (i 0) l)) (dxn G S W U Q K V Z (i 0)) (i 1)
def dsh : AV := fun i => ∑ r, dh W U Q K V Z r (i 1)
def dsc : AV := fun i => ∑ r, dh W U Q K V Z r (i 1) * (xn X r (i 1) * G (ix2 0 (i 1)))
def dg : AV := fun i => ∑ r, dn S W U Q K V Z r (i 1) * xn X r (i 1)

end InSpec

end
-- ==== Proof.InKernel.lean ====
/- The four results of the first projection's gradient call, read entry by entry. -/
module

public import proofs.«01_k».proof.Proof.Gen.InIdeal.Frame
public import proofs.«01_k».proof.Proof.InSpec
public import Idealize.ShloMosaic.Lib.Pipeline.ValueKit
public import Idealize.ShloMosaic.Lib.Pipeline.ReadBack

@[expose] public section

set_option maxRecDepth 16384

noncomputable section

namespace Cert.InIdeal.Hand

open Cert.InIdeal Cert.InIdeal.Gen Idealize.ShloMosaic Idealize.ShloMosaic.TcCoe Idealize.SL.Sem
open Idealize.ShloMosaic.Pipeline (Dat)
open InSpec Norm

/-- Where each window's block sits at point `t`. -/
abbrev Idx (t : Fin grid0.N) : Prop :=
  (win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0])
  ∧ (win0_8.index t = ![0, 0] ∧ win0_9.index t = ![0, 0] ∧ win0_10.index t = ![t.val, 0] ∧ win0_11.index t = ![0, 0]
    ∧ win0_12.index t = ![0, 0] ∧ win0_13.index t = ![0, 0])

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (ρ : Dev nD → PrngReg) (c : Dev nD)

/-- The ten arguments on device `c` that the gradients are of. -/
abbrev aX : AX := m ((c.tc : Thread nD τ).loc main_arg0)
abbrev aG : AV := m ((c.tc : Thread nD τ).loc main_arg1)
abbrev aS : AV := m ((c.tc : Thread nD τ).loc main_arg2)
abbrev aW : AW := m ((c.tc : Thread nD τ).loc main_arg4)
abbrev aU : AX := m ((c.tc : Thread nD τ).loc main_arg5)
abbrev aQ : AX := m ((c.tc : Thread nD τ).loc main_arg6)
abbrev aK : AX := m ((c.tc : Thread nD τ).loc main_arg7)
abbrev aV : AX := m ((c.tc : Thread nD τ).loc main_arg8)
abbrev aZ : A2 := m ((c.tc : Thread nD τ).loc main_arg9)
abbrev aD : AX := m ((c.tc : Thread nD τ).loc main_arg10)

/-- The cotangent of the modulated rows, and of the normed rows before and after the norm's scale, on device `c`. -/
abbrev eh := dh (aW m c) (aU m c) (aQ m c) (aK m c) (aV m c) (aZ m c)
abbrev en := dn (aS m c) (aW m c) (aU m c) (aQ m c) (aK m c) (aV m c) (aZ m c)
abbrev ex := dx (aX m c) (aG m c) (aS m c) (aW m c) (aU m c) (aQ m c) (aK m c) (aV m c) (aZ m c) (aD m c)
abbrev exn := xn (aX m c)

section Point
variable (t : Fin cfg0.N)

/-- Row `r` of the tile of point `t`. -/
def row (r : Fin 256) : Fin 4096 := ⟨t.val * 256 + r.val, by have := point_lt t; omega⟩

theorem b0 (r : Fin 256) (k : Fin 1024) : iblk m c 0 t (ix2 r k) = aU m c (ix2 (row t r) k) := by
  refine Eq.trans ?_ (congrFun (V_main_arg5 m c) _)
  blk_ext [iblk, idx t, row]
theorem b1 (r : Fin 256) (k : Fin 1024) : iblk m c 1 t (ix2 r k) = aQ m c (ix2 (row t r) k) := by
  refine Eq.trans ?_ (congrFun (V_main_arg6 m c) _)
  blk_ext [iblk, idx t, row]
theorem b2 (r : Fin 256) (k : Fin 1024) : iblk m c 2 t (ix2 r k) = aK m c (ix2 (row t r) k) := by
  refine Eq.trans ?_ (congrFun (V_main_arg7 m c) _)
  blk_ext [iblk, idx t, row]
theorem b3 (r : Fin 256) (k : Fin 1024) : iblk m c 3 t (ix2 r k) = aV m c (ix2 (row t r) k) := by
  refine Eq.trans ?_ (congrFun (V_main_arg8 m c) _)
  blk_ext [iblk, idx t, row]
theorem b4 (r : Fin 256) (k : Fin 2048) : iblk m c 4 t (ix2 r k) = aZ m c (ix2 (row t r) k) := by
  refine Eq.trans ?_ (congrFun (V_main_arg9 m c) _)
  blk_ext [iblk, idx t, row]
theorem b6 (r : Fin 256) (k : Fin 1024) : iblk m c 6 t (ix2 r k) = aX m c (ix2 (row t r) k) := by
  refine Eq.trans ?_ (congrFun (V_main_arg0 m c) _)
  blk_ext [iblk, idx t, row]
theorem b7 (r : Fin 256) (k : Fin 1024) : iblk m c 7 t (ix2 r k) = aD m c (ix2 (row t r) k) := by
  refine Eq.trans ?_ (congrFun (V_main_arg10 m c) _)
  blk_ext [iblk, idx t, row]
theorem b8 (r : Fin 1) (l : Fin 1024) : iblk m c 8 t (ix2 r l) = aG m c (ix2 0 l) := by
  refine Eq.trans ?_ (congrFun (V_main_arg1 m c) _)
  blk_ext [iblk, idx t]
theorem b9 (r : Fin 1) (l : Fin 1024) : iblk m c 9 t (ix2 r l) = aS m c (ix2 0 l) := by
  refine Eq.trans ?_ (congrFun (V_main_arg2 m c) _)
  blk_ext [iblk, idx t]

/-- The weight as the call finds it: the shards one after another. -/
theorem kept_v0 (n : Fin 6144) (l : Fin 1024) : V m c main_v0 (ix2 n l) = wrow (aW m c) n.val n.isLt l := by
  have h : V m c main_v0 = shapeCast S6144x1024 (aW m c) shapeCasts_S8x768x1024_S6144x1024 := by
    show StableHlo.after hostOps0 _ _ = _
    simp only [hostOps0, StableHlo.after_cons, StableHlo.after_nil]
    exact StableHlo.reshape_result ..
  rw [h]
  pointwise
  rfl

theorem b5 (n : Fin 6144) (l : Fin 1024) : iblk m c 5 t (ix2 n l) = wrow (aW m c) n.val n.isLt l := by
  refine Eq.trans ?_ (kept_v0 m c n l)
  blk_ext [iblk, idx t]

/-- The cotangent of the modulated rows in the tile. -/
abbrev q := k0_pay5 (F := Ideal) (iblk m c 0 t)
    (View.ld (iblk m c 5 t) (Rect.unit ![0, 0] ![1024, 1024] inb_S6144x1024_S1024x1024_0_0)) (iblk m c 1 t)
    (View.ld (iblk m c 5 t) (Rect.unit ![1024, 0] ![1024, 1024] inb_S6144x1024_S1024x1024_1024_0)) (iblk m c 2 t)
    (View.ld (iblk m c 5 t) (Rect.unit ![2048, 0] ![1024, 1024] inb_S6144x1024_S1024x1024_2048_0)) (iblk m c 3 t)
    (View.ld (iblk m c 5 t) (Rect.unit ![3072, 0] ![1024, 1024] inb_S6144x1024_S1024x1024_3072_0)) (iblk m c 4 t)
    (View.ld (iblk m c 5 t) (Rect.unit ![4096, 0] ![2048, 1024] inb_S6144x1024_S2048x1024_4096_0))

theorem q_apply (r : Fin 256) (l : Fin 1024) : q m c t (ix2 r l) = eh m c (row t r) l := by
  unfold q
  pointwise [k0_pay5]
  simp only [b0, b1, b2, b3, b4, b5]
  simp only [eh, dh, dp, dp2, Nat.zero_add]

theorem p6 (r : Fin 256) (u : Fin 1) : k0_pay6 (iblk m c 6 t) (ix2 r u) = rs fun l => aX m c (ix2 (row t r) l) := by
  pointwise [k0_pay6]
  simp only [b6]
  rfl

theorem p7 (r : Fin 256) (l : Fin 1024) : k0_pay7 (iblk m c 6 t) (ix2 r l) = exn m c (row t r) l := by
  pointwise [k0_pay7]
  rw [b6, p6]
  rfl

theorem p10 (r : Fin 256) (l : Fin 1024) : k0_pay10 (q m c t) (iblk m c 9 t) (ix2 r l) = en m c (row t r) l := by
  pointwise [k0_pay10]
  rw [q_apply, b9]
  rfl

theorem p1 (r : Fin 256) (l : Fin 1024) :
    k0_pay1 (iblk m c 8 t) (k0_pay6 (iblk m c 6 t)) (k0_pay7 (iblk m c 6 t)) (k0_pay10 (q m c t) (iblk m c 9 t)) (iblk m c 7 t) (ix2 r l)
      = ex m c (ix2 (row t r) l) := by
  pointwise [k0_pay1]
  simp only [p10, b8, p7, p6, b7]
  rfl

/-- What one tile adds to the shift's, the scale's and the norm scale's gradient. -/
def part11 (j : S1x1024.Idx) : EReal := ∑ r : Fin 256, eh m c (row t r) (j 1)
def part12 (j : S1x1024.Idx) : EReal := ∑ r : Fin 256, eh m c (row t r) (j 1) * (exn m c (row t r) (j 1) * aG m c (ix2 0 (j 1)))
def part13 (j : S1x1024.Idx) : EReal := ∑ r : Fin 256, en m c (row t r) (j 1) * exn m c (row t r) (j 1)

theorem step11 (x : Vec Ideal S1x1024 .f32) (j : S1x1024.Idx) : k0_pay8 (q m c t) x j = x j + part11 m c t j := by
  idx_vars j
  pointwise [k0_pay8]
  simp only [q_apply]
  rfl

theorem step12 (x : Vec Ideal S1x1024 .f32) (j : S1x1024.Idx) :
    k0_pay9 (q m c t) (iblk m c 6 t) (iblk m c 8 t) x j = x j + part12 m c t j := by
  idx_vars j
  pointwise [k0_pay9]
  simp only [q_apply, p7, b8]
  rfl

theorem step13 (x : Vec Ideal S1x1024 .f32) (j : S1x1024.Idx) :
    k0_pay11 (q m c t) (iblk m c 6 t) (iblk m c 9 t) x j = x j + part13 m c t j := by
  idx_vars j
  pointwise [k0_pay11]
  simp only [p10, p7]
  rfl

theorem tile10 (r : Fin 256) (l : Fin 1024) : (outsAt0 m c t.val t.isLt).1 (ix2 r l) = ex m c (ix2 (row t r) l) := by
  by_cases h0 : t.val % 16 = 0
  · rw [outsAt0_A m c t h0]
    frame_out
    exact p1 m c t r l
  · rw [outsAt0_B m c t h0]
    frame_out
    exact p1 m c t r l

end Point

theorem array10 : (dats m 0 c).arrAt 10 cfg0.N = ex m c := by
  refine (dats m 0 c).arrAt_eq_of_covers 10 _ (by decide +kernel) fun t hf y => ?_
  blk_simp
  rw [after0_10]
  idx_vars y
  refine (tile10 m c t y0 y1).trans ?_
  congr 1
  blk_ext [idx t, row]

/-- A sum over the tiles of sums over their rows. -/
theorem sum_tiles (f : Fin 4096 → EReal) : ∑ t : Fin cfg0.N, ∑ r : Fin 256, f (row t r) = ∑ r : Fin 4096, f r := by
  have h := @Fin.sum_points_lanes_congr EReal inferInstance cfg0.N 256 1 4096 16
    (fun t r => f (row t r)) (fun _ r => f r) (fun t k ha hl => by
      have := point_lt t
      exact congrArg f (Fin.ext (by show t.val * 256 + k.val = t.val % 16 * 256 + k.val; omega)))
    (by decide) (by decide)
  exact h.trans (Fin.sum_univ_one _)

theorem array11 : (dats m 0 c).arrAt 11 cfg0.N = dsh (aW m c) (aU m c) (aQ m c) (aK m c) (aV m c) (aZ m c) := by
  refine (dats m 0 c).arrAt_eq_of_after_last 11 t0_15 (by decide +kernel) _ fun j => ?_
  blk_simp
  rw [after0_11, Pipeline.eq_sum_fin_of_reset_step_apply_last (fun n h => (outsAt0 m c n h).2.1) 16 (fun _ => 0) (part11 m c)
    (fun t h j => by
      rw [outsAt0_A m c t h]
      frame_out
      refine (step11 m c t _ j).trans ?_
      pointwise [k0_pay2])
    (fun t h j => by
      rw [outsAt0_B m c t h]
      frame_out
      exact step11 m c t _ j)
    (le_of_eq N_0) t0_15 rfl j, zero_add]
  exact sum_tiles fun r => eh m c r (j 1)

theorem array12 : (dats m 0 c).arrAt 12 cfg0.N = dsc (aX m c) (aG m c) (aW m c) (aU m c) (aQ m c) (aK m c) (aV m c) (aZ m c) := by
  refine (dats m 0 c).arrAt_eq_of_after_last 12 t0_15 (by decide +kernel) _ fun j => ?_
  blk_simp
  rw [after0_12, Pipeline.eq_sum_fin_of_reset_step_apply_last (fun n h => (outsAt0 m c n h).2.2.1) 16 (fun _ => 0) (part12 m c)
    (fun t h j => by
      rw [outsAt0_A m c t h]
      frame_out
      refine (step12 m c t _ j).trans ?_
      pointwise [k0_pay3])
    (fun t h j => by
      rw [outsAt0_B m c t h]
      frame_out
      exact step12 m c t _ j)
    (le_of_eq N_0) t0_15 rfl j, zero_add]
  exact sum_tiles fun r => eh m c r (j 1) * (exn m c r (j 1) * aG m c (ix2 0 (j 1)))

theorem array13 : (dats m 0 c).arrAt 13 cfg0.N = dg (aX m c) (aS m c) (aW m c) (aU m c) (aQ m c) (aK m c) (aV m c) (aZ m c) := by
  refine (dats m 0 c).arrAt_eq_of_after_last 13 t0_15 (by decide +kernel) _ fun j => ?_
  blk_simp
  rw [after0_13, Pipeline.eq_sum_fin_of_reset_step_apply_last (fun n h => (outsAt0 m c n h).2.2.2) 16 (fun _ => 0) (part13 m c)
    (fun t h j => by
      rw [outsAt0_A m c t h]
      frame_out
      refine (step13 m c t _ j).trans ?_
      pointwise [k0_pay4])
    (fun t h j => by
      rw [outsAt0_B m c t h]
      frame_out
      exact step13 m c t _ j)
    (le_of_eq N_0) t0_15 rfl j, zero_add]
  exact sum_tiles fun r => en m c r (j 1) * exn m c r (j 1)

/-- The launch: what the results' arrays hold at the end. -/
theorem run : θ_run defs (onTc (τ := τ) (main (F := Ideal))) ⟨m, fun _ => 0, ρ⟩ (fun r => ∀ c : Dev nD,
      r.2.mem ((c.tc : Thread nD τ).loc main_v1_0) = ex m c
      ∧ r.2.mem ((c.tc : Thread nD τ).loc main_v1_1) = dsh (aW m c) (aU m c) (aQ m c) (aK m c) (aV m c) (aZ m c)
      ∧ r.2.mem ((c.tc : Thread nD τ).loc main_v1_2) = dsc (aX m c) (aG m c) (aW m c) (aU m c) (aQ m c) (aK m c) (aV m c) (aZ m c)
      ∧ r.2.mem ((c.tc : Thread nD τ).loc main_v1_3) = dg (aX m c) (aS m c) (aW m c) (aU m c) (aQ m c) (aK m c) (aV m c) (aZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.1 c).1 10).trans (array10 m c), ((h.1 c).1 11).trans (array11 m c),
    ((h.1 c).1 12).trans (array12 m c), ((h.1 c).1 13).trans (array13 m c), h.2 c⟩)
    (θ_run_and (run_main m ρ) (unchanged m ρ))

end Cert.InIdeal.Hand

end
-- ==== Proof.InClaim.lean ====
/- The value claim of the first projection's gradient call: both programs leave the arrays of `InSpec`. -/
module

public import proofs.«01_k».proof.Defs
public import proofs.«01_k».proof.Proof.Gen.Pre_pin0_finite
public import proofs.«01_k».proof.Proof.Gen.InRefIdeal.Run
public import proofs.«01_k».proof.Proof.Gen.InRefIdeal.Read
public import proofs.«01_k».proof.Proof.InKernel

@[expose] public section

set_option maxRecDepth 16384

noncomputable section

namespace InSpec

open Idealize.ShloMosaic Real1 Norm

variable {X : AX} {G S : AV} {W : AW} {U Q K V : AX} {Z : A2} {D : AX}

theorem isR_dxn (hG : ∀ i, IsR (G i)) (hS : ∀ i, IsR (S i)) (hW : ∀ i, IsR (W i)) (hU : ∀ i, IsR (U i)) (hQ : ∀ i, IsR (Q i))
    (hK : ∀ i, IsR (K i)) (hV : ∀ i, IsR (V i)) (hZ : ∀ i, IsR (Z i)) (r : Fin 4096) (l : Fin 1024) :
    IsR (dxn G S W U Q K V Z r l) := by
  have one : ∀ {C : AX} (o : ℕ) (h : o + 1024 ≤ 6144), (∀ i, IsR (C i)) → IsR (dp W C o h r l) := fun o h hC =>
    isR_sum _ _ fun _ _ => (hC _).mul (hW _)
  have two : IsR (dp2 W Z 4096 (by decide) r l) := isR_sum _ _ fun _ _ => (hZ _).mul (hW _)
  exact ((((((one _ _ hU).add (one _ _ hQ)).add (one _ _ hK)).add (one _ _ hV)).add two).mul (isR_one.add (hS _))).mul (hG _)

/-- A sum over the columns of the projection, part by part. -/
theorem sum_parts (f : Fin 6144 → EReal) : ∑ j : Fin 6144, f j
    = ∑ k : Fin 1024, f ⟨k.val, by omega⟩ + ∑ k : Fin 1024, f ⟨1024 + k.val, by omega⟩ + ∑ k : Fin 1024, f ⟨2048 + k.val, by omega⟩
      + ∑ k : Fin 1024, f ⟨3072 + k.val, by omega⟩ + ∑ k : Fin 2048, f ⟨4096 + k.val, by omega⟩ := by
  refine (Fin.sum_univ_add (a := 4096) (b := 2048) f).trans (congrArg₂ (· + ·) ?_ rfl)
  refine (Fin.sum_univ_add (a := 3072) (b := 1024) _).trans (congrArg₂ (· + ·) ?_ rfl)
  refine (Fin.sum_univ_add (a := 2048) (b := 1024) _).trans (congrArg₂ (· + ·) ?_ rfl)
  exact Fin.sum_univ_add (a := 1024) (b := 1024) _

end InSpec

namespace Cert.InRefIdeal.Hand

open Cert.InRefIdeal Cert.InRefIdeal.Read Idealize.ShloMosaic Real1
open InSpec Norm

variable (X : AX) (G S : AV) (W : AW) (U Q K V : AX) (Z : A2) (D : AX)

theorem arg_apply (r : Fin 4096) (u : Fin 1) : val_main_v14 (F := Ideal) X (ix2 r u) = arg fun l => X (ix2 r l) := by
  pointwise [val_main_v8, val_main_cst, val_main_v9, val_main_v10, val_main_cst_0, val_main_v11, val_main_v12, val_main_cst_1,
    val_main_v13, val_main_v14]
  rfl

theorem rs_apply (r : Fin 4096) (u : Fin 1) : val_main_v15 (F := Ideal) X (ix2 r u) = rs fun l => X (ix2 r l) := by
  pointwise [val_main_v15]
  rw [arg_apply]
  rfl

theorem xn_apply (r : Fin 4096) (l : Fin 1024) : val_main_v20 (F := Ideal) X (ix2 r l) = xn X r l := by
  pointwise [val_main_v19, val_main_v20]
  rw [rs_apply]
  rfl

theorem w_apply (l : Fin 1024) (n : Fin 6144) : val_main_v2 (F := Ideal) W (ix2 l n) = wrow W n.val n.isLt l := by
  pointwise [val_main_v0, val_main_v1, val_main_v2]
  rfl

/-- A column of the five cotangents side by side. -/
theorem col_apply (r : Fin 4096) (n : Fin 6144) : val_main_v35 (F := Ideal) U Q K V Z (ix2 r n)
    = if h : n.val < 1024 then U (ix2 r ⟨n.val, h⟩)
      else if h : n.val < 2048 then Q (ix2 r ⟨n.val - 1024, by omega⟩)
      else if h : n.val < 3072 then K (ix2 r ⟨n.val - 2048, by omega⟩)
      else if h : n.val < 4096 then V (ix2 r ⟨n.val - 3072, by omega⟩)
      else Z (ix2 r ⟨n.val - 4096, by omega⟩) := by
  pointwise [val_main_v3, val_main_v4, val_main_v5, val_main_v6, val_main_v7, val_main_v35]
  change (if h : n.val < 1024 then U (ix2 r ⟨n.val, h⟩)
      else if h : n.val - 1024 < 1024 then Q (ix2 r ⟨n.val - 1024, h⟩)
      else if h : n.val - 1024 - 1024 < 1024 then K (ix2 r ⟨n.val - 1024 - 1024, h⟩)
      else if h : n.val - 1024 - 1024 - 1024 < 1024 then V (ix2 r ⟨n.val - 1024 - 1024 - 1024, h⟩)
      else Z (ix2 r ⟨n.val - 1024 - 1024 - 1024 - 1024, by omega⟩)) = _
  split_ifs <;> first | rfl | (exfalso; omega)

theorem dh_apply (r : Fin 4096) (l : Fin 1024) : val_main_v36 (F := Ideal) W U Q K V Z (ix2 r l) = dh W U Q K V Z r l := by
  pointwise [val_main_v36]
  simp only [w_apply]
  rw [sum_parts]
  refine congrArg₂ (· + ·) (congrArg₂ (· + ·) (congrArg₂ (· + ·) (congrArg₂ (· + ·) ?_ ?_) ?_) ?_) ?_ <;>
    refine Finset.sum_congr rfl fun k _ => ?_
  · rw [col_apply, dif_pos (by exact k.isLt)]
    congr 2
    exact (Nat.zero_add _).symm
  all_goals
    rw [col_apply]
    simp only [Nat.add_sub_cancel_left]
  · rw [dif_neg (by omega), dif_pos (by omega)]
  · rw [dif_neg (by omega), dif_neg (by omega), dif_pos (by omega)]
  · rw [dif_neg (by omega), dif_neg (by omega), dif_neg (by omega), dif_pos (by omega)]
  · rw [dif_neg (by omega), dif_neg (by omega), dif_neg (by omega), dif_neg (by omega)]

theorem dn_apply (r : Fin 4096) (l : Fin 1024) : val_main_v43 (F := Ideal) S W U Q K V Z (ix2 r l) = dn S W U Q K V Z r l := by
  pointwise [val_main_cst_3, val_main_v23, val_main_v24, val_main_v42, val_main_v43]
  rw [dh_apply]
  rfl

theorem dxn_apply (r : Fin 4096) (l : Fin 1024) : val_main_v48 (F := Ideal) G S W U Q K V Z (ix2 r l) = dxn G S W U Q K V Z r l := by
  pointwise [val_main_v47, val_main_v48]
  rw [dn_apply]
  rfl

theorem fac_apply (r : Fin 4096) :
    val_main_v58 (F := Ideal) X G S W U Q K V Z (ix1 r) = fac (fun l => X (ix2 r l)) (dxn G S W U Q K V Z r) := by
  pointwise [val_main_v16, val_main_cst_2, val_main_v17, val_main_v18, val_main_v49, val_main_cst_7, val_main_v50, val_main_v51,
    val_main_v55, val_main_cst_8, val_main_v56, val_main_v57, val_main_cst_9, val_main_v58]
  simp only [dxn_apply, rs_apply, arg_apply, Fin.sum_univ_one]
  rfl

theorem out1_apply (u : Fin 1) (l : Fin 1024) : val_main_v38 (F := Ideal) W U Q K V Z (ix2 u l) = dsh W U Q K V Z (ix2 u l) := by
  pointwise [val_main_cst_4, val_main_v37, val_main_v38]
  simp only [dh_apply]
  rfl

theorem out2_apply (u : Fin 1) (l : Fin 1024) : val_main_v41 (F := Ideal) X G W U Q K V Z (ix2 u l) = dsc X G W U Q K V Z (ix2 u l) := by
  pointwise [val_main_v21, val_main_v22, val_main_v39, val_main_cst_5, val_main_v40, val_main_v41]
  simp only [dh_apply, xn_apply]
  exact Finset.sum_congr rfl fun r _ => mul_comm _ _

theorem out3_apply (u : Fin 1) (l : Fin 1024) : val_main_v46 (F := Ideal) X S W U Q K V Z (ix2 u l) = dg X S W U Q K V Z (ix2 u l) := by
  pointwise [val_main_v44, val_main_cst_6, val_main_v45, val_main_v46]
  simp only [dn_apply, xn_apply]
  exact Finset.sum_congr rfl fun r _ => mul_comm _ _

variable (hX : ∀ i, IsR (X i)) (hG : ∀ i, IsR (G i)) (hS : ∀ i, IsR (S i)) (hW : ∀ i, IsR (W i)) (hU : ∀ i, IsR (U i))
  (hQ : ∀ i, IsR (Q i)) (hK : ∀ i, IsR (K i)) (hV : ∀ i, IsR (V i)) (hZ : ∀ i, IsR (Z i))
include hX hG hS hW hU hQ hK hV hZ

theorem out0_apply (r : Fin 4096) (l : Fin 1024) :
    val_main_v63 (F := Ideal) X G S W U Q K V Z D (ix2 r l) = dx X G S W U Q K V Z D (ix2 r l) := by
  pointwise [val_main_v52, val_main_v53, val_main_v54, val_main_v59, val_main_v60, val_main_v61, val_main_v62, val_main_v63]
  rw [dxn_apply, rs_apply, fac_apply, add_assoc, add_assoc, ← add_assoc (_ * _)]
  exact congrArg _ (bwd_eq (fun l => hX _) (isR_dxn hG hS hW hU hQ hK hV hZ r) l)

end Cert.InRefIdeal.Hand

namespace Cert.InClaim

open Idealize.ShloMosaic Idealize.ShloMosaic.TcCoe Idealize.SL.Sem Real1
open InSpec Norm
open Cert.InIdeal.Hand (aX aG aS aW aU aQ aK aV aZ aD)

variable (m : (ℓ : Loc Cert.InIdeal.nD Cert.InIdeal.τ Cert.InIdeal.sig) → Buf (Elt Ideal) ℓ)

/-- The precondition, entry by entry. -/
theorem real_args (h : Cert.Pre_InIdeal_pin0_finite m) (c : Dev Cert.InIdeal.nD) :
    ((∀ i, IsR (aX m c i)) ∧ (∀ i, IsR (aG m c i)) ∧ (∀ i, IsR (aS m c i)) ∧ ∀ i, IsR (aW m c i))
      ∧ (∀ i, IsR (aU m c i)) ∧ (∀ i, IsR (aQ m c i)) ∧ (∀ i, IsR (aK m c i)) ∧ (∀ i, IsR (aV m c i)) ∧ ∀ i, IsR (aZ m c i) := by
  obtain ⟨h0, h1, h2, h3, h4, h5, h6, h7, h8⟩ := h c
  refine ⟨⟨fun i => ?_, fun i => ?_, fun i => ?_, fun i => ?_⟩, fun i => ?_, fun i => ?_, fun i => ?_, fun i => ?_, fun i => ?_⟩
  · have h := congrFun h0 i
    pointwise [Cert.Pre_pin0_finite.fn] at h
    exact isR_of_bit h
  · have h := congrFun h1 i
    pointwise [Cert.Pre_pin0_finite.fn] at h
    exact isR_of_bit h
  · have h := congrFun h2 i
    pointwise [Cert.Pre_pin0_finite.fn] at h
    exact isR_of_bit h
  · have h := congrFun h3 i
    pointwise [Cert.Pre_pin0_finite.fn] at h
    exact isR_of_bit h
  · have h := congrFun h4 i
    pointwise [Cert.Pre_pin0_finite.fn] at h
    exact isR_of_bit h
  · have h := congrFun h5 i
    pointwise [Cert.Pre_pin0_finite.fn] at h
    exact isR_of_bit h
  · have h := congrFun h6 i
    pointwise [Cert.Pre_pin0_finite.fn] at h
    exact isR_of_bit h
  · have h := congrFun h7 i
    pointwise [Cert.Pre_pin0_finite.fn] at h
    exact isR_of_bit h
  · have h := congrFun h8 i
    pointwise [Cert.Pre_pin0_finite.fn] at h
    exact isR_of_bit h

theorem algebraic : Cert.algebraic_InIdeal_InRefIdeal_pre_pin0_finite := fun m g m' g' hpre hargs => by
  refine ⟨fun c => Cert.InIdeal.Hand.ex m c,
    fun c => dsh (aW m c) (aU m c) (aQ m c) (aK m c) (aV m c) (aZ m c),
    fun c => dsc (aX m c) (aG m c) (aW m c) (aU m c) (aQ m c) (aK m c) (aV m c) (aZ m c),
    fun c => dg (aX m c) (aS m c) (aW m c) (aU m c) (aQ m c) (aK m c) (aV m c) (aZ m c), Cert.InIdeal.Hand.run m g, ?_⟩
  refine (θ_run Cert.InRefIdeal.defs _ _).mono (fun r h c => ?_) (Cert.InRefIdeal.Value.run m' g')
  obtain ⟨r0, r1, r2, r3, kept⟩ := h c
  obtain ⟨a0, a1, a2, a3, a4, a5, a6, a7, a8, a9, a10⟩ := hargs c
  obtain ⟨⟨f0, f1, f2, f3⟩, f4, f5, f6, f7, f8⟩ := real_args m hpre c
  refine ⟨r0.trans ?_, r1.trans ?_, r2.trans ?_, r3.trans ?_, kept⟩
  · rw [Cert.InRefIdeal.Read.val_main_v63_eq, a0, a1, a2, a4, a5, a6, a7, a8, a9, a10]
    refine funext fun j => ?_
    idx_vars j
    exact Cert.InRefIdeal.Hand.out0_apply _ _ _ _ _ _ _ _ _ _ f0 f1 f2 f3 f4 f5 f6 f7 f8 _ _
  · refine (Cert.InRefIdeal.Read.val_main_v38_eq _ _ _ _ _ _).trans ?_
    rw [a4, a5, a6, a7, a8, a9]
    refine funext fun j => ?_
    idx_vars j
    exact Cert.InRefIdeal.Hand.out1_apply _ _ _ _ _ _ _ _
  · refine (Cert.InRefIdeal.Read.val_main_v41_eq _ _ _ _ _ _ _ _).trans ?_
    rw [a0, a1, a4, a5, a6, a7, a8, a9]
    refine funext fun j => ?_
    idx_vars j
    exact Cert.InRefIdeal.Hand.out2_apply _ _ _ _ _ _ _ _ _ _
  · refine (Cert.InRefIdeal.Read.val_main_v46_eq _ _ _ _ _ _ _ _).trans ?_
    rw [a0, a2, a4, a5, a6, a7, a8, a9]
    refine funext fun j => ?_
    idx_vars j
    exact Cert.InRefIdeal.Hand.out3_apply _ _ _ _ _ _ _ _ _ _

end Cert.InClaim

end
-- ==== Proof.AttnFwdHead.lean ====
/- One head of one tile of the attention's forward call, and the call's trips as sixteen of them. -/
module

public import proofs.«01_k».proof.Proof.AttnTile
public import proofs.«01_k».proof.Proof.Gen.AttnFwdIdeal.Frame

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Cert.AttnIdeal.Hand (Sq Ln Cl hc1 ha hlf)

variable {F : FTy → Type} [FloatOps F]

/-- What the loop carries: each head's sum of the log factors, then each head's rows so far. -/
abbrev Carry (F : FTy → Type) : Type :=
  FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 ×
  FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32

def Carry.c (x : Carry F) : Fin 16 → FVec F S256x1 .f32 :=
  ![x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2.1]
def Carry.acc (x : Carry F) : Fin 16 → FVec F S256x128 .f32 :=
  let x := x.2.2.2.2.2.2.2.2.2.2.2.2.2.2.2.2
  ![x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2]

/-- The rows of one head once a tile has been added. -/
def ho (μ : Sq F → Sq F) (T : FVec F S256x256 .bf16) (q k v : Ln F) (c1 : Cl F) (acc : FVec F S256x128 .f32) : FVec F S256x128 .f32 :=
  addf acc (matmul dot_S256x256_S256x128_S256x128_1_0_0_1_n_n none (ha μ T q k c1) v (constant S256x128 .f32 0x00000000#32))

/-- The eight pairs of heads of a block's columns. -/
def pair16 {φ : FTy} (X : FVec F S256x1024 φ) : Fin 8 → FVec F S256x128 φ :=
  ![extractStridedSlice S256x128 ![0, 0] X slices_S256x1024_o0_0_S256x128,
    extractStridedSlice S256x128 ![0, 128] X slices_S256x1024_o0_128_S256x128,
    extractStridedSlice S256x128 ![0, 256] X slices_S256x1024_o0_256_S256x128,
    extractStridedSlice S256x128 ![0, 384] X slices_S256x1024_o0_384_S256x128,
    extractStridedSlice S256x128 ![0, 512] X slices_S256x1024_o0_512_S256x128,
    extractStridedSlice S256x128 ![0, 640] X slices_S256x1024_o0_640_S256x128,
    extractStridedSlice S256x128 ![0, 768] X slices_S256x1024_o0_768_S256x128,
    extractStridedSlice S256x128 ![0, 896] X slices_S256x1024_o0_896_S256x128]

/-- The pair a head is of, and its place there. -/
def half16 (t : Fin 16) : Fin 8 := ⟨t.val / 2, by omega⟩
def odd16 (t : Fin 16) : Fin 2 := ⟨t.val % 2, by omega⟩

/-- What is around the loop of a point. -/
structure Around (F : FTy → Type) [FloatOps F] where
  c : Dev nD
  i : grid0.Coords
  arg2 : Memref sig .tc .vmem S256x1024 .bf16
  harg2 : arg2.IsWhole
  arg3 : Memref sig .tc .vmem S4096x1024 .bf16
  harg3 : arg3.IsWhole
  arg4 : Memref sig .tc .vmem S4096x1024 .bf16
  harg4 : arg4.IsWhole
  arg5 : Memref sig .tc .vmem S256x1024 .f32
  harg5 : arg5.IsWhole
  arg1 : BitVec 32
  v4 : IVec S1x128 1
  v8 : FVec F S256x256 .bf16
  v17 : FVec F S256x128 .bf16
  v22 : FVec F S256x128 .bf16
  v27 : FVec F S256x128 .bf16
  v32 : FVec F S256x128 .bf16
  v37 : FVec F S256x128 .bf16
  v42 : FVec F S256x128 .bf16
  v47 : FVec F S256x128 .bf16
  v52 : FVec F S256x128 .bf16
  v57 : FVec F S256x128 .bf16
  v62 : FVec F S256x128 .bf16
  v67 : FVec F S256x128 .bf16
  v72 : FVec F S256x128 .bf16
  v77 : FVec F S256x128 .bf16
  v82 : FVec F S256x128 .bf16
  v87 : FVec F S256x128 .bf16
  v92 : FVec F S256x128 .bf16
  v94 : FVec F S256x128 .f32
  v100 : Vec F S256x1024 .bf16
  v120 : FVec F S256x1 .f32
  v140 : FVec F S256x1 .f32
  v168 : FVec F S256x1 .f32
  v179 : FVec F S256x128 .f32
  v199 : FVec F S256x1 .f32
  v210 : FVec F S256x128 .f32
  v230 : FVec F S256x1 .f32
  v241 : FVec F S256x128 .f32
  v261 : FVec F S256x1 .f32
  v272 : FVec F S256x128 .f32
  v292 : FVec F S256x1 .f32
  v303 : FVec F S256x128 .f32
  v323 : FVec F S256x1 .f32
  v334 : FVec F S256x128 .f32
  v354 : FVec F S256x1 .f32
  v365 : FVec F S256x128 .f32
  v385 : FVec F S256x1 .f32
  v396 : FVec F S256x128 .f32
  v416 : FVec F S256x1 .f32
  v427 : FVec F S256x128 .f32
  v447 : FVec F S256x1 .f32
  v458 : FVec F S256x128 .f32
  v478 : FVec F S256x1 .f32
  v489 : FVec F S256x128 .f32
  v509 : FVec F S256x1 .f32
  v520 : FVec F S256x128 .f32
  v540 : FVec F S256x1 .f32
  v551 : FVec F S256x128 .f32
  v571 : FVec F S256x1 .f32
  v582 : FVec F S256x128 .f32
  v590 : FVec F S256x256 .bf16
  v593 : FVec F S256x128 .f32

def Around.q (A : Around F) : Fin 16 → Ln F := ![A.v17, A.v22, A.v27, A.v32, A.v37, A.v42, A.v47, A.v52, A.v57, A.v62, A.v67, A.v72, A.v77, A.v82, A.v87, A.v92]

section
variable (A : Around F) (X3 : BufTy.Contents (Elt F) A.arg3.view.ty) (X4 : BufTy.Contents (Elt F) A.arg4.view.ty)

/-- One trip, and the loop after some trips. -/
def Around.trip (k : Fin (k0_t1_loop A.i).trips) (acc : Carry F) : Carry F :=
  tripR_k0_t1 Variants.none A.c none A.i A.arg2 A.harg2 A.arg3 A.harg3 A.arg4 A.harg4 A.arg5 A.harg5 A.arg1
    A.v4 A.v8 A.v17 A.v22 A.v27 A.v32 A.v37 A.v42 A.v47 A.v52 A.v57 A.v62 A.v67 A.v72 A.v77 A.v82 A.v87 A.v92 A.v94 A.v100 A.v120 A.v140 A.v168 A.v179 A.v199 A.v210 A.v230 A.v241 A.v261 A.v272 A.v292 A.v303 A.v323 A.v334 A.v354 A.v365 A.v385 A.v396 A.v416 A.v427 A.v447 A.v458 A.v478 A.v489 A.v509 A.v520 A.v540 A.v551 A.v571 A.v582 A.v590 A.v593 X3 X4 k acc
def Around.state (init : Carry F) (n : ℕ) : Carry F :=
  st_k0_t1 Variants.none A.c none A.i A.arg2 A.harg2 A.arg3 A.harg3 A.arg4 A.harg4 A.arg5 A.harg5 A.arg1
    A.v4 A.v8 A.v17 A.v22 A.v27 A.v32 A.v37 A.v42 A.v47 A.v52 A.v57 A.v62 A.v67 A.v72 A.v77 A.v82 A.v87 A.v92 A.v94 A.v100 A.v120 A.v140 A.v168 A.v179 A.v199 A.v210 A.v230 A.v241 A.v261 A.v272 A.v292 A.v303 A.v323 A.v334 A.v354 A.v365 A.v385 A.v396 A.v416 A.v427 A.v447 A.v458 A.v478 A.v489 A.v509 A.v520 A.v540 A.v551 A.v571 A.v582 A.v590 A.v593 X3 X4 init n

theorem Around.state_zero (init : Carry F) : A.state X3 X4 init 0 = init := st_k0_t1_zero ..
theorem Around.state_succ (init : Carry F) (k : Fin (k0_t1_loop A.i).trips) :
    A.state X3 X4 init (k.val + 1) = A.trip X3 X4 k (A.state X3 X4 init k.val) := st_k0_t1_succ ..

variable (k : Fin (k0_t1_loop A.i).trips) (acc : Carry F)

/-- The rows of the keys and of the values a trip reads. -/
def kRows : FVec F S256x1024 .bf16 := A.arg3.view.readAt (Elt F) (Rect.unit (s := S4096x1024) (k0_off2 A.i k) S256x1024.size (k0_off2_inb A.i k)).toLoadRect X3
def vRows : FVec F S256x1024 .bf16 := A.arg4.view.readAt (Elt F) (Rect.unit (s := S4096x1024) (k0_off2 A.i k) S256x1024.size (k0_off2_inb A.i k)).toLoadRect X4

theorem trip_c (t : Fin 16) : (A.trip X3 X4 k acc).c t = hc1 id (A.q t) (pair16 (kRows A X3 k) (half16 t)) (acc.c t) := by
  unfold Around.trip tripR_k0_t1 trip_k0_t1; fin_cases t <;> rfl

theorem trip_acc (t : Fin 16) : (A.trip X3 X4 k acc).acc t
    = ho id A.v8 (A.q t) (pair16 (kRows A X3 k) (half16 t)) (pair16 (vRows A X4 k) (half16 t)) (acc.c t) (acc.acc t) := by
  unfold Around.trip tripR_k0_t1 trip_k0_t1; fin_cases t <;> rfl

end

end Cert.AttnFwdIdeal.Hand

end
-- ==== Proof.AttnFwdStep.lean ====
/- What a point of the attention's forward call leaves, at the real values of its blocks. -/
module

public import proofs.«01_k».proof.Proof.AttnFwdHead
public import proofs.«01_k».proof.Proof.AttnStep
public import Idealize.ShloMosaic.Lib.WritesUnit
public import Idealize.ShloMosaic.Lib.WholeRead

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open AttnSpec AttnReal
open Cert.AttnIdeal.Hand (Sq Ln Cl hc1 ha hlf Finds rowOf tail tail_zero tail_tile tail_none c1_eq a_eq below zeroCl firstHalf
  firstHalf_apply below_apply from_apply upto_apply ofNat_slt)

variable {F : FTy → Type} [FloatOps F]

/-- Lane `d` of pair `p` among all columns. -/
def lane16 (p : Fin 8) (d : Fin 128) : Fin 1024 := ⟨128 * p.val + d.val, by omega⟩

theorem lane16_col (t : Fin 16) (e : Fin 64) : lane16 (half16 t) ⟨64 * (odd16 t).val + e.val, by have := (odd16 t).isLt; omega⟩ = col t e :=
  Fin.ext (by show 128 * (t.val / 2) + (64 * (t.val % 2) + e.val) = t.val * 64 + e.val; omega)

theorem headOf_lane16 (p : Fin 8) (d : Fin 128) (s : Fin 2) (h : d.val / 64 = s.val) :
    headOf (lane16 p d) = ⟨2 * p.val + s.val, by omega⟩ :=
  Fin.ext (by show (128 * p.val + d.val) / 64 = 2 * p.val + s.val; omega)

theorem lane16_cases (x : Fin 1024) : ∃ p d, x = lane16 p d :=
  ⟨⟨x.val / 128, by omega⟩, ⟨x.val % 128, by omega⟩, Fin.ext (by show x.val = 128 * (x.val / 128) + x.val % 128; omega)⟩

theorem pair16_apply {φ : FTy} (X : FVec Ideal S256x1024 φ) (p : Fin 8) (r : Fin 256) (d : Fin 128) : pair16 X p (ix2 r d) = X (ix2 r (lane16 p d)) := by
  have e : ∀ n : Fin 1024, n.val = (lane16 p d).val → X (ix2 r n) = X (ix2 r (lane16 p d)) := fun n h => by rw [Fin.ext h]
  fin_cases p <;> (pointwise [pair16]; refine e _ ?_; show _ = 128 * _ + d.val; simp <;> omega)

/-- Each head's columns, the other of its pair emptied. -/
def oneHead16 (X : FVec F S256x1024 .bf16) (t : Fin 16) : Ln F :=
  if (odd16 t).val = 0 then select firstHalf (pair16 X (half16 t)) (broadcast S256x128 (Scalar.ofBits .bf16 0x0000#16))
  else select firstHalf (broadcast S256x128 (Scalar.ofBits .bf16 0x0000#16)) (pair16 X (half16 t))

/-- The masked queries of each head. -/
def pq16 (q : Vec F S256x1024 .bf16) (t : Fin 16) : Ln F := oneHead16 (k0_pay178 q) t

theorem off1_eq (i : grid0.Coords) : k0_off1 i = ![256 * (i 1).val, 0] := by revert i; decide +kernel
theorem off2_eq (i : grid0.Coords) (k : Fin (k0_t1_loop i).trips) : k0_off2 i k = ![256 * ((i 1).val - (k.val + 1)), 0] := by
  revert i k; decide +kernel
theorem trips_eq (i : grid0.Coords) : (k0_t1_loop i).trips = (i 1).val := by revert i; decide +kernel
theorem rest_trips (i : grid0.Coords) : (k0_t2_loop i).trips = 0 := by revert i; decide +kernel

theorem readAt_rows {e : EltTy} {V : View sig .tc .vmem S4096x1024 e} {o : Fin 2 → ℕ} {kb : Fin 16}
    {h : ∀ a, o a + S256x1024.size a ≤ S4096x1024.size a} (eo : o = ![256 * kb.val, 0])
    (f : BufTy.Contents (Elt Ideal) V.ty) (c : Fin 256) (n : Fin 1024) :
    V.readAt (Elt Ideal) (Rect.unit (s := S4096x1024) o S256x1024.size h).toLoadRect f (ix2 c n) = V.read (Elt Ideal) f (ix2 (rowOf kb c) n) := by
  subst eo
  refine congrArg (V.read (Elt Ideal) f) (funext (Fin.forall_fin_two.mpr ⟨Fin.ext ?_, Fin.ext ?_⟩))
  · show 256 * kb.val + 1 * c.val = 256 * kb.val + c.val; omega
  · show 0 + 1 * n.val = n.val; omega

/-- No cotangent: what a head finds in the forward call. -/
abbrev W0 : Fin 4096 → Fin 1024 → ℝ := fun _ _ => 0
theorem g_zero (Q K V : Fin 4096 → Fin 1024 → ℝ) (h : Fin 16) (r C : Fin 4096) : g Q K V W0 h r C = 0 := by
  unfold g da W0; simp

/-- The rows of the result that a tile adds. -/
theorem ho_eq {Q K V W : Fin 4096 → Fin 1024 → ℝ} {i kb : Fin 16} {h : Fin 16} {s : Fin 2} {cl : Fin 128 → Fin 1024}
    {μ : Sq Ideal → Sq Ideal} {T P : FVec Ideal S256x256 .bf16} {q w k v : Ln Ideal} {ds c1 c2 : Cl Ideal}
    (H : Finds Q K V W i kb h s cl μ T P q w k v ds c1 c2) {acc : FVec Ideal S256x128 .f32} {r : Fin 256} {d : Fin 128}
    (h0 : acc (ix2 r d) = ((tail (256 * (kb.val + 1)) (fun C => att Q K h (rowOf i r) C * V C (cl d)) : ℝ) : EReal)) :
    ho μ T q k v c1 acc (ix2 r d) = ((tail (256 * kb.val) (fun C => att Q K h (rowOf i r) C * V C (cl d)) : ℝ) : EReal) := by
  pointwise [ho]
  rw [h0, sum_coe (f := fun c => att Q K h (rowOf i r) (rowOf kb c) * V (rowOf kb c) (cl d)) fun c => by
    rw [a_eq H, H.hv, ← EReal.coe_mul], ← EReal.coe_add, tail_tile]

section
variable (Q K V : Fin 4096 → Fin 1024 → ℝ) (i : Fin 16)

/-- What a point's loop has around it, at real numbers. -/
structure Sees (A : Around Ideal) (X3 : BufTy.Contents (Elt Ideal) A.arg3.view.ty) (X4 : BufTy.Contents (Elt Ideal) A.arg4.view.ty) : Prop where
  hi : (A.i 1).val = i.val
  hT : ∀ a b : Fin 256, A.v8 (ix2 a b) = (((if b ≤ a then 1 else 0 : ℝ)) : EReal)
  hq : ∀ t r d, A.q t (ix2 r d) = (((if d.val / 64 = (odd16 t).val then Q (rowOf i r) (lane16 (half16 t) d) * (1 / 8) else 0 : ℝ)) : EReal)
  h3 : ∀ C n, A.arg3.view.read (Elt Ideal) X3 (ix2 C n) = (K C n : EReal)
  h4 : ∀ C n, A.arg4.view.read (Elt Ideal) X4 (ix2 C n) = (V C n : EReal)

/-- The carried sums once the tiles from row `m` on have been added. -/
structure Sums (m : ℕ) (x : Carry Ideal) : Prop where
  c : ∀ t (r : Fin 256), x.c t (ix2 r 0) = ((tail m (lf Q K t (rowOf i r)) : ℝ) : EReal)
  acc : ∀ t (r : Fin 256) d, x.acc t (ix2 r d)
    = ((tail m (fun C => att Q K t (rowOf i r) C * V C (lane16 (half16 t) d)) : ℝ) : EReal)

variable {Q K V i} {A : Around Ideal} {X3 : BufTy.Contents (Elt Ideal) A.arg3.view.ty} {X4 : BufTy.Contents (Elt Ideal) A.arg4.view.ty}
  (H : Sees Q K V i A X3 X4)
include H

theorem finds {k : Fin (k0_t1_loop A.i).trips} {kb : Fin 16} (hkb : kb.val + (k.val + 1) = i.val) {acc : Carry Ideal}
    (S : Sums Q K V i (256 * (kb.val + 1)) acc) (t : Fin 16) :
    Finds Q K V W0 i kb t (odd16 t) (lane16 (half16 t)) id A.v8 Cert.AttnIdeal.Gen.k0_pay267 (A.q t) (fun _ => (0 : EReal))
      (pair16 (kRows A X3 k) (half16 t)) (pair16 (vRows A X4 k) (half16 t)) (fun _ => (0 : EReal)) (acc.c t) (fun _ => (0 : EReal)) where
  col_eq := lane16_col t
  mask x r c := by
    rw [if_pos]
    · rfl
    · have := c.isLt
      show 256 * kb.val + c.val < 256 * i.val + r.val
      omega
  hT := H.hT
  hP := upto_apply
  hq := H.hq t
  hw r d := by simp
  hk c d := by
    rw [pair16_apply]
    exact (readAt_rows ((off2_eq A.i k).trans (by rw [H.hi, ← hkb]; simp)) X3 c _).trans (H.h3 _ _)
  hv c d := by
    rw [pair16_apply]
    exact (readAt_rows ((off2_eq A.i k).trans (by rw [H.hi, ← hkb]; simp)) X4 c _).trans (H.h4 _ _)
  hds r := by simp [g_zero]
  hc1 := S.c t
  hc2 r := by rw [tail_none fun C _ => g_zero Q K V t _ C, EReal.coe_zero]

theorem sums_trip {k : Fin (k0_t1_loop A.i).trips} {kb : Fin 16} (hkb : kb.val + (k.val + 1) = i.val) {acc : Carry Ideal}
    (S : Sums Q K V i (256 * (kb.val + 1)) acc) : Sums Q K V i (256 * kb.val) (A.trip X3 X4 k acc) where
  c t r := by rw [trip_c]; exact c1_eq (finds H hkb S t) r
  acc t r d := by rw [trip_acc]; exact ho_eq (finds H hkb S t) (S.acc t r d)

theorem loop_after {init : Carry Ideal} (S : Sums Q K V i (256 * i.val) init) :
    ∀ n, n ≤ i.val → Sums Q K V i (256 * (i.val - n)) (A.state X3 X4 init n)
  | 0, _ => by rw [A.state_zero]; exact S
  | n + 1, hn => by
    have S' := loop_after S n (by omega)
    have hk : n < (k0_t1_loop A.i).trips := by rw [trips_eq, H.hi]; omega
    have e1 : i.val - n = i.val - (n + 1) + 1 := by omega
    have hb := i.isLt
    rw [e1] at S'
    rw [A.state_succ X3 X4 init ⟨n, hk⟩]
    exact sums_trip H (kb := ⟨i.val - (n + 1), by omega⟩) (by show i.val - (n + 1) + (n + 1) = _; omega) S'

theorem loop_end {init : Carry Ideal} (S : Sums Q K V i (256 * i.val) init) :
    Sums Q K V i 0 (A.state X3 X4 init (k0_t1_loop A.i).trips) := by
  have h := loop_after H S i.val le_rfl
  rw [Nat.sub_self, Nat.mul_zero] at h
  rw [trips_eq, H.hi]
  exact h

end

/-! A point. -/

/-- The rows of a point's own tile. -/
def ownRows (i : grid0.Coords) {a : Memref sig .tc .vmem S4096x1024 .bf16} (h : a.IsWhole) (x : Vec F S4096x1024 .bf16) : FVec F S256x1024 .bf16 :=
  a.view.readAt (Elt F) (Rect.unit (s := S4096x1024) (k0_off1 i) S256x1024.size (k0_off1_inb i)).toLoadRect (h.unread x)

def zeroRows : FVec F S256x128 .f32 := broadcast S256x128 (Scalar.ofBits .f32 0x00000000#32)
theorem zeroRows_apply (j) : zeroRows (F := Ideal) j = 0 := by pointwise [zeroRows]
theorem zeroCl_apply (r : Fin 256) : zeroCl (F := Ideal) (ix2 r 0) = 0 := by pointwise [zeroCl]

/-- Of each pair the head a lane is of. -/
def both (a b : FVec F S256x128 .f32) : FVec F S256x128 .f32 := select firstHalf a b
theorem both_apply (a b : FVec Ideal S256x128 .f32) (r : Fin 256) (x : Fin 128) :
    both a b (ix2 r x) = if x.val < 64 then a (ix2 r x) else b (ix2 r x) := by
  pointwise [both]
  rw [firstHalf_apply]
  split <;> rfl

/-- What a point stores, last first. -/
def pieces (x : Carry F) : List (View.Piece (Elt F) S256x1024 .f32) :=
  [⟨Rect.unit (s := S256x1024) ![0, 896] S256x128.size (by decide), both (x.acc 14) (x.acc 15)⟩,
   ⟨Rect.unit (s := S256x1024) ![0, 768] S256x128.size (by decide), both (x.acc 12) (x.acc 13)⟩,
   ⟨Rect.unit (s := S256x1024) ![0, 640] S256x128.size (by decide), both (x.acc 10) (x.acc 11)⟩,
   ⟨Rect.unit (s := S256x1024) ![0, 512] S256x128.size (by decide), both (x.acc 8) (x.acc 9)⟩,
   ⟨Rect.unit (s := S256x1024) ![0, 384] S256x128.size (by decide), both (x.acc 6) (x.acc 7)⟩,
   ⟨Rect.unit (s := S256x1024) ![0, 256] S256x128.size (by decide), both (x.acc 4) (x.acc 5)⟩,
   ⟨Rect.unit (s := S256x1024) ![0, 128] S256x128.size (by decide), both (x.acc 2) (x.acc 3)⟩,
   ⟨Rect.unit (s := S256x1024) ![0, 0] S256x128.size (by decide), both (x.acc 0) (x.acc 1)⟩]

theorem read_pieces {V : View sig .tc .vmem S256x1024 .f32} (f : BufTy.Contents (Elt Ideal) V.ty) (x : Carry Ideal) (r : Fin 256) (p : Fin 8) (l : Fin 128) :
    V.read (Elt Ideal) (V.writes (Elt Ideal) f (pieces x)) (ix2 r (lane16 p l))
      = both (x.acc ⟨2 * p.val, by omega⟩) (x.acc ⟨2 * p.val + 1, by omega⟩) (ix2 r l) := by
  have hl := l.isLt
  have mem : ∀ (b : ℕ) (n : Fin 1024), n.val = b + l.val →
      ∀ a : Fin 2, ((ix2 r n) a).val = (![0, b] : Fin 2 → ℕ) a + ((ix2 r l) a).val := fun b n hn =>
    Fin.forall_fin_two.mpr ⟨(Nat.zero_add _).symm, hn⟩
  unfold pieces
  match p with
  | ⟨0, _⟩ =>
    rw [View.read_writes_cons_unit_of_not_mem V f _ _ _ _ rfl (1 : Fin 2) (.inl (show 128 * 0 + l.val < 896 by omega)),
      View.read_writes_cons_unit_of_not_mem V f _ _ _ _ rfl (1 : Fin 2) (.inl (show 128 * 0 + l.val < 768 by omega)),
      View.read_writes_cons_unit_of_not_mem V f _ _ _ _ rfl (1 : Fin 2) (.inl (show 128 * 0 + l.val < 640 by omega)),
      View.read_writes_cons_unit_of_not_mem V f _ _ _ _ rfl (1 : Fin 2) (.inl (show 128 * 0 + l.val < 512 by omega)),
      View.read_writes_cons_unit_of_not_mem V f _ _ _ _ rfl (1 : Fin 2) (.inl (show 128 * 0 + l.val < 384 by omega)),
      View.read_writes_cons_unit_of_not_mem V f _ _ _ _ rfl (1 : Fin 2) (.inl (show 128 * 0 + l.val < 256 by omega)),
      View.read_writes_cons_unit_of_not_mem V f _ _ _ _ rfl (1 : Fin 2) (.inl (show 128 * 0 + l.val < 128 by omega))]
    exact View.read_writes_cons_unit_of_mem V f _ _ _ _ (ix2 r l) rfl (mem 0 _ (by show 128 * 0 + l.val = 0 + l.val; omega))
  | ⟨1, _⟩ =>
    rw [View.read_writes_cons_unit_of_not_mem V f _ _ _ _ rfl (1 : Fin 2) (.inl (show 128 * 1 + l.val < 896 by omega)),
      View.read_writes_cons_unit_of_not_mem V f _ _ _ _ rfl (1 : Fin 2) (.inl (show 128 * 1 + l.val < 768 by omega)),
      View.read_writes_cons_unit_of_not_mem V f _ _ _ _ rfl (1 : Fin 2) (.inl (show 128 * 1 + l.val < 640 by omega)),
      View.read_writes_cons_unit_of_not_mem V f _ _ _ _ rfl (1 : Fin 2) (.inl (show 128 * 1 + l.val < 512 by omega)),
      View.read_writes_cons_unit_of_not_mem V f _ _ _ _ rfl (1 : Fin 2) (.inl (show 128 * 1 + l.val < 384 by omega)),
      View.read_writes_cons_unit_of_not_mem V f _ _ _ _ rfl (1 : Fin 2) (.inl (show 128 * 1 + l.val < 256 by omega))]
    exact View.read_writes_cons_unit_of_mem V f _ _ _ _ (ix2 r l) rfl (mem 128 _ rfl)
  | ⟨2, _⟩ =>
    rw [View.read_writes_cons_unit_of_not_mem V f _ _ _ _ rfl (1 : Fin 2) (.inl (show 128 * 2 + l.val < 896 by omega)),
      View.read_writes_cons_unit_of_not_mem V f _ _ _ _ rfl (1 : Fin 2) (.inl (show 128 * 2 + l.val < 768 by omega)),
      View.read_writes_cons_unit_of_not_mem V f _ _ _ _ rfl (1 : Fin 2) (.inl (show 128 * 2 + l.val < 640 by omega)),
      View.read_writes_cons_unit_of_not_mem V f _ _ _ _ rfl (1 : Fin 2) (.inl (show 128 * 2 + l.val < 512 by omega)),
      View.read_writes_cons_unit_of_not_mem V f _ _ _ _ rfl (1 : Fin 2) (.inl (show 128 * 2 + l.val < 384 by omega))]
    exact View.read_writes_cons_unit_of_mem V f _ _ _ _ (ix2 r l) rfl (mem 256 _ rfl)
  | ⟨3, _⟩ =>
    rw [View.read_writes_cons_unit_of_not_mem V f _ _ _ _ rfl (1 : Fin 2) (.inl (show 128 * 3 + l.val < 896 by omega)),
      View.read_writes_cons_unit_of_not_mem V f _ _ _ _ rfl (1 : Fin 2) (.inl (show 128 * 3 + l.val < 768 by omega)),
      View.read_writes_cons_unit_of_not_mem V f _ _ _ _ rfl (1 : Fin 2) (.inl (show 128 * 3 + l.val < 640 by omega)),
      View.read_writes_cons_unit_of_not_mem V f _ _ _ _ rfl (1 : Fin 2) (.inl (show 128 * 3 + l.val < 512 by omega))]
    exact View.read_writes_cons_unit_of_mem V f _ _ _ _ (ix2 r l) rfl (mem 384 _ rfl)
  | ⟨4, _⟩ =>
    rw [View.read_writes_cons_unit_of_not_mem V f _ _ _ _ rfl (1 : Fin 2) (.inl (show 128 * 4 + l.val < 896 by omega)),
      View.read_writes_cons_unit_of_not_mem V f _ _ _ _ rfl (1 : Fin 2) (.inl (show 128 * 4 + l.val < 768 by omega)),
      View.read_writes_cons_unit_of_not_mem V f _ _ _ _ rfl (1 : Fin 2) (.inl (show 128 * 4 + l.val < 640 by omega))]
    exact View.read_writes_cons_unit_of_mem V f _ _ _ _ (ix2 r l) rfl (mem 512 _ rfl)
  | ⟨5, _⟩ =>
    rw [View.read_writes_cons_unit_of_not_mem V f _ _ _ _ rfl (1 : Fin 2) (.inl (show 128 * 5 + l.val < 896 by omega)),
      View.read_writes_cons_unit_of_not_mem V f _ _ _ _ rfl (1 : Fin 2) (.inl (show 128 * 5 + l.val < 768 by omega))]
    exact View.read_writes_cons_unit_of_mem V f _ _ _ _ (ix2 r l) rfl (mem 640 _ rfl)
  | ⟨6, _⟩ =>
    rw [View.read_writes_cons_unit_of_not_mem V f _ _ _ _ rfl (1 : Fin 2) (.inl (show 128 * 6 + l.val < 896 by omega))]
    exact View.read_writes_cons_unit_of_mem V f _ _ _ _ (ix2 r l) rfl (mem 768 _ rfl)
  | ⟨7, _⟩ =>
    exact View.read_writes_cons_unit_of_mem V f _ _ _ _ (ix2 r l) rfl (mem 896 _ rfl)

/-- The pieces hold the result's rows once every tile has been added. -/
theorem pieces_apply {Q K V : Fin 4096 → Fin 1024 → ℝ} {i : Fin 16} {x : Carry Ideal} (S : Sums Q K V i 0 x)
    {V' : View sig .tc .vmem S256x1024 .f32} (f : BufTy.Contents (Elt Ideal) V'.ty) (r : Fin 256) (n : Fin 1024) :
    V'.read (Elt Ideal) (V'.writes (Elt Ideal) f (pieces x)) (ix2 r n) = ((out Q K V (rowOf i r) n : ℝ) : EReal) := by
  obtain ⟨p, l, rfl⟩ := lane16_cases n
  rw [read_pieces, both_apply, S.acc, S.acc, tail_zero, tail_zero]
  have p0 : half16 ⟨2 * p.val, by omega⟩ = p := Fin.ext (by show 2 * p.val / 2 = p.val; omega)
  have p1 : half16 ⟨2 * p.val + 1, by omega⟩ = p := Fin.ext (by show (2 * p.val + 1) / 2 = p.val; omega)
  rw [p0, p1]
  unfold out
  by_cases hl : l.val < 64
  · rw [if_pos hl, headOf_lane16 p l 0 (by show l.val / 64 = 0; omega)]; rfl
  · rw [if_neg hl, headOf_lane16 p l 1 (by show l.val / 64 = 1; omega)]; rfl

/-- The blocks a point reads, at real numbers. -/
structure Blocks (Q K V : Fin 4096 → Fin 1024 → ℝ) (i : Fin 16) (q : Vec Ideal S256x1024 .bf16) (k v : Vec Ideal S4096x1024 .bf16) : Prop where
  hq : ∀ r n, q (ix2 r n) = (Q (rowOf i r) n : EReal)
  hk : ∀ C n, k (ix2 C n) = (K C n : EReal)
  hv : ∀ C n, v (ix2 C n) = (V C n : EReal)

section
variable {Q K V : Fin 4096 → Fin 1024 → ℝ} {i : Fin 16} {q : Vec Ideal S256x1024 .bf16} {k v : Vec Ideal S4096x1024 .bf16}
  (B : Blocks Q K V i q k v)
include B

theorem pq16_apply (t : Fin 16) (r : Fin 256) (x : Fin 128) :
    pq16 q t (ix2 r x) = (((if x.val / 64 = (odd16 t).val then Q (rowOf i r) (lane16 (half16 t) x) * (1 / 8) else 0 : ℝ)) : EReal) := by
  have hx := x.isLt
  have e : pair16 (k0_pay178 q) (half16 t) (ix2 r x) = ((Q (rowOf i r) (lane16 (half16 t) x) * (1 / 8) : ℝ) : EReal) := by
    rw [pair16_apply]
    pointwise [k0_pay178]
    rw [B.hq, eighth', ← EReal.coe_mul]
  have o : (odd16 t).val = 0 ∨ (odd16 t).val = 1 := by have := (odd16 t).isLt; omega
  unfold pq16 oneHead16
  rcases o with o | o
  · rw [if_pos o, o]
    pointwise []
    rw [firstHalf_apply, e]
    by_cases h : x.val < 64
    · rw [if_pos h, if_pos (by omega)]; rfl
    · rw [if_neg h, if_neg (by omega)]; rfl
  · rw [if_neg (by omega), o]
    pointwise []
    rw [firstHalf_apply, e]
    by_cases h : x.val < 64
    · rw [if_pos h, if_neg (by omega)]; rfl
    · rw [if_neg h, if_pos (by omega)]; rfl

variable {gi : grid0.Coords} (hgi : (gi 1).val = i.val)
include hgi

theorem ownRows_apply {a : Memref sig .tc .vmem S4096x1024 .bf16} (h : a.IsWhole) (x : Vec Ideal S4096x1024 .bf16) (c : Fin 256) (n : Fin 1024) :
    ownRows gi h x (ix2 c n) = x (ix2 (rowOf i c) n) := by
  unfold ownRows
  exact (readAt_rows ((off1_eq gi).trans (by rw [hgi])) _ c _).trans (congrFun (h.read_unread x) _)

theorem own_finds {arg3 arg4 : Memref sig .tc .vmem S4096x1024 .bf16} (harg3 : arg3.IsWhole) (harg4 : arg4.IsWhole) (t : Fin 16) :
    Finds Q K V W0 i i t (odd16 t) (lane16 (half16 t)) below Cert.AttnIdeal.Gen.k0_pay266 Cert.AttnIdeal.Gen.k0_pay267 (pq16 q t) (fun _ => (0 : EReal))
      (pair16 (ownRows gi harg3 k) (half16 t)) (pair16 (ownRows gi harg4 v) (half16 t)) (fun _ => (0 : EReal)) zeroCl (fun _ => (0 : EReal)) where
  col_eq := lane16_col t
  mask x r c := by
    rw [below_apply]
    by_cases h : c < r
    · have h' : rowOf i c < rowOf i r := by show 256 * i.val + c.val < 256 * i.val + r.val; have := Fin.lt_def.mp h; omega
      rw [if_pos h, if_pos h']
    · have h' : ¬ rowOf i c < rowOf i r := by
        show ¬ 256 * i.val + c.val < 256 * i.val + r.val; have := fun e => h (Fin.lt_def.mpr e); omega
      rw [if_neg h, if_neg h']
  hT := from_apply
  hP := upto_apply
  hq := pq16_apply B t
  hw r d := by simp
  hk c d := by rw [pair16_apply, ownRows_apply B hgi, B.hk]
  hv c d := by rw [pair16_apply, ownRows_apply B hgi, B.hv]
  hds r := by simp [g_zero]
  hc1 r := by
    rw [zeroCl_apply, tail_none, EReal.coe_zero]
    intro C hC
    exact if_neg fun h => by have := Fin.lt_def.mp h; have e : (rowOf i r).val = 256 * i.val + r.val := rfl; omega
  hc2 r := by rw [tail_none fun C _ => g_zero Q K V t _ C, EReal.coe_zero]

/-- A carried value that holds what a point's own tile gives. -/
theorem own_sums {arg3 arg4 : Memref sig .tc .vmem S4096x1024 .bf16} (harg3 : arg3.IsWhole) (harg4 : arg4.IsWhole) {x : Carry Ideal}
    (hc : ∀ t, x.c t = hc1 below (pq16 q t) (pair16 (ownRows gi harg3 k) (half16 t)) zeroCl)
    (ha : ∀ t, x.acc t = ho below Cert.AttnIdeal.Gen.k0_pay266 (pq16 q t) (pair16 (ownRows gi harg3 k) (half16 t))
      (pair16 (ownRows gi harg4 v) (half16 t)) zeroCl zeroRows) : Sums Q K V i (256 * i.val) x where
  c t r := by rw [hc]; exact c1_eq (own_finds B hgi harg3 harg4 t) r
  acc t r d := by
    rw [ha]
    refine ho_eq (own_finds B hgi harg3 harg4 t) ?_
    rw [zeroRows_apply, tail_none, EReal.coe_zero]
    intro C hC
    have e : ¬ C < rowOf i r := fun h => by have := Fin.lt_def.mp h; have e : (rowOf i r).val = 256 * i.val + r.val := rfl; omega
    rw [att_of_le Q K e, zero_mul]

end

end Cert.AttnFwdIdeal.Hand

end
-- ==== Proof.AttnFwdRun.lean ====
/- The run of the attention's forward call: its result at the real values of the projections. -/
module

public import proofs.«01_k».proof.Proof.AttnFwdStep
public import proofs.«01_k».proof.Proof.AttnRef
public import Idealize.ShloMosaic.Lib.Pipeline.ValueKit
public import Idealize.ShloMosaic.Lib.Pipeline.ReadBack

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Idealize.ShloMosaic.Pipeline
open AttnSpec AttnReal
open Cert.AttnIdeal.Hand (Cl hc1 below zeroCl rowOf)

variable {F : FTy → Type} [FloatOps F]

/-- The loop that is left over, which never runs. -/
def Around.rest (A : Around F) (X3 : BufTy.Contents (Elt F) A.arg3.view.ty) (X4 : BufTy.Contents (Elt F) A.arg4.view.ty)
    (w : BitVec 32) (init : Carry F) (n : ℕ) : Carry F :=
  st_k0_t2 Variants.none A.c none A.i A.arg2 A.harg2 A.arg3 A.harg3 A.arg4 A.harg4 A.arg5 A.harg5 A.arg1
    A.v4 A.v8 A.v17 A.v22 A.v27 A.v32 A.v37 A.v42 A.v47 A.v52 A.v57 A.v62 A.v67 A.v72 A.v77 A.v82 A.v87 A.v92 A.v94 A.v100 A.v120 A.v140 A.v168 A.v179 A.v199 A.v210 A.v230 A.v241 A.v261 A.v272 A.v292 A.v303 A.v323 A.v334 A.v354 A.v365 A.v385 A.v396 A.v416 A.v427 A.v447 A.v458 A.v478 A.v489 A.v509 A.v520 A.v540 A.v551 A.v571 A.v582 A.v590 A.v593 w X3 X4 init n
theorem Around.rest_none (A : Around F) (X3 : BufTy.Contents (Elt F) A.arg3.view.ty) (X4 : BufTy.Contents (Elt F) A.arg4.view.ty)
    (w : BitVec 32) (init : Carry F) {n : ℕ} (h : n = 0) : A.rest X3 X4 w init n = init := by
  subst h
  exact st_k0_t2_zero ..

section
variable (c : Dev nD) (gi : grid0.Coords)
  {arg2 : Memref sig .tc .vmem S256x1024 .bf16} (harg2 : arg2.IsWhole) {arg3 : Memref sig .tc .vmem S4096x1024 .bf16} (harg3 : arg3.IsWhole)
  {arg4 : Memref sig .tc .vmem S4096x1024 .bf16} (harg4 : arg4.IsWhole) {arg5 : Memref sig .tc .vmem S256x1024 .f32} (harg5 : arg5.IsWhole)
  (q : Vec F S256x1024 .bf16) (k v : Vec F S4096x1024 .bf16)

/-- What a point's own tile gives of each head. -/
def dC (t : Fin 16) : Cl F := hc1 below (pq16 q t) (pair16 (ownRows gi harg3 k) (half16 t)) zeroCl
def dAcc (t : Fin 16) : FVec F S256x128 .f32 := ho below Cert.AttnIdeal.Gen.k0_pay266 (pq16 q t) (pair16 (ownRows gi harg3 k) (half16 t))
  (pair16 (ownRows gi harg4 v) (half16 t)) zeroCl zeroRows

/-- What is around the loop of a point. -/
def pa : Around F :=
  { c := c, i := gi, arg2 := arg2, harg2 := harg2, arg3 := arg3, harg3 := harg3, arg4 := arg4, harg4 := harg4,
    arg5 := arg5, harg5 := harg5, arg1 := BitVec.ofNat 32 (gi 1).val,
    v4 := k0_pay175, v8 := k0_pay176, v17 := pq16 q 0, v22 := pq16 q 1,
    v27 := pq16 q 2, v32 := pq16 q 3, v37 := pq16 q 4, v42 := pq16 q 5,
    v47 := pq16 q 6, v52 := pq16 q 7, v57 := pq16 q 8, v62 := pq16 q 9,
    v67 := pq16 q 10, v72 := pq16 q 11, v77 := pq16 q 12, v82 := pq16 q 13,
    v87 := pq16 q 14, v92 := pq16 q 15, v94 := zeroRows, v100 := ownRows gi harg4 v,
    v120 := dC gi harg3 q k 0, v140 := dC gi harg3 q k 1, v168 := dC gi harg3 q k 2, v179 := dAcc gi harg3 harg4 q k v 0,
    v199 := dC gi harg3 q k 3, v210 := dAcc gi harg3 harg4 q k v 1, v230 := dC gi harg3 q k 4, v241 := dAcc gi harg3 harg4 q k v 2,
    v261 := dC gi harg3 q k 5, v272 := dAcc gi harg3 harg4 q k v 3, v292 := dC gi harg3 q k 6, v303 := dAcc gi harg3 harg4 q k v 4,
    v323 := dC gi harg3 q k 7, v334 := dAcc gi harg3 harg4 q k v 5, v354 := dC gi harg3 q k 8, v365 := dAcc gi harg3 harg4 q k v 6,
    v385 := dC gi harg3 q k 9, v396 := dAcc gi harg3 harg4 q k v 7, v416 := dC gi harg3 q k 10, v427 := dAcc gi harg3 harg4 q k v 8,
    v447 := dC gi harg3 q k 11, v458 := dAcc gi harg3 harg4 q k v 9, v478 := dC gi harg3 q k 12, v489 := dAcc gi harg3 harg4 q k v 10,
    v509 := dC gi harg3 q k 13, v520 := dAcc gi harg3 harg4 q k v 11, v540 := dC gi harg3 q k 14, v551 := dAcc gi harg3 harg4 q k v 12,
    v571 := dC gi harg3 q k 15, v582 := dAcc gi harg3 harg4 q k v 13, v590 := Cert.AttnIdeal.Hand.ha below Cert.AttnIdeal.Gen.k0_pay266 (pq16 q 15) (pair16 (ownRows gi harg3 k) 7) zeroCl, v593 := dAcc gi harg3 harg4 q k v 14 }

/-- What the loop begins with. -/
def start : Carry F :=
  (dC gi harg3 q k 0, dC gi harg3 q k 1, dC gi harg3 q k 2, dC gi harg3 q k 3,
    dC gi harg3 q k 4, dC gi harg3 q k 5, dC gi harg3 q k 6, dC gi harg3 q k 7,
    dC gi harg3 q k 8, dC gi harg3 q k 9, dC gi harg3 q k 10, dC gi harg3 q k 11,
    dC gi harg3 q k 12, dC gi harg3 q k 13, dC gi harg3 q k 14, dC gi harg3 q k 15,
    dAcc gi harg3 harg4 q k v 0, dAcc gi harg3 harg4 q k v 1, dAcc gi harg3 harg4 q k v 2, dAcc gi harg3 harg4 q k v 3,
    dAcc gi harg3 harg4 q k v 4, dAcc gi harg3 harg4 q k v 5, dAcc gi harg3 harg4 q k v 6, dAcc gi harg3 harg4 q k v 7,
    dAcc gi harg3 harg4 q k v 8, dAcc gi harg3 harg4 q k v 9, dAcc gi harg3 harg4 q k v 10, dAcc gi harg3 harg4 q k v 11,
    dAcc gi harg3 harg4 q k v 12, dAcc gi harg3 harg4 q k v 13, dAcc gi harg3 harg4 q k v 14, dAcc gi harg3 harg4 q k v 15)

/-- The loop of a point run to its end. -/
def looped : Carry F :=
  (pa c gi harg2 harg3 harg4 harg5 q k v).rest (harg3.unread k) (harg4.unread v) (Scalar.addi 1#32 (Scalar.muli (Scalar.divsi (Scalar.subi (Scalar.addi (BitVec.ofNat 32 (gi 1).val) 1#32) 1#32) 1#32) 1#32))
    ((pa c gi harg2 harg3 harg4 harg5 q k v).state (harg3.unread k) (harg4.unread v) (start gi harg3 harg4 q k v) (k0_t1_loop gi).trips)
    (k0_t2_loop gi).trips

/-- The queries as the point loads them. -/
def loaded (h : arg2.IsWhole) (q : Vec F S256x1024 .bf16) : Vec F S256x1024 .bf16 :=
  arg2.view.readAt (Elt F) (Rect.unit (s := S256x1024) ![0, 0] S256x1024.size inb_S256x1024_S256x1024_0_0).toLoadRect (h.unread q)
omit [FloatOps F] in
theorem loaded_eq (h : arg2.IsWhole) (q : Vec F S256x1024 .bf16) : loaded h q = q := (View.readAt_full arg2.view _ _).trans (h.read_unread q)

/-- A point stores the pieces of the loop's last carried value. -/
theorem point_stores : (kernelRun0_A c gi arg2 harg2 arg3 harg3 arg4 harg4 arg5 harg5 q k v).1 = pieces (looped c gi harg2 harg3 harg4 harg5 (loaded harg2 q) k v) := by
  unfold kernelRun0_A
  sl_kernel_rfl

section
variable {Q K V : Fin 4096 → Fin 1024 → ℝ} {i : Fin 16} {q : Vec Ideal S256x1024 .bf16} {k v : Vec Ideal S4096x1024 .bf16}
  (B : Blocks Q K V i q k v) {gi : grid0.Coords} (hgi : (gi 1).val = i.val) (c : Dev nD)
  {arg2 : Memref sig .tc .vmem S256x1024 .bf16} (harg2 : arg2.IsWhole) {arg3 : Memref sig .tc .vmem S4096x1024 .bf16} (harg3 : arg3.IsWhole)
  {arg4 : Memref sig .tc .vmem S4096x1024 .bf16} (harg4 : arg4.IsWhole) {arg5 : Memref sig .tc .vmem S256x1024 .f32} (harg5 : arg5.IsWhole)
include B hgi

theorem sees_pa : Sees Q K V i (pa c gi harg2 harg3 harg4 harg5 q k v) (harg3.unread k) (harg4.unread v) where
  hi := hgi
  hT := Cert.AttnIdeal.Hand.from_apply
  hq t r d := by
    have e : (pa c gi harg2 harg3 harg4 harg5 q k v).q t = pq16 q t := by fin_cases t <;> rfl
    rw [e]
    exact pq16_apply B t r d
  h3 C n := (congrFun (harg3.read_unread k) _).trans (B.hk C n)
  h4 C n := (congrFun (harg4.read_unread v) _).trans (B.hv C n)

theorem looped_sums : Sums Q K V i 0 (looped c gi harg2 harg3 harg4 harg5 q k v) := by
  have e : looped c gi harg2 harg3 harg4 harg5 q k v
      = (pa c gi harg2 harg3 harg4 harg5 q k v).state (harg3.unread k) (harg4.unread v) (start gi harg3 harg4 q k v) (k0_t1_loop gi).trips :=
    Around.rest_none _ _ _ _ _ (rest_trips gi)
  rw [e]
  exact loop_end (sees_pa B hgi c harg2 harg3 harg4 harg5)
    (own_sums B hgi harg3 harg4 (fun t => by fin_cases t <;> rfl) (fun t => by fin_cases t <;> rfl))

theorem point_rows {V' : View sig .tc .vmem S256x1024 .f32} (f : BufTy.Contents (Elt Ideal) V'.ty) (r : Fin 256) (n : Fin 1024) :
    V'.read (Elt Ideal) (V'.writes (Elt Ideal) f (kernelRun0_A c gi arg2 harg2 arg3 harg3 arg4 harg4 arg5 harg5 q k v).1) (ix2 r n)
      = ((out Q K V (rowOf i r) n : ℝ) : EReal) := by
  rw [point_stores, loaded_eq]
  exact pieces_apply (looped_sums B hgi c harg2 harg3 harg4 harg5) f r n

end

section
variable (m : (ℓ : Loc nD τ sig) → Buf (Elt Ideal) ℓ) (c : Dev nD)

abbrev aP : Vec Ideal S4096x6144 .bf16 := m ((c : Thread nD τ).loc main_arg0)

def tileOf (t : Fin cfg0.N) : Fin 16 := ⟨t.val, t.isLt⟩

theorem coord_eq : ∀ t : Fin cfg0.N, ((grid0.coords t) 1).val = t.val := by decide +kernel
theorem idx0 : ∀ t : Fin cfg0.N, win0_0.index t = ![t.val, 1] := (by decide +kernel : ∀ t : Fin grid0.N, _)
theorem idx1 : ∀ t : Fin cfg0.N, win0_1.index t = ![0, 2] := (by decide +kernel : ∀ t : Fin grid0.N, _)
theorem idx2 : ∀ t : Fin cfg0.N, win0_2.index t = ![0, 3] := (by decide +kernel : ∀ t : Fin grid0.N, _)
theorem idx3 : ∀ t : Fin cfg0.N, win0_3.index t = ![t.val, 0] := (by decide +kernel : ∀ t : Fin grid0.N, _)

variable {m c} (f0 : ∀ i, Real1.IsR (aP m c i))
include f0

theorem blocks (t : Fin cfg0.N) : Blocks (Qr (aP m c)) (Kr (aP m c)) (Vr (aP m c)) (tileOf t) (iblk m c 0 t) (iblk m c 1 t) (iblk m c 2 t) where
  hq r n := by
    refine Eq.trans ?_ (q_coe f0 (rowOf (tileOf t) r) n (k := ⟨1024 + n.val, by omega⟩) rfl)
    show ((cfg0.win 0).blk t).view.read (Elt Ideal) (V m c main_arg0) (ix2 r n) = _
    rw [V_main_arg0]
    refine congrArg (aP m c) ?_
    blk_ext [idx0 t, rowOf, tileOf]
  hk C n := by
    refine Eq.trans ?_ (k_coe f0 C n (k := ⟨2048 + n.val, by omega⟩) rfl)
    show ((cfg0.win 1).blk t).view.read (Elt Ideal) (V m c main_arg0) (ix2 C n) = _
    rw [V_main_arg0]
    refine congrArg (aP m c) ?_
    blk_ext [idx1 t]
  hv C n := by
    refine Eq.trans ?_ (v_coe f0 C n (k := ⟨3072 + n.val, by omega⟩) rfl)
    show ((cfg0.win 2).blk t).view.read (Elt Ideal) (V m c main_arg0) (ix2 C n) = _
    rw [V_main_arg0]
    refine congrArg (aP m c) ?_
    blk_ext [idx2 t]

theorem array3 : (dats m 0 c).arrAt 3 cfg0.N = fun i =>
    ((out (Qr (aP m c)) (Kr (aP m c)) (Vr (aP m c)) (i 0) (i 1) : ℝ) : EReal) := by
  refine (dats m 0 c).arrAt_eq_of_covers 3 _ (by decide +kernel) fun t hf y => ?_
  blk_simp
  rw [after0_3]
  idx_vars y
  unfold outsAt0 out0_A_3
  rw [point_rows (blocks f0 t) (coord_eq t)]
  have e0 : (((View.whole main_v0).slice (win0_3.rect t)).emb (ix2 y0 y1)) = ix2 (rowOf (tileOf t) y0) y1 := by
    blk_ext [idx3 t, rowOf, tileOf]
  rw [e0]
  rfl

end

end

end Cert.AttnFwdIdeal.Hand

end
-- ==== Proof.AttnFwdClaim.lean ====
/- The value claim of the attention's forward call: both programs leave the output of `AttnSpec`. -/
module

public import proofs.«01_k».proof.Defs
public import proofs.«01_k».proof.Proof.Gen.Pre_attnf_finite
public import proofs.«01_k».proof.Proof.Gen.AttnFwdRefIdeal.Run
public import proofs.«01_k».proof.Proof.Gen.AttnFwdRefIdeal.Read
public import proofs.«01_k».proof.Proof.AttnFwdRun

@[expose] public section

set_option maxRecDepth 16384

noncomputable section

namespace Cert.AttnFwdClaim

open Idealize.ShloMosaic Idealize.ShloMosaic.TcCoe Idealize.ShloMosaic.Tactic Idealize.SL.Sem Real1
open Cert.AttnFwdIdeal.Hand (aP)

variable (m : (ℓ : Loc Cert.AttnFwdIdeal.nD Cert.AttnFwdIdeal.τ Cert.AttnFwdIdeal.sig) → Buf (Elt Ideal) ℓ)

/-- The precondition, entry by entry. -/
theorem real_args (h : Cert.Pre_AttnFwdIdeal_attnf_finite m) (c : Dev Cert.AttnFwdIdeal.nD) : ∀ i, IsR (aP m c i) := fun i => by
  have h := congrFun (h c) i
  pointwise [Cert.Pre_attnf_finite.fn] at h
  exact isR_of_bit h

/-- The reference's output is the backward reference's saved one. -/
theorem same_output {F : FTy → Type} [FloatOps F] (x : Vec F Cert.AttnRefIdeal.S4096x6144 .bf16) :
    Cert.AttnFwdRefIdeal.Read.val_main_v32 (F := F) x = Cert.AttnRefIdeal.Read.val_main_v32 (F := F) x := by
  sl_kernel_rfl

theorem algebraic : Cert.algebraic_AttnFwdIdeal_AttnFwdRefIdeal_pre_attnf_finite := fun m g m' g' hpre hargs => by
  refine ⟨fun c => (Cert.AttnFwdIdeal.Gen.dats m 0 c).arrAt 3 Cert.AttnFwdIdeal.cfg0.N, ?_, ?_⟩
  · exact (θ_run Cert.AttnFwdIdeal.defs _ _).mono (fun r h c => ⟨(h.1 c).1 3, h.2.1 c⟩)
      (θ_run_and (Cert.AttnFwdIdeal.Gen.run_main m g) (Cert.AttnFwdIdeal.Gen.frame m g))
  · refine (θ_run Cert.AttnFwdRefIdeal.defs _ _).mono (fun r h c => ?_) (Cert.AttnFwdRefIdeal.Value.run m' g')
    obtain ⟨r0, kept⟩ := h c
    refine ⟨r0.trans ?_, kept⟩
    rw [Cert.AttnFwdRefIdeal.Read.val_main_v32_eq, hargs c, same_output]
    refine Eq.trans ?_ (Cert.AttnFwdIdeal.Hand.array3 (real_args m hpre c)).symm
    refine funext fun j => ?_
    idx_vars j
    exact Cert.AttnRefIdeal.Hand.out_apply (real_args m hpre c) _ _

end Cert.AttnFwdClaim

end
-- ==== Proof.PoolFwdClaim.lean ====
/- The value claim of the pooling's forward call: both programs leave the pooled values and their groups' products with the
   weights. The call is the one the pooling gradient makes first, so its tiles' lemmas are that gradient's. -/
module

public import proofs.«01_k».proof.Defs
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Gen.Pre_poolf_finite
public import proofs.«01_k».proof.Proof.PoolTile
public import proofs.«01_k».proof.Proof.PoolRef

@[expose] public section

set_option maxRecDepth 16384

noncomputable section

namespace PoolFwdSpec

open Idealize.ShloMosaic PoolSpec

/-- A group's product of the pooled values with its weight. -/
def yy (P : AP) (W : AW) (r : Fin 4096) (g : Fin 4) (d : Fin 256) : EReal := ∑ k : Fin 256, p P r g k * W (ix3 g k d)

def prods (P : AP) (W : AW) : AD := fun i => yy P W (i 0) (grp (i 1)) (lan (i 1))

end PoolFwdSpec

namespace Cert.PoolFwdIdeal.Hand

open Cert.PoolFwdIdeal Cert.PoolFwdIdeal.Gen Idealize.ShloMosaic Idealize.ShloMosaic.TcCoe Idealize.SL.Sem
open PoolSpec PoolFwdSpec
open Cert.PoolIdeal.Hand (Rows pool2 pool4 pool8 pool16)

/-- Where each window's block sits at point `t`. -/
abbrev Idx (t : Fin grid0.N) : Prop :=
  win0_0.index t = ![t.val, 0] ∧ win0_1.index t = ![t.val * 16 - 1, 0] ∧ win0_2.index t = ![0, 0, 0]
  ∧ win0_3.index t = ![t.val, 0] ∧ win0_4.index t = ![t.val, 0] ∧ (grid0.coords t 0).val = t.val

theorem idx (t : Fin cfg0.N) : Idx t := (by decide +kernel : ∀ t : Fin grid0.N, Idx t) t

theorem point_lt (t : Fin cfg0.N) : t.val < 16 := lt_of_lt_of_eq t.isLt Gen.N_0

section Same
variable {F : FTy → Type} [FloatOps F] (i : grid0.Coords) (v : Vec F S256x256 .bf16) (h : Vec F S16x256 .bf16)

/-- The call's stores are those of the pooling gradient's first call. -/
theorem same2 : k0_pay4 i v h = Cert.PoolIdeal.Gen.k0_pay4 i v h := rfl
theorem same4 : k0_pay8 (k0_pay3 i) (k0_pay6 v) (Scalar.cmpi .eq (BitVec.ofNat 32 (i 0).val) 0#32) (k0_pay7 h)
    = Cert.PoolIdeal.Gen.k0_pay8 (Cert.PoolIdeal.Gen.k0_pay3 i) (Cert.PoolIdeal.Gen.k0_pay6 v) (Cert.PoolIdeal.Hand.first i)
      (Cert.PoolIdeal.Gen.k0_pay7 h) := rfl
theorem same8 : k0_pay12 (k0_pay3 i) (k0_pay10 v) (k0_pay11 (BitVec.ofNat 32 (i 0).val) v h)
    = Cert.PoolIdeal.Gen.k0_pay12 (Cert.PoolIdeal.Gen.k0_pay3 i) (Cert.PoolIdeal.Gen.k0_pay10 v)
      (Cert.PoolIdeal.Gen.k0_pay11 (BitVec.ofNat 32 (i 0).val) v h) := rfl
theorem same16 : k0_pay1 (k0_pay14 v) (k0_pay15 (BitVec.ofNat 32 (i 0).val) v h) (k0_pay16 (k0_pay3 i))
    = Cert.PoolIdeal.Gen.k0_pay1 (Cert.PoolIdeal.Gen.k0_pay14 v) (Cert.PoolIdeal.Gen.k0_pay15 (BitVec.ofNat 32 (i 0).val) v h)
      (Cert.PoolIdeal.Gen.k0_pay16 (Cert.PoolIdeal.Gen.k0_pay3 i)) := rfl

/-- A tile of pooled values times its group's weight. -/
def prod (x : FVec F S256x256 .bf16) (w : Vec F S1x256x256 .bf16) : FVec F S256x256 .f32 :=
  matmul dot_S256x256_S256x256_S256x256_1_0_0_1_n_n none x (shapeCast S256x256 w shapeCasts_S1x256x256_S256x256 : FVec F S256x256 .bf16)
    (constant S256x256 .f32 0x00000000#32)

theorem pay5_eq (w : Vec F S1x256x256 .bf16) : k0_pay5 i v h w = prod (k0_pay4 i v h) w := rfl
theorem pay9_eq (a : IVec S256x1 32) (b : FVec F S256x256 .f32) (z : BitVec 1) (d : FVec F S16x256 .f32) (w : Vec F S1x256x256 .bf16) :
    k0_pay9 a b z d w = prod (k0_pay8 a b z d) w := rfl
theorem pay13_eq (a : IVec S256x1 32) (b : FVec F S256x256 .f32) (d : FVec F S272x256 .f32) (w : Vec F S1x256x256 .bf16) :
    k0_pay13 a b d w = prod (k0_pay12 a b d) w := rfl
theorem pay2_eq (a b : FVec F S256x256 .f32) (d : IVec S256x1 32) (w : Vec F S1x256x256 .bf16) :
    k0_pay2 a b d w = prod (k0_pay1 a b d) w := rfl

end Same

theorem prod_apply (x : FVec Ideal S256x256 .bf16) (w : Vec Ideal S1x256x256 .bf16) (r d : Fin 256) :
    prod x w (ix2 r d) = ∑ k : Fin 256, x (ix2 r k) * w (ix3 0 k d) := by
  pointwise [prod]

variable (m : (ℓ : Loc nD τ sig) → Buf (Elt Ideal) ℓ) (c : Dev nD) (t : Fin cfg0.N)

/-- The two arguments on device `c`. -/
abbrev aP : AP := m ((c.tc : Thread nD τ).loc main_arg0)
abbrev aW : AW := m ((c.tc : Thread nD τ).loc main_arg1)

/-- Row `r` of the tile of point `t`. -/
def row (r : Fin 256) : Fin 4096 := ⟨t.val * 256 + r.val, by have := point_lt t; omega⟩

theorem f0 (r : Fin 256) (l : Fin 1024) : iblk m c 0 t (ix2 r l) = u (aP m c) (row t r) l := by
  blk_ext [iblk, V, idx t, row, u]
theorem f1 (h0 : t.val ≠ 0) (r : Fin 16) (l : Fin 1024) :
    iblk m c 1 t (ix2 r l) = u (aP m c) ⟨t.val * 256 - 16 + r.val, by have := point_lt t; omega⟩ l := by
  blk_ext [iblk, V, idx t, u]
theorem f2 (g : Fin 4) (k d : Fin 256) : iblk m c 2 t (ix3 g k d) = aW m c (ix3 g k d) := by
  blk_ext [iblk, V, idx t]

theorem ldU (g : Fin 4) (o : ℕ) (ho : o = g.val * 256) (h) (r k : Fin 256) :
    View.ld (iblk m c 0 t) (Rect.unit ![0, o] ![256, 256] h) (ix2 r k) = u (aP m c) (row t r) (col g k) := by
  refine Eq.trans ?_ (f0 m c t r (col g k))
  unfold View.ld
  congr 1
  refine funext fun a => Fin.ext ?_
  match a with
  | ⟨0, _⟩ => show 0 + 1 * r.val = r.val; omega
  | ⟨1, _⟩ => show o + 1 * k.val = g.val * 256 + k.val; omega

theorem ldH (g : Fin 4) (o : ℕ) (ho : o = g.val * 256) (h) (h0 : t.val ≠ 0) (r : Fin 16) (k : Fin 256) :
    View.ld (iblk m c 1 t) (Rect.unit ![0, o] ![16, 256] h) (ix2 r k)
      = u (aP m c) ⟨t.val * 256 - 16 + r.val, by have := point_lt t; omega⟩ (col g k) := by
  refine Eq.trans ?_ (f1 m c t h0 r (col g k))
  unfold View.ld
  congr 1
  refine funext fun a => Fin.ext ?_
  match a with
  | ⟨0, _⟩ => show 0 + 1 * r.val = r.val; omega
  | ⟨1, _⟩ => show o + 1 * k.val = g.val * 256 + k.val; omega

theorem ldW (g : Fin 4) (o : ℕ) (ho : o = g.val) (h) (z : Fin 1) (k d : Fin 256) :
    View.ld (iblk m c 2 t) (Rect.unit ![o, 0, 0] ![1, 256, 256] h) (ix3 z k d) = aW m c (ix3 g k d) := by
  refine Eq.trans ?_ (f2 m c t g k d)
  unfold View.ld
  congr 1
  refine funext fun a => Fin.ext ?_
  match a with
  | ⟨0, _⟩ => show o + 1 * z.val = g.val; omega
  | ⟨1, _⟩ => show 0 + 1 * k.val = k.val; omega
  | ⟨2, _⟩ => show 0 + 1 * d.val = d.val; omega

/-- The loaded blocks hold the padded columns of group `g`. -/
theorem rows (g : Fin 4) (o : ℕ) (ho : o = g.val * 256) (h h') (k : Fin 256) :
    Rows (grid0.coords t) (View.ld (iblk m c 0 t) (Rect.unit ![0, o] ![256, 256] h))
      (View.ld (iblk m c 1 t) (Rect.unit ![0, o] ![16, 256] h')) (t.val * 256) (fun n => uu (aP m c) n (col g k)) k := by
  have ht := point_lt t
  refine ⟨fun r => ?_, fun r => ?_⟩
  · rw [(idx t).2.2.2.2.2]
    dsimp only [uu]
    by_cases h0 : t.val = 0
    · rw [if_pos h0, dif_neg (by omega)]
    · rw [if_neg h0, dif_pos (by omega), ldH m c t g o ho h' h0]
      congr 1
      exact Fin.ext (by show t.val * 256 - 16 + r.val = t.val * 256 + r.val - 16; omega)
  · rw [ldU m c t g o ho]
    dsimp only [uu]
    rw [dif_pos (by omega)]
    congr 1
    exact Fin.ext (by show t.val * 256 + r.val = t.val * 256 + 16 + r.val - 16; omega)

theorem val (g : Fin 4) (r k : Fin 256) (a : EReal) (ha : a = u (aP m c) (row t r) (col g k)) :
    Ideal.div (back (fun n => uu (aP m c) n (col g k)) (wid g) (t.val * 256 + (16 + r.val)))
      (cnt (wid g) ((grid0.coords t 0).val * 256 + r.val)) - a = p (aP m c) (row t r) g k := by
  rw [ha, (idx t).2.2.2.2.2]
  unfold p
  rw [show (row t r).val + 16 = t.val * 256 + (16 + r.val) by show t.val * 256 + r.val + 16 = _; omega]
  rfl

/-- The four groups' pooled tiles. -/
theorem t0 (h h') (r k : Fin 256) : k0_pay4 (grid0.coords t) (View.ld (iblk m c 0 t) (Rect.unit ![0, 0] ![256, 256] h)) (View.ld (iblk m c 1 t) (Rect.unit ![0, 0] ![16, 256] h')) (ix2 r k) = p (aP m c) (row t r) 0 k := by
  rw [same2]
  exact (pool2 (rows m c t 0 0 rfl h h' k) r).trans (val m c t 0 r k _ (ldU m c t 0 0 rfl _ r k))
theorem t1 (h h') (r k : Fin 256) :
    k0_pay8 (k0_pay3 (grid0.coords t)) (k0_pay6 (View.ld (iblk m c 0 t) (Rect.unit ![0, 256] ![256, 256] h))) (Scalar.cmpi .eq (BitVec.ofNat 32 (grid0.coords t 0).val) 0#32)
      (k0_pay7 (View.ld (iblk m c 1 t) (Rect.unit ![0, 256] ![16, 256] h'))) (ix2 r k) = p (aP m c) (row t r) 1 k := by
  rw [same4]
  exact (pool4 (rows m c t 1 256 rfl h h' k) r).trans (val m c t 1 r k _ (ldU m c t 1 256 rfl _ r k))
theorem t2 (h h') (r k : Fin 256) :
    k0_pay12 (k0_pay3 (grid0.coords t)) (k0_pay10 (View.ld (iblk m c 0 t) (Rect.unit ![0, 512] ![256, 256] h))) (k0_pay11 (BitVec.ofNat 32 (grid0.coords t 0).val)
      (View.ld (iblk m c 0 t) (Rect.unit ![0, 512] ![256, 256] h)) (View.ld (iblk m c 1 t) (Rect.unit ![0, 512] ![16, 256] h'))) (ix2 r k) = p (aP m c) (row t r) 2 k := by
  rw [same8]
  exact (pool8 (rows m c t 2 512 rfl h h' k) r).trans (val m c t 2 r k _ (ldU m c t 2 512 rfl _ r k))
theorem t3 (h h') (r k : Fin 256) :
    k0_pay1 (k0_pay14 (View.ld (iblk m c 0 t) (Rect.unit ![0, 768] ![256, 256] h))) (k0_pay15 (BitVec.ofNat 32 (grid0.coords t 0).val) (View.ld (iblk m c 0 t) (Rect.unit ![0, 768] ![256, 256] h)) (View.ld (iblk m c 1 t) (Rect.unit ![0, 768] ![16, 256] h')))
      (k0_pay16 (k0_pay3 (grid0.coords t))) (ix2 r k) = p (aP m c) (row t r) 3 k := by
  rw [same16]
  exact (pool16 (rows m c t 3 768 rfl h h' k) r).trans (val m c t 3 r k _ (ldU m c t 3 768 rfl _ r k))

/-- A product's entry from its tile's entries. -/
theorem y_of (g : Fin 4) (o : ℕ) (ho : o = g.val) (h) (x : FVec Ideal S256x256 .bf16) (r d : Fin 256)
    (hx : ∀ k, x (ix2 r k) = p (aP m c) (row t r) g k) :
    prod x (View.ld (iblk m c 2 t) (Rect.unit ![o, 0, 0] ![1, 256, 256] h)) (ix2 r d) = yy (aP m c) (aW m c) (row t r) g d := by
  rw [prod_apply]
  exact Finset.sum_congr rfl fun k _ => by rw [hx, ldW m c t g o ho]

theorem at_col {α : Type} (f : Fin 4096 → Fin 4 → Fin 256 → α) (g : Fin 4) (r r' k : Fin 256) (l : Fin 1024) (hr : r.val = r'.val)
    (h : l.val = g.val * 256 + k.val) : f (row t r') g k = f (row t r) (grp l) (lan l) := by
  rw [show grp l = g from Fin.ext (by show l.val / 256 = g.val; omega), show lan l = k from Fin.ext (by show l.val % 256 = k.val; omega),
    show r = r' from Fin.ext hr]

theorem tile3 (r : Fin 256) (l : Fin 1024) :
    out0_3 (grid0.coords t) (iblk m c 0 t) (iblk m c 1 t) (iblk m c 2 t) (ix2 r l) = sav (aP m c) (ix2 (row t r) l) := by
  have key := at_col t (p (aP m c))
  unfold_out out0_3
  canon_tiles x h
  all_goals idx_vars x
  · exact (t3 m c t _ _ x0 x1).trans (key 3 r x0 x1 l h0 h1)
  · exact (t2 m c t _ _ x0 x1).trans (key 2 r x0 x1 l h0 h1)
  · exact (t1 m c t _ _ x0 x1).trans (key 1 r x0 x1 l h0 h1)
  · exact (t0 m c t _ _ x0 x1).trans (key 0 r x0 x1 l h0 (by rw [h1]; show _ = 0 * 256 + x1.val; omega))

theorem tile4 (r : Fin 256) (l : Fin 1024) :
    out0_4 (grid0.coords t) (iblk m c 0 t) (iblk m c 1 t) (iblk m c 2 t) (ix2 r l) = prods (aP m c) (aW m c) (ix2 (row t r) l) := by
  have key := at_col t (yy (aP m c) (aW m c))
  unfold_out out0_4
  canon_tiles x h
  all_goals idx_vars x
  · rw [pay2_eq]
    exact (y_of m c t 3 3 rfl _ _ x0 x1 fun k => t3 m c t _ _ x0 k).trans (key 3 r x0 x1 l h0 h1)
  · rw [pay13_eq]
    exact (y_of m c t 2 2 rfl _ _ x0 x1 fun k => t2 m c t _ _ x0 k).trans (key 2 r x0 x1 l h0 h1)
  · rw [pay9_eq]
    exact (y_of m c t 1 1 rfl _ _ x0 x1 fun k => t1 m c t _ _ x0 k).trans (key 1 r x0 x1 l h0 h1)
  · rw [pay5_eq]
    exact (y_of m c t 0 0 rfl _ _ x0 x1 fun k => t0 m c t _ _ x0 k).trans
      (key 0 r x0 x1 l h0 (by rw [h1]; show _ = 0 * 256 + x1.val; omega))

theorem array3 : (dats m 0 c).arrAt 3 cfg0.N = sav (aP m c) := by
  refine (dats m 0 c).arrAt_eq_of_covers 3 _ (by decide +kernel) fun t hf y => ?_
  blk_simp
  rw [after0_3]
  idx_vars y
  refine (tile3 m c t y0 y1).trans (congrArg _ ?_)
  blk_ext [idx t, row]

theorem array4 : (dats m 0 c).arrAt 4 cfg0.N = prods (aP m c) (aW m c) := by
  refine (dats m 0 c).arrAt_eq_of_covers 4 _ (by decide +kernel) fun t hf y => ?_
  blk_simp
  rw [after0_4]
  idx_vars y
  refine (tile4 m c t y0 y1).trans (congrArg _ ?_)
  blk_ext [idx t, row]

end Cert.PoolFwdIdeal.Hand

namespace Cert.PoolFwdRefIdeal.Hand

open Cert.PoolFwdRefIdeal Cert.PoolFwdRefIdeal.Read Idealize.ShloMosaic Real1
open PoolSpec PoolFwdSpec

section Same
variable {F : FTy → Type} [FloatOps F] (x : (⟨S4096x6144, .bf16⟩ : BufTy).Contents (Elt F))

/-- The means are the pooling gradient's reference's, both times they are computed. -/
theorem means : val_main_v64 x = Cert.PoolRefIdeal.Read.val_main_v69 x := rfl
theorem again : val_main_v130 x = val_main_v64 x := rfl
end Same

variable {P : AP} (hP : ∀ i, IsR (P i)) (W : AW)
include hP

theorem saved_apply (r : Fin 4096) (l : Fin 1024) : val_main_v66 (F := Ideal) P (ix2 r l) = sav P (ix2 r l) := by
  pointwise [val_main_v65, val_main_v66]
  rw [means]
  exact Cert.PoolRefIdeal.Hand.p_apply P hP r (grp l) (lan l)

theorem prods_apply (r : Fin 4096) (l : Fin 1024) : val_main_v133 (F := Ideal) P W (ix2 r l) = prods P W (ix2 r l) := by
  pointwise [val_main_v67, val_main_v131, val_main_v132, val_main_v133]
  rw [again, means]
  exact Finset.sum_congr rfl fun k _ => (mul_comm _ _).trans (congrArg (· * _) (Cert.PoolRefIdeal.Hand.p_apply P hP r (grp l) k))

end Cert.PoolFwdRefIdeal.Hand

namespace Cert.PoolFwdClaim

open Idealize.ShloMosaic Idealize.ShloMosaic.TcCoe Idealize.SL.Sem Real1
open PoolSpec PoolFwdSpec
open Cert.PoolFwdIdeal.Hand (aP aW)

variable (m : (ℓ : Loc Cert.PoolFwdIdeal.nD Cert.PoolFwdIdeal.τ Cert.PoolFwdIdeal.sig) → Buf (Elt Ideal) ℓ)

/-- The precondition, entry by entry. -/
theorem real_arg (h : Cert.Pre_PoolFwdIdeal_poolf_finite m) (c : Dev Cert.PoolFwdIdeal.nD) : ∀ i, IsR (aP m c i) := fun i => by
  have h := congrFun (h c) i
  pointwise [Cert.Pre_poolf_finite.fn] at h
  exact isR_of_bit h

theorem algebraic : Cert.algebraic_PoolFwdIdeal_PoolFwdRefIdeal_pre_poolf_finite := fun m g m' g' hpre hargs => by
  refine ⟨fun c => sav (aP m c), fun c => prods (aP m c) (aW m c), ?_, ?_⟩
  · exact (θ_run Cert.PoolFwdIdeal.defs _ _).mono (fun r h c =>
      ⟨(h c).1.trans (Cert.PoolFwdIdeal.Hand.array3 m c), (h c).2.1.trans (Cert.PoolFwdIdeal.Hand.array4 m c), (h c).2.2⟩)
      (Cert.PoolFwdIdeal.Value.run_blocks m g)
  · refine (θ_run Cert.PoolFwdRefIdeal.defs _ _).mono (fun r h c => ?_) (Cert.PoolFwdRefIdeal.Value.run m' g')
    obtain ⟨r0, r1, kept⟩ := h c
    obtain ⟨a0, a1⟩ := hargs c
    refine ⟨r0.trans ?_, r1.trans ?_, kept⟩
    · refine (Cert.PoolFwdRefIdeal.Read.val_main_v66_eq _ _).trans ?_
      rw [a0]
      refine funext fun j => ?_
      idx_vars j
      exact Cert.PoolFwdRefIdeal.Hand.saved_apply (real_arg m hpre c) _ _
    · refine (Cert.PoolFwdRefIdeal.Read.val_main_v133_eq _ _).trans ?_
      rw [a0, a1]
      refine funext fun j => ?_
      idx_vars j
      exact Cert.PoolFwdRefIdeal.Hand.prods_apply (real_arg m hpre c) _ _ _

end Cert.PoolFwdClaim

end
-- ==== Proof.GateFwdClaim.lean ====
/- The value claim of the gate's forward call: both programs leave the gated halves side by side, and the same turned. -/
module

public import proofs.«01_k».proof.Defs
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.GateSpec
public import Idealize.ShloMosaic.Lib.Pipeline.ValueKit
public import Idealize.ShloMosaic.Lib.Pipeline.ReadBack

@[expose] public section

set_option maxRecDepth 16384

noncomputable section

namespace GateFwdSpec

open Idealize.ShloMosaic GateSpec

/-- The gated values turned on their side. -/
abbrev AT := (⟨2, ![2048, 4096]⟩ : Shape).Idx → EReal

variable (Y O : AY) (P : AP) (S : AS)

/-- A half of the mixer's output times the gate and its logistic. -/
def gated (r : Fin 4096) (l : Fin 2048) : EReal := cat Y O S r l * (gt P r l * sgm P r l)

theorem gated_lo (r : Fin 4096) (n : Fin 1024) :
    Y (ix2 r n) * S (ix2 0 n) * (gt P r (lo n) * sgm P r (lo n)) = gated Y O P S r (lo n) := by
  unfold gated cat
  rw [dif_pos (by exact n.isLt)]
  rfl

theorem gated_hi (r : Fin 4096) (n : Fin 1024) :
    O (ix2 r n) * (gt P r (hi n) * sgm P r (hi n)) = gated Y O P S r (hi n) := by
  unfold gated cat
  rw [dif_neg (by show ¬ 1024 + n.val < 1024; omega)]
  have e : (⟨(hi n).val - 1024, by have := n.isLt; show 1024 + n.val - 1024 < 1024; omega⟩ : Fin 1024) = n :=
    Fin.ext (Nat.add_sub_cancel_left ..)
  show _ = O (ix2 r (⟨(hi n).val - 1024, _⟩ : Fin 1024)) * _
  rw [e]

def rows : AD := fun i => gated Y O P S (i 0) (i 1)
def cols : AT := fun i => gated Y O P S (i 1) (i 0)

end GateFwdSpec

namespace Cert.GateFwdIdeal.Hand

open Cert.GateFwdIdeal Cert.GateFwdIdeal.Gen Idealize.ShloMosaic Idealize.ShloMosaic.TcCoe Idealize.SL.Sem
open GateSpec GateFwdSpec

/-- Where each window's block sits at point `t`. -/
abbrev Idx (t : Fin grid0.N) : Prop :=
  win0_0.index t = ![t.val, 0] ∧ win0_1.index t = ![t.val, 0] ∧ win0_2.index t = ![t.val, 2] ∧ win0_3.index t = ![0, 0]
    ∧ win0_4.index t = ![t.val, 0] ∧ win0_5.index t = ![0, t.val]

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The four arguments on device `c`. -/
abbrev aY : AY := m ((c.tc : Thread nD τ).loc main_arg0)
abbrev aO : AY := m ((c.tc : Thread nD τ).loc main_arg1)
abbrev aP : AP := m ((c.tc : Thread nD τ).loc main_arg2)
abbrev aS : AS := m ((c.tc : Thread nD τ).loc main_arg3)

/-- Row `r` of the tile of point `t`. -/
def row (r : Fin 256) : Fin 4096 := ⟨t.val * 256 + r.val, by have := point_lt t; omega⟩

theorem b0 (r : Fin 256) (l : Fin 1024) : iblk m c 0 t (ix2 r l) = aY m c (ix2 (row t r) l) := by
  blk_ext [iblk, V, idx t, row]
theorem b1 (r : Fin 256) (l : Fin 1024) : iblk m c 1 t (ix2 r l) = aO m c (ix2 (row t r) l) := by
  blk_ext [iblk, V, idx t, row]
theorem b2 (r : Fin 256) (l : Fin 2048) : iblk m c 2 t (ix2 r l) = gt (aP m c) (row t r) l := by
  unfold gt
  blk_ext [iblk, V, idx t, row, gcol]
theorem b3 (r : Fin 1) (l : Fin 1024) : iblk m c 3 t (ix2 r l) = aS m c (ix2 0 l) := by
  blk_ext [iblk, V, idx t]

theorem p1 (r : Fin 256) (l : Fin 2048) :
    k0_pay1 (iblk m c 2 t) (ix2 r l) = gt (aP m c) (row t r) l * sgm (aP m c) (row t r) l := by
  pointwise [k0_pay1]
  rw [b2, zero_sub]
  rfl

theorem p2 (r : Fin 256) (n : Fin 1024) :
    k0_pay2 (iblk m c 2 t) (iblk m c 0 t) (iblk m c 3 t) (ix2 r n) = gated (aY m c) (aO m c) (aP m c) (aS m c) (row t r) (lo n) := by
  refine Eq.trans ?_ (gated_lo _ _ _ _ _ _)
  rw [← p1, ← b0, ← b3 m c t 0]
  pointwise [k0_pay2]
  rfl

theorem p3 (r : Fin 256) (n : Fin 1024) :
    k0_pay3 (iblk m c 2 t) (iblk m c 1 t) (ix2 r n) = gated (aY m c) (aO m c) (aP m c) (aS m c) (row t r) (hi n) := by
  refine Eq.trans ?_ (gated_hi _ _ _ _ _ _)
  rw [← p1, ← b1]
  pointwise [k0_pay3]
  rfl

theorem p4 (r : Fin 256) (n : Fin 1024) :
    k0_pay4 (iblk m c 2 t) (iblk m c 0 t) (iblk m c 3 t) (ix2 n r) = gated (aY m c) (aO m c) (aP m c) (aS m c) (row t r) (lo n) := by
  pointwise [k0_pay4]
  exact p2 m c t r n

theorem p5 (r : Fin 256) (n : Fin 1024) :
    k0_pay5 (iblk m c 2 t) (iblk m c 1 t) (ix2 n r) = gated (aY m c) (aO m c) (aP m c) (aS m c) (row t r) (hi n) := by
  pointwise [k0_pay5]
  exact p3 m c t r n

theorem array4 : (dats m 0 c).arrAt 4 cfg0.N = rows (aY m c) (aO m c) (aP m c) (aS m c) := by
  refine (dats m 0 c).arrAt_eq_of_covers 4 _ (by decide +kernel) fun t hf y => ?_
  blk_simp
  rw [after0_4]
  idx_vars y
  have e : out0_4 (iblk m c 0 t) (iblk m c 1 t) (iblk m c 2 t) (iblk m c 3 t) (ix2 y0 y1)
      = rows (aY m c) (aO m c) (aP m c) (aS m c) (ix2 (row t y0) y1) := by
    unfold out0_4
    frame_out
    canon_tiles x h
    all_goals idx_vars x
    · have e : y1 = hi x1 := Fin.ext h1
      rw [e, Fin.ext h0]
      exact p3 m c t x0 x1
    · have e : y1 = lo x1 := Fin.ext h1
      rw [e, Fin.ext h0]
      exact p2 m c t x0 x1
  refine e.trans (congrArg _ ?_)
  blk_ext [idx t, row]

theorem array5 : (dats m 0 c).arrAt 5 cfg0.N = cols (aY m c) (aO m c) (aP m c) (aS m c) := by
  refine (dats m 0 c).arrAt_eq_of_covers 5 _ (by decide +kernel) fun t hf y => ?_
  blk_simp
  rw [after0_5]
  idx_vars y
  have e : out0_5 (iblk m c 0 t) (iblk m c 1 t) (iblk m c 2 t) (iblk m c 3 t) (ix2 y0 y1)
      = cols (aY m c) (aO m c) (aP m c) (aS m c) (ix2 y0 (row t y1)) := by
    unfold out0_5
    frame_out
    canon_tiles x h
    all_goals idx_vars x
    · have e : y0 = hi x0 := Fin.ext h0
      rw [e, Fin.ext h1]
      exact p5 m c t x1 x0
    · have e : y0 = lo x0 := Fin.ext h0
      rw [e, Fin.ext h1]
      exact p4 m c t x1 x0
  refine e.trans (congrArg _ ?_)
  blk_ext [idx t, row]

end Cert.GateFwdIdeal.Hand

namespace Cert.GateFwdRefIdeal.Hand

open Cert.GateFwdRefIdeal Cert.GateFwdRefIdeal.Read Idealize.ShloMosaic
open GateSpec GateFwdSpec

variable (Y O : AY) (P : AP) (S : AS)

theorem gate_apply (r : Fin 4096) (l : Fin 2048) : val_main_v1 (F := Ideal) P (ix2 r l) = gt P r l := by
  pointwise [val_main_v0, val_main_v1]
  rfl

theorem cat_apply (r : Fin 4096) (l : Fin 2048) : val_main_v4 (F := Ideal) Y O S (ix2 r l) = cat Y O S r l := by
  pointwise [val_main_v2, val_main_v3, val_main_v4]
  rfl

theorem out_apply (r : Fin 4096) (l : Fin 2048) : val_main_v7 (F := Ideal) Y O P S (ix2 r l) = gated Y O P S r l := by
  pointwise [val_main_call0_v0, val_main_call0_v1, val_main_call0_cst, val_main_call0_v2, val_main_call0_v3,
    val_main_call0_cst_0, val_main_call0_v4, val_main_call0_v5, val_main_v5, val_main_v6, val_main_v7]
  rw [gate_apply, cat_apply]
  rfl

theorem turned_apply (r : Fin 4096) (l : Fin 2048) : val_main_v8 (F := Ideal) Y O P S (ix2 l r) = gated Y O P S r l := by
  pointwise [val_main_v8]
  exact out_apply Y O P S r l

end Cert.GateFwdRefIdeal.Hand

namespace Cert.GateFwdClaim

open Idealize.ShloMosaic Idealize.ShloMosaic.TcCoe Idealize.SL.Sem
open GateSpec GateFwdSpec
open Cert.GateFwdIdeal.Hand (aY aO aP aS)

theorem algebraic : Cert.algebraic_GateFwdIdeal_GateFwdRefIdeal := fun m g m' g' _ hargs => by
  refine ⟨fun c => rows (aY m c) (aO m c) (aP m c) (aS m c), fun c => cols (aY m c) (aO m c) (aP m c) (aS m c), ?_, ?_⟩
  · exact (θ_run Cert.GateFwdIdeal.defs _ _).mono (fun r h c =>
      ⟨(h c).1.trans (Cert.GateFwdIdeal.Hand.array4 m c), (h c).2.1.trans (Cert.GateFwdIdeal.Hand.array5 m c), (h c).2.2⟩)
      (Cert.GateFwdIdeal.Value.run_blocks m g)
  · refine (θ_run Cert.GateFwdRefIdeal.defs _ _).mono (fun r h c => ?_) (Cert.GateFwdRefIdeal.Value.run m' g')
    obtain ⟨r0, r1, kept⟩ := h c
    obtain ⟨a0, a1, a2, a3⟩ := hargs c
    refine ⟨r0.trans ?_, r1.trans ?_, kept⟩
    · refine (Cert.GateFwdRefIdeal.Read.val_main_v7_eq _ _ _ _).trans ?_
      rw [a0, a1, a2, a3]
      refine funext fun j => ?_
      idx_vars j
      exact Cert.GateFwdRefIdeal.Hand.out_apply _ _ _ _ _ _
    · refine (Cert.GateFwdRefIdeal.Read.val_main_v8_eq _ _ _ _).trans ?_
      rw [a0, a1, a2, a3]
      refine funext fun j => ?_
      idx_vars j
      exact Cert.GateFwdRefIdeal.Hand.turned_apply _ _ _ _ _ _

end Cert.GateFwdClaim

end
-- ==== Proof.ConvFwdClaim.lean ====
/- The value claim of the convolution's forward call: both programs leave the gated convolution, and the same turned. -/
module

public import proofs.«01_k».proof.Defs
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.ConvSpec
public import Idealize.ShloMosaic.Lib.Pipeline.ValueKit
public import Idealize.ShloMosaic.Lib.Pipeline.ReadBack

@[expose] public section

set_option maxRecDepth 16384

noncomputable section

namespace ConvFwdSpec

open Idealize.ShloMosaic ConvSpec

/-- The result turned on its side. -/
abbrev AT := (⟨2, ![2048, 4096]⟩ : Shape).Idx → EReal

variable (P : AP) (W : AW) (B : AB)

/-- The convolution between its two gates. -/
def out (r : Fin 4096) (l : Fin 2048) : EReal := P (ix2 r (col 0 l)) * conv P W B r l * sg P r l

def rows : AD := fun i => out P W B (i 0) (i 1)
def cols : AT := fun i => out P W B (i 1) (i 0)

end ConvFwdSpec

namespace Cert.ConvFwdIdeal.Hand

open Cert.ConvFwdIdeal Cert.ConvFwdIdeal.Gen Idealize.ShloMosaic Idealize.ShloMosaic.TcCoe Idealize.SL.Sem
open ConvFwdSpec
open ConvSpec (AD AP AW AB col uc ush sgm sg conv)

section Parts
variable {F : FTy → Type} [FloatOps F]

/-- The gated values of the sixteen rows before the tile and of the tile. -/
def ext (i : grid0.Coords) (v0 v2 : Vec F S256x2048 .bf16) (v6 v8 : Vec F S16x2048 .bf16) : FVec F S272x2048 .f32 :=
  concatenate S272x2048 0
    [⟨S16x2048, Scalar.select (Scalar.cmpi .eq (BitVec.ofNat 32 (i 0).val) 0#32)
        (broadcast S16x2048 (Scalar.ofBits .f32 0x00000000#32)) (mulf (extf .f32 v6 bitsLt_bf16_f32) (extf .f32 v8 bitsLt_bf16_f32))⟩,
      ⟨S256x2048, mulf (extf .f32 v0 bitsLt_bf16_f32) (extf .f32 v2 bitsLt_bf16_f32)⟩]
    concatenates_S16x2048_S256x2048_S272x2048_d0

/-- The tile's rows of the extended values, turned by `k` rows. -/
def back (k : BitVec 32) (e : FVec F S272x2048 .f32) : FVec F S256x2048 .f32 :=
  extractStridedSlice S256x2048 ![16, 0] (dynamicRotate 0 k none e rotates_S272x2048_d0) slices_S272x2048_o16_0_S256x2048

/-- A tap's row over the tile. -/
def tap (k : Fin 3) (w : Vec F S3x2048 .f32) (h : S3x2048.Slices ![k.val, 0] S1x2048) : FVec F S256x2048 .f32 :=
  broadcastTo S256x2048 (extractStridedSlice S1x2048 ![k.val, 0] w h) broadcasts_S1x2048_S256x2048

theorem pay4_eq (i : grid0.Coords) (v0 v2 : Vec F S256x2048 .bf16) (v6 v8 : Vec F S16x2048 .bf16) (w : Vec F S3x2048 .f32)
    (b : Vec F S1x2048 .f32) (g : Vec F S256x2048 .bf16) :
    k0_pay4 i v0 v2 v6 v8 w b g
      = mulf (extf .f32 g bitsLt_bf16_f32) (addf (addf (addf (broadcastTo S256x2048 b broadcasts_S1x2048_S256x2048)
          (mulf (tap 0 w slices_S3x2048_o0_0_S1x2048) (back 2#32 (ext i v0 v2 v6 v8))))
          (mulf (tap 1 w slices_S3x2048_o1_0_S1x2048) (back 1#32 (ext i v0 v2 v6 v8))))
          (mulf (tap 2 w slices_S3x2048_o2_0_S1x2048) (mulf (extf .f32 v0 bitsLt_bf16_f32) (extf .f32 v2 bitsLt_bf16_f32)))) := rfl

end Parts

/-- Where each window's block sits at point `t`. -/
abbrev Idx (t : Fin grid0.N) : Prop :=
  (win0_0.index t = ![t.val, 0] ∧ win0_1.index t = ![t.val, 1] ∧ win0_2.index t = ![t.val, 2] ∧ win0_3.index t = ![t.val, 3])
  ∧ (win0_4.index t = ![16 * t.val - 1, 1] ∧ win0_5.index t = ![16 * t.val - 1, 2])
  ∧ (win0_6.index t = ![0, 0] ∧ win0_7.index t = ![0, 0] ∧ win0_8.index t = ![t.val, 0] ∧ win0_9.index t = ![0, t.val])
  ∧ Scalar.cmpi .eq (BitVec.ofNat 32 (grid0.coords t 0).val) 0#32 = BitVec.ofBool (decide (t.val = 0))

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The three arguments on device `c`. -/
abbrev aP : AP := m ((c.tc : Thread nD τ).loc main_arg0)
abbrev aW : AW := m ((c.tc : Thread nD τ).loc main_arg1)
abbrev aB : AB := m ((c.tc : Thread nD τ).loc main_arg2)

/-- Row `r` of the tile of point `t`, and of the sixteen rows before it. -/
def row (r : Fin 256) : Fin 4096 := ⟨t.val * 256 + r.val, by have := point_lt t; omega⟩
def rowP (r : Fin 16) : Fin 4096 := ⟨(16 * t.val - 1) * 16 + r.val, by have := point_lt t; omega⟩

theorem b0 (r : Fin 256) (l : Fin 2048) : iblk m c 0 t (ix2 r l) = aP m c (ix2 (row t r) (col 0 l)) := by
  blk_ext [iblk, V, idx t, row, col]
theorem b1 (r : Fin 256) (l : Fin 2048) : iblk m c 1 t (ix2 r l) = aP m c (ix2 (row t r) (col 1 l)) := by
  blk_ext [iblk, V, idx t, row, col]
theorem b2 (r : Fin 256) (l : Fin 2048) : iblk m c 2 t (ix2 r l) = aP m c (ix2 (row t r) (col 2 l)) := by
  blk_ext [iblk, V, idx t, row, col]
theorem b3 (r : Fin 256) (l : Fin 2048) : iblk m c 3 t (ix2 r l) = aP m c (ix2 (row t r) (col 3 l)) := by
  blk_ext [iblk, V, idx t, row, col]
theorem b4 (r : Fin 16) (l : Fin 2048) : iblk m c 4 t (ix2 r l) = aP m c (ix2 (rowP t r) (col 1 l)) := by
  blk_ext [iblk, V, idx t, rowP, col]
theorem b5 (r : Fin 16) (l : Fin 2048) : iblk m c 5 t (ix2 r l) = aP m c (ix2 (rowP t r) (col 2 l)) := by
  blk_ext [iblk, V, idx t, rowP, col]
theorem b6 (r : Fin 3) (l : Fin 2048) : iblk m c 6 t (ix2 r l) = aW m c (ix2 r l) := by
  blk_ext [iblk, V, idx t]
theorem b7 (r : Fin 1) (l : Fin 2048) : iblk m c 7 t (ix2 r l) = aB m c (ix2 r l) := by
  blk_ext [iblk, V, idx t]

/-- The extended values of point `t`. -/
abbrev ex : FVec Ideal S272x2048 .f32 := ext (grid0.coords t) (iblk m c 1 t) (iblk m c 2 t) (iblk m c 4 t) (iblk m c 5 t)

theorem ex_apply (q : Fin 272) (l : Fin 2048) : ex m c t (ix2 q l) = ush (aP m c) (t.val * 256 + q.val) l := by
  have ht := point_lt t
  pointwise [ex, ext]
  rw [(idx t).2.2.2]
  unfold ush uc
  by_cases hq : q.val < 16
  · rw [dif_pos hq]
    by_cases h0 : t.val = 0
    · rw [decide_eq_true h0, dif_neg (by omega)]
      rfl
    · rw [decide_eq_false h0, dif_pos ⟨by omega, by omega⟩]
      refine (congrArg₂ (fun a b : EReal => a * b) (b4 m c t ⟨q.val, hq⟩ l) (b5 m c t ⟨q.val, hq⟩ l)).trans ?_
      rw [show rowP t ⟨q.val, hq⟩ = ⟨t.val * 256 + q.val - 16, by omega⟩ from
        Fin.ext (by show (16 * t.val - 1) * 16 + q.val = t.val * 256 + q.val - 16; omega)]
  · rw [dif_neg hq, dif_pos ⟨by omega, by omega⟩]
    refine (congrArg₂ (fun a b : EReal => a * b) (b1 m c t ⟨q.val - 16, by omega⟩ l) (b2 m c t ⟨q.val - 16, by omega⟩ l)).trans ?_
    rw [show row t ⟨q.val - 16, by omega⟩ = ⟨t.val * 256 + q.val - 16, by omega⟩ from
      Fin.ext (by show t.val * 256 + (q.val - 16) = t.val * 256 + q.val - 16; omega)]

theorem back1 (r : Fin 256) (l : Fin 2048) : back 1#32 (ex m c t) (ix2 r l) = ush (aP m c) ((row t r).val + 15) l := by
  pointwise [back]
  rw [ex_apply]
  congr 1
  show t.val * 256 + (16 + r.val + 272 - 1) % 272 = t.val * 256 + r.val + 15
  omega

theorem back2 (r : Fin 256) (l : Fin 2048) : back 2#32 (ex m c t) (ix2 r l) = ush (aP m c) ((row t r).val + 14) l := by
  pointwise [back]
  rw [ex_apply]
  congr 1
  show t.val * 256 + (16 + r.val + 272 - 2) % 272 = t.val * 256 + r.val + 14
  omega

theorem tap_apply (k : Fin 3) (h) (r : Fin 256) (l : Fin 2048) : tap k (iblk m c 6 t) h (ix2 r l) = aW m c (ix2 k l) := by
  refine Eq.trans ?_ (b6 m c t k l)
  fin_cases k <;> pointwise [tap]

/-- The convolution of the tile, its output gate applied. -/
theorem p4 (r : Fin 256) (l : Fin 2048) :
    k0_pay4 (grid0.coords t) (iblk m c 1 t) (iblk m c 2 t) (iblk m c 4 t) (iblk m c 5 t) (iblk m c 6 t) (iblk m c 7 t)
        (iblk m c 0 t) (ix2 r l)
      = aP m c (ix2 (row t r) (col 0 l)) * conv (aP m c) (aW m c) (aB m c) (row t r) l := by
  rw [pay4_eq]
  pointwise []
  rw [tap_apply m c t, tap_apply m c t, tap_apply m c t, back1, back2, b0, b1, b2, b7]
  rfl

/-- The gate's block as the body reads it. -/
theorem p3 (r : Fin 256) (l : Fin 2048) : k0_pay3 (iblk m c 3 t) (ix2 r l) = aP m c (ix2 (row t r) (col 3 l)) := by
  pointwise [k0_pay3]
  exact b3 m c t r l

/-- The stored tile, whatever the two values it is made of. -/
theorem p1 (r : Fin 256) (l : Fin 2048) :
    k0_pay1 (k0_pay3 (iblk m c 3 t)) (k0_pay4 (grid0.coords t) (iblk m c 1 t) (iblk m c 2 t) (iblk m c 4 t) (iblk m c 5 t)
        (iblk m c 6 t) (iblk m c 7 t) (iblk m c 0 t)) (Scalar.ofBits .f32 0x00000000#32) (ix2 r l)
      = out (aP m c) (aW m c) (aB m c) (row t r) l := by
  pointwise [k0_pay1]
  rw [p3, p4, zero_sub]
  rfl

theorem turn (a b : FVec Ideal S256x2048 .f32) (z : EReal) (r : Fin 256) (l : Fin 2048) :
    k0_pay2 (F := Ideal) a b z (ix2 l r) = k0_pay1 (F := Ideal) a b z (ix2 r l) := by
  pointwise [k0_pay2]

theorem p2 (r : Fin 256) (l : Fin 2048) :
    k0_pay2 (k0_pay3 (iblk m c 3 t)) (k0_pay4 (grid0.coords t) (iblk m c 1 t) (iblk m c 2 t) (iblk m c 4 t) (iblk m c 5 t)
        (iblk m c 6 t) (iblk m c 7 t) (iblk m c 0 t)) (Scalar.ofBits .f32 0x00000000#32) (ix2 l r)
      = out (aP m c) (aW m c) (aB m c) (row t r) l := by
  exact (turn _ _ _ r l).trans (p1 m c t r l)

theorem array8 : (dats m 0 c).arrAt 8 cfg0.N = rows (aP m c) (aW m c) (aB m c) := by
  refine (dats m 0 c).arrAt_eq_of_covers 8 _ (by decide +kernel) fun t hf y => ?_
  blk_simp
  rw [after0_8]
  idx_vars y
  have e : out0_8 (grid0.coords t) (iblk m c 0 t) (iblk m c 1 t) (iblk m c 2 t) (iblk m c 3 t) (iblk m c 4 t) (iblk m c 5 t)
        (iblk m c 6 t) (iblk m c 7 t) (ix2 y0 y1)
      = rows (aP m c) (aW m c) (aB m c) (ix2 (row t y0) y1) := by
    unfold out0_8 k0_pay5 k0_pay6
    frame_out
    exact p1 m c t y0 y1
  refine e.trans (congrArg _ ?_)
  blk_ext [idx t, row]

theorem array9 : (dats m 0 c).arrAt 9 cfg0.N = cols (aP m c) (aW m c) (aB m c) := by
  refine (dats m 0 c).arrAt_eq_of_covers 9 _ (by decide +kernel) fun t hf y => ?_
  blk_simp
  rw [after0_9]
  idx_vars y
  have e : out0_9 (grid0.coords t) (iblk m c 0 t) (iblk m c 1 t) (iblk m c 2 t) (iblk m c 3 t) (iblk m c 4 t) (iblk m c 5 t)
        (iblk m c 6 t) (iblk m c 7 t) (ix2 y0 y1)
      = cols (aP m c) (aW m c) (aB m c) (ix2 y0 (row t y1)) := by
    unfold out0_9 k0_pay5 k0_pay6
    frame_out
    exact p2 m c t y1 y0
  refine e.trans (congrArg _ ?_)
  blk_ext [idx t, row]

end Cert.ConvFwdIdeal.Hand

namespace Cert.ConvFwdRefIdeal.Hand

open Cert.ConvFwdRefIdeal Cert.ConvFwdRefIdeal.Read Idealize.ShloMosaic
open ConvFwdSpec
open ConvSpec (AD AP AW AB col uc ush sgm sg conv)

variable (P : AP) (W : AW) (B : AB)

/-- The padded input of the convolution. -/
theorem up_apply (n : Fin 4098) (l : Fin 2048) : val_main_v7 (F := Ideal) P (ix2 n l) = ush P (n.val + 14) l := by
  pointwise [val_main_v0, val_main_v2, val_main_v3, val_main_v5, val_main_cst, val_main_v6, val_main_v7]
  unfold ush uc col
  by_cases h : n.val < 2
  · rw [dif_pos h, dif_neg (by omega)]
  · rw [dif_neg h, dif_pos ⟨by omega, by omega⟩]
    rfl

/-- The three taps' sum. -/
theorem taps_apply (r : Fin 4096) (l : Fin 2048) : val_main_v31 (F := Ideal) P W B (ix2 r l) = conv P W B r l := by
  pointwise [val_main_v8, val_main_v9, val_main_v10, val_main_v11, val_main_v12, val_main_v13, val_main_cst_0, val_main_v14,
    val_main_v15, val_main_v16, val_main_v17, val_main_v18, val_main_v19, val_main_v20, val_main_v21, val_main_v22,
    val_main_v23, val_main_v24, val_main_v25, val_main_v26, val_main_v27, val_main_v28, val_main_v29, val_main_v30,
    val_main_v31]
  simp only [up_apply]
  unfold conv
  rw [show 1 + r.val + 14 = r.val + 15 by omega, show 2 + r.val + 14 = r.val + 16 by omega,
    ← ConvSpec.ush_self P r l, mul_comm (W (ix2 0 l)), mul_comm (W (ix2 1 l)), mul_comm (W (ix2 2 l)), add_assoc,
    add_assoc, add_assoc]

theorem gate_apply (r : Fin 4096) (l : Fin 2048) : val_main_v33 (F := Ideal) P (ix2 r l) = sg P r l := by
  pointwise [val_main_v0, val_main_v4, val_main_call0_v0, val_main_call0_v1, val_main_call0_cst, val_main_call0_v2,
    val_main_call0_v3, val_main_call0_cst_0, val_main_call0_v4, val_main_call0_v5, val_main_v33]
  rfl

theorem first_apply (r : Fin 4096) (l : Fin 2048) : val_main_v1 (F := Ideal) P (ix2 r l) = P (ix2 r (col 0 l)) := by
  pointwise [val_main_v0, val_main_v1]
  exact congrArg (fun k => P (ix2 r k)) (Fin.ext (Nat.zero_add l.val).symm)

theorem out_apply (r : Fin 4096) (l : Fin 2048) : val_main_v35 (F := Ideal) P W B (ix2 r l) = out P W B r l := by
  pointwise [val_main_v32, val_main_v34, val_main_v35]
  rw [first_apply, taps_apply, gate_apply]
  rfl

theorem turned_apply (r : Fin 4096) (l : Fin 2048) : val_main_v36 (F := Ideal) P W B (ix2 l r) = out P W B r l := by
  pointwise [val_main_v36]
  exact out_apply P W B r l

end Cert.ConvFwdRefIdeal.Hand

namespace Cert.ConvFwdClaim

open Idealize.ShloMosaic Idealize.ShloMosaic.TcCoe Idealize.SL.Sem
open ConvFwdSpec
open Cert.ConvFwdIdeal.Hand (aP aW aB)

theorem algebraic : Cert.algebraic_ConvFwdIdeal_ConvFwdRefIdeal := fun m g m' g' _ hargs => by
  refine ⟨fun c => rows (aP m c) (aW m c) (aB m c), fun c => cols (aP m c) (aW m c) (aB m c), ?_, ?_⟩
  · exact (θ_run Cert.ConvFwdIdeal.defs _ _).mono (fun r h c =>
      ⟨(h c).1.trans (Cert.ConvFwdIdeal.Hand.array8 m c), (h c).2.1.trans (Cert.ConvFwdIdeal.Hand.array9 m c), (h c).2.2⟩)
      (Cert.ConvFwdIdeal.Value.run_blocks m g)
  · refine (θ_run Cert.ConvFwdRefIdeal.defs _ _).mono (fun r h c => ?_) (Cert.ConvFwdRefIdeal.Value.run m' g')
    obtain ⟨r0, r1, kept⟩ := h c
    obtain ⟨a0, a1, a2⟩ := hargs c
    refine ⟨r0.trans ?_, r1.trans ?_, kept⟩
    · refine (Cert.ConvFwdRefIdeal.Read.val_main_v35_eq _ _ _).trans ?_
      rw [a0, a1, a2]
      refine funext fun j => ?_
      idx_vars j
      exact Cert.ConvFwdRefIdeal.Hand.out_apply _ _ _ _ _
    · refine (Cert.ConvFwdRefIdeal.Read.val_main_v36_eq _ _ _).trans ?_
      rw [a0, a1, a2]
      refine funext fun j => ?_
      idx_vars j
      exact Cert.ConvFwdRefIdeal.Hand.turned_apply _ _ _ _ _

end Cert.ConvFwdClaim

end
-- ==== Proof.ModSpec.lean ====
/- A row normed, scaled and shifted, entry by entry over the extended reals: what the two forward calls of the norm compute. -/
module

public import proofs.«01_k».proof.Proof.NormReal

@[expose] public section

noncomputable section

namespace ModSpec

open Idealize.ShloMosaic Norm

/-- The residual stream, the same turned on its side, and a vector of the width. -/
abbrev AX := (⟨2, ![4096, 1024]⟩ : Shape).Idx → EReal
abbrev AT := (⟨2, ![1024, 4096]⟩ : Shape).Idx → EReal
abbrev AV := (⟨2, ![1, 1024]⟩ : Shape).Idx → EReal

variable (X : Fin 4096 → Fin 1024 → EReal) (G S B : AV)

/-- Entry `l` of the normed row `r`, scaled and shifted. -/
def md (r : Fin 4096) (l : Fin 1024) : EReal :=
  X r l * rs (X r) * G (ix2 0 l) * (1 + S (ix2 0 l)) + B (ix2 0 l)

def rows : AX := fun i => md X G S B (i 0) (i 1)
def cols : AT := fun i => md X G S B (i 1) (i 0)

/-- The rows of an array, and the rows after a residual step. -/
def of (A : AX) (r : Fin 4096) (l : Fin 1024) : EReal := A (ix2 r l)
def step (A Y : AX) (V : AV) (r : Fin 4096) (l : Fin 1024) : EReal := A (ix2 r l) + (1 + V (ix2 0 l)) * Y (ix2 r l)
def stepped (A Y : AX) (V : AV) : AX := fun i => step A Y V (i 0) (i 1)

end ModSpec

end
-- ==== Proof.ModClaim.lean ====
/- The value claim of the first layer's norm: both programs leave the rows of `ModSpec`, and those rows turned. -/
module

public import proofs.«01_k».proof.Defs
public import proofs.«01_k».proof.Proof.Gen.ModIdeal.Value
public import proofs.«01_k».proof.Proof.Gen.ModRefIdeal.Run
public import proofs.«01_k».proof.Proof.Gen.ModRefIdeal.Read
public import proofs.«01_k».proof.Proof.ModSpec
public import Idealize.ShloMosaic.Lib.Pipeline.ValueKit
public import Idealize.ShloMosaic.Lib.Pipeline.ReadBack

@[expose] public section

set_option maxRecDepth 16384

noncomputable section

namespace Cert.ModIdeal.Hand

open Cert.ModIdeal Cert.ModIdeal.Gen Idealize.ShloMosaic Idealize.ShloMosaic.TcCoe Idealize.SL.Sem
open ModSpec Norm

/-- Where each window's block sits at point `t`. -/
abbrev Idx (t : Fin grid0.N) : Prop :=
  win0_0.index t = ![t.val, 0] ∧ win0_1.index t = ![0, 0] ∧ win0_2.index t = ![0, 0] ∧ win0_3.index t = ![0, 0]
    ∧ win0_4.index t = ![t.val, 0] ∧ win0_5.index t = ![0, t.val]

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The four arguments on device `c`. -/
abbrev aX : AX := m ((c.tc : Thread nD τ).loc main_arg0)
abbrev aG : AV := m ((c.tc : Thread nD τ).loc main_arg1)
abbrev aS : AV := m ((c.tc : Thread nD τ).loc main_arg2)
abbrev aB : AV := m ((c.tc : Thread nD τ).loc main_arg3)

/-- Row `r` of the tile of point `t`. -/
def row (r : Fin 256) : Fin 4096 := ⟨t.val * 256 + r.val, by have := point_lt t; omega⟩

theorem b0 (r : Fin 256) (l : Fin 1024) : iblk m c 0 t (ix2 r l) = of (aX m c) (row t r) l := by
  unfold of
  blk_ext [iblk, V, idx t, row]
theorem b1 (r : Fin 1) (l : Fin 1024) : iblk m c 1 t (ix2 r l) = aG m c (ix2 0 l) := by
  blk_ext [iblk, V, idx t]
theorem b2 (r : Fin 1) (l : Fin 1024) : iblk m c 2 t (ix2 r l) = aS m c (ix2 0 l) := by
  blk_ext [iblk, V, idx t]
theorem b3 (r : Fin 1) (l : Fin 1024) : iblk m c 3 t (ix2 r l) = aB m c (ix2 0 l) := by
  blk_ext [iblk, V, idx t]

theorem p1 (r : Fin 256) (l : Fin 1024) :
    k0_pay1 (iblk m c 0 t) (iblk m c 1 t) (iblk m c 2 t) (iblk m c 3 t) (ix2 r l)
      = md (of (aX m c)) (aG m c) (aS m c) (aB m c) (row t r) l := by
  pointwise [k0_pay1]
  simp only [b0, b1, b2, b3, zero_add]
  rfl

theorem p2 (r : Fin 256) (l : Fin 1024) :
    k0_pay2 (iblk m c 0 t) (iblk m c 1 t) (iblk m c 2 t) (iblk m c 3 t) (ix2 l r)
      = md (of (aX m c)) (aG m c) (aS m c) (aB m c) (row t r) l := by
  pointwise [k0_pay2]
  exact p1 m c t r l

theorem array4 : (dats m 0 c).arrAt 4 cfg0.N = rows (of (aX m c)) (aG m c) (aS m c) (aB m c) := by
  refine (dats m 0 c).arrAt_eq_of_covers 4 _ (by decide +kernel) fun t hf y => ?_
  blk_simp
  rw [after0_4]
  idx_vars y
  have e : out0_4 (iblk m c 0 t) (iblk m c 1 t) (iblk m c 2 t) (iblk m c 3 t) (ix2 y0 y1)
      = rows (of (aX m c)) (aG m c) (aS m c) (aB m c) (ix2 (row t y0) y1) := by
    unfold out0_4
    frame_out
    exact p1 m c t y0 y1
  refine e.trans (congrArg _ ?_)
  blk_ext [idx t, row]

theorem array5 : (dats m 0 c).arrAt 5 cfg0.N = cols (of (aX m c)) (aG m c) (aS m c) (aB m c) := by
  refine (dats m 0 c).arrAt_eq_of_covers 5 _ (by decide +kernel) fun t hf y => ?_
  blk_simp
  rw [after0_5]
  idx_vars y
  have e : out0_5 (iblk m c 0 t) (iblk m c 1 t) (iblk m c 2 t) (iblk m c 3 t) (ix2 y0 y1)
      = cols (of (aX m c)) (aG m c) (aS m c) (aB m c) (ix2 y0 (row t y1)) := by
    unfold out0_5
    frame_out
    exact p2 m c t y1 y0
  refine e.trans (congrArg _ ?_)
  blk_ext [idx t, row]

end Cert.ModIdeal.Hand

namespace Cert.ModRefIdeal.Hand

open Cert.ModRefIdeal Cert.ModRefIdeal.Read Idealize.ShloMosaic
open ModSpec Norm

variable (X : AX) (G S B : AV)

theorem arg_apply (r : Fin 4096) (u : Fin 1) : val_main_v6 (F := Ideal) X (ix2 r u) = arg (of X r) := by
  pointwise [val_main_v0, val_main_cst, val_main_v1, val_main_v2, val_main_cst_0, val_main_v3, val_main_v4, val_main_cst_1,
    val_main_v5, val_main_v6]
  rfl

theorem out_apply (r : Fin 4096) (l : Fin 1024) : val_main_v18 (F := Ideal) X G S B (ix2 r l) = md (of X) G S B r l := by
  pointwise [val_main_v7, val_main_v8, val_main_v9, val_main_v10, val_main_v11, val_main_cst_2, val_main_v12, val_main_v13,
    val_main_v14, val_main_v15, val_main_v16, val_main_v17, val_main_v18]
  rw [arg_apply]
  rfl

theorem turned_apply (r : Fin 4096) (l : Fin 1024) : val_main_v19 (F := Ideal) X G S B (ix2 l r) = md (of X) G S B r l := by
  pointwise [val_main_v19]
  exact out_apply X G S B r l

end Cert.ModRefIdeal.Hand

namespace Cert.ModClaim

open Idealize.ShloMosaic Idealize.ShloMosaic.TcCoe Idealize.SL.Sem
open ModSpec
open Cert.ModIdeal.Hand (aX aG aS aB)

theorem algebraic : Cert.algebraic_ModIdeal_ModRefIdeal := fun m g m' g' _ hargs => by
  refine ⟨fun c => rows (of (aX m c)) (aG m c) (aS m c) (aB m c), fun c => cols (of (aX m c)) (aG m c) (aS m c) (aB m c), ?_, ?_⟩
  · exact (θ_run Cert.ModIdeal.defs _ _).mono (fun r h c =>
      ⟨(h c).1.trans (Cert.ModIdeal.Hand.array4 m c), (h c).2.1.trans (Cert.ModIdeal.Hand.array5 m c), (h c).2.2⟩)
      (Cert.ModIdeal.Value.run_blocks m g)
  · refine (θ_run Cert.ModRefIdeal.defs _ _).mono (fun r h c => ?_) (Cert.ModRefIdeal.Value.run m' g')
    obtain ⟨r0, r1, kept⟩ := h c
    obtain ⟨a0, a1, a2, a3⟩ := hargs c
    refine ⟨r0.trans ?_, r1.trans ?_, kept⟩
    · refine (Cert.ModRefIdeal.Read.val_main_v18_eq _ _ _ _).trans ?_
      rw [a0, a1, a2, a3]
      refine funext fun j => ?_
      idx_vars j
      exact Cert.ModRefIdeal.Hand.out_apply _ _ _ _ _ _
    · refine (Cert.ModRefIdeal.Read.val_main_v19_eq _ _ _ _).trans ?_
      rw [a0, a1, a2, a3]
      refine funext fun j => ?_
      idx_vars j
      exact Cert.ModRefIdeal.Hand.turned_apply _ _ _ _ _ _

end Cert.ModClaim

end
-- ==== Proof.ModResidClaim.lean ====
/- The value claim of the second layer's norm and of the residual step before it: both programs leave the stepped stream, the
   rows of `ModSpec`, and those rows turned. -/
module

public import proofs.«01_k».proof.Defs
public import proofs.«01_k».proof.Proof.Gen.ModResidIdeal.Value
public import proofs.«01_k».proof.Proof.Gen.ModResidRefIdeal.Run
public import proofs.«01_k».proof.Proof.Gen.ModResidRefIdeal.Read
public import proofs.«01_k».proof.Proof.ModSpec
public import Idealize.ShloMosaic.Lib.Pipeline.ValueKit
public import Idealize.ShloMosaic.Lib.Pipeline.ReadBack

@[expose] public section

set_option maxRecDepth 16384

noncomputable section

namespace Cert.ModResidIdeal.Hand

open Cert.ModResidIdeal Cert.ModResidIdeal.Gen Idealize.ShloMosaic Idealize.ShloMosaic.TcCoe Idealize.SL.Sem
open ModSpec Norm

/-- Where each window's block sits at point `t`. -/
abbrev Idx (t : Fin grid0.N) : Prop :=
  (win0_0.index t = ![t.val, 0] ∧ win0_1.index t = ![t.val, 0] ∧ win0_2.index t = ![0, 0] ∧ win0_3.index t = ![0, 0]
    ∧ win0_4.index t = ![0, 0] ∧ win0_5.index t = ![0, 0])
  ∧ (win0_6.index t = ![t.val, 0] ∧ win0_7.index t = ![t.val, 0] ∧ win0_8.index t = ![0, t.val])

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The six arguments on device `c`. -/
abbrev aX : AX := m ((c.tc : Thread nD τ).loc main_arg0)
abbrev aY : AX := m ((c.tc : Thread nD τ).loc main_arg1)
abbrev aV : AV := m ((c.tc : Thread nD τ).loc main_arg2)
abbrev aG : AV := m ((c.tc : Thread nD τ).loc main_arg3)
abbrev aS : AV := m ((c.tc : Thread nD τ).loc main_arg4)
abbrev aB : AV := m ((c.tc : Thread nD τ).loc main_arg5)

/-- The rows after the residual step. -/
abbrev xs : Fin 4096 → Fin 1024 → EReal := step (aX m c) (aY m c) (aV m c)

/-- Row `r` of the tile of point `t`. -/
def row (r : Fin 256) : Fin 4096 := ⟨t.val * 256 + r.val, by have := point_lt t; omega⟩

theorem b0 (r : Fin 256) (l : Fin 1024) : iblk m c 0 t (ix2 r l) = aX m c (ix2 (row t r) l) := by
  blk_ext [iblk, V, idx t, row]
theorem b1 (r : Fin 256) (l : Fin 1024) : iblk m c 1 t (ix2 r l) = aY m c (ix2 (row t r) l) := by
  blk_ext [iblk, V, idx t, row]
theorem b2 (r : Fin 1) (l : Fin 1024) : iblk m c 2 t (ix2 r l) = aV m c (ix2 0 l) := by
  blk_ext [iblk, V, idx t]
theorem b3 (r : Fin 1) (l : Fin 1024) : iblk m c 3 t (ix2 r l) = aG m c (ix2 0 l) := by
  blk_ext [iblk, V, idx t]
theorem b4 (r : Fin 1) (l : Fin 1024) : iblk m c 4 t (ix2 r l) = aS m c (ix2 0 l) := by
  blk_ext [iblk, V, idx t]
theorem b5 (r : Fin 1) (l : Fin 1024) : iblk m c 5 t (ix2 r l) = aB m c (ix2 0 l) := by
  blk_ext [iblk, V, idx t]

theorem p1 (r : Fin 256) (l : Fin 1024) :
    k0_pay1 (iblk m c 0 t) (iblk m c 2 t) (iblk m c 1 t) (ix2 r l) = xs m c (row t r) l := by
  pointwise [k0_pay1]
  rw [b0, b1, b2]
  rfl

theorem p2 (r : Fin 256) (l : Fin 1024) :
    k0_pay2 (iblk m c 0 t) (iblk m c 2 t) (iblk m c 1 t) (iblk m c 3 t) (iblk m c 4 t) (iblk m c 5 t) (ix2 r l)
      = md (xs m c) (aG m c) (aS m c) (aB m c) (row t r) l := by
  pointwise [k0_pay2]
  simp only [p1, b3, b4, b5, zero_add]
  rfl

theorem p3 (r : Fin 256) (l : Fin 1024) :
    k0_pay3 (iblk m c 0 t) (iblk m c 2 t) (iblk m c 1 t) (iblk m c 3 t) (iblk m c 4 t) (iblk m c 5 t) (ix2 l r)
      = md (xs m c) (aG m c) (aS m c) (aB m c) (row t r) l := by
  pointwise [k0_pay3]
  exact p2 m c t r l

theorem array6 : (dats m 0 c).arrAt 6 cfg0.N = stepped (aX m c) (aY m c) (aV m c) := by
  refine (dats m 0 c).arrAt_eq_of_covers 6 _ (by decide +kernel) fun t hf y => ?_
  blk_simp
  rw [after0_6]
  idx_vars y
  have e : out0_6 (iblk m c 0 t) (iblk m c 1 t) (iblk m c 2 t) (iblk m c 3 t) (iblk m c 4 t) (iblk m c 5 t) (ix2 y0 y1)
      = stepped (aX m c) (aY m c) (aV m c) (ix2 (row t y0) y1) := by
    unfold out0_6
    frame_out
    exact p1 m c t y0 y1
  refine e.trans (congrArg _ ?_)
  blk_ext [idx t, row]

theorem array7 : (dats m 0 c).arrAt 7 cfg0.N = rows (xs m c) (aG m c) (aS m c) (aB m c) := by
  refine (dats m 0 c).arrAt_eq_of_covers 7 _ (by decide +kernel) fun t hf y => ?_
  blk_simp
  rw [after0_7]
  idx_vars y
  have e : out0_7 (iblk m c 0 t) (iblk m c 1 t) (iblk m c 2 t) (iblk m c 3 t) (iblk m c 4 t) (iblk m c 5 t) (ix2 y0 y1)
      = rows (xs m c) (aG m c) (aS m c) (aB m c) (ix2 (row t y0) y1) := by
    unfold out0_7
    frame_out
    exact p2 m c t y0 y1
  refine e.trans (congrArg _ ?_)
  blk_ext [idx t, row]

theorem array8 : (dats m 0 c).arrAt 8 cfg0.N = cols (xs m c) (aG m c) (aS m c) (aB m c) := by
  refine (dats m 0 c).arrAt_eq_of_covers 8 _ (by decide +kernel) fun t hf y => ?_
  blk_simp
  rw [after0_8]
  idx_vars y
  have e : out0_8 (iblk m c 0 t) (iblk m c 1 t) (iblk m c 2 t) (iblk m c 3 t) (iblk m c 4 t) (iblk m c 5 t) (ix2 y0 y1)
      = cols (xs m c) (aG m c) (aS m c) (aB m c) (ix2 y0 (row t y1)) := by
    unfold out0_8
    frame_out
    exact p3 m c t y1 y0
  refine e.trans (congrArg _ ?_)
  blk_ext [idx t, row]

end Cert.ModResidIdeal.Hand

namespace Cert.ModResidRefIdeal.Hand

open Cert.ModResidRefIdeal Cert.ModResidRefIdeal.Read Idealize.ShloMosaic
open ModSpec Norm

variable (X Y : AX) (V G S B : AV)

theorem step_apply (r : Fin 4096) (l : Fin 1024) : val_main_v4 (F := Ideal) X Y V (ix2 r l) = step X Y V r l := by
  pointwise [val_main_cst, val_main_v0, val_main_v1, val_main_v2, val_main_v3, val_main_v4]
  rfl

theorem arg_apply (r : Fin 4096) (u : Fin 1) : val_main_v11 (F := Ideal) X Y V (ix2 r u) = arg (step X Y V r) := by
  pointwise [val_main_v5, val_main_cst_0, val_main_v6, val_main_v7, val_main_cst_1, val_main_v8, val_main_v9, val_main_cst_2,
    val_main_v10, val_main_v11]
  simp only [step_apply]
  rfl

theorem out_apply (r : Fin 4096) (l : Fin 1024) :
    val_main_v23 (F := Ideal) X Y V G S B (ix2 r l) = md (step X Y V) G S B r l := by
  pointwise [val_main_v12, val_main_v13, val_main_v14, val_main_v15, val_main_v16, val_main_cst_3, val_main_v17, val_main_v18,
    val_main_v19, val_main_v20, val_main_v21, val_main_v22, val_main_v23]
  rw [arg_apply, step_apply]
  rfl

theorem turned_apply (r : Fin 4096) (l : Fin 1024) :
    val_main_v24 (F := Ideal) X Y V G S B (ix2 l r) = md (step X Y V) G S B r l := by
  pointwise [val_main_v24]
  exact out_apply X Y V G S B r l

end Cert.ModResidRefIdeal.Hand

namespace Cert.ModResidClaim

open Idealize.ShloMosaic Idealize.ShloMosaic.TcCoe Idealize.SL.Sem
open ModSpec
open Cert.ModResidIdeal.Hand (aX aY aV aG aS aB xs)

theorem algebraic : Cert.algebraic_ModResidIdeal_ModResidRefIdeal := fun m g m' g' _ hargs => by
  refine ⟨fun c => stepped (aX m c) (aY m c) (aV m c), fun c => rows (xs m c) (aG m c) (aS m c) (aB m c),
    fun c => cols (xs m c) (aG m c) (aS m c) (aB m c), ?_, ?_⟩
  · exact (θ_run Cert.ModResidIdeal.defs _ _).mono (fun r h c =>
      ⟨(h c).1.trans (Cert.ModResidIdeal.Hand.array6 m c), (h c).2.1.trans (Cert.ModResidIdeal.Hand.array7 m c),
        (h c).2.2.1.trans (Cert.ModResidIdeal.Hand.array8 m c), (h c).2.2.2⟩)
      (Cert.ModResidIdeal.Value.run_blocks m g)
  · refine (θ_run Cert.ModResidRefIdeal.defs _ _).mono (fun r h c => ?_) (Cert.ModResidRefIdeal.Value.run m' g')
    obtain ⟨r0, r1, r2, kept⟩ := h c
    obtain ⟨a0, a1, a2, a3, a4, a5⟩ := hargs c
    refine ⟨r0.trans ?_, r1.trans ?_, r2.trans ?_, kept⟩
    · refine (Cert.ModResidRefIdeal.Read.val_main_v4_eq _ _ _).trans ?_
      rw [a0, a1, a2]
      refine funext fun j => ?_
      idx_vars j
      exact Cert.ModResidRefIdeal.Hand.step_apply _ _ _ _ _
    · refine (Cert.ModResidRefIdeal.Read.val_main_v23_eq _ _ _ _ _ _).trans ?_
      rw [a0, a1, a2, a3, a4, a5]
      refine funext fun j => ?_
      idx_vars j
      exact Cert.ModResidRefIdeal.Hand.out_apply _ _ _ _ _ _ _ _
    · refine (Cert.ModResidRefIdeal.Read.val_main_v24_eq _ _ _ _ _ _).trans ?_
      rw [a0, a1, a2, a3, a4, a5]
      refine funext fun j => ?_
      idx_vars j
      exact Cert.ModResidRefIdeal.Hand.turned_apply _ _ _ _ _ _ _ _

end Cert.ModResidClaim

end
-- ==== Proof.Products.lean ====
/- Products of two matrices, entry by entry over the extended reals: what the calls of plain products compute. -/
module

public import proofs.«01_k».proof.Proof.NormReal

@[expose] public section

noncomputable section

namespace Products

open Idealize.ShloMosaic

/-- A matrix of `n` rows and `k` columns. -/
abbrev Mat (n k : ℕ) := (⟨2, ![n, k]⟩ : Shape).Idx → EReal

variable {n k p : ℕ}

/-- The product, the product with the second matrix turned, and with the first one turned. -/
def mul (X : Mat n k) (Y : Mat k p) : Mat n p := fun i => ∑ j : Fin k, X (ix2 (i 0) j) * Y (ix2 j (i 1))
def mulT (X : Mat n k) (Y : Mat p k) : Mat n p := fun i => ∑ j : Fin k, X (ix2 (i 0) j) * Y (ix2 (i 1) j)
def tmul (X : Mat k n) (Y : Mat k p) : Mat n p := fun i => ∑ j : Fin k, X (ix2 j (i 0)) * Y (ix2 j (i 1))

end Products

end
-- ==== Proof.ProjOutClaim.lean ====
/- The value claim of the output projection: both programs leave the product of the activations and the weight. -/
module

public import proofs.«01_k».proof.Defs
public import proofs.«01_k».proof.Proof.Gen.ProjOutIdeal.Value
public import proofs.«01_k».proof.Proof.Gen.ProjOutRefIdeal.Run
public import proofs.«01_k».proof.Proof.Gen.ProjOutRefIdeal.Read
public import proofs.«01_k».proof.Proof.Products
public import Idealize.ShloMosaic.Lib.Pipeline.ValueKit
public import Idealize.ShloMosaic.Lib.Pipeline.ReadBack

@[expose] public section

set_option maxRecDepth 16384

noncomputable section

namespace Cert.ProjOutIdeal.Hand

open Cert.ProjOutIdeal Cert.ProjOutIdeal.Gen Idealize.ShloMosaic Idealize.ShloMosaic.TcCoe Idealize.SL.Sem
open Products

/-- Where each window's block sits at point `t`. -/
abbrev Idx (t : Fin grid0.N) : Prop := win0_0.index t = ![t.val, 0] ∧ win0_1.index t = ![0, 0] ∧ win0_2.index t = ![t.val, 0]

theorem idx (t : Fin cfg0.N) : Idx t := (by decide +kernel : ∀ t : Fin grid0.N, Idx t) t

theorem point_lt (t : Fin cfg0.N) : t.val < 8 := lt_of_lt_of_eq t.isLt Gen.N_0

variable (m : (ℓ : Loc nD τ sig) → Buf (Elt Ideal) ℓ) (c : Dev nD) (t : Fin cfg0.N)

/-- The two arguments on device `c`. -/
abbrev aX : Mat 4096 2048 := m ((c.tc : Thread nD τ).loc main_arg0)
abbrev aY : Mat 2048 1024 := m ((c.tc : Thread nD τ).loc main_arg1)

/-- Row `r` of the tile of point `t`. -/
def row (r : Fin 512) : Fin 4096 := ⟨t.val * 512 + r.val, by have := point_lt t; omega⟩

theorem b0 (r : Fin 512) (l : Fin 2048) : iblk m c 0 t (ix2 r l) = aX m c (ix2 (row t r) l) := by
  blk_ext [iblk, V, idx t, row]
theorem b1 (r : Fin 2048) (l : Fin 1024) : iblk m c 1 t (ix2 r l) = aY m c (ix2 r l) := by
  blk_ext [iblk, V, idx t]

/-- A tile of the result is the product of the tile of rows. -/
theorem tile (r : Fin 512) (l : Fin 1024) :
    k0_pay1 (iblk m c 0 t) (iblk m c 1 t) (ix2 r l) = mul (aX m c) (aY m c) (ix2 (row t r) l) := by
  pointwise [k0_pay1]
  simp only [b0, b1, zero_add]
  rfl

theorem array : (dats m 0 c).arrAt 2 cfg0.N = mul (aX m c) (aY m c) := by
  refine (dats m 0 c).arrAt_eq_of_covers 2 _ (by decide +kernel) fun t hf y => ?_
  blk_simp
  rw [after0_2]
  idx_vars y
  have e : out0_2 (iblk m c 0 t) (iblk m c 1 t) (ix2 y0 y1) = mul (aX m c) (aY m c) (ix2 (row t y0) y1) := by
    unfold out0_2
    frame_out
    exact tile m c t y0 y1
  refine e.trans (congrArg _ ?_)
  blk_ext [idx t, row]

end Cert.ProjOutIdeal.Hand

namespace Cert.ProjOutClaim

open Idealize.ShloMosaic Idealize.ShloMosaic.TcCoe Idealize.SL.Sem
open Products
open Cert.ProjOutIdeal.Hand (aX aY)
open Cert.ProjOutRefIdeal.Read

theorem ref_eq (X : Mat 4096 2048) (Y : Mat 2048 1024) : val_main_v0 (F := Ideal) X Y = mul X Y := by
  refine funext fun j => ?_
  idx_vars j
  pointwise [val_main_v0]
  rfl

theorem algebraic : Cert.algebraic_ProjOutIdeal_ProjOutRefIdeal := fun m g m' g' _ hargs => by
  refine ⟨fun c => mul (aX m c) (aY m c), ?_, ?_⟩
  · exact (θ_run Cert.ProjOutIdeal.defs _ _).mono (fun r h c =>
      ⟨(h c).1.trans (Cert.ProjOutIdeal.Hand.array m c), (h c).2⟩) (Cert.ProjOutIdeal.Value.run_blocks m g)
  · refine (θ_run Cert.ProjOutRefIdeal.defs _ _).mono (fun r h c => ?_) (Cert.ProjOutRefIdeal.Value.run m' g')
    obtain ⟨r0, kept⟩ := h c
    obtain ⟨a0, a1⟩ := hargs c
    refine ⟨r0.trans ?_, kept⟩
    refine (val_main_v0_eq _ _).trans ?_
    rw [a0, a1]
    exact ref_eq _ _

end Cert.ProjOutClaim

end
-- ==== Proof.ProjOutBwdClaim.lean ====
/- The value claim of the output projection's gradient call: both programs leave the product with the weight turned. -/
module

public import proofs.«01_k».proof.Defs
public import proofs.«01_k».proof.Proof.Gen.ProjOutBwdIdeal.Value
public import proofs.«01_k».proof.Proof.Gen.ProjOutBwdRefIdeal.Run
public import proofs.«01_k».proof.Proof.Gen.ProjOutBwdRefIdeal.Read
public import proofs.«01_k».proof.Proof.Products
public import Idealize.ShloMosaic.Lib.Pipeline.ValueKit
public import Idealize.ShloMosaic.Lib.Pipeline.ReadBack

@[expose] public section

set_option maxRecDepth 16384

noncomputable section

namespace Cert.ProjOutBwdIdeal.Hand

open Cert.ProjOutBwdIdeal Cert.ProjOutBwdIdeal.Gen Idealize.ShloMosaic Idealize.ShloMosaic.TcCoe Idealize.SL.Sem
open Products

/-- Where each window's block sits at point `t`. -/
abbrev Idx (t : Fin grid0.N) : Prop := win0_0.index t = ![t.val, 0] ∧ win0_1.index t = ![0, 0] ∧ win0_2.index t = ![t.val, 0]

theorem idx (t : Fin cfg0.N) : Idx t := (by decide +kernel : ∀ t : Fin grid0.N, Idx t) t

theorem point_lt (t : Fin cfg0.N) : t.val < 8 := lt_of_lt_of_eq t.isLt Gen.N_0

variable (m : (ℓ : Loc nD τ sig) → Buf (Elt Ideal) ℓ) (c : Dev nD) (t : Fin cfg0.N)

/-- The two arguments on device `c`. -/
abbrev aX : Mat 4096 1024 := m ((c.tc : Thread nD τ).loc main_arg0)
abbrev aY : Mat 2048 1024 := m ((c.tc : Thread nD τ).loc main_arg1)

/-- Row `r` of the tile of point `t`. -/
def row (r : Fin 512) : Fin 4096 := ⟨t.val * 512 + r.val, by have := point_lt t; omega⟩

theorem b0 (r : Fin 512) (l : Fin 1024) : iblk m c 0 t (ix2 r l) = aX m c (ix2 (row t r) l) := by
  blk_ext [iblk, V, idx t, row]
theorem b1 (r : Fin 2048) (l : Fin 1024) : iblk m c 1 t (ix2 r l) = aY m c (ix2 r l) := by
  blk_ext [iblk, V, idx t]

/-- A tile of the result is the product of the tile of rows. -/
theorem tile (r : Fin 512) (l : Fin 2048) :
    k0_pay1 (iblk m c 0 t) (iblk m c 1 t) (ix2 r l) = mulT (aX m c) (aY m c) (ix2 (row t r) l) := by
  pointwise [k0_pay1]
  simp only [b0, b1, zero_add]
  rfl

theorem array : (dats m 0 c).arrAt 2 cfg0.N = mulT (aX m c) (aY m c) := by
  refine (dats m 0 c).arrAt_eq_of_covers 2 _ (by decide +kernel) fun t hf y => ?_
  blk_simp
  rw [after0_2]
  idx_vars y
  have e : out0_2 (iblk m c 0 t) (iblk m c 1 t) (ix2 y0 y1) = mulT (aX m c) (aY m c) (ix2 (row t y0) y1) := by
    unfold out0_2
    frame_out
    exact tile m c t y0 y1
  refine e.trans (congrArg _ ?_)
  blk_ext [idx t, row]

end Cert.ProjOutBwdIdeal.Hand

namespace Cert.ProjOutBwdClaim

open Idealize.ShloMosaic Idealize.ShloMosaic.TcCoe Idealize.SL.Sem
open Products
open Cert.ProjOutBwdIdeal.Hand (aX aY)
open Cert.ProjOutBwdRefIdeal.Read

theorem ref_eq (X : Mat 4096 1024) (Y : Mat 2048 1024) : val_main_v1 (F := Ideal) X Y = mulT X Y := by
  refine funext fun j => ?_
  idx_vars j
  pointwise [val_main_v0, val_main_v1]
  rfl

theorem algebraic : Cert.algebraic_ProjOutBwdIdeal_ProjOutBwdRefIdeal := fun m g m' g' _ hargs => by
  refine ⟨fun c => mulT (aX m c) (aY m c), ?_, ?_⟩
  · exact (θ_run Cert.ProjOutBwdIdeal.defs _ _).mono (fun r h c =>
      ⟨(h c).1.trans (Cert.ProjOutBwdIdeal.Hand.array m c), (h c).2⟩) (Cert.ProjOutBwdIdeal.Value.run_blocks m g)
  · refine (θ_run Cert.ProjOutBwdRefIdeal.defs _ _).mono (fun r h c => ?_) (Cert.ProjOutBwdRefIdeal.Value.run m' g')
    obtain ⟨r0, kept⟩ := h c
    obtain ⟨a0, a1⟩ := hargs c
    refine ⟨r0.trans ?_, kept⟩
    refine (val_main_v1_eq _ _).trans ?_
    rw [a0, a1]
    exact ref_eq _ _

end Cert.ProjOutBwdClaim

end
-- ==== Proof.GradOutClaim.lean ====
/- The value claim of the output weight's gradient: both programs leave the turned activations times the cotangent. -/
module

public import proofs.«01_k».proof.Defs
public import proofs.«01_k».proof.Proof.Gen.GradOutIdeal.Value
public import proofs.«01_k».proof.Proof.Gen.GradOutRefIdeal.Run
public import proofs.«01_k».proof.Proof.Gen.GradOutRefIdeal.Read
public import proofs.«01_k».proof.Proof.Products
public import Idealize.ShloMosaic.Lib.Pipeline.ValueKit
public import Idealize.ShloMosaic.Lib.Pipeline.ReadBack

@[expose] public section

set_option maxRecDepth 16384

noncomputable section

namespace Cert.GradOutIdeal.Hand

open Cert.GradOutIdeal Cert.GradOutIdeal.Gen Idealize.ShloMosaic Idealize.ShloMosaic.TcCoe Idealize.SL.Sem
open Products

/-- Where each window's block sits at point `t`. -/
abbrev Idx (t : Fin grid0.N) : Prop := win0_0.index t = ![t.val, 0] ∧ win0_1.index t = ![0, 0] ∧ win0_2.index t = ![t.val, 0]

theorem idx (t : Fin cfg0.N) : Idx t := (by decide +kernel : ∀ t : Fin grid0.N, Idx t) t

theorem point_lt (t : Fin cfg0.N) : t.val < 4 := lt_of_lt_of_eq t.isLt Gen.N_0

variable (m : (ℓ : Loc nD τ sig) → Buf (Elt Ideal) ℓ) (c : Dev nD) (t : Fin cfg0.N)

/-- The two arguments on device `c`. -/
abbrev aX : Mat 4096 2048 := m ((c.tc : Thread nD τ).loc main_arg0)
abbrev aY : Mat 4096 1024 := m ((c.tc : Thread nD τ).loc main_arg1)

/-- Row `r` of the tile of point `t`. -/
def row (r : Fin 512) : Fin 2048 := ⟨t.val * 512 + r.val, by have := point_lt t; omega⟩

/-- The activations as the call finds them: turned. -/
theorem kept_v0 (n : Fin 2048) (l : Fin 4096) : V m c main_v0 (ix2 n l) = aX m c (ix2 l n) := by
  have h : V m c main_v0 = transpose S2048x4096 [1, 0] (aX m c) transposes_S4096x2048_S2048x4096_1_0 := by
    show StableHlo.after hostOps0 _ _ = _
    simp only [hostOps0, StableHlo.after_cons, StableHlo.after_nil]
    exact StableHlo.unary_result ..
  rw [h]
  pointwise

theorem b0 (r : Fin 512) (l : Fin 4096) : iblk m c 0 t (ix2 r l) = aX m c (ix2 l (row t r)) := by
  refine Eq.trans ?_ (kept_v0 m c (row t r) l)
  blk_ext [iblk, idx t, row]
theorem b1 (r : Fin 4096) (l : Fin 1024) : iblk m c 1 t (ix2 r l) = aY m c (ix2 r l) := by
  refine Eq.trans ?_ (congrFun (V_main_arg1 m c) _)
  blk_ext [iblk, idx t]

/-- A tile of the result is the product of the tile of rows. -/
theorem tile (r : Fin 512) (l : Fin 1024) :
    k0_pay1 (iblk m c 0 t) (iblk m c 1 t) (ix2 r l) = tmul (aX m c) (aY m c) (ix2 (row t r) l) := by
  pointwise [k0_pay1]
  simp only [b0, b1, zero_add]
  rfl

theorem array : (dats m 0 c).arrAt 2 cfg0.N = tmul (aX m c) (aY m c) := by
  refine (dats m 0 c).arrAt_eq_of_covers 2 _ (by decide +kernel) fun t hf y => ?_
  blk_simp
  rw [after0_2]
  idx_vars y
  have e : out0_2 (iblk m c 0 t) (iblk m c 1 t) (ix2 y0 y1) = tmul (aX m c) (aY m c) (ix2 (row t y0) y1) := by
    unfold out0_2
    frame_out
    exact tile m c t y0 y1
  refine e.trans (congrArg _ ?_)
  blk_ext [idx t, row]

end Cert.GradOutIdeal.Hand

namespace Cert.GradOutClaim

open Idealize.ShloMosaic Idealize.ShloMosaic.TcCoe Idealize.SL.Sem
open Products
open Cert.GradOutIdeal.Hand (aX aY)
open Cert.GradOutRefIdeal.Read

theorem ref_eq (X : Mat 4096 2048) (Y : Mat 4096 1024) : val_main_v2 (F := Ideal) X Y = tmul X Y := by
  refine funext fun j => ?_
  idx_vars j
  pointwise [val_main_v0, val_main_v1, val_main_v2]
  rfl

theorem algebraic : Cert.algebraic_GradOutIdeal_GradOutRefIdeal := fun m g m' g' _ hargs => by
  refine ⟨fun c => tmul (aX m c) (aY m c), ?_, ?_⟩
  · exact (θ_run Cert.GradOutIdeal.defs _ _).mono (fun r h c =>
      ⟨(h c).1.trans (Cert.GradOutIdeal.Hand.array m c), (h c).2⟩) (Cert.GradOutIdeal.Value.run_blocks m g)
  · refine (θ_run Cert.GradOutRefIdeal.defs _ _).mono (fun r h c => ?_) (Cert.GradOutRefIdeal.Value.run m' g')
    obtain ⟨r0, kept⟩ := h c
    obtain ⟨a0, a1⟩ := hargs c
    refine ⟨r0.trans ?_, kept⟩
    refine (val_main_v2_eq _ _).trans ?_
    rw [a0, a1]
    exact ref_eq _ _

end Cert.GradOutClaim

end
-- ==== Proof.ProjInClaim.lean ====
/- The value claim of the input projection: both programs leave the product of the rows and the weight. -/
module

public import proofs.«01_k».proof.Defs
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.Products
public import Idealize.ShloMosaic.Lib.Pipeline.ValueKit
public import Idealize.ShloMosaic.Lib.Pipeline.ReadBack

@[expose] public section

set_option maxRecDepth 16384

noncomputable section

namespace Cert.ProjInIdeal.Hand

open Cert.ProjInIdeal Cert.ProjInIdeal.Gen Idealize.ShloMosaic Idealize.ShloMosaic.TcCoe Idealize.SL.Sem
open Products

/-- Where each window's block sits at point `t`. -/
abbrev Idx (t : Fin grid0.N) : Prop := win0_0.index t = ![t.val, 0] ∧ win0_1.index t = ![0, 0, 0] ∧ win0_2.index t = ![t.val, 0]

theorem idx (t : Fin cfg0.N) : Idx t := (by decide +kernel : ∀ t : Fin grid0.N, Idx t) t

theorem point_lt (t : Fin cfg0.N) : t.val < 16 := lt_of_lt_of_eq t.isLt Gen.N_0

variable (m : (ℓ : Loc nD τ sig) → Buf (Elt Ideal) ℓ) (c : Dev nD) (t : Fin cfg0.N)

/-- The rows and the weight on device `c`. -/
abbrev aX : Mat 4096 1024 := m ((c.tc : Thread nD τ).loc main_arg0)
abbrev aY : Mat 1024 8192 := m ((c.tc : Thread nD τ).loc main_arg1)

/-- Row `r` of the tile of point `t`, and column `l` of the weight's part `d`. -/
def row (r : Fin 256) : Fin 4096 := ⟨t.val * 256 + r.val, by have := point_lt t; omega⟩
def col (d : Fin 8) (l : Fin 1024) : Fin 8192 := ⟨d.val * 1024 + l.val, by omega⟩

theorem colOf (d : Fin 8) (l : Fin 1024) (y : Fin 8192) (h : y.val = d.val * 1024 + l.val) : y = col d l := Fin.ext h

/-- The weight as the call finds it: cut into eight parts of columns. -/
theorem kept_v1 (d : Fin 8) (k l : Fin 1024) : V m c main_v1 (ix3 d k l) = aY m c (ix2 k (col d l)) := by
  have h : V m c main_v1 = transpose S8x1024x1024 [1, 0, 2] (shapeCast S1024x8x1024 (aY m c) shapeCasts_S1024x8192_S1024x8x1024)
      transposes_S1024x8x1024_S8x1024x1024_1_0_2 := by
    show StableHlo.after hostOps0 _ _ = _
    after_results
    rfl
  rw [h]
  pointwise
  refine congrArg _ (funext fun a => Fin.ext ?_)
  match a with
  | ⟨0, _⟩ => first | rfl | (show _ = k.val; omega)
  | ⟨1, _⟩ => first | rfl | (show _ = d.val * 1024 + l.val; omega)

theorem b0 (r : Fin 256) (l : Fin 1024) : iblk m c 0 t (ix2 r l) = aX m c (ix2 (row t r) l) := by
  refine Eq.trans ?_ (congrFun (V_main_arg0 m c) _)
  blk_ext [iblk, idx t, row]
theorem b1 (d : Fin 8) (k l : Fin 1024) : iblk m c 1 t (ix3 d k l) = aY m c (ix2 k (col d l)) := by
  refine Eq.trans ?_ (kept_v1 m c d k l)
  blk_ext [iblk, idx t]

theorem array : (dats m 0 c).arrAt 2 cfg0.N = mul (aX m c) (aY m c) := by
  refine (dats m 0 c).arrAt_eq_of_covers 2 _ (by decide +kernel) fun t hf y => ?_
  blk_simp
  rw [after0_2]
  idx_vars y
  have e : out0_2 (iblk m c 0 t) (iblk m c 1 t) (ix2 y0 y1) = mul (aX m c) (aY m c) (ix2 (row t y0) y1) := by
    unfold out0_2
    frame_out
    canon_tiles x h
    all_goals idx_vars x
    · rw [Fin.ext h0, colOf 7 x1 y1 h1]
      pointwise [k0_pay3]
      simp only [b0, b1, zero_add]
      rfl
    · rw [Fin.ext h0, colOf 6 x1 y1 h1]
      pointwise [k0_pay2]
      simp only [b0, b1, zero_add]
      rfl
    · rw [Fin.ext h0, colOf 5 x1 y1 h1]
      pointwise [k0_pay1]
      simp only [b0, b1, zero_add]
      rfl
    · rw [Fin.ext h0, colOf 4 x1 y1 h1]
      pointwise [k0_pay8]
      simp only [b0, b1, zero_add]
      rfl
    · rw [Fin.ext h0, colOf 3 x1 y1 h1]
      pointwise [k0_pay7]
      simp only [b0, b1, zero_add]
      rfl
    · rw [Fin.ext h0, colOf 2 x1 y1 h1]
      pointwise [k0_pay6]
      simp only [b0, b1, zero_add]
      rfl
    · rw [Fin.ext h0, colOf 1 x1 y1 h1]
      pointwise [k0_pay5]
      simp only [b0, b1, zero_add]
      rfl
    · rw [Fin.ext h0, colOf 0 x1 y1 (by rw [h1]; show _ = 0 * 1024 + x1.val; omega)]
      pointwise [k0_pay4]
      simp only [b0, b1, zero_add]
      rfl
  refine e.trans (congrArg _ ?_)
  blk_ext [idx t, row]

end Cert.ProjInIdeal.Hand

namespace Cert.ProjInClaim

open Idealize.ShloMosaic Idealize.ShloMosaic.TcCoe Idealize.SL.Sem
open Products
open Cert.ProjInIdeal.Hand (aX aY)
open Cert.ProjInRefIdeal.Read

theorem ref_eq (X : Mat 4096 1024) (Y : Mat 1024 8192) : val_main_v1 (F := Ideal) X Y = mul X Y := by
  refine funext fun j => ?_
  idx_vars j
  pointwise [val_main_v0, val_main_v1]
  rfl

theorem algebraic : Cert.algebraic_ProjInIdeal_ProjInRefIdeal := fun m g m' g' _ hargs => by
  refine ⟨fun c => mul (aX m c) (aY m c), ?_, ?_⟩
  · exact (θ_run Cert.ProjInIdeal.defs _ _).mono (fun r h c =>
      ⟨(h c).1.trans (Cert.ProjInIdeal.Hand.array m c), (h c).2⟩) (Cert.ProjInIdeal.Value.run_blocks m g)
  · refine (θ_run Cert.ProjInRefIdeal.defs _ _).mono (fun r h c => ?_) (Cert.ProjInRefIdeal.Value.run m' g')
    obtain ⟨r0, kept⟩ := h c
    obtain ⟨a0, a1⟩ := hargs c
    refine ⟨r0.trans ?_, kept⟩
    refine (val_main_v1_eq _ _).trans ?_
    rw [a0, a1]
    exact ref_eq _ _

end Cert.ProjInClaim

end
-- ==== Proof.GradInClaim.lean ====
/- The value claim of the input weight's gradient: both programs leave the turned rows times the cotangent, cut into eight parts of columns. -/
module

public import proofs.«01_k».proof.Defs
public import proofs.«01_k».proof.Proof.Gen.GradInIdeal.Value
public import proofs.«01_k».proof.Proof.Gen.GradInRefIdeal.Run
public import proofs.«01_k».proof.Proof.Gen.GradInRefIdeal.Read
public import proofs.«01_k».proof.Proof.Products
public import Idealize.ShloMosaic.Lib.Pipeline.ValueKit
public import Idealize.ShloMosaic.Lib.Pipeline.ReadBack

@[expose] public section

set_option maxRecDepth 16384

noncomputable section

namespace GradInSpec

open Idealize.ShloMosaic Products

/-- Column `l` of part `d`, and the turned rows times the cotangent, cut into eight parts of columns. -/
def col (d : Fin 8) (l : Fin 1024) : Fin 8192 := ⟨d.val * 1024 + l.val, by omega⟩
def cut (X : Mat 4096 1024) (Y : Mat 4096 8192) : (⟨3, ![8, 1024, 1024]⟩ : Shape).Idx → EReal := fun i => tmul X Y (ix2 (i 1) (col (i 0) (i 2)))

end GradInSpec

namespace Cert.GradInIdeal.Hand

open Cert.GradInIdeal Cert.GradInIdeal.Gen Idealize.ShloMosaic Idealize.ShloMosaic.TcCoe Idealize.SL.Sem
open Products GradInSpec

/-- Where each window's block sits at point `t`. -/
abbrev Idx (t : Fin grid0.N) : Prop := win0_0.index t = ![0, 0] ∧ win0_1.index t = ![0, t.val] ∧ win0_2.index t = ![t.val, 0, 0]

theorem idx (t : Fin cfg0.N) : Idx t := (by decide +kernel : ∀ t : Fin grid0.N, Idx t) t

theorem point_lt (t : Fin cfg0.N) : t.val < 8 := lt_of_lt_of_eq t.isLt Gen.N_0

variable (m : (ℓ : Loc nD τ sig) → Buf (Elt Ideal) ℓ) (c : Dev nD) (t : Fin cfg0.N)

/-- The rows and the cotangent on device `c`. -/
abbrev aX : Mat 4096 1024 := m ((c.tc : Thread nD τ).loc main_arg0)
abbrev aY : Mat 4096 8192 := m ((c.tc : Thread nD τ).loc main_arg1)

/-- The part of point `t`. -/
def part : Fin 8 := ⟨t.val, point_lt t⟩

/-- The rows as the call finds them: turned. -/
theorem kept_v0 (n : Fin 1024) (l : Fin 4096) : V m c main_v0 (ix2 n l) = aX m c (ix2 l n) := by
  have h : V m c main_v0 = transpose S1024x4096 [1, 0] (aX m c) transposes_S4096x1024_S1024x4096_1_0 := by
    show StableHlo.after hostOps0 _ _ = _
    simp only [hostOps0, StableHlo.after_cons, StableHlo.after_nil]
    exact StableHlo.unary_result ..
  rw [h]
  pointwise

theorem b0 (r : Fin 1024) (l : Fin 4096) : iblk m c 0 t (ix2 r l) = aX m c (ix2 l r) := by
  refine Eq.trans ?_ (kept_v0 m c r l)
  blk_ext [iblk, idx t]
theorem b1 (r : Fin 4096) (l : Fin 1024) : iblk m c 1 t (ix2 r l) = aY m c (ix2 r (col (part t) l)) := by
  refine Eq.trans ?_ (congrFun (V_main_arg1 m c) _)
  blk_ext [iblk, idx t, col, part]

theorem block (u : Fin 1) (r l : Fin 1024) :
    k0_pay1 (iblk m c 0 t) (iblk m c 1 t) (ix3 u r l) = cut (aX m c) (aY m c) (ix3 (part t) r l) := by
  pointwise [k0_pay1]
  simp only [b0, b1, zero_add]
  rfl

theorem array : (dats m 0 c).arrAt 2 cfg0.N = cut (aX m c) (aY m c) := by
  refine (dats m 0 c).arrAt_eq_of_covers 2 _ (by decide +kernel) fun t hf y => ?_
  blk_simp
  rw [after0_2]
  idx_vars y
  have e : outsAt0 m c t (ix3 y0 y1 y2) = cut (aX m c) (aY m c) (ix3 (part t) y1 y2) := by
    unfold outsAt0 out0_A_2
    frame_out
    exact block m c t y0 y1 y2
  refine e.trans (congrArg _ ?_)
  blk_ext [idx t, part]

end Cert.GradInIdeal.Hand

namespace Cert.GradInClaim

open Idealize.ShloMosaic Idealize.ShloMosaic.TcCoe Idealize.SL.Sem
open Products GradInSpec
open Cert.GradInIdeal.Hand (aX aY)
open Cert.GradInRefIdeal.Read

theorem ref_eq (X : Mat 4096 1024) (Y : Mat 4096 8192) : val_main_v4 (F := Ideal) X Y = cut X Y := by
  refine funext fun j => ?_
  idx_vars j
  pointwise [val_main_v0, val_main_v1, val_main_v2, val_main_v3, val_main_v4]
  rfl

theorem algebraic : Cert.algebraic_GradInIdeal_GradInRefIdeal := fun m g m' g' _ hargs => by
  refine ⟨fun c => cut (aX m c) (aY m c), ?_, ?_⟩
  · exact (θ_run Cert.GradInIdeal.defs _ _).mono (fun r h c =>
      ⟨(h c).1.trans (Cert.GradInIdeal.Hand.array m c), (h c).2⟩) (Cert.GradInIdeal.Value.run_blocks m g)
  · refine (θ_run Cert.GradInRefIdeal.defs _ _).mono (fun r h c => ?_) (Cert.GradInRefIdeal.Value.run m' g')
    obtain ⟨r0, kept⟩ := h c
    obtain ⟨a0, a1⟩ := hargs c
    refine ⟨r0.trans ?_, kept⟩
    refine (val_main_v4_eq _ _).trans ?_
    rw [a0, a1]
    exact ref_eq _ _

end Cert.GradInClaim

end
-- ==== Proof.Adam.lean ====
/- The optimiser's step for one weight, over the extended reals: the two averages after it and the weight's change. -/
module

public import proofs.«01_k».proof.Proof.Products

@[expose] public section

noncomputable section

namespace Adam

open Idealize.ShloMosaic

/-- A constant by its word. -/
abbrev wd (b : BitVec 32) : EReal := Ideal.ofBits FTy.f32 b

/-- The averages of the gradient and of its square, after a step with gradient `g`. -/
def avg (g m : EReal) : EReal := wd 0x3F666666#32 * m + wd 0x3DCCCCCD#32 * g
def avsq (g v : EReal) : EReal := wd 0x3F7FBE77#32 * v + wd 0x3A83126F#32 * (g * g)

/-- The weight's change. -/
def change (w g m v : EReal) : EReal := wd 0xBA83126F#32 *
  (Ideal.div (Ideal.div (avg g m) (wd 0x3F26BD02#32))
    (Ideal.sqrt (Ideal.div (avsq g v) (wd 0x3C231ACC#32)) + wd 0x322BCC77#32) + wd 0x3C23D70A#32 * w)

/-- The same for a whole array. -/
def avgs {s : Shape} (G M : s.Idx → EReal) : s.Idx → EReal := fun i => avg (G i) (M i)
def avsqs {s : Shape} (G V : s.Idx → EReal) : s.Idx → EReal := fun i => avsq (G i) (V i)
def changes {s : Shape} (W G M V : s.Idx → EReal) : s.Idx → EReal := fun i => change (W i) (G i) (M i) (V i)

end Adam

end
-- ==== Proof.SumAdamClaim.lean ====
/- The value claim of the optimiser's step on a sum of eight parts: both programs leave the sum, the weight's change and the two averages. -/
module

public import proofs.«01_k».proof.Defs
public import proofs.«01_k».proof.Proof.Gen.SumAdamIdeal.Value
public import proofs.«01_k».proof.Proof.Gen.SumAdamRefIdeal.Run
public import proofs.«01_k».proof.Proof.Gen.SumAdamRefIdeal.Read
public import proofs.«01_k».proof.Proof.Adam
public import Idealize.ShloMosaic.Lib.Pipeline.ValueKit
public import Idealize.ShloMosaic.Lib.Pipeline.ReadBack

@[expose] public section

set_option maxRecDepth 16384

noncomputable section

namespace SumSpec

open Idealize.ShloMosaic Products Adam

/-- Eight matrices. -/
abbrev Parts := (⟨3, ![8, 1024, 1024]⟩ : Shape).Idx → EReal

/-- Their sum. -/
def total (P : Parts) : Mat 1024 1024 := fun i => ∑ k : Fin 8, P (ix3 k (i 0) (i 1))

end SumSpec

namespace Cert.SumAdamIdeal.Hand

open Cert.SumAdamIdeal Cert.SumAdamIdeal.Gen Idealize.ShloMosaic Idealize.ShloMosaic.TcCoe Idealize.SL.Sem
open Products Adam SumSpec

/-- Where each window's block sits at point `t`. -/
abbrev Idx (t : Fin grid0.N) : Prop := win0_0.index t = ![0, t.val, 0] ∧ win0_1.index t = ![t.val, 0] ∧ win0_2.index t = ![t.val, 0] ∧
  win0_3.index t = ![t.val, 0] ∧ win0_4.index t = ![t.val, 0] ∧ win0_5.index t = ![t.val, 0] ∧ win0_6.index t = ![t.val, 0] ∧ win0_7.index t = ![t.val, 0]

theorem idx (t : Fin cfg0.N) : Idx t := (by decide +kernel : ∀ t : Fin grid0.N, Idx t) t

theorem point_lt (t : Fin cfg0.N) : t.val < 4 := lt_of_lt_of_eq t.isLt Gen.N_0

variable (m : (ℓ : Loc nD τ sig) → Buf (Elt Ideal) ℓ) (c : Dev nD) (t : Fin cfg0.N)

/-- The parts, the weight and its averages on device `c`. -/
abbrev aP : Parts := m ((c.tc : Thread nD τ).loc main_arg0)
abbrev aW : Mat 1024 1024 := m ((c.tc : Thread nD τ).loc main_arg1)
abbrev aM : Mat 1024 1024 := m ((c.tc : Thread nD τ).loc main_arg2)
abbrev aV : Mat 1024 1024 := m ((c.tc : Thread nD τ).loc main_arg3)

/-- Row `r` of the tile of point `t`. -/
def row (r : Fin 256) : Fin 1024 := ⟨t.val * 256 + r.val, by have := point_lt t; omega⟩

theorem b0 (k : Fin 8) (r : Fin 256) (l : Fin 1024) : iblk m c 0 t (ix3 k r l) = aP m c (ix3 k (row t r) l) := by
  blk_ext [iblk, V, idx t, row]
theorem b1 (r : Fin 256) (l : Fin 1024) : iblk m c 1 t (ix2 r l) = aW m c (ix2 (row t r) l) := by
  blk_ext [iblk, V, idx t, row]
theorem b2 (r : Fin 256) (l : Fin 1024) : iblk m c 2 t (ix2 r l) = aM m c (ix2 (row t r) l) := by
  blk_ext [iblk, V, idx t, row]
theorem b3 (r : Fin 256) (l : Fin 1024) : iblk m c 3 t (ix2 r l) = aV m c (ix2 (row t r) l) := by
  blk_ext [iblk, V, idx t, row]

/-- The sum of the parts in the tile. -/
theorem sum_eq (r : Fin 256) (l : Fin 1024) : k0_pay5 (iblk m c 0 t) (iblk m c 1 t) (iblk m c 2 t) (iblk m c 3 t) (ix2 r l) = total (aP m c) (ix2 (row t r) l) := by
  unfold k0_pay5
  pointwise [k0_pay4]
  simp only [b0]
  exact (Fin.sum_univ_eight fun k : Fin 8 => aP m c (ix3 k (row t r) l)).symm

theorem g4 (r : Fin 256) (l : Fin 1024) : k0_pay5 (iblk m c 0 t) (iblk m c 1 t) (iblk m c 2 t) (iblk m c 3 t) (ix2 r l) = total (aP m c) (ix2 (row t r) l) := sum_eq m c t r l

theorem g6 (r : Fin 256) (l : Fin 1024) : k0_pay1 (k0_pay5 (iblk m c 0 t) (iblk m c 1 t) (iblk m c 2 t) (iblk m c 3 t)) (iblk m c 2 t) (ix2 r l)
    = avgs (total (aP m c)) (aM m c) (ix2 (row t r) l) := by
  pointwise [k0_pay1]
  rw [sum_eq, b2]
  rfl

theorem g7 (r : Fin 256) (l : Fin 1024) : k0_pay2 (k0_pay5 (iblk m c 0 t) (iblk m c 1 t) (iblk m c 2 t) (iblk m c 3 t)) (iblk m c 3 t) (ix2 r l)
    = avsqs (total (aP m c)) (aV m c) (ix2 (row t r) l) := by
  pointwise [k0_pay2]
  rw [sum_eq, b3]
  rfl

theorem g5 (r : Fin 256) (l : Fin 1024) : k0_pay3 (k0_pay5 (iblk m c 0 t) (iblk m c 1 t) (iblk m c 2 t) (iblk m c 3 t)) (iblk m c 1 t) (iblk m c 2 t) (iblk m c 3 t) (ix2 r l)
    = changes (aW m c) (total (aP m c)) (aM m c) (aV m c) (ix2 (row t r) l) := by
  pointwise [k0_pay3]
  rw [g6, g7, b1]
  rfl

theorem array4 : (dats m 0 c).arrAt 4 cfg0.N = total (aP m c) := by
  refine (dats m 0 c).arrAt_eq_of_covers 4 _ (by decide +kernel) fun t hf y => ?_
  blk_simp
  rw [after0_4]
  idx_vars y
  have e : out0_4 (iblk m c 0 t) (iblk m c 1 t) (iblk m c 2 t) (iblk m c 3 t) (ix2 y0 y1)
      = (total (aP m c)) (ix2 (row t y0) y1) := by
    unfold out0_4
    frame_out
    exact g4 m c t y0 y1
  refine e.trans (congrArg _ ?_)
  blk_ext [idx t, row]

theorem array5 : (dats m 0 c).arrAt 5 cfg0.N = changes (aW m c) (total (aP m c)) (aM m c) (aV m c) := by
  refine (dats m 0 c).arrAt_eq_of_covers 5 _ (by decide +kernel) fun t hf y => ?_
  blk_simp
  rw [after0_5]
  idx_vars y
  have e : out0_5 (iblk m c 0 t) (iblk m c 1 t) (iblk m c 2 t) (iblk m c 3 t) (ix2 y0 y1)
      = (changes (aW m c) (total (aP m c)) (aM m c) (aV m c)) (ix2 (row t y0) y1) := by
    unfold out0_5
    frame_out
    exact g5 m c t y0 y1
  refine e.trans (congrArg _ ?_)
  blk_ext [idx t, row]

theorem array6 : (dats m 0 c).arrAt 6 cfg0.N = avgs (total (aP m c)) (aM m c) := by
  refine (dats m 0 c).arrAt_eq_of_covers 6 _ (by decide +kernel) fun t hf y => ?_
  blk_simp
  rw [after0_6]
  idx_vars y
  have e : out0_6 (iblk m c 0 t) (iblk m c 1 t) (iblk m c 2 t) (iblk m c 3 t) (ix2 y0 y1)
      = (avgs (total (aP m c)) (aM m c)) (ix2 (row t y0) y1) := by
    unfold out0_6
    frame_out
    exact g6 m c t y0 y1
  refine e.trans (congrArg _ ?_)
  blk_ext [idx t, row]

theorem array7 : (dats m 0 c).arrAt 7 cfg0.N = avsqs (total (aP m c)) (aV m c) := by
  refine (dats m 0 c).arrAt_eq_of_covers 7 _ (by decide +kernel) fun t hf y => ?_
  blk_simp
  rw [after0_7]
  idx_vars y
  have e : out0_7 (iblk m c 0 t) (iblk m c 1 t) (iblk m c 2 t) (iblk m c 3 t) (ix2 y0 y1)
      = (avsqs (total (aP m c)) (aV m c)) (ix2 (row t y0) y1) := by
    unfold out0_7
    frame_out
    exact g7 m c t y0 y1
  refine e.trans (congrArg _ ?_)
  blk_ext [idx t, row]

end Cert.SumAdamIdeal.Hand

namespace Cert.SumAdamRefIdeal.Hand

open Cert.SumAdamRefIdeal Cert.SumAdamRefIdeal.Read Idealize.ShloMosaic
open Products Adam SumSpec

variable (P : Parts) (W M V : Mat 1024 1024)

theorem total_eq : val_main_v1 (F := Ideal) P = total P := by
  refine funext fun j => ?_
  idx_vars j
  pointwise [val_main_v0, val_main_cst, val_main_v1]
  rfl

theorem avgs_eq : val_main_v6 (F := Ideal) P M = avgs (total P) M := by
  refine funext fun j => ?_
  idx_vars j
  pointwise [val_main_cst_0, val_main_v2, val_main_v3, val_main_cst_1, val_main_v4, val_main_v5, val_main_v6]
  rw [total_eq]
  rfl

theorem avsqs_eq : val_main_v12 (F := Ideal) P V = avsqs (total P) V := by
  refine funext fun j => ?_
  idx_vars j
  pointwise [val_main_cst_2, val_main_v7, val_main_v8, val_main_v9, val_main_cst_3, val_main_v10, val_main_v11, val_main_v12]
  rw [total_eq]
  rfl

theorem changes_eq : val_main_v25 (F := Ideal) P W M V = changes W (total P) M V := by
  refine funext fun j => ?_
  idx_vars j
  pointwise [val_main_cst_4, val_main_v13, val_main_v14, val_main_cst_5, val_main_v15, val_main_v16, val_main_v17, val_main_cst_6,
    val_main_v18, val_main_v19, val_main_v20, val_main_cst_7, val_main_v21, val_main_v22, val_main_v23, val_main_cst_8,
    val_main_v24, val_main_v25]
  rw [avgs_eq, avsqs_eq]
  rfl

end Cert.SumAdamRefIdeal.Hand

namespace Cert.SumAdamClaim

open Idealize.ShloMosaic Idealize.ShloMosaic.TcCoe Idealize.SL.Sem
open Adam SumSpec Cert.SumAdamRefIdeal.Read
open Cert.SumAdamIdeal.Hand (aP aW aM aV)

theorem algebraic : Cert.algebraic_SumAdamIdeal_SumAdamRefIdeal := fun m g m' g' _ hargs => by
  refine ⟨fun c => total (aP m c), fun c => changes (aW m c) (total (aP m c)) (aM m c) (aV m c),
    fun c => avgs (total (aP m c)) (aM m c), fun c => avsqs (total (aP m c)) (aV m c), ?_, ?_⟩
  · exact (θ_run Cert.SumAdamIdeal.defs _ _).mono (fun r h c =>
      ⟨(h c).1.trans (Cert.SumAdamIdeal.Hand.array4 m c), (h c).2.1.trans (Cert.SumAdamIdeal.Hand.array5 m c),
        (h c).2.2.1.trans (Cert.SumAdamIdeal.Hand.array6 m c), (h c).2.2.2.1.trans (Cert.SumAdamIdeal.Hand.array7 m c), (h c).2.2.2.2⟩)
      (Cert.SumAdamIdeal.Value.run_blocks m g)
  · refine (θ_run Cert.SumAdamRefIdeal.defs _ _).mono (fun r h c => ?_) (Cert.SumAdamRefIdeal.Value.run m' g')
    obtain ⟨r0, r1, r2, r3, kept⟩ := h c
    obtain ⟨a0, a1, a2, a3⟩ := hargs c
    refine ⟨r0.trans ?_, r1.trans ?_, r2.trans ?_, r3.trans ?_, kept⟩
    · refine (val_main_v1_eq _).trans ?_
      rw [a0]
      exact Cert.SumAdamRefIdeal.Hand.total_eq _
    · refine (val_main_v25_eq _ _ _ _).trans ?_
      rw [a0, a1, a2, a3]
      exact Cert.SumAdamRefIdeal.Hand.changes_eq _ _ _ _
    · refine (val_main_v6_eq _ _).trans ?_
      rw [a0, a2]
      exact Cert.SumAdamRefIdeal.Hand.avgs_eq _ _
    · refine (val_main_v12_eq _ _).trans ?_
      rw [a0, a3]
      exact Cert.SumAdamRefIdeal.Hand.avsqs_eq _ _

end Cert.SumAdamClaim

end
-- ==== Proof.AdaAdamClaim.lean ====
/- The value claim of the optimiser's step on the modulation weight: both programs leave the gradient, the weight's change and the two averages. -/
module

public import proofs.«01_k».proof.Defs
public import proofs.«01_k».proof.Proof.Gen.AdaAdamIdeal.Frame
public import proofs.«01_k».proof.Proof.Gen.AdaAdamRefIdeal.Run
public import proofs.«01_k».proof.Proof.Gen.AdaAdamRefIdeal.Read
public import proofs.«01_k».proof.Proof.Adam
public import Idealize.ShloMosaic.Lib.Pipeline.ValueKit
public import Idealize.ShloMosaic.Lib.Pipeline.ReadBack

@[expose] public section

set_option maxRecDepth 16384

noncomputable section

namespace AdaSpec

open Idealize.ShloMosaic Products Adam

/-- The rows of both layers' cotangents, and an array of the weight's shape. -/
abbrev Rows := (⟨3, ![2, 8, 384]⟩ : Shape).Idx → EReal
abbrev Wgt := (⟨3, ![2, 1024, 384]⟩ : Shape).Idx → EReal

/-- The weight's gradient: the sum over the eight rows. -/
def grad (C : Mat 8 1024) (D : Rows) : Wgt := fun i => ∑ b : Fin 8, C (ix2 b (i 1)) * D (ix3 (i 0) b (i 2))

end AdaSpec

namespace Cert.AdaAdamIdeal.Hand

open Cert.AdaAdamIdeal Cert.AdaAdamIdeal.Gen Idealize.ShloMosaic Idealize.ShloMosaic.TcCoe Idealize.SL.Sem
open Products Adam AdaSpec

/-- Where each window's block sits at point `t`. -/
abbrev Idx (t : Fin grid0.N) : Prop := win0_0.index t = ![0, 0] ∧ win0_1.index t = ![t.val, 0, 0] ∧ win0_2.index t = ![t.val, 0, 0] ∧
  win0_3.index t = ![t.val, 0, 0] ∧ win0_4.index t = ![t.val, 0, 0] ∧ win0_5.index t = ![t.val, 0, 0] ∧
  win0_6.index t = ![t.val, 0, 0] ∧ win0_7.index t = ![t.val, 0, 0] ∧ win0_8.index t = ![t.val, 0, 0]

theorem idx (t : Fin cfg0.N) : Idx t := (by decide +kernel : ∀ t : Fin grid0.N, Idx t) t

theorem point_lt (t : Fin cfg0.N) : t.val < 2 := lt_of_lt_of_eq t.isLt Gen.N_0

variable (m : (ℓ : Loc nD τ sig) → Buf (Elt Ideal) ℓ) (c : Dev nD) (t : Fin cfg0.N)

/-- The conditioning rows, the cotangents, the weight and its averages on device `c`. -/
abbrev aC : Mat 8 1024 := m ((c.tc : Thread nD τ).loc main_arg0)
abbrev aD : Rows := m ((c.tc : Thread nD τ).loc main_arg1)
abbrev aW : Wgt := m ((c.tc : Thread nD τ).loc main_arg2)
abbrev aM : Wgt := m ((c.tc : Thread nD τ).loc main_arg3)
abbrev aV : Wgt := m ((c.tc : Thread nD τ).loc main_arg4)

/-- The layer of point `t`. -/
def layer : Fin 2 := ⟨t.val, point_lt t⟩

/-- The conditioning rows as the call finds them: turned. -/
theorem kept_v0 (n : Fin 1024) (b : Fin 8) : V m c main_v0 (ix2 n b) = aC m c (ix2 b n) := by
  have h : V m c main_v0 = transpose S1024x8 [1, 0] (aC m c) transposes_S8x1024_S1024x8_1_0 := by
    show StableHlo.after hostOps0 _ _ = _
    simp only [hostOps0, StableHlo.after_cons, StableHlo.after_nil]
    exact StableHlo.unary_result ..
  rw [h]
  pointwise

theorem b0 (n : Fin 1024) (b : Fin 8) : iblk m c 0 t (ix2 n b) = aC m c (ix2 b n) := by
  refine Eq.trans ?_ (kept_v0 m c n b)
  blk_ext [iblk, idx t]
theorem b1 (u : Fin 1) (b : Fin 8) (l : Fin 384) : iblk m c 1 t (ix3 u b l) = aD m c (ix3 (layer t) b l) := by
  refine Eq.trans ?_ (congrFun (V_main_arg1 m c) _)
  blk_ext [iblk, idx t, layer]
theorem b2 (u : Fin 1) (r : Fin 1024) (l : Fin 384) : iblk m c 2 t (ix3 u r l) = aW m c (ix3 (layer t) r l) := by
  refine Eq.trans ?_ (congrFun (V_main_arg2 m c) _)
  blk_ext [iblk, idx t, layer]
theorem b3 (u : Fin 1) (r : Fin 1024) (l : Fin 384) : iblk m c 3 t (ix3 u r l) = aM m c (ix3 (layer t) r l) := by
  refine Eq.trans ?_ (congrFun (V_main_arg3 m c) _)
  blk_ext [iblk, idx t, layer]
theorem b4 (u : Fin 1) (r : Fin 1024) (l : Fin 384) : iblk m c 4 t (ix3 u r l) = aV m c (ix3 (layer t) r l) := by
  refine Eq.trans ?_ (congrFun (V_main_arg4 m c) _)
  blk_ext [iblk, idx t, layer]

/-- The layer's gradient, a product added after another. -/
theorem grad_eq (r : Fin 1024) (l : Fin 384) : k0_pay8 (iblk m c 0 t) (iblk m c 1 t) (iblk m c 2 t) (iblk m c 3 t) (iblk m c 4 t) (ix2 r l) = grad (aC m c) (aD m c) (ix3 (layer t) r l) := by
  unfold k0_pay8
  pointwise [k0_pay3]
  simp only [b0, b1]
  exact (Fin.sum_univ_eight fun b : Fin 8 => aC m c (ix2 b r) * aD m c (ix3 (layer t) b l)).symm

theorem avg_eq (r : Fin 1024) (l : Fin 384) : k0_pay5 (k0_pay8 (iblk m c 0 t) (iblk m c 1 t) (iblk m c 2 t) (iblk m c 3 t) (iblk m c 4 t)) (iblk m c 3 t) (ix2 r l)
    = avgs (grad (aC m c) (aD m c)) (aM m c) (ix3 (layer t) r l) := by
  pointwise [k0_pay5]
  rw [grad_eq, b3]
  rfl

theorem avsq_eq (r : Fin 1024) (l : Fin 384) : k0_pay6 (k0_pay8 (iblk m c 0 t) (iblk m c 1 t) (iblk m c 2 t) (iblk m c 3 t) (iblk m c 4 t)) (iblk m c 4 t) (ix2 r l)
    = avsqs (grad (aC m c) (aD m c)) (aV m c) (ix3 (layer t) r l) := by
  pointwise [k0_pay6]
  rw [grad_eq, b4]
  rfl

theorem g5 (u : Fin 1) (r : Fin 1024) (l : Fin 384) : k0_pay4 (k0_pay8 (iblk m c 0 t) (iblk m c 1 t) (iblk m c 2 t) (iblk m c 3 t) (iblk m c 4 t)) (ix3 u r l) = grad (aC m c) (aD m c) (ix3 (layer t) r l) := by
  pointwise [k0_pay4]
  exact grad_eq m c t r l

theorem g7 (u : Fin 1) (r : Fin 1024) (l : Fin 384) : k0_pay1 (k0_pay5 (k0_pay8 (iblk m c 0 t) (iblk m c 1 t) (iblk m c 2 t) (iblk m c 3 t) (iblk m c 4 t)) (iblk m c 3 t)) (ix3 u r l)
    = avgs (grad (aC m c) (aD m c)) (aM m c) (ix3 (layer t) r l) := by
  pointwise [k0_pay1]
  exact avg_eq m c t r l

theorem g8 (u : Fin 1) (r : Fin 1024) (l : Fin 384) : k0_pay2 (k0_pay6 (k0_pay8 (iblk m c 0 t) (iblk m c 1 t) (iblk m c 2 t) (iblk m c 3 t) (iblk m c 4 t)) (iblk m c 4 t)) (ix3 u r l)
    = avsqs (grad (aC m c) (aD m c)) (aV m c) (ix3 (layer t) r l) := by
  pointwise [k0_pay2]
  exact avsq_eq m c t r l

theorem g6 (u : Fin 1) (r : Fin 1024) (l : Fin 384) :
    k0_pay7 (k0_pay8 (iblk m c 0 t) (iblk m c 1 t) (iblk m c 2 t) (iblk m c 3 t) (iblk m c 4 t)) (iblk m c 2 t) (iblk m c 3 t) (iblk m c 4 t) (ix3 u r l)
    = changes (aW m c) (grad (aC m c) (aD m c)) (aM m c) (aV m c) (ix3 (layer t) r l) := by
  pointwise [k0_pay7]
  rw [avg_eq, avsq_eq, b2]
  rfl

theorem array5 : (dats m 0 c).arrAt 5 cfg0.N = grad (aC m c) (aD m c) := by
  refine (dats m 0 c).arrAt_eq_of_covers 5 _ (by decide +kernel) fun t hf y => ?_
  blk_simp
  rw [after0_5]
  idx_vars y
  have e : out0_5 (iblk m c 0 t) (iblk m c 1 t) (iblk m c 2 t) (iblk m c 3 t) (iblk m c 4 t) (ix3 y0 y1 y2)
      = (grad (aC m c) (aD m c)) (ix3 (layer t) y1 y2) := by
    unfold out0_5
    frame_out
    exact g5 m c t y0 y1 y2
  refine e.trans (congrArg _ ?_)
  blk_ext [idx t, layer]

theorem array6 : (dats m 0 c).arrAt 6 cfg0.N = changes (aW m c) (grad (aC m c) (aD m c)) (aM m c) (aV m c) := by
  refine (dats m 0 c).arrAt_eq_of_covers 6 _ (by decide +kernel) fun t hf y => ?_
  blk_simp
  rw [after0_6]
  idx_vars y
  have e : out0_6 (iblk m c 0 t) (iblk m c 1 t) (iblk m c 2 t) (iblk m c 3 t) (iblk m c 4 t) (ix3 y0 y1 y2)
      = (changes (aW m c) (grad (aC m c) (aD m c)) (aM m c) (aV m c)) (ix3 (layer t) y1 y2) := by
    unfold out0_6
    frame_out
    exact g6 m c t y0 y1 y2
  refine e.trans (congrArg _ ?_)
  blk_ext [idx t, layer]

theorem array7 : (dats m 0 c).arrAt 7 cfg0.N = avgs (grad (aC m c) (aD m c)) (aM m c) := by
  refine (dats m 0 c).arrAt_eq_of_covers 7 _ (by decide +kernel) fun t hf y => ?_
  blk_simp
  rw [after0_7]
  idx_vars y
  have e : out0_7 (iblk m c 0 t) (iblk m c 1 t) (iblk m c 2 t) (iblk m c 3 t) (iblk m c 4 t) (ix3 y0 y1 y2)
      = (avgs (grad (aC m c) (aD m c)) (aM m c)) (ix3 (layer t) y1 y2) := by
    unfold out0_7
    frame_out
    exact g7 m c t y0 y1 y2
  refine e.trans (congrArg _ ?_)
  blk_ext [idx t, layer]

theorem array8 : (dats m 0 c).arrAt 8 cfg0.N = avsqs (grad (aC m c) (aD m c)) (aV m c) := by
  refine (dats m 0 c).arrAt_eq_of_covers 8 _ (by decide +kernel) fun t hf y => ?_
  blk_simp
  rw [after0_8]
  idx_vars y
  have e : out0_8 (iblk m c 0 t) (iblk m c 1 t) (iblk m c 2 t) (iblk m c 3 t) (iblk m c 4 t) (ix3 y0 y1 y2)
      = (avsqs (grad (aC m c) (aD m c)) (aV m c)) (ix3 (layer t) y1 y2) := by
    unfold out0_8
    frame_out
    exact g8 m c t y0 y1 y2
  refine e.trans (congrArg _ ?_)
  blk_ext [idx t, layer]

end Cert.AdaAdamIdeal.Hand

namespace Cert.AdaAdamRefIdeal.Hand

open Cert.AdaAdamRefIdeal Cert.AdaAdamRefIdeal.Read Idealize.ShloMosaic
open Products Adam AdaSpec

variable (C : Mat 8 1024) (D : Rows) (W M V : Wgt)

theorem grad_eq : val_main_v1 (F := Ideal) C D = grad C D := by
  refine funext fun j => ?_
  idx_vars j
  pointwise [val_main_v0, val_main_v1]
  exact Finset.sum_congr rfl fun b _ => mul_comm _ _

theorem avgs_eq : val_main_v6 (F := Ideal) C D M = avgs (grad C D) M := by
  refine funext fun j => ?_
  idx_vars j
  pointwise [val_main_cst, val_main_v2, val_main_v3, val_main_cst_0, val_main_v4, val_main_v5, val_main_v6]
  rw [grad_eq]
  rfl

theorem avsqs_eq : val_main_v12 (F := Ideal) C D V = avsqs (grad C D) V := by
  refine funext fun j => ?_
  idx_vars j
  pointwise [val_main_cst_1, val_main_v7, val_main_v8, val_main_v9, val_main_cst_2, val_main_v10, val_main_v11, val_main_v12]
  rw [grad_eq]
  rfl

theorem changes_eq : val_main_v25 (F := Ideal) C D W M V = changes W (grad C D) M V := by
  refine funext fun j => ?_
  idx_vars j
  pointwise [val_main_cst_3, val_main_v13, val_main_v14, val_main_cst_4, val_main_v15, val_main_v16, val_main_v17, val_main_cst_5,
    val_main_v18, val_main_v19, val_main_v20, val_main_cst_6, val_main_v21, val_main_v22, val_main_v23, val_main_cst_7,
    val_main_v24, val_main_v25]
  rw [avgs_eq, avsqs_eq]
  rfl

end Cert.AdaAdamRefIdeal.Hand

namespace Cert.AdaAdamClaim

open Idealize.ShloMosaic Idealize.ShloMosaic.TcCoe Idealize.SL.Sem
open Adam AdaSpec Cert.AdaAdamRefIdeal.Read
open Cert.AdaAdamIdeal Cert.AdaAdamIdeal.Gen Cert.AdaAdamIdeal.Hand

/-- An argument that a window only reads ends as it began. -/
theorem kept (m : (ℓ : Loc nD τ sig) → Buf (Elt Ideal) ℓ) (c : Dev nD) (w : Fin cfg0.W) (hw : (cfg0.win w).isOut = false) (r : PUnit × MemSt nD τ sig (Elt Ideal))
    (h : Pipeline.FramePost cfgs (dats m) 0 (V m) r) :
    r.2.mem ((c : Thread nD τ).loc (Pipeline.arrRef spec0 w)) = V m c (Pipeline.arrRef spec0 w) :=
  ((h c).1 w).trans (((dats m 0 c).arrAt_in w hw _).trans (A_eq m c w))

theorem algebraic : Cert.algebraic_AdaAdamIdeal_AdaAdamRefIdeal := fun m g m' g' _ hargs => by
  refine ⟨fun c => grad (aC m c) (aD m c), fun c => changes (aW m c) (grad (aC m c) (aD m c)) (aM m c) (aV m c), fun c => avgs (grad (aC m c) (aD m c)) (aM m c),
    fun c => avsqs (grad (aC m c) (aD m c)) (aV m c), ?_, ?_⟩
  · refine (θ_run Cert.AdaAdamIdeal.defs _ _).mono (fun r h c => ?_) (Gen.run_main m g)
    exact ⟨((h c).1 5).trans (array5 m c), ((h c).1 6).trans (array6 m c), ((h c).1 7).trans (array7 m c), ((h c).1 8).trans (array8 m c),
      ((h c).2 main_arg0 (Pipeline.mem_restRefs_of main_arg0 (by decide) (by decide))).trans (V_main_arg0 m c),
      (kept m c 1 rfl r h).trans (V_main_arg1 m c), (kept m c 2 rfl r h).trans (V_main_arg2 m c),
      (kept m c 3 rfl r h).trans (V_main_arg3 m c), (kept m c 4 rfl r h).trans (V_main_arg4 m c)⟩
  · refine (θ_run Cert.AdaAdamRefIdeal.defs _ _).mono (fun r h c => ?_) (Cert.AdaAdamRefIdeal.Value.run m' g')
    obtain ⟨r0, r1, r2, r3, kept⟩ := h c
    obtain ⟨a0, a1, a2, a3, a4⟩ := hargs c
    refine ⟨r0.trans ?_, r1.trans ?_, r2.trans ?_, r3.trans ?_, kept⟩
    · refine (val_main_v1_eq _ _).trans ?_
      rw [a0, a1]
      exact Cert.AdaAdamRefIdeal.Hand.grad_eq _ _
    · refine (val_main_v25_eq _ _ _ _ _).trans ?_
      rw [a0, a1, a2, a3, a4]
      exact Cert.AdaAdamRefIdeal.Hand.changes_eq _ _ _ _ _
    · refine (val_main_v6_eq _ _ _).trans ?_
      rw [a0, a1, a3]
      exact Cert.AdaAdamRefIdeal.Hand.avgs_eq _ _ _
    · refine (val_main_v12_eq _ _ _).trans ?_
      rw [a0, a1, a4]
      exact Cert.AdaAdamRefIdeal.Hand.avsqs_eq _ _ _

end Cert.AdaAdamClaim

end
-- ==== Proof.AdaForwardClaim.lean ====
/- The value claim of the modulation's forward call: both programs leave the modulation, the activated rows, the taps, the bias and the products. -/
module

public import proofs.«01_k».proof.Defs
public import proofs.«01_k».proof.Proof.Gen.AdaForwardIdeal.Value
public import proofs.«01_k».proof.Proof.Gen.AdaForwardRefIdeal.Run
public import proofs.«01_k».proof.Proof.Gen.AdaForwardRefIdeal.Read
public import proofs.«01_k».proof.Proof.Products
public import Idealize.ShloMosaic.Lib.Pipeline.ValueKit
public import Idealize.ShloMosaic.Lib.Pipeline.ReadBack

@[expose] public section

set_option maxRecDepth 16384

noncomputable section

namespace ModulSpec

open Idealize.ShloMosaic Products

/-- The arrays of three axes: both layers' weight, the slabs and the modulation's parts that the seven other devices send. -/
abbrev Cube (a b c : ℕ) := (⟨3, ![a, b, c]⟩ : Shape).Idx → EReal

/-- Device 0's own value, or the one another device sent. -/
def sel (d : Fin 8) (own : EReal) (sent : Fin 7 → EReal) : EReal :=
  if h : d.val < 1 then own else sent ⟨d.val - 1, by omega⟩

/-- A choice on the device's number is `sel`. -/
theorem sel_of {d : Fin 8} {own : EReal} {sent : Fin 7 → EReal} {f : d.val < 1 → EReal} {g : ¬ d.val < 1 → EReal}
    (hf : ∀ h, f h = own) (hg : ∀ h, g h = sent ⟨d.val - 1, by omega⟩) : (if h : d.val < 1 then f h else g h) = sel d own sent := by
  unfold sel
  split
  · exact hf _
  · exact hg _

/-- The activation: `x` times its logistic function. -/
def act (x : EReal) : EReal := x * Ideal.div 1 (1 + Ideal.exp (-x))

/-- The group of a column and its place in the group, of `n` columns each. -/
def grp (n : ℕ) (hn : 0 < n) (l : Fin (8 * n)) : Fin 8 := ⟨l.val / n, Nat.div_lt_of_lt_mul (lt_of_lt_of_eq l.isLt (Nat.mul_comm 8 n))⟩
def lan (n : ℕ) (hn : 0 < n) (l : Fin (8 * n)) : Fin n := ⟨l.val % n, Nat.mod_lt _ hn⟩

variable (C : Mat 1 1024) (W : Mat 3 256) (B : Mat 1 256) (A : Cube 2 1024 384) (D : Mat 2 3072) (S : Cube 7 8 1024) (L : Cube 7 8 384)

/-- The conditioning rows of all devices, activated. -/
def rows : Mat 8 1024 := fun i => act (sel (i 0) (C (ix2 0 (i 1))) fun e => S (ix3 e 0 (i 1)))

/-- The taps and the bias of the convolution, put together from the devices' columns. -/
def taps : Mat 3 2048 := fun i => sel (grp 256 (by decide) (i 1)) (W (ix2 (i 0) (lan 256 (by decide) (i 1))))
  fun e => S (ix3 e ⟨1 + (i 0).val, by have h : (i 0).val < 3 := (i 0).isLt; omega⟩ ⟨(i 1).val % 256, by omega⟩)
def bias : Mat 1 2048 := fun i => sel (grp 256 (by decide) (i 1)) (B (ix2 0 (lan 256 (by decide) (i 1))))
  fun e => S (ix3 e 4 ⟨(i 1).val % 256, by omega⟩)

/-- A device's row times a layer's weight. -/
def prod (d : Fin 8) (l : Fin 2) (n : Fin 384) : EReal := ∑ k : Fin 1024, rows C S (ix2 d k) * A (ix3 l k n)

/-- What is sent: the products in the first two rows, zeros below. -/
def parts : Cube 8 8 384 := fun i => if h : (i 1).val < 2 then prod C A S (i 0) ⟨(i 1).val, h⟩ (i 2) else 0

/-- The modulation: the devices' columns side by side, with the bias. -/
def modul : Mat 2 3072 := fun i => sel (grp 384 (by decide) (i 1)) (prod C A S 0 (i 0) (lan 384 (by decide) (i 1)))
  (fun e => L (ix3 e ⟨(i 0).val, lt_trans (i 0).isLt (by decide)⟩ (lan 384 (by decide) (i 1)))) + D i

end ModulSpec

namespace Cert.AdaForwardRefIdeal.Hand

open Cert.AdaForwardRefIdeal Cert.AdaForwardRefIdeal.Read Idealize.ShloMosaic
open Products ModulSpec

variable (C : Mat 1 1024) (W : Mat 3 256) (B : Mat 1 256) (A : Cube 2 1024 384) (D : Mat 2 3072) (S : Cube 7 8 1024) (L : Cube 7 8 384)

theorem row_apply (d : Fin 8) (k : Fin 1024) : val_main_v2 (F := Ideal) C S (ix2 d k) = sel d (C (ix2 0 k)) fun e => S (ix3 e 0 k) := by
  pointwise [val_main_v0, val_main_v1, val_main_v2]
  exact sel_of (fun h => congrArg (fun u => C (ix2 u k)) (Fin.ext (by show d.val = 0; omega))) fun _ => rfl

theorem rows_eq : val_main_v9 (F := Ideal) C S = rows C S := by
  refine funext fun j => ?_
  idx_vars j
  pointwise [val_main_call0_v0, val_main_call0_v1, val_main_call0_cst, val_main_call0_v2, val_main_call0_v3, val_main_call0_cst_0,
    val_main_call0_v4, val_main_call0_v5, val_main_v9]
  rw [row_apply]
  rfl

theorem taps_eq : val_main_v18 (F := Ideal) W S = taps W S := by
  refine funext fun j => ?_
  idx_vars j
  pointwise [val_main_v3, val_main_v4, val_main_v5, val_main_v17, val_main_v18]
  rfl

theorem bias_eq : val_main_v19 (F := Ideal) B S = bias B S := by
  refine funext fun j => ?_
  idx_vars j
  pointwise [val_main_v6, val_main_v7, val_main_v8, val_main_v19]
  exact sel_of (d := grp 256 (by decide) j1) (fun h => congrArg (fun u => B (ix2 u _)) (Fin.ext (by show j1.val / 256 = 0; exact Nat.lt_one_iff.mp h))) fun _ => rfl

theorem prod_apply (d : Fin 8) (l : Fin 2) (n : Fin 384) : val_main_v10 (F := Ideal) C A S (ix3 d l n) = prod C A S d l n := by
  pointwise [val_main_v10]
  rw [rows_eq]
  rfl

theorem parts_eq : val_main_v20 (F := Ideal) C A S = parts C A S := by
  refine funext fun j => ?_
  idx_vars j
  pointwise [val_main_c, val_main_call1_v0, val_main_v20]
  simp only [prod_apply]
  rw [show FloatOps.sitofp (F := Ideal) FTy.f32 0#32 = (0 : EReal) from by show (((0#32 : BitVec 32).toInt : ℝ) : EReal) = 0; simp]
  rfl

theorem modul_eq : val_main_v16 (F := Ideal) C A D S L = modul C A D S L := by
  refine funext fun j => ?_
  idx_vars j
  pointwise [val_main_v11, val_main_v12, val_main_v13, val_main_v14, val_main_v15, val_main_v16]
  simp only [prod_apply]
  refine congrArg (· + _) (sel_of (d := grp 384 (by decide) j1)
    (fun h => congrArg (fun u => prod C A S u _ _) (Fin.ext (by show j1.val / 384 = 0; exact Nat.lt_one_iff.mp h))) fun _ => rfl)

end Cert.AdaForwardRefIdeal.Hand

/-- Two-place and three-place statements about axes, one axis at a time. -/
theorem ModulSpec.axes2 {p : Fin 2 → Prop} (h0 : p 0) (h1 : p 1) : ∀ a, p a := fun a => by
  match a with
  | 0 => exact h0
  | 1 => exact h1
theorem ModulSpec.axes3 {p : Fin 3 → Prop} (h0 : p 0) (h1 : p 1) (h2 : p 2) : ∀ a, p a := fun a => by
  match a with
  | 0 => exact h0
  | 1 => exact h1
  | 2 => exact h2

namespace Cert.AdaForwardIdeal.Hand

open Cert.AdaForwardIdeal Cert.AdaForwardIdeal.Gen Idealize.ShloMosaic Idealize.ShloMosaic.TcCoe Idealize.SL.Sem
open Products ModulSpec

section stores

/-- A load of what the stores `l` left, at an index. -/
theorem cov_at {sg : RefSig} {κ : Kind} {sp : Space} {s : Shape} {e : EltTy} (v : View sg κ sp s e) (l : List (View.Piece (Elt Ideal) s e)) (off size : Fin s.rank → ℕ)
    (inb : ∀ a, off a + size a ≤ s.size a) (x : (Rect.unit off size inb).shape.Idx) (i : s.Idx) (h : ∀ a, (i a : ℕ) = off a + x a) :
    v.readCov l (Rect.unit off size inb).toLoadRect x = View.canon l i := by
  rw [View.readCov_eq_canon']
  exact congrArg (View.canon l) (funext fun a => Fin.ext ((Rect.idx_unit_val off size inb x a).trans (h a).symm))

/-- Under the last store, its payload. -/
theorem canon_hit {s : Shape} {e : EltTy} (l : List (View.Piece (Elt Ideal) s e)) (off size : Fin s.rank → ℕ) (inb : ∀ a, off a + size a ≤ s.size a)
    (w : (Rect.unit off size inb).shape.Idx → Elt Ideal e) (x : (Rect.unit off size inb).shape.Idx) (i : s.Idx) (h : ∀ a, (i a : ℕ) = off a + x a) :
    View.canon (⟨Rect.unit off size inb, w⟩ :: l) i = w x := by
  rw [show i = (Rect.unit off size inb).emb x from funext fun a => Fin.ext ((h a).trans (Rect.idx_unit_val off size inb x a).symm)]
  exact View.canon_cons_emb _ w l x

/-- Off the last store, what was there before. -/
theorem canon_miss {s : Shape} {e : EltTy} (l : List (View.Piece (Elt Ideal) s e)) (off size : Fin s.rank → ℕ) (inb : ∀ a, off a + size a ≤ s.size a)
    (w : (Rect.unit off size inb).shape.Idx → Elt Ideal e) (i : s.Idx) (a : Fin s.rank) (h : (i a : ℕ) < off a ∨ off a + size a ≤ (i a : ℕ)) :
    View.canon (⟨Rect.unit off size inb, w⟩ :: l) i = View.canon l i :=
  View.canon_cons_of_not_mem _ l fun hm => by
    have hm' : i ∈ (Rect.unit off size inb).set := hm
    have := Rect.mem_set_unit.mp hm' a
    omega

/-- Stores over an earlier one, where they cover. -/
theorem canon_over {s : Shape} {e : EltTy} (q : View.Piece (Elt Ideal) s e) (i : s.Idx) (v : Elt Ideal e) : ∀ l : List (View.Piece (Elt Ideal) s e),
    (∃ p ∈ l, i ∈ p.1.set) → View.AllAt l i v → View.canon (l ++ [q]) i = v
  | [], hc, _ => by obtain ⟨p, hp, _⟩ := hc; exact absurd hp List.not_mem_nil
  | p :: l, hc, h => by
    by_cases hm : i ∈ p.1.set
    · obtain ⟨x, rfl⟩ := p.1.exists_idx_of_mem hm
      exact (View.canon_cons_emb p.1 p.2 (l ++ [q]) x).trans (h p List.mem_cons_self x rfl)
    · refine (View.canon_cons_of_not_mem p (l ++ [q]) hm).trans (canon_over q i v l ?_ fun p' hp => h p' (List.mem_cons_of_mem _ hp))
      obtain ⟨p', hp, hi⟩ := hc
      rcases List.mem_cons.mp hp with rfl | hp
      · exact absurd hi hm
      · exact ⟨p', hp, hi⟩

variable (C : Mat 1 1024) (W : Mat 3 256) (B : Mat 1 256) (A : Cube 2 1024 384) (D : Mat 2 3072) (S : Cube 7 8 1024) (L : Cube 7 8 384)

def ldS (off : Fin 3 → ℕ) (inb : ∀ a, off a + S1x8x1024.size a ≤ S7x8x1024.size a) : Vec Ideal S1x8x1024 .f32 :=
  View.ld (Val := Elt Ideal) (S := S7x8x1024) (e' := .f32) S (Rect.unit (s := S7x8x1024) off S1x8x1024.size inb)
def ldA (off : Fin 3 → ℕ) (inb : ∀ a, off a + S1x1024x384.size a ≤ S2x1024x384.size a) : Vec Ideal S1x1024x384 .f32 :=
  View.ld (Val := Elt Ideal) (S := S2x1024x384) (e' := .f32) A (Rect.unit (s := S2x1024x384) off S1x1024x384.size inb)
def ldL (off : Fin 3 → ℕ) (inb : ∀ a, off a + S1x8x384.size a ≤ S7x8x384.size a) : Vec Ideal S1x8x384 .f32 :=
  View.ld (Val := Elt Ideal) (S := S7x8x384) (e' := .f32) L (Rect.unit (s := S7x8x384) off S1x8x384.size inb)
def ldD (off : Fin 2 → ℕ) (inb : ∀ a, off a + S2x384.size a ≤ S2x3072.size a) : Vec Ideal S2x384 .f32 :=
  View.ld (Val := Elt Ideal) (S := S2x3072) (e' := .f32) D (Rect.unit (s := S2x3072) off S2x384.size inb)

/-- The stores into each buffer, the last one first, and the loads of it: the device's own slab, all slabs, -/
def slabL : List (View.Piece (Elt Ideal) S8x1024 .f32) :=
  [⟨Rect.unit ![4, 0] ![1, 256] inb_S8x1024_S1x256_4_0, k0_pay5 (F := Ideal) B⟩,
    ⟨Rect.unit ![1, 0] ![3, 256] inb_S8x1024_S3x256_1_0, k0_pay4 (F := Ideal) W⟩,
    ⟨Rect.unit ![0, 0] ![1, 1024] inb_S8x1024_S1x1024_0_0, k0_pay3 (F := Ideal) C⟩,
    ⟨Rect.unit ![0, 0] ![8, 1024] inb_S8x1024_S8x1024_0_0, k0_pay2 (F := Ideal)⟩]

def ownR : Vec Ideal S8x1024 .f32 :=
  (View.whole cc0_scratch0).readCov (slabL C W B) (Rect.unit (s := S8x1024) ![0, 0] S8x1024.size inb_S8x1024_S8x1024_0_0).toLoadRect

def gathL : List (View.Piece (Elt Ideal) S8x8x1024 .f32) :=
  [⟨Rect.unit ![7, 0, 0] ![1, 8, 1024] inb_S8x8x1024_S1x8x1024_7_0_0, k0_pay13 (F := Ideal) (ldS S ![6, 0, 0] inb_S7x8x1024_S1x8x1024_6_0_0)⟩,
    ⟨Rect.unit ![6, 0, 0] ![1, 8, 1024] inb_S8x8x1024_S1x8x1024_6_0_0, k0_pay12 (F := Ideal) (ldS S ![5, 0, 0] inb_S7x8x1024_S1x8x1024_5_0_0)⟩,
    ⟨Rect.unit ![5, 0, 0] ![1, 8, 1024] inb_S8x8x1024_S1x8x1024_5_0_0, k0_pay11 (F := Ideal) (ldS S ![4, 0, 0] inb_S7x8x1024_S1x8x1024_4_0_0)⟩,
    ⟨Rect.unit ![4, 0, 0] ![1, 8, 1024] inb_S8x8x1024_S1x8x1024_4_0_0, k0_pay10 (F := Ideal) (ldS S ![3, 0, 0] inb_S7x8x1024_S1x8x1024_3_0_0)⟩,
    ⟨Rect.unit ![3, 0, 0] ![1, 8, 1024] inb_S8x8x1024_S1x8x1024_3_0_0, k0_pay9 (F := Ideal) (ldS S ![2, 0, 0] inb_S7x8x1024_S1x8x1024_2_0_0)⟩,
    ⟨Rect.unit ![2, 0, 0] ![1, 8, 1024] inb_S8x8x1024_S1x8x1024_2_0_0, k0_pay8 (F := Ideal) (ldS S ![1, 0, 0] inb_S7x8x1024_S1x8x1024_1_0_0)⟩,
    ⟨Rect.unit ![1, 0, 0] ![1, 8, 1024] inb_S8x8x1024_S1x8x1024_1_0_0, k0_pay7 (F := Ideal) (ldS S ![0, 0, 0] inb_S7x8x1024_S1x8x1024_0_0_0)⟩,
    ⟨Rect.unit ![0, 0, 0] ![1, 8, 1024] inb_S8x8x1024_S1x8x1024_0_0_0, k0_pay6 (F := Ideal) (ownR C W B)⟩]

def gR (off : Fin 3 → ℕ) (inb : ∀ a, off a + S1x1x1024.size a ≤ S8x8x1024.size a) : Vec Ideal S1x1x1024 .f32 :=
  (View.whole cc0_scratch1).readCov (gathL C W B S) (Rect.unit (s := S8x8x1024) off S1x1x1024.size inb).toLoadRect
def gT (off : Fin 3 → ℕ) (inb : ∀ a, off a + S1x3x256.size a ≤ S8x8x1024.size a) : Vec Ideal S1x3x256 .f32 :=
  (View.whole cc0_scratch1).readCov (gathL C W B S) (Rect.unit (s := S8x8x1024) off S1x3x256.size inb).toLoadRect
def gB (off : Fin 3 → ℕ) (inb : ∀ a, off a + S1x1x256.size a ≤ S8x8x1024.size a) : Vec Ideal S1x1x256 .f32 :=
  (View.whole cc0_scratch1).readCov (gathL C W B S) (Rect.unit (s := S8x8x1024) off S1x1x256.size inb).toLoadRect

/-- the activated rows, the taps and the bias, -/
def csL : List (View.Piece (Elt Ideal) S8x1024 .f32) :=
  [⟨Rect.unit ![7, 0] ![1, 1024] inb_S8x1024_S1x1024_7_0, k0_pay37 (F := Ideal) (gR C W B S ![7, 0, 0] inb_S8x8x1024_S1x1x1024_7_0_0)⟩,
    ⟨Rect.unit ![6, 0] ![1, 1024] inb_S8x1024_S1x1024_6_0, k0_pay34 (F := Ideal) (gR C W B S ![6, 0, 0] inb_S8x8x1024_S1x1x1024_6_0_0)⟩,
    ⟨Rect.unit ![5, 0] ![1, 1024] inb_S8x1024_S1x1024_5_0, k0_pay31 (F := Ideal) (gR C W B S ![5, 0, 0] inb_S8x8x1024_S1x1x1024_5_0_0)⟩,
    ⟨Rect.unit ![4, 0] ![1, 1024] inb_S8x1024_S1x1024_4_0, k0_pay28 (F := Ideal) (gR C W B S ![4, 0, 0] inb_S8x8x1024_S1x1x1024_4_0_0)⟩,
    ⟨Rect.unit ![3, 0] ![1, 1024] inb_S8x1024_S1x1024_3_0, k0_pay25 (F := Ideal) (gR C W B S ![3, 0, 0] inb_S8x8x1024_S1x1x1024_3_0_0)⟩,
    ⟨Rect.unit ![2, 0] ![1, 1024] inb_S8x1024_S1x1024_2_0, k0_pay22 (F := Ideal) (gR C W B S ![2, 0, 0] inb_S8x8x1024_S1x1x1024_2_0_0)⟩,
    ⟨Rect.unit ![1, 0] ![1, 1024] inb_S8x1024_S1x1024_1_0, k0_pay19 (F := Ideal) (k0_pay17 (F := Ideal) (gR C W B S ![1, 0, 0] inb_S8x8x1024_S1x1x1024_1_0_0)) (k0_pay18 (F := Ideal) (gR C W B S ![1, 0, 0] inb_S8x8x1024_S1x1x1024_1_0_0)) (FloatOps.ofBits FTy.f32 1065353216#32)⟩,
    ⟨Rect.unit ![0, 0] ![1, 1024] inb_S8x1024_S1x1024_0_0, k0_pay14 (F := Ideal) (gR C W B S ![0, 0, 0] inb_S8x8x1024_S1x1x1024_0_0_0)⟩]

def tapsL : List (View.Piece (Elt Ideal) S3x2048 .f32) :=
  [⟨Rect.unit ![0, 1792] ![3, 256] inb_S3x2048_S3x256_0_1792, k0_pay38 (F := Ideal) (gT C W B S ![7, 1, 0] inb_S8x8x1024_S1x3x256_7_1_0)⟩,
    ⟨Rect.unit ![0, 1536] ![3, 256] inb_S3x2048_S3x256_0_1536, k0_pay35 (F := Ideal) (gT C W B S ![6, 1, 0] inb_S8x8x1024_S1x3x256_6_1_0)⟩,
    ⟨Rect.unit ![0, 1280] ![3, 256] inb_S3x2048_S3x256_0_1280, k0_pay32 (F := Ideal) (gT C W B S ![5, 1, 0] inb_S8x8x1024_S1x3x256_5_1_0)⟩,
    ⟨Rect.unit ![0, 1024] ![3, 256] inb_S3x2048_S3x256_0_1024, k0_pay29 (F := Ideal) (gT C W B S ![4, 1, 0] inb_S8x8x1024_S1x3x256_4_1_0)⟩,
    ⟨Rect.unit ![0, 768] ![3, 256] inb_S3x2048_S3x256_0_768, k0_pay26 (F := Ideal) (gT C W B S ![3, 1, 0] inb_S8x8x1024_S1x3x256_3_1_0)⟩,
    ⟨Rect.unit ![0, 512] ![3, 256] inb_S3x2048_S3x256_0_512, k0_pay23 (F := Ideal) (gT C W B S ![2, 1, 0] inb_S8x8x1024_S1x3x256_2_1_0)⟩,
    ⟨Rect.unit ![0, 256] ![3, 256] inb_S3x2048_S3x256_0_256, k0_pay20 (F := Ideal) (gT C W B S ![1, 1, 0] inb_S8x8x1024_S1x3x256_1_1_0)⟩,
    ⟨Rect.unit ![0, 0] ![3, 256] inb_S3x2048_S3x256_0_0, k0_pay15 (F := Ideal) (gT C W B S ![0, 1, 0] inb_S8x8x1024_S1x3x256_0_1_0)⟩]

def biasL : List (View.Piece (Elt Ideal) S1x2048 .f32) :=
  [⟨Rect.unit ![0, 1792] ![1, 256] inb_S1x2048_S1x256_0_1792, k0_pay39 (F := Ideal) (gB C W B S ![7, 4, 0] inb_S8x8x1024_S1x1x256_7_4_0)⟩,
    ⟨Rect.unit ![0, 1536] ![1, 256] inb_S1x2048_S1x256_0_1536, k0_pay36 (F := Ideal) (gB C W B S ![6, 4, 0] inb_S8x8x1024_S1x1x256_6_4_0)⟩,
    ⟨Rect.unit ![0, 1280] ![1, 256] inb_S1x2048_S1x256_0_1280, k0_pay33 (F := Ideal) (gB C W B S ![5, 4, 0] inb_S8x8x1024_S1x1x256_5_4_0)⟩,
    ⟨Rect.unit ![0, 1024] ![1, 256] inb_S1x2048_S1x256_0_1024, k0_pay30 (F := Ideal) (gB C W B S ![4, 4, 0] inb_S8x8x1024_S1x1x256_4_4_0)⟩,
    ⟨Rect.unit ![0, 768] ![1, 256] inb_S1x2048_S1x256_0_768, k0_pay27 (F := Ideal) (gB C W B S ![3, 4, 0] inb_S8x8x1024_S1x1x256_3_4_0)⟩,
    ⟨Rect.unit ![0, 512] ![1, 256] inb_S1x2048_S1x256_0_512, k0_pay24 (F := Ideal) (gB C W B S ![2, 4, 0] inb_S8x8x1024_S1x1x256_2_4_0)⟩,
    ⟨Rect.unit ![0, 256] ![1, 256] inb_S1x2048_S1x256_0_256, k0_pay21 (F := Ideal) (gB C W B S ![1, 4, 0] inb_S8x8x1024_S1x1x256_1_4_0)⟩,
    ⟨Rect.unit ![0, 0] ![1, 256] inb_S1x2048_S1x256_0_0, k0_pay16 (F := Ideal) (gB C W B S ![0, 4, 0] inb_S8x8x1024_S1x1x256_0_4_0)⟩]

def wholeR : Vec Ideal S8x1024 .f32 :=
  (View.whole cc0_stg8_0).readCov (csL C W B S) (Rect.unit (s := S8x1024) ![0, 0] S8x1024.size inb_S8x1024_S8x1024_0_0).toLoadRect

def own : Vec Ideal S8x1024 .f32 := k0_pay40 (F := Ideal) (wholeR C W B S)
def top : Vec Ideal S1x1024x384 .f32 := ldA A ![0, 0, 0] inb_S2x1024x384_S1x1024x384_0_0_0
def low : Vec Ideal S1x1024x384 .f32 := ldA A ![1, 0, 0] inb_S2x1024x384_S1x1024x384_1_0_0

/-- the products, those received, and the modulation. -/
def prodL : List (View.Piece (Elt Ideal) S8x8x384 .f32) :=
  [⟨Rect.unit ![7, 1, 0] ![1, 1, 384] inb_S8x8x384_S1x1x384_7_1_0, k0_pay61 (F := Ideal) (k0_pay52 (F := Ideal) (own C W B S) (low A))⟩,
    ⟨Rect.unit ![6, 1, 0] ![1, 1, 384] inb_S8x8x384_S1x1x384_6_1_0, k0_pay60 (F := Ideal) (k0_pay52 (F := Ideal) (own C W B S) (low A))⟩,
    ⟨Rect.unit ![5, 1, 0] ![1, 1, 384] inb_S8x8x384_S1x1x384_5_1_0, k0_pay59 (F := Ideal) (k0_pay52 (F := Ideal) (own C W B S) (low A))⟩,
    ⟨Rect.unit ![4, 1, 0] ![1, 1, 384] inb_S8x8x384_S1x1x384_4_1_0, k0_pay58 (F := Ideal) (k0_pay52 (F := Ideal) (own C W B S) (low A))⟩,
    ⟨Rect.unit ![3, 1, 0] ![1, 1, 384] inb_S8x8x384_S1x1x384_3_1_0, k0_pay57 (F := Ideal) (k0_pay52 (F := Ideal) (own C W B S) (low A))⟩,
    ⟨Rect.unit ![2, 1, 0] ![1, 1, 384] inb_S8x8x384_S1x1x384_2_1_0, k0_pay56 (F := Ideal) (k0_pay55 (F := Ideal) (own C W B S) (low A))⟩,
    ⟨Rect.unit ![1, 1, 0] ![1, 1, 384] inb_S8x8x384_S1x1x384_1_1_0, k0_pay54 (F := Ideal) (own C W B S) (low A)⟩,
    ⟨Rect.unit ![0, 1, 0] ![1, 1, 384] inb_S8x8x384_S1x1x384_0_1_0, k0_pay53 (F := Ideal) (own C W B S) (low A)⟩,
    ⟨Rect.unit ![7, 0, 0] ![1, 1, 384] inb_S8x8x384_S1x1x384_7_0_0, k0_pay51 (F := Ideal) (k0_pay42 (F := Ideal) (wholeR C W B S) (top A))⟩,
    ⟨Rect.unit ![6, 0, 0] ![1, 1, 384] inb_S8x8x384_S1x1x384_6_0_0, k0_pay50 (F := Ideal) (k0_pay42 (F := Ideal) (wholeR C W B S) (top A))⟩,
    ⟨Rect.unit ![5, 0, 0] ![1, 1, 384] inb_S8x8x384_S1x1x384_5_0_0, k0_pay49 (F := Ideal) (k0_pay42 (F := Ideal) (wholeR C W B S) (top A))⟩,
    ⟨Rect.unit ![4, 0, 0] ![1, 1, 384] inb_S8x8x384_S1x1x384_4_0_0, k0_pay48 (F := Ideal) (k0_pay42 (F := Ideal) (wholeR C W B S) (top A))⟩,
    ⟨Rect.unit ![3, 0, 0] ![1, 1, 384] inb_S8x8x384_S1x1x384_3_0_0, k0_pay47 (F := Ideal) (k0_pay46 (F := Ideal) (wholeR C W B S) (top A))⟩,
    ⟨Rect.unit ![2, 0, 0] ![1, 1, 384] inb_S8x8x384_S1x1x384_2_0_0, k0_pay45 (F := Ideal) (wholeR C W B S) (top A)⟩,
    ⟨Rect.unit ![1, 0, 0] ![1, 1, 384] inb_S8x8x384_S1x1x384_1_0_0, k0_pay44 (F := Ideal) (wholeR C W B S) (top A)⟩,
    ⟨Rect.unit ![0, 0, 0] ![1, 1, 384] inb_S8x8x384_S1x1x384_0_0_0, k0_pay43 (F := Ideal) (wholeR C W B S) (top A)⟩]

def partL : List (View.Piece (Elt Ideal) S8x8x384 .f32) := prodL C W B A S ++ [⟨Rect.unit ![0, 0, 0] ![8, 8, 384] inb_S8x8x384_S8x8x384_0_0_0, k0_pay41 (F := Ideal)⟩]
def partR : Vec Ideal S1x8x384 .f32 :=
  (View.whole cc0_stg11_0).readCov (partL C W B A S) (Rect.unit (s := S8x8x384) ![0, 0, 0] S1x8x384.size inb_S8x8x384_S1x8x384_0_0_0).toLoadRect

def landL : List (View.Piece (Elt Ideal) S8x8x384 .f32) :=
  [⟨Rect.unit ![7, 0, 0] ![1, 8, 384] inb_S8x8x384_S1x8x384_7_0_0, k0_pay69 (F := Ideal) (ldL L ![6, 0, 0] inb_S7x8x384_S1x8x384_6_0_0)⟩,
    ⟨Rect.unit ![6, 0, 0] ![1, 8, 384] inb_S8x8x384_S1x8x384_6_0_0, k0_pay68 (F := Ideal) (ldL L ![5, 0, 0] inb_S7x8x384_S1x8x384_5_0_0)⟩,
    ⟨Rect.unit ![5, 0, 0] ![1, 8, 384] inb_S8x8x384_S1x8x384_5_0_0, k0_pay67 (F := Ideal) (ldL L ![4, 0, 0] inb_S7x8x384_S1x8x384_4_0_0)⟩,
    ⟨Rect.unit ![4, 0, 0] ![1, 8, 384] inb_S8x8x384_S1x8x384_4_0_0, k0_pay66 (F := Ideal) (ldL L ![3, 0, 0] inb_S7x8x384_S1x8x384_3_0_0)⟩,
    ⟨Rect.unit ![3, 0, 0] ![1, 8, 384] inb_S8x8x384_S1x8x384_3_0_0, k0_pay65 (F := Ideal) (ldL L ![2, 0, 0] inb_S7x8x384_S1x8x384_2_0_0)⟩,
    ⟨Rect.unit ![2, 0, 0] ![1, 8, 384] inb_S8x8x384_S1x8x384_2_0_0, k0_pay64 (F := Ideal) (ldL L ![1, 0, 0] inb_S7x8x384_S1x8x384_1_0_0)⟩,
    ⟨Rect.unit ![1, 0, 0] ![1, 8, 384] inb_S8x8x384_S1x8x384_1_0_0, k0_pay63 (F := Ideal) (ldL L ![0, 0, 0] inb_S7x8x384_S1x8x384_0_0_0)⟩,
    ⟨Rect.unit ![0, 0, 0] ![1, 8, 384] inb_S8x8x384_S1x8x384_0_0_0, k0_pay62 (F := Ideal) (partR C W B A S)⟩]

def lR (off : Fin 3 → ℕ) (inb : ∀ a, off a + S1x2x384.size a ≤ S8x8x384.size a) : Vec Ideal S1x2x384 .f32 :=
  (View.whole cc0_scratch2).readCov (landL C W B A S L) (Rect.unit (s := S8x8x384) off S1x2x384.size inb).toLoadRect

def modL : List (View.Piece (Elt Ideal) S2x3072 .f32) :=
  [⟨Rect.unit ![0, 2688] ![2, 384] inb_S2x3072_S2x384_0_2688, k0_pay1 (F := Ideal) (k0_pay77 (F := Ideal) (lR C W B A S L ![7, 0, 0] inb_S8x8x384_S1x2x384_7_0_0)) (ldD D ![0, 2688] inb_S2x3072_S2x384_0_2688)⟩,
    ⟨Rect.unit ![0, 2304] ![2, 384] inb_S2x3072_S2x384_0_2304, k0_pay76 (F := Ideal) (lR C W B A S L ![6, 0, 0] inb_S8x8x384_S1x2x384_6_0_0) (ldD D ![0, 2304] inb_S2x3072_S2x384_0_2304)⟩,
    ⟨Rect.unit ![0, 1920] ![2, 384] inb_S2x3072_S2x384_0_1920, k0_pay75 (F := Ideal) (lR C W B A S L ![5, 0, 0] inb_S8x8x384_S1x2x384_5_0_0) (ldD D ![0, 1920] inb_S2x3072_S2x384_0_1920)⟩,
    ⟨Rect.unit ![0, 1536] ![2, 384] inb_S2x3072_S2x384_0_1536, k0_pay74 (F := Ideal) (lR C W B A S L ![4, 0, 0] inb_S8x8x384_S1x2x384_4_0_0) (ldD D ![0, 1536] inb_S2x3072_S2x384_0_1536)⟩,
    ⟨Rect.unit ![0, 1152] ![2, 384] inb_S2x3072_S2x384_0_1152, k0_pay73 (F := Ideal) (lR C W B A S L ![3, 0, 0] inb_S8x8x384_S1x2x384_3_0_0) (ldD D ![0, 1152] inb_S2x3072_S2x384_0_1152)⟩,
    ⟨Rect.unit ![0, 768] ![2, 384] inb_S2x3072_S2x384_0_768, k0_pay72 (F := Ideal) (lR C W B A S L ![2, 0, 0] inb_S8x8x384_S1x2x384_2_0_0) (ldD D ![0, 768] inb_S2x3072_S2x384_0_768)⟩,
    ⟨Rect.unit ![0, 384] ![2, 384] inb_S2x3072_S2x384_0_384, k0_pay71 (F := Ideal) (lR C W B A S L ![1, 0, 0] inb_S8x8x384_S1x2x384_1_0_0) (ldD D ![0, 384] inb_S2x3072_S2x384_0_384)⟩,
    ⟨Rect.unit ![0, 0] ![2, 384] inb_S2x3072_S2x384_0_0, k0_pay70 (F := Ideal) (lR C W B A S L ![0, 0, 0] inb_S8x8x384_S1x2x384_0_0_0) (ldD D ![0, 0] inb_S2x3072_S2x384_0_0)⟩]

theorem slab_row (k : Fin 1024) : View.canon (slabL C W B) (ix2 0 k) = C (ix2 0 k) := by
  unfold slabL
  refine (canon_miss _ _ _ _ _ _ 0 (.inl (by show (0 : ℕ) < 4; omega))).trans ((canon_miss _ _ _ _ _ _ 0 (.inl (by show (0 : ℕ) < 1; omega))).trans
    ((canon_hit _ _ _ _ _ (ix2 0 k) _ (by refine axes2 ?_ ?_; exacts [rfl, (Nat.zero_add _).symm])).trans ?_))
  pointwise [k0_pay3]

theorem slab_tap (r : Fin 3) (l : Fin 256) : View.canon (slabL C W B) (ix2 ⟨1 + r.val, by omega⟩ ⟨l.val, by omega⟩) = W (ix2 r l) := by
  unfold slabL
  refine (canon_miss _ _ _ _ _ _ 0 (.inl (by show 1 + r.val < 4; omega))).trans
    ((canon_hit _ _ _ _ _ (ix2 r l) _ (by refine axes2 ?_ ?_; exacts [rfl, (Nat.zero_add _).symm])).trans ?_)
  pointwise [k0_pay4]

theorem slab_bias (l : Fin 256) : View.canon (slabL C W B) (ix2 4 ⟨l.val, by omega⟩) = B (ix2 0 l) := by
  unfold slabL
  refine (canon_hit _ _ _ _ _ (ix2 0 l) _ (by refine axes2 ?_ ?_; exacts [rfl, (Nat.zero_add _).symm])).trans ?_
  pointwise [k0_pay5]

/-- What device `d`'s slab holds. -/
def gat : Cube 8 8 1024 := fun i => sel (i 0) (View.canon (slabL C W B) (ix2 (i 1) (i 2))) fun e => S (ix3 e (i 1) (i 2))

theorem sel_sent {d : Fin 8} (e : Fin 7) (own : EReal) (sent : Fin 7 → EReal) (h : d.val = e.val + 1) : sel d own sent = sent e := by
  unfold sel
  rw [dif_neg (by omega)]
  exact congrArg sent (Fin.ext (by show d.val - 1 = e.val; omega))

theorem sel_own {d : Fin 8} (own : EReal) (sent : Fin 7 → EReal) (h : d.val = 0) : sel d own sent = own := by
  unfold sel
  rw [dif_pos (by omega)]

theorem ldS_at (off inb) (x0 : Fin 1) (x1 : Fin 8) (x2 : Fin 1024) (d : Fin 8) (e : Fin 7) (r : Fin 8) (k : Fin 1024)
    (h0 : e.val = off 0 + x0.val) (he : d.val = e.val + 1) (h1 : r.val = off 1 + x1.val) (h2 : k.val = off 2 + x2.val) :
    ldS S off inb (ix3 x0 x1 x2) = gat C W B S (ix3 d r k) := by
  refine (View.ld_unit_apply_of (S := S7x8x1024) (Val := Elt Ideal) (e := .f32) S off _ inb (ix3 x0 x1 x2) (ix3 e r k) (by refine axes3 ?_ ?_ ?_; exacts [h0, h1, h2])).trans ?_
  exact (sel_sent e _ (fun e => S (ix3 e r k)) he).symm

theorem gath_apply (d r : Fin 8) (k : Fin 1024) : View.canon (gathL C W B S) (ix3 d r k) = gat C W B S (ix3 d r k) := by
  unfold gathL
  canon_tiles x h
  all_goals idx_vars x
  all_goals obtain rfl : x0 = 0 := Subsingleton.elim _ _
  all_goals pointwise [k0_pay6, k0_pay7, k0_pay8, k0_pay9, k0_pay10, k0_pay11, k0_pay12, k0_pay13]
  iterate 7
    focus
      exact ldS_at C W B S _ _ _ _ _ d ⟨_, by decide⟩ r k rfl h0 (h1.trans (Nat.zero_add _).symm) (h2.trans (Nat.zero_add _).symm)
  · refine (cov_at _ _ _ _ _ _ (ix2 r k) (by refine axes2 ?_ ?_; exacts [(h1.trans (Nat.zero_add _).symm), (h2.trans (Nat.zero_add _).symm)])).trans ?_
    exact (sel_own _ _ h0).symm

theorem gR_at (off inb) (x1 : Fin 1024) (d : Fin 8) (k : Fin 1024) (h0 : d.val = off 0) (h1 : off 1 = 0) (h2 : k.val = off 2 + x1.val) :
    gR C W B S off inb (ix3 0 0 x1) = sel d (C (ix2 0 k)) fun e => S (ix3 e 0 k) :=
  (cov_at _ _ _ _ _ _ (ix3 d 0 k) (by refine axes3 ?_ ?_ ?_; exacts [h0, h1.symm, h2])).trans ((gath_apply C W B S d 0 k).trans
    (congrArg (fun u => sel d u fun e => S (ix3 e 0 k)) (slab_row C W B k)))

theorem cs_of (d : Fin 8) (k : Fin 1024) (y : EReal) (h : y = sel d (C (ix2 0 k)) fun e => S (ix3 e 0 k)) :
    y * Ideal.div 1 (1 + Ideal.exp (0 - y)) = rows C S (ix2 d k) := by
  rw [zero_sub, h]
  rfl

theorem cs_apply (d : Fin 8) (k : Fin 1024) : View.canon (csL C W B S) (ix2 d k) = rows C S (ix2 d k) := by
  unfold csL
  canon_tiles x h
  all_goals idx_vars x
  all_goals obtain rfl : x0 = 0 := Subsingleton.elim _ _
  all_goals pointwise [k0_pay14, k0_pay17, k0_pay18, k0_pay19, k0_pay22, k0_pay25, k0_pay28, k0_pay31, k0_pay34, k0_pay37]
  all_goals exact cs_of C S d k _ (gR_at C W B S _ _ x1 d k h0 rfl (h1.trans (Nat.zero_add _).symm))

theorem gT_at (off inb) (x0 : Fin 3) (x1 : Fin 256) (d : Fin 8) (r : Fin 3) (k : Fin 2048) (h0 : d.val = off 0) (h1 : off 1 = 1) (h2 : off 2 = 0)
    (hr : r.val = x0.val) (hk : k.val = 256 * d.val + x1.val) : gT C W B S off inb (ix3 0 x0 x1) = taps W S (ix2 r k) := by
  obtain rfl : r = x0 := Fin.ext hr
  refine (cov_at _ _ _ _ _ _ (ix3 d ⟨1 + r.val, by omega⟩ ⟨x1.val, by omega⟩) (by refine axes3 ?_ ?_ ?_; exacts [h0, by rw [h1]; rfl, (by rw [h2]; exact (Nat.zero_add _).symm)])).trans
    ((gath_apply C W B S _ _ _).trans ?_)
  have e0 : grp 256 (by decide) k = d := Fin.ext (by show k.val / 256 = d.val; omega)
  have e1 : lan 256 (by decide) k = x1 := Fin.ext (by show k.val % 256 = x1.val; omega)
  unfold taps
  show sel d (View.canon (slabL C W B) (ix2 ⟨1 + r.val, _⟩ ⟨x1.val, _⟩)) _ = sel (grp 256 (by decide) k) (W (ix2 r (lan 256 (by decide) k))) fun e => S (ix3 e _ ⟨(lan 256 (by decide) k).val, _⟩)
  rw [slab_tap, e0]
  subst e1
  rfl

theorem taps_apply (r : Fin 3) (k : Fin 2048) : View.canon (tapsL C W B S) (ix2 r k) = taps W S (ix2 r k) := by
  unfold tapsL
  canon_tiles x h
  all_goals idx_vars x
  all_goals pointwise [k0_pay15, k0_pay20, k0_pay23, k0_pay26, k0_pay29, k0_pay32, k0_pay35, k0_pay38]
  all_goals first
    | exact gT_at C W B S _ _ x0 x1 ⟨_, by decide⟩ r k rfl rfl rfl h0 h1
    | exact gT_at C W B S _ _ x0 x1 ⟨_, by decide⟩ r k rfl rfl rfl h0 (h1.trans (Nat.zero_add _).symm)

theorem gB_at (off inb) (x1 : Fin 256) (d : Fin 8) (k : Fin 2048) (h0 : d.val = off 0) (h1 : off 1 = 4) (h2 : off 2 = 0)
    (hk : k.val = 256 * d.val + x1.val) : gB C W B S off inb (ix3 0 0 x1) = bias B S (ix2 0 k) := by
  refine (cov_at _ _ _ _ _ _ (ix3 d 4 ⟨x1.val, by omega⟩) (by refine axes3 ?_ ?_ ?_; exacts [h0, h1.symm, (by rw [h2]; exact (Nat.zero_add _).symm)])).trans
    ((gath_apply C W B S _ _ _).trans ?_)
  have e0 : grp 256 (by decide) k = d := Fin.ext (by show k.val / 256 = d.val; omega)
  have e1 : lan 256 (by decide) k = x1 := Fin.ext (by show k.val % 256 = x1.val; omega)
  unfold bias
  show sel d (View.canon (slabL C W B) (ix2 4 ⟨x1.val, _⟩)) _ = sel (grp 256 (by decide) k) (B (ix2 0 (lan 256 (by decide) k))) fun e => S (ix3 e 4 ⟨(lan 256 (by decide) k).val, _⟩)
  rw [slab_bias, e0]
  subst e1
  rfl

theorem bias_apply (r : Fin 1) (k : Fin 2048) : View.canon (biasL C W B S) (ix2 r k) = bias B S (ix2 r k) := by
  obtain rfl : r = 0 := Subsingleton.elim _ _
  unfold biasL
  canon_tiles x h
  all_goals idx_vars x
  all_goals obtain rfl : x0 = 0 := Subsingleton.elim _ _
  all_goals pointwise [k0_pay16, k0_pay21, k0_pay24, k0_pay27, k0_pay30, k0_pay33, k0_pay36, k0_pay39]
  all_goals first
    | exact gB_at C W B S _ _ x1 ⟨_, by decide⟩ k rfl rfl rfl h1
    | exact gB_at C W B S _ _ x1 ⟨_, by decide⟩ k rfl rfl rfl (h1.trans (Nat.zero_add _).symm)

theorem whole_eq : wholeR C W B S = rows C S := by
  refine funext fun j => ?_
  idx_vars j
  exact (cov_at _ _ _ _ _ _ (ix2 j0 j1) (by refine axes2 ?_ ?_; exacts [(Nat.zero_add _).symm, (Nat.zero_add _).symm])).trans (cs_apply C W B S j0 j1)

theorem ldA_at (off inb) (k : Fin 1024) (n : Fin 384) (l : Fin 2) (h0 : l.val = off 0) (h1 : off 1 = 0) (h2 : off 2 = 0) :
    ldA A off inb (ix3 0 k n) = A (ix3 l k n) :=
  View.ld_unit_apply_of (S := S2x1024x384) (Val := Elt Ideal) (e := .f32) A off _ inb (ix3 0 k n) (ix3 l k n)
    (by refine axes3 ?_ ?_ ?_; exacts [h0, (by rw [h1]; exact (Nat.zero_add _).symm), (by rw [h2]; exact (Nat.zero_add _).symm)])

theorem prod0 (d : Fin 8) (n : Fin 384) : k0_pay42 (F := Ideal) (wholeR C W B S) (top A) (ix2 d n) = prod C A S d 0 n := by
  rw [whole_eq]
  pointwise [k0_pay42, k0_pay40]
  exact Finset.sum_congr rfl fun k _ => congrArg (_ * ·) (ldA_at A ![0, 0, 0] _ k n 0 rfl rfl rfl)

theorem prod1 (d : Fin 8) (n : Fin 384) :
    k0_pay52 (F := Ideal) (own C W B S) (low A) (ix2 d n) = prod C A S d 1 n := by
  unfold own
  rw [whole_eq]
  pointwise [k0_pay52, k0_pay40]
  exact Finset.sum_congr rfl fun k _ => congrArg (_ * ·) (ldA_at A ![1, 0, 0] _ k n 1 rfl rfl rfl)

theorem in_row (d r : Fin 8) (n : Fin 384) (e q : ℕ) (h0 : d.val = e) (h1 : r.val = q) (a : Fin 3) :
    (![e, q, 0] : Fin 3 → ℕ) a ≤ (ix3 d r n a : ℕ) ∧ (ix3 d r n a : ℕ) < (![e, q, 0] : Fin 3 → ℕ) a + (![1, 1, 384] : Fin 3 → ℕ) a := by
  subst h0 h1
  match a with
  | 0 => exact ⟨le_refl _, Nat.lt_succ_self _⟩
  | 1 => exact ⟨le_refl _, Nat.lt_succ_self _⟩
  | 2 => exact ⟨Nat.zero_le _, lt_of_lt_of_eq n.isLt (Nat.zero_add _).symm⟩

theorem prod_cover (d r : Fin 8) (n : Fin 384) (hr : r.val < 2) : ∃ p ∈ prodL C W B A S, ix3 d r n ∈ p.1.set := by
  have h := in_row d r n
  unfold prodL
  simp only [List.mem_cons, exists_eq_or_imp, Rect.mem_set_unit]
  obtain hr | hr : r.val = 1 ∨ r.val = 0 := by omega
  · obtain e | e | e | e | e | e | e | e : d.val = 7 ∨ d.val = 6 ∨ d.val = 5 ∨ d.val = 4 ∨ d.val = 3 ∨ d.val = 2 ∨ d.val = 1 ∨ d.val = 0 := by omega
    all_goals have k := h _ _ e hr
    all_goals tauto
  · obtain e | e | e | e | e | e | e | e : d.val = 7 ∨ d.val = 6 ∨ d.val = 5 ∨ d.val = 4 ∨ d.val = 3 ∨ d.val = 2 ∨ d.val = 1 ∨ d.val = 0 := by omega
    all_goals have k := h _ _ e hr
    all_goals tauto

theorem tile_of (d r : Fin 8) (n : Fin 384) (e : Fin 8) (q : Fin 2) (off : Fin 3 → ℕ) (w : S1x1x384.Idx → EReal) (h0 : off 0 = e.val) (h1 : off 1 = q.val) (h2 : off 2 = 0)
    (hw : ∀ n : Fin 384, w (ix3 0 0 n) = prod C A S e q n) :
    View.TileAt (Val := Elt Ideal) (S := S8x8x384) (e := .f32) (ix3 d r n) off ![1, 1, 384] w (parts C A S (ix3 d r n)) := by
  intro x h
  have g0 : d.val = off 0 + (x 0).val := h 0
  have g1 : r.val = off 1 + (x 1).val := h 1
  have g2 : n.val = off 2 + (x 2).val := h 2
  have l0 : (x 0).val < 1 := (x 0).isLt
  have l1 : (x 1).val < 1 := (x 1).isLt
  have hx : x = (ix3 0 0 n : S1x1x384.Idx) := by
    refine funext fun a => Fin.ext ?_
    match a with
    | 0 => show (x 0).val = 0; omega
    | 1 => show (x 1).val = 0; omega
    | 2 => show (x 2).val = n.val; omega
  rw [hx]
  refine (hw n).trans ?_
  obtain rfl : d = e := Fin.ext (by omega)
  have hr : r.val < 2 := by omega
  unfold parts
  rw [dif_pos (by exact hr)]
  exact congrArg (fun u => prod C A S d u n) (Fin.ext (by show q.val = r.val; omega))

theorem prod_all (d r : Fin 8) (n : Fin 384) : View.AllAt (prodL C W B A S) (ix3 d r n) (parts C A S (ix3 d r n)) := by
  unfold prodL
  iterate 8 (refine View.allAt_cons_unit _ _ _ _ _ (tile_of C A S d r n ⟨_, by decide⟩ 1 _ _ rfl rfl rfl fun n => ?_) ?_; rotate_left)
  iterate 8 (refine View.allAt_cons_unit _ _ _ _ _ (tile_of C A S d r n ⟨_, by decide⟩ 0 _ _ rfl rfl rfl fun n => ?_) ?_; rotate_left)
  · exact View.allAt_nil _ _
  all_goals pointwise [k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61]
  iterate 8 (focus exact prod1 C W B A S _ n)
  all_goals exact prod0 C W B A S _ n

theorem part_apply (d r : Fin 8) (n : Fin 384) : View.canon (partL C W B A S) (ix3 d r n) = parts C A S (ix3 d r n) := by
  by_cases hr : r.val < 2
  · exact canon_over _ _ _ _ (prod_cover C W B A S d r n hr) (prod_all C W B A S d r n)
  · unfold partL prodL
    show View.canon (_ :: _) _ = _
    iterate 8 refine (canon_miss _ _ _ _ _ _ 1 (.inr (by show 1 + 1 ≤ r.val; omega))).trans ?_
    iterate 8 refine (canon_miss _ _ _ _ _ _ 1 (.inr (by show 0 + 1 ≤ r.val; omega))).trans ?_
    refine (canon_hit _ _ _ _ _ (ix3 d r n) _ (by refine axes3 ?_ ?_ ?_ <;> exact (Nat.zero_add _).symm)).trans ?_
    pointwise [k0_pay41]
    unfold parts
    rw [dif_neg (by exact hr)]

theorem partR_at (r : Fin 8) (n : Fin 384) : partR C W B A S (ix3 0 r n) = parts C A S (ix3 0 r n) :=
  (cov_at _ _ _ _ _ _ (ix3 0 r n) (by refine axes3 ?_ ?_ ?_ <;> exact (Nat.zero_add _).symm)).trans (part_apply C W B A S 0 r n)

/-- What lies in device `d`'s landing rows. -/
def lan8 : Cube 8 8 384 := fun i => sel (i 0) (parts C A S (ix3 0 (i 1) (i 2))) fun e => L (ix3 e (i 1) (i 2))

theorem ldL_at (off inb) (x0 : Fin 1) (x1 : Fin 8) (x2 : Fin 384) (d : Fin 8) (e : Fin 7) (r : Fin 8) (k : Fin 384)
    (h0 : e.val = off 0 + x0.val) (he : d.val = e.val + 1) (h1 : r.val = off 1 + x1.val) (h2 : k.val = off 2 + x2.val) :
    ldL L off inb (ix3 x0 x1 x2) = lan8 C A S L (ix3 d r k) := by
  refine (View.ld_unit_apply_of (S := S7x8x384) (Val := Elt Ideal) (e := .f32) L off _ inb (ix3 x0 x1 x2) (ix3 e r k)
    (by refine axes3 ?_ ?_ ?_; exacts [h0, h1, h2])).trans ?_
  exact (sel_sent e _ (fun e => L (ix3 e r k)) he).symm

theorem land_apply (d r : Fin 8) (k : Fin 384) : View.canon (landL C W B A S L) (ix3 d r k) = lan8 C A S L (ix3 d r k) := by
  unfold landL
  canon_tiles x h
  all_goals idx_vars x
  all_goals obtain rfl : x0 = 0 := Subsingleton.elim _ _
  all_goals pointwise [k0_pay62, k0_pay63, k0_pay64, k0_pay65, k0_pay66, k0_pay67, k0_pay68, k0_pay69]
  iterate 7
    focus
      exact ldL_at C A S L _ _ _ _ _ d ⟨_, by decide⟩ r k rfl h0 (h1.trans (Nat.zero_add _).symm) (h2.trans (Nat.zero_add _).symm)
  · obtain rfl : r = x1 := Fin.ext h1
    obtain rfl : k = x2 := Fin.ext h2
    exact (partR_at C W B A S r k).trans (sel_own _ _ h0).symm

theorem mod_of (off inb off' inb') (x0 : Fin 2) (x1 : Fin 384) (d : Fin 8) (r : Fin 2) (k : Fin 3072) (h0 : d.val = off 0) (h1 : off 1 = 0) (h2 : off 2 = 0)
    (h3 : off' 0 = 0) (h4 : k.val = off' 1 + x1.val) (hr : r.val = x0.val) (hk : k.val = 384 * d.val + x1.val) :
    lR C W B A S L off inb (ix3 0 x0 x1) + ldD D off' inb' (ix2 x0 x1) = modul C A D S L (ix2 r k) := by
  obtain rfl : r = x0 := Fin.ext hr
  have e0 : grp 384 (by decide) k = d := Fin.ext (by show k.val / 384 = d.val; omega)
  have e1 : lan 384 (by decide) k = x1 := Fin.ext (by show k.val % 384 = x1.val; omega)
  have a : lR C W B A S L off inb (ix3 0 r x1) = lan8 C A S L (ix3 d ⟨r.val, by omega⟩ x1) :=
    (cov_at _ _ _ _ _ _ (ix3 d ⟨r.val, by omega⟩ x1)
      (by refine axes3 ?_ ?_ ?_; exacts [h0, by rw [h1]; exact (Nat.zero_add _).symm, by rw [h2]; exact (Nat.zero_add _).symm])).trans
      (land_apply C W B A S L _ _ _)
  have b : ldD D off' inb' (ix2 r x1) = D (ix2 r k) :=
    View.ld_unit_apply_of (S := S2x3072) (Val := Elt Ideal) (e := .f32) D off' _ inb' (ix2 r x1) (ix2 r k)
      (by refine axes2 ?_ ?_; exacts [by rw [h3]; exact (Nat.zero_add _).symm, h4])
  rw [a, b]
  unfold modul
  refine congrArg (· + D (ix2 r k)) ?_
  show sel d (parts C A S (ix3 0 ⟨r.val, _⟩ x1)) (fun e => L (ix3 e ⟨r.val, _⟩ x1))
    = sel (grp 384 (by decide) k) (prod C A S 0 r (lan 384 (by decide) k)) fun e => L (ix3 e ⟨r.val, _⟩ (lan 384 (by decide) k))
  rw [e0]
  subst e1
  refine congrArg (fun u => sel d u _) ?_
  unfold parts
  exact dif_pos r.isLt

theorem mod_apply (r : Fin 2) (k : Fin 3072) : View.canon (modL C W B A D S L) (ix2 r k) = modul C A D S L (ix2 r k) := by
  unfold modL
  canon_tiles x h
  all_goals idx_vars x
  all_goals pointwise [k0_pay1, k0_pay70, k0_pay71, k0_pay72, k0_pay73, k0_pay74, k0_pay75, k0_pay76, k0_pay77]
  all_goals first
    | exact mod_of C W B A D S L _ _ _ _ x0 x1 ⟨_, by decide⟩ r k rfl rfl rfl rfl h1 h0 h1
    | exact mod_of C W B A D S L _ _ _ _ x0 x1 ⟨_, by decide⟩ r k rfl rfl rfl rfl (h1.trans (Nat.zero_add _).symm) h0 (h1.trans (Nat.zero_add _).symm)

end stores

variable (m : (ℓ : Loc nD τ sig) → Buf (Elt Ideal) ℓ) (c : Dev nD) (t : Fin cfg0.N)

/-- The arguments on device `c`. -/
abbrev aC : Mat 1 1024 := m ((c.tc : Thread nD τ).loc main_arg0)
abbrev aW : Mat 3 256 := m ((c.tc : Thread nD τ).loc main_arg1)
abbrev aB : Mat 1 256 := m ((c.tc : Thread nD τ).loc main_arg2)
abbrev aA : Cube 2 1024 384 := m ((c.tc : Thread nD τ).loc main_arg3)
abbrev aD : Mat 2 3072 := m ((c.tc : Thread nD τ).loc main_arg4)
abbrev aS : Cube 7 8 1024 := m ((c.tc : Thread nD τ).loc main_arg5)
abbrev aL : Cube 7 8 384 := m ((c.tc : Thread nD τ).loc main_arg6)

abbrev Idx (t : Fin grid0.N) : Prop := (win0_0.index t = ![0, 0] ∧ win0_1.index t = ![0, 0] ∧ win0_2.index t = ![0, 0] ∧
  win0_3.index t = ![0, 0, 0] ∧ win0_4.index t = ![0, 0] ∧ win0_5.index t = ![0, 0, 0] ∧ win0_6.index t = ![0, 0, 0]) ∧
  win0_7.index t = ![0, 0] ∧ win0_8.index t = ![0, 0] ∧ win0_9.index t = ![0, 0] ∧ win0_10.index t = ![0, 0] ∧ win0_11.index t = ![0, 0, 0]

theorem idx (t : Fin cfg0.N) : Idx t := (by decide +kernel : ∀ t : Fin grid0.N, Idx t) t

theorem b0 : iblk m c 0 t = aC m c := by
  refine funext fun j => Eq.trans ?_ (congrFun (V_main_arg0 m c) j)
  idx_vars j
  blk_ext [iblk, idx t]
theorem b1 : iblk m c 1 t = aW m c := by
  refine funext fun j => Eq.trans ?_ (congrFun (V_main_arg1 m c) j)
  idx_vars j
  blk_ext [iblk, idx t]
theorem b2 : iblk m c 2 t = aB m c := by
  refine funext fun j => Eq.trans ?_ (congrFun (V_main_arg2 m c) j)
  idx_vars j
  blk_ext [iblk, idx t]
theorem b3 : iblk m c 3 t = aA m c := by
  refine funext fun j => Eq.trans ?_ (congrFun (V_main_arg3 m c) j)
  idx_vars j
  blk_ext [iblk, idx t]
theorem b4 : iblk m c 4 t = aD m c := by
  refine funext fun j => Eq.trans ?_ (congrFun (V_main_arg4 m c) j)
  idx_vars j
  blk_ext [iblk, idx t]
theorem b5 : iblk m c 5 t = aS m c := by
  refine funext fun j => Eq.trans ?_ (congrFun (V_main_arg5 m c) j)
  idx_vars j
  blk_ext [iblk, idx t]
theorem b6 : iblk m c 6 t = aL m c := by
  refine funext fun j => Eq.trans ?_ (congrFun (V_main_arg6 m c) j)
  idx_vars j
  blk_ext [iblk, idx t]

theorem block7 (r : Fin 2) (k : Fin 3072) : (outsAt0 m c t).1 (ix2 r k) = modul (aC m c) (aA m c) (aD m c) (aS m c) (aL m c) (ix2 r k) := by
  unfold outsAt0
  frame_open
  frame_out
  simp only [read_unread_whole, b0, b1, b2, b3, b4, b5, b6]
  exact mod_apply (aC m c) (aW m c) (aB m c) (aA m c) (aD m c) (aS m c) (aL m c) r k

theorem block8 (r : Fin 8) (k : Fin 1024) : (outsAt0 m c t).2.1 (ix2 r k) = rows (aC m c) (aS m c) (ix2 r k) := by
  unfold outsAt0
  frame_open
  frame_out
  simp only [read_unread_whole, b0, b1, b2, b5]
  exact cs_apply (aC m c) (aW m c) (aB m c) (aS m c) r k

theorem block9 (r : Fin 3) (k : Fin 2048) : (outsAt0 m c t).2.2.1 (ix2 r k) = taps (aW m c) (aS m c) (ix2 r k) := by
  unfold outsAt0
  frame_open
  frame_out
  simp only [read_unread_whole, b0, b1, b2, b5]
  exact taps_apply (aC m c) (aW m c) (aB m c) (aS m c) r k

theorem block10 (r : Fin 1) (k : Fin 2048) : (outsAt0 m c t).2.2.2.1 (ix2 r k) = bias (aB m c) (aS m c) (ix2 r k) := by
  unfold outsAt0
  frame_open
  frame_out
  simp only [read_unread_whole, b0, b1, b2, b5]
  exact bias_apply (aC m c) (aW m c) (aB m c) (aS m c) r k

theorem block11 (d r : Fin 8) (k : Fin 384) : (outsAt0 m c t).2.2.2.2 (ix3 d r k) = parts (aC m c) (aA m c) (aS m c) (ix3 d r k) := by
  unfold outsAt0
  frame_open
  frame_out
  simp only [read_unread_whole, b0, b1, b2, b3, b5]
  exact part_apply (aC m c) (aW m c) (aB m c) (aA m c) (aS m c) d r k

theorem array7 : (dats m 0 c).arrAt 7 cfg0.N = modul (aC m c) (aA m c) (aD m c) (aS m c) (aL m c) := by
  refine (dats m 0 c).arrAt_eq_of_covers 7 _ (by decide +kernel) fun t hf y => ?_
  blk_simp
  rw [after0_7]
  idx_vars y
  refine (block7 m c t y0 y1).trans (congrArg _ ?_)
  blk_ext [idx t]

theorem array8 : (dats m 0 c).arrAt 8 cfg0.N = rows (aC m c) (aS m c) := by
  refine (dats m 0 c).arrAt_eq_of_covers 8 _ (by decide +kernel) fun t hf y => ?_
  blk_simp
  rw [after0_8]
  idx_vars y
  refine (block8 m c t y0 y1).trans (congrArg _ ?_)
  blk_ext [idx t]

theorem array9 : (dats m 0 c).arrAt 9 cfg0.N = taps (aW m c) (aS m c) := by
  refine (dats m 0 c).arrAt_eq_of_covers 9 _ (by decide +kernel) fun t hf y => ?_
  blk_simp
  rw [after0_9]
  idx_vars y
  refine (block9 m c t y0 y1).trans (congrArg _ ?_)
  blk_ext [idx t]

theorem array10 : (dats m 0 c).arrAt 10 cfg0.N = bias (aB m c) (aS m c) := by
  refine (dats m 0 c).arrAt_eq_of_covers 10 _ (by decide +kernel) fun t hf y => ?_
  blk_simp
  rw [after0_10]
  idx_vars y
  refine (block10 m c t y0 y1).trans (congrArg _ ?_)
  blk_ext [idx t]

theorem array11 : (dats m 0 c).arrAt 11 cfg0.N = parts (aC m c) (aA m c) (aS m c) := by
  refine (dats m 0 c).arrAt_eq_of_covers 11 _ (by decide +kernel) fun t hf y => ?_
  blk_simp
  rw [after0_11]
  idx_vars y
  refine (block11 m c t y0 y1 y2).trans (congrArg _ ?_)
  blk_ext [idx t]

end Cert.AdaForwardIdeal.Hand

namespace Cert.AdaForwardClaim

open Idealize.ShloMosaic Idealize.ShloMosaic.TcCoe Idealize.SL.Sem
open ModulSpec Cert.AdaForwardRefIdeal.Read
open Cert.AdaForwardIdeal Cert.AdaForwardIdeal.Gen Cert.AdaForwardIdeal.Hand

theorem algebraic : Cert.algebraic_AdaForwardIdeal_AdaForwardRefIdeal := fun m g m' g' _ hargs => by
  refine ⟨fun c => modul (aC m c) (aA m c) (aD m c) (aS m c) (aL m c), fun c => rows (aC m c) (aS m c), fun c => taps (aW m c) (aS m c),
    fun c => bias (aB m c) (aS m c), fun c => parts (aC m c) (aA m c) (aS m c), ?_, ?_⟩
  · refine (θ_run Cert.AdaForwardIdeal.defs _ _).mono (fun r h c => ?_) (Cert.AdaForwardIdeal.Value.run_blocks m g)
    obtain ⟨r0, r1, r2, r3, r4, kept⟩ := h c
    exact ⟨r0.trans (array7 m c), r1.trans (array8 m c), r2.trans (array9 m c), r3.trans (array10 m c), r4.trans (array11 m c), kept⟩
  · refine (θ_run Cert.AdaForwardRefIdeal.defs _ _).mono (fun r h c => ?_) (Cert.AdaForwardRefIdeal.Value.run m' g')
    obtain ⟨r0, r1, r2, r3, r4, kept⟩ := h c
    obtain ⟨a0, a1, a2, a3, a4, a5, a6⟩ := hargs c
    refine ⟨r0.trans ?_, r1.trans ?_, r2.trans ?_, r3.trans ?_, r4.trans ?_, kept⟩
    · refine (val_main_v16_eq _ _ _ _ _).trans ?_
      rw [a0, a3, a4, a5, a6]
      exact Cert.AdaForwardRefIdeal.Hand.modul_eq _ _ _ _ _
    · refine (val_main_v9_eq _ _).trans ?_
      rw [a0, a5]
      exact Cert.AdaForwardRefIdeal.Hand.rows_eq _ _
    · refine (val_main_v18_eq _ _).trans ?_
      rw [a1, a5]
      exact Cert.AdaForwardRefIdeal.Hand.taps_eq _ _
    · refine (val_main_v19_eq _ _).trans ?_
      rw [a2, a5]
      exact Cert.AdaForwardRefIdeal.Hand.bias_eq _ _
    · refine (val_main_v20_eq _ _ _).trans ?_
      rw [a0, a3, a5]
      exact Cert.AdaForwardRefIdeal.Hand.parts_eq _ _ _

end Cert.AdaForwardClaim

end
-- ==== Proof.SibSumClaim.lean ====
/- The sum of the siblings' parts: the frames and the value. The prefetched word, the device's core, is 0. -/
module

public import proofs.«01_k».proof.Defs
public import proofs.«01_k».proof.Proof.Gen.SibSum
public import proofs.«01_k».proof.Proof.Gen.SibSumIdeal.Frame
public import proofs.«01_k».proof.Proof.Gen.SibSumRefIdeal.Run
public import proofs.«01_k».proof.Proof.Gen.SibSumRefIdeal.Read
public import proofs.«01_k».proof.Proof.Products
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.SibSumIdeal.Hand

open Cert.SibSumIdeal Cert.SibSumIdeal.Gen Idealize.ShloMosaic Idealize.ShloMosaic.TcCoe Idealize.SL.Sem

section tables

variable {F : FTy → Type} [FloatOps F] (m : (ℓ : Loc nD τ sig) → Buf (Elt F) ℓ)

/-- The prefetched word is 0, -/
theorem word : tbl m 0 = fun _ => 0#32 := by
  show StableHlo.after hostOps0 _ (Proc.devRef .tc main_v0) = _
  after_results
  rfl

/-- so point `(i, j)` reads block `j` of part `2 i`, -/
theorem map0 (i : grid0.Coords) : cc0_transform_0 inb_S1_S1_0 numel1_S1 (tbl m) i = ![2 * (i 0).val, (i 1).val, 0] := by
  have h : (tbl m).at 0 (Rect.unit (s := S1) ![0] S1.size inb_S1_S1_0) numel1_S1 = 0#32 := congrFun (word m) _
  unfold cc0_transform_0
  simp only [h]
  exact (by decide +kernel : ∀ i : grid0.Coords, ![(Scalar.addi (Scalar.muli 2#32 (BitVec.ofNat 32 (i 0).val)) 0#32).toNat, (BitVec.ofNat 32 (i 1).val).toNat, (0#32).toNat]
    = ![2 * (i 0).val, (i 1).val, 0]) i

/-- which lies in its array. -/
theorem ok : Ok m := fun i => by
  simp only [map0]
  exact (by decide +kernel : ∀ i : grid0.Coords, ∃ h : (∀ a, ((![2 * (i 0).val, (i 1).val, 0] : Fin 3 → ℕ) a + 1) * S1x256x768.size a ≤ S8x1024x768.size a),
    EltTy.bits .bf16 = 32 ∨ (Rect.block (s := S8x1024x768) S1x256x768.size ![2 * (i 0).val, (i 1).val, 0] h).WholeWords (EltTy.packing .bf16)) i

end tables

open Products

/-- The parts in pairs, and the pairs' sums. -/
abbrev Parts := (⟨3, ![8, 1024, 768]⟩ : Shape).Idx → EReal
abbrev Sums := (⟨3, ![4, 1024, 768]⟩ : Shape).Idx → EReal

/-- The first part of each pair and the other array's, added. -/
def sums (X : Parts) (Y : Sums) : Sums := fun i => X (ix3 ⟨2 * (i 0).val, by have h : (i 0).val < 4 := (i 0).isLt; omega⟩ (i 1) (i 2)) + Y i

variable (m : (ℓ : Loc nD τ sig) → Buf (Elt Ideal) ℓ) (c : Dev nD)

abbrev aX : Parts := m ((c.tc : Thread nD τ).loc main_arg0)
abbrev aY : Sums := m ((c.tc : Thread nD τ).loc main_arg1)

abbrev cfgS := cfgM m (ok m)

theorem index0 (t : Fin (cfgS m).N) : ((cfgS m).win 0).index t = ![2 * (grid0.coords t 0).val, (grid0.coords t 1).val, 0] := map0 m (grid0.coords t)
theorem index1 (t : Fin (cfgS m).N) : ((cfgS m).win 1).index t = ![(grid0.coords t 0).val, (grid0.coords t 1).val, 0] :=
  (by decide +kernel : ∀ i : grid0.Coords, cc0_transform_1 i = ![(i 0).val, (i 1).val, 0]) (grid0.coords t)
theorem index2 (t : Fin (cfgS m).N) : ((cfgS m).win 2).index t = ![(grid0.coords t 0).val, (grid0.coords t 1).val, 0] :=
  (by decide +kernel : ∀ i : grid0.Coords, cc0_transform_2 i = ![(i 0).val, (i 1).val, 0]) (grid0.coords t)

/-- An element of a block lies in the array at the block's place. -/
theorem emb_val (w : Fin (cfgS m).W) (t : Fin (cfgS m).N) (y : (((cfgS m).win w).xblock ((cfgS m).grid.coords t)).Idx) (a : Fin ((cfgS m).win w).shape.rank)
    (hk : ((cfgS m).win w).kind = .blocked) : ((((cfgS m).win w).rect t).emb y a : ℕ) = ((cfgS m).win w).index t a * ((cfgS m).win w).size a + y a :=
  ((cfgS m).win w).rect_emb_val t y a hk

/-- The blocks of the output's window cover the array. -/
theorem covers : ((cfgS m).win 2).Covers := by
  have z : ∀ β : (a : Fin 3) → Fin ((S4x1024x768.size a + S1x256x768.size a - 1) / S1x256x768.size a), ∃ t : Fin grid0.N,
      Pipeline.Window.flushOf grid0 true cc0_transform_2 t = true ∧ ∀ a, cc0_transform_2 (grid0.coords t) a = (β a).val := by
    decide +kernel
  refine ⟨fun a => ?_, fun β => ?_⟩
  · exact (by decide : ∀ a : Fin 3, 0 < S1x256x768.size a) a
  · obtain ⟨t, h, h'⟩ := z β
    exact ⟨t, h, fun a => ⟨h' a, Or.inl rfl⟩⟩

theorem pay_eq (x0 x1 : Vec Ideal S1x256x768 .bf16) (y : S1x256x768.Idx) : k0_pay1 x0 x1 y = x0 y + x1 y := by
  idx_vars y
  obtain rfl : y0 = 0 := Subsingleton.elim _ _
  pointwise [k0_pay1]

theorem outs_eq (t : Fin (cfgS m).N) (y : S1x256x768.Idx) : outsAt0 m (ok m) c t y = k0_pay1 (iblk m (ok m) c 0 t) (iblk m (ok m) c 1 t) y := by
  unfold outsAt0 out0_A_2
  frame_out
  exact congrFun (congrArg₂ k0_pay1 (Memref.IsWhole.read_unread _ _) (Memref.IsWhole.read_unread _ _)) y

theorem fst_eq (t : Fin (cfgS m).N) (y : S1x256x768.Idx) (k : S8x1024x768.Idx) (hk : ∀ a, (k a).val = ![2 * (grid0.coords t 0).val, (grid0.coords t 1).val, 0] a * S1x256x768.size a + (y a).val) :
    iblk m (ok m) c 0 t y = aX m c k := by
  refine Eq.trans (congrFun (V_main_arg0 m c) _) (congrArg (aX m c) (funext fun a => Fin.ext ?_))
  refine (emb_val m 0 t y a rfl).trans ?_
  rw [index0]
  exact (hk a).symm

theorem snd_eq (t : Fin (cfgS m).N) (y : S1x256x768.Idx) (k : S4x1024x768.Idx) (hk : ∀ a, (k a).val = ![(grid0.coords t 0).val, (grid0.coords t 1).val, 0] a * S1x256x768.size a + (y a).val) :
    iblk m (ok m) c 1 t y = aY m c k := by
  refine Eq.trans (congrFun (V_main_arg1 m c) _) (congrArg (aY m c) (funext fun a => Fin.ext ?_))
  refine (emb_val m 1 t y a rfl).trans ?_
  rw [index1]
  exact (hk a).symm

theorem point_eq (t : Fin (cfgS m).N) (y : S1x256x768.Idx) (k : S4x1024x768.Idx) (hk : ∀ a, (k a).val = ![(grid0.coords t 0).val, (grid0.coords t 1).val, 0] a * S1x256x768.size a + (y a).val) :
    outsAt0 m (ok m) c t y = sums (aX m c) (aY m c) k := by
  refine (outs_eq m c t y).trans ((pay_eq _ _ y).trans (congrArg₂ (· + ·) (fst_eq m c t y _ fun a => ?_) (snd_eq m c t y k hk)))
  have h0 : (k 0).val = (grid0.coords t 0).val * 1 + (y 0).val := hk 0
  have h1 : (k 1).val = (grid0.coords t 1).val * 256 + (y 1).val := hk 1
  have h2 : (k 2).val = 0 * 768 + (y 2).val := hk 2
  have hy : (y 0).val < 1 := (y 0).isLt
  fin_cases a
  · show 2 * (k 0).val = 2 * (grid0.coords t 0).val * 1 + (y 0).val
    omega
  · exact h1
  · exact h2

theorem array2 : (dats m (ok m) 0 c).arrAt 2 (cfgS m).N = sums (aX m c) (aY m c) := by
  refine (dats m (ok m) 0 c).arrAt_eq_of_covers 2 _ (covers m) fun t hf y => ?_
  blk_simp
  rw [after0_2]
  refine point_eq m c t y _ fun a => ?_
  refine (emb_val m 2 t y a rfl).trans ?_
  rw [index2]
  rfl

end Cert.SibSumIdeal.Hand

namespace Cert.SibSumRefIdeal.Hand

open Cert.SibSumRefIdeal Cert.SibSumRefIdeal.Read Idealize.ShloMosaic Products

theorem sums_eq (x0 : (⟨S8x1024x768, .bf16⟩ : BufTy).Contents (Elt Ideal)) (x1 : (⟨S4x1024x768, .bf16⟩ : BufTy).Contents (Elt Ideal)) :
    val_main_v4 (F := Ideal) x0 x1 = Cert.SibSumIdeal.Hand.sums x0 x1 := by
  funext i
  idx_vars i
  simp only [val_main_v4_apply, val_main_v3_apply, val_main_v2_apply, val_main_v1_apply]
  refine congrArg₂ (· + ·) ?_ rfl
  refine congrArg x0 (funext fun a => Fin.ext ?_)
  fin_cases a
  · show 0 + 2 * i0.val = 2 * i0.val
    omega
  · show 0 + 1 * i1.val = i1.val
    omega
  · show 0 + 1 * i2.val = i2.val
    omega

end Cert.SibSumRefIdeal.Hand

namespace Cert.SibSumClaim

open Cert.SibSumIdeal Cert.SibSumIdeal.Gen Cert.SibSumIdeal.Hand Cert.SibSumRefIdeal.Read Idealize.ShloMosaic Idealize.ShloMosaic.TcCoe Idealize.SL.Sem Idealize.ShloMosaic.Tactic

/-- The printed kernel's frame, spoken of the idealized program's text, which is the same. -/
def Same : Prop := ∀ (m : (ℓ : Loc nD τ sig) → Buf (Elt Bits) ℓ) (g : Dev nD → PrngReg), True →
  θ_run (defs (F := Bits)) (onTc (τ := τ) (main (F := Bits))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0)

theorem same : Same := fun m ρ _ => Cert.SibSumIdeal.Gen.frame (F := Bits) m ρ (ok m)

theorem same_eq : Same = Cert.quiescent_SibSum := by sl_kernel_rfl

theorem frame : Cert.quiescent_SibSum := same_eq ▸ same

/-- An argument that a window only reads ends as it began. -/
theorem kept (m : (ℓ : Loc nD τ sig) → Buf (Elt Ideal) ℓ) (c : Dev nD) (w : Fin (cfgS m).W) (hw : ((cfgS m).win w).isOut = false) (r : PUnit × MemSt nD τ sig (Elt Ideal))
    (h : Pipeline.FramePost (Pipeline.pin pcfgs fun _ => adm m (ok m)) (dats m (ok m)) 0 (V m) r) :
    r.2.mem ((c : Thread nD τ).loc (Pipeline.arrRef spec0 w)) = V m c (Pipeline.arrRef spec0 w) :=
  ((h c).1 w).trans (((dats m (ok m) 0 c).arrAt_in w hw _).trans (A_eq m (ok m) c w))

theorem algebraic : Cert.algebraic_SibSumIdeal_SibSumRefIdeal := fun m g m' g' _ hargs => by
  refine ⟨fun c => sums (aX m c) (aY m c), ?_, ?_⟩
  · refine (θ_run Cert.SibSumIdeal.defs _ _).mono (fun r h c => ?_) (Gen.run_main m g (ok m))
    exact ⟨((h c).1 2).trans (array2 m c), (kept m c 0 rfl r h).trans (V_main_arg0 m c), (kept m c 1 rfl r h).trans (V_main_arg1 m c)⟩
  · refine (θ_run Cert.SibSumRefIdeal.defs _ _).mono (fun r h c => ?_) (Cert.SibSumRefIdeal.Value.run m' g')
    obtain ⟨r0, kept⟩ := h c
    obtain ⟨a0, a1⟩ := hargs c
    refine ⟨r0.trans ?_, kept⟩
    refine (val_main_v4_eq _ _).trans ?_
    rw [a0, a1]
    exact Cert.SibSumRefIdeal.Hand.sums_eq _ _

end Cert.SibSumClaim

end
-- ==== Proof.lean ====
/- The claims, put together from the modules of each call. -/
module

public import proofs.«01_k».proof.Defs
public import proofs.«01_k».proof.Proof.Gen.Conv.Frame
public import proofs.«01_k».proof.Proof.Gen.ConvIdeal.Frame
public import proofs.«01_k».proof.Proof.Gen.ConvRefIdeal
public import proofs.«01_k».proof.Proof.Gen.Pre_conv_finite
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvClaim
public import proofs.«01_k».proof.Proof.Gen.Attn
public import proofs.«01_k».proof.Proof.Gen.AttnIdeal
public import proofs.«01_k».proof.Proof.Gen.AttnRefIdeal
public import proofs.«01_k».proof.Proof.Gen.Pre_attn_finite
public import proofs.«01_k».proof.Proof.AttnFrames
public import proofs.«01_k».proof.Proof.AttnClaim
public import proofs.«01_k».proof.Proof.Gen.Gate.Frame
public import proofs.«01_k».proof.Proof.Gen.GateIdeal.Frame
public import proofs.«01_k».proof.Proof.Gen.GateRefIdeal
public import proofs.«01_k».proof.Proof.Gen.Pre_gate_finite
public import proofs.«01_k».proof.Proof.Gen.GateIdeal.Value
public import proofs.«01_k».proof.Proof.Gen.GateRefIdeal.Run
public import proofs.«01_k».proof.Proof.Gen.GateRefIdeal.Read
public import proofs.«01_k».proof.Proof.GateClaim
public import proofs.«01_k».proof.Proof.Gen.Loss.Frame
public import proofs.«01_k».proof.Proof.Gen.LossIdeal.Frame
public import proofs.«01_k».proof.Proof.Gen.LossRefIdeal
public import proofs.«01_k».proof.Proof.Gen.Pre_loss_finite
public import proofs.«01_k».proof.Proof.Gen.LossIdeal.Value
public import proofs.«01_k».proof.Proof.Gen.LossRefIdeal.Run
public import proofs.«01_k».proof.Proof.Gen.LossRefIdeal.Read
public import proofs.«01_k».proof.Proof.LossClaim
public import proofs.«01_k».proof.Proof.Gen.Ln.Frame
public import proofs.«01_k».proof.Proof.Gen.LnIdeal.Frame
public import proofs.«01_k».proof.Proof.Gen.LnRefIdeal
public import proofs.«01_k».proof.Proof.Gen.Pre_ln_finite
public import proofs.«01_k».proof.Proof.Gen.LnRefIdeal.Run
public import proofs.«01_k».proof.Proof.Gen.LnRefIdeal.Read
public import proofs.«01_k».proof.Proof.LnClaim
public import proofs.«01_k».proof.Proof.Gen.Pool.Frame
public import proofs.«01_k».proof.Proof.Gen.PoolIdeal.Frame
public import proofs.«01_k».proof.Proof.Gen.PoolRefIdeal
public import proofs.«01_k».proof.Proof.Gen.Pre_pool_finite
public import proofs.«01_k».proof.Proof.Gen.PoolRefIdeal.Run
public import proofs.«01_k».proof.Proof.Gen.PoolRefIdeal.Read
public import proofs.«01_k».proof.Proof.PoolClaim
public import proofs.«01_k».proof.Proof.Gen.In.Frame
public import proofs.«01_k».proof.Proof.Gen.InIdeal.Frame
public import proofs.«01_k».proof.Proof.Gen.InRefIdeal
public import proofs.«01_k».proof.Proof.Gen.Pre_pin0_finite
public import proofs.«01_k».proof.Proof.Gen.InRefIdeal.Run
public import proofs.«01_k».proof.Proof.Gen.InRefIdeal.Read
public import proofs.«01_k».proof.Proof.InClaim
public import proofs.«01_k».proof.Proof.Gen.AttnFwd.Frame
public import proofs.«01_k».proof.Proof.Gen.AttnFwdIdeal.Frame
public import proofs.«01_k».proof.Proof.Gen.AttnFwdRefIdeal
public import proofs.«01_k».proof.Proof.Gen.Pre_attnf_finite
public import proofs.«01_k».proof.Proof.Gen.AttnFwdRefIdeal.Run
public import proofs.«01_k».proof.Proof.Gen.AttnFwdRefIdeal.Read
public import proofs.«01_k».proof.Proof.AttnFwdClaim
public import proofs.«01_k».proof.Proof.Gen.PoolFwd.Frame
public import proofs.«01_k».proof.Proof.Gen.PoolFwdIdeal.Frame
public import proofs.«01_k».proof.Proof.Gen.PoolFwdRefIdeal
public import proofs.«01_k».proof.Proof.Gen.Pre_poolf_finite
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.PoolFwdClaim
public import proofs.«01_k».proof.Proof.Gen.GateFwd.Frame
public import proofs.«01_k».proof.Proof.Gen.GateFwdIdeal.Frame
public import proofs.«01_k».proof.Proof.Gen.GateFwdRefIdeal
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.GateFwdClaim
public import proofs.«01_k».proof.Proof.Gen.ConvFwd.Frame
public import proofs.«01_k».proof.Proof.Gen.ConvFwdIdeal.Frame
public import proofs.«01_k».proof.Proof.Gen.ConvFwdRefIdeal
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.ConvFwdClaim
public import proofs.«01_k».proof.Proof.Gen.Mod.Frame
public import proofs.«01_k».proof.Proof.Gen.ModIdeal.Frame
public import proofs.«01_k».proof.Proof.Gen.ModRefIdeal
public import proofs.«01_k».proof.Proof.Gen.ModIdeal.Value
public import proofs.«01_k».proof.Proof.Gen.ModRefIdeal.Run
public import proofs.«01_k».proof.Proof.Gen.ModRefIdeal.Read
public import proofs.«01_k».proof.Proof.ModClaim
public import proofs.«01_k».proof.Proof.Gen.ModResid.Frame
public import proofs.«01_k».proof.Proof.Gen.ModResidIdeal.Frame
public import proofs.«01_k».proof.Proof.Gen.ModResidRefIdeal
public import proofs.«01_k».proof.Proof.Gen.ModResidIdeal.Value
public import proofs.«01_k».proof.Proof.Gen.ModResidRefIdeal.Run
public import proofs.«01_k».proof.Proof.Gen.ModResidRefIdeal.Read
public import proofs.«01_k».proof.Proof.ModResidClaim
public import proofs.«01_k».proof.Proof.Gen.ProjOut.Frame
public import proofs.«01_k».proof.Proof.Gen.ProjOutIdeal.Frame
public import proofs.«01_k».proof.Proof.Gen.ProjOutRefIdeal
public import proofs.«01_k».proof.Proof.Gen.ProjOutIdeal.Value
public import proofs.«01_k».proof.Proof.Gen.ProjOutRefIdeal.Run
public import proofs.«01_k».proof.Proof.Gen.ProjOutRefIdeal.Read
public import proofs.«01_k».proof.Proof.ProjOutClaim
public import proofs.«01_k».proof.Proof.Gen.ProjOutBwd.Frame
public import proofs.«01_k».proof.Proof.Gen.ProjOutBwdIdeal.Frame
public import proofs.«01_k».proof.Proof.Gen.ProjOutBwdRefIdeal
public import proofs.«01_k».proof.Proof.Gen.ProjOutBwdIdeal.Value
public import proofs.«01_k».proof.Proof.Gen.ProjOutBwdRefIdeal.Run
public import proofs.«01_k».proof.Proof.Gen.ProjOutBwdRefIdeal.Read
public import proofs.«01_k».proof.Proof.ProjOutBwdClaim
public import proofs.«01_k».proof.Proof.Gen.GradOut.Frame
public import proofs.«01_k».proof.Proof.Gen.GradOutIdeal.Frame
public import proofs.«01_k».proof.Proof.Gen.GradOutRefIdeal
public import proofs.«01_k».proof.Proof.Gen.GradOutIdeal.Value
public import proofs.«01_k».proof.Proof.Gen.GradOutRefIdeal.Run
public import proofs.«01_k».proof.Proof.Gen.GradOutRefIdeal.Read
public import proofs.«01_k».proof.Proof.GradOutClaim
public import proofs.«01_k».proof.Proof.Gen.ProjIn.Frame
public import proofs.«01_k».proof.Proof.Gen.ProjInIdeal.Frame
public import proofs.«01_k».proof.Proof.Gen.ProjInRefIdeal
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.ProjInClaim
public import proofs.«01_k».proof.Proof.Gen.GradIn.Frame
public import proofs.«01_k».proof.Proof.Gen.GradInIdeal.Frame
public import proofs.«01_k».proof.Proof.Gen.GradInRefIdeal
public import proofs.«01_k».proof.Proof.Gen.GradInIdeal.Value
public import proofs.«01_k».proof.Proof.Gen.GradInRefIdeal.Run
public import proofs.«01_k».proof.Proof.Gen.GradInRefIdeal.Read
public import proofs.«01_k».proof.Proof.GradInClaim
public import proofs.«01_k».proof.Proof.Gen.SumAdam.Frame
public import proofs.«01_k».proof.Proof.Gen.SumAdamIdeal.Frame
public import proofs.«01_k».proof.Proof.Gen.SumAdamRefIdeal
public import proofs.«01_k».proof.Proof.Gen.SumAdamIdeal.Value
public import proofs.«01_k».proof.Proof.Gen.SumAdamRefIdeal.Run
public import proofs.«01_k».proof.Proof.Gen.SumAdamRefIdeal.Read
public import proofs.«01_k».proof.Proof.SumAdamClaim
public import proofs.«01_k».proof.Proof.Gen.AdaAdam.Frame
public import proofs.«01_k».proof.Proof.Gen.AdaAdamIdeal.Frame
public import proofs.«01_k».proof.Proof.Gen.AdaAdamRefIdeal
public import proofs.«01_k».proof.Proof.Gen.AdaAdamRefIdeal.Run
public import proofs.«01_k».proof.Proof.Gen.AdaAdamRefIdeal.Read
public import proofs.«01_k».proof.Proof.AdaAdamClaim
public import proofs.«01_k».proof.Proof.Gen.AdaForward.Frame
public import proofs.«01_k».proof.Proof.Gen.AdaForwardIdeal.Frame
public import proofs.«01_k».proof.Proof.Gen.AdaForwardRefIdeal
public import proofs.«01_k».proof.Proof.Gen.AdaForwardIdeal.Value
public import proofs.«01_k».proof.Proof.Gen.AdaForwardRefIdeal.Run
public import proofs.«01_k».proof.Proof.Gen.AdaForwardRefIdeal.Read
public import proofs.«01_k».proof.Proof.AdaForwardClaim
public import proofs.«01_k».proof.Proof.Gen.SibSum
public import proofs.«01_k».proof.Proof.Gen.SibSumIdeal.Frame
public import proofs.«01_k».proof.Proof.Gen.SibSumRefIdeal
public import proofs.«01_k».proof.Proof.Gen.SibSumRefIdeal.Run
public import proofs.«01_k».proof.Proof.Gen.SibSumRefIdeal.Read
public import proofs.«01_k».proof.Proof.SibSumClaim
public import Idealize.ShloMosaic.Adequacy
public import Idealize.ShloMosaic.Init

@[expose] public section

noncomputable section

namespace Cert.Proof

open Idealize.ShloMosaic Idealize.SL.Sem Cert.Conv

theorem conv_frame : Cert.quiescent_Conv := fun m ρ _ => Cert.Conv.Gen.frame m ρ
theorem convIdeal_frame : Cert.quiescent_ConvIdeal := fun m ρ _ => Cert.ConvIdeal.Gen.frame m ρ
theorem convRef_frame : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

theorem gate_frame : Cert.quiescent_Gate := fun m ρ _ => Cert.Gate.Gen.frame m ρ
theorem gateIdeal_frame : Cert.quiescent_GateIdeal := fun m ρ _ => Cert.GateIdeal.Gen.frame m ρ
theorem gateRef_frame : Cert.quiescent_GateRefIdeal := fun m ρ _ =>
  (θ_run Cert.GateRefIdeal.defs _ _).mono (fun r h => ⟨fun c => (h c).2.2.2.2, sem_eq_zero_of_no_sems (by decide) r.2⟩)
    (Cert.GateRefIdeal.Value.run (F := Ideal) m ρ)

theorem loss_frame : Cert.quiescent_Loss := fun m ρ _ => Cert.Loss.Gen.frame m ρ
theorem lossIdeal_frame : Cert.quiescent_LossIdeal := fun m ρ _ => Cert.LossIdeal.Gen.frame m ρ
theorem lossRef_frame : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)

theorem ln_frame : Cert.quiescent_Ln := fun m ρ _ => Cert.Ln.Gen.frame m ρ
theorem lnIdeal_frame : Cert.quiescent_LnIdeal := fun m ρ _ => Cert.LnIdeal.Gen.frame m ρ
theorem lnRef_frame : Cert.quiescent_LnRefIdeal := fun m ρ _ =>
  (θ_run Cert.LnRefIdeal.defs _ _).mono (fun r h => ⟨fun c => (h c).2.2.2.2.2.2, sem_eq_zero_of_no_sems (by decide) r.2⟩)
    (Cert.LnRefIdeal.Value.run (F := Ideal) m ρ)

theorem pool_frame : Cert.quiescent_Pool := fun m ρ _ => Cert.Pool.Gen.frame m ρ
theorem poolIdeal_frame : Cert.quiescent_PoolIdeal := fun m ρ _ => Cert.PoolIdeal.Gen.frame m ρ
theorem poolRef_frame : Cert.quiescent_PoolRefIdeal := fun m ρ _ =>
  (θ_run Cert.PoolRefIdeal.defs _ _).mono (fun r h => ⟨fun c => (h c).2.2, sem_eq_zero_of_no_sems (by decide) r.2⟩)
    (Cert.PoolRefIdeal.Value.run (F := Ideal) m ρ)

theorem pin0_frame : Cert.quiescent_In := fun m ρ _ => Cert.In.Gen.frame m ρ
theorem pin0Ideal_frame : Cert.quiescent_InIdeal := fun m ρ _ => Cert.InIdeal.Gen.frame m ρ
theorem pin0Ref_frame : Cert.quiescent_InRefIdeal := fun m ρ _ =>
  (θ_run Cert.InRefIdeal.defs _ _).mono (fun r h => ⟨fun c => (h c).2.2.2.2, sem_eq_zero_of_no_sems (by decide) r.2⟩)
    (Cert.InRefIdeal.Value.run (F := Ideal) m ρ)

theorem attnf_frame : Cert.quiescent_AttnFwd := fun m ρ _ => Cert.AttnFwd.Gen.frame m ρ
theorem attnfIdeal_frame : Cert.quiescent_AttnFwdIdeal := fun m ρ _ => Cert.AttnFwdIdeal.Gen.frame m ρ
theorem attnfRef_frame : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

theorem poolf_frame : Cert.quiescent_PoolFwd := fun m ρ _ => Cert.PoolFwd.Gen.frame m ρ
theorem poolfIdeal_frame : Cert.quiescent_PoolFwdIdeal := fun m ρ _ => Cert.PoolFwdIdeal.Gen.frame m ρ
theorem poolfRef_frame : Cert.quiescent_PoolFwdRefIdeal := fun m ρ _ =>
  (θ_run Cert.PoolFwdRefIdeal.defs _ _).mono (fun r h => ⟨fun c => (h c).2.2, sem_eq_zero_of_no_sems (by decide) r.2⟩)
    (Cert.PoolFwdRefIdeal.Value.run (F := Ideal) m ρ)

theorem gatef_frame : Cert.quiescent_GateFwd := fun m ρ _ => Cert.GateFwd.Gen.frame m ρ
theorem gatefIdeal_frame : Cert.quiescent_GateFwdIdeal := fun m ρ _ => Cert.GateFwdIdeal.Gen.frame m ρ
theorem gatefRef_frame : Cert.quiescent_GateFwdRefIdeal := fun m ρ _ =>
  (θ_run Cert.GateFwdRefIdeal.defs _ _).mono (fun r h => ⟨fun c => (h c).2.2, sem_eq_zero_of_no_sems (by decide) r.2⟩)
    (Cert.GateFwdRefIdeal.Value.run (F := Ideal) m ρ)

theorem convf_frame : Cert.quiescent_ConvFwd := fun m ρ _ => Cert.ConvFwd.Gen.frame m ρ
theorem convfIdeal_frame : Cert.quiescent_ConvFwdIdeal := fun m ρ _ => Cert.ConvFwdIdeal.Gen.frame m ρ
theorem convfRef_frame : Cert.quiescent_ConvFwdRefIdeal := fun m ρ _ =>
  (θ_run Cert.ConvFwdRefIdeal.defs _ _).mono (fun r h => ⟨fun c => (h c).2.2, sem_eq_zero_of_no_sems (by decide) r.2⟩)
    (Cert.ConvFwdRefIdeal.Value.run (F := Ideal) m ρ)

theorem lnf_frame : Cert.quiescent_Mod := fun m ρ _ => Cert.Mod.Gen.frame m ρ
theorem lnfIdeal_frame : Cert.quiescent_ModIdeal := fun m ρ _ => Cert.ModIdeal.Gen.frame m ρ
theorem lnfRef_frame : Cert.quiescent_ModRefIdeal := fun m ρ _ =>
  (θ_run Cert.ModRefIdeal.defs _ _).mono (fun r h => ⟨fun c => (h c).2.2, sem_eq_zero_of_no_sems (by decide) r.2⟩)
    (Cert.ModRefIdeal.Value.run (F := Ideal) m ρ)

theorem rlnf_frame : Cert.quiescent_ModResid := fun m ρ _ => Cert.ModResid.Gen.frame m ρ
theorem rlnfIdeal_frame : Cert.quiescent_ModResidIdeal := fun m ρ _ => Cert.ModResidIdeal.Gen.frame m ρ
theorem rlnfRef_frame : Cert.quiescent_ModResidRefIdeal := fun m ρ _ =>
  (θ_run Cert.ModResidRefIdeal.defs _ _).mono (fun r h => ⟨fun c => (h c).2.2.2, sem_eq_zero_of_no_sems (by decide) r.2⟩)
    (Cert.ModResidRefIdeal.Value.run (F := Ideal) m ρ)

theorem po_frame : Cert.quiescent_ProjOut := fun m ρ _ => Cert.ProjOut.Gen.frame m ρ
theorem poIdeal_frame : Cert.quiescent_ProjOutIdeal := fun m ρ _ => Cert.ProjOutIdeal.Gen.frame m ρ
theorem poRef_frame : Cert.quiescent_ProjOutRefIdeal := fun m ρ _ =>
  (θ_run Cert.ProjOutRefIdeal.defs _ _).mono (fun r h => ⟨fun c => (h c).2, sem_eq_zero_of_no_sems (by decide) r.2⟩)
    (Cert.ProjOutRefIdeal.Value.run (F := Ideal) m ρ)

theorem pb_frame : Cert.quiescent_ProjOutBwd := fun m ρ _ => Cert.ProjOutBwd.Gen.frame m ρ
theorem pbIdeal_frame : Cert.quiescent_ProjOutBwdIdeal := fun m ρ _ => Cert.ProjOutBwdIdeal.Gen.frame m ρ
theorem pbRef_frame : Cert.quiescent_ProjOutBwdRefIdeal := fun m ρ _ =>
  (θ_run Cert.ProjOutBwdRefIdeal.defs _ _).mono (fun r h => ⟨fun c => (h c).2, sem_eq_zero_of_no_sems (by decide) r.2⟩)
    (Cert.ProjOutBwdRefIdeal.Value.run (F := Ideal) m ρ)

theorem wo_frame : Cert.quiescent_GradOut := fun m ρ _ => Cert.GradOut.Gen.frame m ρ
theorem woIdeal_frame : Cert.quiescent_GradOutIdeal := fun m ρ _ => Cert.GradOutIdeal.Gen.frame m ρ
theorem woRef_frame : Cert.quiescent_GradOutRefIdeal := fun m ρ _ =>
  (θ_run Cert.GradOutRefIdeal.defs _ _).mono (fun r h => ⟨fun c => (h c).2, sem_eq_zero_of_no_sems (by decide) r.2⟩)
    (Cert.GradOutRefIdeal.Value.run (F := Ideal) m ρ)

theorem pi1_frame : Cert.quiescent_ProjIn := fun m ρ _ => Cert.ProjIn.Gen.frame m ρ
theorem pi1Ideal_frame : Cert.quiescent_ProjInIdeal := fun m ρ _ => Cert.ProjInIdeal.Gen.frame m ρ
theorem pi1Ref_frame : Cert.quiescent_ProjInRefIdeal := fun m ρ _ =>
  (θ_run Cert.ProjInRefIdeal.defs _ _).mono (fun r h => ⟨fun c => (h c).2, sem_eq_zero_of_no_sems (by decide) r.2⟩)
    (Cert.ProjInRefIdeal.Value.run (F := Ideal) m ρ)

theorem wi_frame : Cert.quiescent_GradIn := fun m ρ _ => Cert.GradIn.Gen.frame m ρ
theorem wiIdeal_frame : Cert.quiescent_GradInIdeal := fun m ρ _ => Cert.GradInIdeal.Gen.frame m ρ
theorem wiRef_frame : Cert.quiescent_GradInRefIdeal := fun m ρ _ =>
  (θ_run Cert.GradInRefIdeal.defs _ _).mono (fun r h => ⟨fun c => (h c).2, sem_eq_zero_of_no_sems (by decide) r.2⟩)
    (Cert.GradInRefIdeal.Value.run (F := Ideal) m ρ)

theorem sa_frame : Cert.quiescent_SumAdam := fun m ρ _ => Cert.SumAdam.Gen.frame m ρ
theorem saIdeal_frame : Cert.quiescent_SumAdamIdeal := fun m ρ _ => Cert.SumAdamIdeal.Gen.frame m ρ
theorem saRef_frame : Cert.quiescent_SumAdamRefIdeal := fun m ρ _ =>
  (θ_run Cert.SumAdamRefIdeal.defs _ _).mono (fun r h => ⟨fun c => (h c).2.2.2.2, sem_eq_zero_of_no_sems (by decide) r.2⟩)
    (Cert.SumAdamRefIdeal.Value.run (F := Ideal) m ρ)

theorem aw_frame : Cert.quiescent_AdaAdam := fun m ρ _ => Cert.AdaAdam.Gen.frame m ρ
theorem awIdeal_frame : Cert.quiescent_AdaAdamIdeal := fun m ρ _ => Cert.AdaAdamIdeal.Gen.frame m ρ
theorem awRef_frame : Cert.quiescent_AdaAdamRefIdeal := fun m ρ _ =>
  (θ_run Cert.AdaAdamRefIdeal.defs _ _).mono (fun r h => ⟨fun c => (h c).2.2.2.2, sem_eq_zero_of_no_sems (by decide) r.2⟩)
    (Cert.AdaAdamRefIdeal.Value.run (F := Ideal) m ρ)

theorem af_frame : Cert.quiescent_AdaForward := fun m ρ _ => Cert.AdaForward.Gen.frame m ρ
theorem afIdeal_frame : Cert.quiescent_AdaForwardIdeal := fun m ρ _ => Cert.AdaForwardIdeal.Gen.frame m ρ
theorem afRef_frame : Cert.quiescent_AdaForwardRefIdeal := fun m ρ _ =>
  (θ_run Cert.AdaForwardRefIdeal.defs _ _).mono (fun r h => ⟨fun c => (h c).2.2.2.2.2, sem_eq_zero_of_no_sems (by decide) r.2⟩)
    (Cert.AdaForwardRefIdeal.Value.run (F := Ideal) m ρ)

theorem ssIdeal_frame : Cert.quiescent_SibSumIdeal := fun m ρ _ => Cert.SibSumIdeal.Gen.frame m ρ (Cert.SibSumIdeal.Hand.ok m)
theorem ssRef_frame : Cert.quiescent_SibSumRefIdeal := fun m ρ _ =>
  (θ_run Cert.SibSumRefIdeal.defs _ _).mono (fun r h => ⟨fun c => (h c).2, sem_eq_zero_of_no_sems (by decide) r.2⟩)
    (Cert.SibSumRefIdeal.Value.run (F := Ideal) m ρ)

theorem claim : Cert.Claim := ⟨Cert.Conv.Gen.facts,
  Cert.ConvIdeal.Gen.facts,
  Cert.ConvRefIdeal.Gen.facts,
  Cert.Attn.Gen.facts,
  Cert.AttnIdeal.Gen.facts,
  Cert.AttnRefIdeal.Gen.facts,
  Cert.Gate.Gen.facts,
  Cert.GateIdeal.Gen.facts,
  Cert.GateRefIdeal.Gen.facts,
  Cert.Loss.Gen.facts,
  Cert.LossIdeal.Gen.facts,
  Cert.LossRefIdeal.Gen.facts,
  Cert.Ln.Gen.facts,
  Cert.LnIdeal.Gen.facts,
  Cert.LnRefIdeal.Gen.facts,
  Cert.Pool.Gen.facts,
  Cert.PoolIdeal.Gen.facts,
  Cert.PoolRefIdeal.Gen.facts,
  Cert.In.Gen.facts,
  Cert.InIdeal.Gen.facts,
  Cert.InRefIdeal.Gen.facts,
  Cert.AttnFwd.Gen.facts,
  Cert.AttnFwdIdeal.Gen.facts,
  Cert.AttnFwdRefIdeal.Gen.facts,
  Cert.PoolFwd.Gen.facts,
  Cert.PoolFwdIdeal.Gen.facts,
  Cert.PoolFwdRefIdeal.Gen.facts,
  Cert.GateFwd.Gen.facts,
  Cert.GateFwdIdeal.Gen.facts,
  Cert.GateFwdRefIdeal.Gen.facts,
  Cert.ConvFwd.Gen.facts,
  Cert.ConvFwdIdeal.Gen.facts,
  Cert.ConvFwdRefIdeal.Gen.facts,
  Cert.Mod.Gen.facts,
  Cert.ModIdeal.Gen.facts,
  Cert.ModRefIdeal.Gen.facts,
  Cert.ModResid.Gen.facts,
  Cert.ModResidIdeal.Gen.facts,
  Cert.ModResidRefIdeal.Gen.facts,
  Cert.ProjOut.Gen.facts,
  Cert.ProjOutIdeal.Gen.facts,
  Cert.ProjOutRefIdeal.Gen.facts,
  Cert.ProjOutBwd.Gen.facts,
  Cert.ProjOutBwdIdeal.Gen.facts,
  Cert.ProjOutBwdRefIdeal.Gen.facts,
  Cert.GradOut.Gen.facts,
  Cert.GradOutIdeal.Gen.facts,
  Cert.GradOutRefIdeal.Gen.facts,
  Cert.ProjIn.Gen.facts,
  Cert.ProjInIdeal.Gen.facts,
  Cert.ProjInRefIdeal.Gen.facts,
  Cert.GradIn.Gen.facts,
  Cert.GradInIdeal.Gen.facts,
  Cert.GradInRefIdeal.Gen.facts,
  Cert.SumAdam.Gen.facts,
  Cert.SumAdamIdeal.Gen.facts,
  Cert.SumAdamRefIdeal.Gen.facts,
  Cert.AdaAdam.Gen.facts,
  Cert.AdaAdamIdeal.Gen.facts,
  Cert.AdaAdamRefIdeal.Gen.facts,
  Cert.AdaForward.Gen.facts,
  Cert.AdaForwardIdeal.Gen.facts,
  Cert.AdaForwardRefIdeal.Gen.facts,
  Cert.SibSum.Gen.facts,
  Cert.SibSumIdeal.Gen.facts,
  Cert.SibSumRefIdeal.Gen.facts,
  Cert.Pre_conv_finite.Gen.facts,
  Cert.Pre_attn_finite.Gen.facts,
  Cert.Pre_gate_finite.Gen.facts,
  Cert.Pre_loss_finite.Gen.facts,
  Cert.Pre_ln_finite.Gen.facts,
  Cert.Pre_pool_finite.Gen.facts,
  Cert.Pre_pin0_finite.Gen.facts,
  Cert.Pre_attnf_finite.Gen.facts,
  Cert.Pre_poolf_finite.Gen.facts,
  conv_frame, convIdeal_frame, fun m ρ _ => convIdeal_frame m ρ trivial, convRef_frame, fun m ρ _ => convRef_frame m ρ trivial,
  Cert.AttnFrames.bits, Cert.AttnFrames.ideal, fun m ρ _ => Cert.AttnFrames.ideal m ρ trivial, Cert.AttnFrames.ref, fun m ρ _ => Cert.AttnFrames.ref m ρ trivial,
  gate_frame, gateIdeal_frame, fun m ρ _ => gateIdeal_frame m ρ trivial, gateRef_frame, fun m ρ _ => gateRef_frame m ρ trivial,
  loss_frame, lossIdeal_frame, fun m ρ _ => lossIdeal_frame m ρ trivial, lossRef_frame, fun m ρ _ => lossRef_frame m ρ trivial,
  ln_frame, lnIdeal_frame, fun m ρ _ => lnIdeal_frame m ρ trivial, lnRef_frame, fun m ρ _ => lnRef_frame m ρ trivial,
  pool_frame, poolIdeal_frame, fun m ρ _ => poolIdeal_frame m ρ trivial, poolRef_frame, fun m ρ _ => poolRef_frame m ρ trivial,
  pin0_frame, pin0Ideal_frame, fun m ρ _ => pin0Ideal_frame m ρ trivial, pin0Ref_frame, fun m ρ _ => pin0Ref_frame m ρ trivial,
  attnf_frame, attnfIdeal_frame, fun m ρ _ => attnfIdeal_frame m ρ trivial, attnfRef_frame, fun m ρ _ => attnfRef_frame m ρ trivial,
  poolf_frame, poolfIdeal_frame, fun m ρ _ => poolfIdeal_frame m ρ trivial, poolfRef_frame, fun m ρ _ => poolfRef_frame m ρ trivial,
  gatef_frame, gatefIdeal_frame, gatefRef_frame,
  convf_frame, convfIdeal_frame, convfRef_frame,
  lnf_frame, lnfIdeal_frame, lnfRef_frame,
  rlnf_frame, rlnfIdeal_frame, rlnfRef_frame,
  po_frame, poIdeal_frame, poRef_frame,
  pb_frame, pbIdeal_frame, pbRef_frame,
  wo_frame, woIdeal_frame, woRef_frame,
  pi1_frame, pi1Ideal_frame, pi1Ref_frame,
  wi_frame, wiIdeal_frame, wiRef_frame,
  sa_frame, saIdeal_frame, saRef_frame,
  aw_frame, awIdeal_frame, awRef_frame,
  af_frame, afIdeal_frame, afRef_frame,
  Cert.SibSumClaim.frame, ssIdeal_frame, ssRef_frame,
  trivial, Cert.ConvClaim.algebraic, trivial, Cert.AttnClaim.algebraic, trivial, Cert.GateClaim.algebraic, trivial, Cert.LossClaim.algebraic, trivial, Cert.LnClaim.algebraic, trivial, Cert.PoolClaim.algebraic, trivial, Cert.InClaim.algebraic, trivial, Cert.AttnFwdClaim.algebraic, trivial, Cert.PoolFwdClaim.algebraic, trivial, Cert.GateFwdClaim.algebraic, trivial, Cert.ConvFwdClaim.algebraic, trivial, Cert.ModClaim.algebraic, trivial, Cert.ModResidClaim.algebraic, trivial, Cert.ProjOutClaim.algebraic, trivial, Cert.ProjOutBwdClaim.algebraic, trivial, Cert.GradOutClaim.algebraic, trivial, Cert.ProjInClaim.algebraic, trivial, Cert.GradInClaim.algebraic, trivial, Cert.SumAdamClaim.algebraic, trivial, Cert.AdaAdamClaim.algebraic, trivial, Cert.AdaForwardClaim.algebraic, trivial, Cert.SibSumClaim.algebraic⟩

end Cert.Proof

end
